-- ==== Defs.lean ====
def Pre_Kernel [hPre_padded : Cert.Pre_padded.Facts] (m : (ℓ : Loc Cert.Kernel.nD Cert.Kernel.τ Cert.Kernel.sig) → Buf (Elt Bits) ℓ) : Prop :=
  ∀ c : Dev Cert.Kernel.nD,
    (Cert.Pre_padded.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_padded : Cert.Pre_padded.Facts] (m : (ℓ : Loc Cert.KernelIdeal.nD Cert.KernelIdeal.τ Cert.KernelIdeal.sig) → Buf (Elt Ideal) ℓ) : Prop :=
  ∀ c : Dev Cert.KernelIdeal.nD,
    (Cert.Pre_padded.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_padded : Cert.Pre_padded.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_padded.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def Pre_Pack (m : (ℓ : Loc Cert.Pack.nD Cert.Pack.τ Cert.Pack.sig) → Buf (Elt Bits) ℓ) : Prop :=
  True

def Pre_PackReference (m : (ℓ : Loc Cert.PackReference.nD Cert.PackReference.τ Cert.PackReference.sig) → Buf (Elt Bits) ℓ) : Prop :=
  True

def quiescent_Kernel [hKernel : Cert.Kernel.Facts] [hPre_padded : Cert.Pre_padded.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] [hPre_padded : Cert.Pre_padded.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] [hPre_padded : Cert.Pre_padded.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Pack [hPack : Cert.Pack.Facts] : Prop :=
  ∀ (m : (ℓ : Loc Cert.Pack.nD Cert.Pack.τ Cert.Pack.sig) → Buf (Elt Bits) ℓ) (g : Dev Cert.Pack.nD → PrngReg), Pre_Pack m →
    θ_run (Cert.Pack.defs (F := Bits)) (onTc (τ := Cert.Pack.τ) (Cert.Pack.main (F := Bits))) ⟨m, fun _ => 0, g⟩ (fun r => (∀ c : Dev Cert.Pack.nD,
      r.2.mem ((c.tc : Thread Cert.Pack.nD Cert.Pack.τ).loc Cert.Pack.main_arg0) = m ((c.tc : Thread Cert.Pack.nD Cert.Pack.τ).loc Cert.Pack.main_arg0))
      ∧ r.2.sem = fun _ => 0)

def quiescent_PackReference [hPackReference : Cert.PackReference.Facts] : Prop :=
  ∀ (m : (ℓ : Loc Cert.PackReference.nD Cert.PackReference.τ Cert.PackReference.sig) → Buf (Elt Bits) ℓ) (g : Dev Cert.PackReference.nD → PrngReg), Pre_PackReference m →
    θ_run (Cert.PackReference.defs (F := Bits)) (onTc (τ := Cert.PackReference.τ) (Cert.PackReference.main (F := Bits))) ⟨m, fun _ => 0, g⟩ (fun r => (∀ c : Dev Cert.PackReference.nD,
      r.2.mem ((c.tc : Thread Cert.PackReference.nD Cert.PackReference.τ).loc Cert.PackReference.main_arg0) = m ((c.tc : Thread Cert.PackReference.nD Cert.PackReference.τ).loc Cert.PackReference.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_padded : Cert.Pre_padded.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v24)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def bitexact_Pack_PackReference [hPack : Cert.Pack.Facts] [hPackReference : Cert.PackReference.Facts] : Prop :=
  ∀ (m : (ℓ : Loc Cert.Pack.nD Cert.Pack.τ Cert.Pack.sig) → Buf (Elt Bits) ℓ) (g : Dev Cert.Pack.nD → PrngReg)
    (m' : (ℓ : Loc Cert.PackReference.nD Cert.PackReference.τ Cert.PackReference.sig) → Buf (Elt Bits) ℓ) (g' : Dev Cert.PackReference.nD → PrngReg), Pre_Pack m →
    (∀ c : Dev Cert.Pack.nD,
      m' ((c.tc : Thread Cert.PackReference.nD Cert.PackReference.τ).loc Cert.PackReference.main_arg0) = m ((c.tc : Thread Cert.Pack.nD Cert.Pack.τ).loc Cert.Pack.main_arg0)) →
    ∃ (v0 : (c : Dev Cert.Pack.nD) → Buf (Elt Bits) ((c.tc : Thread Cert.Pack.nD Cert.Pack.τ).loc Cert.Pack.main_v0)),
      θ_run (Cert.Pack.defs (F := Bits)) (onTc (τ := Cert.Pack.τ) (Cert.Pack.main (F := Bits))) ⟨m, fun _ => 0, g⟩ (fun r => ∀ c : Dev Cert.Pack.nD,
          r.2.mem ((c.tc : Thread Cert.Pack.nD Cert.Pack.τ).loc Cert.Pack.main_v0) = v0 c
          ∧ r.2.mem ((c.tc : Thread Cert.Pack.nD Cert.Pack.τ).loc Cert.Pack.main_arg0) = m ((c.tc : Thread Cert.Pack.nD Cert.Pack.τ).loc Cert.Pack.main_arg0))
      ∧ θ_run (Cert.PackReference.defs (F := Bits)) (onTc (τ := Cert.PackReference.τ) (Cert.PackReference.main (F := Bits))) ⟨m', fun _ => 0, g'⟩ (fun r => ∀ c : Dev Cert.PackReference.nD,
          r.2.mem ((c.tc : Thread Cert.PackReference.nD Cert.PackReference.τ).loc Cert.PackReference.main_v16) = v0 c
          ∧ r.2.mem ((c.tc : Thread Cert.PackReference.nD Cert.PackReference.τ).loc Cert.PackReference.main_arg0) = m' ((c.tc : Thread Cert.PackReference.nD Cert.PackReference.τ).loc Cert.PackReference.main_arg0))

def Claim : Prop :=
  ∃ (hKernel : Cert.Kernel.Facts) (hKernelIdeal : Cert.KernelIdeal.Facts) (hReferenceIdeal : Cert.ReferenceIdeal.Facts) (hPack : Cert.Pack.Facts) (hPackReference : Cert.PackReference.Facts) (hPre_padded : Cert.Pre_padded.Facts),
    quiescent_Kernel (hKernel := hKernel) (hPre_padded := hPre_padded)
    ∧ quiescent_KernelIdeal (hKernelIdeal := hKernelIdeal) (hPre_padded := hPre_padded)
    ∧ quiescent_ReferenceIdeal (hReferenceIdeal := hReferenceIdeal) (hPre_padded := hPre_padded)
    ∧ quiescent_Pack (hPack := hPack)
    ∧ quiescent_PackReference (hPackReference := hPackReference)
    ∧ preserves_Kernel_KernelIdeal
    ∧ algebraic_KernelIdeal_ReferenceIdeal (hKernelIdeal := hKernelIdeal) (hReferenceIdeal := hReferenceIdeal) (hPre_padded := hPre_padded)
    ∧ bitexact_Pack_PackReference (hPack := hPack) (hPackReference := hPackReference)
-- ==== Pre_padded.lean ====
abbrev S2x100000x128 : Shape := ⟨3, ![2, 100000, 128]⟩
abbrev S1024x512 : Shape := ⟨2, ![1024, 512]⟩
abbrev S512x300 : Shape := ⟨2, ![512, 300]⟩
abbrev S512 : Shape := ⟨1, ![512]⟩
abbrev S5x512 : Shape := ⟨2, ![5, 512]⟩
abbrev S5 : Shape := ⟨1, ![5]⟩
abbrev S_ : Shape := ⟨0, ![]⟩
abbrev S1024x511 : Shape := ⟨2, ![1024, 511]⟩
abbrev S1024x1 : Shape := ⟨2, ![1024, 1]⟩
abbrev S1024 : Shape := ⟨1, ![1024]⟩

class Facts : Prop where
  bcast_S_S1024x512 : S_.BroadcastsInDim S1024x512 (![] : Fin 0 → Fin S1024x512.rank)
  slices_S1024x512_S1024x511_0_0 : S1024x512.Slices ![0, 0] S1024x511
  bcast_S_S1024x511 : S_.BroadcastsInDim S1024x511 (![] : Fin 0 → Fin S1024x511.rank)
  slices_S1024x512_S1024x511_0_1 : S1024x512.Slices ![0, 1] S1024x511
  reducesTo_S1024x511_S_d0_1 : S1024x511.ReducesTo [0, 1] S_
  h_S_ : 0 < S_.numel
  reducesTo_S1024x512_S_d0_1 : S1024x512.ReducesTo [0, 1] S_
  slices_S1024x512_S1024x1_0_0 : S1024x512.Slices ![0, 0] S1024x1
  shapeCasts_S1024x1_S1024 : S1024x1.ShapeCasts S1024
  bcast_S_S1024 : S_.BroadcastsInDim S1024 (![] : Fin 0 → Fin S1024.rank)
  reducesTo_S1024_S_d0 : S1024.ReducesTo [0] S_

variable [Facts]

def fn_part1 {F : FTy → Type} [FloatOps F] (main_v12 : IVec S_ 1) (main_v13 : IVec S_ 1) (main_v15 : IVec S1024 32) (main_v16 : IVec S1024 32) : IVec S_ 1 :=
  let main_v17 : IVec S1024 1 := cmpi .ne main_v15 main_v16
  let main_c_6 : IVec S_ 1 := constantI S_ 1 1#1
  let main_v18 : IVec S_ 1 := (fun x v => Host.reduce IntOp.andi x v reducesTo_S1024_S_d0 h_S_) main_v17 main_c_6
  let main_v19 : IVec S_ 1 := andi main_v13 main_v18
  let main_v20 : IVec S_ 1 := andi main_v19 main_v12
  main_v20

def fn {F : FTy → Type} [FloatOps F] (main_arg0 : IVec S2x100000x128 32) (main_arg1 : IVec S1024x512 32) (main_arg2 : FVec F S512x300 .f32) (main_arg3 : FVec F S512 .f32) (main_arg4 : FVec F S5x512 .f32) (main_arg5 : FVec F S5 .f32) : IVec S_ 1 :=
  let main_c : IVec S_ 32 := constantI S_ 32 0#32
  let main_v0 : IVec S1024x512 32 := broadcastInDim S1024x512 ![] bcast_S_S1024x512 main_c
  let main_v1 : IVec S1024x512 1 := cmpi .sge main_arg1 main_v0
  let main_c_0 : IVec S_ 32 := constantI S_ 32 100000#32
  let main_v2 : IVec S1024x512 32 := broadcastInDim S1024x512 ![] bcast_S_S1024x512 main_c_0
  let main_v3 : IVec S1024x512 1 := cmpi .slt main_arg1 main_v2
  let main_v4 : IVec S1024x512 1 := andi main_v1 main_v3
  let main_v5 : IVec S1024x511 32 := (extractStridedSlice S1024x511 ![0, 0] · slices_S1024x512_S1024x511_0_0) main_arg1
  let main_c_1 : IVec S_ 32 := constantI S_ 32 0#32
  let main_v6 : IVec S1024x511 32 := broadcastInDim S1024x511 ![] bcast_S_S1024x511 main_c_1
  let main_v7 : IVec S1024x511 1 := cmpi .ne main_v5 main_v6
  let main_v8 : IVec S1024x511 32 := (extractStridedSlice S1024x511 ![0, 1] · slices_S1024x512_S1024x511_0_1) main_arg1
  let main_c_2 : IVec S_ 32 := constantI S_ 32 0#32
  let main_v9 : IVec S1024x511 32 := broadcastInDim S1024x511 ![] bcast_S_S1024x511 main_c_2
  let main_v10 : IVec S1024x511 1 := cmpi .eq main_v8 main_v9
  let main_v11 : IVec S1024x511 1 := ori main_v7 main_v10
  let main_c_3 : IVec S_ 1 := constantI S_ 1 1#1
  let main_v12 : IVec S_ 1 := (fun x v => Host.reduce IntOp.andi x v reducesTo_S1024x511_S_d0_1 h_S_) main_v11 main_c_3
  let main_c_4 : IVec S_ 1 := constantI S_ 1 1#1
  let main_v13 : IVec S_ 1 := (fun x v => Host.reduce IntOp.andi x v reducesTo_S1024x512_S_d0_1 h_S_) main_v4 main_c_4
  let main_v14 : IVec S1024x1 32 := (extractStridedSlice S1024x1 ![0, 0] · slices_S1024x512_S1024x1_0_0) main_arg1
  let main_v15 : IVec S1024 32 := shapeCast S1024 main_v14 shapeCasts_S1024x1_S1024
  let main_c_5 : IVec S_ 32 := constantI S_ 32 0#32
  let main_v16 : IVec S1024 32 := broadcastInDim S1024 ![] bcast_S_S1024 main_c_5
  fn_part1 (F := F) main_v12 main_v13 main_v15 main_v16
-- ==== Kernel.lean ====
abbrev S2x100000x128 : Shape := ⟨3, ![2, 100000, 128]⟩
abbrev S1024x512 : Shape := ⟨2, ![1024, 512]⟩
abbrev S512x300 : Shape := ⟨2, ![512, 300]⟩
abbrev S512 : Shape := ⟨1, ![512]⟩
abbrev S5x512 : Shape := ⟨2, ![5, 512]⟩
abbrev S5 : Shape := ⟨1, ![5]⟩
abbrev S_ : Shape := ⟨0, ![]⟩
abbrev S1x512 : Shape := ⟨2, ![1, 512]⟩
abbrev S1024 : Shape := ⟨1, ![1024]⟩
abbrev S128x1x8 : Shape := ⟨3, ![128, 1, 8]⟩
abbrev S1024x2x1x256 : Shape := ⟨4, ![1024, 2, 1, 256]⟩
abbrev S8x512 : Shape := ⟨2, ![8, 512]⟩
abbrev S1x1x8 : Shape := ⟨3, ![1, 1, 8]⟩
abbrev S8x1x1x256 : Shape := ⟨4, ![8, 1, 1, 256]⟩
abbrev S100000x1x128 : Shape := ⟨3, ![100000, 1, 128]⟩
abbrev S100000x128 : Shape := ⟨2, ![100000, 128]⟩
abbrev S1x100000x128 : Shape := ⟨3, ![1, 100000, 128]⟩
abbrev S1x1x128 : Shape := ⟨3, ![1, 1, 128]⟩
abbrev S1x128 : Shape := ⟨2, ![1, 128]⟩
abbrev S1x1x1 : Shape := ⟨3, ![1, 1, 1]⟩
abbrev S1x1 : Shape := ⟨2, ![1, 1]⟩
abbrev S1x256 : Shape := ⟨2, ![1, 256]⟩
abbrev S8x256 : Shape := ⟨2, ![8, 256]⟩
abbrev S8 : Shape := ⟨1, ![8]⟩
abbrev S8x1 : Shape := ⟨2, ![8, 1]⟩
abbrev S512x512 : Shape := ⟨2, ![512, 512]⟩
abbrev S512x256 : Shape := ⟨2, ![512, 256]⟩
abbrev S256x512 : Shape := ⟨2, ![256, 512]⟩
abbrev S1 : Shape := ⟨1, ![1]⟩
abbrev S512x44 : Shape := ⟨2, ![512, 44]⟩
abbrev S44x512 : Shape := ⟨2, ![44, 512]⟩
abbrev S128x512 : Shape := ⟨2, ![128, 512]⟩
abbrev S512x128 : Shape := ⟨2, ![512, 128]⟩
abbrev S128 : Shape := ⟨1, ![128]⟩
abbrev S1024x128 : Shape := ⟨2, ![1024, 128]⟩
abbrev S256x128 : Shape := ⟨2, ![256, 128]⟩
abbrev S1024x5 : Shape := ⟨2, ![1024, 5]⟩

abbrev nBuf : Space → Nat
  | .hbm => 44
  | .vmem => 13
  | .smem => 4
  | _ => 0

abbrev bufTy : (tb : Table) → Fin (tcTables nBuf tb) → BufTy
  | .hbm, ⟨0, _⟩ => ⟨S2x100000x128, .i32⟩
  | .hbm, ⟨1, _⟩ => ⟨S1024x512, .i32⟩
  | .hbm, ⟨2, _⟩ => ⟨S512x300, .f32⟩
  | .hbm, ⟨3, _⟩ => ⟨S512, .f32⟩
  | .hbm, ⟨4, _⟩ => ⟨S5x512, .f32⟩
  | .hbm, ⟨5, _⟩ => ⟨S5, .f32⟩
  | .hbm, ⟨6, _⟩ => ⟨S512, .i32⟩
  | .hbm, ⟨7, _⟩ => ⟨S_, .i32⟩
  | .hbm, ⟨8, _⟩ => ⟨S1024x512, .i32⟩
  | .hbm, ⟨9, _⟩ => ⟨S1024x512, .i1⟩
  | .hbm, ⟨10, _⟩ => ⟨S1x512, .i32⟩
  | .hbm, ⟨11, _⟩ => ⟨S_, .i32⟩
  | .hbm, ⟨12, _⟩ => ⟨S_, .i32⟩
  | .hbm, ⟨13, _⟩ => ⟨S1024x512, .i32⟩
  | .hbm, ⟨14, _⟩ => ⟨S1024x512, .i32⟩
  | .hbm, ⟨15, _⟩ => ⟨S1024x512, .i32⟩
  | .hbm, ⟨16, _⟩ => ⟨S_, .i32⟩
  | .hbm, ⟨17, _⟩ => ⟨S1024, .i32⟩
  | .hbm, ⟨18, _⟩ => ⟨S128x1x8, .i32⟩
  | .hbm, ⟨19, _⟩ => ⟨S1024x2x1x256, .f32⟩
  | .hbm, ⟨20, _⟩ => ⟨S1024x512, .f32⟩
  | .hbm, ⟨21, _⟩ => ⟨S_, .f32⟩
  | .hbm, ⟨22, _⟩ => ⟨S512x512, .f32⟩
  | .hbm, ⟨23, _⟩ => ⟨S512x256, .f32⟩
  | .hbm, ⟨24, _⟩ => ⟨S256x512, .f32⟩
  | .hbm, ⟨25, _⟩ => ⟨S_, .i32⟩
  | .hbm, ⟨26, _⟩ => ⟨S1, .i32⟩
  | .hbm, ⟨27, _⟩ => ⟨S512x512, .f32⟩
  | .hbm, ⟨28, _⟩ => ⟨S512x44, .f32⟩
  | .hbm, ⟨29, _⟩ => ⟨S44x512, .f32⟩
  | .hbm, ⟨30, _⟩ => ⟨S_, .i32⟩
  | .hbm, ⟨31, _⟩ => ⟨S1, .i32⟩
  | .hbm, ⟨32, _⟩ => ⟨S512x512, .f32⟩
  | .hbm, ⟨33, _⟩ => ⟨S_, .i32⟩
  | .hbm, ⟨34, _⟩ => ⟨S_, .f32⟩
  | .hbm, ⟨35, _⟩ => ⟨S128x512, .f32⟩
  | .hbm, ⟨36, _⟩ => ⟨S512x128, .f32⟩
  | .hbm, ⟨37, _⟩ => ⟨S1x512, .f32⟩
  | .hbm, ⟨38, _⟩ => ⟨S_, .i32⟩
  | .hbm, ⟨39, _⟩ => ⟨S_, .f32⟩
  | .hbm, ⟨40, _⟩ => ⟨S128, .f32⟩
  | .hbm, ⟨41, _⟩ => ⟨S1x128, .f32⟩
  | .hbm, ⟨42, _⟩ => ⟨S1024x128, .f32⟩
  | .hbm, ⟨43, _⟩ => ⟨S1024x5, .f32⟩
  | .local _ .vmem, ⟨0, _⟩ => ⟨S8x512, .i32⟩
  | .local _ .vmem, ⟨1, _⟩ => ⟨S8x512, .i32⟩
  | .local _ .vmem, ⟨2, _⟩ => ⟨S8x1x1x256, .f32⟩
  | .local _ .vmem, ⟨3, _⟩ => ⟨S8x1x1x256, .f32⟩
  | .local _ .vmem, ⟨4, _⟩ => ⟨S100000x1x128, .i32⟩
  | .local _ .vmem, ⟨5, _⟩ => ⟨S256x512, .f32⟩
  | .local _ .vmem, ⟨6, _⟩ => ⟨S256x512, .f32⟩
  | .local _ .vmem, ⟨7, _⟩ => ⟨S512x512, .f32⟩
  | .local _ .vmem, ⟨8, _⟩ => ⟨S1x512, .f32⟩
  | .local _ .vmem, ⟨9, _⟩ => ⟨S512x128, .f32⟩
  | .local _ .vmem, ⟨10, _⟩ => ⟨S1x128, .f32⟩
  | .local _ .vmem, ⟨11, _⟩ => ⟨S256x128, .f32⟩
  | .local _ .vmem, ⟨12, _⟩ => ⟨S256x128, .f32⟩
  | .local _ .smem, ⟨0, _⟩ => ⟨S8x512, .i32⟩
  | .local _ .smem, ⟨1, _⟩ => ⟨S8x512, .i32⟩
  | .local _ .smem, ⟨2, _⟩ => ⟨S1x1x8, .i32⟩
  | .local _ .smem, ⟨3, _⟩ => ⟨S1x1x8, .i32⟩
  | _, _ => ⟨S2x100000x128, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .smem, ⟨0, _⟩ => true
  | .smem, ⟨1, _⟩ => true
  | .smem, ⟨2, _⟩ => true
  | .smem, ⟨3, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_v4 : Ref sig .tc := ⟨.hbm, 15, rfl⟩
abbrev main_c_1 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_cst : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_c_2 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_c_3 : Ref sig .tc := ⟨.hbm, 30, rfl⟩
abbrev main_v16 : Ref sig .tc := ⟨.hbm, 31, rfl⟩
abbrev main_v17 : Ref sig .tc := ⟨.hbm, 32, rfl⟩
abbrev main_c_4 : Ref sig .tc := ⟨.hbm, 33, rfl⟩
abbrev main_call1_v0 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_c_5 : Ref sig .tc := ⟨.hbm, 38, rfl⟩
abbrev main_call2_v0 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev cc0_stg2_0 : Ref sig .tc := ⟨.vmem, 0, rfl⟩
abbrev cc0_stg2_1 : Ref sig .tc := ⟨.vmem, 1, rfl⟩
abbrev cc0_stg3_0 : Ref sig .tc := ⟨.vmem, 2, rfl⟩
abbrev cc0_stg3_1 : Ref sig .tc := ⟨.vmem, 3, rfl⟩
abbrev cc0_scratch0 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg4_0 : Ref sig .tc := ⟨.vmem, 10, rfl⟩
abbrev cc1_stg5_0 : Ref sig .tc := ⟨.vmem, 11, rfl⟩
abbrev cc1_stg5_1 : Ref sig .tc := ⟨.vmem, 12, rfl⟩
abbrev cc0_stg0_0 : Ref sig .tc := ⟨.smem, 0, rfl⟩
abbrev cc0_stg0_1 : Ref sig .tc := ⟨.smem, 1, rfl⟩
abbrev cc0_stg1_0 : Ref sig .tc := ⟨.smem, 2, rfl⟩
abbrev cc0_stg1_1 : Ref sig .tc := ⟨.smem, 3, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 9
abbrev cc1_sem0_1 : DmaSem sig := 10
abbrev cc1_sem1_0 : DmaSem sig := 11
abbrev cc1_sem2_0 : DmaSem sig := 12
abbrev cc1_sem3_0 : DmaSem sig := 13
abbrev cc1_sem4_0 : DmaSem sig := 14
abbrev cc1_sem5_0 : DmaSem sig := 15
abbrev cc1_sem5_1 : DmaSem sig := 16

abbrev nD : Nat := 1
abbrev τ : Topo := Topo.v7x

variable {F : FTy → Type} [FloatOps F]

abbrev grid0 : Pipeline.Grid := ⟨2, ![2, 128], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_off1 (i : grid0.Coords) : Fin 3 → Nat :=
  let arg0 : BitVec 32 := BitVec.ofNat 32 (i 0).val
  let c0_i32_157 : BitVec 32 := 0#32
  let c0_i32_158 : BitVec 32 := 0#32
  ![arg0.toNat, 0, 0]
@[reducible] def k0_t1_loop (v11 : BitVec 32) : Scf.Loop 32 :=
  let c0_i32_13 : BitVec 32 := 0#32
  let c15_i32 : BitVec 32 := 15#32
  let v12 : BitVec 32 := Scalar.addi v11 c15_i32
  let c0_i32_7 : BitVec 32 := 0#32
  let v14 : BitVec 1 := Scalar.cmpi .sgt v12 c0_i32_7
  let v15 : BitVec 32 := Scalar.extui v14
  let c0_i32_8 : BitVec 32 := 0#32
  let v16 : BitVec 1 := Scalar.cmpi .slt v12 c0_i32_8
  let v17 : BitVec 32 := Scalar.extui v16
  let v18 : BitVec 32 := Scalar.subi v15 v17
  let c16_i32_6 : BitVec 32 := 16#32
  let c0_i32_9 : BitVec 32 := 0#32
  let v19 : BitVec 1 := Scalar.cmpi .sgt c16_i32_6 c0_i32_9
  let v20 : BitVec 32 := Scalar.extui v19
  let c0_i32_10 : BitVec 32 := 0#32
  let v21 : BitVec 1 := Scalar.cmpi .slt c16_i32_6 c0_i32_10
  let v22 : BitVec 32 := Scalar.extui v21
  let v23 : BitVec 32 := Scalar.subi v20 v22
  let v24 : BitVec 1 := Scalar.cmpi .ne v18 v23
  let v25 : BitVec 32 := Scalar.remsi v12 c16_i32_6
  let c0_i32_11 : BitVec 32 := 0#32
  let v26 : BitVec 1 := Scalar.cmpi .ne v25 c0_i32_11
  let v27 : BitVec 1 := Scalar.andi v24 v26
  let v13 : BitVec 32 := Scalar.divsi v12 c16_i32_6
  let c1_i32 : BitVec 32 := 1#32
  let v28 : BitVec 32 := Scalar.subi v13 c1_i32
  let v29 : BitVec 32 := Scalar.select v27 v28 v13
  let v31 : BitVec 32 := Scalar.subi v29 c0_i32_13
  let c1_i32_14 : BitVec 32 := 1#32
  let v33 : BitVec 32 := Scalar.divsi v31 c1_i32_14
  let v34 : BitVec 32 := Scalar.muli v33 c1_i32_14
  let v35 : BitVec 32 := Scalar.addi c0_i32_13 v34
  let c1_i32_15 : BitVec 32 := 1#32
  ⟨c0_i32_13, v35, c1_i32_15⟩

def k0_off2 (v11 : BitVec 32) (k0_t1 : Fin (k0_t1_loop v11).trips) : Fin 2 → Nat :=
  let c0_156 : Index := 0#32
  let c0_i32_13 : BitVec 32 := 0#32
  let c1_i32_15 : BitVec 32 := 1#32
  let arg9 : BitVec 32 := Scf.iv c0_i32_13 c1_i32_15 k0_t1
  let c16_i32_154 : BitVec 32 := 16#32
  let v324 : BitVec 32 := Scalar.muli arg9 c16_i32_154
  let c0_i32_155 : BitVec 32 := 0#32
  let v325 : BitVec 32 := Scalar.addi v324 c0_i32_155
  let v326 : Index := Scalar.indexCast v325
  ![0, v326.toNat]
def k0_off3 (v327 : BitVec 32) : Fin 3 → Nat :=
  let v328 : Index := Scalar.indexCast v327
  let c0_157 : Index := 0#32
  let c0_158 : Index := 0#32
  ![v328.toNat, 0, 0]

def k0_chk2 (v327 : BitVec 32) : Prop :=
  (∀ a, (k0_off3 v327) a + S1x1x128.size a ≤ S100000x1x128.size a)
theorem k0_off3_inb : ∀ (v327 : BitVec 32) (k0_hw2 : k0_chk2 v327), ∀ a, (k0_off3 v327) a + S1x1x128.size a ≤ S100000x1x128.size a := fun v327 k0_hw2 => k0_hw2

def k0_off4 (v11 : BitVec 32) (k0_t1 : Fin (k0_t1_loop v11).trips) : Fin 2 → Nat :=
  let c0_161 : Index := 0#32
  let c0_i32_13 : BitVec 32 := 0#32
  let c1_i32_15 : BitVec 32 := 1#32
  let arg9 : BitVec 32 := Scf.iv c0_i32_13 c1_i32_15 k0_t1
  let c16_i32_154 : BitVec 32 := 16#32
  let v324 : BitVec 32 := Scalar.muli arg9 c16_i32_154
  let c1_i32_160 : BitVec 32 := 1#32
  let v337 : BitVec 32 := Scalar.addi v324 c1_i32_160
  let v338 : Index := Scalar.indexCast v337
  ![0, v338.toNat]
def k0_off5 (v339 : BitVec 32) : Fin 3 → Nat :=
  let v340 : Index := Scalar.indexCast v339
  let c0_162 : Index := 0#32
  let c0_163 : Index := 0#32
  ![v340.toNat, 0, 0]

def k0_chk3 (v339 : BitVec 32) : Prop :=
  (∀ a, (k0_off5 v339) a + S1x1x128.size a ≤ S100000x1x128.size a)
theorem k0_off5_inb : ∀ (v339 : BitVec 32) (k0_hw3 : k0_chk3 v339), ∀ a, (k0_off5 v339) a + S1x1x128.size a ≤ S100000x1x128.size a := fun v339 k0_hw3 => k0_hw3

def k0_off6 (v11 : BitVec 32) (k0_t1 : Fin (k0_t1_loop v11).trips) : Fin 2 → Nat :=
  let c0_165 : Index := 0#32
  let c0_i32_13 : BitVec 32 := 0#32
  let c1_i32_15 : BitVec 32 := 1#32
  let arg9 : BitVec 32 := Scf.iv c0_i32_13 c1_i32_15 k0_t1
  let c16_i32_154 : BitVec 32 := 16#32
  let v324 : BitVec 32 := Scalar.muli arg9 c16_i32_154
  let c2_i32 : BitVec 32 := 2#32
  let v349 : BitVec 32 := Scalar.addi v324 c2_i32
  let v350 : Index := Scalar.indexCast v349
  ![0, v350.toNat]
def k0_off7 (v351 : BitVec 32) : Fin 3 → Nat :=
  let v352 : Index := Scalar.indexCast v351
  let c0_166 : Index := 0#32
  let c0_167 : Index := 0#32
  ![v352.toNat, 0, 0]

def k0_chk4 (v351 : BitVec 32) : Prop :=
  (∀ a, (k0_off7 v351) a + S1x1x128.size a ≤ S100000x1x128.size a)
theorem k0_off7_inb : ∀ (v351 : BitVec 32) (k0_hw4 : k0_chk4 v351), ∀ a, (k0_off7 v351) a + S1x1x128.size a ≤ S100000x1x128.size a := fun v351 k0_hw4 => k0_hw4

def k0_off8 (v11 : BitVec 32) (k0_t1 : Fin (k0_t1_loop v11).trips) : Fin 2 → Nat :=
  let c0_169 : Index := 0#32
  let c0_i32_13 : BitVec 32 := 0#32
  let c1_i32_15 : BitVec 32 := 1#32
  let arg9 : BitVec 32 := Scf.iv c0_i32_13 c1_i32_15 k0_t1
  let c16_i32_154 : BitVec 32 := 16#32
  let v324 : BitVec 32 := Scalar.muli arg9 c16_i32_154
  let c3_i32 : BitVec 32 := 3#32
  let v361 : BitVec 32 := Scalar.addi v324 c3_i32
  let v362 : Index := Scalar.indexCast v361
  ![0, v362.toNat]
def k0_off9 (v363 : BitVec 32) : Fin 3 → Nat :=
  let v364 : Index := Scalar.indexCast v363
  let c0_170 : Index := 0#32
  let c0_171 : Index := 0#32
  ![v364.toNat, 0, 0]

def k0_chk5 (v363 : BitVec 32) : Prop :=
  (∀ a, (k0_off9 v363) a + S1x1x128.size a ≤ S100000x1x128.size a)
theorem k0_off9_inb : ∀ (v363 : BitVec 32) (k0_hw5 : k0_chk5 v363), ∀ a, (k0_off9 v363) a + S1x1x128.size a ≤ S100000x1x128.size a := fun v363 k0_hw5 => k0_hw5

def k0_off10 (v11 : BitVec 32) (k0_t1 : Fin (k0_t1_loop v11).trips) : Fin 2 → Nat :=
  let c0_173 : Index := 0#32
  let c0_i32_13 : BitVec 32 := 0#32
  let c1_i32_15 : BitVec 32 := 1#32
  let arg9 : BitVec 32 := Scf.iv c0_i32_13 c1_i32_15 k0_t1
  let c16_i32_154 : BitVec 32 := 16#32
  let v324 : BitVec 32 := Scalar.muli arg9 c16_i32_154
  let c4_i32 : BitVec 32 := 4#32
  let v373 : BitVec 32 := Scalar.addi v324 c4_i32
  let v374 : Index := Scalar.indexCast v373
  ![0, v374.toNat]
def k0_off11 (v375 : BitVec 32) : Fin 3 → Nat :=
  let v376 : Index := Scalar.indexCast v375
  let c0_174 : Index := 0#32
  let c0_175 : Index := 0#32
  ![v376.toNat, 0, 0]

def k0_chk6 (v375 : BitVec 32) : Prop :=
  (∀ a, (k0_off11 v375) a + S1x1x128.size a ≤ S100000x1x128.size a)
theorem k0_off11_inb : ∀ (v375 : BitVec 32) (k0_hw6 : k0_chk6 v375), ∀ a, (k0_off11 v375) a + S1x1x128.size a ≤ S100000x1x128.size a := fun v375 k0_hw6 => k0_hw6

def k0_off12 (v11 : BitVec 32) (k0_t1 : Fin (k0_t1_loop v11).trips) : Fin 2 → Nat :=
  let c0_177 : Index := 0#32
  let c0_i32_13 : BitVec 32 := 0#32
  let c1_i32_15 : BitVec 32 := 1#32
  let arg9 : BitVec 32 := Scf.iv c0_i32_13 c1_i32_15 k0_t1
  let c16_i32_154 : BitVec 32 := 16#32
  let v324 : BitVec 32 := Scalar.muli arg9 c16_i32_154
  let c5_i32 : BitVec 32 := 5#32
  let v387 : BitVec 32 := Scalar.addi v324 c5_i32
  let v388 : Index := Scalar.indexCast v387
  ![0, v388.toNat]
def k0_off13 (v389 : BitVec 32) : Fin 3 → Nat :=
  let v390 : Index := Scalar.indexCast v389
  let c0_178 : Index := 0#32
  let c0_179 : Index := 0#32
  ![v390.toNat, 0, 0]

def k0_chk7 (v389 : BitVec 32) : Prop :=
  (∀ a, (k0_off13 v389) a + S1x1x128.size a ≤ S100000x1x128.size a)
theorem k0_off13_inb : ∀ (v389 : BitVec 32) (k0_hw7 : k0_chk7 v389), ∀ a, (k0_off13 v389) a + S1x1x128.size a ≤ S100000x1x128.size a := fun v389 k0_hw7 => k0_hw7

def k0_off14 (v11 : BitVec 32) (k0_t1 : Fin (k0_t1_loop v11).trips) : Fin 2 → Nat :=
  let c0_181 : Index := 0#32
  let c0_i32_13 : BitVec 32 := 0#32
  let c1_i32_15 : BitVec 32 := 1#32
  let arg9 : BitVec 32 := Scf.iv c0_i32_13 c1_i32_15 k0_t1
  let c16_i32_154 : BitVec 32 := 16#32
  let v324 : BitVec 32 := Scalar.muli arg9 c16_i32_154
  let c6_i32 : BitVec 32 := 6#32
  let v401 : BitVec 32 := Scalar.addi v324 c6_i32
  let v402 : Index := Scalar.indexCast v401
  ![0, v402.toNat]
def k0_off15 (v403 : BitVec 32) : Fin 3 → Nat :=
  let v404 : Index := Scalar.indexCast v403
  let c0_182 : Index := 0#32
  let c0_183 : Index := 0#32
  ![v404.toNat, 0, 0]

def k0_chk8 (v403 : BitVec 32) : Prop :=
  (∀ a, (k0_off15 v403) a + S1x1x128.size a ≤ S100000x1x128.size a)
theorem k0_off15_inb : ∀ (v403 : BitVec 32) (k0_hw8 : k0_chk8 v403), ∀ a, (k0_off15 v403) a + S1x1x128.size a ≤ S100000x1x128.size a := fun v403 k0_hw8 => k0_hw8

def k0_off16 (v11 : BitVec 32) (k0_t1 : Fin (k0_t1_loop v11).trips) : Fin 2 → Nat :=
  let c0_185 : Index := 0#32
  let c0_i32_13 : BitVec 32 := 0#32
  let c1_i32_15 : BitVec 32 := 1#32
  let arg9 : BitVec 32 := Scf.iv c0_i32_13 c1_i32_15 k0_t1
  let c16_i32_154 : BitVec 32 := 16#32
  let v324 : BitVec 32 := Scalar.muli arg9 c16_i32_154
  let c7_i32 : BitVec 32 := 7#32
  let v415 : BitVec 32 := Scalar.addi v324 c7_i32
  let v416 : Index := Scalar.indexCast v415
  ![0, v416.toNat]
def k0_off17 (v417 : BitVec 32) : Fin 3 → Nat :=
  let v418 : Index := Scalar.indexCast v417
  let c0_186 : Index := 0#32
  let c0_187 : Index := 0#32
  ![v418.toNat, 0, 0]

def k0_chk9 (v417 : BitVec 32) : Prop :=
  (∀ a, (k0_off17 v417) a + S1x1x128.size a ≤ S100000x1x128.size a)
theorem k0_off17_inb : ∀ (v417 : BitVec 32) (k0_hw9 : k0_chk9 v417), ∀ a, (k0_off17 v417) a + S1x1x128.size a ≤ S100000x1x128.size a := fun v417 k0_hw9 => k0_hw9

def k0_off18 (v11 : BitVec 32) (k0_t1 : Fin (k0_t1_loop v11).trips) : Fin 2 → Nat :=
  let c0_189 : Index := 0#32
  let c0_i32_13 : BitVec 32 := 0#32
  let c1_i32_15 : BitVec 32 := 1#32
  let arg9 : BitVec 32 := Scf.iv c0_i32_13 c1_i32_15 k0_t1
  let c16_i32_154 : BitVec 32 := 16#32
  let v324 : BitVec 32 := Scalar.muli arg9 c16_i32_154
  let c8_i32 : BitVec 32 := 8#32
  let v429 : BitVec 32 := Scalar.addi v324 c8_i32
  let v430 : Index := Scalar.indexCast v429
  ![0, v430.toNat]
def k0_off19 (v431 : BitVec 32) : Fin 3 → Nat :=
  let v432 : Index := Scalar.indexCast v431
  let c0_190 : Index := 0#32
  let c0_191 : Index := 0#32
  ![v432.toNat, 0, 0]

def k0_chk10 (v431 : BitVec 32) : Prop :=
  (∀ a, (k0_off19 v431) a + S1x1x128.size a ≤ S100000x1x128.size a)
theorem k0_off19_inb : ∀ (v431 : BitVec 32) (k0_hw10 : k0_chk10 v431), ∀ a, (k0_off19 v431) a + S1x1x128.size a ≤ S100000x1x128.size a := fun v431 k0_hw10 => k0_hw10

def k0_off20 (v11 : BitVec 32) (k0_t1 : Fin (k0_t1_loop v11).trips) : Fin 2 → Nat :=
  let c0_193 : Index := 0#32
  let c0_i32_13 : BitVec 32 := 0#32
  let c1_i32_15 : BitVec 32 := 1#32
  let arg9 : BitVec 32 := Scf.iv c0_i32_13 c1_i32_15 k0_t1
  let c16_i32_154 : BitVec 32 := 16#32
  let v324 : BitVec 32 := Scalar.muli arg9 c16_i32_154
  let c9_i32 : BitVec 32 := 9#32
  let v443 : BitVec 32 := Scalar.addi v324 c9_i32
  let v444 : Index := Scalar.indexCast v443
  ![0, v444.toNat]
def k0_off21 (v445 : BitVec 32) : Fin 3 → Nat :=
  let v446 : Index := Scalar.indexCast v445
  let c0_194 : Index := 0#32
  let c0_195 : Index := 0#32
  ![v446.toNat, 0, 0]

def k0_chk11 (v445 : BitVec 32) : Prop :=
  (∀ a, (k0_off21 v445) a + S1x1x128.size a ≤ S100000x1x128.size a)
theorem k0_off21_inb : ∀ (v445 : BitVec 32) (k0_hw11 : k0_chk11 v445), ∀ a, (k0_off21 v445) a + S1x1x128.size a ≤ S100000x1x128.size a := fun v445 k0_hw11 => k0_hw11

def k0_off22 (v11 : BitVec 32) (k0_t1 : Fin (k0_t1_loop v11).trips) : Fin 2 → Nat :=
  let c0_197 : Index := 0#32
  let c0_i32_13 : BitVec 32 := 0#32
  let c1_i32_15 : BitVec 32 := 1#32
  let arg9 : BitVec 32 := Scf.iv c0_i32_13 c1_i32_15 k0_t1
  let c16_i32_154 : BitVec 32 := 16#32
  let v324 : BitVec 32 := Scalar.muli arg9 c16_i32_154
  let c10_i32 : BitVec 32 := 10#32
  let v457 : BitVec 32 := Scalar.addi v324 c10_i32
  let v458 : Index := Scalar.indexCast v457
  ![0, v458.toNat]
def k0_off23 (v459 : BitVec 32) : Fin 3 → Nat :=
  let v460 : Index := Scalar.indexCast v459
  let c0_198 : Index := 0#32
  let c0_199 : Index := 0#32
  ![v460.toNat, 0, 0]

def k0_chk12 (v459 : BitVec 32) : Prop :=
  (∀ a, (k0_off23 v459) a + S1x1x128.size a ≤ S100000x1x128.size a)
theorem k0_off23_inb : ∀ (v459 : BitVec 32) (k0_hw12 : k0_chk12 v459), ∀ a, (k0_off23 v459) a + S1x1x128.size a ≤ S100000x1x128.size a := fun v459 k0_hw12 => k0_hw12

def k0_off24 (v11 : BitVec 32) (k0_t1 : Fin (k0_t1_loop v11).trips) : Fin 2 → Nat :=
  let c0_201 : Index := 0#32
  let c0_i32_13 : BitVec 32 := 0#32
  let c1_i32_15 : BitVec 32 := 1#32
  let arg9 : BitVec 32 := Scf.iv c0_i32_13 c1_i32_15 k0_t1
  let c16_i32_154 : BitVec 32 := 16#32
  let v324 : BitVec 32 := Scalar.muli arg9 c16_i32_154
  let c11_i32 : BitVec 32 := 11#32
  let v471 : BitVec 32 := Scalar.addi v324 c11_i32
  let v472 : Index := Scalar.indexCast v471
  ![0, v472.toNat]
def k0_off25 (v473 : BitVec 32) : Fin 3 → Nat :=
  let v474 : Index := Scalar.indexCast v473
  let c0_202 : Index := 0#32
  let c0_203 : Index := 0#32
  ![v474.toNat, 0, 0]

def k0_chk13 (v473 : BitVec 32) : Prop :=
  (∀ a, (k0_off25 v473) a + S1x1x128.size a ≤ S100000x1x128.size a)
theorem k0_off25_inb : ∀ (v473 : BitVec 32) (k0_hw13 : k0_chk13 v473), ∀ a, (k0_off25 v473) a + S1x1x128.size a ≤ S100000x1x128.size a := fun v473 k0_hw13 => k0_hw13

def k0_off26 (v11 : BitVec 32) (k0_t1 : Fin (k0_t1_loop v11).trips) : Fin 2 → Nat :=
  let c0_205 : Index := 0#32
  let c0_i32_13 : BitVec 32 := 0#32
  let c1_i32_15 : BitVec 32 := 1#32
  let arg9 : BitVec 32 := Scf.iv c0_i32_13 c1_i32_15 k0_t1
  let c16_i32_154 : BitVec 32 := 16#32
  let v324 : BitVec 32 := Scalar.muli arg9 c16_i32_154
  let c12_i32 : BitVec 32 := 12#32
  let v485 : BitVec 32 := Scalar.addi v324 c12_i32
  let v486 : Index := Scalar.indexCast v485
  ![0, v486.toNat]
def k0_off27 (v487 : BitVec 32) : Fin 3 → Nat :=
  let v488 : Index := Scalar.indexCast v487
  let c0_206 : Index := 0#32
  let c0_207 : Index := 0#32
  ![v488.toNat, 0, 0]

def k0_chk14 (v487 : BitVec 32) : Prop :=
  (∀ a, (k0_off27 v487) a + S1x1x128.size a ≤ S100000x1x128.size a)
theorem k0_off27_inb : ∀ (v487 : BitVec 32) (k0_hw14 : k0_chk14 v487), ∀ a, (k0_off27 v487) a + S1x1x128.size a ≤ S100000x1x128.size a := fun v487 k0_hw14 => k0_hw14

def k0_off28 (v11 : BitVec 32) (k0_t1 : Fin (k0_t1_loop v11).trips) : Fin 2 → Nat :=
  let c0_209 : Index := 0#32
  let c0_i32_13 : BitVec 32 := 0#32
  let c1_i32_15 : BitVec 32 := 1#32
  let arg9 : BitVec 32 := Scf.iv c0_i32_13 c1_i32_15 k0_t1
  let c16_i32_154 : BitVec 32 := 16#32
  let v324 : BitVec 32 := Scalar.muli arg9 c16_i32_154
  let c13_i32 : BitVec 32 := 13#32
  let v499 : BitVec 32 := Scalar.addi v324 c13_i32
  let v500 : Index := Scalar.indexCast v499
  ![0, v500.toNat]
def k0_off29 (v501 : BitVec 32) : Fin 3 → Nat :=
  let v502 : Index := Scalar.indexCast v501
  let c0_210 : Index := 0#32
  let c0_211 : Index := 0#32
  ![v502.toNat, 0, 0]

def k0_chk15 (v501 : BitVec 32) : Prop :=
  (∀ a, (k0_off29 v501) a + S1x1x128.size a ≤ S100000x1x128.size a)
theorem k0_off29_inb : ∀ (v501 : BitVec 32) (k0_hw15 : k0_chk15 v501), ∀ a, (k0_off29 v501) a + S1x1x128.size a ≤ S100000x1x128.size a := fun v501 k0_hw15 => k0_hw15

def k0_off30 (v11 : BitVec 32) (k0_t1 : Fin (k0_t1_loop v11).trips) : Fin 2 → Nat :=
  let c0_213 : Index := 0#32
  let c0_i32_13 : BitVec 32 := 0#32
  let c1_i32_15 : BitVec 32 := 1#32
  let arg9 : BitVec 32 := Scf.iv c0_i32_13 c1_i32_15 k0_t1
  let c16_i32_154 : BitVec 32 := 16#32
  let v324 : BitVec 32 := Scalar.muli arg9 c16_i32_154
  let c14_i32 : BitVec 32 := 14#32
  let v513 : BitVec 32 := Scalar.addi v324 c14_i32
  let v514 : Index := Scalar.indexCast v513
  ![0, v514.toNat]
def k0_off31 (v515 : BitVec 32) : Fin 3 → Nat :=
  let v516 : Index := Scalar.indexCast v515
  let c0_214 : Index := 0#32
  let c0_215 : Index := 0#32
  ![v516.toNat, 0, 0]

def k0_chk16 (v515 : BitVec 32) : Prop :=
  (∀ a, (k0_off31 v515) a + S1x1x128.size a ≤ S100000x1x128.size a)
theorem k0_off31_inb : ∀ (v515 : BitVec 32) (k0_hw16 : k0_chk16 v515), ∀ a, (k0_off31 v515) a + S1x1x128.size a ≤ S100000x1x128.size a := fun v515 k0_hw16 => k0_hw16

def k0_off32 (v11 : BitVec 32) (k0_t1 : Fin (k0_t1_loop v11).trips) : Fin 2 → Nat :=
  let c0_218 : Index := 0#32
  let c0_i32_13 : BitVec 32 := 0#32
  let c1_i32_15 : BitVec 32 := 1#32
  let arg9 : BitVec 32 := Scf.iv c0_i32_13 c1_i32_15 k0_t1
  let c16_i32_154 : BitVec 32 := 16#32
  let v324 : BitVec 32 := Scalar.muli arg9 c16_i32_154
  let c15_i32_217 : BitVec 32 := 15#32
  let v527 : BitVec 32 := Scalar.addi v324 c15_i32_217
  let v528 : Index := Scalar.indexCast v527
  ![0, v528.toNat]
def k0_off33 (v529 : BitVec 32) : Fin 3 → Nat :=
  let v530 : Index := Scalar.indexCast v529
  let c0_219 : Index := 0#32
  let c0_220 : Index := 0#32
  ![v530.toNat, 0, 0]

def k0_chk17 (v529 : BitVec 32) : Prop :=
  (∀ a, (k0_off33 v529) a + S1x1x128.size a ≤ S100000x1x128.size a)
theorem k0_off33_inb : ∀ (v529 : BitVec 32) (k0_hw17 : k0_chk17 v529), ∀ a, (k0_off33 v529) a + S1x1x128.size a ≤ S100000x1x128.size a := fun v529 k0_hw17 => k0_hw17

@[reducible] def k0_t2_loop (v11 : BitVec 32) : Scf.Loop 32 :=
  let c0_i32_13 : BitVec 32 := 0#32
  let c15_i32 : BitVec 32 := 15#32
  let v12 : BitVec 32 := Scalar.addi v11 c15_i32
  let c0_i32_7 : BitVec 32 := 0#32
  let v14 : BitVec 1 := Scalar.cmpi .sgt v12 c0_i32_7
  let v15 : BitVec 32 := Scalar.extui v14
  let c0_i32_8 : BitVec 32 := 0#32
  let v16 : BitVec 1 := Scalar.cmpi .slt v12 c0_i32_8
  let v17 : BitVec 32 := Scalar.extui v16
  let v18 : BitVec 32 := Scalar.subi v15 v17
  let c16_i32_6 : BitVec 32 := 16#32
  let c0_i32_9 : BitVec 32 := 0#32
  let v19 : BitVec 1 := Scalar.cmpi .sgt c16_i32_6 c0_i32_9
  let v20 : BitVec 32 := Scalar.extui v19
  let c0_i32_10 : BitVec 32 := 0#32
  let v21 : BitVec 1 := Scalar.cmpi .slt c16_i32_6 c0_i32_10
  let v22 : BitVec 32 := Scalar.extui v21
  let v23 : BitVec 32 := Scalar.subi v20 v22
  let v24 : BitVec 1 := Scalar.cmpi .ne v18 v23
  let v25 : BitVec 32 := Scalar.remsi v12 c16_i32_6
  let c0_i32_11 : BitVec 32 := 0#32
  let v26 : BitVec 1 := Scalar.cmpi .ne v25 c0_i32_11
  let v27 : BitVec 1 := Scalar.andi v24 v26
  let v13 : BitVec 32 := Scalar.divsi v12 c16_i32_6
  let c1_i32 : BitVec 32 := 1#32
  let v28 : BitVec 32 := Scalar.subi v13 c1_i32
  let v29 : BitVec 32 := Scalar.select v27 v28 v13
  let v31 : BitVec 32 := Scalar.subi v29 c0_i32_13
  let c1_i32_14 : BitVec 32 := 1#32
  let v33 : BitVec 32 := Scalar.divsi v31 c1_i32_14
  let v34 : BitVec 32 := Scalar.muli v33 c1_i32_14
  let v35 : BitVec 32 := Scalar.addi c0_i32_13 v34
  let v32 : BitVec 32 := Scalar.addi c0_i32_13 v31
  let c1_i32_16 : BitVec 32 := 1#32
  ⟨v35, v32, c1_i32_16⟩
def k0_off34 (v11 : BitVec 32) (k0_t2 : Fin (k0_t2_loop v11).trips) : Fin 2 → Nat :=
  let c0_156 : Index := 0#32
  let c0_i32_13 : BitVec 32 := 0#32
  let c15_i32 : BitVec 32 := 15#32
  let v12 : BitVec 32 := Scalar.addi v11 c15_i32
  let c0_i32_7 : BitVec 32 := 0#32
  let v14 : BitVec 1 := Scalar.cmpi .sgt v12 c0_i32_7
  let v15 : BitVec 32 := Scalar.extui v14
  let c0_i32_8 : BitVec 32 := 0#32
  let v16 : BitVec 1 := Scalar.cmpi .slt v12 c0_i32_8
  let v17 : BitVec 32 := Scalar.extui v16
  let v18 : BitVec 32 := Scalar.subi v15 v17
  let c16_i32_6 : BitVec 32 := 16#32
  let c0_i32_9 : BitVec 32 := 0#32
  let v19 : BitVec 1 := Scalar.cmpi .sgt c16_i32_6 c0_i32_9
  let v20 : BitVec 32 := Scalar.extui v19
  let c0_i32_10 : BitVec 32 := 0#32
  let v21 : BitVec 1 := Scalar.cmpi .slt c16_i32_6 c0_i32_10
  let v22 : BitVec 32 := Scalar.extui v21
  let v23 : BitVec 32 := Scalar.subi v20 v22
  let v24 : BitVec 1 := Scalar.cmpi .ne v18 v23
  let v25 : BitVec 32 := Scalar.remsi v12 c16_i32_6
  let c0_i32_11 : BitVec 32 := 0#32
  let v26 : BitVec 1 := Scalar.cmpi .ne v25 c0_i32_11
  let v27 : BitVec 1 := Scalar.andi v24 v26
  let v13 : BitVec 32 := Scalar.divsi v12 c16_i32_6
  let c1_i32 : BitVec 32 := 1#32
  let v28 : BitVec 32 := Scalar.subi v13 c1_i32
  let v29 : BitVec 32 := Scalar.select v27 v28 v13
  let v31 : BitVec 32 := Scalar.subi v29 c0_i32_13
  let c1_i32_14 : BitVec 32 := 1#32
  let v33 : BitVec 32 := Scalar.divsi v31 c1_i32_14
  let v34 : BitVec 32 := Scalar.muli v33 c1_i32_14
  let v35 : BitVec 32 := Scalar.addi c0_i32_13 v34
  let c1_i32_16 : BitVec 32 := 1#32
  let arg9 : BitVec 32 := Scf.iv v35 c1_i32_16 k0_t2
  let c16_i32_154 : BitVec 32 := 16#32
  let v324 : BitVec 32 := Scalar.muli arg9 c16_i32_154
  let c0_i32_155 : BitVec 32 := 0#32
  let v325 : BitVec 32 := Scalar.addi v324 c0_i32_155
  let v326 : Index := Scalar.indexCast v325
  ![0, v326.toNat]
def k0_off35 (v327 : BitVec 32) : Fin 3 → Nat :=
  let v328 : Index := Scalar.indexCast v327
  let c0_157 : Index := 0#32
  let c0_158 : Index := 0#32
  ![v328.toNat, 0, 0]

def k0_chk18 (v327 : BitVec 32) : Prop :=
  (∀ a, (k0_off35 v327) a + S1x1x128.size a ≤ S100000x1x128.size a)
theorem k0_off35_inb : ∀ (v327 : BitVec 32) (k0_hw18 : k0_chk18 v327), ∀ a, (k0_off35 v327) a + S1x1x128.size a ≤ S100000x1x128.size a := fun v327 k0_hw18 => k0_hw18

def k0_off36 (v11 : BitVec 32) (k0_t2 : Fin (k0_t2_loop v11).trips) : Fin 2 → Nat :=
  let c0_161 : Index := 0#32
  let c0_i32_13 : BitVec 32 := 0#32
  let c15_i32 : BitVec 32 := 15#32
  let v12 : BitVec 32 := Scalar.addi v11 c15_i32
  let c0_i32_7 : BitVec 32 := 0#32
  let v14 : BitVec 1 := Scalar.cmpi .sgt v12 c0_i32_7
  let v15 : BitVec 32 := Scalar.extui v14
  let c0_i32_8 : BitVec 32 := 0#32
  let v16 : BitVec 1 := Scalar.cmpi .slt v12 c0_i32_8
  let v17 : BitVec 32 := Scalar.extui v16
  let v18 : BitVec 32 := Scalar.subi v15 v17
  let c16_i32_6 : BitVec 32 := 16#32
  let c0_i32_9 : BitVec 32 := 0#32
  let v19 : BitVec 1 := Scalar.cmpi .sgt c16_i32_6 c0_i32_9
  let v20 : BitVec 32 := Scalar.extui v19
  let c0_i32_10 : BitVec 32 := 0#32
  let v21 : BitVec 1 := Scalar.cmpi .slt c16_i32_6 c0_i32_10
  let v22 : BitVec 32 := Scalar.extui v21
  let v23 : BitVec 32 := Scalar.subi v20 v22
  let v24 : BitVec 1 := Scalar.cmpi .ne v18 v23
  let v25 : BitVec 32 := Scalar.remsi v12 c16_i32_6
  let c0_i32_11 : BitVec 32 := 0#32
  let v26 : BitVec 1 := Scalar.cmpi .ne v25 c0_i32_11
  let v27 : BitVec 1 := Scalar.andi v24 v26
  let v13 : BitVec 32 := Scalar.divsi v12 c16_i32_6
  let c1_i32 : BitVec 32 := 1#32
  let v28 : BitVec 32 := Scalar.subi v13 c1_i32
  let v29 : BitVec 32 := Scalar.select v27 v28 v13
  let v31 : BitVec 32 := Scalar.subi v29 c0_i32_13
  let c1_i32_14 : BitVec 32 := 1#32
  let v33 : BitVec 32 := Scalar.divsi v31 c1_i32_14
  let v34 : BitVec 32 := Scalar.muli v33 c1_i32_14
  let v35 : BitVec 32 := Scalar.addi c0_i32_13 v34
  let c1_i32_16 : BitVec 32 := 1#32
  let arg9 : BitVec 32 := Scf.iv v35 c1_i32_16 k0_t2
  let c16_i32_154 : BitVec 32 := 16#32
  let v324 : BitVec 32 := Scalar.muli arg9 c16_i32_154
  let c1_i32_160 : BitVec 32 := 1#32
  let v337 : BitVec 32 := Scalar.addi v324 c1_i32_160
  let v338 : Index := Scalar.indexCast v337
  ![0, v338.toNat]
def k0_off37 (v339 : BitVec 32) : Fin 3 → Nat :=
  let v340 : Index := Scalar.indexCast v339
  let c0_162 : Index := 0#32
  let c0_163 : Index := 0#32
  ![v340.toNat, 0, 0]

def k0_chk19 (v339 : BitVec 32) : Prop :=
  (∀ a, (k0_off37 v339) a + S1x1x128.size a ≤ S100000x1x128.size a)
theorem k0_off37_inb : ∀ (v339 : BitVec 32) (k0_hw19 : k0_chk19 v339), ∀ a, (k0_off37 v339) a + S1x1x128.size a ≤ S100000x1x128.size a := fun v339 k0_hw19 => k0_hw19

def k0_off38 (v11 : BitVec 32) (k0_t2 : Fin (k0_t2_loop v11).trips) : Fin 2 → Nat :=
  let c0_165 : Index := 0#32
  let c0_i32_13 : BitVec 32 := 0#32
  let c15_i32 : BitVec 32 := 15#32
  let v12 : BitVec 32 := Scalar.addi v11 c15_i32
  let c0_i32_7 : BitVec 32 := 0#32
  let v14 : BitVec 1 := Scalar.cmpi .sgt v12 c0_i32_7
  let v15 : BitVec 32 := Scalar.extui v14
  let c0_i32_8 : BitVec 32 := 0#32
  let v16 : BitVec 1 := Scalar.cmpi .slt v12 c0_i32_8
  let v17 : BitVec 32 := Scalar.extui v16
  let v18 : BitVec 32 := Scalar.subi v15 v17
  let c16_i32_6 : BitVec 32 := 16#32
  let c0_i32_9 : BitVec 32 := 0#32
  let v19 : BitVec 1 := Scalar.cmpi .sgt c16_i32_6 c0_i32_9
  let v20 : BitVec 32 := Scalar.extui v19
  let c0_i32_10 : BitVec 32 := 0#32
  let v21 : BitVec 1 := Scalar.cmpi .slt c16_i32_6 c0_i32_10
  let v22 : BitVec 32 := Scalar.extui v21
  let v23 : BitVec 32 := Scalar.subi v20 v22
  let v24 : BitVec 1 := Scalar.cmpi .ne v18 v23
  let v25 : BitVec 32 := Scalar.remsi v12 c16_i32_6
  let c0_i32_11 : BitVec 32 := 0#32
  let v26 : BitVec 1 := Scalar.cmpi .ne v25 c0_i32_11
  let v27 : BitVec 1 := Scalar.andi v24 v26
  let v13 : BitVec 32 := Scalar.divsi v12 c16_i32_6
  let c1_i32 : BitVec 32 := 1#32
  let v28 : BitVec 32 := Scalar.subi v13 c1_i32
  let v29 : BitVec 32 := Scalar.select v27 v28 v13
  let v31 : BitVec 32 := Scalar.subi v29 c0_i32_13
  let c1_i32_14 : BitVec 32 := 1#32
  let v33 : BitVec 32 := Scalar.divsi v31 c1_i32_14
  let v34 : BitVec 32 := Scalar.muli v33 c1_i32_14
  let v35 : BitVec 32 := Scalar.addi c0_i32_13 v34
  let c1_i32_16 : BitVec 32 := 1#32
  let arg9 : BitVec 32 := Scf.iv v35 c1_i32_16 k0_t2
  let c16_i32_154 : BitVec 32 := 16#32
  let v324 : BitVec 32 := Scalar.muli arg9 c16_i32_154
  let c2_i32 : BitVec 32 := 2#32
  let v349 : BitVec 32 := Scalar.addi v324 c2_i32
  let v350 : Index := Scalar.indexCast v349
  ![0, v350.toNat]
def k0_off39 (v351 : BitVec 32) : Fin 3 → Nat :=
  let v352 : Index := Scalar.indexCast v351
  let c0_166 : Index := 0#32
  let c0_167 : Index := 0#32
  ![v352.toNat, 0, 0]

def k0_chk20 (v351 : BitVec 32) : Prop :=
  (∀ a, (k0_off39 v351) a + S1x1x128.size a ≤ S100000x1x128.size a)
theorem k0_off39_inb : ∀ (v351 : BitVec 32) (k0_hw20 : k0_chk20 v351), ∀ a, (k0_off39 v351) a + S1x1x128.size a ≤ S100000x1x128.size a := fun v351 k0_hw20 => k0_hw20

def k0_off40 (v11 : BitVec 32) (k0_t2 : Fin (k0_t2_loop v11).trips) : Fin 2 → Nat :=
  let c0_169 : Index := 0#32
  let c0_i32_13 : BitVec 32 := 0#32
  let c15_i32 : BitVec 32 := 15#32
  let v12 : BitVec 32 := Scalar.addi v11 c15_i32
  let c0_i32_7 : BitVec 32 := 0#32
  let v14 : BitVec 1 := Scalar.cmpi .sgt v12 c0_i32_7
  let v15 : BitVec 32 := Scalar.extui v14
  let c0_i32_8 : BitVec 32 := 0#32
  let v16 : BitVec 1 := Scalar.cmpi .slt v12 c0_i32_8
  let v17 : BitVec 32 := Scalar.extui v16
  let v18 : BitVec 32 := Scalar.subi v15 v17
  let c16_i32_6 : BitVec 32 := 16#32
  let c0_i32_9 : BitVec 32 := 0#32
  let v19 : BitVec 1 := Scalar.cmpi .sgt c16_i32_6 c0_i32_9
  let v20 : BitVec 32 := Scalar.extui v19
  let c0_i32_10 : BitVec 32 := 0#32
  let v21 : BitVec 1 := Scalar.cmpi .slt c16_i32_6 c0_i32_10
  let v22 : BitVec 32 := Scalar.extui v21
  let v23 : BitVec 32 := Scalar.subi v20 v22
  let v24 : BitVec 1 := Scalar.cmpi .ne v18 v23
  let v25 : BitVec 32 := Scalar.remsi v12 c16_i32_6
  let c0_i32_11 : BitVec 32 := 0#32
  let v26 : BitVec 1 := Scalar.cmpi .ne v25 c0_i32_11
  let v27 : BitVec 1 := Scalar.andi v24 v26
  let v13 : BitVec 32 := Scalar.divsi v12 c16_i32_6
  let c1_i32 : BitVec 32 := 1#32
  let v28 : BitVec 32 := Scalar.subi v13 c1_i32
  let v29 : BitVec 32 := Scalar.select v27 v28 v13
  let v31 : BitVec 32 := Scalar.subi v29 c0_i32_13
  let c1_i32_14 : BitVec 32 := 1#32
  let v33 : BitVec 32 := Scalar.divsi v31 c1_i32_14
  let v34 : BitVec 32 := Scalar.muli v33 c1_i32_14
  let v35 : BitVec 32 := Scalar.addi c0_i32_13 v34
  let c1_i32_16 : BitVec 32 := 1#32
  let arg9 : BitVec 32 := Scf.iv v35 c1_i32_16 k0_t2
  let c16_i32_154 : BitVec 32 := 16#32
  let v324 : BitVec 32 := Scalar.muli arg9 c16_i32_154
  let c3_i32 : BitVec 32 := 3#32
  let v361 : BitVec 32 := Scalar.addi v324 c3_i32
  let v362 : Index := Scalar.indexCast v361
  ![0, v362.toNat]
def k0_off41 (v363 : BitVec 32) : Fin 3 → Nat :=
  let v364 : Index := Scalar.indexCast v363
  let c0_170 : Index := 0#32
  let c0_171 : Index := 0#32
  ![v364.toNat, 0, 0]

def k0_chk21 (v363 : BitVec 32) : Prop :=
  (∀ a, (k0_off41 v363) a + S1x1x128.size a ≤ S100000x1x128.size a)
theorem k0_off41_inb : ∀ (v363 : BitVec 32) (k0_hw21 : k0_chk21 v363), ∀ a, (k0_off41 v363) a + S1x1x128.size a ≤ S100000x1x128.size a := fun v363 k0_hw21 => k0_hw21

def k0_off42 (v11 : BitVec 32) (k0_t2 : Fin (k0_t2_loop v11).trips) : Fin 2 → Nat :=
  let c0_173 : Index := 0#32
  let c0_i32_13 : BitVec 32 := 0#32
  let c15_i32 : BitVec 32 := 15#32
  let v12 : BitVec 32 := Scalar.addi v11 c15_i32
  let c0_i32_7 : BitVec 32 := 0#32
  let v14 : BitVec 1 := Scalar.cmpi .sgt v12 c0_i32_7
  let v15 : BitVec 32 := Scalar.extui v14
  let c0_i32_8 : BitVec 32 := 0#32
  let v16 : BitVec 1 := Scalar.cmpi .slt v12 c0_i32_8
  let v17 : BitVec 32 := Scalar.extui v16
  let v18 : BitVec 32 := Scalar.subi v15 v17
  let c16_i32_6 : BitVec 32 := 16#32
  let c0_i32_9 : BitVec 32 := 0#32
  let v19 : BitVec 1 := Scalar.cmpi .sgt c16_i32_6 c0_i32_9
  let v20 : BitVec 32 := Scalar.extui v19
  let c0_i32_10 : BitVec 32 := 0#32
  let v21 : BitVec 1 := Scalar.cmpi .slt c16_i32_6 c0_i32_10
  let v22 : BitVec 32 := Scalar.extui v21
  let v23 : BitVec 32 := Scalar.subi v20 v22
  let v24 : BitVec 1 := Scalar.cmpi .ne v18 v23
  let v25 : BitVec 32 := Scalar.remsi v12 c16_i32_6
  let c0_i32_11 : BitVec 32 := 0#32
  let v26 : BitVec 1 := Scalar.cmpi .ne v25 c0_i32_11
  let v27 : BitVec 1 := Scalar.andi v24 v26
  let v13 : BitVec 32 := Scalar.divsi v12 c16_i32_6
  let c1_i32 : BitVec 32 := 1#32
  let v28 : BitVec 32 := Scalar.subi v13 c1_i32
  let v29 : BitVec 32 := Scalar.select v27 v28 v13
  let v31 : BitVec 32 := Scalar.subi v29 c0_i32_13
  let c1_i32_14 : BitVec 32 := 1#32
  let v33 : BitVec 32 := Scalar.divsi v31 c1_i32_14
  let v34 : BitVec 32 := Scalar.muli v33 c1_i32_14
  let v35 : BitVec 32 := Scalar.addi c0_i32_13 v34
  let c1_i32_16 : BitVec 32 := 1#32
  let arg9 : BitVec 32 := Scf.iv v35 c1_i32_16 k0_t2
  let c16_i32_154 : BitVec 32 := 16#32
  let v324 : BitVec 32 := Scalar.muli arg9 c16_i32_154
  let c4_i32 : BitVec 32 := 4#32
  let v373 : BitVec 32 := Scalar.addi v324 c4_i32
  let v374 : Index := Scalar.indexCast v373
  ![0, v374.toNat]
def k0_off43 (v375 : BitVec 32) : Fin 3 → Nat :=
  let v376 : Index := Scalar.indexCast v375
  let c0_174 : Index := 0#32
  let c0_175 : Index := 0#32
  ![v376.toNat, 0, 0]

def k0_chk22 (v375 : BitVec 32) : Prop :=
  (∀ a, (k0_off43 v375) a + S1x1x128.size a ≤ S100000x1x128.size a)
theorem k0_off43_inb : ∀ (v375 : BitVec 32) (k0_hw22 : k0_chk22 v375), ∀ a, (k0_off43 v375) a + S1x1x128.size a ≤ S100000x1x128.size a := fun v375 k0_hw22 => k0_hw22

def k0_off44 (v11 : BitVec 32) (k0_t2 : Fin (k0_t2_loop v11).trips) : Fin 2 → Nat :=
  let c0_177 : Index := 0#32
  let c0_i32_13 : BitVec 32 := 0#32
  let c15_i32 : BitVec 32 := 15#32
  let v12 : BitVec 32 := Scalar.addi v11 c15_i32
  let c0_i32_7 : BitVec 32 := 0#32
  let v14 : BitVec 1 := Scalar.cmpi .sgt v12 c0_i32_7
  let v15 : BitVec 32 := Scalar.extui v14
  let c0_i32_8 : BitVec 32 := 0#32
  let v16 : BitVec 1 := Scalar.cmpi .slt v12 c0_i32_8
  let v17 : BitVec 32 := Scalar.extui v16
  let v18 : BitVec 32 := Scalar.subi v15 v17
  let c16_i32_6 : BitVec 32 := 16#32
  let c0_i32_9 : BitVec 32 := 0#32
  let v19 : BitVec 1 := Scalar.cmpi .sgt c16_i32_6 c0_i32_9
  let v20 : BitVec 32 := Scalar.extui v19
  let c0_i32_10 : BitVec 32 := 0#32
  let v21 : BitVec 1 := Scalar.cmpi .slt c16_i32_6 c0_i32_10
  let v22 : BitVec 32 := Scalar.extui v21
  let v23 : BitVec 32 := Scalar.subi v20 v22
  let v24 : BitVec 1 := Scalar.cmpi .ne v18 v23
  let v25 : BitVec 32 := Scalar.remsi v12 c16_i32_6
  let c0_i32_11 : BitVec 32 := 0#32
  let v26 : BitVec 1 := Scalar.cmpi .ne v25 c0_i32_11
  let v27 : BitVec 1 := Scalar.andi v24 v26
  let v13 : BitVec 32 := Scalar.divsi v12 c16_i32_6
  let c1_i32 : BitVec 32 := 1#32
  let v28 : BitVec 32 := Scalar.subi v13 c1_i32
  let v29 : BitVec 32 := Scalar.select v27 v28 v13
  let v31 : BitVec 32 := Scalar.subi v29 c0_i32_13
  let c1_i32_14 : BitVec 32 := 1#32
  let v33 : BitVec 32 := Scalar.divsi v31 c1_i32_14
  let v34 : BitVec 32 := Scalar.muli v33 c1_i32_14
  let v35 : BitVec 32 := Scalar.addi c0_i32_13 v34
  let c1_i32_16 : BitVec 32 := 1#32
  let arg9 : BitVec 32 := Scf.iv v35 c1_i32_16 k0_t2
  let c16_i32_154 : BitVec 32 := 16#32
  let v324 : BitVec 32 := Scalar.muli arg9 c16_i32_154
  let c5_i32 : BitVec 32 := 5#32
  let v387 : BitVec 32 := Scalar.addi v324 c5_i32
  let v388 : Index := Scalar.indexCast v387
  ![0, v388.toNat]
def k0_off45 (v389 : BitVec 32) : Fin 3 → Nat :=
  let v390 : Index := Scalar.indexCast v389
  let c0_178 : Index := 0#32
  let c0_179 : Index := 0#32
  ![v390.toNat, 0, 0]

def k0_chk23 (v389 : BitVec 32) : Prop :=
  (∀ a, (k0_off45 v389) a + S1x1x128.size a ≤ S100000x1x128.size a)
theorem k0_off45_inb : ∀ (v389 : BitVec 32) (k0_hw23 : k0_chk23 v389), ∀ a, (k0_off45 v389) a + S1x1x128.size a ≤ S100000x1x128.size a := fun v389 k0_hw23 => k0_hw23

def k0_off46 (v11 : BitVec 32) (k0_t2 : Fin (k0_t2_loop v11).trips) : Fin 2 → Nat :=
  let c0_181 : Index := 0#32
  let c0_i32_13 : BitVec 32 := 0#32
  let c15_i32 : BitVec 32 := 15#32
  let v12 : BitVec 32 := Scalar.addi v11 c15_i32
  let c0_i32_7 : BitVec 32 := 0#32
  let v14 : BitVec 1 := Scalar.cmpi .sgt v12 c0_i32_7
  let v15 : BitVec 32 := Scalar.extui v14
  let c0_i32_8 : BitVec 32 := 0#32
  let v16 : BitVec 1 := Scalar.cmpi .slt v12 c0_i32_8
  let v17 : BitVec 32 := Scalar.extui v16
  let v18 : BitVec 32 := Scalar.subi v15 v17
  let c16_i32_6 : BitVec 32 := 16#32
  let c0_i32_9 : BitVec 32 := 0#32
  let v19 : BitVec 1 := Scalar.cmpi .sgt c16_i32_6 c0_i32_9
  let v20 : BitVec 32 := Scalar.extui v19
  let c0_i32_10 : BitVec 32 := 0#32
  let v21 : BitVec 1 := Scalar.cmpi .slt c16_i32_6 c0_i32_10
  let v22 : BitVec 32 := Scalar.extui v21
  let v23 : BitVec 32 := Scalar.subi v20 v22
  let v24 : BitVec 1 := Scalar.cmpi .ne v18 v23
  let v25 : BitVec 32 := Scalar.remsi v12 c16_i32_6
  let c0_i32_11 : BitVec 32 := 0#32
  let v26 : BitVec 1 := Scalar.cmpi .ne v25 c0_i32_11
  let v27 : BitVec 1 := Scalar.andi v24 v26
  let v13 : BitVec 32 := Scalar.divsi v12 c16_i32_6
  let c1_i32 : BitVec 32 := 1#32
  let v28 : BitVec 32 := Scalar.subi v13 c1_i32
  let v29 : BitVec 32 := Scalar.select v27 v28 v13
  let v31 : BitVec 32 := Scalar.subi v29 c0_i32_13
  let c1_i32_14 : BitVec 32 := 1#32
  let v33 : BitVec 32 := Scalar.divsi v31 c1_i32_14
  let v34 : BitVec 32 := Scalar.muli v33 c1_i32_14
  let v35 : BitVec 32 := Scalar.addi c0_i32_13 v34
  let c1_i32_16 : BitVec 32 := 1#32
  let arg9 : BitVec 32 := Scf.iv v35 c1_i32_16 k0_t2
  let c16_i32_154 : BitVec 32 := 16#32
  let v324 : BitVec 32 := Scalar.muli arg9 c16_i32_154
  let c6_i32 : BitVec 32 := 6#32
  let v401 : BitVec 32 := Scalar.addi v324 c6_i32
  let v402 : Index := Scalar.indexCast v401
  ![0, v402.toNat]
def k0_off47 (v403 : BitVec 32) : Fin 3 → Nat :=
  let v404 : Index := Scalar.indexCast v403
  let c0_182 : Index := 0#32
  let c0_183 : Index := 0#32
  ![v404.toNat, 0, 0]

def k0_chk24 (v403 : BitVec 32) : Prop :=
  (∀ a, (k0_off47 v403) a + S1x1x128.size a ≤ S100000x1x128.size a)
theorem k0_off47_inb : ∀ (v403 : BitVec 32) (k0_hw24 : k0_chk24 v403), ∀ a, (k0_off47 v403) a + S1x1x128.size a ≤ S100000x1x128.size a := fun v403 k0_hw24 => k0_hw24

def k0_off48 (v11 : BitVec 32) (k0_t2 : Fin (k0_t2_loop v11).trips) : Fin 2 → Nat :=
  let c0_185 : Index := 0#32
  let c0_i32_13 : BitVec 32 := 0#32
  let c15_i32 : BitVec 32 := 15#32
  let v12 : BitVec 32 := Scalar.addi v11 c15_i32
  let c0_i32_7 : BitVec 32 := 0#32
  let v14 : BitVec 1 := Scalar.cmpi .sgt v12 c0_i32_7
  let v15 : BitVec 32 := Scalar.extui v14
  let c0_i32_8 : BitVec 32 := 0#32
  let v16 : BitVec 1 := Scalar.cmpi .slt v12 c0_i32_8
  let v17 : BitVec 32 := Scalar.extui v16
  let v18 : BitVec 32 := Scalar.subi v15 v17
  let c16_i32_6 : BitVec 32 := 16#32
  let c0_i32_9 : BitVec 32 := 0#32
  let v19 : BitVec 1 := Scalar.cmpi .sgt c16_i32_6 c0_i32_9
  let v20 : BitVec 32 := Scalar.extui v19
  let c0_i32_10 : BitVec 32 := 0#32
  let v21 : BitVec 1 := Scalar.cmpi .slt c16_i32_6 c0_i32_10
  let v22 : BitVec 32 := Scalar.extui v21
  let v23 : BitVec 32 := Scalar.subi v20 v22
  let v24 : BitVec 1 := Scalar.cmpi .ne v18 v23
  let v25 : BitVec 32 := Scalar.remsi v12 c16_i32_6
  let c0_i32_11 : BitVec 32 := 0#32
  let v26 : BitVec 1 := Scalar.cmpi .ne v25 c0_i32_11
  let v27 : BitVec 1 := Scalar.andi v24 v26
  let v13 : BitVec 32 := Scalar.divsi v12 c16_i32_6
  let c1_i32 : BitVec 32 := 1#32
  let v28 : BitVec 32 := Scalar.subi v13 c1_i32
  let v29 : BitVec 32 := Scalar.select v27 v28 v13
  let v31 : BitVec 32 := Scalar.subi v29 c0_i32_13
  let c1_i32_14 : BitVec 32 := 1#32
  let v33 : BitVec 32 := Scalar.divsi v31 c1_i32_14
  let v34 : BitVec 32 := Scalar.muli v33 c1_i32_14
  let v35 : BitVec 32 := Scalar.addi c0_i32_13 v34
  let c1_i32_16 : BitVec 32 := 1#32
  let arg9 : BitVec 32 := Scf.iv v35 c1_i32_16 k0_t2
  let c16_i32_154 : BitVec 32 := 16#32
  let v324 : BitVec 32 := Scalar.muli arg9 c16_i32_154
  let c7_i32 : BitVec 32 := 7#32
  let v415 : BitVec 32 := Scalar.addi v324 c7_i32
  let v416 : Index := Scalar.indexCast v415
  ![0, v416.toNat]
def k0_off49 (v417 : BitVec 32) : Fin 3 → Nat :=
  let v418 : Index := Scalar.indexCast v417
  let c0_186 : Index := 0#32
  let c0_187 : Index := 0#32
  ![v418.toNat, 0, 0]

def k0_chk25 (v417 : BitVec 32) : Prop :=
  (∀ a, (k0_off49 v417) a + S1x1x128.size a ≤ S100000x1x128.size a)
theorem k0_off49_inb : ∀ (v417 : BitVec 32) (k0_hw25 : k0_chk25 v417), ∀ a, (k0_off49 v417) a + S1x1x128.size a ≤ S100000x1x128.size a := fun v417 k0_hw25 => k0_hw25

def k0_off50 (v11 : BitVec 32) (k0_t2 : Fin (k0_t2_loop v11).trips) : Fin 2 → Nat :=
  let c0_189 : Index := 0#32
  let c0_i32_13 : BitVec 32 := 0#32
  let c15_i32 : BitVec 32 := 15#32
  let v12 : BitVec 32 := Scalar.addi v11 c15_i32
  let c0_i32_7 : BitVec 32 := 0#32
  let v14 : BitVec 1 := Scalar.cmpi .sgt v12 c0_i32_7
  let v15 : BitVec 32 := Scalar.extui v14
  let c0_i32_8 : BitVec 32 := 0#32
  let v16 : BitVec 1 := Scalar.cmpi .slt v12 c0_i32_8
  let v17 : BitVec 32 := Scalar.extui v16
  let v18 : BitVec 32 := Scalar.subi v15 v17
  let c16_i32_6 : BitVec 32 := 16#32
  let c0_i32_9 : BitVec 32 := 0#32
  let v19 : BitVec 1 := Scalar.cmpi .sgt c16_i32_6 c0_i32_9
  let v20 : BitVec 32 := Scalar.extui v19
  let c0_i32_10 : BitVec 32 := 0#32
  let v21 : BitVec 1 := Scalar.cmpi .slt c16_i32_6 c0_i32_10
  let v22 : BitVec 32 := Scalar.extui v21
  let v23 : BitVec 32 := Scalar.subi v20 v22
  let v24 : BitVec 1 := Scalar.cmpi .ne v18 v23
  let v25 : BitVec 32 := Scalar.remsi v12 c16_i32_6
  let c0_i32_11 : BitVec 32 := 0#32
  let v26 : BitVec 1 := Scalar.cmpi .ne v25 c0_i32_11
  let v27 : BitVec 1 := Scalar.andi v24 v26
  let v13 : BitVec 32 := Scalar.divsi v12 c16_i32_6
  let c1_i32 : BitVec 32 := 1#32
  let v28 : BitVec 32 := Scalar.subi v13 c1_i32
  let v29 : BitVec 32 := Scalar.select v27 v28 v13
  let v31 : BitVec 32 := Scalar.subi v29 c0_i32_13
  let c1_i32_14 : BitVec 32 := 1#32
  let v33 : BitVec 32 := Scalar.divsi v31 c1_i32_14
  let v34 : BitVec 32 := Scalar.muli v33 c1_i32_14
  let v35 : BitVec 32 := Scalar.addi c0_i32_13 v34
  let c1_i32_16 : BitVec 32 := 1#32
  let arg9 : BitVec 32 := Scf.iv v35 c1_i32_16 k0_t2
  let c16_i32_154 : BitVec 32 := 16#32
  let v324 : BitVec 32 := Scalar.muli arg9 c16_i32_154
  let c8_i32 : BitVec 32 := 8#32
  let v429 : BitVec 32 := Scalar.addi v324 c8_i32
  let v430 : Index := Scalar.indexCast v429
  ![0, v430.toNat]
def k0_off51 (v431 : BitVec 32) : Fin 3 → Nat :=
  let v432 : Index := Scalar.indexCast v431
  let c0_190 : Index := 0#32
  let c0_191 : Index := 0#32
  ![v432.toNat, 0, 0]

def k0_chk26 (v431 : BitVec 32) : Prop :=
  (∀ a, (k0_off51 v431) a + S1x1x128.size a ≤ S100000x1x128.size a)
theorem k0_off51_inb : ∀ (v431 : BitVec 32) (k0_hw26 : k0_chk26 v431), ∀ a, (k0_off51 v431) a + S1x1x128.size a ≤ S100000x1x128.size a := fun v431 k0_hw26 => k0_hw26

def k0_off52 (v11 : BitVec 32) (k0_t2 : Fin (k0_t2_loop v11).trips) : Fin 2 → Nat :=
  let c0_193 : Index := 0#32
  let c0_i32_13 : BitVec 32 := 0#32
  let c15_i32 : BitVec 32 := 15#32
  let v12 : BitVec 32 := Scalar.addi v11 c15_i32
  let c0_i32_7 : BitVec 32 := 0#32
  let v14 : BitVec 1 := Scalar.cmpi .sgt v12 c0_i32_7
  let v15 : BitVec 32 := Scalar.extui v14
  let c0_i32_8 : BitVec 32 := 0#32
  let v16 : BitVec 1 := Scalar.cmpi .slt v12 c0_i32_8
  let v17 : BitVec 32 := Scalar.extui v16
  let v18 : BitVec 32 := Scalar.subi v15 v17
  let c16_i32_6 : BitVec 32 := 16#32
  let c0_i32_9 : BitVec 32 := 0#32
  let v19 : BitVec 1 := Scalar.cmpi .sgt c16_i32_6 c0_i32_9
  let v20 : BitVec 32 := Scalar.extui v19
  let c0_i32_10 : BitVec 32 := 0#32
  let v21 : BitVec 1 := Scalar.cmpi .slt c16_i32_6 c0_i32_10
  let v22 : BitVec 32 := Scalar.extui v21
  let v23 : BitVec 32 := Scalar.subi v20 v22
  let v24 : BitVec 1 := Scalar.cmpi .ne v18 v23
  let v25 : BitVec 32 := Scalar.remsi v12 c16_i32_6
  let c0_i32_11 : BitVec 32 := 0#32
  let v26 : BitVec 1 := Scalar.cmpi .ne v25 c0_i32_11
  let v27 : BitVec 1 := Scalar.andi v24 v26
  let v13 : BitVec 32 := Scalar.divsi v12 c16_i32_6
  let c1_i32 : BitVec 32 := 1#32
  let v28 : BitVec 32 := Scalar.subi v13 c1_i32
  let v29 : BitVec 32 := Scalar.select v27 v28 v13
  let v31 : BitVec 32 := Scalar.subi v29 c0_i32_13
  let c1_i32_14 : BitVec 32 := 1#32
  let v33 : BitVec 32 := Scalar.divsi v31 c1_i32_14
  let v34 : BitVec 32 := Scalar.muli v33 c1_i32_14
  let v35 : BitVec 32 := Scalar.addi c0_i32_13 v34
  let c1_i32_16 : BitVec 32 := 1#32
  let arg9 : BitVec 32 := Scf.iv v35 c1_i32_16 k0_t2
  let c16_i32_154 : BitVec 32 := 16#32
  let v324 : BitVec 32 := Scalar.muli arg9 c16_i32_154
  let c9_i32 : BitVec 32 := 9#32
  let v443 : BitVec 32 := Scalar.addi v324 c9_i32
  let v444 : Index := Scalar.indexCast v443
  ![0, v444.toNat]
def k0_off53 (v445 : BitVec 32) : Fin 3 → Nat :=
  let v446 : Index := Scalar.indexCast v445
  let c0_194 : Index := 0#32
  let c0_195 : Index := 0#32
  ![v446.toNat, 0, 0]

def k0_chk27 (v445 : BitVec 32) : Prop :=
  (∀ a, (k0_off53 v445) a + S1x1x128.size a ≤ S100000x1x128.size a)
theorem k0_off53_inb : ∀ (v445 : BitVec 32) (k0_hw27 : k0_chk27 v445), ∀ a, (k0_off53 v445) a + S1x1x128.size a ≤ S100000x1x128.size a := fun v445 k0_hw27 => k0_hw27

def k0_off54 (v11 : BitVec 32) (k0_t2 : Fin (k0_t2_loop v11).trips) : Fin 2 → Nat :=
  let c0_197 : Index := 0#32
  let c0_i32_13 : BitVec 32 := 0#32
  let c15_i32 : BitVec 32 := 15#32
  let v12 : BitVec 32 := Scalar.addi v11 c15_i32
  let c0_i32_7 : BitVec 32 := 0#32
  let v14 : BitVec 1 := Scalar.cmpi .sgt v12 c0_i32_7
  let v15 : BitVec 32 := Scalar.extui v14
  let c0_i32_8 : BitVec 32 := 0#32
  let v16 : BitVec 1 := Scalar.cmpi .slt v12 c0_i32_8
  let v17 : BitVec 32 := Scalar.extui v16
  let v18 : BitVec 32 := Scalar.subi v15 v17
  let c16_i32_6 : BitVec 32 := 16#32
  let c0_i32_9 : BitVec 32 := 0#32
  let v19 : BitVec 1 := Scalar.cmpi .sgt c16_i32_6 c0_i32_9
  let v20 : BitVec 32 := Scalar.extui v19
  let c0_i32_10 : BitVec 32 := 0#32
  let v21 : BitVec 1 := Scalar.cmpi .slt c16_i32_6 c0_i32_10
  let v22 : BitVec 32 := Scalar.extui v21
  let v23 : BitVec 32 := Scalar.subi v20 v22
  let v24 : BitVec 1 := Scalar.cmpi .ne v18 v23
  let v25 : BitVec 32 := Scalar.remsi v12 c16_i32_6
  let c0_i32_11 : BitVec 32 := 0#32
  let v26 : BitVec 1 := Scalar.cmpi .ne v25 c0_i32_11
  let v27 : BitVec 1 := Scalar.andi v24 v26
  let v13 : BitVec 32 := Scalar.divsi v12 c16_i32_6
  let c1_i32 : BitVec 32 := 1#32
  let v28 : BitVec 32 := Scalar.subi v13 c1_i32
  let v29 : BitVec 32 := Scalar.select v27 v28 v13
  let v31 : BitVec 32 := Scalar.subi v29 c0_i32_13
  let c1_i32_14 : BitVec 32 := 1#32
  let v33 : BitVec 32 := Scalar.divsi v31 c1_i32_14
  let v34 : BitVec 32 := Scalar.muli v33 c1_i32_14
  let v35 : BitVec 32 := Scalar.addi c0_i32_13 v34
  let c1_i32_16 : BitVec 32 := 1#32
  let arg9 : BitVec 32 := Scf.iv v35 c1_i32_16 k0_t2
  let c16_i32_154 : BitVec 32 := 16#32
  let v324 : BitVec 32 := Scalar.muli arg9 c16_i32_154
  let c10_i32 : BitVec 32 := 10#32
  let v457 : BitVec 32 := Scalar.addi v324 c10_i32
  let v458 : Index := Scalar.indexCast v457
  ![0, v458.toNat]
def k0_off55 (v459 : BitVec 32) : Fin 3 → Nat :=
  let v460 : Index := Scalar.indexCast v459
  let c0_198 : Index := 0#32
  let c0_199 : Index := 0#32
  ![v460.toNat, 0, 0]

def k0_chk28 (v459 : BitVec 32) : Prop :=
  (∀ a, (k0_off55 v459) a + S1x1x128.size a ≤ S100000x1x128.size a)
theorem k0_off55_inb : ∀ (v459 : BitVec 32) (k0_hw28 : k0_chk28 v459), ∀ a, (k0_off55 v459) a + S1x1x128.size a ≤ S100000x1x128.size a := fun v459 k0_hw28 => k0_hw28

def k0_off56 (v11 : BitVec 32) (k0_t2 : Fin (k0_t2_loop v11).trips) : Fin 2 → Nat :=
  let c0_201 : Index := 0#32
  let c0_i32_13 : BitVec 32 := 0#32
  let c15_i32 : BitVec 32 := 15#32
  let v12 : BitVec 32 := Scalar.addi v11 c15_i32
  let c0_i32_7 : BitVec 32 := 0#32
  let v14 : BitVec 1 := Scalar.cmpi .sgt v12 c0_i32_7
  let v15 : BitVec 32 := Scalar.extui v14
  let c0_i32_8 : BitVec 32 := 0#32
  let v16 : BitVec 1 := Scalar.cmpi .slt v12 c0_i32_8
  let v17 : BitVec 32 := Scalar.extui v16
  let v18 : BitVec 32 := Scalar.subi v15 v17
  let c16_i32_6 : BitVec 32 := 16#32
  let c0_i32_9 : BitVec 32 := 0#32
  let v19 : BitVec 1 := Scalar.cmpi .sgt c16_i32_6 c0_i32_9
  let v20 : BitVec 32 := Scalar.extui v19
  let c0_i32_10 : BitVec 32 := 0#32
  let v21 : BitVec 1 := Scalar.cmpi .slt c16_i32_6 c0_i32_10
  let v22 : BitVec 32 := Scalar.extui v21
  let v23 : BitVec 32 := Scalar.subi v20 v22
  let v24 : BitVec 1 := Scalar.cmpi .ne v18 v23
  let v25 : BitVec 32 := Scalar.remsi v12 c16_i32_6
  let c0_i32_11 : BitVec 32 := 0#32
  let v26 : BitVec 1 := Scalar.cmpi .ne v25 c0_i32_11
  let v27 : BitVec 1 := Scalar.andi v24 v26
  let v13 : BitVec 32 := Scalar.divsi v12 c16_i32_6
  let c1_i32 : BitVec 32 := 1#32
  let v28 : BitVec 32 := Scalar.subi v13 c1_i32
  let v29 : BitVec 32 := Scalar.select v27 v28 v13
  let v31 : BitVec 32 := Scalar.subi v29 c0_i32_13
  let c1_i32_14 : BitVec 32 := 1#32
  let v33 : BitVec 32 := Scalar.divsi v31 c1_i32_14
  let v34 : BitVec 32 := Scalar.muli v33 c1_i32_14
  let v35 : BitVec 32 := Scalar.addi c0_i32_13 v34
  let c1_i32_16 : BitVec 32 := 1#32
  let arg9 : BitVec 32 := Scf.iv v35 c1_i32_16 k0_t2
  let c16_i32_154 : BitVec 32 := 16#32
  let v324 : BitVec 32 := Scalar.muli arg9 c16_i32_154
  let c11_i32 : BitVec 32 := 11#32
  let v471 : BitVec 32 := Scalar.addi v324 c11_i32
  let v472 : Index := Scalar.indexCast v471
  ![0, v472.toNat]
def k0_off57 (v473 : BitVec 32) : Fin 3 → Nat :=
  let v474 : Index := Scalar.indexCast v473
  let c0_202 : Index := 0#32
  let c0_203 : Index := 0#32
  ![v474.toNat, 0, 0]

def k0_chk29 (v473 : BitVec 32) : Prop :=
  (∀ a, (k0_off57 v473) a + S1x1x128.size a ≤ S100000x1x128.size a)
theorem k0_off57_inb : ∀ (v473 : BitVec 32) (k0_hw29 : k0_chk29 v473), ∀ a, (k0_off57 v473) a + S1x1x128.size a ≤ S100000x1x128.size a := fun v473 k0_hw29 => k0_hw29

def k0_off58 (v11 : BitVec 32) (k0_t2 : Fin (k0_t2_loop v11).trips) : Fin 2 → Nat :=
  let c0_205 : Index := 0#32
  let c0_i32_13 : BitVec 32 := 0#32
  let c15_i32 : BitVec 32 := 15#32
  let v12 : BitVec 32 := Scalar.addi v11 c15_i32
  let c0_i32_7 : BitVec 32 := 0#32
  let v14 : BitVec 1 := Scalar.cmpi .sgt v12 c0_i32_7
  let v15 : BitVec 32 := Scalar.extui v14
  let c0_i32_8 : BitVec 32 := 0#32
  let v16 : BitVec 1 := Scalar.cmpi .slt v12 c0_i32_8
  let v17 : BitVec 32 := Scalar.extui v16
  let v18 : BitVec 32 := Scalar.subi v15 v17
  let c16_i32_6 : BitVec 32 := 16#32
  let c0_i32_9 : BitVec 32 := 0#32
  let v19 : BitVec 1 := Scalar.cmpi .sgt c16_i32_6 c0_i32_9
  let v20 : BitVec 32 := Scalar.extui v19
  let c0_i32_10 : BitVec 32 := 0#32
  let v21 : BitVec 1 := Scalar.cmpi .slt c16_i32_6 c0_i32_10
  let v22 : BitVec 32 := Scalar.extui v21
  let v23 : BitVec 32 := Scalar.subi v20 v22
  let v24 : BitVec 1 := Scalar.cmpi .ne v18 v23
  let v25 : BitVec 32 := Scalar.remsi v12 c16_i32_6
  let c0_i32_11 : BitVec 32 := 0#32
  let v26 : BitVec 1 := Scalar.cmpi .ne v25 c0_i32_11
  let v27 : BitVec 1 := Scalar.andi v24 v26
  let v13 : BitVec 32 := Scalar.divsi v12 c16_i32_6
  let c1_i32 : BitVec 32 := 1#32
  let v28 : BitVec 32 := Scalar.subi v13 c1_i32
  let v29 : BitVec 32 := Scalar.select v27 v28 v13
  let v31 : BitVec 32 := Scalar.subi v29 c0_i32_13
  let c1_i32_14 : BitVec 32 := 1#32
  let v33 : BitVec 32 := Scalar.divsi v31 c1_i32_14
  let v34 : BitVec 32 := Scalar.muli v33 c1_i32_14
  let v35 : BitVec 32 := Scalar.addi c0_i32_13 v34
  let c1_i32_16 : BitVec 32 := 1#32
  let arg9 : BitVec 32 := Scf.iv v35 c1_i32_16 k0_t2
  let c16_i32_154 : BitVec 32 := 16#32
  let v324 : BitVec 32 := Scalar.muli arg9 c16_i32_154
  let c12_i32 : BitVec 32 := 12#32
  let v485 : BitVec 32 := Scalar.addi v324 c12_i32
  let v486 : Index := Scalar.indexCast v485
  ![0, v486.toNat]
def k0_off59 (v487 : BitVec 32) : Fin 3 → Nat :=
  let v488 : Index := Scalar.indexCast v487
  let c0_206 : Index := 0#32
  let c0_207 : Index := 0#32
  ![v488.toNat, 0, 0]

def k0_chk30 (v487 : BitVec 32) : Prop :=
  (∀ a, (k0_off59 v487) a + S1x1x128.size a ≤ S100000x1x128.size a)
theorem k0_off59_inb : ∀ (v487 : BitVec 32) (k0_hw30 : k0_chk30 v487), ∀ a, (k0_off59 v487) a + S1x1x128.size a ≤ S100000x1x128.size a := fun v487 k0_hw30 => k0_hw30

def k0_off60 (v11 : BitVec 32) (k0_t2 : Fin (k0_t2_loop v11).trips) : Fin 2 → Nat :=
  let c0_209 : Index := 0#32
  let c0_i32_13 : BitVec 32 := 0#32
  let c15_i32 : BitVec 32 := 15#32
  let v12 : BitVec 32 := Scalar.addi v11 c15_i32
  let c0_i32_7 : BitVec 32 := 0#32
  let v14 : BitVec 1 := Scalar.cmpi .sgt v12 c0_i32_7
  let v15 : BitVec 32 := Scalar.extui v14
  let c0_i32_8 : BitVec 32 := 0#32
  let v16 : BitVec 1 := Scalar.cmpi .slt v12 c0_i32_8
  let v17 : BitVec 32 := Scalar.extui v16
  let v18 : BitVec 32 := Scalar.subi v15 v17
  let c16_i32_6 : BitVec 32 := 16#32
  let c0_i32_9 : BitVec 32 := 0#32
  let v19 : BitVec 1 := Scalar.cmpi .sgt c16_i32_6 c0_i32_9
  let v20 : BitVec 32 := Scalar.extui v19
  let c0_i32_10 : BitVec 32 := 0#32
  let v21 : BitVec 1 := Scalar.cmpi .slt c16_i32_6 c0_i32_10
  let v22 : BitVec 32 := Scalar.extui v21
  let v23 : BitVec 32 := Scalar.subi v20 v22
  let v24 : BitVec 1 := Scalar.cmpi .ne v18 v23
  let v25 : BitVec 32 := Scalar.remsi v12 c16_i32_6
  let c0_i32_11 : BitVec 32 := 0#32
  let v26 : BitVec 1 := Scalar.cmpi .ne v25 c0_i32_11
  let v27 : BitVec 1 := Scalar.andi v24 v26
  let v13 : BitVec 32 := Scalar.divsi v12 c16_i32_6
  let c1_i32 : BitVec 32 := 1#32
  let v28 : BitVec 32 := Scalar.subi v13 c1_i32
  let v29 : BitVec 32 := Scalar.select v27 v28 v13
  let v31 : BitVec 32 := Scalar.subi v29 c0_i32_13
  let c1_i32_14 : BitVec 32 := 1#32
  let v33 : BitVec 32 := Scalar.divsi v31 c1_i32_14
  let v34 : BitVec 32 := Scalar.muli v33 c1_i32_14
  let v35 : BitVec 32 := Scalar.addi c0_i32_13 v34
  let c1_i32_16 : BitVec 32 := 1#32
  let arg9 : BitVec 32 := Scf.iv v35 c1_i32_16 k0_t2
  let c16_i32_154 : BitVec 32 := 16#32
  let v324 : BitVec 32 := Scalar.muli arg9 c16_i32_154
  let c13_i32 : BitVec 32 := 13#32
  let v499 : BitVec 32 := Scalar.addi v324 c13_i32
  let v500 : Index := Scalar.indexCast v499
  ![0, v500.toNat]
def k0_off61 (v501 : BitVec 32) : Fin 3 → Nat :=
  let v502 : Index := Scalar.indexCast v501
  let c0_210 : Index := 0#32
  let c0_211 : Index := 0#32
  ![v502.toNat, 0, 0]

def k0_chk31 (v501 : BitVec 32) : Prop :=
  (∀ a, (k0_off61 v501) a + S1x1x128.size a ≤ S100000x1x128.size a)
theorem k0_off61_inb : ∀ (v501 : BitVec 32) (k0_hw31 : k0_chk31 v501), ∀ a, (k0_off61 v501) a + S1x1x128.size a ≤ S100000x1x128.size a := fun v501 k0_hw31 => k0_hw31

def k0_off62 (v11 : BitVec 32) (k0_t2 : Fin (k0_t2_loop v11).trips) : Fin 2 → Nat :=
  let c0_213 : Index := 0#32
  let c0_i32_13 : BitVec 32 := 0#32
  let c15_i32 : BitVec 32 := 15#32
  let v12 : BitVec 32 := Scalar.addi v11 c15_i32
  let c0_i32_7 : BitVec 32 := 0#32
  let v14 : BitVec 1 := Scalar.cmpi .sgt v12 c0_i32_7
  let v15 : BitVec 32 := Scalar.extui v14
  let c0_i32_8 : BitVec 32 := 0#32
  let v16 : BitVec 1 := Scalar.cmpi .slt v12 c0_i32_8
  let v17 : BitVec 32 := Scalar.extui v16
  let v18 : BitVec 32 := Scalar.subi v15 v17
  let c16_i32_6 : BitVec 32 := 16#32
  let c0_i32_9 : BitVec 32 := 0#32
  let v19 : BitVec 1 := Scalar.cmpi .sgt c16_i32_6 c0_i32_9
  let v20 : BitVec 32 := Scalar.extui v19
  let c0_i32_10 : BitVec 32 := 0#32
  let v21 : BitVec 1 := Scalar.cmpi .slt c16_i32_6 c0_i32_10
  let v22 : BitVec 32 := Scalar.extui v21
  let v23 : BitVec 32 := Scalar.subi v20 v22
  let v24 : BitVec 1 := Scalar.cmpi .ne v18 v23
  let v25 : BitVec 32 := Scalar.remsi v12 c16_i32_6
  let c0_i32_11 : BitVec 32 := 0#32
  let v26 : BitVec 1 := Scalar.cmpi .ne v25 c0_i32_11
  let v27 : BitVec 1 := Scalar.andi v24 v26
  let v13 : BitVec 32 := Scalar.divsi v12 c16_i32_6
  let c1_i32 : BitVec 32 := 1#32
  let v28 : BitVec 32 := Scalar.subi v13 c1_i32
  let v29 : BitVec 32 := Scalar.select v27 v28 v13
  let v31 : BitVec 32 := Scalar.subi v29 c0_i32_13
  let c1_i32_14 : BitVec 32 := 1#32
  let v33 : BitVec 32 := Scalar.divsi v31 c1_i32_14
  let v34 : BitVec 32 := Scalar.muli v33 c1_i32_14
  let v35 : BitVec 32 := Scalar.addi c0_i32_13 v34
  let c1_i32_16 : BitVec 32 := 1#32
  let arg9 : BitVec 32 := Scf.iv v35 c1_i32_16 k0_t2
  let c16_i32_154 : BitVec 32 := 16#32
  let v324 : BitVec 32 := Scalar.muli arg9 c16_i32_154
  let c14_i32 : BitVec 32 := 14#32
  let v513 : BitVec 32 := Scalar.addi v324 c14_i32
  let v514 : Index := Scalar.indexCast v513
  ![0, v514.toNat]
def k0_off63 (v515 : BitVec 32) : Fin 3 → Nat :=
  let v516 : Index := Scalar.indexCast v515
  let c0_214 : Index := 0#32
  let c0_215 : Index := 0#32
  ![v516.toNat, 0, 0]

def k0_chk32 (v515 : BitVec 32) : Prop :=
  (∀ a, (k0_off63 v515) a + S1x1x128.size a ≤ S100000x1x128.size a)
theorem k0_off63_inb : ∀ (v515 : BitVec 32) (k0_hw32 : k0_chk32 v515), ∀ a, (k0_off63 v515) a + S1x1x128.size a ≤ S100000x1x128.size a := fun v515 k0_hw32 => k0_hw32

def k0_off64 (v11 : BitVec 32) (k0_t2 : Fin (k0_t2_loop v11).trips) : Fin 2 → Nat :=
  let c0_218 : Index := 0#32
  let c0_i32_13 : BitVec 32 := 0#32
  let c15_i32 : BitVec 32 := 15#32
  let v12 : BitVec 32 := Scalar.addi v11 c15_i32
  let c0_i32_7 : BitVec 32 := 0#32
  let v14 : BitVec 1 := Scalar.cmpi .sgt v12 c0_i32_7
  let v15 : BitVec 32 := Scalar.extui v14
  let c0_i32_8 : BitVec 32 := 0#32
  let v16 : BitVec 1 := Scalar.cmpi .slt v12 c0_i32_8
  let v17 : BitVec 32 := Scalar.extui v16
  let v18 : BitVec 32 := Scalar.subi v15 v17
  let c16_i32_6 : BitVec 32 := 16#32
  let c0_i32_9 : BitVec 32 := 0#32
  let v19 : BitVec 1 := Scalar.cmpi .sgt c16_i32_6 c0_i32_9
  let v20 : BitVec 32 := Scalar.extui v19
  let c0_i32_10 : BitVec 32 := 0#32
  let v21 : BitVec 1 := Scalar.cmpi .slt c16_i32_6 c0_i32_10
  let v22 : BitVec 32 := Scalar.extui v21
  let v23 : BitVec 32 := Scalar.subi v20 v22
  let v24 : BitVec 1 := Scalar.cmpi .ne v18 v23
  let v25 : BitVec 32 := Scalar.remsi v12 c16_i32_6
  let c0_i32_11 : BitVec 32 := 0#32
  let v26 : BitVec 1 := Scalar.cmpi .ne v25 c0_i32_11
  let v27 : BitVec 1 := Scalar.andi v24 v26
  let v13 : BitVec 32 := Scalar.divsi v12 c16_i32_6
  let c1_i32 : BitVec 32 := 1#32
  let v28 : BitVec 32 := Scalar.subi v13 c1_i32
  let v29 : BitVec 32 := Scalar.select v27 v28 v13
  let v31 : BitVec 32 := Scalar.subi v29 c0_i32_13
  let c1_i32_14 : BitVec 32 := 1#32
  let v33 : BitVec 32 := Scalar.divsi v31 c1_i32_14
  let v34 : BitVec 32 := Scalar.muli v33 c1_i32_14
  let v35 : BitVec 32 := Scalar.addi c0_i32_13 v34
  let c1_i32_16 : BitVec 32 := 1#32
  let arg9 : BitVec 32 := Scf.iv v35 c1_i32_16 k0_t2
  let c16_i32_154 : BitVec 32 := 16#32
  let v324 : BitVec 32 := Scalar.muli arg9 c16_i32_154
  let c15_i32_217 : BitVec 32 := 15#32
  let v527 : BitVec 32 := Scalar.addi v324 c15_i32_217
  let v528 : Index := Scalar.indexCast v527
  ![0, v528.toNat]

def k0_chk1_0 (v11 : BitVec 32) : Prop :=
  ((k0_t1_loop v11).OK) ∧
  (∀ k0_t1 : Fin (k0_t1_loop v11).trips, ∀ a, (k0_off2 v11 k0_t1) a + S1x1.size a ≤ S8x512.size a) ∧
  (∀ k0_t1 : Fin (k0_t1_loop v11).trips, ∀ a, (k0_off4 v11 k0_t1) a + S1x1.size a ≤ S8x512.size a) ∧
  (∀ k0_t1 : Fin (k0_t1_loop v11).trips, ∀ a, (k0_off6 v11 k0_t1) a + S1x1.size a ≤ S8x512.size a) ∧
  (∀ k0_t1 : Fin (k0_t1_loop v11).trips, ∀ a, (k0_off8 v11 k0_t1) a + S1x1.size a ≤ S8x512.size a) ∧
  (∀ k0_t1 : Fin (k0_t1_loop v11).trips, ∀ a, (k0_off10 v11 k0_t1) a + S1x1.size a ≤ S8x512.size a) ∧
  (∀ k0_t1 : Fin (k0_t1_loop v11).trips, ∀ a, (k0_off12 v11 k0_t1) a + S1x1.size a ≤ S8x512.size a) ∧
  (∀ k0_t1 : Fin (k0_t1_loop v11).trips, ∀ a, (k0_off14 v11 k0_t1) a + S1x1.size a ≤ S8x512.size a) ∧
  (∀ k0_t1 : Fin (k0_t1_loop v11).trips, ∀ a, (k0_off16 v11 k0_t1) a + S1x1.size a ≤ S8x512.size a) ∧
  (∀ k0_t1 : Fin (k0_t1_loop v11).trips, ∀ a, (k0_off18 v11 k0_t1) a + S1x1.size a ≤ S8x512.size a) ∧
  (∀ k0_t1 : Fin (k0_t1_loop v11).trips, ∀ a, (k0_off20 v11 k0_t1) a + S1x1.size a ≤ S8x512.size a) ∧
  (∀ k0_t1 : Fin (k0_t1_loop v11).trips, ∀ a, (k0_off22 v11 k0_t1) a + S1x1.size a ≤ S8x512.size a) ∧
  (∀ k0_t1 : Fin (k0_t1_loop v11).trips, ∀ a, (k0_off24 v11 k0_t1) a + S1x1.size a ≤ S8x512.size a) ∧
  (∀ k0_t1 : Fin (k0_t1_loop v11).trips, ∀ a, (k0_off26 v11 k0_t1) a + S1x1.size a ≤ S8x512.size a) ∧
  (∀ k0_t1 : Fin (k0_t1_loop v11).trips, ∀ a, (k0_off28 v11 k0_t1) a + S1x1.size a ≤ S8x512.size a) ∧
  (∀ k0_t1 : Fin (k0_t1_loop v11).trips, ∀ a, (k0_off30 v11 k0_t1) a + S1x1.size a ≤ S8x512.size a) ∧
  (∀ k0_t1 : Fin (k0_t1_loop v11).trips, ∀ a, (k0_off32 v11 k0_t1) a + S1x1.size a ≤ S8x512.size a) ∧
  ((k0_t2_loop v11).OK) ∧
  (∀ k0_t2 : Fin (k0_t2_loop v11).trips, ∀ a, (k0_off34 v11 k0_t2) a + S1x1.size a ≤ S8x512.size a) ∧
  (∀ k0_t2 : Fin (k0_t2_loop v11).trips, ∀ a, (k0_off36 v11 k0_t2) a + S1x1.size a ≤ S8x512.size a) ∧
  (∀ k0_t2 : Fin (k0_t2_loop v11).trips, ∀ a, (k0_off38 v11 k0_t2) a + S1x1.size a ≤ S8x512.size a) ∧
  (∀ k0_t2 : Fin (k0_t2_loop v11).trips, ∀ a, (k0_off40 v11 k0_t2) a + S1x1.size a ≤ S8x512.size a) ∧
  (∀ k0_t2 : Fin (k0_t2_loop v11).trips, ∀ a, (k0_off42 v11 k0_t2) a + S1x1.size a ≤ S8x512.size a) ∧
  (∀ k0_t2 : Fin (k0_t2_loop v11).trips, ∀ a, (k0_off44 v11 k0_t2) a + S1x1.size a ≤ S8x512.size a) ∧
  (∀ k0_t2 : Fin (k0_t2_loop v11).trips, ∀ a, (k0_off46 v11 k0_t2) a + S1x1.size a ≤ S8x512.size a) ∧
  (∀ k0_t2 : Fin (k0_t2_loop v11).trips, ∀ a, (k0_off48 v11 k0_t2) a + S1x1.size a ≤ S8x512.size a) ∧
  (∀ k0_t2 : Fin (k0_t2_loop v11).trips, ∀ a, (k0_off50 v11 k0_t2) a + S1x1.size a ≤ S8x512.size a) ∧
  (∀ k0_t2 : Fin (k0_t2_loop v11).trips, ∀ a, (k0_off52 v11 k0_t2) a + S1x1.size a ≤ S8x512.size a) ∧
  (∀ k0_t2 : Fin (k0_t2_loop v11).trips, ∀ a, (k0_off54 v11 k0_t2) a + S1x1.size a ≤ S8x512.size a) ∧
  (∀ k0_t2 : Fin (k0_t2_loop v11).trips, ∀ a, (k0_off56 v11 k0_t2) a + S1x1.size a ≤ S8x512.size a) ∧
  (∀ k0_t2 : Fin (k0_t2_loop v11).trips, ∀ a, (k0_off58 v11 k0_t2) a + S1x1.size a ≤ S8x512.size a) ∧
  (∀ k0_t2 : Fin (k0_t2_loop v11).trips, ∀ a, (k0_off60 v11 k0_t2) a + S1x1.size a ≤ S8x512.size a)
def k0_chk1_1 (v11 : BitVec 32) : Prop :=
  (∀ k0_t2 : Fin (k0_t2_loop v11).trips, ∀ a, (k0_off62 v11 k0_t2) a + S1x1.size a ≤ S8x512.size a) ∧
  (∀ k0_t2 : Fin (k0_t2_loop v11).trips, ∀ a, (k0_off64 v11 k0_t2) a + S1x1.size a ≤ S8x512.size a)
def k0_chk1 (v11 : BitVec 32) : Prop :=
  k0_chk1_0 v11 ∧
  k0_chk1_1 v11
theorem k0_t1_ok : ∀ (v11 : BitVec 32) (k0_hw1 : k0_chk1 v11), (k0_t1_loop v11).OK := fun v11 k0_hw1 => k0_hw1.1.1
theorem k0_off2_inb : ∀ (v11 : BitVec 32) (k0_hw1 : k0_chk1 v11) (k0_t1 : Fin (k0_t1_loop v11).trips), ∀ a, (k0_off2 v11 k0_t1) a + S1x1.size a ≤ S8x512.size a := fun v11 k0_hw1 k0_t1 => k0_hw1.1.2.1 k0_t1
theorem k0_off4_inb : ∀ (v11 : BitVec 32) (k0_hw1 : k0_chk1 v11) (k0_t1 : Fin (k0_t1_loop v11).trips), ∀ a, (k0_off4 v11 k0_t1) a + S1x1.size a ≤ S8x512.size a := fun v11 k0_hw1 k0_t1 => k0_hw1.1.2.2.1 k0_t1
theorem k0_off6_inb : ∀ (v11 : BitVec 32) (k0_hw1 : k0_chk1 v11) (k0_t1 : Fin (k0_t1_loop v11).trips), ∀ a, (k0_off6 v11 k0_t1) a + S1x1.size a ≤ S8x512.size a := fun v11 k0_hw1 k0_t1 => k0_hw1.1.2.2.2.1 k0_t1
theorem k0_off8_inb : ∀ (v11 : BitVec 32) (k0_hw1 : k0_chk1 v11) (k0_t1 : Fin (k0_t1_loop v11).trips), ∀ a, (k0_off8 v11 k0_t1) a + S1x1.size a ≤ S8x512.size a := fun v11 k0_hw1 k0_t1 => k0_hw1.1.2.2.2.2.1 k0_t1
theorem k0_off10_inb : ∀ (v11 : BitVec 32) (k0_hw1 : k0_chk1 v11) (k0_t1 : Fin (k0_t1_loop v11).trips), ∀ a, (k0_off10 v11 k0_t1) a + S1x1.size a ≤ S8x512.size a := fun v11 k0_hw1 k0_t1 => k0_hw1.1.2.2.2.2.2.1 k0_t1
theorem k0_off12_inb : ∀ (v11 : BitVec 32) (k0_hw1 : k0_chk1 v11) (k0_t1 : Fin (k0_t1_loop v11).trips), ∀ a, (k0_off12 v11 k0_t1) a + S1x1.size a ≤ S8x512.size a := fun v11 k0_hw1 k0_t1 => k0_hw1.1.2.2.2.2.2.2.1 k0_t1
theorem k0_off14_inb : ∀ (v11 : BitVec 32) (k0_hw1 : k0_chk1 v11) (k0_t1 : Fin (k0_t1_loop v11).trips), ∀ a, (k0_off14 v11 k0_t1) a + S1x1.size a ≤ S8x512.size a := fun v11 k0_hw1 k0_t1 => k0_hw1.1.2.2.2.2.2.2.2.1 k0_t1
theorem k0_off16_inb : ∀ (v11 : BitVec 32) (k0_hw1 : k0_chk1 v11) (k0_t1 : Fin (k0_t1_loop v11).trips), ∀ a, (k0_off16 v11 k0_t1) a + S1x1.size a ≤ S8x512.size a := fun v11 k0_hw1 k0_t1 => k0_hw1.1.2.2.2.2.2.2.2.2.1 k0_t1
theorem k0_off18_inb : ∀ (v11 : BitVec 32) (k0_hw1 : k0_chk1 v11) (k0_t1 : Fin (k0_t1_loop v11).trips), ∀ a, (k0_off18 v11 k0_t1) a + S1x1.size a ≤ S8x512.size a := fun v11 k0_hw1 k0_t1 => k0_hw1.1.2.2.2.2.2.2.2.2.2.1 k0_t1
theorem k0_off20_inb : ∀ (v11 : BitVec 32) (k0_hw1 : k0_chk1 v11) (k0_t1 : Fin (k0_t1_loop v11).trips), ∀ a, (k0_off20 v11 k0_t1) a + S1x1.size a ≤ S8x512.size a := fun v11 k0_hw1 k0_t1 => k0_hw1.1.2.2.2.2.2.2.2.2.2.2.1 k0_t1
theorem k0_off22_inb : ∀ (v11 : BitVec 32) (k0_hw1 : k0_chk1 v11) (k0_t1 : Fin (k0_t1_loop v11).trips), ∀ a, (k0_off22 v11 k0_t1) a + S1x1.size a ≤ S8x512.size a := fun v11 k0_hw1 k0_t1 => k0_hw1.1.2.2.2.2.2.2.2.2.2.2.2.1 k0_t1
theorem k0_off24_inb : ∀ (v11 : BitVec 32) (k0_hw1 : k0_chk1 v11) (k0_t1 : Fin (k0_t1_loop v11).trips), ∀ a, (k0_off24 v11 k0_t1) a + S1x1.size a ≤ S8x512.size a := fun v11 k0_hw1 k0_t1 => k0_hw1.1.2.2.2.2.2.2.2.2.2.2.2.2.1 k0_t1
theorem k0_off26_inb : ∀ (v11 : BitVec 32) (k0_hw1 : k0_chk1 v11) (k0_t1 : Fin (k0_t1_loop v11).trips), ∀ a, (k0_off26 v11 k0_t1) a + S1x1.size a ≤ S8x512.size a := fun v11 k0_hw1 k0_t1 => k0_hw1.1.2.2.2.2.2.2.2.2.2.2.2.2.2.1 k0_t1
theorem k0_off28_inb : ∀ (v11 : BitVec 32) (k0_hw1 : k0_chk1 v11) (k0_t1 : Fin (k0_t1_loop v11).trips), ∀ a, (k0_off28 v11 k0_t1) a + S1x1.size a ≤ S8x512.size a := fun v11 k0_hw1 k0_t1 => k0_hw1.1.2.2.2.2.2.2.2.2.2.2.2.2.2.2.1 k0_t1
theorem k0_off30_inb : ∀ (v11 : BitVec 32) (k0_hw1 : k0_chk1 v11) (k0_t1 : Fin (k0_t1_loop v11).trips), ∀ a, (k0_off30 v11 k0_t1) a + S1x1.size a ≤ S8x512.size a := fun v11 k0_hw1 k0_t1 => k0_hw1.1.2.2.2.2.2.2.2.2.2.2.2.2.2.2.2.1 k0_t1
theorem k0_off32_inb : ∀ (v11 : BitVec 32) (k0_hw1 : k0_chk1 v11) (k0_t1 : Fin (k0_t1_loop v11).trips), ∀ a, (k0_off32 v11 k0_t1) a + S1x1.size a ≤ S8x512.size a := fun v11 k0_hw1 k0_t1 => k0_hw1.1.2.2.2.2.2.2.2.2.2.2.2.2.2.2.2.2.1 k0_t1
theorem k0_t2_ok : ∀ (v11 : BitVec 32) (k0_hw1 : k0_chk1 v11), (k0_t2_loop v11).OK := fun v11 k0_hw1 => k0_hw1.1.2.2.2.2.2.2.2.2.2.2.2.2.2.2.2.2.2.1
theorem k0_off34_inb : ∀ (v11 : BitVec 32) (k0_hw1 : k0_chk1 v11) (k0_t2 : Fin (k0_t2_loop v11).trips), ∀ a, (k0_off34 v11 k0_t2) a + S1x1.size a ≤ S8x512.size a := fun v11 k0_hw1 k0_t2 => k0_hw1.1.2.2.2.2.2.2.2.2.2.2.2.2.2.2.2.2.2.2.1 k0_t2
theorem k0_off36_inb : ∀ (v11 : BitVec 32) (k0_hw1 : k0_chk1 v11) (k0_t2 : Fin (k0_t2_loop v11).trips), ∀ a, (k0_off36 v11 k0_t2) a + S1x1.size a ≤ S8x512.size a := fun v11 k0_hw1 k0_t2 => k0_hw1.1.2.2.2.2.2.2.2.2.2.2.2.2.2.2.2.2.2.2.2.1 k0_t2
theorem k0_off38_inb : ∀ (v11 : BitVec 32) (k0_hw1 : k0_chk1 v11) (k0_t2 : Fin (k0_t2_loop v11).trips), ∀ a, (k0_off38 v11 k0_t2) a + S1x1.size a ≤ S8x512.size a := fun v11 k0_hw1 k0_t2 => k0_hw1.1.2.2.2.2.2.2.2.2.2.2.2.2.2.2.2.2.2.2.2.2.1 k0_t2
theorem k0_off40_inb : ∀ (v11 : BitVec 32) (k0_hw1 : k0_chk1 v11) (k0_t2 : Fin (k0_t2_loop v11).trips), ∀ a, (k0_off40 v11 k0_t2) a + S1x1.size a ≤ S8x512.size a := fun v11 k0_hw1 k0_t2 => k0_hw1.1.2.2.2.2.2.2.2.2.2.2.2.2.2.2.2.2.2.2.2.2.2.1 k0_t2
theorem k0_off42_inb : ∀ (v11 : BitVec 32) (k0_hw1 : k0_chk1 v11) (k0_t2 : Fin (k0_t2_loop v11).trips), ∀ a, (k0_off42 v11 k0_t2) a + S1x1.size a ≤ S8x512.size a := fun v11 k0_hw1 k0_t2 => k0_hw1.1.2.2.2.2.2.2.2.2.2.2.2.2.2.2.2.2.2.2.2.2.2.2.1 k0_t2
theorem k0_off44_inb : ∀ (v11 : BitVec 32) (k0_hw1 : k0_chk1 v11) (k0_t2 : Fin (k0_t2_loop v11).trips), ∀ a, (k0_off44 v11 k0_t2) a + S1x1.size a ≤ S8x512.size a := fun v11 k0_hw1 k0_t2 => k0_hw1.1.2.2.2.2.2.2.2.2.2.2.2.2.2.2.2.2.2.2.2.2.2.2.2.1 k0_t2
theorem k0_off46_inb : ∀ (v11 : BitVec 32) (k0_hw1 : k0_chk1 v11) (k0_t2 : Fin (k0_t2_loop v11).trips), ∀ a, (k0_off46 v11 k0_t2) a + S1x1.size a ≤ S8x512.size a := fun v11 k0_hw1 k0_t2 => k0_hw1.1.2.2.2.2.2.2.2.2.2.2.2.2.2.2.2.2.2.2.2.2.2.2.2.2.1 k0_t2
theorem k0_off48_inb : ∀ (v11 : BitVec 32) (k0_hw1 : k0_chk1 v11) (k0_t2 : Fin (k0_t2_loop v11).trips), ∀ a, (k0_off48 v11 k0_t2) a + S1x1.size a ≤ S8x512.size a := fun v11 k0_hw1 k0_t2 => k0_hw1.1.2.2.2.2.2.2.2.2.2.2.2.2.2.2.2.2.2.2.2.2.2.2.2.2.2.1 k0_t2
theorem k0_off50_inb : ∀ (v11 : BitVec 32) (k0_hw1 : k0_chk1 v11) (k0_t2 : Fin (k0_t2_loop v11).trips), ∀ a, (k0_off50 v11 k0_t2) a + S1x1.size a ≤ S8x512.size a := fun v11 k0_hw1 k0_t2 => k0_hw1.1.2.2.2.2.2.2.2.2.2.2.2.2.2.2.2.2.2.2.2.2.2.2.2.2.2.2.1 k0_t2
theorem k0_off52_inb : ∀ (v11 : BitVec 32) (k0_hw1 : k0_chk1 v11) (k0_t2 : Fin (k0_t2_loop v11).trips), ∀ a, (k0_off52 v11 k0_t2) a + S1x1.size a ≤ S8x512.size a := fun v11 k0_hw1 k0_t2 => k0_hw1.1.2.2.2.2.2.2.2.2.2.2.2.2.2.2.2.2.2.2.2.2.2.2.2.2.2.2.2.1 k0_t2
theorem k0_off54_inb : ∀ (v11 : BitVec 32) (k0_hw1 : k0_chk1 v11) (k0_t2 : Fin (k0_t2_loop v11).trips), ∀ a, (k0_off54 v11 k0_t2) a + S1x1.size a ≤ S8x512.size a := fun v11 k0_hw1 k0_t2 => k0_hw1.1.2.2.2.2.2.2.2.2.2.2.2.2.2.2.2.2.2.2.2.2.2.2.2.2.2.2.2.2.1 k0_t2
theorem k0_off56_inb : ∀ (v11 : BitVec 32) (k0_hw1 : k0_chk1 v11) (k0_t2 : Fin (k0_t2_loop v11).trips), ∀ a, (k0_off56 v11 k0_t2) a + S1x1.size a ≤ S8x512.size a := fun v11 k0_hw1 k0_t2 => k0_hw1.1.2.2.2.2.2.2.2.2.2.2.2.2.2.2.2.2.2.2.2.2.2.2.2.2.2.2.2.2.2.1 k0_t2
theorem k0_off58_inb : ∀ (v11 : BitVec 32) (k0_hw1 : k0_chk1 v11) (k0_t2 : Fin (k0_t2_loop v11).trips), ∀ a, (k0_off58 v11 k0_t2) a + S1x1.size a ≤ S8x512.size a := fun v11 k0_hw1 k0_t2 => k0_hw1.1.2.2.2.2.2.2.2.2.2.2.2.2.2.2.2.2.2.2.2.2.2.2.2.2.2.2.2.2.2.2.1 k0_t2
theorem k0_off60_inb : ∀ (v11 : BitVec 32) (k0_hw1 : k0_chk1 v11) (k0_t2 : Fin (k0_t2_loop v11).trips), ∀ a, (k0_off60 v11 k0_t2) a + S1x1.size a ≤ S8x512.size a := fun v11 k0_hw1 k0_t2 => k0_hw1.1.2.2.2.2.2.2.2.2.2.2.2.2.2.2.2.2.2.2.2.2.2.2.2.2.2.2.2.2.2.2.2 k0_t2
theorem k0_off62_inb : ∀ (v11 : BitVec 32) (k0_hw1 : k0_chk1 v11) (k0_t2 : Fin (k0_t2_loop v11).trips), ∀ a, (k0_off62 v11 k0_t2) a + S1x1.size a ≤ S8x512.size a := fun v11 k0_hw1 k0_t2 => k0_hw1.2.1 k0_t2
theorem k0_off64_inb : ∀ (v11 : BitVec 32) (k0_hw1 : k0_chk1 v11) (k0_t2 : Fin (k0_t2_loop v11).trips), ∀ a, (k0_off64 v11 k0_t2) a + S1x1.size a ≤ S8x512.size a := fun v11 k0_hw1 k0_t2 => k0_hw1.2.2 k0_t2

def k0_off65 (v529 : BitVec 32) : Fin 3 → Nat :=
  let v530 : Index := Scalar.indexCast v529
  let c0_219 : Index := 0#32
  let c0_220 : Index := 0#32
  ![v530.toNat, 0, 0]

def k0_chk33 (v529 : BitVec 32) : Prop :=
  (∀ a, (k0_off65 v529) a + S1x1x128.size a ≤ S100000x1x128.size a)
theorem k0_off65_inb : ∀ (v529 : BitVec 32) (k0_hw33 : k0_chk33 v529), ∀ a, (k0_off65 v529) a + S1x1x128.size a ≤ S100000x1x128.size a := fun v529 k0_hw33 => k0_hw33

@[reducible] def k0_t3_loop (v48 : BitVec 32) : Scf.Loop 32 :=
  let c0_i32_30 : BitVec 32 := 0#32
  let c15_i32_20 : BitVec 32 := 15#32
  let v49 : BitVec 32 := Scalar.addi v48 c15_i32_20
  let c0_i32_22 : BitVec 32 := 0#32
  let v51 : BitVec 1 := Scalar.cmpi .sgt v49 c0_i32_22
  let v52 : BitVec 32 := Scalar.extui v51
  let c0_i32_23 : BitVec 32 := 0#32
  let v53 : BitVec 1 := Scalar.cmpi .slt v49 c0_i32_23
  let v54 : BitVec 32 := Scalar.extui v53
  let v55 : BitVec 32 := Scalar.subi v52 v54
  let c16_i32_21 : BitVec 32 := 16#32
  let c0_i32_24 : BitVec 32 := 0#32
  let v56 : BitVec 1 := Scalar.cmpi .sgt c16_i32_21 c0_i32_24
  let v57 : BitVec 32 := Scalar.extui v56
  let c0_i32_25 : BitVec 32 := 0#32
  let v58 : BitVec 1 := Scalar.cmpi .slt c16_i32_21 c0_i32_25
  let v59 : BitVec 32 := Scalar.extui v58
  let v60 : BitVec 32 := Scalar.subi v57 v59
  let v61 : BitVec 1 := Scalar.cmpi .ne v55 v60
  let v62 : BitVec 32 := Scalar.remsi v49 c16_i32_21
  let c0_i32_26 : BitVec 32 := 0#32
  let v63 : BitVec 1 := Scalar.cmpi .ne v62 c0_i32_26
  let v64 : BitVec 1 := Scalar.andi v61 v63
  let v50 : BitVec 32 := Scalar.divsi v49 c16_i32_21
  let c1_i32_27 : BitVec 32 := 1#32
  let v65 : BitVec 32 := Scalar.subi v50 c1_i32_27
  let v66 : BitVec 32 := Scalar.select v64 v65 v50
  let v68 : BitVec 32 := Scalar.subi v66 c0_i32_30
  let c1_i32_31 : BitVec 32 := 1#32
  let v70 : BitVec 32 := Scalar.divsi v68 c1_i32_31
  let v71 : BitVec 32 := Scalar.muli v70 c1_i32_31
  let v72 : BitVec 32 := Scalar.addi c0_i32_30 v71
  let c1_i32_32 : BitVec 32 := 1#32
  ⟨c0_i32_30, v72, c1_i32_32⟩

def k0_off66 (v48 : BitVec 32) (k0_t3 : Fin (k0_t3_loop v48).trips) : Fin 2 → Nat :=
  let c1_156 : Index := 1#32
  let c0_i32_30 : BitVec 32 := 0#32
  let c1_i32_32 : BitVec 32 := 1#32
  let arg9 : BitVec 32 := Scf.iv c0_i32_30 c1_i32_32 k0_t3
  let c16_i32_154 : BitVec 32 := 16#32
  let v324 : BitVec 32 := Scalar.muli arg9 c16_i32_154
  let c0_i32_155 : BitVec 32 := 0#32
  let v325 : BitVec 32 := Scalar.addi v324 c0_i32_155
  let v326 : Index := Scalar.indexCast v325
  ![1, v326.toNat]
def k0_off67 (v327 : BitVec 32) : Fin 3 → Nat :=
  let v328 : Index := Scalar.indexCast v327
  let c0_157 : Index := 0#32
  let c0_158 : Index := 0#32
  ![v328.toNat, 0, 0]

def k0_chk35 (v327 : BitVec 32) : Prop :=
  (∀ a, (k0_off67 v327) a + S1x1x128.size a ≤ S100000x1x128.size a)
theorem k0_off67_inb : ∀ (v327 : BitVec 32) (k0_hw35 : k0_chk35 v327), ∀ a, (k0_off67 v327) a + S1x1x128.size a ≤ S100000x1x128.size a := fun v327 k0_hw35 => k0_hw35

def k0_off68 (v48 : BitVec 32) (k0_t3 : Fin (k0_t3_loop v48).trips) : Fin 2 → Nat :=
  let c1_161 : Index := 1#32
  let c0_i32_30 : BitVec 32 := 0#32
  let c1_i32_32 : BitVec 32 := 1#32
  let arg9 : BitVec 32 := Scf.iv c0_i32_30 c1_i32_32 k0_t3
  let c16_i32_154 : BitVec 32 := 16#32
  let v324 : BitVec 32 := Scalar.muli arg9 c16_i32_154
  let c1_i32_160 : BitVec 32 := 1#32
  let v337 : BitVec 32 := Scalar.addi v324 c1_i32_160
  let v338 : Index := Scalar.indexCast v337
  ![1, v338.toNat]
def k0_off69 (v339 : BitVec 32) : Fin 3 → Nat :=
  let v340 : Index := Scalar.indexCast v339
  let c0_162 : Index := 0#32
  let c0_163 : Index := 0#32
  ![v340.toNat, 0, 0]

def k0_chk36 (v339 : BitVec 32) : Prop :=
  (∀ a, (k0_off69 v339) a + S1x1x128.size a ≤ S100000x1x128.size a)
theorem k0_off69_inb : ∀ (v339 : BitVec 32) (k0_hw36 : k0_chk36 v339), ∀ a, (k0_off69 v339) a + S1x1x128.size a ≤ S100000x1x128.size a := fun v339 k0_hw36 => k0_hw36

def k0_off70 (v48 : BitVec 32) (k0_t3 : Fin (k0_t3_loop v48).trips) : Fin 2 → Nat :=
  let c1_165 : Index := 1#32
  let c0_i32_30 : BitVec 32 := 0#32
  let c1_i32_32 : BitVec 32 := 1#32
  let arg9 : BitVec 32 := Scf.iv c0_i32_30 c1_i32_32 k0_t3
  let c16_i32_154 : BitVec 32 := 16#32
  let v324 : BitVec 32 := Scalar.muli arg9 c16_i32_154
  let c2_i32 : BitVec 32 := 2#32
  let v349 : BitVec 32 := Scalar.addi v324 c2_i32
  let v350 : Index := Scalar.indexCast v349
  ![1, v350.toNat]
def k0_off71 (v351 : BitVec 32) : Fin 3 → Nat :=
  let v352 : Index := Scalar.indexCast v351
  let c0_166 : Index := 0#32
  let c0_167 : Index := 0#32
  ![v352.toNat, 0, 0]

def k0_chk37 (v351 : BitVec 32) : Prop :=
  (∀ a, (k0_off71 v351) a + S1x1x128.size a ≤ S100000x1x128.size a)
theorem k0_off71_inb : ∀ (v351 : BitVec 32) (k0_hw37 : k0_chk37 v351), ∀ a, (k0_off71 v351) a + S1x1x128.size a ≤ S100000x1x128.size a := fun v351 k0_hw37 => k0_hw37

def k0_off72 (v48 : BitVec 32) (k0_t3 : Fin (k0_t3_loop v48).trips) : Fin 2 → Nat :=
  let c1_169 : Index := 1#32
  let c0_i32_30 : BitVec 32 := 0#32
  let c1_i32_32 : BitVec 32 := 1#32
  let arg9 : BitVec 32 := Scf.iv c0_i32_30 c1_i32_32 k0_t3
  let c16_i32_154 : BitVec 32 := 16#32
  let v324 : BitVec 32 := Scalar.muli arg9 c16_i32_154
  let c3_i32 : BitVec 32 := 3#32
  let v361 : BitVec 32 := Scalar.addi v324 c3_i32
  let v362 : Index := Scalar.indexCast v361
  ![1, v362.toNat]
def k0_off73 (v363 : BitVec 32) : Fin 3 → Nat :=
  let v364 : Index := Scalar.indexCast v363
  let c0_170 : Index := 0#32
  let c0_171 : Index := 0#32
  ![v364.toNat, 0, 0]

def k0_chk38 (v363 : BitVec 32) : Prop :=
  (∀ a, (k0_off73 v363) a + S1x1x128.size a ≤ S100000x1x128.size a)
theorem k0_off73_inb : ∀ (v363 : BitVec 32) (k0_hw38 : k0_chk38 v363), ∀ a, (k0_off73 v363) a + S1x1x128.size a ≤ S100000x1x128.size a := fun v363 k0_hw38 => k0_hw38

def k0_off74 (v48 : BitVec 32) (k0_t3 : Fin (k0_t3_loop v48).trips) : Fin 2 → Nat :=
  let c1_173 : Index := 1#32
  let c0_i32_30 : BitVec 32 := 0#32
  let c1_i32_32 : BitVec 32 := 1#32
  let arg9 : BitVec 32 := Scf.iv c0_i32_30 c1_i32_32 k0_t3
  let c16_i32_154 : BitVec 32 := 16#32
  let v324 : BitVec 32 := Scalar.muli arg9 c16_i32_154
  let c4_i32 : BitVec 32 := 4#32
  let v373 : BitVec 32 := Scalar.addi v324 c4_i32
  let v374 : Index := Scalar.indexCast v373
  ![1, v374.toNat]
def k0_off75 (v375 : BitVec 32) : Fin 3 → Nat :=
  let v376 : Index := Scalar.indexCast v375
  let c0_174 : Index := 0#32
  let c0_175 : Index := 0#32
  ![v376.toNat, 0, 0]

def k0_chk39 (v375 : BitVec 32) : Prop :=
  (∀ a, (k0_off75 v375) a + S1x1x128.size a ≤ S100000x1x128.size a)
theorem k0_off75_inb : ∀ (v375 : BitVec 32) (k0_hw39 : k0_chk39 v375), ∀ a, (k0_off75 v375) a + S1x1x128.size a ≤ S100000x1x128.size a := fun v375 k0_hw39 => k0_hw39

def k0_off76 (v48 : BitVec 32) (k0_t3 : Fin (k0_t3_loop v48).trips) : Fin 2 → Nat :=
  let c1_177 : Index := 1#32
  let c0_i32_30 : BitVec 32 := 0#32
  let c1_i32_32 : BitVec 32 := 1#32
  let arg9 : BitVec 32 := Scf.iv c0_i32_30 c1_i32_32 k0_t3
  let c16_i32_154 : BitVec 32 := 16#32
  let v324 : BitVec 32 := Scalar.muli arg9 c16_i32_154
  let c5_i32 : BitVec 32 := 5#32
  let v387 : BitVec 32 := Scalar.addi v324 c5_i32
  let v388 : Index := Scalar.indexCast v387
  ![1, v388.toNat]
def k0_off77 (v389 : BitVec 32) : Fin 3 → Nat :=
  let v390 : Index := Scalar.indexCast v389
  let c0_178 : Index := 0#32
  let c0_179 : Index := 0#32
  ![v390.toNat, 0, 0]

def k0_chk40 (v389 : BitVec 32) : Prop :=
  (∀ a, (k0_off77 v389) a + S1x1x128.size a ≤ S100000x1x128.size a)
theorem k0_off77_inb : ∀ (v389 : BitVec 32) (k0_hw40 : k0_chk40 v389), ∀ a, (k0_off77 v389) a + S1x1x128.size a ≤ S100000x1x128.size a := fun v389 k0_hw40 => k0_hw40

def k0_off78 (v48 : BitVec 32) (k0_t3 : Fin (k0_t3_loop v48).trips) : Fin 2 → Nat :=
  let c1_181 : Index := 1#32
  let c0_i32_30 : BitVec 32 := 0#32
  let c1_i32_32 : BitVec 32 := 1#32
  let arg9 : BitVec 32 := Scf.iv c0_i32_30 c1_i32_32 k0_t3
  let c16_i32_154 : BitVec 32 := 16#32
  let v324 : BitVec 32 := Scalar.muli arg9 c16_i32_154
  let c6_i32 : BitVec 32 := 6#32
  let v401 : BitVec 32 := Scalar.addi v324 c6_i32
  let v402 : Index := Scalar.indexCast v401
  ![1, v402.toNat]
def k0_off79 (v403 : BitVec 32) : Fin 3 → Nat :=
  let v404 : Index := Scalar.indexCast v403
  let c0_182 : Index := 0#32
  let c0_183 : Index := 0#32
  ![v404.toNat, 0, 0]

def k0_chk41 (v403 : BitVec 32) : Prop :=
  (∀ a, (k0_off79 v403) a + S1x1x128.size a ≤ S100000x1x128.size a)
theorem k0_off79_inb : ∀ (v403 : BitVec 32) (k0_hw41 : k0_chk41 v403), ∀ a, (k0_off79 v403) a + S1x1x128.size a ≤ S100000x1x128.size a := fun v403 k0_hw41 => k0_hw41

def k0_off80 (v48 : BitVec 32) (k0_t3 : Fin (k0_t3_loop v48).trips) : Fin 2 → Nat :=
  let c1_185 : Index := 1#32
  let c0_i32_30 : BitVec 32 := 0#32
  let c1_i32_32 : BitVec 32 := 1#32
  let arg9 : BitVec 32 := Scf.iv c0_i32_30 c1_i32_32 k0_t3
  let c16_i32_154 : BitVec 32 := 16#32
  let v324 : BitVec 32 := Scalar.muli arg9 c16_i32_154
  let c7_i32 : BitVec 32 := 7#32
  let v415 : BitVec 32 := Scalar.addi v324 c7_i32
  let v416 : Index := Scalar.indexCast v415
  ![1, v416.toNat]
def k0_off81 (v417 : BitVec 32) : Fin 3 → Nat :=
  let v418 : Index := Scalar.indexCast v417
  let c0_186 : Index := 0#32
  let c0_187 : Index := 0#32
  ![v418.toNat, 0, 0]

def k0_chk42 (v417 : BitVec 32) : Prop :=
  (∀ a, (k0_off81 v417) a + S1x1x128.size a ≤ S100000x1x128.size a)
theorem k0_off81_inb : ∀ (v417 : BitVec 32) (k0_hw42 : k0_chk42 v417), ∀ a, (k0_off81 v417) a + S1x1x128.size a ≤ S100000x1x128.size a := fun v417 k0_hw42 => k0_hw42

def k0_off82 (v48 : BitVec 32) (k0_t3 : Fin (k0_t3_loop v48).trips) : Fin 2 → Nat :=
  let c1_189 : Index := 1#32
  let c0_i32_30 : BitVec 32 := 0#32
  let c1_i32_32 : BitVec 32 := 1#32
  let arg9 : BitVec 32 := Scf.iv c0_i32_30 c1_i32_32 k0_t3
  let c16_i32_154 : BitVec 32 := 16#32
  let v324 : BitVec 32 := Scalar.muli arg9 c16_i32_154
  let c8_i32 : BitVec 32 := 8#32
  let v429 : BitVec 32 := Scalar.addi v324 c8_i32
  let v430 : Index := Scalar.indexCast v429
  ![1, v430.toNat]
def k0_off83 (v431 : BitVec 32) : Fin 3 → Nat :=
  let v432 : Index := Scalar.indexCast v431
  let c0_190 : Index := 0#32
  let c0_191 : Index := 0#32
  ![v432.toNat, 0, 0]

def k0_chk43 (v431 : BitVec 32) : Prop :=
  (∀ a, (k0_off83 v431) a + S1x1x128.size a ≤ S100000x1x128.size a)
theorem k0_off83_inb : ∀ (v431 : BitVec 32) (k0_hw43 : k0_chk43 v431), ∀ a, (k0_off83 v431) a + S1x1x128.size a ≤ S100000x1x128.size a := fun v431 k0_hw43 => k0_hw43

def k0_off84 (v48 : BitVec 32) (k0_t3 : Fin (k0_t3_loop v48).trips) : Fin 2 → Nat :=
  let c1_193 : Index := 1#32
  let c0_i32_30 : BitVec 32 := 0#32
  let c1_i32_32 : BitVec 32 := 1#32
  let arg9 : BitVec 32 := Scf.iv c0_i32_30 c1_i32_32 k0_t3
  let c16_i32_154 : BitVec 32 := 16#32
  let v324 : BitVec 32 := Scalar.muli arg9 c16_i32_154
  let c9_i32 : BitVec 32 := 9#32
  let v443 : BitVec 32 := Scalar.addi v324 c9_i32
  let v444 : Index := Scalar.indexCast v443
  ![1, v444.toNat]
def k0_off85 (v445 : BitVec 32) : Fin 3 → Nat :=
  let v446 : Index := Scalar.indexCast v445
  let c0_194 : Index := 0#32
  let c0_195 : Index := 0#32
  ![v446.toNat, 0, 0]

def k0_chk44 (v445 : BitVec 32) : Prop :=
  (∀ a, (k0_off85 v445) a + S1x1x128.size a ≤ S100000x1x128.size a)
theorem k0_off85_inb : ∀ (v445 : BitVec 32) (k0_hw44 : k0_chk44 v445), ∀ a, (k0_off85 v445) a + S1x1x128.size a ≤ S100000x1x128.size a := fun v445 k0_hw44 => k0_hw44

def k0_off86 (v48 : BitVec 32) (k0_t3 : Fin (k0_t3_loop v48).trips) : Fin 2 → Nat :=
  let c1_197 : Index := 1#32
  let c0_i32_30 : BitVec 32 := 0#32
  let c1_i32_32 : BitVec 32 := 1#32
  let arg9 : BitVec 32 := Scf.iv c0_i32_30 c1_i32_32 k0_t3
  let c16_i32_154 : BitVec 32 := 16#32
  let v324 : BitVec 32 := Scalar.muli arg9 c16_i32_154
  let c10_i32 : BitVec 32 := 10#32
  let v457 : BitVec 32 := Scalar.addi v324 c10_i32
  let v458 : Index := Scalar.indexCast v457
  ![1, v458.toNat]
def k0_off87 (v459 : BitVec 32) : Fin 3 → Nat :=
  let v460 : Index := Scalar.indexCast v459
  let c0_198 : Index := 0#32
  let c0_199 : Index := 0#32
  ![v460.toNat, 0, 0]

def k0_chk45 (v459 : BitVec 32) : Prop :=
  (∀ a, (k0_off87 v459) a + S1x1x128.size a ≤ S100000x1x128.size a)
theorem k0_off87_inb : ∀ (v459 : BitVec 32) (k0_hw45 : k0_chk45 v459), ∀ a, (k0_off87 v459) a + S1x1x128.size a ≤ S100000x1x128.size a := fun v459 k0_hw45 => k0_hw45

def k0_off88 (v48 : BitVec 32) (k0_t3 : Fin (k0_t3_loop v48).trips) : Fin 2 → Nat :=
  let c1_201 : Index := 1#32
  let c0_i32_30 : BitVec 32 := 0#32
  let c1_i32_32 : BitVec 32 := 1#32
  let arg9 : BitVec 32 := Scf.iv c0_i32_30 c1_i32_32 k0_t3
  let c16_i32_154 : BitVec 32 := 16#32
  let v324 : BitVec 32 := Scalar.muli arg9 c16_i32_154
  let c11_i32 : BitVec 32 := 11#32
  let v471 : BitVec 32 := Scalar.addi v324 c11_i32
  let v472 : Index := Scalar.indexCast v471
  ![1, v472.toNat]
def k0_off89 (v473 : BitVec 32) : Fin 3 → Nat :=
  let v474 : Index := Scalar.indexCast v473
  let c0_202 : Index := 0#32
  let c0_203 : Index := 0#32
  ![v474.toNat, 0, 0]

def k0_chk46 (v473 : BitVec 32) : Prop :=
  (∀ a, (k0_off89 v473) a + S1x1x128.size a ≤ S100000x1x128.size a)
theorem k0_off89_inb : ∀ (v473 : BitVec 32) (k0_hw46 : k0_chk46 v473), ∀ a, (k0_off89 v473) a + S1x1x128.size a ≤ S100000x1x128.size a := fun v473 k0_hw46 => k0_hw46

def k0_off90 (v48 : BitVec 32) (k0_t3 : Fin (k0_t3_loop v48).trips) : Fin 2 → Nat :=
  let c1_205 : Index := 1#32
  let c0_i32_30 : BitVec 32 := 0#32
  let c1_i32_32 : BitVec 32 := 1#32
  let arg9 : BitVec 32 := Scf.iv c0_i32_30 c1_i32_32 k0_t3
  let c16_i32_154 : BitVec 32 := 16#32
  let v324 : BitVec 32 := Scalar.muli arg9 c16_i32_154
  let c12_i32 : BitVec 32 := 12#32
  let v485 : BitVec 32 := Scalar.addi v324 c12_i32
  let v486 : Index := Scalar.indexCast v485
  ![1, v486.toNat]
def k0_off91 (v487 : BitVec 32) : Fin 3 → Nat :=
  let v488 : Index := Scalar.indexCast v487
  let c0_206 : Index := 0#32
  let c0_207 : Index := 0#32
  ![v488.toNat, 0, 0]

def k0_chk47 (v487 : BitVec 32) : Prop :=
  (∀ a, (k0_off91 v487) a + S1x1x128.size a ≤ S100000x1x128.size a)
theorem k0_off91_inb : ∀ (v487 : BitVec 32) (k0_hw47 : k0_chk47 v487), ∀ a, (k0_off91 v487) a + S1x1x128.size a ≤ S100000x1x128.size a := fun v487 k0_hw47 => k0_hw47

def k0_off92 (v48 : BitVec 32) (k0_t3 : Fin (k0_t3_loop v48).trips) : Fin 2 → Nat :=
  let c1_209 : Index := 1#32
  let c0_i32_30 : BitVec 32 := 0#32
  let c1_i32_32 : BitVec 32 := 1#32
  let arg9 : BitVec 32 := Scf.iv c0_i32_30 c1_i32_32 k0_t3
  let c16_i32_154 : BitVec 32 := 16#32
  let v324 : BitVec 32 := Scalar.muli arg9 c16_i32_154
  let c13_i32 : BitVec 32 := 13#32
  let v499 : BitVec 32 := Scalar.addi v324 c13_i32
  let v500 : Index := Scalar.indexCast v499
  ![1, v500.toNat]
def k0_off93 (v501 : BitVec 32) : Fin 3 → Nat :=
  let v502 : Index := Scalar.indexCast v501
  let c0_210 : Index := 0#32
  let c0_211 : Index := 0#32
  ![v502.toNat, 0, 0]

def k0_chk48 (v501 : BitVec 32) : Prop :=
  (∀ a, (k0_off93 v501) a + S1x1x128.size a ≤ S100000x1x128.size a)
theorem k0_off93_inb : ∀ (v501 : BitVec 32) (k0_hw48 : k0_chk48 v501), ∀ a, (k0_off93 v501) a + S1x1x128.size a ≤ S100000x1x128.size a := fun v501 k0_hw48 => k0_hw48

def k0_off94 (v48 : BitVec 32) (k0_t3 : Fin (k0_t3_loop v48).trips) : Fin 2 → Nat :=
  let c1_213 : Index := 1#32
  let c0_i32_30 : BitVec 32 := 0#32
  let c1_i32_32 : BitVec 32 := 1#32
  let arg9 : BitVec 32 := Scf.iv c0_i32_30 c1_i32_32 k0_t3
  let c16_i32_154 : BitVec 32 := 16#32
  let v324 : BitVec 32 := Scalar.muli arg9 c16_i32_154
  let c14_i32 : BitVec 32 := 14#32
  let v513 : BitVec 32 := Scalar.addi v324 c14_i32
  let v514 : Index := Scalar.indexCast v513
  ![1, v514.toNat]
def k0_off95 (v515 : BitVec 32) : Fin 3 → Nat :=
  let v516 : Index := Scalar.indexCast v515
  let c0_214 : Index := 0#32
  let c0_215 : Index := 0#32
  ![v516.toNat, 0, 0]

def k0_chk49 (v515 : BitVec 32) : Prop :=
  (∀ a, (k0_off95 v515) a + S1x1x128.size a ≤ S100000x1x128.size a)
theorem k0_off95_inb : ∀ (v515 : BitVec 32) (k0_hw49 : k0_chk49 v515), ∀ a, (k0_off95 v515) a + S1x1x128.size a ≤ S100000x1x128.size a := fun v515 k0_hw49 => k0_hw49

def k0_off96 (v48 : BitVec 32) (k0_t3 : Fin (k0_t3_loop v48).trips) : Fin 2 → Nat :=
  let c1_218 : Index := 1#32
  let c0_i32_30 : BitVec 32 := 0#32
  let c1_i32_32 : BitVec 32 := 1#32
  let arg9 : BitVec 32 := Scf.iv c0_i32_30 c1_i32_32 k0_t3
  let c16_i32_154 : BitVec 32 := 16#32
  let v324 : BitVec 32 := Scalar.muli arg9 c16_i32_154
  let c15_i32_217 : BitVec 32 := 15#32
  let v527 : BitVec 32 := Scalar.addi v324 c15_i32_217
  let v528 : Index := Scalar.indexCast v527
  ![1, v528.toNat]
def k0_off97 (v529 : BitVec 32) : Fin 3 → Nat :=
  let v530 : Index := Scalar.indexCast v529
  let c0_219 : Index := 0#32
  let c0_220 : Index := 0#32
  ![v530.toNat, 0, 0]

def k0_chk50 (v529 : BitVec 32) : Prop :=
  (∀ a, (k0_off97 v529) a + S1x1x128.size a ≤ S100000x1x128.size a)
theorem k0_off97_inb : ∀ (v529 : BitVec 32) (k0_hw50 : k0_chk50 v529), ∀ a, (k0_off97 v529) a + S1x1x128.size a ≤ S100000x1x128.size a := fun v529 k0_hw50 => k0_hw50

@[reducible] def k0_t4_loop (v48 : BitVec 32) : Scf.Loop 32 :=
  let c0_i32_30 : BitVec 32 := 0#32
  let c15_i32_20 : BitVec 32 := 15#32
  let v49 : BitVec 32 := Scalar.addi v48 c15_i32_20
  let c0_i32_22 : BitVec 32 := 0#32
  let v51 : BitVec 1 := Scalar.cmpi .sgt v49 c0_i32_22
  let v52 : BitVec 32 := Scalar.extui v51
  let c0_i32_23 : BitVec 32 := 0#32
  let v53 : BitVec 1 := Scalar.cmpi .slt v49 c0_i32_23
  let v54 : BitVec 32 := Scalar.extui v53
  let v55 : BitVec 32 := Scalar.subi v52 v54
  let c16_i32_21 : BitVec 32 := 16#32
  let c0_i32_24 : BitVec 32 := 0#32
  let v56 : BitVec 1 := Scalar.cmpi .sgt c16_i32_21 c0_i32_24
  let v57 : BitVec 32 := Scalar.extui v56
  let c0_i32_25 : BitVec 32 := 0#32
  let v58 : BitVec 1 := Scalar.cmpi .slt c16_i32_21 c0_i32_25
  let v59 : BitVec 32 := Scalar.extui v58
  let v60 : BitVec 32 := Scalar.subi v57 v59
  let v61 : BitVec 1 := Scalar.cmpi .ne v55 v60
  let v62 : BitVec 32 := Scalar.remsi v49 c16_i32_21
  let c0_i32_26 : BitVec 32 := 0#32
  let v63 : BitVec 1 := Scalar.cmpi .ne v62 c0_i32_26
  let v64 : BitVec 1 := Scalar.andi v61 v63
  let v50 : BitVec 32 := Scalar.divsi v49 c16_i32_21
  let c1_i32_27 : BitVec 32 := 1#32
  let v65 : BitVec 32 := Scalar.subi v50 c1_i32_27
  let v66 : BitVec 32 := Scalar.select v64 v65 v50
  let v68 : BitVec 32 := Scalar.subi v66 c0_i32_30
  let c1_i32_31 : BitVec 32 := 1#32
  let v70 : BitVec 32 := Scalar.divsi v68 c1_i32_31
  let v71 : BitVec 32 := Scalar.muli v70 c1_i32_31
  let v72 : BitVec 32 := Scalar.addi c0_i32_30 v71
  let v69 : BitVec 32 := Scalar.addi c0_i32_30 v68
  let c1_i32_33 : BitVec 32 := 1#32
  ⟨v72, v69, c1_i32_33⟩
def k0_off98 (v48 : BitVec 32) (k0_t4 : Fin (k0_t4_loop v48).trips) : Fin 2 → Nat :=
  let c1_156 : Index := 1#32
  let c0_i32_30 : BitVec 32 := 0#32
  let c15_i32_20 : BitVec 32 := 15#32
  let v49 : BitVec 32 := Scalar.addi v48 c15_i32_20
  let c0_i32_22 : BitVec 32 := 0#32
  let v51 : BitVec 1 := Scalar.cmpi .sgt v49 c0_i32_22
  let v52 : BitVec 32 := Scalar.extui v51
  let c0_i32_23 : BitVec 32 := 0#32
  let v53 : BitVec 1 := Scalar.cmpi .slt v49 c0_i32_23
  let v54 : BitVec 32 := Scalar.extui v53
  let v55 : BitVec 32 := Scalar.subi v52 v54
  let c16_i32_21 : BitVec 32 := 16#32
  let c0_i32_24 : BitVec 32 := 0#32
  let v56 : BitVec 1 := Scalar.cmpi .sgt c16_i32_21 c0_i32_24
  let v57 : BitVec 32 := Scalar.extui v56
  let c0_i32_25 : BitVec 32 := 0#32
  let v58 : BitVec 1 := Scalar.cmpi .slt c16_i32_21 c0_i32_25
  let v59 : BitVec 32 := Scalar.extui v58
  let v60 : BitVec 32 := Scalar.subi v57 v59
  let v61 : BitVec 1 := Scalar.cmpi .ne v55 v60
  let v62 : BitVec 32 := Scalar.remsi v49 c16_i32_21
  let c0_i32_26 : BitVec 32 := 0#32
  let v63 : BitVec 1 := Scalar.cmpi .ne v62 c0_i32_26
  let v64 : BitVec 1 := Scalar.andi v61 v63
  let v50 : BitVec 32 := Scalar.divsi v49 c16_i32_21
  let c1_i32_27 : BitVec 32 := 1#32
  let v65 : BitVec 32 := Scalar.subi v50 c1_i32_27
  let v66 : BitVec 32 := Scalar.select v64 v65 v50
  let v68 : BitVec 32 := Scalar.subi v66 c0_i32_30
  let c1_i32_31 : BitVec 32 := 1#32
  let v70 : BitVec 32 := Scalar.divsi v68 c1_i32_31
  let v71 : BitVec 32 := Scalar.muli v70 c1_i32_31
  let v72 : BitVec 32 := Scalar.addi c0_i32_30 v71
  let c1_i32_33 : BitVec 32 := 1#32
  let arg9 : BitVec 32 := Scf.iv v72 c1_i32_33 k0_t4
  let c16_i32_154 : BitVec 32 := 16#32
  let v324 : BitVec 32 := Scalar.muli arg9 c16_i32_154
  let c0_i32_155 : BitVec 32 := 0#32
  let v325 : BitVec 32 := Scalar.addi v324 c0_i32_155
  let v326 : Index := Scalar.indexCast v325
  ![1, v326.toNat]
def k0_off99 (v327 : BitVec 32) : Fin 3 → Nat :=
  let v328 : Index := Scalar.indexCast v327
  let c0_157 : Index := 0#32
  let c0_158 : Index := 0#32
  ![v328.toNat, 0, 0]

def k0_chk51 (v327 : BitVec 32) : Prop :=
  (∀ a, (k0_off99 v327) a + S1x1x128.size a ≤ S100000x1x128.size a)
theorem k0_off99_inb : ∀ (v327 : BitVec 32) (k0_hw51 : k0_chk51 v327), ∀ a, (k0_off99 v327) a + S1x1x128.size a ≤ S100000x1x128.size a := fun v327 k0_hw51 => k0_hw51

def k0_off100 (v48 : BitVec 32) (k0_t4 : Fin (k0_t4_loop v48).trips) : Fin 2 → Nat :=
  let c1_161 : Index := 1#32
  let c0_i32_30 : BitVec 32 := 0#32
  let c15_i32_20 : BitVec 32 := 15#32
  let v49 : BitVec 32 := Scalar.addi v48 c15_i32_20
  let c0_i32_22 : BitVec 32 := 0#32
  let v51 : BitVec 1 := Scalar.cmpi .sgt v49 c0_i32_22
  let v52 : BitVec 32 := Scalar.extui v51
  let c0_i32_23 : BitVec 32 := 0#32
  let v53 : BitVec 1 := Scalar.cmpi .slt v49 c0_i32_23
  let v54 : BitVec 32 := Scalar.extui v53
  let v55 : BitVec 32 := Scalar.subi v52 v54
  let c16_i32_21 : BitVec 32 := 16#32
  let c0_i32_24 : BitVec 32 := 0#32
  let v56 : BitVec 1 := Scalar.cmpi .sgt c16_i32_21 c0_i32_24
  let v57 : BitVec 32 := Scalar.extui v56
  let c0_i32_25 : BitVec 32 := 0#32
  let v58 : BitVec 1 := Scalar.cmpi .slt c16_i32_21 c0_i32_25
  let v59 : BitVec 32 := Scalar.extui v58
  let v60 : BitVec 32 := Scalar.subi v57 v59
  let v61 : BitVec 1 := Scalar.cmpi .ne v55 v60
  let v62 : BitVec 32 := Scalar.remsi v49 c16_i32_21
  let c0_i32_26 : BitVec 32 := 0#32
  let v63 : BitVec 1 := Scalar.cmpi .ne v62 c0_i32_26
  let v64 : BitVec 1 := Scalar.andi v61 v63
  let v50 : BitVec 32 := Scalar.divsi v49 c16_i32_21
  let c1_i32_27 : BitVec 32 := 1#32
  let v65 : BitVec 32 := Scalar.subi v50 c1_i32_27
  let v66 : BitVec 32 := Scalar.select v64 v65 v50
  let v68 : BitVec 32 := Scalar.subi v66 c0_i32_30
  let c1_i32_31 : BitVec 32 := 1#32
  let v70 : BitVec 32 := Scalar.divsi v68 c1_i32_31
  let v71 : BitVec 32 := Scalar.muli v70 c1_i32_31
  let v72 : BitVec 32 := Scalar.addi c0_i32_30 v71
  let c1_i32_33 : BitVec 32 := 1#32
  let arg9 : BitVec 32 := Scf.iv v72 c1_i32_33 k0_t4
  let c16_i32_154 : BitVec 32 := 16#32
  let v324 : BitVec 32 := Scalar.muli arg9 c16_i32_154
  let c1_i32_160 : BitVec 32 := 1#32
  let v337 : BitVec 32 := Scalar.addi v324 c1_i32_160
  let v338 : Index := Scalar.indexCast v337
  ![1, v338.toNat]
def k0_off101 (v339 : BitVec 32) : Fin 3 → Nat :=
  let v340 : Index := Scalar.indexCast v339
  let c0_162 : Index := 0#32
  let c0_163 : Index := 0#32
  ![v340.toNat, 0, 0]

def k0_chk52 (v339 : BitVec 32) : Prop :=
  (∀ a, (k0_off101 v339) a + S1x1x128.size a ≤ S100000x1x128.size a)
theorem k0_off101_inb : ∀ (v339 : BitVec 32) (k0_hw52 : k0_chk52 v339), ∀ a, (k0_off101 v339) a + S1x1x128.size a ≤ S100000x1x128.size a := fun v339 k0_hw52 => k0_hw52

def k0_off102 (v48 : BitVec 32) (k0_t4 : Fin (k0_t4_loop v48).trips) : Fin 2 → Nat :=
  let c1_165 : Index := 1#32
  let c0_i32_30 : BitVec 32 := 0#32
  let c15_i32_20 : BitVec 32 := 15#32
  let v49 : BitVec 32 := Scalar.addi v48 c15_i32_20
  let c0_i32_22 : BitVec 32 := 0#32
  let v51 : BitVec 1 := Scalar.cmpi .sgt v49 c0_i32_22
  let v52 : BitVec 32 := Scalar.extui v51
  let c0_i32_23 : BitVec 32 := 0#32
  let v53 : BitVec 1 := Scalar.cmpi .slt v49 c0_i32_23
  let v54 : BitVec 32 := Scalar.extui v53
  let v55 : BitVec 32 := Scalar.subi v52 v54
  let c16_i32_21 : BitVec 32 := 16#32
  let c0_i32_24 : BitVec 32 := 0#32
  let v56 : BitVec 1 := Scalar.cmpi .sgt c16_i32_21 c0_i32_24
  let v57 : BitVec 32 := Scalar.extui v56
  let c0_i32_25 : BitVec 32 := 0#32
  let v58 : BitVec 1 := Scalar.cmpi .slt c16_i32_21 c0_i32_25
  let v59 : BitVec 32 := Scalar.extui v58
  let v60 : BitVec 32 := Scalar.subi v57 v59
  let v61 : BitVec 1 := Scalar.cmpi .ne v55 v60
  let v62 : BitVec 32 := Scalar.remsi v49 c16_i32_21
  let c0_i32_26 : BitVec 32 := 0#32
  let v63 : BitVec 1 := Scalar.cmpi .ne v62 c0_i32_26
  let v64 : BitVec 1 := Scalar.andi v61 v63
  let v50 : BitVec 32 := Scalar.divsi v49 c16_i32_21
  let c1_i32_27 : BitVec 32 := 1#32
  let v65 : BitVec 32 := Scalar.subi v50 c1_i32_27
  let v66 : BitVec 32 := Scalar.select v64 v65 v50
  let v68 : BitVec 32 := Scalar.subi v66 c0_i32_30
  let c1_i32_31 : BitVec 32 := 1#32
  let v70 : BitVec 32 := Scalar.divsi v68 c1_i32_31
  let v71 : BitVec 32 := Scalar.muli v70 c1_i32_31
  let v72 : BitVec 32 := Scalar.addi c0_i32_30 v71
  let c1_i32_33 : BitVec 32 := 1#32
  let arg9 : BitVec 32 := Scf.iv v72 c1_i32_33 k0_t4
  let c16_i32_154 : BitVec 32 := 16#32
  let v324 : BitVec 32 := Scalar.muli arg9 c16_i32_154
  let c2_i32 : BitVec 32 := 2#32
  let v349 : BitVec 32 := Scalar.addi v324 c2_i32
  let v350 : Index := Scalar.indexCast v349
  ![1, v350.toNat]
def k0_off103 (v351 : BitVec 32) : Fin 3 → Nat :=
  let v352 : Index := Scalar.indexCast v351
  let c0_166 : Index := 0#32
  let c0_167 : Index := 0#32
  ![v352.toNat, 0, 0]

def k0_chk53 (v351 : BitVec 32) : Prop :=
  (∀ a, (k0_off103 v351) a + S1x1x128.size a ≤ S100000x1x128.size a)
theorem k0_off103_inb : ∀ (v351 : BitVec 32) (k0_hw53 : k0_chk53 v351), ∀ a, (k0_off103 v351) a + S1x1x128.size a ≤ S100000x1x128.size a := fun v351 k0_hw53 => k0_hw53

def k0_off104 (v48 : BitVec 32) (k0_t4 : Fin (k0_t4_loop v48).trips) : Fin 2 → Nat :=
  let c1_169 : Index := 1#32
  let c0_i32_30 : BitVec 32 := 0#32
  let c15_i32_20 : BitVec 32 := 15#32
  let v49 : BitVec 32 := Scalar.addi v48 c15_i32_20
  let c0_i32_22 : BitVec 32 := 0#32
  let v51 : BitVec 1 := Scalar.cmpi .sgt v49 c0_i32_22
  let v52 : BitVec 32 := Scalar.extui v51
  let c0_i32_23 : BitVec 32 := 0#32
  let v53 : BitVec 1 := Scalar.cmpi .slt v49 c0_i32_23
  let v54 : BitVec 32 := Scalar.extui v53
  let v55 : BitVec 32 := Scalar.subi v52 v54
  let c16_i32_21 : BitVec 32 := 16#32
  let c0_i32_24 : BitVec 32 := 0#32
  let v56 : BitVec 1 := Scalar.cmpi .sgt c16_i32_21 c0_i32_24
  let v57 : BitVec 32 := Scalar.extui v56
  let c0_i32_25 : BitVec 32 := 0#32
  let v58 : BitVec 1 := Scalar.cmpi .slt c16_i32_21 c0_i32_25
  let v59 : BitVec 32 := Scalar.extui v58
  let v60 : BitVec 32 := Scalar.subi v57 v59
  let v61 : BitVec 1 := Scalar.cmpi .ne v55 v60
  let v62 : BitVec 32 := Scalar.remsi v49 c16_i32_21
  let c0_i32_26 : BitVec 32 := 0#32
  let v63 : BitVec 1 := Scalar.cmpi .ne v62 c0_i32_26
  let v64 : BitVec 1 := Scalar.andi v61 v63
  let v50 : BitVec 32 := Scalar.divsi v49 c16_i32_21
  let c1_i32_27 : BitVec 32 := 1#32
  let v65 : BitVec 32 := Scalar.subi v50 c1_i32_27
  let v66 : BitVec 32 := Scalar.select v64 v65 v50
  let v68 : BitVec 32 := Scalar.subi v66 c0_i32_30
  let c1_i32_31 : BitVec 32 := 1#32
  let v70 : BitVec 32 := Scalar.divsi v68 c1_i32_31
  let v71 : BitVec 32 := Scalar.muli v70 c1_i32_31
  let v72 : BitVec 32 := Scalar.addi c0_i32_30 v71
  let c1_i32_33 : BitVec 32 := 1#32
  let arg9 : BitVec 32 := Scf.iv v72 c1_i32_33 k0_t4
  let c16_i32_154 : BitVec 32 := 16#32
  let v324 : BitVec 32 := Scalar.muli arg9 c16_i32_154
  let c3_i32 : BitVec 32 := 3#32
  let v361 : BitVec 32 := Scalar.addi v324 c3_i32
  let v362 : Index := Scalar.indexCast v361
  ![1, v362.toNat]
def k0_off105 (v363 : BitVec 32) : Fin 3 → Nat :=
  let v364 : Index := Scalar.indexCast v363
  let c0_170 : Index := 0#32
  let c0_171 : Index := 0#32
  ![v364.toNat, 0, 0]

def k0_chk54 (v363 : BitVec 32) : Prop :=
  (∀ a, (k0_off105 v363) a + S1x1x128.size a ≤ S100000x1x128.size a)
theorem k0_off105_inb : ∀ (v363 : BitVec 32) (k0_hw54 : k0_chk54 v363), ∀ a, (k0_off105 v363) a + S1x1x128.size a ≤ S100000x1x128.size a := fun v363 k0_hw54 => k0_hw54

def k0_off106 (v48 : BitVec 32) (k0_t4 : Fin (k0_t4_loop v48).trips) : Fin 2 → Nat :=
  let c1_173 : Index := 1#32
  let c0_i32_30 : BitVec 32 := 0#32
  let c15_i32_20 : BitVec 32 := 15#32
  let v49 : BitVec 32 := Scalar.addi v48 c15_i32_20
  let c0_i32_22 : BitVec 32 := 0#32
  let v51 : BitVec 1 := Scalar.cmpi .sgt v49 c0_i32_22
  let v52 : BitVec 32 := Scalar.extui v51
  let c0_i32_23 : BitVec 32 := 0#32
  let v53 : BitVec 1 := Scalar.cmpi .slt v49 c0_i32_23
  let v54 : BitVec 32 := Scalar.extui v53
  let v55 : BitVec 32 := Scalar.subi v52 v54
  let c16_i32_21 : BitVec 32 := 16#32
  let c0_i32_24 : BitVec 32 := 0#32
  let v56 : BitVec 1 := Scalar.cmpi .sgt c16_i32_21 c0_i32_24
  let v57 : BitVec 32 := Scalar.extui v56
  let c0_i32_25 : BitVec 32 := 0#32
  let v58 : BitVec 1 := Scalar.cmpi .slt c16_i32_21 c0_i32_25
  let v59 : BitVec 32 := Scalar.extui v58
  let v60 : BitVec 32 := Scalar.subi v57 v59
  let v61 : BitVec 1 := Scalar.cmpi .ne v55 v60
  let v62 : BitVec 32 := Scalar.remsi v49 c16_i32_21
  let c0_i32_26 : BitVec 32 := 0#32
  let v63 : BitVec 1 := Scalar.cmpi .ne v62 c0_i32_26
  let v64 : BitVec 1 := Scalar.andi v61 v63
  let v50 : BitVec 32 := Scalar.divsi v49 c16_i32_21
  let c1_i32_27 : BitVec 32 := 1#32
  let v65 : BitVec 32 := Scalar.subi v50 c1_i32_27
  let v66 : BitVec 32 := Scalar.select v64 v65 v50
  let v68 : BitVec 32 := Scalar.subi v66 c0_i32_30
  let c1_i32_31 : BitVec 32 := 1#32
  let v70 : BitVec 32 := Scalar.divsi v68 c1_i32_31
  let v71 : BitVec 32 := Scalar.muli v70 c1_i32_31
  let v72 : BitVec 32 := Scalar.addi c0_i32_30 v71
  let c1_i32_33 : BitVec 32 := 1#32
  let arg9 : BitVec 32 := Scf.iv v72 c1_i32_33 k0_t4
  let c16_i32_154 : BitVec 32 := 16#32
  let v324 : BitVec 32 := Scalar.muli arg9 c16_i32_154
  let c4_i32 : BitVec 32 := 4#32
  let v373 : BitVec 32 := Scalar.addi v324 c4_i32
  let v374 : Index := Scalar.indexCast v373
  ![1, v374.toNat]
def k0_off107 (v375 : BitVec 32) : Fin 3 → Nat :=
  let v376 : Index := Scalar.indexCast v375
  let c0_174 : Index := 0#32
  let c0_175 : Index := 0#32
  ![v376.toNat, 0, 0]

def k0_chk55 (v375 : BitVec 32) : Prop :=
  (∀ a, (k0_off107 v375) a + S1x1x128.size a ≤ S100000x1x128.size a)
theorem k0_off107_inb : ∀ (v375 : BitVec 32) (k0_hw55 : k0_chk55 v375), ∀ a, (k0_off107 v375) a + S1x1x128.size a ≤ S100000x1x128.size a := fun v375 k0_hw55 => k0_hw55

def k0_off108 (v48 : BitVec 32) (k0_t4 : Fin (k0_t4_loop v48).trips) : Fin 2 → Nat :=
  let c1_177 : Index := 1#32
  let c0_i32_30 : BitVec 32 := 0#32
  let c15_i32_20 : BitVec 32 := 15#32
  let v49 : BitVec 32 := Scalar.addi v48 c15_i32_20
  let c0_i32_22 : BitVec 32 := 0#32
  let v51 : BitVec 1 := Scalar.cmpi .sgt v49 c0_i32_22
  let v52 : BitVec 32 := Scalar.extui v51
  let c0_i32_23 : BitVec 32 := 0#32
  let v53 : BitVec 1 := Scalar.cmpi .slt v49 c0_i32_23
  let v54 : BitVec 32 := Scalar.extui v53
  let v55 : BitVec 32 := Scalar.subi v52 v54
  let c16_i32_21 : BitVec 32 := 16#32
  let c0_i32_24 : BitVec 32 := 0#32
  let v56 : BitVec 1 := Scalar.cmpi .sgt c16_i32_21 c0_i32_24
  let v57 : BitVec 32 := Scalar.extui v56
  let c0_i32_25 : BitVec 32 := 0#32
  let v58 : BitVec 1 := Scalar.cmpi .slt c16_i32_21 c0_i32_25
  let v59 : BitVec 32 := Scalar.extui v58
  let v60 : BitVec 32 := Scalar.subi v57 v59
  let v61 : BitVec 1 := Scalar.cmpi .ne v55 v60
  let v62 : BitVec 32 := Scalar.remsi v49 c16_i32_21
  let c0_i32_26 : BitVec 32 := 0#32
  let v63 : BitVec 1 := Scalar.cmpi .ne v62 c0_i32_26
  let v64 : BitVec 1 := Scalar.andi v61 v63
  let v50 : BitVec 32 := Scalar.divsi v49 c16_i32_21
  let c1_i32_27 : BitVec 32 := 1#32
  let v65 : BitVec 32 := Scalar.subi v50 c1_i32_27
  let v66 : BitVec 32 := Scalar.select v64 v65 v50
  let v68 : BitVec 32 := Scalar.subi v66 c0_i32_30
  let c1_i32_31 : BitVec 32 := 1#32
  let v70 : BitVec 32 := Scalar.divsi v68 c1_i32_31
  let v71 : BitVec 32 := Scalar.muli v70 c1_i32_31
  let v72 : BitVec 32 := Scalar.addi c0_i32_30 v71
  let c1_i32_33 : BitVec 32 := 1#32
  let arg9 : BitVec 32 := Scf.iv v72 c1_i32_33 k0_t4
  let c16_i32_154 : BitVec 32 := 16#32
  let v324 : BitVec 32 := Scalar.muli arg9 c16_i32_154
  let c5_i32 : BitVec 32 := 5#32
  let v387 : BitVec 32 := Scalar.addi v324 c5_i32
  let v388 : Index := Scalar.indexCast v387
  ![1, v388.toNat]
def k0_off109 (v389 : BitVec 32) : Fin 3 → Nat :=
  let v390 : Index := Scalar.indexCast v389
  let c0_178 : Index := 0#32
  let c0_179 : Index := 0#32
  ![v390.toNat, 0, 0]

def k0_chk56 (v389 : BitVec 32) : Prop :=
  (∀ a, (k0_off109 v389) a + S1x1x128.size a ≤ S100000x1x128.size a)
theorem k0_off109_inb : ∀ (v389 : BitVec 32) (k0_hw56 : k0_chk56 v389), ∀ a, (k0_off109 v389) a + S1x1x128.size a ≤ S100000x1x128.size a := fun v389 k0_hw56 => k0_hw56

def k0_off110 (v48 : BitVec 32) (k0_t4 : Fin (k0_t4_loop v48).trips) : Fin 2 → Nat :=
  let c1_181 : Index := 1#32
  let c0_i32_30 : BitVec 32 := 0#32
  let c15_i32_20 : BitVec 32 := 15#32
  let v49 : BitVec 32 := Scalar.addi v48 c15_i32_20
  let c0_i32_22 : BitVec 32 := 0#32
  let v51 : BitVec 1 := Scalar.cmpi .sgt v49 c0_i32_22
  let v52 : BitVec 32 := Scalar.extui v51
  let c0_i32_23 : BitVec 32 := 0#32
  let v53 : BitVec 1 := Scalar.cmpi .slt v49 c0_i32_23
  let v54 : BitVec 32 := Scalar.extui v53
  let v55 : BitVec 32 := Scalar.subi v52 v54
  let c16_i32_21 : BitVec 32 := 16#32
  let c0_i32_24 : BitVec 32 := 0#32
  let v56 : BitVec 1 := Scalar.cmpi .sgt c16_i32_21 c0_i32_24
  let v57 : BitVec 32 := Scalar.extui v56
  let c0_i32_25 : BitVec 32 := 0#32
  let v58 : BitVec 1 := Scalar.cmpi .slt c16_i32_21 c0_i32_25
  let v59 : BitVec 32 := Scalar.extui v58
  let v60 : BitVec 32 := Scalar.subi v57 v59
  let v61 : BitVec 1 := Scalar.cmpi .ne v55 v60
  let v62 : BitVec 32 := Scalar.remsi v49 c16_i32_21
  let c0_i32_26 : BitVec 32 := 0#32
  let v63 : BitVec 1 := Scalar.cmpi .ne v62 c0_i32_26
  let v64 : BitVec 1 := Scalar.andi v61 v63
  let v50 : BitVec 32 := Scalar.divsi v49 c16_i32_21
  let c1_i32_27 : BitVec 32 := 1#32
  let v65 : BitVec 32 := Scalar.subi v50 c1_i32_27
  let v66 : BitVec 32 := Scalar.select v64 v65 v50
  let v68 : BitVec 32 := Scalar.subi v66 c0_i32_30
  let c1_i32_31 : BitVec 32 := 1#32
  let v70 : BitVec 32 := Scalar.divsi v68 c1_i32_31
  let v71 : BitVec 32 := Scalar.muli v70 c1_i32_31
  let v72 : BitVec 32 := Scalar.addi c0_i32_30 v71
  let c1_i32_33 : BitVec 32 := 1#32
  let arg9 : BitVec 32 := Scf.iv v72 c1_i32_33 k0_t4
  let c16_i32_154 : BitVec 32 := 16#32
  let v324 : BitVec 32 := Scalar.muli arg9 c16_i32_154
  let c6_i32 : BitVec 32 := 6#32
  let v401 : BitVec 32 := Scalar.addi v324 c6_i32
  let v402 : Index := Scalar.indexCast v401
  ![1, v402.toNat]
def k0_off111 (v403 : BitVec 32) : Fin 3 → Nat :=
  let v404 : Index := Scalar.indexCast v403
  let c0_182 : Index := 0#32
  let c0_183 : Index := 0#32
  ![v404.toNat, 0, 0]

def k0_chk57 (v403 : BitVec 32) : Prop :=
  (∀ a, (k0_off111 v403) a + S1x1x128.size a ≤ S100000x1x128.size a)
theorem k0_off111_inb : ∀ (v403 : BitVec 32) (k0_hw57 : k0_chk57 v403), ∀ a, (k0_off111 v403) a + S1x1x128.size a ≤ S100000x1x128.size a := fun v403 k0_hw57 => k0_hw57

def k0_off112 (v48 : BitVec 32) (k0_t4 : Fin (k0_t4_loop v48).trips) : Fin 2 → Nat :=
  let c1_185 : Index := 1#32
  let c0_i32_30 : BitVec 32 := 0#32
  let c15_i32_20 : BitVec 32 := 15#32
  let v49 : BitVec 32 := Scalar.addi v48 c15_i32_20
  let c0_i32_22 : BitVec 32 := 0#32
  let v51 : BitVec 1 := Scalar.cmpi .sgt v49 c0_i32_22
  let v52 : BitVec 32 := Scalar.extui v51
  let c0_i32_23 : BitVec 32 := 0#32
  let v53 : BitVec 1 := Scalar.cmpi .slt v49 c0_i32_23
  let v54 : BitVec 32 := Scalar.extui v53
  let v55 : BitVec 32 := Scalar.subi v52 v54
  let c16_i32_21 : BitVec 32 := 16#32
  let c0_i32_24 : BitVec 32 := 0#32
  let v56 : BitVec 1 := Scalar.cmpi .sgt c16_i32_21 c0_i32_24
  let v57 : BitVec 32 := Scalar.extui v56
  let c0_i32_25 : BitVec 32 := 0#32
  let v58 : BitVec 1 := Scalar.cmpi .slt c16_i32_21 c0_i32_25
  let v59 : BitVec 32 := Scalar.extui v58
  let v60 : BitVec 32 := Scalar.subi v57 v59
  let v61 : BitVec 1 := Scalar.cmpi .ne v55 v60
  let v62 : BitVec 32 := Scalar.remsi v49 c16_i32_21
  let c0_i32_26 : BitVec 32 := 0#32
  let v63 : BitVec 1 := Scalar.cmpi .ne v62 c0_i32_26
  let v64 : BitVec 1 := Scalar.andi v61 v63
  let v50 : BitVec 32 := Scalar.divsi v49 c16_i32_21
  let c1_i32_27 : BitVec 32 := 1#32
  let v65 : BitVec 32 := Scalar.subi v50 c1_i32_27
  let v66 : BitVec 32 := Scalar.select v64 v65 v50
  let v68 : BitVec 32 := Scalar.subi v66 c0_i32_30
  let c1_i32_31 : BitVec 32 := 1#32
  let v70 : BitVec 32 := Scalar.divsi v68 c1_i32_31
  let v71 : BitVec 32 := Scalar.muli v70 c1_i32_31
  let v72 : BitVec 32 := Scalar.addi c0_i32_30 v71
  let c1_i32_33 : BitVec 32 := 1#32
  let arg9 : BitVec 32 := Scf.iv v72 c1_i32_33 k0_t4
  let c16_i32_154 : BitVec 32 := 16#32
  let v324 : BitVec 32 := Scalar.muli arg9 c16_i32_154
  let c7_i32 : BitVec 32 := 7#32
  let v415 : BitVec 32 := Scalar.addi v324 c7_i32
  let v416 : Index := Scalar.indexCast v415
  ![1, v416.toNat]
def k0_off113 (v417 : BitVec 32) : Fin 3 → Nat :=
  let v418 : Index := Scalar.indexCast v417
  let c0_186 : Index := 0#32
  let c0_187 : Index := 0#32
  ![v418.toNat, 0, 0]

def k0_chk58 (v417 : BitVec 32) : Prop :=
  (∀ a, (k0_off113 v417) a + S1x1x128.size a ≤ S100000x1x128.size a)
theorem k0_off113_inb : ∀ (v417 : BitVec 32) (k0_hw58 : k0_chk58 v417), ∀ a, (k0_off113 v417) a + S1x1x128.size a ≤ S100000x1x128.size a := fun v417 k0_hw58 => k0_hw58

def k0_off114 (v48 : BitVec 32) (k0_t4 : Fin (k0_t4_loop v48).trips) : Fin 2 → Nat :=
  let c1_189 : Index := 1#32
  let c0_i32_30 : BitVec 32 := 0#32
  let c15_i32_20 : BitVec 32 := 15#32
  let v49 : BitVec 32 := Scalar.addi v48 c15_i32_20
  let c0_i32_22 : BitVec 32 := 0#32
  let v51 : BitVec 1 := Scalar.cmpi .sgt v49 c0_i32_22
  let v52 : BitVec 32 := Scalar.extui v51
  let c0_i32_23 : BitVec 32 := 0#32
  let v53 : BitVec 1 := Scalar.cmpi .slt v49 c0_i32_23
  let v54 : BitVec 32 := Scalar.extui v53
  let v55 : BitVec 32 := Scalar.subi v52 v54
  let c16_i32_21 : BitVec 32 := 16#32
  let c0_i32_24 : BitVec 32 := 0#32
  let v56 : BitVec 1 := Scalar.cmpi .sgt c16_i32_21 c0_i32_24
  let v57 : BitVec 32 := Scalar.extui v56
  let c0_i32_25 : BitVec 32 := 0#32
  let v58 : BitVec 1 := Scalar.cmpi .slt c16_i32_21 c0_i32_25
  let v59 : BitVec 32 := Scalar.extui v58
  let v60 : BitVec 32 := Scalar.subi v57 v59
  let v61 : BitVec 1 := Scalar.cmpi .ne v55 v60
  let v62 : BitVec 32 := Scalar.remsi v49 c16_i32_21
  let c0_i32_26 : BitVec 32 := 0#32
  let v63 : BitVec 1 := Scalar.cmpi .ne v62 c0_i32_26
  let v64 : BitVec 1 := Scalar.andi v61 v63
  let v50 : BitVec 32 := Scalar.divsi v49 c16_i32_21
  let c1_i32_27 : BitVec 32 := 1#32
  let v65 : BitVec 32 := Scalar.subi v50 c1_i32_27
  let v66 : BitVec 32 := Scalar.select v64 v65 v50
  let v68 : BitVec 32 := Scalar.subi v66 c0_i32_30
  let c1_i32_31 : BitVec 32 := 1#32
  let v70 : BitVec 32 := Scalar.divsi v68 c1_i32_31
  let v71 : BitVec 32 := Scalar.muli v70 c1_i32_31
  let v72 : BitVec 32 := Scalar.addi c0_i32_30 v71
  let c1_i32_33 : BitVec 32 := 1#32
  let arg9 : BitVec 32 := Scf.iv v72 c1_i32_33 k0_t4
  let c16_i32_154 : BitVec 32 := 16#32
  let v324 : BitVec 32 := Scalar.muli arg9 c16_i32_154
  let c8_i32 : BitVec 32 := 8#32
  let v429 : BitVec 32 := Scalar.addi v324 c8_i32
  let v430 : Index := Scalar.indexCast v429
  ![1, v430.toNat]
def k0_off115 (v431 : BitVec 32) : Fin 3 → Nat :=
  let v432 : Index := Scalar.indexCast v431
  let c0_190 : Index := 0#32
  let c0_191 : Index := 0#32
  ![v432.toNat, 0, 0]

def k0_chk59 (v431 : BitVec 32) : Prop :=
  (∀ a, (k0_off115 v431) a + S1x1x128.size a ≤ S100000x1x128.size a)
theorem k0_off115_inb : ∀ (v431 : BitVec 32) (k0_hw59 : k0_chk59 v431), ∀ a, (k0_off115 v431) a + S1x1x128.size a ≤ S100000x1x128.size a := fun v431 k0_hw59 => k0_hw59

def k0_off116 (v48 : BitVec 32) (k0_t4 : Fin (k0_t4_loop v48).trips) : Fin 2 → Nat :=
  let c1_193 : Index := 1#32
  let c0_i32_30 : BitVec 32 := 0#32
  let c15_i32_20 : BitVec 32 := 15#32
  let v49 : BitVec 32 := Scalar.addi v48 c15_i32_20
  let c0_i32_22 : BitVec 32 := 0#32
  let v51 : BitVec 1 := Scalar.cmpi .sgt v49 c0_i32_22
  let v52 : BitVec 32 := Scalar.extui v51
  let c0_i32_23 : BitVec 32 := 0#32
  let v53 : BitVec 1 := Scalar.cmpi .slt v49 c0_i32_23
  let v54 : BitVec 32 := Scalar.extui v53
  let v55 : BitVec 32 := Scalar.subi v52 v54
  let c16_i32_21 : BitVec 32 := 16#32
  let c0_i32_24 : BitVec 32 := 0#32
  let v56 : BitVec 1 := Scalar.cmpi .sgt c16_i32_21 c0_i32_24
  let v57 : BitVec 32 := Scalar.extui v56
  let c0_i32_25 : BitVec 32 := 0#32
  let v58 : BitVec 1 := Scalar.cmpi .slt c16_i32_21 c0_i32_25
  let v59 : BitVec 32 := Scalar.extui v58
  let v60 : BitVec 32 := Scalar.subi v57 v59
  let v61 : BitVec 1 := Scalar.cmpi .ne v55 v60
  let v62 : BitVec 32 := Scalar.remsi v49 c16_i32_21
  let c0_i32_26 : BitVec 32 := 0#32
  let v63 : BitVec 1 := Scalar.cmpi .ne v62 c0_i32_26
  let v64 : BitVec 1 := Scalar.andi v61 v63
  let v50 : BitVec 32 := Scalar.divsi v49 c16_i32_21
  let c1_i32_27 : BitVec 32 := 1#32
  let v65 : BitVec 32 := Scalar.subi v50 c1_i32_27
  let v66 : BitVec 32 := Scalar.select v64 v65 v50
  let v68 : BitVec 32 := Scalar.subi v66 c0_i32_30
  let c1_i32_31 : BitVec 32 := 1#32
  let v70 : BitVec 32 := Scalar.divsi v68 c1_i32_31
  let v71 : BitVec 32 := Scalar.muli v70 c1_i32_31
  let v72 : BitVec 32 := Scalar.addi c0_i32_30 v71
  let c1_i32_33 : BitVec 32 := 1#32
  let arg9 : BitVec 32 := Scf.iv v72 c1_i32_33 k0_t4
  let c16_i32_154 : BitVec 32 := 16#32
  let v324 : BitVec 32 := Scalar.muli arg9 c16_i32_154
  let c9_i32 : BitVec 32 := 9#32
  let v443 : BitVec 32 := Scalar.addi v324 c9_i32
  let v444 : Index := Scalar.indexCast v443
  ![1, v444.toNat]
def k0_off117 (v445 : BitVec 32) : Fin 3 → Nat :=
  let v446 : Index := Scalar.indexCast v445
  let c0_194 : Index := 0#32
  let c0_195 : Index := 0#32
  ![v446.toNat, 0, 0]

def k0_chk60 (v445 : BitVec 32) : Prop :=
  (∀ a, (k0_off117 v445) a + S1x1x128.size a ≤ S100000x1x128.size a)
theorem k0_off117_inb : ∀ (v445 : BitVec 32) (k0_hw60 : k0_chk60 v445), ∀ a, (k0_off117 v445) a + S1x1x128.size a ≤ S100000x1x128.size a := fun v445 k0_hw60 => k0_hw60

def k0_off118 (v48 : BitVec 32) (k0_t4 : Fin (k0_t4_loop v48).trips) : Fin 2 → Nat :=
  let c1_197 : Index := 1#32
  let c0_i32_30 : BitVec 32 := 0#32
  let c15_i32_20 : BitVec 32 := 15#32
  let v49 : BitVec 32 := Scalar.addi v48 c15_i32_20
  let c0_i32_22 : BitVec 32 := 0#32
  let v51 : BitVec 1 := Scalar.cmpi .sgt v49 c0_i32_22
  let v52 : BitVec 32 := Scalar.extui v51
  let c0_i32_23 : BitVec 32 := 0#32
  let v53 : BitVec 1 := Scalar.cmpi .slt v49 c0_i32_23
  let v54 : BitVec 32 := Scalar.extui v53
  let v55 : BitVec 32 := Scalar.subi v52 v54
  let c16_i32_21 : BitVec 32 := 16#32
  let c0_i32_24 : BitVec 32 := 0#32
  let v56 : BitVec 1 := Scalar.cmpi .sgt c16_i32_21 c0_i32_24
  let v57 : BitVec 32 := Scalar.extui v56
  let c0_i32_25 : BitVec 32 := 0#32
  let v58 : BitVec 1 := Scalar.cmpi .slt c16_i32_21 c0_i32_25
  let v59 : BitVec 32 := Scalar.extui v58
  let v60 : BitVec 32 := Scalar.subi v57 v59
  let v61 : BitVec 1 := Scalar.cmpi .ne v55 v60
  let v62 : BitVec 32 := Scalar.remsi v49 c16_i32_21
  let c0_i32_26 : BitVec 32 := 0#32
  let v63 : BitVec 1 := Scalar.cmpi .ne v62 c0_i32_26
  let v64 : BitVec 1 := Scalar.andi v61 v63
  let v50 : BitVec 32 := Scalar.divsi v49 c16_i32_21
  let c1_i32_27 : BitVec 32 := 1#32
  let v65 : BitVec 32 := Scalar.subi v50 c1_i32_27
  let v66 : BitVec 32 := Scalar.select v64 v65 v50
  let v68 : BitVec 32 := Scalar.subi v66 c0_i32_30
  let c1_i32_31 : BitVec 32 := 1#32
  let v70 : BitVec 32 := Scalar.divsi v68 c1_i32_31
  let v71 : BitVec 32 := Scalar.muli v70 c1_i32_31
  let v72 : BitVec 32 := Scalar.addi c0_i32_30 v71
  let c1_i32_33 : BitVec 32 := 1#32
  let arg9 : BitVec 32 := Scf.iv v72 c1_i32_33 k0_t4
  let c16_i32_154 : BitVec 32 := 16#32
  let v324 : BitVec 32 := Scalar.muli arg9 c16_i32_154
  let c10_i32 : BitVec 32 := 10#32
  let v457 : BitVec 32 := Scalar.addi v324 c10_i32
  let v458 : Index := Scalar.indexCast v457
  ![1, v458.toNat]
def k0_off119 (v459 : BitVec 32) : Fin 3 → Nat :=
  let v460 : Index := Scalar.indexCast v459
  let c0_198 : Index := 0#32
  let c0_199 : Index := 0#32
  ![v460.toNat, 0, 0]

def k0_chk61 (v459 : BitVec 32) : Prop :=
  (∀ a, (k0_off119 v459) a + S1x1x128.size a ≤ S100000x1x128.size a)
theorem k0_off119_inb : ∀ (v459 : BitVec 32) (k0_hw61 : k0_chk61 v459), ∀ a, (k0_off119 v459) a + S1x1x128.size a ≤ S100000x1x128.size a := fun v459 k0_hw61 => k0_hw61

def k0_off120 (v48 : BitVec 32) (k0_t4 : Fin (k0_t4_loop v48).trips) : Fin 2 → Nat :=
  let c1_201 : Index := 1#32
  let c0_i32_30 : BitVec 32 := 0#32
  let c15_i32_20 : BitVec 32 := 15#32
  let v49 : BitVec 32 := Scalar.addi v48 c15_i32_20
  let c0_i32_22 : BitVec 32 := 0#32
  let v51 : BitVec 1 := Scalar.cmpi .sgt v49 c0_i32_22
  let v52 : BitVec 32 := Scalar.extui v51
  let c0_i32_23 : BitVec 32 := 0#32
  let v53 : BitVec 1 := Scalar.cmpi .slt v49 c0_i32_23
  let v54 : BitVec 32 := Scalar.extui v53
  let v55 : BitVec 32 := Scalar.subi v52 v54
  let c16_i32_21 : BitVec 32 := 16#32
  let c0_i32_24 : BitVec 32 := 0#32
  let v56 : BitVec 1 := Scalar.cmpi .sgt c16_i32_21 c0_i32_24
  let v57 : BitVec 32 := Scalar.extui v56
  let c0_i32_25 : BitVec 32 := 0#32
  let v58 : BitVec 1 := Scalar.cmpi .slt c16_i32_21 c0_i32_25
  let v59 : BitVec 32 := Scalar.extui v58
  let v60 : BitVec 32 := Scalar.subi v57 v59
  let v61 : BitVec 1 := Scalar.cmpi .ne v55 v60
  let v62 : BitVec 32 := Scalar.remsi v49 c16_i32_21
  let c0_i32_26 : BitVec 32 := 0#32
  let v63 : BitVec 1 := Scalar.cmpi .ne v62 c0_i32_26
  let v64 : BitVec 1 := Scalar.andi v61 v63
  let v50 : BitVec 32 := Scalar.divsi v49 c16_i32_21
  let c1_i32_27 : BitVec 32 := 1#32
  let v65 : BitVec 32 := Scalar.subi v50 c1_i32_27
  let v66 : BitVec 32 := Scalar.select v64 v65 v50
  let v68 : BitVec 32 := Scalar.subi v66 c0_i32_30
  let c1_i32_31 : BitVec 32 := 1#32
  let v70 : BitVec 32 := Scalar.divsi v68 c1_i32_31
  let v71 : BitVec 32 := Scalar.muli v70 c1_i32_31
  let v72 : BitVec 32 := Scalar.addi c0_i32_30 v71
  let c1_i32_33 : BitVec 32 := 1#32
  let arg9 : BitVec 32 := Scf.iv v72 c1_i32_33 k0_t4
  let c16_i32_154 : BitVec 32 := 16#32
  let v324 : BitVec 32 := Scalar.muli arg9 c16_i32_154
  let c11_i32 : BitVec 32 := 11#32
  let v471 : BitVec 32 := Scalar.addi v324 c11_i32
  let v472 : Index := Scalar.indexCast v471
  ![1, v472.toNat]
def k0_off121 (v473 : BitVec 32) : Fin 3 → Nat :=
  let v474 : Index := Scalar.indexCast v473
  let c0_202 : Index := 0#32
  let c0_203 : Index := 0#32
  ![v474.toNat, 0, 0]

def k0_chk62 (v473 : BitVec 32) : Prop :=
  (∀ a, (k0_off121 v473) a + S1x1x128.size a ≤ S100000x1x128.size a)
theorem k0_off121_inb : ∀ (v473 : BitVec 32) (k0_hw62 : k0_chk62 v473), ∀ a, (k0_off121 v473) a + S1x1x128.size a ≤ S100000x1x128.size a := fun v473 k0_hw62 => k0_hw62

def k0_off122 (v48 : BitVec 32) (k0_t4 : Fin (k0_t4_loop v48).trips) : Fin 2 → Nat :=
  let c1_205 : Index := 1#32
  let c0_i32_30 : BitVec 32 := 0#32
  let c15_i32_20 : BitVec 32 := 15#32
  let v49 : BitVec 32 := Scalar.addi v48 c15_i32_20
  let c0_i32_22 : BitVec 32 := 0#32
  let v51 : BitVec 1 := Scalar.cmpi .sgt v49 c0_i32_22
  let v52 : BitVec 32 := Scalar.extui v51
  let c0_i32_23 : BitVec 32 := 0#32
  let v53 : BitVec 1 := Scalar.cmpi .slt v49 c0_i32_23
  let v54 : BitVec 32 := Scalar.extui v53
  let v55 : BitVec 32 := Scalar.subi v52 v54
  let c16_i32_21 : BitVec 32 := 16#32
  let c0_i32_24 : BitVec 32 := 0#32
  let v56 : BitVec 1 := Scalar.cmpi .sgt c16_i32_21 c0_i32_24
  let v57 : BitVec 32 := Scalar.extui v56
  let c0_i32_25 : BitVec 32 := 0#32
  let v58 : BitVec 1 := Scalar.cmpi .slt c16_i32_21 c0_i32_25
  let v59 : BitVec 32 := Scalar.extui v58
  let v60 : BitVec 32 := Scalar.subi v57 v59
  let v61 : BitVec 1 := Scalar.cmpi .ne v55 v60
  let v62 : BitVec 32 := Scalar.remsi v49 c16_i32_21
  let c0_i32_26 : BitVec 32 := 0#32
  let v63 : BitVec 1 := Scalar.cmpi .ne v62 c0_i32_26
  let v64 : BitVec 1 := Scalar.andi v61 v63
  let v50 : BitVec 32 := Scalar.divsi v49 c16_i32_21
  let c1_i32_27 : BitVec 32 := 1#32
  let v65 : BitVec 32 := Scalar.subi v50 c1_i32_27
  let v66 : BitVec 32 := Scalar.select v64 v65 v50
  let v68 : BitVec 32 := Scalar.subi v66 c0_i32_30
  let c1_i32_31 : BitVec 32 := 1#32
  let v70 : BitVec 32 := Scalar.divsi v68 c1_i32_31
  let v71 : BitVec 32 := Scalar.muli v70 c1_i32_31
  let v72 : BitVec 32 := Scalar.addi c0_i32_30 v71
  let c1_i32_33 : BitVec 32 := 1#32
  let arg9 : BitVec 32 := Scf.iv v72 c1_i32_33 k0_t4
  let c16_i32_154 : BitVec 32 := 16#32
  let v324 : BitVec 32 := Scalar.muli arg9 c16_i32_154
  let c12_i32 : BitVec 32 := 12#32
  let v485 : BitVec 32 := Scalar.addi v324 c12_i32
  let v486 : Index := Scalar.indexCast v485
  ![1, v486.toNat]
def k0_off123 (v487 : BitVec 32) : Fin 3 → Nat :=
  let v488 : Index := Scalar.indexCast v487
  let c0_206 : Index := 0#32
  let c0_207 : Index := 0#32
  ![v488.toNat, 0, 0]

def k0_chk63 (v487 : BitVec 32) : Prop :=
  (∀ a, (k0_off123 v487) a + S1x1x128.size a ≤ S100000x1x128.size a)
theorem k0_off123_inb : ∀ (v487 : BitVec 32) (k0_hw63 : k0_chk63 v487), ∀ a, (k0_off123 v487) a + S1x1x128.size a ≤ S100000x1x128.size a := fun v487 k0_hw63 => k0_hw63

def k0_off124 (v48 : BitVec 32) (k0_t4 : Fin (k0_t4_loop v48).trips) : Fin 2 → Nat :=
  let c1_209 : Index := 1#32
  let c0_i32_30 : BitVec 32 := 0#32
  let c15_i32_20 : BitVec 32 := 15#32
  let v49 : BitVec 32 := Scalar.addi v48 c15_i32_20
  let c0_i32_22 : BitVec 32 := 0#32
  let v51 : BitVec 1 := Scalar.cmpi .sgt v49 c0_i32_22
  let v52 : BitVec 32 := Scalar.extui v51
  let c0_i32_23 : BitVec 32 := 0#32
  let v53 : BitVec 1 := Scalar.cmpi .slt v49 c0_i32_23
  let v54 : BitVec 32 := Scalar.extui v53
  let v55 : BitVec 32 := Scalar.subi v52 v54
  let c16_i32_21 : BitVec 32 := 16#32
  let c0_i32_24 : BitVec 32 := 0#32
  let v56 : BitVec 1 := Scalar.cmpi .sgt c16_i32_21 c0_i32_24
  let v57 : BitVec 32 := Scalar.extui v56
  let c0_i32_25 : BitVec 32 := 0#32
  let v58 : BitVec 1 := Scalar.cmpi .slt c16_i32_21 c0_i32_25
  let v59 : BitVec 32 := Scalar.extui v58
  let v60 : BitVec 32 := Scalar.subi v57 v59
  let v61 : BitVec 1 := Scalar.cmpi .ne v55 v60
  let v62 : BitVec 32 := Scalar.remsi v49 c16_i32_21
  let c0_i32_26 : BitVec 32 := 0#32
  let v63 : BitVec 1 := Scalar.cmpi .ne v62 c0_i32_26
  let v64 : BitVec 1 := Scalar.andi v61 v63
  let v50 : BitVec 32 := Scalar.divsi v49 c16_i32_21
  let c1_i32_27 : BitVec 32 := 1#32
  let v65 : BitVec 32 := Scalar.subi v50 c1_i32_27
  let v66 : BitVec 32 := Scalar.select v64 v65 v50
  let v68 : BitVec 32 := Scalar.subi v66 c0_i32_30
  let c1_i32_31 : BitVec 32 := 1#32
  let v70 : BitVec 32 := Scalar.divsi v68 c1_i32_31
  let v71 : BitVec 32 := Scalar.muli v70 c1_i32_31
  let v72 : BitVec 32 := Scalar.addi c0_i32_30 v71
  let c1_i32_33 : BitVec 32 := 1#32
  let arg9 : BitVec 32 := Scf.iv v72 c1_i32_33 k0_t4
  let c16_i32_154 : BitVec 32 := 16#32
  let v324 : BitVec 32 := Scalar.muli arg9 c16_i32_154
  let c13_i32 : BitVec 32 := 13#32
  let v499 : BitVec 32 := Scalar.addi v324 c13_i32
  let v500 : Index := Scalar.indexCast v499
  ![1, v500.toNat]
def k0_off125 (v501 : BitVec 32) : Fin 3 → Nat :=
  let v502 : Index := Scalar.indexCast v501
  let c0_210 : Index := 0#32
  let c0_211 : Index := 0#32
  ![v502.toNat, 0, 0]

def k0_chk64 (v501 : BitVec 32) : Prop :=
  (∀ a, (k0_off125 v501) a + S1x1x128.size a ≤ S100000x1x128.size a)
theorem k0_off125_inb : ∀ (v501 : BitVec 32) (k0_hw64 : k0_chk64 v501), ∀ a, (k0_off125 v501) a + S1x1x128.size a ≤ S100000x1x128.size a := fun v501 k0_hw64 => k0_hw64

def k0_off126 (v48 : BitVec 32) (k0_t4 : Fin (k0_t4_loop v48).trips) : Fin 2 → Nat :=
  let c1_213 : Index := 1#32
  let c0_i32_30 : BitVec 32 := 0#32
  let c15_i32_20 : BitVec 32 := 15#32
  let v49 : BitVec 32 := Scalar.addi v48 c15_i32_20
  let c0_i32_22 : BitVec 32 := 0#32
  let v51 : BitVec 1 := Scalar.cmpi .sgt v49 c0_i32_22
  let v52 : BitVec 32 := Scalar.extui v51
  let c0_i32_23 : BitVec 32 := 0#32
  let v53 : BitVec 1 := Scalar.cmpi .slt v49 c0_i32_23
  let v54 : BitVec 32 := Scalar.extui v53
  let v55 : BitVec 32 := Scalar.subi v52 v54
  let c16_i32_21 : BitVec 32 := 16#32
  let c0_i32_24 : BitVec 32 := 0#32
  let v56 : BitVec 1 := Scalar.cmpi .sgt c16_i32_21 c0_i32_24
  let v57 : BitVec 32 := Scalar.extui v56
  let c0_i32_25 : BitVec 32 := 0#32
  let v58 : BitVec 1 := Scalar.cmpi .slt c16_i32_21 c0_i32_25
  let v59 : BitVec 32 := Scalar.extui v58
  let v60 : BitVec 32 := Scalar.subi v57 v59
  let v61 : BitVec 1 := Scalar.cmpi .ne v55 v60
  let v62 : BitVec 32 := Scalar.remsi v49 c16_i32_21
  let c0_i32_26 : BitVec 32 := 0#32
  let v63 : BitVec 1 := Scalar.cmpi .ne v62 c0_i32_26
  let v64 : BitVec 1 := Scalar.andi v61 v63
  let v50 : BitVec 32 := Scalar.divsi v49 c16_i32_21
  let c1_i32_27 : BitVec 32 := 1#32
  let v65 : BitVec 32 := Scalar.subi v50 c1_i32_27
  let v66 : BitVec 32 := Scalar.select v64 v65 v50
  let v68 : BitVec 32 := Scalar.subi v66 c0_i32_30
  let c1_i32_31 : BitVec 32 := 1#32
  let v70 : BitVec 32 := Scalar.divsi v68 c1_i32_31
  let v71 : BitVec 32 := Scalar.muli v70 c1_i32_31
  let v72 : BitVec 32 := Scalar.addi c0_i32_30 v71
  let c1_i32_33 : BitVec 32 := 1#32
  let arg9 : BitVec 32 := Scf.iv v72 c1_i32_33 k0_t4
  let c16_i32_154 : BitVec 32 := 16#32
  let v324 : BitVec 32 := Scalar.muli arg9 c16_i32_154
  let c14_i32 : BitVec 32 := 14#32
  let v513 : BitVec 32 := Scalar.addi v324 c14_i32
  let v514 : Index := Scalar.indexCast v513
  ![1, v514.toNat]
def k0_off127 (v515 : BitVec 32) : Fin 3 → Nat :=
  let v516 : Index := Scalar.indexCast v515
  let c0_214 : Index := 0#32
  let c0_215 : Index := 0#32
  ![v516.toNat, 0, 0]

def k0_chk65 (v515 : BitVec 32) : Prop :=
  (∀ a, (k0_off127 v515) a + S1x1x128.size a ≤ S100000x1x128.size a)
theorem k0_off127_inb : ∀ (v515 : BitVec 32) (k0_hw65 : k0_chk65 v515), ∀ a, (k0_off127 v515) a + S1x1x128.size a ≤ S100000x1x128.size a := fun v515 k0_hw65 => k0_hw65

def k0_off128 (v48 : BitVec 32) (k0_t4 : Fin (k0_t4_loop v48).trips) : Fin 2 → Nat :=
  let c1_218 : Index := 1#32
  let c0_i32_30 : BitVec 32 := 0#32
  let c15_i32_20 : BitVec 32 := 15#32
  let v49 : BitVec 32 := Scalar.addi v48 c15_i32_20
  let c0_i32_22 : BitVec 32 := 0#32
  let v51 : BitVec 1 := Scalar.cmpi .sgt v49 c0_i32_22
  let v52 : BitVec 32 := Scalar.extui v51
  let c0_i32_23 : BitVec 32 := 0#32
  let v53 : BitVec 1 := Scalar.cmpi .slt v49 c0_i32_23
  let v54 : BitVec 32 := Scalar.extui v53
  let v55 : BitVec 32 := Scalar.subi v52 v54
  let c16_i32_21 : BitVec 32 := 16#32
  let c0_i32_24 : BitVec 32 := 0#32
  let v56 : BitVec 1 := Scalar.cmpi .sgt c16_i32_21 c0_i32_24
  let v57 : BitVec 32 := Scalar.extui v56
  let c0_i32_25 : BitVec 32 := 0#32
  let v58 : BitVec 1 := Scalar.cmpi .slt c16_i32_21 c0_i32_25
  let v59 : BitVec 32 := Scalar.extui v58
  let v60 : BitVec 32 := Scalar.subi v57 v59
  let v61 : BitVec 1 := Scalar.cmpi .ne v55 v60
  let v62 : BitVec 32 := Scalar.remsi v49 c16_i32_21
  let c0_i32_26 : BitVec 32 := 0#32
  let v63 : BitVec 1 := Scalar.cmpi .ne v62 c0_i32_26
  let v64 : BitVec 1 := Scalar.andi v61 v63
  let v50 : BitVec 32 := Scalar.divsi v49 c16_i32_21
  let c1_i32_27 : BitVec 32 := 1#32
  let v65 : BitVec 32 := Scalar.subi v50 c1_i32_27
  let v66 : BitVec 32 := Scalar.select v64 v65 v50
  let v68 : BitVec 32 := Scalar.subi v66 c0_i32_30
  let c1_i32_31 : BitVec 32 := 1#32
  let v70 : BitVec 32 := Scalar.divsi v68 c1_i32_31
  let v71 : BitVec 32 := Scalar.muli v70 c1_i32_31
  let v72 : BitVec 32 := Scalar.addi c0_i32_30 v71
  let c1_i32_33 : BitVec 32 := 1#32
  let arg9 : BitVec 32 := Scf.iv v72 c1_i32_33 k0_t4
  let c16_i32_154 : BitVec 32 := 16#32
  let v324 : BitVec 32 := Scalar.muli arg9 c16_i32_154
  let c15_i32_217 : BitVec 32 := 15#32
  let v527 : BitVec 32 := Scalar.addi v324 c15_i32_217
  let v528 : Index := Scalar.indexCast v527
  ![1, v528.toNat]

def k0_chk34_0 (v48 : BitVec 32) : Prop :=
  ((k0_t3_loop v48).OK) ∧
  (∀ k0_t3 : Fin (k0_t3_loop v48).trips, ∀ a, (k0_off66 v48 k0_t3) a + S1x1.size a ≤ S8x512.size a) ∧
  (∀ k0_t3 : Fin (k0_t3_loop v48).trips, ∀ a, (k0_off68 v48 k0_t3) a + S1x1.size a ≤ S8x512.size a) ∧
  (∀ k0_t3 : Fin (k0_t3_loop v48).trips, ∀ a, (k0_off70 v48 k0_t3) a + S1x1.size a ≤ S8x512.size a) ∧
  (∀ k0_t3 : Fin (k0_t3_loop v48).trips, ∀ a, (k0_off72 v48 k0_t3) a + S1x1.size a ≤ S8x512.size a) ∧
  (∀ k0_t3 : Fin (k0_t3_loop v48).trips, ∀ a, (k0_off74 v48 k0_t3) a + S1x1.size a ≤ S8x512.size a) ∧
  (∀ k0_t3 : Fin (k0_t3_loop v48).trips, ∀ a, (k0_off76 v48 k0_t3) a + S1x1.size a ≤ S8x512.size a) ∧
  (∀ k0_t3 : Fin (k0_t3_loop v48).trips, ∀ a, (k0_off78 v48 k0_t3) a + S1x1.size a ≤ S8x512.size a) ∧
  (∀ k0_t3 : Fin (k0_t3_loop v48).trips, ∀ a, (k0_off80 v48 k0_t3) a + S1x1.size a ≤ S8x512.size a) ∧
  (∀ k0_t3 : Fin (k0_t3_loop v48).trips, ∀ a, (k0_off82 v48 k0_t3) a + S1x1.size a ≤ S8x512.size a) ∧
  (∀ k0_t3 : Fin (k0_t3_loop v48).trips, ∀ a, (k0_off84 v48 k0_t3) a + S1x1.size a ≤ S8x512.size a) ∧
  (∀ k0_t3 : Fin (k0_t3_loop v48).trips, ∀ a, (k0_off86 v48 k0_t3) a + S1x1.size a ≤ S8x512.size a) ∧
  (∀ k0_t3 : Fin (k0_t3_loop v48).trips, ∀ a, (k0_off88 v48 k0_t3) a + S1x1.size a ≤ S8x512.size a) ∧
  (∀ k0_t3 : Fin (k0_t3_loop v48).trips, ∀ a, (k0_off90 v48 k0_t3) a + S1x1.size a ≤ S8x512.size a) ∧
  (∀ k0_t3 : Fin (k0_t3_loop v48).trips, ∀ a, (k0_off92 v48 k0_t3) a + S1x1.size a ≤ S8x512.size a) ∧
  (∀ k0_t3 : Fin (k0_t3_loop v48).trips, ∀ a, (k0_off94 v48 k0_t3) a + S1x1.size a ≤ S8x512.size a) ∧
  (∀ k0_t3 : Fin (k0_t3_loop v48).trips, ∀ a, (k0_off96 v48 k0_t3) a + S1x1.size a ≤ S8x512.size a) ∧
  ((k0_t4_loop v48).OK) ∧
  (∀ k0_t4 : Fin (k0_t4_loop v48).trips, ∀ a, (k0_off98 v48 k0_t4) a + S1x1.size a ≤ S8x512.size a) ∧
  (∀ k0_t4 : Fin (k0_t4_loop v48).trips, ∀ a, (k0_off100 v48 k0_t4) a + S1x1.size a ≤ S8x512.size a) ∧
  (∀ k0_t4 : Fin (k0_t4_loop v48).trips, ∀ a, (k0_off102 v48 k0_t4) a + S1x1.size a ≤ S8x512.size a) ∧
  (∀ k0_t4 : Fin (k0_t4_loop v48).trips, ∀ a, (k0_off104 v48 k0_t4) a + S1x1.size a ≤ S8x512.size a) ∧
  (∀ k0_t4 : Fin (k0_t4_loop v48).trips, ∀ a, (k0_off106 v48 k0_t4) a + S1x1.size a ≤ S8x512.size a) ∧
  (∀ k0_t4 : Fin (k0_t4_loop v48).trips, ∀ a, (k0_off108 v48 k0_t4) a + S1x1.size a ≤ S8x512.size a) ∧
  (∀ k0_t4 : Fin (k0_t4_loop v48).trips, ∀ a, (k0_off110 v48 k0_t4) a + S1x1.size a ≤ S8x512.size a) ∧
  (∀ k0_t4 : Fin (k0_t4_loop v48).trips, ∀ a, (k0_off112 v48 k0_t4) a + S1x1.size a ≤ S8x512.size a) ∧
  (∀ k0_t4 : Fin (k0_t4_loop v48).trips, ∀ a, (k0_off114 v48 k0_t4) a + S1x1.size a ≤ S8x512.size a) ∧
  (∀ k0_t4 : Fin (k0_t4_loop v48).trips, ∀ a, (k0_off116 v48 k0_t4) a + S1x1.size a ≤ S8x512.size a) ∧
  (∀ k0_t4 : Fin (k0_t4_loop v48).trips, ∀ a, (k0_off118 v48 k0_t4) a + S1x1.size a ≤ S8x512.size a) ∧
  (∀ k0_t4 : Fin (k0_t4_loop v48).trips, ∀ a, (k0_off120 v48 k0_t4) a + S1x1.size a ≤ S8x512.size a) ∧
  (∀ k0_t4 : Fin (k0_t4_loop v48).trips, ∀ a, (k0_off122 v48 k0_t4) a + S1x1.size a ≤ S8x512.size a) ∧
  (∀ k0_t4 : Fin (k0_t4_loop v48).trips, ∀ a, (k0_off124 v48 k0_t4) a + S1x1.size a ≤ S8x512.size a)
def k0_chk34_1 (v48 : BitVec 32) : Prop :=
  (∀ k0_t4 : Fin (k0_t4_loop v48).trips, ∀ a, (k0_off126 v48 k0_t4) a + S1x1.size a ≤ S8x512.size a) ∧
  (∀ k0_t4 : Fin (k0_t4_loop v48).trips, ∀ a, (k0_off128 v48 k0_t4) a + S1x1.size a ≤ S8x512.size a)
def k0_chk34 (v48 : BitVec 32) : Prop :=
  k0_chk34_0 v48 ∧
  k0_chk34_1 v48
theorem k0_t3_ok : ∀ (v48 : BitVec 32) (k0_hw34 : k0_chk34 v48), (k0_t3_loop v48).OK := fun v48 k0_hw34 => k0_hw34.1.1
theorem k0_off66_inb : ∀ (v48 : BitVec 32) (k0_hw34 : k0_chk34 v48) (k0_t3 : Fin (k0_t3_loop v48).trips), ∀ a, (k0_off66 v48 k0_t3) a + S1x1.size a ≤ S8x512.size a := fun v48 k0_hw34 k0_t3 => k0_hw34.1.2.1 k0_t3
theorem k0_off68_inb : ∀ (v48 : BitVec 32) (k0_hw34 : k0_chk34 v48) (k0_t3 : Fin (k0_t3_loop v48).trips), ∀ a, (k0_off68 v48 k0_t3) a + S1x1.size a ≤ S8x512.size a := fun v48 k0_hw34 k0_t3 => k0_hw34.1.2.2.1 k0_t3
theorem k0_off70_inb : ∀ (v48 : BitVec 32) (k0_hw34 : k0_chk34 v48) (k0_t3 : Fin (k0_t3_loop v48).trips), ∀ a, (k0_off70 v48 k0_t3) a + S1x1.size a ≤ S8x512.size a := fun v48 k0_hw34 k0_t3 => k0_hw34.1.2.2.2.1 k0_t3
theorem k0_off72_inb : ∀ (v48 : BitVec 32) (k0_hw34 : k0_chk34 v48) (k0_t3 : Fin (k0_t3_loop v48).trips), ∀ a, (k0_off72 v48 k0_t3) a + S1x1.size a ≤ S8x512.size a := fun v48 k0_hw34 k0_t3 => k0_hw34.1.2.2.2.2.1 k0_t3
theorem k0_off74_inb : ∀ (v48 : BitVec 32) (k0_hw34 : k0_chk34 v48) (k0_t3 : Fin (k0_t3_loop v48).trips), ∀ a, (k0_off74 v48 k0_t3) a + S1x1.size a ≤ S8x512.size a := fun v48 k0_hw34 k0_t3 => k0_hw34.1.2.2.2.2.2.1 k0_t3
theorem k0_off76_inb : ∀ (v48 : BitVec 32) (k0_hw34 : k0_chk34 v48) (k0_t3 : Fin (k0_t3_loop v48).trips), ∀ a, (k0_off76 v48 k0_t3) a + S1x1.size a ≤ S8x512.size a := fun v48 k0_hw34 k0_t3 => k0_hw34.1.2.2.2.2.2.2.1 k0_t3
theorem k0_off78_inb : ∀ (v48 : BitVec 32) (k0_hw34 : k0_chk34 v48) (k0_t3 : Fin (k0_t3_loop v48).trips), ∀ a, (k0_off78 v48 k0_t3) a + S1x1.size a ≤ S8x512.size a := fun v48 k0_hw34 k0_t3 => k0_hw34.1.2.2.2.2.2.2.2.1 k0_t3
theorem k0_off80_inb : ∀ (v48 : BitVec 32) (k0_hw34 : k0_chk34 v48) (k0_t3 : Fin (k0_t3_loop v48).trips), ∀ a, (k0_off80 v48 k0_t3) a + S1x1.size a ≤ S8x512.size a := fun v48 k0_hw34 k0_t3 => k0_hw34.1.2.2.2.2.2.2.2.2.1 k0_t3
theorem k0_off82_inb : ∀ (v48 : BitVec 32) (k0_hw34 : k0_chk34 v48) (k0_t3 : Fin (k0_t3_loop v48).trips), ∀ a, (k0_off82 v48 k0_t3) a + S1x1.size a ≤ S8x512.size a := fun v48 k0_hw34 k0_t3 => k0_hw34.1.2.2.2.2.2.2.2.2.2.1 k0_t3
theorem k0_off84_inb : ∀ (v48 : BitVec 32) (k0_hw34 : k0_chk34 v48) (k0_t3 : Fin (k0_t3_loop v48).trips), ∀ a, (k0_off84 v48 k0_t3) a + S1x1.size a ≤ S8x512.size a := fun v48 k0_hw34 k0_t3 => k0_hw34.1.2.2.2.2.2.2.2.2.2.2.1 k0_t3
theorem k0_off86_inb : ∀ (v48 : BitVec 32) (k0_hw34 : k0_chk34 v48) (k0_t3 : Fin (k0_t3_loop v48).trips), ∀ a, (k0_off86 v48 k0_t3) a + S1x1.size a ≤ S8x512.size a := fun v48 k0_hw34 k0_t3 => k0_hw34.1.2.2.2.2.2.2.2.2.2.2.2.1 k0_t3
theorem k0_off88_inb : ∀ (v48 : BitVec 32) (k0_hw34 : k0_chk34 v48) (k0_t3 : Fin (k0_t3_loop v48).trips), ∀ a, (k0_off88 v48 k0_t3) a + S1x1.size a ≤ S8x512.size a := fun v48 k0_hw34 k0_t3 => k0_hw34.1.2.2.2.2.2.2.2.2.2.2.2.2.1 k0_t3
theorem k0_off90_inb : ∀ (v48 : BitVec 32) (k0_hw34 : k0_chk34 v48) (k0_t3 : Fin (k0_t3_loop v48).trips), ∀ a, (k0_off90 v48 k0_t3) a + S1x1.size a ≤ S8x512.size a := fun v48 k0_hw34 k0_t3 => k0_hw34.1.2.2.2.2.2.2.2.2.2.2.2.2.2.1 k0_t3
theorem k0_off92_inb : ∀ (v48 : BitVec 32) (k0_hw34 : k0_chk34 v48) (k0_t3 : Fin (k0_t3_loop v48).trips), ∀ a, (k0_off92 v48 k0_t3) a + S1x1.size a ≤ S8x512.size a := fun v48 k0_hw34 k0_t3 => k0_hw34.1.2.2.2.2.2.2.2.2.2.2.2.2.2.2.1 k0_t3
theorem k0_off94_inb : ∀ (v48 : BitVec 32) (k0_hw34 : k0_chk34 v48) (k0_t3 : Fin (k0_t3_loop v48).trips), ∀ a, (k0_off94 v48 k0_t3) a + S1x1.size a ≤ S8x512.size a := fun v48 k0_hw34 k0_t3 => k0_hw34.1.2.2.2.2.2.2.2.2.2.2.2.2.2.2.2.1 k0_t3
theorem k0_off96_inb : ∀ (v48 : BitVec 32) (k0_hw34 : k0_chk34 v48) (k0_t3 : Fin (k0_t3_loop v48).trips), ∀ a, (k0_off96 v48 k0_t3) a + S1x1.size a ≤ S8x512.size a := fun v48 k0_hw34 k0_t3 => k0_hw34.1.2.2.2.2.2.2.2.2.2.2.2.2.2.2.2.2.1 k0_t3
theorem k0_t4_ok : ∀ (v48 : BitVec 32) (k0_hw34 : k0_chk34 v48), (k0_t4_loop v48).OK := fun v48 k0_hw34 => k0_hw34.1.2.2.2.2.2.2.2.2.2.2.2.2.2.2.2.2.2.1
theorem k0_off98_inb : ∀ (v48 : BitVec 32) (k0_hw34 : k0_chk34 v48) (k0_t4 : Fin (k0_t4_loop v48).trips), ∀ a, (k0_off98 v48 k0_t4) a + S1x1.size a ≤ S8x512.size a := fun v48 k0_hw34 k0_t4 => k0_hw34.1.2.2.2.2.2.2.2.2.2.2.2.2.2.2.2.2.2.2.1 k0_t4
theorem k0_off100_inb : ∀ (v48 : BitVec 32) (k0_hw34 : k0_chk34 v48) (k0_t4 : Fin (k0_t4_loop v48).trips), ∀ a, (k0_off100 v48 k0_t4) a + S1x1.size a ≤ S8x512.size a := fun v48 k0_hw34 k0_t4 => k0_hw34.1.2.2.2.2.2.2.2.2.2.2.2.2.2.2.2.2.2.2.2.1 k0_t4
theorem k0_off102_inb : ∀ (v48 : BitVec 32) (k0_hw34 : k0_chk34 v48) (k0_t4 : Fin (k0_t4_loop v48).trips), ∀ a, (k0_off102 v48 k0_t4) a + S1x1.size a ≤ S8x512.size a := fun v48 k0_hw34 k0_t4 => k0_hw34.1.2.2.2.2.2.2.2.2.2.2.2.2.2.2.2.2.2.2.2.2.1 k0_t4
theorem k0_off104_inb : ∀ (v48 : BitVec 32) (k0_hw34 : k0_chk34 v48) (k0_t4 : Fin (k0_t4_loop v48).trips), ∀ a, (k0_off104 v48 k0_t4) a + S1x1.size a ≤ S8x512.size a := fun v48 k0_hw34 k0_t4 => k0_hw34.1.2.2.2.2.2.2.2.2.2.2.2.2.2.2.2.2.2.2.2.2.2.1 k0_t4
theorem k0_off106_inb : ∀ (v48 : BitVec 32) (k0_hw34 : k0_chk34 v48) (k0_t4 : Fin (k0_t4_loop v48).trips), ∀ a, (k0_off106 v48 k0_t4) a + S1x1.size a ≤ S8x512.size a := fun v48 k0_hw34 k0_t4 => k0_hw34.1.2.2.2.2.2.2.2.2.2.2.2.2.2.2.2.2.2.2.2.2.2.2.1 k0_t4
theorem k0_off108_inb : ∀ (v48 : BitVec 32) (k0_hw34 : k0_chk34 v48) (k0_t4 : Fin (k0_t4_loop v48).trips), ∀ a, (k0_off108 v48 k0_t4) a + S1x1.size a ≤ S8x512.size a := fun v48 k0_hw34 k0_t4 => k0_hw34.1.2.2.2.2.2.2.2.2.2.2.2.2.2.2.2.2.2.2.2.2.2.2.2.1 k0_t4
theorem k0_off110_inb : ∀ (v48 : BitVec 32) (k0_hw34 : k0_chk34 v48) (k0_t4 : Fin (k0_t4_loop v48).trips), ∀ a, (k0_off110 v48 k0_t4) a + S1x1.size a ≤ S8x512.size a := fun v48 k0_hw34 k0_t4 => k0_hw34.1.2.2.2.2.2.2.2.2.2.2.2.2.2.2.2.2.2.2.2.2.2.2.2.2.1 k0_t4
theorem k0_off112_inb : ∀ (v48 : BitVec 32) (k0_hw34 : k0_chk34 v48) (k0_t4 : Fin (k0_t4_loop v48).trips), ∀ a, (k0_off112 v48 k0_t4) a + S1x1.size a ≤ S8x512.size a := fun v48 k0_hw34 k0_t4 => k0_hw34.1.2.2.2.2.2.2.2.2.2.2.2.2.2.2.2.2.2.2.2.2.2.2.2.2.2.1 k0_t4
theorem k0_off114_inb : ∀ (v48 : BitVec 32) (k0_hw34 : k0_chk34 v48) (k0_t4 : Fin (k0_t4_loop v48).trips), ∀ a, (k0_off114 v48 k0_t4) a + S1x1.size a ≤ S8x512.size a := fun v48 k0_hw34 k0_t4 => k0_hw34.1.2.2.2.2.2.2.2.2.2.2.2.2.2.2.2.2.2.2.2.2.2.2.2.2.2.2.1 k0_t4
theorem k0_off116_inb : ∀ (v48 : BitVec 32) (k0_hw34 : k0_chk34 v48) (k0_t4 : Fin (k0_t4_loop v48).trips), ∀ a, (k0_off116 v48 k0_t4) a + S1x1.size a ≤ S8x512.size a := fun v48 k0_hw34 k0_t4 => k0_hw34.1.2.2.2.2.2.2.2.2.2.2.2.2.2.2.2.2.2.2.2.2.2.2.2.2.2.2.2.1 k0_t4
theorem k0_off118_inb : ∀ (v48 : BitVec 32) (k0_hw34 : k0_chk34 v48) (k0_t4 : Fin (k0_t4_loop v48).trips), ∀ a, (k0_off118 v48 k0_t4) a + S1x1.size a ≤ S8x512.size a := fun v48 k0_hw34 k0_t4 => k0_hw34.1.2.2.2.2.2.2.2.2.2.2.2.2.2.2.2.2.2.2.2.2.2.2.2.2.2.2.2.2.1 k0_t4
theorem k0_off120_inb : ∀ (v48 : BitVec 32) (k0_hw34 : k0_chk34 v48) (k0_t4 : Fin (k0_t4_loop v48).trips), ∀ a, (k0_off120 v48 k0_t4) a + S1x1.size a ≤ S8x512.size a := fun v48 k0_hw34 k0_t4 => k0_hw34.1.2.2.2.2.2.2.2.2.2.2.2.2.2.2.2.2.2.2.2.2.2.2.2.2.2.2.2.2.2.1 k0_t4
theorem k0_off122_inb : ∀ (v48 : BitVec 32) (k0_hw34 : k0_chk34 v48) (k0_t4 : Fin (k0_t4_loop v48).trips), ∀ a, (k0_off122 v48 k0_t4) a + S1x1.size a ≤ S8x512.size a := fun v48 k0_hw34 k0_t4 => k0_hw34.1.2.2.2.2.2.2.2.2.2.2.2.2.2.2.2.2.2.2.2.2.2.2.2.2.2.2.2.2.2.2.1 k0_t4
theorem k0_off124_inb : ∀ (v48 : BitVec 32) (k0_hw34 : k0_chk34 v48) (k0_t4 : Fin (k0_t4_loop v48).trips), ∀ a, (k0_off124 v48 k0_t4) a + S1x1.size a ≤ S8x512.size a := fun v48 k0_hw34 k0_t4 => k0_hw34.1.2.2.2.2.2.2.2.2.2.2.2.2.2.2.2.2.2.2.2.2.2.2.2.2.2.2.2.2.2.2.2 k0_t4
theorem k0_off126_inb : ∀ (v48 : BitVec 32) (k0_hw34 : k0_chk34 v48) (k0_t4 : Fin (k0_t4_loop v48).trips), ∀ a, (k0_off126 v48 k0_t4) a + S1x1.size a ≤ S8x512.size a := fun v48 k0_hw34 k0_t4 => k0_hw34.2.1 k0_t4
theorem k0_off128_inb : ∀ (v48 : BitVec 32) (k0_hw34 : k0_chk34 v48) (k0_t4 : Fin (k0_t4_loop v48).trips), ∀ a, (k0_off128 v48 k0_t4) a + S1x1.size a ≤ S8x512.size a := fun v48 k0_hw34 k0_t4 => k0_hw34.2.2 k0_t4

def k0_off129 (v529 : BitVec 32) : Fin 3 → Nat :=
  let v530 : Index := Scalar.indexCast v529
  let c0_219 : Index := 0#32
  let c0_220 : Index := 0#32
  ![v530.toNat, 0, 0]

def k0_chk66 (v529 : BitVec 32) : Prop :=
  (∀ a, (k0_off129 v529) a + S1x1x128.size a ≤ S100000x1x128.size a)
theorem k0_off129_inb : ∀ (v529 : BitVec 32) (k0_hw66 : k0_chk66 v529), ∀ a, (k0_off129 v529) a + S1x1x128.size a ≤ S100000x1x128.size a := fun v529 k0_hw66 => k0_hw66

@[reducible] def k0_t5_loop (v85 : BitVec 32) : Scf.Loop 32 :=
  let c0_i32_48 : BitVec 32 := 0#32
  let c15_i32_38 : BitVec 32 := 15#32
  let v86 : BitVec 32 := Scalar.addi v85 c15_i32_38
  let c0_i32_40 : BitVec 32 := 0#32
  let v88 : BitVec 1 := Scalar.cmpi .sgt v86 c0_i32_40
  let v89 : BitVec 32 := Scalar.extui v88
  let c0_i32_41 : BitVec 32 := 0#32
  let v90 : BitVec 1 := Scalar.cmpi .slt v86 c0_i32_41
  let v91 : BitVec 32 := Scalar.extui v90
  let v92 : BitVec 32 := Scalar.subi v89 v91
  let c16_i32_39 : BitVec 32 := 16#32
  let c0_i32_42 : BitVec 32 := 0#32
  let v93 : BitVec 1 := Scalar.cmpi .sgt c16_i32_39 c0_i32_42
  let v94 : BitVec 32 := Scalar.extui v93
  let c0_i32_43 : BitVec 32 := 0#32
  let v95 : BitVec 1 := Scalar.cmpi .slt c16_i32_39 c0_i32_43
  let v96 : BitVec 32 := Scalar.extui v95
  let v97 : BitVec 32 := Scalar.subi v94 v96
  let v98 : BitVec 1 := Scalar.cmpi .ne v92 v97
  let v99 : BitVec 32 := Scalar.remsi v86 c16_i32_39
  let c0_i32_44 : BitVec 32 := 0#32
  let v100 : BitVec 1 := Scalar.cmpi .ne v99 c0_i32_44
  let v101 : BitVec 1 := Scalar.andi v98 v100
  let v87 : BitVec 32 := Scalar.divsi v86 c16_i32_39
  let c1_i32_45 : BitVec 32 := 1#32
  let v102 : BitVec 32 := Scalar.subi v87 c1_i32_45
  let v103 : BitVec 32 := Scalar.select v101 v102 v87
  let v105 : BitVec 32 := Scalar.subi v103 c0_i32_48
  let c1_i32_49 : BitVec 32 := 1#32
  let v107 : BitVec 32 := Scalar.divsi v105 c1_i32_49
  let v108 : BitVec 32 := Scalar.muli v107 c1_i32_49
  let v109 : BitVec 32 := Scalar.addi c0_i32_48 v108
  let c1_i32_50 : BitVec 32 := 1#32
  ⟨c0_i32_48, v109, c1_i32_50⟩

def k0_off130 (v85 : BitVec 32) (k0_t5 : Fin (k0_t5_loop v85).trips) : Fin 2 → Nat :=
  let c2_156 : Index := 2#32
  let c0_i32_48 : BitVec 32 := 0#32
  let c1_i32_50 : BitVec 32 := 1#32
  let arg9 : BitVec 32 := Scf.iv c0_i32_48 c1_i32_50 k0_t5
  let c16_i32_154 : BitVec 32 := 16#32
  let v324 : BitVec 32 := Scalar.muli arg9 c16_i32_154
  let c0_i32_155 : BitVec 32 := 0#32
  let v325 : BitVec 32 := Scalar.addi v324 c0_i32_155
  let v326 : Index := Scalar.indexCast v325
  ![2, v326.toNat]
def k0_off131 (v327 : BitVec 32) : Fin 3 → Nat :=
  let v328 : Index := Scalar.indexCast v327
  let c0_157 : Index := 0#32
  let c0_158 : Index := 0#32
  ![v328.toNat, 0, 0]

def k0_chk68 (v327 : BitVec 32) : Prop :=
  (∀ a, (k0_off131 v327) a + S1x1x128.size a ≤ S100000x1x128.size a)
theorem k0_off131_inb : ∀ (v327 : BitVec 32) (k0_hw68 : k0_chk68 v327), ∀ a, (k0_off131 v327) a + S1x1x128.size a ≤ S100000x1x128.size a := fun v327 k0_hw68 => k0_hw68

def k0_off132 (v85 : BitVec 32) (k0_t5 : Fin (k0_t5_loop v85).trips) : Fin 2 → Nat :=
  let c2_161 : Index := 2#32
  let c0_i32_48 : BitVec 32 := 0#32
  let c1_i32_50 : BitVec 32 := 1#32
  let arg9 : BitVec 32 := Scf.iv c0_i32_48 c1_i32_50 k0_t5
  let c16_i32_154 : BitVec 32 := 16#32
  let v324 : BitVec 32 := Scalar.muli arg9 c16_i32_154
  let c1_i32_160 : BitVec 32 := 1#32
  let v337 : BitVec 32 := Scalar.addi v324 c1_i32_160
  let v338 : Index := Scalar.indexCast v337
  ![2, v338.toNat]
def k0_off133 (v339 : BitVec 32) : Fin 3 → Nat :=
  let v340 : Index := Scalar.indexCast v339
  let c0_162 : Index := 0#32
  let c0_163 : Index := 0#32
  ![v340.toNat, 0, 0]

def k0_chk69 (v339 : BitVec 32) : Prop :=
  (∀ a, (k0_off133 v339) a + S1x1x128.size a ≤ S100000x1x128.size a)
theorem k0_off133_inb : ∀ (v339 : BitVec 32) (k0_hw69 : k0_chk69 v339), ∀ a, (k0_off133 v339) a + S1x1x128.size a ≤ S100000x1x128.size a := fun v339 k0_hw69 => k0_hw69

def k0_off134 (v85 : BitVec 32) (k0_t5 : Fin (k0_t5_loop v85).trips) : Fin 2 → Nat :=
  let c2_165 : Index := 2#32
  let c0_i32_48 : BitVec 32 := 0#32
  let c1_i32_50 : BitVec 32 := 1#32
  let arg9 : BitVec 32 := Scf.iv c0_i32_48 c1_i32_50 k0_t5
  let c16_i32_154 : BitVec 32 := 16#32
  let v324 : BitVec 32 := Scalar.muli arg9 c16_i32_154
  let c2_i32 : BitVec 32 := 2#32
  let v349 : BitVec 32 := Scalar.addi v324 c2_i32
  let v350 : Index := Scalar.indexCast v349
  ![2, v350.toNat]
def k0_off135 (v351 : BitVec 32) : Fin 3 → Nat :=
  let v352 : Index := Scalar.indexCast v351
  let c0_166 : Index := 0#32
  let c0_167 : Index := 0#32
  ![v352.toNat, 0, 0]

def k0_chk70 (v351 : BitVec 32) : Prop :=
  (∀ a, (k0_off135 v351) a + S1x1x128.size a ≤ S100000x1x128.size a)
theorem k0_off135_inb : ∀ (v351 : BitVec 32) (k0_hw70 : k0_chk70 v351), ∀ a, (k0_off135 v351) a + S1x1x128.size a ≤ S100000x1x128.size a := fun v351 k0_hw70 => k0_hw70

def k0_off136 (v85 : BitVec 32) (k0_t5 : Fin (k0_t5_loop v85).trips) : Fin 2 → Nat :=
  let c2_169 : Index := 2#32
  let c0_i32_48 : BitVec 32 := 0#32
  let c1_i32_50 : BitVec 32 := 1#32
  let arg9 : BitVec 32 := Scf.iv c0_i32_48 c1_i32_50 k0_t5
  let c16_i32_154 : BitVec 32 := 16#32
  let v324 : BitVec 32 := Scalar.muli arg9 c16_i32_154
  let c3_i32 : BitVec 32 := 3#32
  let v361 : BitVec 32 := Scalar.addi v324 c3_i32
  let v362 : Index := Scalar.indexCast v361
  ![2, v362.toNat]
def k0_off137 (v363 : BitVec 32) : Fin 3 → Nat :=
  let v364 : Index := Scalar.indexCast v363
  let c0_170 : Index := 0#32
  let c0_171 : Index := 0#32
  ![v364.toNat, 0, 0]

def k0_chk71 (v363 : BitVec 32) : Prop :=
  (∀ a, (k0_off137 v363) a + S1x1x128.size a ≤ S100000x1x128.size a)
theorem k0_off137_inb : ∀ (v363 : BitVec 32) (k0_hw71 : k0_chk71 v363), ∀ a, (k0_off137 v363) a + S1x1x128.size a ≤ S100000x1x128.size a := fun v363 k0_hw71 => k0_hw71

def k0_off138 (v85 : BitVec 32) (k0_t5 : Fin (k0_t5_loop v85).trips) : Fin 2 → Nat :=
  let c2_173 : Index := 2#32
  let c0_i32_48 : BitVec 32 := 0#32
  let c1_i32_50 : BitVec 32 := 1#32
  let arg9 : BitVec 32 := Scf.iv c0_i32_48 c1_i32_50 k0_t5
  let c16_i32_154 : BitVec 32 := 16#32
  let v324 : BitVec 32 := Scalar.muli arg9 c16_i32_154
  let c4_i32 : BitVec 32 := 4#32
  let v373 : BitVec 32 := Scalar.addi v324 c4_i32
  let v374 : Index := Scalar.indexCast v373
  ![2, v374.toNat]
def k0_off139 (v375 : BitVec 32) : Fin 3 → Nat :=
  let v376 : Index := Scalar.indexCast v375
  let c0_174 : Index := 0#32
  let c0_175 : Index := 0#32
  ![v376.toNat, 0, 0]

def k0_chk72 (v375 : BitVec 32) : Prop :=
  (∀ a, (k0_off139 v375) a + S1x1x128.size a ≤ S100000x1x128.size a)
theorem k0_off139_inb : ∀ (v375 : BitVec 32) (k0_hw72 : k0_chk72 v375), ∀ a, (k0_off139 v375) a + S1x1x128.size a ≤ S100000x1x128.size a := fun v375 k0_hw72 => k0_hw72

def k0_off140 (v85 : BitVec 32) (k0_t5 : Fin (k0_t5_loop v85).trips) : Fin 2 → Nat :=
  let c2_177 : Index := 2#32
  let c0_i32_48 : BitVec 32 := 0#32
  let c1_i32_50 : BitVec 32 := 1#32
  let arg9 : BitVec 32 := Scf.iv c0_i32_48 c1_i32_50 k0_t5
  let c16_i32_154 : BitVec 32 := 16#32
  let v324 : BitVec 32 := Scalar.muli arg9 c16_i32_154
  let c5_i32 : BitVec 32 := 5#32
  let v387 : BitVec 32 := Scalar.addi v324 c5_i32
  let v388 : Index := Scalar.indexCast v387
  ![2, v388.toNat]
def k0_off141 (v389 : BitVec 32) : Fin 3 → Nat :=
  let v390 : Index := Scalar.indexCast v389
  let c0_178 : Index := 0#32
  let c0_179 : Index := 0#32
  ![v390.toNat, 0, 0]

def k0_chk73 (v389 : BitVec 32) : Prop :=
  (∀ a, (k0_off141 v389) a + S1x1x128.size a ≤ S100000x1x128.size a)
theorem k0_off141_inb : ∀ (v389 : BitVec 32) (k0_hw73 : k0_chk73 v389), ∀ a, (k0_off141 v389) a + S1x1x128.size a ≤ S100000x1x128.size a := fun v389 k0_hw73 => k0_hw73

def k0_off142 (v85 : BitVec 32) (k0_t5 : Fin (k0_t5_loop v85).trips) : Fin 2 → Nat :=
  let c2_181 : Index := 2#32
  let c0_i32_48 : BitVec 32 := 0#32
  let c1_i32_50 : BitVec 32 := 1#32
  let arg9 : BitVec 32 := Scf.iv c0_i32_48 c1_i32_50 k0_t5
  let c16_i32_154 : BitVec 32 := 16#32
  let v324 : BitVec 32 := Scalar.muli arg9 c16_i32_154
  let c6_i32 : BitVec 32 := 6#32
  let v401 : BitVec 32 := Scalar.addi v324 c6_i32
  let v402 : Index := Scalar.indexCast v401
  ![2, v402.toNat]
def k0_off143 (v403 : BitVec 32) : Fin 3 → Nat :=
  let v404 : Index := Scalar.indexCast v403
  let c0_182 : Index := 0#32
  let c0_183 : Index := 0#32
  ![v404.toNat, 0, 0]

def k0_chk74 (v403 : BitVec 32) : Prop :=
  (∀ a, (k0_off143 v403) a + S1x1x128.size a ≤ S100000x1x128.size a)
theorem k0_off143_inb : ∀ (v403 : BitVec 32) (k0_hw74 : k0_chk74 v403), ∀ a, (k0_off143 v403) a + S1x1x128.size a ≤ S100000x1x128.size a := fun v403 k0_hw74 => k0_hw74

def k0_off144 (v85 : BitVec 32) (k0_t5 : Fin (k0_t5_loop v85).trips) : Fin 2 → Nat :=
  let c2_185 : Index := 2#32
  let c0_i32_48 : BitVec 32 := 0#32
  let c1_i32_50 : BitVec 32 := 1#32
  let arg9 : BitVec 32 := Scf.iv c0_i32_48 c1_i32_50 k0_t5
  let c16_i32_154 : BitVec 32 := 16#32
  let v324 : BitVec 32 := Scalar.muli arg9 c16_i32_154
  let c7_i32 : BitVec 32 := 7#32
  let v415 : BitVec 32 := Scalar.addi v324 c7_i32
  let v416 : Index := Scalar.indexCast v415
  ![2, v416.toNat]
def k0_off145 (v417 : BitVec 32) : Fin 3 → Nat :=
  let v418 : Index := Scalar.indexCast v417
  let c0_186 : Index := 0#32
  let c0_187 : Index := 0#32
  ![v418.toNat, 0, 0]

def k0_chk75 (v417 : BitVec 32) : Prop :=
  (∀ a, (k0_off145 v417) a + S1x1x128.size a ≤ S100000x1x128.size a)
theorem k0_off145_inb : ∀ (v417 : BitVec 32) (k0_hw75 : k0_chk75 v417), ∀ a, (k0_off145 v417) a + S1x1x128.size a ≤ S100000x1x128.size a := fun v417 k0_hw75 => k0_hw75

def k0_off146 (v85 : BitVec 32) (k0_t5 : Fin (k0_t5_loop v85).trips) : Fin 2 → Nat :=
  let c2_189 : Index := 2#32
  let c0_i32_48 : BitVec 32 := 0#32
  let c1_i32_50 : BitVec 32 := 1#32
  let arg9 : BitVec 32 := Scf.iv c0_i32_48 c1_i32_50 k0_t5
  let c16_i32_154 : BitVec 32 := 16#32
  let v324 : BitVec 32 := Scalar.muli arg9 c16_i32_154
  let c8_i32 : BitVec 32 := 8#32
  let v429 : BitVec 32 := Scalar.addi v324 c8_i32
  let v430 : Index := Scalar.indexCast v429
  ![2, v430.toNat]
def k0_off147 (v431 : BitVec 32) : Fin 3 → Nat :=
  let v432 : Index := Scalar.indexCast v431
  let c0_190 : Index := 0#32
  let c0_191 : Index := 0#32
  ![v432.toNat, 0, 0]

def k0_chk76 (v431 : BitVec 32) : Prop :=
  (∀ a, (k0_off147 v431) a + S1x1x128.size a ≤ S100000x1x128.size a)
theorem k0_off147_inb : ∀ (v431 : BitVec 32) (k0_hw76 : k0_chk76 v431), ∀ a, (k0_off147 v431) a + S1x1x128.size a ≤ S100000x1x128.size a := fun v431 k0_hw76 => k0_hw76

def k0_off148 (v85 : BitVec 32) (k0_t5 : Fin (k0_t5_loop v85).trips) : Fin 2 → Nat :=
  let c2_193 : Index := 2#32
  let c0_i32_48 : BitVec 32 := 0#32
  let c1_i32_50 : BitVec 32 := 1#32
  let arg9 : BitVec 32 := Scf.iv c0_i32_48 c1_i32_50 k0_t5
  let c16_i32_154 : BitVec 32 := 16#32
  let v324 : BitVec 32 := Scalar.muli arg9 c16_i32_154
  let c9_i32 : BitVec 32 := 9#32
  let v443 : BitVec 32 := Scalar.addi v324 c9_i32
  let v444 : Index := Scalar.indexCast v443
  ![2, v444.toNat]
def k0_off149 (v445 : BitVec 32) : Fin 3 → Nat :=
  let v446 : Index := Scalar.indexCast v445
  let c0_194 : Index := 0#32
  let c0_195 : Index := 0#32
  ![v446.toNat, 0, 0]

def k0_chk77 (v445 : BitVec 32) : Prop :=
  (∀ a, (k0_off149 v445) a + S1x1x128.size a ≤ S100000x1x128.size a)
theorem k0_off149_inb : ∀ (v445 : BitVec 32) (k0_hw77 : k0_chk77 v445), ∀ a, (k0_off149 v445) a + S1x1x128.size a ≤ S100000x1x128.size a := fun v445 k0_hw77 => k0_hw77

def k0_off150 (v85 : BitVec 32) (k0_t5 : Fin (k0_t5_loop v85).trips) : Fin 2 → Nat :=
  let c2_197 : Index := 2#32
  let c0_i32_48 : BitVec 32 := 0#32
  let c1_i32_50 : BitVec 32 := 1#32
  let arg9 : BitVec 32 := Scf.iv c0_i32_48 c1_i32_50 k0_t5
  let c16_i32_154 : BitVec 32 := 16#32
  let v324 : BitVec 32 := Scalar.muli arg9 c16_i32_154
  let c10_i32 : BitVec 32 := 10#32
  let v457 : BitVec 32 := Scalar.addi v324 c10_i32
  let v458 : Index := Scalar.indexCast v457
  ![2, v458.toNat]
def k0_off151 (v459 : BitVec 32) : Fin 3 → Nat :=
  let v460 : Index := Scalar.indexCast v459
  let c0_198 : Index := 0#32
  let c0_199 : Index := 0#32
  ![v460.toNat, 0, 0]

def k0_chk78 (v459 : BitVec 32) : Prop :=
  (∀ a, (k0_off151 v459) a + S1x1x128.size a ≤ S100000x1x128.size a)
theorem k0_off151_inb : ∀ (v459 : BitVec 32) (k0_hw78 : k0_chk78 v459), ∀ a, (k0_off151 v459) a + S1x1x128.size a ≤ S100000x1x128.size a := fun v459 k0_hw78 => k0_hw78

def k0_off152 (v85 : BitVec 32) (k0_t5 : Fin (k0_t5_loop v85).trips) : Fin 2 → Nat :=
  let c2_201 : Index := 2#32
  let c0_i32_48 : BitVec 32 := 0#32
  let c1_i32_50 : BitVec 32 := 1#32
  let arg9 : BitVec 32 := Scf.iv c0_i32_48 c1_i32_50 k0_t5
  let c16_i32_154 : BitVec 32 := 16#32
  let v324 : BitVec 32 := Scalar.muli arg9 c16_i32_154
  let c11_i32 : BitVec 32 := 11#32
  let v471 : BitVec 32 := Scalar.addi v324 c11_i32
  let v472 : Index := Scalar.indexCast v471
  ![2, v472.toNat]
def k0_off153 (v473 : BitVec 32) : Fin 3 → Nat :=
  let v474 : Index := Scalar.indexCast v473
  let c0_202 : Index := 0#32
  let c0_203 : Index := 0#32
  ![v474.toNat, 0, 0]

def k0_chk79 (v473 : BitVec 32) : Prop :=
  (∀ a, (k0_off153 v473) a + S1x1x128.size a ≤ S100000x1x128.size a)
theorem k0_off153_inb : ∀ (v473 : BitVec 32) (k0_hw79 : k0_chk79 v473), ∀ a, (k0_off153 v473) a + S1x1x128.size a ≤ S100000x1x128.size a := fun v473 k0_hw79 => k0_hw79

def k0_off154 (v85 : BitVec 32) (k0_t5 : Fin (k0_t5_loop v85).trips) : Fin 2 → Nat :=
  let c2_205 : Index := 2#32
  let c0_i32_48 : BitVec 32 := 0#32
  let c1_i32_50 : BitVec 32 := 1#32
  let arg9 : BitVec 32 := Scf.iv c0_i32_48 c1_i32_50 k0_t5
  let c16_i32_154 : BitVec 32 := 16#32
  let v324 : BitVec 32 := Scalar.muli arg9 c16_i32_154
  let c12_i32 : BitVec 32 := 12#32
  let v485 : BitVec 32 := Scalar.addi v324 c12_i32
  let v486 : Index := Scalar.indexCast v485
  ![2, v486.toNat]
def k0_off155 (v487 : BitVec 32) : Fin 3 → Nat :=
  let v488 : Index := Scalar.indexCast v487
  let c0_206 : Index := 0#32
  let c0_207 : Index := 0#32
  ![v488.toNat, 0, 0]

def k0_chk80 (v487 : BitVec 32) : Prop :=
  (∀ a, (k0_off155 v487) a + S1x1x128.size a ≤ S100000x1x128.size a)
theorem k0_off155_inb : ∀ (v487 : BitVec 32) (k0_hw80 : k0_chk80 v487), ∀ a, (k0_off155 v487) a + S1x1x128.size a ≤ S100000x1x128.size a := fun v487 k0_hw80 => k0_hw80

def k0_off156 (v85 : BitVec 32) (k0_t5 : Fin (k0_t5_loop v85).trips) : Fin 2 → Nat :=
  let c2_209 : Index := 2#32
  let c0_i32_48 : BitVec 32 := 0#32
  let c1_i32_50 : BitVec 32 := 1#32
  let arg9 : BitVec 32 := Scf.iv c0_i32_48 c1_i32_50 k0_t5
  let c16_i32_154 : BitVec 32 := 16#32
  let v324 : BitVec 32 := Scalar.muli arg9 c16_i32_154
  let c13_i32 : BitVec 32 := 13#32
  let v499 : BitVec 32 := Scalar.addi v324 c13_i32
  let v500 : Index := Scalar.indexCast v499
  ![2, v500.toNat]
def k0_off157 (v501 : BitVec 32) : Fin 3 → Nat :=
  let v502 : Index := Scalar.indexCast v501
  let c0_210 : Index := 0#32
  let c0_211 : Index := 0#32
  ![v502.toNat, 0, 0]

def k0_chk81 (v501 : BitVec 32) : Prop :=
  (∀ a, (k0_off157 v501) a + S1x1x128.size a ≤ S100000x1x128.size a)
theorem k0_off157_inb : ∀ (v501 : BitVec 32) (k0_hw81 : k0_chk81 v501), ∀ a, (k0_off157 v501) a + S1x1x128.size a ≤ S100000x1x128.size a := fun v501 k0_hw81 => k0_hw81

def k0_off158 (v85 : BitVec 32) (k0_t5 : Fin (k0_t5_loop v85).trips) : Fin 2 → Nat :=
  let c2_213 : Index := 2#32
  let c0_i32_48 : BitVec 32 := 0#32
  let c1_i32_50 : BitVec 32 := 1#32
  let arg9 : BitVec 32 := Scf.iv c0_i32_48 c1_i32_50 k0_t5
  let c16_i32_154 : BitVec 32 := 16#32
  let v324 : BitVec 32 := Scalar.muli arg9 c16_i32_154
  let c14_i32 : BitVec 32 := 14#32
  let v513 : BitVec 32 := Scalar.addi v324 c14_i32
  let v514 : Index := Scalar.indexCast v513
  ![2, v514.toNat]
def k0_off159 (v515 : BitVec 32) : Fin 3 → Nat :=
  let v516 : Index := Scalar.indexCast v515
  let c0_214 : Index := 0#32
  let c0_215 : Index := 0#32
  ![v516.toNat, 0, 0]

def k0_chk82 (v515 : BitVec 32) : Prop :=
  (∀ a, (k0_off159 v515) a + S1x1x128.size a ≤ S100000x1x128.size a)
theorem k0_off159_inb : ∀ (v515 : BitVec 32) (k0_hw82 : k0_chk82 v515), ∀ a, (k0_off159 v515) a + S1x1x128.size a ≤ S100000x1x128.size a := fun v515 k0_hw82 => k0_hw82

def k0_off160 (v85 : BitVec 32) (k0_t5 : Fin (k0_t5_loop v85).trips) : Fin 2 → Nat :=
  let c2_218 : Index := 2#32
  let c0_i32_48 : BitVec 32 := 0#32
  let c1_i32_50 : BitVec 32 := 1#32
  let arg9 : BitVec 32 := Scf.iv c0_i32_48 c1_i32_50 k0_t5
  let c16_i32_154 : BitVec 32 := 16#32
  let v324 : BitVec 32 := Scalar.muli arg9 c16_i32_154
  let c15_i32_217 : BitVec 32 := 15#32
  let v527 : BitVec 32 := Scalar.addi v324 c15_i32_217
  let v528 : Index := Scalar.indexCast v527
  ![2, v528.toNat]
def k0_off161 (v529 : BitVec 32) : Fin 3 → Nat :=
  let v530 : Index := Scalar.indexCast v529
  let c0_219 : Index := 0#32
  let c0_220 : Index := 0#32
  ![v530.toNat, 0, 0]

def k0_chk83 (v529 : BitVec 32) : Prop :=
  (∀ a, (k0_off161 v529) a + S1x1x128.size a ≤ S100000x1x128.size a)
theorem k0_off161_inb : ∀ (v529 : BitVec 32) (k0_hw83 : k0_chk83 v529), ∀ a, (k0_off161 v529) a + S1x1x128.size a ≤ S100000x1x128.size a := fun v529 k0_hw83 => k0_hw83

@[reducible] def k0_t6_loop (v85 : BitVec 32) : Scf.Loop 32 :=
  let c0_i32_48 : BitVec 32 := 0#32
  let c15_i32_38 : BitVec 32 := 15#32
  let v86 : BitVec 32 := Scalar.addi v85 c15_i32_38
  let c0_i32_40 : BitVec 32 := 0#32
  let v88 : BitVec 1 := Scalar.cmpi .sgt v86 c0_i32_40
  let v89 : BitVec 32 := Scalar.extui v88
  let c0_i32_41 : BitVec 32 := 0#32
  let v90 : BitVec 1 := Scalar.cmpi .slt v86 c0_i32_41
  let v91 : BitVec 32 := Scalar.extui v90
  let v92 : BitVec 32 := Scalar.subi v89 v91
  let c16_i32_39 : BitVec 32 := 16#32
  let c0_i32_42 : BitVec 32 := 0#32
  let v93 : BitVec 1 := Scalar.cmpi .sgt c16_i32_39 c0_i32_42
  let v94 : BitVec 32 := Scalar.extui v93
  let c0_i32_43 : BitVec 32 := 0#32
  let v95 : BitVec 1 := Scalar.cmpi .slt c16_i32_39 c0_i32_43
  let v96 : BitVec 32 := Scalar.extui v95
  let v97 : BitVec 32 := Scalar.subi v94 v96
  let v98 : BitVec 1 := Scalar.cmpi .ne v92 v97
  let v99 : BitVec 32 := Scalar.remsi v86 c16_i32_39
  let c0_i32_44 : BitVec 32 := 0#32
  let v100 : BitVec 1 := Scalar.cmpi .ne v99 c0_i32_44
  let v101 : BitVec 1 := Scalar.andi v98 v100
  let v87 : BitVec 32 := Scalar.divsi v86 c16_i32_39
  let c1_i32_45 : BitVec 32 := 1#32
  let v102 : BitVec 32 := Scalar.subi v87 c1_i32_45
  let v103 : BitVec 32 := Scalar.select v101 v102 v87
  let v105 : BitVec 32 := Scalar.subi v103 c0_i32_48
  let c1_i32_49 : BitVec 32 := 1#32
  let v107 : BitVec 32 := Scalar.divsi v105 c1_i32_49
  let v108 : BitVec 32 := Scalar.muli v107 c1_i32_49
  let v109 : BitVec 32 := Scalar.addi c0_i32_48 v108
  let v106 : BitVec 32 := Scalar.addi c0_i32_48 v105
  let c1_i32_51 : BitVec 32 := 1#32
  ⟨v109, v106, c1_i32_51⟩
def k0_off162 (v85 : BitVec 32) (k0_t6 : Fin (k0_t6_loop v85).trips) : Fin 2 → Nat :=
  let c2_156 : Index := 2#32
  let c0_i32_48 : BitVec 32 := 0#32
  let c15_i32_38 : BitVec 32 := 15#32
  let v86 : BitVec 32 := Scalar.addi v85 c15_i32_38
  let c0_i32_40 : BitVec 32 := 0#32
  let v88 : BitVec 1 := Scalar.cmpi .sgt v86 c0_i32_40
  let v89 : BitVec 32 := Scalar.extui v88
  let c0_i32_41 : BitVec 32 := 0#32
  let v90 : BitVec 1 := Scalar.cmpi .slt v86 c0_i32_41
  let v91 : BitVec 32 := Scalar.extui v90
  let v92 : BitVec 32 := Scalar.subi v89 v91
  let c16_i32_39 : BitVec 32 := 16#32
  let c0_i32_42 : BitVec 32 := 0#32
  let v93 : BitVec 1 := Scalar.cmpi .sgt c16_i32_39 c0_i32_42
  let v94 : BitVec 32 := Scalar.extui v93
  let c0_i32_43 : BitVec 32 := 0#32
  let v95 : BitVec 1 := Scalar.cmpi .slt c16_i32_39 c0_i32_43
  let v96 : BitVec 32 := Scalar.extui v95
  let v97 : BitVec 32 := Scalar.subi v94 v96
  let v98 : BitVec 1 := Scalar.cmpi .ne v92 v97
  let v99 : BitVec 32 := Scalar.remsi v86 c16_i32_39
  let c0_i32_44 : BitVec 32 := 0#32
  let v100 : BitVec 1 := Scalar.cmpi .ne v99 c0_i32_44
  let v101 : BitVec 1 := Scalar.andi v98 v100
  let v87 : BitVec 32 := Scalar.divsi v86 c16_i32_39
  let c1_i32_45 : BitVec 32 := 1#32
  let v102 : BitVec 32 := Scalar.subi v87 c1_i32_45
  let v103 : BitVec 32 := Scalar.select v101 v102 v87
  let v105 : BitVec 32 := Scalar.subi v103 c0_i32_48
  let c1_i32_49 : BitVec 32 := 1#32
  let v107 : BitVec 32 := Scalar.divsi v105 c1_i32_49
  let v108 : BitVec 32 := Scalar.muli v107 c1_i32_49
  let v109 : BitVec 32 := Scalar.addi c0_i32_48 v108
  let c1_i32_51 : BitVec 32 := 1#32
  let arg9 : BitVec 32 := Scf.iv v109 c1_i32_51 k0_t6
  let c16_i32_154 : BitVec 32 := 16#32
  let v324 : BitVec 32 := Scalar.muli arg9 c16_i32_154
  let c0_i32_155 : BitVec 32 := 0#32
  let v325 : BitVec 32 := Scalar.addi v324 c0_i32_155
  let v326 : Index := Scalar.indexCast v325
  ![2, v326.toNat]
def k0_off163 (v327 : BitVec 32) : Fin 3 → Nat :=
  let v328 : Index := Scalar.indexCast v327
  let c0_157 : Index := 0#32
  let c0_158 : Index := 0#32
  ![v328.toNat, 0, 0]

def k0_chk84 (v327 : BitVec 32) : Prop :=
  (∀ a, (k0_off163 v327) a + S1x1x128.size a ≤ S100000x1x128.size a)
theorem k0_off163_inb : ∀ (v327 : BitVec 32) (k0_hw84 : k0_chk84 v327), ∀ a, (k0_off163 v327) a + S1x1x128.size a ≤ S100000x1x128.size a := fun v327 k0_hw84 => k0_hw84

def k0_off164 (v85 : BitVec 32) (k0_t6 : Fin (k0_t6_loop v85).trips) : Fin 2 → Nat :=
  let c2_161 : Index := 2#32
  let c0_i32_48 : BitVec 32 := 0#32
  let c15_i32_38 : BitVec 32 := 15#32
  let v86 : BitVec 32 := Scalar.addi v85 c15_i32_38
  let c0_i32_40 : BitVec 32 := 0#32
  let v88 : BitVec 1 := Scalar.cmpi .sgt v86 c0_i32_40
  let v89 : BitVec 32 := Scalar.extui v88
  let c0_i32_41 : BitVec 32 := 0#32
  let v90 : BitVec 1 := Scalar.cmpi .slt v86 c0_i32_41
  let v91 : BitVec 32 := Scalar.extui v90
  let v92 : BitVec 32 := Scalar.subi v89 v91
  let c16_i32_39 : BitVec 32 := 16#32
  let c0_i32_42 : BitVec 32 := 0#32
  let v93 : BitVec 1 := Scalar.cmpi .sgt c16_i32_39 c0_i32_42
  let v94 : BitVec 32 := Scalar.extui v93
  let c0_i32_43 : BitVec 32 := 0#32
  let v95 : BitVec 1 := Scalar.cmpi .slt c16_i32_39 c0_i32_43
  let v96 : BitVec 32 := Scalar.extui v95
  let v97 : BitVec 32 := Scalar.subi v94 v96
  let v98 : BitVec 1 := Scalar.cmpi .ne v92 v97
  let v99 : BitVec 32 := Scalar.remsi v86 c16_i32_39
  let c0_i32_44 : BitVec 32 := 0#32
  let v100 : BitVec 1 := Scalar.cmpi .ne v99 c0_i32_44
  let v101 : BitVec 1 := Scalar.andi v98 v100
  let v87 : BitVec 32 := Scalar.divsi v86 c16_i32_39
  let c1_i32_45 : BitVec 32 := 1#32
  let v102 : BitVec 32 := Scalar.subi v87 c1_i32_45
  let v103 : BitVec 32 := Scalar.select v101 v102 v87
  let v105 : BitVec 32 := Scalar.subi v103 c0_i32_48
  let c1_i32_49 : BitVec 32 := 1#32
  let v107 : BitVec 32 := Scalar.divsi v105 c1_i32_49
  let v108 : BitVec 32 := Scalar.muli v107 c1_i32_49
  let v109 : BitVec 32 := Scalar.addi c0_i32_48 v108
  let c1_i32_51 : BitVec 32 := 1#32
  let arg9 : BitVec 32 := Scf.iv v109 c1_i32_51 k0_t6
  let c16_i32_154 : BitVec 32 := 16#32
  let v324 : BitVec 32 := Scalar.muli arg9 c16_i32_154
  let c1_i32_160 : BitVec 32 := 1#32
  let v337 : BitVec 32 := Scalar.addi v324 c1_i32_160
  let v338 : Index := Scalar.indexCast v337
  ![2, v338.toNat]
def k0_off165 (v339 : BitVec 32) : Fin 3 → Nat :=
  let v340 : Index := Scalar.indexCast v339
  let c0_162 : Index := 0#32
  let c0_163 : Index := 0#32
  ![v340.toNat, 0, 0]

def k0_chk85 (v339 : BitVec 32) : Prop :=
  (∀ a, (k0_off165 v339) a + S1x1x128.size a ≤ S100000x1x128.size a)
theorem k0_off165_inb : ∀ (v339 : BitVec 32) (k0_hw85 : k0_chk85 v339), ∀ a, (k0_off165 v339) a + S1x1x128.size a ≤ S100000x1x128.size a := fun v339 k0_hw85 => k0_hw85

def k0_off166 (v85 : BitVec 32) (k0_t6 : Fin (k0_t6_loop v85).trips) : Fin 2 → Nat :=
  let c2_165 : Index := 2#32
  let c0_i32_48 : BitVec 32 := 0#32
  let c15_i32_38 : BitVec 32 := 15#32
  let v86 : BitVec 32 := Scalar.addi v85 c15_i32_38
  let c0_i32_40 : BitVec 32 := 0#32
  let v88 : BitVec 1 := Scalar.cmpi .sgt v86 c0_i32_40
  let v89 : BitVec 32 := Scalar.extui v88
  let c0_i32_41 : BitVec 32 := 0#32
  let v90 : BitVec 1 := Scalar.cmpi .slt v86 c0_i32_41
  let v91 : BitVec 32 := Scalar.extui v90
  let v92 : BitVec 32 := Scalar.subi v89 v91
  let c16_i32_39 : BitVec 32 := 16#32
  let c0_i32_42 : BitVec 32 := 0#32
  let v93 : BitVec 1 := Scalar.cmpi .sgt c16_i32_39 c0_i32_42
  let v94 : BitVec 32 := Scalar.extui v93
  let c0_i32_43 : BitVec 32 := 0#32
  let v95 : BitVec 1 := Scalar.cmpi .slt c16_i32_39 c0_i32_43
  let v96 : BitVec 32 := Scalar.extui v95
  let v97 : BitVec 32 := Scalar.subi v94 v96
  let v98 : BitVec 1 := Scalar.cmpi .ne v92 v97
  let v99 : BitVec 32 := Scalar.remsi v86 c16_i32_39
  let c0_i32_44 : BitVec 32 := 0#32
  let v100 : BitVec 1 := Scalar.cmpi .ne v99 c0_i32_44
  let v101 : BitVec 1 := Scalar.andi v98 v100
  let v87 : BitVec 32 := Scalar.divsi v86 c16_i32_39
  let c1_i32_45 : BitVec 32 := 1#32
  let v102 : BitVec 32 := Scalar.subi v87 c1_i32_45
  let v103 : BitVec 32 := Scalar.select v101 v102 v87
  let v105 : BitVec 32 := Scalar.subi v103 c0_i32_48
  let c1_i32_49 : BitVec 32 := 1#32
  let v107 : BitVec 32 := Scalar.divsi v105 c1_i32_49
  let v108 : BitVec 32 := Scalar.muli v107 c1_i32_49
  let v109 : BitVec 32 := Scalar.addi c0_i32_48 v108
  let c1_i32_51 : BitVec 32 := 1#32
  let arg9 : BitVec 32 := Scf.iv v109 c1_i32_51 k0_t6
  let c16_i32_154 : BitVec 32 := 16#32
  let v324 : BitVec 32 := Scalar.muli arg9 c16_i32_154
  let c2_i32 : BitVec 32 := 2#32
  let v349 : BitVec 32 := Scalar.addi v324 c2_i32
  let v350 : Index := Scalar.indexCast v349
  ![2, v350.toNat]
def k0_off167 (v351 : BitVec 32) : Fin 3 → Nat :=
  let v352 : Index := Scalar.indexCast v351
  let c0_166 : Index := 0#32
  let c0_167 : Index := 0#32
  ![v352.toNat, 0, 0]

def k0_chk86 (v351 : BitVec 32) : Prop :=
  (∀ a, (k0_off167 v351) a + S1x1x128.size a ≤ S100000x1x128.size a)
theorem k0_off167_inb : ∀ (v351 : BitVec 32) (k0_hw86 : k0_chk86 v351), ∀ a, (k0_off167 v351) a + S1x1x128.size a ≤ S100000x1x128.size a := fun v351 k0_hw86 => k0_hw86

def k0_off168 (v85 : BitVec 32) (k0_t6 : Fin (k0_t6_loop v85).trips) : Fin 2 → Nat :=
  let c2_169 : Index := 2#32
  let c0_i32_48 : BitVec 32 := 0#32
  let c15_i32_38 : BitVec 32 := 15#32
  let v86 : BitVec 32 := Scalar.addi v85 c15_i32_38
  let c0_i32_40 : BitVec 32 := 0#32
  let v88 : BitVec 1 := Scalar.cmpi .sgt v86 c0_i32_40
  let v89 : BitVec 32 := Scalar.extui v88
  let c0_i32_41 : BitVec 32 := 0#32
  let v90 : BitVec 1 := Scalar.cmpi .slt v86 c0_i32_41
  let v91 : BitVec 32 := Scalar.extui v90
  let v92 : BitVec 32 := Scalar.subi v89 v91
  let c16_i32_39 : BitVec 32 := 16#32
  let c0_i32_42 : BitVec 32 := 0#32
  let v93 : BitVec 1 := Scalar.cmpi .sgt c16_i32_39 c0_i32_42
  let v94 : BitVec 32 := Scalar.extui v93
  let c0_i32_43 : BitVec 32 := 0#32
  let v95 : BitVec 1 := Scalar.cmpi .slt c16_i32_39 c0_i32_43
  let v96 : BitVec 32 := Scalar.extui v95
  let v97 : BitVec 32 := Scalar.subi v94 v96
  let v98 : BitVec 1 := Scalar.cmpi .ne v92 v97
  let v99 : BitVec 32 := Scalar.remsi v86 c16_i32_39
  let c0_i32_44 : BitVec 32 := 0#32
  let v100 : BitVec 1 := Scalar.cmpi .ne v99 c0_i32_44
  let v101 : BitVec 1 := Scalar.andi v98 v100
  let v87 : BitVec 32 := Scalar.divsi v86 c16_i32_39
  let c1_i32_45 : BitVec 32 := 1#32
  let v102 : BitVec 32 := Scalar.subi v87 c1_i32_45
  let v103 : BitVec 32 := Scalar.select v101 v102 v87
  let v105 : BitVec 32 := Scalar.subi v103 c0_i32_48
  let c1_i32_49 : BitVec 32 := 1#32
  let v107 : BitVec 32 := Scalar.divsi v105 c1_i32_49
  let v108 : BitVec 32 := Scalar.muli v107 c1_i32_49
  let v109 : BitVec 32 := Scalar.addi c0_i32_48 v108
  let c1_i32_51 : BitVec 32 := 1#32
  let arg9 : BitVec 32 := Scf.iv v109 c1_i32_51 k0_t6
  let c16_i32_154 : BitVec 32 := 16#32
  let v324 : BitVec 32 := Scalar.muli arg9 c16_i32_154
  let c3_i32 : BitVec 32 := 3#32
  let v361 : BitVec 32 := Scalar.addi v324 c3_i32
  let v362 : Index := Scalar.indexCast v361
  ![2, v362.toNat]
def k0_off169 (v363 : BitVec 32) : Fin 3 → Nat :=
  let v364 : Index := Scalar.indexCast v363
  let c0_170 : Index := 0#32
  let c0_171 : Index := 0#32
  ![v364.toNat, 0, 0]

def k0_chk87 (v363 : BitVec 32) : Prop :=
  (∀ a, (k0_off169 v363) a + S1x1x128.size a ≤ S100000x1x128.size a)
theorem k0_off169_inb : ∀ (v363 : BitVec 32) (k0_hw87 : k0_chk87 v363), ∀ a, (k0_off169 v363) a + S1x1x128.size a ≤ S100000x1x128.size a := fun v363 k0_hw87 => k0_hw87

def k0_off170 (v85 : BitVec 32) (k0_t6 : Fin (k0_t6_loop v85).trips) : Fin 2 → Nat :=
  let c2_173 : Index := 2#32
  let c0_i32_48 : BitVec 32 := 0#32
  let c15_i32_38 : BitVec 32 := 15#32
  let v86 : BitVec 32 := Scalar.addi v85 c15_i32_38
  let c0_i32_40 : BitVec 32 := 0#32
  let v88 : BitVec 1 := Scalar.cmpi .sgt v86 c0_i32_40
  let v89 : BitVec 32 := Scalar.extui v88
  let c0_i32_41 : BitVec 32 := 0#32
  let v90 : BitVec 1 := Scalar.cmpi .slt v86 c0_i32_41
  let v91 : BitVec 32 := Scalar.extui v90
  let v92 : BitVec 32 := Scalar.subi v89 v91
  let c16_i32_39 : BitVec 32 := 16#32
  let c0_i32_42 : BitVec 32 := 0#32
  let v93 : BitVec 1 := Scalar.cmpi .sgt c16_i32_39 c0_i32_42
  let v94 : BitVec 32 := Scalar.extui v93
  let c0_i32_43 : BitVec 32 := 0#32
  let v95 : BitVec 1 := Scalar.cmpi .slt c16_i32_39 c0_i32_43
  let v96 : BitVec 32 := Scalar.extui v95
  let v97 : BitVec 32 := Scalar.subi v94 v96
  let v98 : BitVec 1 := Scalar.cmpi .ne v92 v97
  let v99 : BitVec 32 := Scalar.remsi v86 c16_i32_39
  let c0_i32_44 : BitVec 32 := 0#32
  let v100 : BitVec 1 := Scalar.cmpi .ne v99 c0_i32_44
  let v101 : BitVec 1 := Scalar.andi v98 v100
  let v87 : BitVec 32 := Scalar.divsi v86 c16_i32_39
  let c1_i32_45 : BitVec 32 := 1#32
  let v102 : BitVec 32 := Scalar.subi v87 c1_i32_45
  let v103 : BitVec 32 := Scalar.select v101 v102 v87
  let v105 : BitVec 32 := Scalar.subi v103 c0_i32_48
  let c1_i32_49 : BitVec 32 := 1#32
  let v107 : BitVec 32 := Scalar.divsi v105 c1_i32_49
  let v108 : BitVec 32 := Scalar.muli v107 c1_i32_49
  let v109 : BitVec 32 := Scalar.addi c0_i32_48 v108
  let c1_i32_51 : BitVec 32 := 1#32
  let arg9 : BitVec 32 := Scf.iv v109 c1_i32_51 k0_t6
  let c16_i32_154 : BitVec 32 := 16#32
  let v324 : BitVec 32 := Scalar.muli arg9 c16_i32_154
  let c4_i32 : BitVec 32 := 4#32
  let v373 : BitVec 32 := Scalar.addi v324 c4_i32
  let v374 : Index := Scalar.indexCast v373
  ![2, v374.toNat]
def k0_off171 (v375 : BitVec 32) : Fin 3 → Nat :=
  let v376 : Index := Scalar.indexCast v375
  let c0_174 : Index := 0#32
  let c0_175 : Index := 0#32
  ![v376.toNat, 0, 0]

def k0_chk88 (v375 : BitVec 32) : Prop :=
  (∀ a, (k0_off171 v375) a + S1x1x128.size a ≤ S100000x1x128.size a)
theorem k0_off171_inb : ∀ (v375 : BitVec 32) (k0_hw88 : k0_chk88 v375), ∀ a, (k0_off171 v375) a + S1x1x128.size a ≤ S100000x1x128.size a := fun v375 k0_hw88 => k0_hw88

def k0_off172 (v85 : BitVec 32) (k0_t6 : Fin (k0_t6_loop v85).trips) : Fin 2 → Nat :=
  let c2_177 : Index := 2#32
  let c0_i32_48 : BitVec 32 := 0#32
  let c15_i32_38 : BitVec 32 := 15#32
  let v86 : BitVec 32 := Scalar.addi v85 c15_i32_38
  let c0_i32_40 : BitVec 32 := 0#32
  let v88 : BitVec 1 := Scalar.cmpi .sgt v86 c0_i32_40
  let v89 : BitVec 32 := Scalar.extui v88
  let c0_i32_41 : BitVec 32 := 0#32
  let v90 : BitVec 1 := Scalar.cmpi .slt v86 c0_i32_41
  let v91 : BitVec 32 := Scalar.extui v90
  let v92 : BitVec 32 := Scalar.subi v89 v91
  let c16_i32_39 : BitVec 32 := 16#32
  let c0_i32_42 : BitVec 32 := 0#32
  let v93 : BitVec 1 := Scalar.cmpi .sgt c16_i32_39 c0_i32_42
  let v94 : BitVec 32 := Scalar.extui v93
  let c0_i32_43 : BitVec 32 := 0#32
  let v95 : BitVec 1 := Scalar.cmpi .slt c16_i32_39 c0_i32_43
  let v96 : BitVec 32 := Scalar.extui v95
  let v97 : BitVec 32 := Scalar.subi v94 v96
  let v98 : BitVec 1 := Scalar.cmpi .ne v92 v97
  let v99 : BitVec 32 := Scalar.remsi v86 c16_i32_39
  let c0_i32_44 : BitVec 32 := 0#32
  let v100 : BitVec 1 := Scalar.cmpi .ne v99 c0_i32_44
  let v101 : BitVec 1 := Scalar.andi v98 v100
  let v87 : BitVec 32 := Scalar.divsi v86 c16_i32_39
  let c1_i32_45 : BitVec 32 := 1#32
  let v102 : BitVec 32 := Scalar.subi v87 c1_i32_45
  let v103 : BitVec 32 := Scalar.select v101 v102 v87
  let v105 : BitVec 32 := Scalar.subi v103 c0_i32_48
  let c1_i32_49 : BitVec 32 := 1#32
  let v107 : BitVec 32 := Scalar.divsi v105 c1_i32_49
  let v108 : BitVec 32 := Scalar.muli v107 c1_i32_49
  let v109 : BitVec 32 := Scalar.addi c0_i32_48 v108
  let c1_i32_51 : BitVec 32 := 1#32
  let arg9 : BitVec 32 := Scf.iv v109 c1_i32_51 k0_t6
  let c16_i32_154 : BitVec 32 := 16#32
  let v324 : BitVec 32 := Scalar.muli arg9 c16_i32_154
  let c5_i32 : BitVec 32 := 5#32
  let v387 : BitVec 32 := Scalar.addi v324 c5_i32
  let v388 : Index := Scalar.indexCast v387
  ![2, v388.toNat]
def k0_off173 (v389 : BitVec 32) : Fin 3 → Nat :=
  let v390 : Index := Scalar.indexCast v389
  let c0_178 : Index := 0#32
  let c0_179 : Index := 0#32
  ![v390.toNat, 0, 0]

def k0_chk89 (v389 : BitVec 32) : Prop :=
  (∀ a, (k0_off173 v389) a + S1x1x128.size a ≤ S100000x1x128.size a)
theorem k0_off173_inb : ∀ (v389 : BitVec 32) (k0_hw89 : k0_chk89 v389), ∀ a, (k0_off173 v389) a + S1x1x128.size a ≤ S100000x1x128.size a := fun v389 k0_hw89 => k0_hw89

def k0_off174 (v85 : BitVec 32) (k0_t6 : Fin (k0_t6_loop v85).trips) : Fin 2 → Nat :=
  let c2_181 : Index := 2#32
  let c0_i32_48 : BitVec 32 := 0#32
  let c15_i32_38 : BitVec 32 := 15#32
  let v86 : BitVec 32 := Scalar.addi v85 c15_i32_38
  let c0_i32_40 : BitVec 32 := 0#32
  let v88 : BitVec 1 := Scalar.cmpi .sgt v86 c0_i32_40
  let v89 : BitVec 32 := Scalar.extui v88
  let c0_i32_41 : BitVec 32 := 0#32
  let v90 : BitVec 1 := Scalar.cmpi .slt v86 c0_i32_41
  let v91 : BitVec 32 := Scalar.extui v90
  let v92 : BitVec 32 := Scalar.subi v89 v91
  let c16_i32_39 : BitVec 32 := 16#32
  let c0_i32_42 : BitVec 32 := 0#32
  let v93 : BitVec 1 := Scalar.cmpi .sgt c16_i32_39 c0_i32_42
  let v94 : BitVec 32 := Scalar.extui v93
  let c0_i32_43 : BitVec 32 := 0#32
  let v95 : BitVec 1 := Scalar.cmpi .slt c16_i32_39 c0_i32_43
  let v96 : BitVec 32 := Scalar.extui v95
  let v97 : BitVec 32 := Scalar.subi v94 v96
  let v98 : BitVec 1 := Scalar.cmpi .ne v92 v97
  let v99 : BitVec 32 := Scalar.remsi v86 c16_i32_39
  let c0_i32_44 : BitVec 32 := 0#32
  let v100 : BitVec 1 := Scalar.cmpi .ne v99 c0_i32_44
  let v101 : BitVec 1 := Scalar.andi v98 v100
  let v87 : BitVec 32 := Scalar.divsi v86 c16_i32_39
  let c1_i32_45 : BitVec 32 := 1#32
  let v102 : BitVec 32 := Scalar.subi v87 c1_i32_45
  let v103 : BitVec 32 := Scalar.select v101 v102 v87
  let v105 : BitVec 32 := Scalar.subi v103 c0_i32_48
  let c1_i32_49 : BitVec 32 := 1#32
  let v107 : BitVec 32 := Scalar.divsi v105 c1_i32_49
  let v108 : BitVec 32 := Scalar.muli v107 c1_i32_49
  let v109 : BitVec 32 := Scalar.addi c0_i32_48 v108
  let c1_i32_51 : BitVec 32 := 1#32
  let arg9 : BitVec 32 := Scf.iv v109 c1_i32_51 k0_t6
  let c16_i32_154 : BitVec 32 := 16#32
  let v324 : BitVec 32 := Scalar.muli arg9 c16_i32_154
  let c6_i32 : BitVec 32 := 6#32
  let v401 : BitVec 32 := Scalar.addi v324 c6_i32
  let v402 : Index := Scalar.indexCast v401
  ![2, v402.toNat]
def k0_off175 (v403 : BitVec 32) : Fin 3 → Nat :=
  let v404 : Index := Scalar.indexCast v403
  let c0_182 : Index := 0#32
  let c0_183 : Index := 0#32
  ![v404.toNat, 0, 0]

def k0_chk90 (v403 : BitVec 32) : Prop :=
  (∀ a, (k0_off175 v403) a + S1x1x128.size a ≤ S100000x1x128.size a)
theorem k0_off175_inb : ∀ (v403 : BitVec 32) (k0_hw90 : k0_chk90 v403), ∀ a, (k0_off175 v403) a + S1x1x128.size a ≤ S100000x1x128.size a := fun v403 k0_hw90 => k0_hw90

def k0_off176 (v85 : BitVec 32) (k0_t6 : Fin (k0_t6_loop v85).trips) : Fin 2 → Nat :=
  let c2_185 : Index := 2#32
  let c0_i32_48 : BitVec 32 := 0#32
  let c15_i32_38 : BitVec 32 := 15#32
  let v86 : BitVec 32 := Scalar.addi v85 c15_i32_38
  let c0_i32_40 : BitVec 32 := 0#32
  let v88 : BitVec 1 := Scalar.cmpi .sgt v86 c0_i32_40
  let v89 : BitVec 32 := Scalar.extui v88
  let c0_i32_41 : BitVec 32 := 0#32
  let v90 : BitVec 1 := Scalar.cmpi .slt v86 c0_i32_41
  let v91 : BitVec 32 := Scalar.extui v90
  let v92 : BitVec 32 := Scalar.subi v89 v91
  let c16_i32_39 : BitVec 32 := 16#32
  let c0_i32_42 : BitVec 32 := 0#32
  let v93 : BitVec 1 := Scalar.cmpi .sgt c16_i32_39 c0_i32_42
  let v94 : BitVec 32 := Scalar.extui v93
  let c0_i32_43 : BitVec 32 := 0#32
  let v95 : BitVec 1 := Scalar.cmpi .slt c16_i32_39 c0_i32_43
  let v96 : BitVec 32 := Scalar.extui v95
  let v97 : BitVec 32 := Scalar.subi v94 v96
  let v98 : BitVec 1 := Scalar.cmpi .ne v92 v97
  let v99 : BitVec 32 := Scalar.remsi v86 c16_i32_39
  let c0_i32_44 : BitVec 32 := 0#32
  let v100 : BitVec 1 := Scalar.cmpi .ne v99 c0_i32_44
  let v101 : BitVec 1 := Scalar.andi v98 v100
  let v87 : BitVec 32 := Scalar.divsi v86 c16_i32_39
  let c1_i32_45 : BitVec 32 := 1#32
  let v102 : BitVec 32 := Scalar.subi v87 c1_i32_45
  let v103 : BitVec 32 := Scalar.select v101 v102 v87
  let v105 : BitVec 32 := Scalar.subi v103 c0_i32_48
  let c1_i32_49 : BitVec 32 := 1#32
  let v107 : BitVec 32 := Scalar.divsi v105 c1_i32_49
  let v108 : BitVec 32 := Scalar.muli v107 c1_i32_49
  let v109 : BitVec 32 := Scalar.addi c0_i32_48 v108
  let c1_i32_51 : BitVec 32 := 1#32
  let arg9 : BitVec 32 := Scf.iv v109 c1_i32_51 k0_t6
  let c16_i32_154 : BitVec 32 := 16#32
  let v324 : BitVec 32 := Scalar.muli arg9 c16_i32_154
  let c7_i32 : BitVec 32 := 7#32
  let v415 : BitVec 32 := Scalar.addi v324 c7_i32
  let v416 : Index := Scalar.indexCast v415
  ![2, v416.toNat]
def k0_off177 (v417 : BitVec 32) : Fin 3 → Nat :=
  let v418 : Index := Scalar.indexCast v417
  let c0_186 : Index := 0#32
  let c0_187 : Index := 0#32
  ![v418.toNat, 0, 0]

def k0_chk91 (v417 : BitVec 32) : Prop :=
  (∀ a, (k0_off177 v417) a + S1x1x128.size a ≤ S100000x1x128.size a)
theorem k0_off177_inb : ∀ (v417 : BitVec 32) (k0_hw91 : k0_chk91 v417), ∀ a, (k0_off177 v417) a + S1x1x128.size a ≤ S100000x1x128.size a := fun v417 k0_hw91 => k0_hw91

def k0_off178 (v85 : BitVec 32) (k0_t6 : Fin (k0_t6_loop v85).trips) : Fin 2 → Nat :=
  let c2_189 : Index := 2#32
  let c0_i32_48 : BitVec 32 := 0#32
  let c15_i32_38 : BitVec 32 := 15#32
  let v86 : BitVec 32 := Scalar.addi v85 c15_i32_38
  let c0_i32_40 : BitVec 32 := 0#32
  let v88 : BitVec 1 := Scalar.cmpi .sgt v86 c0_i32_40
  let v89 : BitVec 32 := Scalar.extui v88
  let c0_i32_41 : BitVec 32 := 0#32
  let v90 : BitVec 1 := Scalar.cmpi .slt v86 c0_i32_41
  let v91 : BitVec 32 := Scalar.extui v90
  let v92 : BitVec 32 := Scalar.subi v89 v91
  let c16_i32_39 : BitVec 32 := 16#32
  let c0_i32_42 : BitVec 32 := 0#32
  let v93 : BitVec 1 := Scalar.cmpi .sgt c16_i32_39 c0_i32_42
  let v94 : BitVec 32 := Scalar.extui v93
  let c0_i32_43 : BitVec 32 := 0#32
  let v95 : BitVec 1 := Scalar.cmpi .slt c16_i32_39 c0_i32_43
  let v96 : BitVec 32 := Scalar.extui v95
  let v97 : BitVec 32 := Scalar.subi v94 v96
  let v98 : BitVec 1 := Scalar.cmpi .ne v92 v97
  let v99 : BitVec 32 := Scalar.remsi v86 c16_i32_39
  let c0_i32_44 : BitVec 32 := 0#32
  let v100 : BitVec 1 := Scalar.cmpi .ne v99 c0_i32_44
  let v101 : BitVec 1 := Scalar.andi v98 v100
  let v87 : BitVec 32 := Scalar.divsi v86 c16_i32_39
  let c1_i32_45 : BitVec 32 := 1#32
  let v102 : BitVec 32 := Scalar.subi v87 c1_i32_45
  let v103 : BitVec 32 := Scalar.select v101 v102 v87
  let v105 : BitVec 32 := Scalar.subi v103 c0_i32_48
  let c1_i32_49 : BitVec 32 := 1#32
  let v107 : BitVec 32 := Scalar.divsi v105 c1_i32_49
  let v108 : BitVec 32 := Scalar.muli v107 c1_i32_49
  let v109 : BitVec 32 := Scalar.addi c0_i32_48 v108
  let c1_i32_51 : BitVec 32 := 1#32
  let arg9 : BitVec 32 := Scf.iv v109 c1_i32_51 k0_t6
  let c16_i32_154 : BitVec 32 := 16#32
  let v324 : BitVec 32 := Scalar.muli arg9 c16_i32_154
  let c8_i32 : BitVec 32 := 8#32
  let v429 : BitVec 32 := Scalar.addi v324 c8_i32
  let v430 : Index := Scalar.indexCast v429
  ![2, v430.toNat]
def k0_off179 (v431 : BitVec 32) : Fin 3 → Nat :=
  let v432 : Index := Scalar.indexCast v431
  let c0_190 : Index := 0#32
  let c0_191 : Index := 0#32
  ![v432.toNat, 0, 0]

def k0_chk92 (v431 : BitVec 32) : Prop :=
  (∀ a, (k0_off179 v431) a + S1x1x128.size a ≤ S100000x1x128.size a)
theorem k0_off179_inb : ∀ (v431 : BitVec 32) (k0_hw92 : k0_chk92 v431), ∀ a, (k0_off179 v431) a + S1x1x128.size a ≤ S100000x1x128.size a := fun v431 k0_hw92 => k0_hw92

def k0_off180 (v85 : BitVec 32) (k0_t6 : Fin (k0_t6_loop v85).trips) : Fin 2 → Nat :=
  let c2_193 : Index := 2#32
  let c0_i32_48 : BitVec 32 := 0#32
  let c15_i32_38 : BitVec 32 := 15#32
  let v86 : BitVec 32 := Scalar.addi v85 c15_i32_38
  let c0_i32_40 : BitVec 32 := 0#32
  let v88 : BitVec 1 := Scalar.cmpi .sgt v86 c0_i32_40
  let v89 : BitVec 32 := Scalar.extui v88
  let c0_i32_41 : BitVec 32 := 0#32
  let v90 : BitVec 1 := Scalar.cmpi .slt v86 c0_i32_41
  let v91 : BitVec 32 := Scalar.extui v90
  let v92 : BitVec 32 := Scalar.subi v89 v91
  let c16_i32_39 : BitVec 32 := 16#32
  let c0_i32_42 : BitVec 32 := 0#32
  let v93 : BitVec 1 := Scalar.cmpi .sgt c16_i32_39 c0_i32_42
  let v94 : BitVec 32 := Scalar.extui v93
  let c0_i32_43 : BitVec 32 := 0#32
  let v95 : BitVec 1 := Scalar.cmpi .slt c16_i32_39 c0_i32_43
  let v96 : BitVec 32 := Scalar.extui v95
  let v97 : BitVec 32 := Scalar.subi v94 v96
  let v98 : BitVec 1 := Scalar.cmpi .ne v92 v97
  let v99 : BitVec 32 := Scalar.remsi v86 c16_i32_39
  let c0_i32_44 : BitVec 32 := 0#32
  let v100 : BitVec 1 := Scalar.cmpi .ne v99 c0_i32_44
  let v101 : BitVec 1 := Scalar.andi v98 v100
  let v87 : BitVec 32 := Scalar.divsi v86 c16_i32_39
  let c1_i32_45 : BitVec 32 := 1#32
  let v102 : BitVec 32 := Scalar.subi v87 c1_i32_45
  let v103 : BitVec 32 := Scalar.select v101 v102 v87
  let v105 : BitVec 32 := Scalar.subi v103 c0_i32_48
  let c1_i32_49 : BitVec 32 := 1#32
  let v107 : BitVec 32 := Scalar.divsi v105 c1_i32_49
  let v108 : BitVec 32 := Scalar.muli v107 c1_i32_49
  let v109 : BitVec 32 := Scalar.addi c0_i32_48 v108
  let c1_i32_51 : BitVec 32 := 1#32
  let arg9 : BitVec 32 := Scf.iv v109 c1_i32_51 k0_t6
  let c16_i32_154 : BitVec 32 := 16#32
  let v324 : BitVec 32 := Scalar.muli arg9 c16_i32_154
  let c9_i32 : BitVec 32 := 9#32
  let v443 : BitVec 32 := Scalar.addi v324 c9_i32
  let v444 : Index := Scalar.indexCast v443
  ![2, v444.toNat]
def k0_off181 (v445 : BitVec 32) : Fin 3 → Nat :=
  let v446 : Index := Scalar.indexCast v445
  let c0_194 : Index := 0#32
  let c0_195 : Index := 0#32
  ![v446.toNat, 0, 0]

def k0_chk93 (v445 : BitVec 32) : Prop :=
  (∀ a, (k0_off181 v445) a + S1x1x128.size a ≤ S100000x1x128.size a)
theorem k0_off181_inb : ∀ (v445 : BitVec 32) (k0_hw93 : k0_chk93 v445), ∀ a, (k0_off181 v445) a + S1x1x128.size a ≤ S100000x1x128.size a := fun v445 k0_hw93 => k0_hw93

def k0_off182 (v85 : BitVec 32) (k0_t6 : Fin (k0_t6_loop v85).trips) : Fin 2 → Nat :=
  let c2_197 : Index := 2#32
  let c0_i32_48 : BitVec 32 := 0#32
  let c15_i32_38 : BitVec 32 := 15#32
  let v86 : BitVec 32 := Scalar.addi v85 c15_i32_38
  let c0_i32_40 : BitVec 32 := 0#32
  let v88 : BitVec 1 := Scalar.cmpi .sgt v86 c0_i32_40
  let v89 : BitVec 32 := Scalar.extui v88
  let c0_i32_41 : BitVec 32 := 0#32
  let v90 : BitVec 1 := Scalar.cmpi .slt v86 c0_i32_41
  let v91 : BitVec 32 := Scalar.extui v90
  let v92 : BitVec 32 := Scalar.subi v89 v91
  let c16_i32_39 : BitVec 32 := 16#32
  let c0_i32_42 : BitVec 32 := 0#32
  let v93 : BitVec 1 := Scalar.cmpi .sgt c16_i32_39 c0_i32_42
  let v94 : BitVec 32 := Scalar.extui v93
  let c0_i32_43 : BitVec 32 := 0#32
  let v95 : BitVec 1 := Scalar.cmpi .slt c16_i32_39 c0_i32_43
  let v96 : BitVec 32 := Scalar.extui v95
  let v97 : BitVec 32 := Scalar.subi v94 v96
  let v98 : BitVec 1 := Scalar.cmpi .ne v92 v97
  let v99 : BitVec 32 := Scalar.remsi v86 c16_i32_39
  let c0_i32_44 : BitVec 32 := 0#32
  let v100 : BitVec 1 := Scalar.cmpi .ne v99 c0_i32_44
  let v101 : BitVec 1 := Scalar.andi v98 v100
  let v87 : BitVec 32 := Scalar.divsi v86 c16_i32_39
  let c1_i32_45 : BitVec 32 := 1#32
  let v102 : BitVec 32 := Scalar.subi v87 c1_i32_45
  let v103 : BitVec 32 := Scalar.select v101 v102 v87
  let v105 : BitVec 32 := Scalar.subi v103 c0_i32_48
  let c1_i32_49 : BitVec 32 := 1#32
  let v107 : BitVec 32 := Scalar.divsi v105 c1_i32_49
  let v108 : BitVec 32 := Scalar.muli v107 c1_i32_49
  let v109 : BitVec 32 := Scalar.addi c0_i32_48 v108
  let c1_i32_51 : BitVec 32 := 1#32
  let arg9 : BitVec 32 := Scf.iv v109 c1_i32_51 k0_t6
  let c16_i32_154 : BitVec 32 := 16#32
  let v324 : BitVec 32 := Scalar.muli arg9 c16_i32_154
  let c10_i32 : BitVec 32 := 10#32
  let v457 : BitVec 32 := Scalar.addi v324 c10_i32
  let v458 : Index := Scalar.indexCast v457
  ![2, v458.toNat]
def k0_off183 (v459 : BitVec 32) : Fin 3 → Nat :=
  let v460 : Index := Scalar.indexCast v459
  let c0_198 : Index := 0#32
  let c0_199 : Index := 0#32
  ![v460.toNat, 0, 0]

def k0_chk94 (v459 : BitVec 32) : Prop :=
  (∀ a, (k0_off183 v459) a + S1x1x128.size a ≤ S100000x1x128.size a)
theorem k0_off183_inb : ∀ (v459 : BitVec 32) (k0_hw94 : k0_chk94 v459), ∀ a, (k0_off183 v459) a + S1x1x128.size a ≤ S100000x1x128.size a := fun v459 k0_hw94 => k0_hw94

def k0_off184 (v85 : BitVec 32) (k0_t6 : Fin (k0_t6_loop v85).trips) : Fin 2 → Nat :=
  let c2_201 : Index := 2#32
  let c0_i32_48 : BitVec 32 := 0#32
  let c15_i32_38 : BitVec 32 := 15#32
  let v86 : BitVec 32 := Scalar.addi v85 c15_i32_38
  let c0_i32_40 : BitVec 32 := 0#32
  let v88 : BitVec 1 := Scalar.cmpi .sgt v86 c0_i32_40
  let v89 : BitVec 32 := Scalar.extui v88
  let c0_i32_41 : BitVec 32 := 0#32
  let v90 : BitVec 1 := Scalar.cmpi .slt v86 c0_i32_41
  let v91 : BitVec 32 := Scalar.extui v90
  let v92 : BitVec 32 := Scalar.subi v89 v91
  let c16_i32_39 : BitVec 32 := 16#32
  let c0_i32_42 : BitVec 32 := 0#32
  let v93 : BitVec 1 := Scalar.cmpi .sgt c16_i32_39 c0_i32_42
  let v94 : BitVec 32 := Scalar.extui v93
  let c0_i32_43 : BitVec 32 := 0#32
  let v95 : BitVec 1 := Scalar.cmpi .slt c16_i32_39 c0_i32_43
  let v96 : BitVec 32 := Scalar.extui v95
  let v97 : BitVec 32 := Scalar.subi v94 v96
  let v98 : BitVec 1 := Scalar.cmpi .ne v92 v97
  let v99 : BitVec 32 := Scalar.remsi v86 c16_i32_39
  let c0_i32_44 : BitVec 32 := 0#32
  let v100 : BitVec 1 := Scalar.cmpi .ne v99 c0_i32_44
  let v101 : BitVec 1 := Scalar.andi v98 v100
  let v87 : BitVec 32 := Scalar.divsi v86 c16_i32_39
  let c1_i32_45 : BitVec 32 := 1#32
  let v102 : BitVec 32 := Scalar.subi v87 c1_i32_45
  let v103 : BitVec 32 := Scalar.select v101 v102 v87
  let v105 : BitVec 32 := Scalar.subi v103 c0_i32_48
  let c1_i32_49 : BitVec 32 := 1#32
  let v107 : BitVec 32 := Scalar.divsi v105 c1_i32_49
  let v108 : BitVec 32 := Scalar.muli v107 c1_i32_49
  let v109 : BitVec 32 := Scalar.addi c0_i32_48 v108
  let c1_i32_51 : BitVec 32 := 1#32
  let arg9 : BitVec 32 := Scf.iv v109 c1_i32_51 k0_t6
  let c16_i32_154 : BitVec 32 := 16#32
  let v324 : BitVec 32 := Scalar.muli arg9 c16_i32_154
  let c11_i32 : BitVec 32 := 11#32
  let v471 : BitVec 32 := Scalar.addi v324 c11_i32
  let v472 : Index := Scalar.indexCast v471
  ![2, v472.toNat]
def k0_off185 (v473 : BitVec 32) : Fin 3 → Nat :=
  let v474 : Index := Scalar.indexCast v473
  let c0_202 : Index := 0#32
  let c0_203 : Index := 0#32
  ![v474.toNat, 0, 0]

def k0_chk95 (v473 : BitVec 32) : Prop :=
  (∀ a, (k0_off185 v473) a + S1x1x128.size a ≤ S100000x1x128.size a)
theorem k0_off185_inb : ∀ (v473 : BitVec 32) (k0_hw95 : k0_chk95 v473), ∀ a, (k0_off185 v473) a + S1x1x128.size a ≤ S100000x1x128.size a := fun v473 k0_hw95 => k0_hw95

def k0_off186 (v85 : BitVec 32) (k0_t6 : Fin (k0_t6_loop v85).trips) : Fin 2 → Nat :=
  let c2_205 : Index := 2#32
  let c0_i32_48 : BitVec 32 := 0#32
  let c15_i32_38 : BitVec 32 := 15#32
  let v86 : BitVec 32 := Scalar.addi v85 c15_i32_38
  let c0_i32_40 : BitVec 32 := 0#32
  let v88 : BitVec 1 := Scalar.cmpi .sgt v86 c0_i32_40
  let v89 : BitVec 32 := Scalar.extui v88
  let c0_i32_41 : BitVec 32 := 0#32
  let v90 : BitVec 1 := Scalar.cmpi .slt v86 c0_i32_41
  let v91 : BitVec 32 := Scalar.extui v90
  let v92 : BitVec 32 := Scalar.subi v89 v91
  let c16_i32_39 : BitVec 32 := 16#32
  let c0_i32_42 : BitVec 32 := 0#32
  let v93 : BitVec 1 := Scalar.cmpi .sgt c16_i32_39 c0_i32_42
  let v94 : BitVec 32 := Scalar.extui v93
  let c0_i32_43 : BitVec 32 := 0#32
  let v95 : BitVec 1 := Scalar.cmpi .slt c16_i32_39 c0_i32_43
  let v96 : BitVec 32 := Scalar.extui v95
  let v97 : BitVec 32 := Scalar.subi v94 v96
  let v98 : BitVec 1 := Scalar.cmpi .ne v92 v97
  let v99 : BitVec 32 := Scalar.remsi v86 c16_i32_39
  let c0_i32_44 : BitVec 32 := 0#32
  let v100 : BitVec 1 := Scalar.cmpi .ne v99 c0_i32_44
  let v101 : BitVec 1 := Scalar.andi v98 v100
  let v87 : BitVec 32 := Scalar.divsi v86 c16_i32_39
  let c1_i32_45 : BitVec 32 := 1#32
  let v102 : BitVec 32 := Scalar.subi v87 c1_i32_45
  let v103 : BitVec 32 := Scalar.select v101 v102 v87
  let v105 : BitVec 32 := Scalar.subi v103 c0_i32_48
  let c1_i32_49 : BitVec 32 := 1#32
  let v107 : BitVec 32 := Scalar.divsi v105 c1_i32_49
  let v108 : BitVec 32 := Scalar.muli v107 c1_i32_49
  let v109 : BitVec 32 := Scalar.addi c0_i32_48 v108
  let c1_i32_51 : BitVec 32 := 1#32
  let arg9 : BitVec 32 := Scf.iv v109 c1_i32_51 k0_t6
  let c16_i32_154 : BitVec 32 := 16#32
  let v324 : BitVec 32 := Scalar.muli arg9 c16_i32_154
  let c12_i32 : BitVec 32 := 12#32
  let v485 : BitVec 32 := Scalar.addi v324 c12_i32
  let v486 : Index := Scalar.indexCast v485
  ![2, v486.toNat]
def k0_off187 (v487 : BitVec 32) : Fin 3 → Nat :=
  let v488 : Index := Scalar.indexCast v487
  let c0_206 : Index := 0#32
  let c0_207 : Index := 0#32
  ![v488.toNat, 0, 0]

def k0_chk96 (v487 : BitVec 32) : Prop :=
  (∀ a, (k0_off187 v487) a + S1x1x128.size a ≤ S100000x1x128.size a)
theorem k0_off187_inb : ∀ (v487 : BitVec 32) (k0_hw96 : k0_chk96 v487), ∀ a, (k0_off187 v487) a + S1x1x128.size a ≤ S100000x1x128.size a := fun v487 k0_hw96 => k0_hw96

def k0_off188 (v85 : BitVec 32) (k0_t6 : Fin (k0_t6_loop v85).trips) : Fin 2 → Nat :=
  let c2_209 : Index := 2#32
  let c0_i32_48 : BitVec 32 := 0#32
  let c15_i32_38 : BitVec 32 := 15#32
  let v86 : BitVec 32 := Scalar.addi v85 c15_i32_38
  let c0_i32_40 : BitVec 32 := 0#32
  let v88 : BitVec 1 := Scalar.cmpi .sgt v86 c0_i32_40
  let v89 : BitVec 32 := Scalar.extui v88
  let c0_i32_41 : BitVec 32 := 0#32
  let v90 : BitVec 1 := Scalar.cmpi .slt v86 c0_i32_41
  let v91 : BitVec 32 := Scalar.extui v90
  let v92 : BitVec 32 := Scalar.subi v89 v91
  let c16_i32_39 : BitVec 32 := 16#32
  let c0_i32_42 : BitVec 32 := 0#32
  let v93 : BitVec 1 := Scalar.cmpi .sgt c16_i32_39 c0_i32_42
  let v94 : BitVec 32 := Scalar.extui v93
  let c0_i32_43 : BitVec 32 := 0#32
  let v95 : BitVec 1 := Scalar.cmpi .slt c16_i32_39 c0_i32_43
  let v96 : BitVec 32 := Scalar.extui v95
  let v97 : BitVec 32 := Scalar.subi v94 v96
  let v98 : BitVec 1 := Scalar.cmpi .ne v92 v97
  let v99 : BitVec 32 := Scalar.remsi v86 c16_i32_39
  let c0_i32_44 : BitVec 32 := 0#32
  let v100 : BitVec 1 := Scalar.cmpi .ne v99 c0_i32_44
  let v101 : BitVec 1 := Scalar.andi v98 v100
  let v87 : BitVec 32 := Scalar.divsi v86 c16_i32_39
  let c1_i32_45 : BitVec 32 := 1#32
  let v102 : BitVec 32 := Scalar.subi v87 c1_i32_45
  let v103 : BitVec 32 := Scalar.select v101 v102 v87
  let v105 : BitVec 32 := Scalar.subi v103 c0_i32_48
  let c1_i32_49 : BitVec 32 := 1#32
  let v107 : BitVec 32 := Scalar.divsi v105 c1_i32_49
  let v108 : BitVec 32 := Scalar.muli v107 c1_i32_49
  let v109 : BitVec 32 := Scalar.addi c0_i32_48 v108
  let c1_i32_51 : BitVec 32 := 1#32
  let arg9 : BitVec 32 := Scf.iv v109 c1_i32_51 k0_t6
  let c16_i32_154 : BitVec 32 := 16#32
  let v324 : BitVec 32 := Scalar.muli arg9 c16_i32_154
  let c13_i32 : BitVec 32 := 13#32
  let v499 : BitVec 32 := Scalar.addi v324 c13_i32
  let v500 : Index := Scalar.indexCast v499
  ![2, v500.toNat]
def k0_off189 (v501 : BitVec 32) : Fin 3 → Nat :=
  let v502 : Index := Scalar.indexCast v501
  let c0_210 : Index := 0#32
  let c0_211 : Index := 0#32
  ![v502.toNat, 0, 0]

def k0_chk97 (v501 : BitVec 32) : Prop :=
  (∀ a, (k0_off189 v501) a + S1x1x128.size a ≤ S100000x1x128.size a)
theorem k0_off189_inb : ∀ (v501 : BitVec 32) (k0_hw97 : k0_chk97 v501), ∀ a, (k0_off189 v501) a + S1x1x128.size a ≤ S100000x1x128.size a := fun v501 k0_hw97 => k0_hw97

def k0_off190 (v85 : BitVec 32) (k0_t6 : Fin (k0_t6_loop v85).trips) : Fin 2 → Nat :=
  let c2_213 : Index := 2#32
  let c0_i32_48 : BitVec 32 := 0#32
  let c15_i32_38 : BitVec 32 := 15#32
  let v86 : BitVec 32 := Scalar.addi v85 c15_i32_38
  let c0_i32_40 : BitVec 32 := 0#32
  let v88 : BitVec 1 := Scalar.cmpi .sgt v86 c0_i32_40
  let v89 : BitVec 32 := Scalar.extui v88
  let c0_i32_41 : BitVec 32 := 0#32
  let v90 : BitVec 1 := Scalar.cmpi .slt v86 c0_i32_41
  let v91 : BitVec 32 := Scalar.extui v90
  let v92 : BitVec 32 := Scalar.subi v89 v91
  let c16_i32_39 : BitVec 32 := 16#32
  let c0_i32_42 : BitVec 32 := 0#32
  let v93 : BitVec 1 := Scalar.cmpi .sgt c16_i32_39 c0_i32_42
  let v94 : BitVec 32 := Scalar.extui v93
  let c0_i32_43 : BitVec 32 := 0#32
  let v95 : BitVec 1 := Scalar.cmpi .slt c16_i32_39 c0_i32_43
  let v96 : BitVec 32 := Scalar.extui v95
  let v97 : BitVec 32 := Scalar.subi v94 v96
  let v98 : BitVec 1 := Scalar.cmpi .ne v92 v97
  let v99 : BitVec 32 := Scalar.remsi v86 c16_i32_39
  let c0_i32_44 : BitVec 32 := 0#32
  let v100 : BitVec 1 := Scalar.cmpi .ne v99 c0_i32_44
  let v101 : BitVec 1 := Scalar.andi v98 v100
  let v87 : BitVec 32 := Scalar.divsi v86 c16_i32_39
  let c1_i32_45 : BitVec 32 := 1#32
  let v102 : BitVec 32 := Scalar.subi v87 c1_i32_45
  let v103 : BitVec 32 := Scalar.select v101 v102 v87
  let v105 : BitVec 32 := Scalar.subi v103 c0_i32_48
  let c1_i32_49 : BitVec 32 := 1#32
  let v107 : BitVec 32 := Scalar.divsi v105 c1_i32_49
  let v108 : BitVec 32 := Scalar.muli v107 c1_i32_49
  let v109 : BitVec 32 := Scalar.addi c0_i32_48 v108
  let c1_i32_51 : BitVec 32 := 1#32
  let arg9 : BitVec 32 := Scf.iv v109 c1_i32_51 k0_t6
  let c16_i32_154 : BitVec 32 := 16#32
  let v324 : BitVec 32 := Scalar.muli arg9 c16_i32_154
  let c14_i32 : BitVec 32 := 14#32
  let v513 : BitVec 32 := Scalar.addi v324 c14_i32
  let v514 : Index := Scalar.indexCast v513
  ![2, v514.toNat]
def k0_off191 (v515 : BitVec 32) : Fin 3 → Nat :=
  let v516 : Index := Scalar.indexCast v515
  let c0_214 : Index := 0#32
  let c0_215 : Index := 0#32
  ![v516.toNat, 0, 0]

def k0_chk98 (v515 : BitVec 32) : Prop :=
  (∀ a, (k0_off191 v515) a + S1x1x128.size a ≤ S100000x1x128.size a)
theorem k0_off191_inb : ∀ (v515 : BitVec 32) (k0_hw98 : k0_chk98 v515), ∀ a, (k0_off191 v515) a + S1x1x128.size a ≤ S100000x1x128.size a := fun v515 k0_hw98 => k0_hw98

def k0_off192 (v85 : BitVec 32) (k0_t6 : Fin (k0_t6_loop v85).trips) : Fin 2 → Nat :=
  let c2_218 : Index := 2#32
  let c0_i32_48 : BitVec 32 := 0#32
  let c15_i32_38 : BitVec 32 := 15#32
  let v86 : BitVec 32 := Scalar.addi v85 c15_i32_38
  let c0_i32_40 : BitVec 32 := 0#32
  let v88 : BitVec 1 := Scalar.cmpi .sgt v86 c0_i32_40
  let v89 : BitVec 32 := Scalar.extui v88
  let c0_i32_41 : BitVec 32 := 0#32
  let v90 : BitVec 1 := Scalar.cmpi .slt v86 c0_i32_41
  let v91 : BitVec 32 := Scalar.extui v90
  let v92 : BitVec 32 := Scalar.subi v89 v91
  let c16_i32_39 : BitVec 32 := 16#32
  let c0_i32_42 : BitVec 32 := 0#32
  let v93 : BitVec 1 := Scalar.cmpi .sgt c16_i32_39 c0_i32_42
  let v94 : BitVec 32 := Scalar.extui v93
  let c0_i32_43 : BitVec 32 := 0#32
  let v95 : BitVec 1 := Scalar.cmpi .slt c16_i32_39 c0_i32_43
  let v96 : BitVec 32 := Scalar.extui v95
  let v97 : BitVec 32 := Scalar.subi v94 v96
  let v98 : BitVec 1 := Scalar.cmpi .ne v92 v97
  let v99 : BitVec 32 := Scalar.remsi v86 c16_i32_39
  let c0_i32_44 : BitVec 32 := 0#32
  let v100 : BitVec 1 := Scalar.cmpi .ne v99 c0_i32_44
  let v101 : BitVec 1 := Scalar.andi v98 v100
  let v87 : BitVec 32 := Scalar.divsi v86 c16_i32_39
  let c1_i32_45 : BitVec 32 := 1#32
  let v102 : BitVec 32 := Scalar.subi v87 c1_i32_45
  let v103 : BitVec 32 := Scalar.select v101 v102 v87
  let v105 : BitVec 32 := Scalar.subi v103 c0_i32_48
  let c1_i32_49 : BitVec 32 := 1#32
  let v107 : BitVec 32 := Scalar.divsi v105 c1_i32_49
  let v108 : BitVec 32 := Scalar.muli v107 c1_i32_49
  let v109 : BitVec 32 := Scalar.addi c0_i32_48 v108
  let c1_i32_51 : BitVec 32 := 1#32
  let arg9 : BitVec 32 := Scf.iv v109 c1_i32_51 k0_t6
  let c16_i32_154 : BitVec 32 := 16#32
  let v324 : BitVec 32 := Scalar.muli arg9 c16_i32_154
  let c15_i32_217 : BitVec 32 := 15#32
  let v527 : BitVec 32 := Scalar.addi v324 c15_i32_217
  let v528 : Index := Scalar.indexCast v527
  ![2, v528.toNat]

def k0_chk67_0 (v85 : BitVec 32) : Prop :=
  ((k0_t5_loop v85).OK) ∧
  (∀ k0_t5 : Fin (k0_t5_loop v85).trips, ∀ a, (k0_off130 v85 k0_t5) a + S1x1.size a ≤ S8x512.size a) ∧
  (∀ k0_t5 : Fin (k0_t5_loop v85).trips, ∀ a, (k0_off132 v85 k0_t5) a + S1x1.size a ≤ S8x512.size a) ∧
  (∀ k0_t5 : Fin (k0_t5_loop v85).trips, ∀ a, (k0_off134 v85 k0_t5) a + S1x1.size a ≤ S8x512.size a) ∧
  (∀ k0_t5 : Fin (k0_t5_loop v85).trips, ∀ a, (k0_off136 v85 k0_t5) a + S1x1.size a ≤ S8x512.size a) ∧
  (∀ k0_t5 : Fin (k0_t5_loop v85).trips, ∀ a, (k0_off138 v85 k0_t5) a + S1x1.size a ≤ S8x512.size a) ∧
  (∀ k0_t5 : Fin (k0_t5_loop v85).trips, ∀ a, (k0_off140 v85 k0_t5) a + S1x1.size a ≤ S8x512.size a) ∧
  (∀ k0_t5 : Fin (k0_t5_loop v85).trips, ∀ a, (k0_off142 v85 k0_t5) a + S1x1.size a ≤ S8x512.size a) ∧
  (∀ k0_t5 : Fin (k0_t5_loop v85).trips, ∀ a, (k0_off144 v85 k0_t5) a + S1x1.size a ≤ S8x512.size a) ∧
  (∀ k0_t5 : Fin (k0_t5_loop v85).trips, ∀ a, (k0_off146 v85 k0_t5) a + S1x1.size a ≤ S8x512.size a) ∧
  (∀ k0_t5 : Fin (k0_t5_loop v85).trips, ∀ a, (k0_off148 v85 k0_t5) a + S1x1.size a ≤ S8x512.size a) ∧
  (∀ k0_t5 : Fin (k0_t5_loop v85).trips, ∀ a, (k0_off150 v85 k0_t5) a + S1x1.size a ≤ S8x512.size a) ∧
  (∀ k0_t5 : Fin (k0_t5_loop v85).trips, ∀ a, (k0_off152 v85 k0_t5) a + S1x1.size a ≤ S8x512.size a) ∧
  (∀ k0_t5 : Fin (k0_t5_loop v85).trips, ∀ a, (k0_off154 v85 k0_t5) a + S1x1.size a ≤ S8x512.size a) ∧
  (∀ k0_t5 : Fin (k0_t5_loop v85).trips, ∀ a, (k0_off156 v85 k0_t5) a + S1x1.size a ≤ S8x512.size a) ∧
  (∀ k0_t5 : Fin (k0_t5_loop v85).trips, ∀ a, (k0_off158 v85 k0_t5) a + S1x1.size a ≤ S8x512.size a) ∧
  (∀ k0_t5 : Fin (k0_t5_loop v85).trips, ∀ a, (k0_off160 v85 k0_t5) a + S1x1.size a ≤ S8x512.size a) ∧
  ((k0_t6_loop v85).OK) ∧
  (∀ k0_t6 : Fin (k0_t6_loop v85).trips, ∀ a, (k0_off162 v85 k0_t6) a + S1x1.size a ≤ S8x512.size a) ∧
  (∀ k0_t6 : Fin (k0_t6_loop v85).trips, ∀ a, (k0_off164 v85 k0_t6) a + S1x1.size a ≤ S8x512.size a) ∧
  (∀ k0_t6 : Fin (k0_t6_loop v85).trips, ∀ a, (k0_off166 v85 k0_t6) a + S1x1.size a ≤ S8x512.size a) ∧
  (∀ k0_t6 : Fin (k0_t6_loop v85).trips, ∀ a, (k0_off168 v85 k0_t6) a + S1x1.size a ≤ S8x512.size a) ∧
  (∀ k0_t6 : Fin (k0_t6_loop v85).trips, ∀ a, (k0_off170 v85 k0_t6) a + S1x1.size a ≤ S8x512.size a) ∧
  (∀ k0_t6 : Fin (k0_t6_loop v85).trips, ∀ a, (k0_off172 v85 k0_t6) a + S1x1.size a ≤ S8x512.size a) ∧
  (∀ k0_t6 : Fin (k0_t6_loop v85).trips, ∀ a, (k0_off174 v85 k0_t6) a + S1x1.size a ≤ S8x512.size a) ∧
  (∀ k0_t6 : Fin (k0_t6_loop v85).trips, ∀ a, (k0_off176 v85 k0_t6) a + S1x1.size a ≤ S8x512.size a) ∧
  (∀ k0_t6 : Fin (k0_t6_loop v85).trips, ∀ a, (k0_off178 v85 k0_t6) a + S1x1.size a ≤ S8x512.size a) ∧
  (∀ k0_t6 : Fin (k0_t6_loop v85).trips, ∀ a, (k0_off180 v85 k0_t6) a + S1x1.size a ≤ S8x512.size a) ∧
  (∀ k0_t6 : Fin (k0_t6_loop v85).trips, ∀ a, (k0_off182 v85 k0_t6) a + S1x1.size a ≤ S8x512.size a) ∧
  (∀ k0_t6 : Fin (k0_t6_loop v85).trips, ∀ a, (k0_off184 v85 k0_t6) a + S1x1.size a ≤ S8x512.size a) ∧
  (∀ k0_t6 : Fin (k0_t6_loop v85).trips, ∀ a, (k0_off186 v85 k0_t6) a + S1x1.size a ≤ S8x512.size a) ∧
  (∀ k0_t6 : Fin (k0_t6_loop v85).trips, ∀ a, (k0_off188 v85 k0_t6) a + S1x1.size a ≤ S8x512.size a)
def k0_chk67_1 (v85 : BitVec 32) : Prop :=
  (∀ k0_t6 : Fin (k0_t6_loop v85).trips, ∀ a, (k0_off190 v85 k0_t6) a + S1x1.size a ≤ S8x512.size a) ∧
  (∀ k0_t6 : Fin (k0_t6_loop v85).trips, ∀ a, (k0_off192 v85 k0_t6) a + S1x1.size a ≤ S8x512.size a)
def k0_chk67 (v85 : BitVec 32) : Prop :=
  k0_chk67_0 v85 ∧
  k0_chk67_1 v85
theorem k0_t5_ok : ∀ (v85 : BitVec 32) (k0_hw67 : k0_chk67 v85), (k0_t5_loop v85).OK := fun v85 k0_hw67 => k0_hw67.1.1
theorem k0_off130_inb : ∀ (v85 : BitVec 32) (k0_hw67 : k0_chk67 v85) (k0_t5 : Fin (k0_t5_loop v85).trips), ∀ a, (k0_off130 v85 k0_t5) a + S1x1.size a ≤ S8x512.size a := fun v85 k0_hw67 k0_t5 => k0_hw67.1.2.1 k0_t5
theorem k0_off132_inb : ∀ (v85 : BitVec 32) (k0_hw67 : k0_chk67 v85) (k0_t5 : Fin (k0_t5_loop v85).trips), ∀ a, (k0_off132 v85 k0_t5) a + S1x1.size a ≤ S8x512.size a := fun v85 k0_hw67 k0_t5 => k0_hw67.1.2.2.1 k0_t5
theorem k0_off134_inb : ∀ (v85 : BitVec 32) (k0_hw67 : k0_chk67 v85) (k0_t5 : Fin (k0_t5_loop v85).trips), ∀ a, (k0_off134 v85 k0_t5) a + S1x1.size a ≤ S8x512.size a := fun v85 k0_hw67 k0_t5 => k0_hw67.1.2.2.2.1 k0_t5
theorem k0_off136_inb : ∀ (v85 : BitVec 32) (k0_hw67 : k0_chk67 v85) (k0_t5 : Fin (k0_t5_loop v85).trips), ∀ a, (k0_off136 v85 k0_t5) a + S1x1.size a ≤ S8x512.size a := fun v85 k0_hw67 k0_t5 => k0_hw67.1.2.2.2.2.1 k0_t5
theorem k0_off138_inb : ∀ (v85 : BitVec 32) (k0_hw67 : k0_chk67 v85) (k0_t5 : Fin (k0_t5_loop v85).trips), ∀ a, (k0_off138 v85 k0_t5) a + S1x1.size a ≤ S8x512.size a := fun v85 k0_hw67 k0_t5 => k0_hw67.1.2.2.2.2.2.1 k0_t5
theorem k0_off140_inb : ∀ (v85 : BitVec 32) (k0_hw67 : k0_chk67 v85) (k0_t5 : Fin (k0_t5_loop v85).trips), ∀ a, (k0_off140 v85 k0_t5) a + S1x1.size a ≤ S8x512.size a := fun v85 k0_hw67 k0_t5 => k0_hw67.1.2.2.2.2.2.2.1 k0_t5
theorem k0_off142_inb : ∀ (v85 : BitVec 32) (k0_hw67 : k0_chk67 v85) (k0_t5 : Fin (k0_t5_loop v85).trips), ∀ a, (k0_off142 v85 k0_t5) a + S1x1.size a ≤ S8x512.size a := fun v85 k0_hw67 k0_t5 => k0_hw67.1.2.2.2.2.2.2.2.1 k0_t5
theorem k0_off144_inb : ∀ (v85 : BitVec 32) (k0_hw67 : k0_chk67 v85) (k0_t5 : Fin (k0_t5_loop v85).trips), ∀ a, (k0_off144 v85 k0_t5) a + S1x1.size a ≤ S8x512.size a := fun v85 k0_hw67 k0_t5 => k0_hw67.1.2.2.2.2.2.2.2.2.1 k0_t5
theorem k0_off146_inb : ∀ (v85 : BitVec 32) (k0_hw67 : k0_chk67 v85) (k0_t5 : Fin (k0_t5_loop v85).trips), ∀ a, (k0_off146 v85 k0_t5) a + S1x1.size a ≤ S8x512.size a := fun v85 k0_hw67 k0_t5 => k0_hw67.1.2.2.2.2.2.2.2.2.2.1 k0_t5
theorem k0_off148_inb : ∀ (v85 : BitVec 32) (k0_hw67 : k0_chk67 v85) (k0_t5 : Fin (k0_t5_loop v85).trips), ∀ a, (k0_off148 v85 k0_t5) a + S1x1.size a ≤ S8x512.size a := fun v85 k0_hw67 k0_t5 => k0_hw67.1.2.2.2.2.2.2.2.2.2.2.1 k0_t5
theorem k0_off150_inb : ∀ (v85 : BitVec 32) (k0_hw67 : k0_chk67 v85) (k0_t5 : Fin (k0_t5_loop v85).trips), ∀ a, (k0_off150 v85 k0_t5) a + S1x1.size a ≤ S8x512.size a := fun v85 k0_hw67 k0_t5 => k0_hw67.1.2.2.2.2.2.2.2.2.2.2.2.1 k0_t5
theorem k0_off152_inb : ∀ (v85 : BitVec 32) (k0_hw67 : k0_chk67 v85) (k0_t5 : Fin (k0_t5_loop v85).trips), ∀ a, (k0_off152 v85 k0_t5) a + S1x1.size a ≤ S8x512.size a := fun v85 k0_hw67 k0_t5 => k0_hw67.1.2.2.2.2.2.2.2.2.2.2.2.2.1 k0_t5
theorem k0_off154_inb : ∀ (v85 : BitVec 32) (k0_hw67 : k0_chk67 v85) (k0_t5 : Fin (k0_t5_loop v85).trips), ∀ a, (k0_off154 v85 k0_t5) a + S1x1.size a ≤ S8x512.size a := fun v85 k0_hw67 k0_t5 => k0_hw67.1.2.2.2.2.2.2.2.2.2.2.2.2.2.1 k0_t5
theorem k0_off156_inb : ∀ (v85 : BitVec 32) (k0_hw67 : k0_chk67 v85) (k0_t5 : Fin (k0_t5_loop v85).trips), ∀ a, (k0_off156 v85 k0_t5) a + S1x1.size a ≤ S8x512.size a := fun v85 k0_hw67 k0_t5 => k0_hw67.1.2.2.2.2.2.2.2.2.2.2.2.2.2.2.1 k0_t5
theorem k0_off158_inb : ∀ (v85 : BitVec 32) (k0_hw67 : k0_chk67 v85) (k0_t5 : Fin (k0_t5_loop v85).trips), ∀ a, (k0_off158 v85 k0_t5) a + S1x1.size a ≤ S8x512.size a := fun v85 k0_hw67 k0_t5 => k0_hw67.1.2.2.2.2.2.2.2.2.2.2.2.2.2.2.2.1 k0_t5
theorem k0_off160_inb : ∀ (v85 : BitVec 32) (k0_hw67 : k0_chk67 v85) (k0_t5 : Fin (k0_t5_loop v85).trips), ∀ a, (k0_off160 v85 k0_t5) a + S1x1.size a ≤ S8x512.size a := fun v85 k0_hw67 k0_t5 => k0_hw67.1.2.2.2.2.2.2.2.2.2.2.2.2.2.2.2.2.1 k0_t5
theorem k0_t6_ok : ∀ (v85 : BitVec 32) (k0_hw67 : k0_chk67 v85), (k0_t6_loop v85).OK := fun v85 k0_hw67 => k0_hw67.1.2.2.2.2.2.2.2.2.2.2.2.2.2.2.2.2.2.1
theorem k0_off162_inb : ∀ (v85 : BitVec 32) (k0_hw67 : k0_chk67 v85) (k0_t6 : Fin (k0_t6_loop v85).trips), ∀ a, (k0_off162 v85 k0_t6) a + S1x1.size a ≤ S8x512.size a := fun v85 k0_hw67 k0_t6 => k0_hw67.1.2.2.2.2.2.2.2.2.2.2.2.2.2.2.2.2.2.2.1 k0_t6
theorem k0_off164_inb : ∀ (v85 : BitVec 32) (k0_hw67 : k0_chk67 v85) (k0_t6 : Fin (k0_t6_loop v85).trips), ∀ a, (k0_off164 v85 k0_t6) a + S1x1.size a ≤ S8x512.size a := fun v85 k0_hw67 k0_t6 => k0_hw67.1.2.2.2.2.2.2.2.2.2.2.2.2.2.2.2.2.2.2.2.1 k0_t6
theorem k0_off166_inb : ∀ (v85 : BitVec 32) (k0_hw67 : k0_chk67 v85) (k0_t6 : Fin (k0_t6_loop v85).trips), ∀ a, (k0_off166 v85 k0_t6) a + S1x1.size a ≤ S8x512.size a := fun v85 k0_hw67 k0_t6 => k0_hw67.1.2.2.2.2.2.2.2.2.2.2.2.2.2.2.2.2.2.2.2.2.1 k0_t6
theorem k0_off168_inb : ∀ (v85 : BitVec 32) (k0_hw67 : k0_chk67 v85) (k0_t6 : Fin (k0_t6_loop v85).trips), ∀ a, (k0_off168 v85 k0_t6) a + S1x1.size a ≤ S8x512.size a := fun v85 k0_hw67 k0_t6 => k0_hw67.1.2.2.2.2.2.2.2.2.2.2.2.2.2.2.2.2.2.2.2.2.2.1 k0_t6
theorem k0_off170_inb : ∀ (v85 : BitVec 32) (k0_hw67 : k0_chk67 v85) (k0_t6 : Fin (k0_t6_loop v85).trips), ∀ a, (k0_off170 v85 k0_t6) a + S1x1.size a ≤ S8x512.size a := fun v85 k0_hw67 k0_t6 => k0_hw67.1.2.2.2.2.2.2.2.2.2.2.2.2.2.2.2.2.2.2.2.2.2.2.1 k0_t6
theorem k0_off172_inb : ∀ (v85 : BitVec 32) (k0_hw67 : k0_chk67 v85) (k0_t6 : Fin (k0_t6_loop v85).trips), ∀ a, (k0_off172 v85 k0_t6) a + S1x1.size a ≤ S8x512.size a := fun v85 k0_hw67 k0_t6 => k0_hw67.1.2.2.2.2.2.2.2.2.2.2.2.2.2.2.2.2.2.2.2.2.2.2.2.1 k0_t6
theorem k0_off174_inb : ∀ (v85 : BitVec 32) (k0_hw67 : k0_chk67 v85) (k0_t6 : Fin (k0_t6_loop v85).trips), ∀ a, (k0_off174 v85 k0_t6) a + S1x1.size a ≤ S8x512.size a := fun v85 k0_hw67 k0_t6 => k0_hw67.1.2.2.2.2.2.2.2.2.2.2.2.2.2.2.2.2.2.2.2.2.2.2.2.2.1 k0_t6
theorem k0_off176_inb : ∀ (v85 : BitVec 32) (k0_hw67 : k0_chk67 v85) (k0_t6 : Fin (k0_t6_loop v85).trips), ∀ a, (k0_off176 v85 k0_t6) a + S1x1.size a ≤ S8x512.size a := fun v85 k0_hw67 k0_t6 => k0_hw67.1.2.2.2.2.2.2.2.2.2.2.2.2.2.2.2.2.2.2.2.2.2.2.2.2.2.1 k0_t6
theorem k0_off178_inb : ∀ (v85 : BitVec 32) (k0_hw67 : k0_chk67 v85) (k0_t6 : Fin (k0_t6_loop v85).trips), ∀ a, (k0_off178 v85 k0_t6) a + S1x1.size a ≤ S8x512.size a := fun v85 k0_hw67 k0_t6 => k0_hw67.1.2.2.2.2.2.2.2.2.2.2.2.2.2.2.2.2.2.2.2.2.2.2.2.2.2.2.1 k0_t6
theorem k0_off180_inb : ∀ (v85 : BitVec 32) (k0_hw67 : k0_chk67 v85) (k0_t6 : Fin (k0_t6_loop v85).trips), ∀ a, (k0_off180 v85 k0_t6) a + S1x1.size a ≤ S8x512.size a := fun v85 k0_hw67 k0_t6 => k0_hw67.1.2.2.2.2.2.2.2.2.2.2.2.2.2.2.2.2.2.2.2.2.2.2.2.2.2.2.2.1 k0_t6
theorem k0_off182_inb : ∀ (v85 : BitVec 32) (k0_hw67 : k0_chk67 v85) (k0_t6 : Fin (k0_t6_loop v85).trips), ∀ a, (k0_off182 v85 k0_t6) a + S1x1.size a ≤ S8x512.size a := fun v85 k0_hw67 k0_t6 => k0_hw67.1.2.2.2.2.2.2.2.2.2.2.2.2.2.2.2.2.2.2.2.2.2.2.2.2.2.2.2.2.1 k0_t6
theorem k0_off184_inb : ∀ (v85 : BitVec 32) (k0_hw67 : k0_chk67 v85) (k0_t6 : Fin (k0_t6_loop v85).trips), ∀ a, (k0_off184 v85 k0_t6) a + S1x1.size a ≤ S8x512.size a := fun v85 k0_hw67 k0_t6 => k0_hw67.1.2.2.2.2.2.2.2.2.2.2.2.2.2.2.2.2.2.2.2.2.2.2.2.2.2.2.2.2.2.1 k0_t6
theorem k0_off186_inb : ∀ (v85 : BitVec 32) (k0_hw67 : k0_chk67 v85) (k0_t6 : Fin (k0_t6_loop v85).trips), ∀ a, (k0_off186 v85 k0_t6) a + S1x1.size a ≤ S8x512.size a := fun v85 k0_hw67 k0_t6 => k0_hw67.1.2.2.2.2.2.2.2.2.2.2.2.2.2.2.2.2.2.2.2.2.2.2.2.2.2.2.2.2.2.2.1 k0_t6
theorem k0_off188_inb : ∀ (v85 : BitVec 32) (k0_hw67 : k0_chk67 v85) (k0_t6 : Fin (k0_t6_loop v85).trips), ∀ a, (k0_off188 v85 k0_t6) a + S1x1.size a ≤ S8x512.size a := fun v85 k0_hw67 k0_t6 => k0_hw67.1.2.2.2.2.2.2.2.2.2.2.2.2.2.2.2.2.2.2.2.2.2.2.2.2.2.2.2.2.2.2.2 k0_t6
theorem k0_off190_inb : ∀ (v85 : BitVec 32) (k0_hw67 : k0_chk67 v85) (k0_t6 : Fin (k0_t6_loop v85).trips), ∀ a, (k0_off190 v85 k0_t6) a + S1x1.size a ≤ S8x512.size a := fun v85 k0_hw67 k0_t6 => k0_hw67.2.1 k0_t6
theorem k0_off192_inb : ∀ (v85 : BitVec 32) (k0_hw67 : k0_chk67 v85) (k0_t6 : Fin (k0_t6_loop v85).trips), ∀ a, (k0_off192 v85 k0_t6) a + S1x1.size a ≤ S8x512.size a := fun v85 k0_hw67 k0_t6 => k0_hw67.2.2 k0_t6

def k0_off193 (v529 : BitVec 32) : Fin 3 → Nat :=
  let v530 : Index := Scalar.indexCast v529
  let c0_219 : Index := 0#32
  let c0_220 : Index := 0#32
  ![v530.toNat, 0, 0]

def k0_chk99 (v529 : BitVec 32) : Prop :=
  (∀ a, (k0_off193 v529) a + S1x1x128.size a ≤ S100000x1x128.size a)
theorem k0_off193_inb : ∀ (v529 : BitVec 32) (k0_hw99 : k0_chk99 v529), ∀ a, (k0_off193 v529) a + S1x1x128.size a ≤ S100000x1x128.size a := fun v529 k0_hw99 => k0_hw99

@[reducible] def k0_t7_loop (v122 : BitVec 32) : Scf.Loop 32 :=
  let c0_i32_66 : BitVec 32 := 0#32
  let c15_i32_56 : BitVec 32 := 15#32
  let v123 : BitVec 32 := Scalar.addi v122 c15_i32_56
  let c0_i32_58 : BitVec 32 := 0#32
  let v125 : BitVec 1 := Scalar.cmpi .sgt v123 c0_i32_58
  let v126 : BitVec 32 := Scalar.extui v125
  let c0_i32_59 : BitVec 32 := 0#32
  let v127 : BitVec 1 := Scalar.cmpi .slt v123 c0_i32_59
  let v128 : BitVec 32 := Scalar.extui v127
  let v129 : BitVec 32 := Scalar.subi v126 v128
  let c16_i32_57 : BitVec 32 := 16#32
  let c0_i32_60 : BitVec 32 := 0#32
  let v130 : BitVec 1 := Scalar.cmpi .sgt c16_i32_57 c0_i32_60
  let v131 : BitVec 32 := Scalar.extui v130
  let c0_i32_61 : BitVec 32 := 0#32
  let v132 : BitVec 1 := Scalar.cmpi .slt c16_i32_57 c0_i32_61
  let v133 : BitVec 32 := Scalar.extui v132
  let v134 : BitVec 32 := Scalar.subi v131 v133
  let v135 : BitVec 1 := Scalar.cmpi .ne v129 v134
  let v136 : BitVec 32 := Scalar.remsi v123 c16_i32_57
  let c0_i32_62 : BitVec 32 := 0#32
  let v137 : BitVec 1 := Scalar.cmpi .ne v136 c0_i32_62
  let v138 : BitVec 1 := Scalar.andi v135 v137
  let v124 : BitVec 32 := Scalar.divsi v123 c16_i32_57
  let c1_i32_63 : BitVec 32 := 1#32
  let v139 : BitVec 32 := Scalar.subi v124 c1_i32_63
  let v140 : BitVec 32 := Scalar.select v138 v139 v124
  let v142 : BitVec 32 := Scalar.subi v140 c0_i32_66
  let c1_i32_67 : BitVec 32 := 1#32
  let v144 : BitVec 32 := Scalar.divsi v142 c1_i32_67
  let v145 : BitVec 32 := Scalar.muli v144 c1_i32_67
  let v146 : BitVec 32 := Scalar.addi c0_i32_66 v145
  let c1_i32_68 : BitVec 32 := 1#32
  ⟨c0_i32_66, v146, c1_i32_68⟩

def k0_off194 (v122 : BitVec 32) (k0_t7 : Fin (k0_t7_loop v122).trips) : Fin 2 → Nat :=
  let c3_156 : Index := 3#32
  let c0_i32_66 : BitVec 32 := 0#32
  let c1_i32_68 : BitVec 32 := 1#32
  let arg9 : BitVec 32 := Scf.iv c0_i32_66 c1_i32_68 k0_t7
  let c16_i32_154 : BitVec 32 := 16#32
  let v324 : BitVec 32 := Scalar.muli arg9 c16_i32_154
  let c0_i32_155 : BitVec 32 := 0#32
  let v325 : BitVec 32 := Scalar.addi v324 c0_i32_155
  let v326 : Index := Scalar.indexCast v325
  ![3, v326.toNat]
def k0_off195 (v327 : BitVec 32) : Fin 3 → Nat :=
  let v328 : Index := Scalar.indexCast v327
  let c0_157 : Index := 0#32
  let c0_158 : Index := 0#32
  ![v328.toNat, 0, 0]

def k0_chk101 (v327 : BitVec 32) : Prop :=
  (∀ a, (k0_off195 v327) a + S1x1x128.size a ≤ S100000x1x128.size a)
theorem k0_off195_inb : ∀ (v327 : BitVec 32) (k0_hw101 : k0_chk101 v327), ∀ a, (k0_off195 v327) a + S1x1x128.size a ≤ S100000x1x128.size a := fun v327 k0_hw101 => k0_hw101

def k0_off196 (v122 : BitVec 32) (k0_t7 : Fin (k0_t7_loop v122).trips) : Fin 2 → Nat :=
  let c3_161 : Index := 3#32
  let c0_i32_66 : BitVec 32 := 0#32
  let c1_i32_68 : BitVec 32 := 1#32
  let arg9 : BitVec 32 := Scf.iv c0_i32_66 c1_i32_68 k0_t7
  let c16_i32_154 : BitVec 32 := 16#32
  let v324 : BitVec 32 := Scalar.muli arg9 c16_i32_154
  let c1_i32_160 : BitVec 32 := 1#32
  let v337 : BitVec 32 := Scalar.addi v324 c1_i32_160
  let v338 : Index := Scalar.indexCast v337
  ![3, v338.toNat]
def k0_off197 (v339 : BitVec 32) : Fin 3 → Nat :=
  let v340 : Index := Scalar.indexCast v339
  let c0_162 : Index := 0#32
  let c0_163 : Index := 0#32
  ![v340.toNat, 0, 0]

def k0_chk102 (v339 : BitVec 32) : Prop :=
  (∀ a, (k0_off197 v339) a + S1x1x128.size a ≤ S100000x1x128.size a)
theorem k0_off197_inb : ∀ (v339 : BitVec 32) (k0_hw102 : k0_chk102 v339), ∀ a, (k0_off197 v339) a + S1x1x128.size a ≤ S100000x1x128.size a := fun v339 k0_hw102 => k0_hw102

def k0_off198 (v122 : BitVec 32) (k0_t7 : Fin (k0_t7_loop v122).trips) : Fin 2 → Nat :=
  let c3_165 : Index := 3#32
  let c0_i32_66 : BitVec 32 := 0#32
  let c1_i32_68 : BitVec 32 := 1#32
  let arg9 : BitVec 32 := Scf.iv c0_i32_66 c1_i32_68 k0_t7
  let c16_i32_154 : BitVec 32 := 16#32
  let v324 : BitVec 32 := Scalar.muli arg9 c16_i32_154
  let c2_i32 : BitVec 32 := 2#32
  let v349 : BitVec 32 := Scalar.addi v324 c2_i32
  let v350 : Index := Scalar.indexCast v349
  ![3, v350.toNat]
def k0_off199 (v351 : BitVec 32) : Fin 3 → Nat :=
  let v352 : Index := Scalar.indexCast v351
  let c0_166 : Index := 0#32
  let c0_167 : Index := 0#32
  ![v352.toNat, 0, 0]

def k0_chk103 (v351 : BitVec 32) : Prop :=
  (∀ a, (k0_off199 v351) a + S1x1x128.size a ≤ S100000x1x128.size a)
theorem k0_off199_inb : ∀ (v351 : BitVec 32) (k0_hw103 : k0_chk103 v351), ∀ a, (k0_off199 v351) a + S1x1x128.size a ≤ S100000x1x128.size a := fun v351 k0_hw103 => k0_hw103

def k0_off200 (v122 : BitVec 32) (k0_t7 : Fin (k0_t7_loop v122).trips) : Fin 2 → Nat :=
  let c3_169 : Index := 3#32
  let c0_i32_66 : BitVec 32 := 0#32
  let c1_i32_68 : BitVec 32 := 1#32
  let arg9 : BitVec 32 := Scf.iv c0_i32_66 c1_i32_68 k0_t7
  let c16_i32_154 : BitVec 32 := 16#32
  let v324 : BitVec 32 := Scalar.muli arg9 c16_i32_154
  let c3_i32 : BitVec 32 := 3#32
  let v361 : BitVec 32 := Scalar.addi v324 c3_i32
  let v362 : Index := Scalar.indexCast v361
  ![3, v362.toNat]
def k0_off201 (v363 : BitVec 32) : Fin 3 → Nat :=
  let v364 : Index := Scalar.indexCast v363
  let c0_170 : Index := 0#32
  let c0_171 : Index := 0#32
  ![v364.toNat, 0, 0]

def k0_chk104 (v363 : BitVec 32) : Prop :=
  (∀ a, (k0_off201 v363) a + S1x1x128.size a ≤ S100000x1x128.size a)
theorem k0_off201_inb : ∀ (v363 : BitVec 32) (k0_hw104 : k0_chk104 v363), ∀ a, (k0_off201 v363) a + S1x1x128.size a ≤ S100000x1x128.size a := fun v363 k0_hw104 => k0_hw104

def k0_off202 (v122 : BitVec 32) (k0_t7 : Fin (k0_t7_loop v122).trips) : Fin 2 → Nat :=
  let c3_173 : Index := 3#32
  let c0_i32_66 : BitVec 32 := 0#32
  let c1_i32_68 : BitVec 32 := 1#32
  let arg9 : BitVec 32 := Scf.iv c0_i32_66 c1_i32_68 k0_t7
  let c16_i32_154 : BitVec 32 := 16#32
  let v324 : BitVec 32 := Scalar.muli arg9 c16_i32_154
  let c4_i32 : BitVec 32 := 4#32
  let v373 : BitVec 32 := Scalar.addi v324 c4_i32
  let v374 : Index := Scalar.indexCast v373
  ![3, v374.toNat]
def k0_off203 (v375 : BitVec 32) : Fin 3 → Nat :=
  let v376 : Index := Scalar.indexCast v375
  let c0_174 : Index := 0#32
  let c0_175 : Index := 0#32
  ![v376.toNat, 0, 0]

def k0_chk105 (v375 : BitVec 32) : Prop :=
  (∀ a, (k0_off203 v375) a + S1x1x128.size a ≤ S100000x1x128.size a)
theorem k0_off203_inb : ∀ (v375 : BitVec 32) (k0_hw105 : k0_chk105 v375), ∀ a, (k0_off203 v375) a + S1x1x128.size a ≤ S100000x1x128.size a := fun v375 k0_hw105 => k0_hw105

def k0_off204 (v122 : BitVec 32) (k0_t7 : Fin (k0_t7_loop v122).trips) : Fin 2 → Nat :=
  let c3_177 : Index := 3#32
  let c0_i32_66 : BitVec 32 := 0#32
  let c1_i32_68 : BitVec 32 := 1#32
  let arg9 : BitVec 32 := Scf.iv c0_i32_66 c1_i32_68 k0_t7
  let c16_i32_154 : BitVec 32 := 16#32
  let v324 : BitVec 32 := Scalar.muli arg9 c16_i32_154
  let c5_i32 : BitVec 32 := 5#32
  let v387 : BitVec 32 := Scalar.addi v324 c5_i32
  let v388 : Index := Scalar.indexCast v387
  ![3, v388.toNat]
def k0_off205 (v389 : BitVec 32) : Fin 3 → Nat :=
  let v390 : Index := Scalar.indexCast v389
  let c0_178 : Index := 0#32
  let c0_179 : Index := 0#32
  ![v390.toNat, 0, 0]

def k0_chk106 (v389 : BitVec 32) : Prop :=
  (∀ a, (k0_off205 v389) a + S1x1x128.size a ≤ S100000x1x128.size a)
theorem k0_off205_inb : ∀ (v389 : BitVec 32) (k0_hw106 : k0_chk106 v389), ∀ a, (k0_off205 v389) a + S1x1x128.size a ≤ S100000x1x128.size a := fun v389 k0_hw106 => k0_hw106

def k0_off206 (v122 : BitVec 32) (k0_t7 : Fin (k0_t7_loop v122).trips) : Fin 2 → Nat :=
  let c3_181 : Index := 3#32
  let c0_i32_66 : BitVec 32 := 0#32
  let c1_i32_68 : BitVec 32 := 1#32
  let arg9 : BitVec 32 := Scf.iv c0_i32_66 c1_i32_68 k0_t7
  let c16_i32_154 : BitVec 32 := 16#32
  let v324 : BitVec 32 := Scalar.muli arg9 c16_i32_154
  let c6_i32 : BitVec 32 := 6#32
  let v401 : BitVec 32 := Scalar.addi v324 c6_i32
  let v402 : Index := Scalar.indexCast v401
  ![3, v402.toNat]
def k0_off207 (v403 : BitVec 32) : Fin 3 → Nat :=
  let v404 : Index := Scalar.indexCast v403
  let c0_182 : Index := 0#32
  let c0_183 : Index := 0#32
  ![v404.toNat, 0, 0]

def k0_chk107 (v403 : BitVec 32) : Prop :=
  (∀ a, (k0_off207 v403) a + S1x1x128.size a ≤ S100000x1x128.size a)
theorem k0_off207_inb : ∀ (v403 : BitVec 32) (k0_hw107 : k0_chk107 v403), ∀ a, (k0_off207 v403) a + S1x1x128.size a ≤ S100000x1x128.size a := fun v403 k0_hw107 => k0_hw107

def k0_off208 (v122 : BitVec 32) (k0_t7 : Fin (k0_t7_loop v122).trips) : Fin 2 → Nat :=
  let c3_185 : Index := 3#32
  let c0_i32_66 : BitVec 32 := 0#32
  let c1_i32_68 : BitVec 32 := 1#32
  let arg9 : BitVec 32 := Scf.iv c0_i32_66 c1_i32_68 k0_t7
  let c16_i32_154 : BitVec 32 := 16#32
  let v324 : BitVec 32 := Scalar.muli arg9 c16_i32_154
  let c7_i32 : BitVec 32 := 7#32
  let v415 : BitVec 32 := Scalar.addi v324 c7_i32
  let v416 : Index := Scalar.indexCast v415
  ![3, v416.toNat]
def k0_off209 (v417 : BitVec 32) : Fin 3 → Nat :=
  let v418 : Index := Scalar.indexCast v417
  let c0_186 : Index := 0#32
  let c0_187 : Index := 0#32
  ![v418.toNat, 0, 0]

def k0_chk108 (v417 : BitVec 32) : Prop :=
  (∀ a, (k0_off209 v417) a + S1x1x128.size a ≤ S100000x1x128.size a)
theorem k0_off209_inb : ∀ (v417 : BitVec 32) (k0_hw108 : k0_chk108 v417), ∀ a, (k0_off209 v417) a + S1x1x128.size a ≤ S100000x1x128.size a := fun v417 k0_hw108 => k0_hw108

def k0_off210 (v122 : BitVec 32) (k0_t7 : Fin (k0_t7_loop v122).trips) : Fin 2 → Nat :=
  let c3_189 : Index := 3#32
  let c0_i32_66 : BitVec 32 := 0#32
  let c1_i32_68 : BitVec 32 := 1#32
  let arg9 : BitVec 32 := Scf.iv c0_i32_66 c1_i32_68 k0_t7
  let c16_i32_154 : BitVec 32 := 16#32
  let v324 : BitVec 32 := Scalar.muli arg9 c16_i32_154
  let c8_i32 : BitVec 32 := 8#32
  let v429 : BitVec 32 := Scalar.addi v324 c8_i32
  let v430 : Index := Scalar.indexCast v429
  ![3, v430.toNat]
def k0_off211 (v431 : BitVec 32) : Fin 3 → Nat :=
  let v432 : Index := Scalar.indexCast v431
  let c0_190 : Index := 0#32
  let c0_191 : Index := 0#32
  ![v432.toNat, 0, 0]

def k0_chk109 (v431 : BitVec 32) : Prop :=
  (∀ a, (k0_off211 v431) a + S1x1x128.size a ≤ S100000x1x128.size a)
theorem k0_off211_inb : ∀ (v431 : BitVec 32) (k0_hw109 : k0_chk109 v431), ∀ a, (k0_off211 v431) a + S1x1x128.size a ≤ S100000x1x128.size a := fun v431 k0_hw109 => k0_hw109

def k0_off212 (v122 : BitVec 32) (k0_t7 : Fin (k0_t7_loop v122).trips) : Fin 2 → Nat :=
  let c3_193 : Index := 3#32
  let c0_i32_66 : BitVec 32 := 0#32
  let c1_i32_68 : BitVec 32 := 1#32
  let arg9 : BitVec 32 := Scf.iv c0_i32_66 c1_i32_68 k0_t7
  let c16_i32_154 : BitVec 32 := 16#32
  let v324 : BitVec 32 := Scalar.muli arg9 c16_i32_154
  let c9_i32 : BitVec 32 := 9#32
  let v443 : BitVec 32 := Scalar.addi v324 c9_i32
  let v444 : Index := Scalar.indexCast v443
  ![3, v444.toNat]
def k0_off213 (v445 : BitVec 32) : Fin 3 → Nat :=
  let v446 : Index := Scalar.indexCast v445
  let c0_194 : Index := 0#32
  let c0_195 : Index := 0#32
  ![v446.toNat, 0, 0]

def k0_chk110 (v445 : BitVec 32) : Prop :=
  (∀ a, (k0_off213 v445) a + S1x1x128.size a ≤ S100000x1x128.size a)
theorem k0_off213_inb : ∀ (v445 : BitVec 32) (k0_hw110 : k0_chk110 v445), ∀ a, (k0_off213 v445) a + S1x1x128.size a ≤ S100000x1x128.size a := fun v445 k0_hw110 => k0_hw110

def k0_off214 (v122 : BitVec 32) (k0_t7 : Fin (k0_t7_loop v122).trips) : Fin 2 → Nat :=
  let c3_197 : Index := 3#32
  let c0_i32_66 : BitVec 32 := 0#32
  let c1_i32_68 : BitVec 32 := 1#32
  let arg9 : BitVec 32 := Scf.iv c0_i32_66 c1_i32_68 k0_t7
  let c16_i32_154 : BitVec 32 := 16#32
  let v324 : BitVec 32 := Scalar.muli arg9 c16_i32_154
  let c10_i32 : BitVec 32 := 10#32
  let v457 : BitVec 32 := Scalar.addi v324 c10_i32
  let v458 : Index := Scalar.indexCast v457
  ![3, v458.toNat]
def k0_off215 (v459 : BitVec 32) : Fin 3 → Nat :=
  let v460 : Index := Scalar.indexCast v459
  let c0_198 : Index := 0#32
  let c0_199 : Index := 0#32
  ![v460.toNat, 0, 0]

def k0_chk111 (v459 : BitVec 32) : Prop :=
  (∀ a, (k0_off215 v459) a + S1x1x128.size a ≤ S100000x1x128.size a)
theorem k0_off215_inb : ∀ (v459 : BitVec 32) (k0_hw111 : k0_chk111 v459), ∀ a, (k0_off215 v459) a + S1x1x128.size a ≤ S100000x1x128.size a := fun v459 k0_hw111 => k0_hw111

def k0_off216 (v122 : BitVec 32) (k0_t7 : Fin (k0_t7_loop v122).trips) : Fin 2 → Nat :=
  let c3_201 : Index := 3#32
  let c0_i32_66 : BitVec 32 := 0#32
  let c1_i32_68 : BitVec 32 := 1#32
  let arg9 : BitVec 32 := Scf.iv c0_i32_66 c1_i32_68 k0_t7
  let c16_i32_154 : BitVec 32 := 16#32
  let v324 : BitVec 32 := Scalar.muli arg9 c16_i32_154
  let c11_i32 : BitVec 32 := 11#32
  let v471 : BitVec 32 := Scalar.addi v324 c11_i32
  let v472 : Index := Scalar.indexCast v471
  ![3, v472.toNat]
def k0_off217 (v473 : BitVec 32) : Fin 3 → Nat :=
  let v474 : Index := Scalar.indexCast v473
  let c0_202 : Index := 0#32
  let c0_203 : Index := 0#32
  ![v474.toNat, 0, 0]

def k0_chk112 (v473 : BitVec 32) : Prop :=
  (∀ a, (k0_off217 v473) a + S1x1x128.size a ≤ S100000x1x128.size a)
theorem k0_off217_inb : ∀ (v473 : BitVec 32) (k0_hw112 : k0_chk112 v473), ∀ a, (k0_off217 v473) a + S1x1x128.size a ≤ S100000x1x128.size a := fun v473 k0_hw112 => k0_hw112

def k0_off218 (v122 : BitVec 32) (k0_t7 : Fin (k0_t7_loop v122).trips) : Fin 2 → Nat :=
  let c3_205 : Index := 3#32
  let c0_i32_66 : BitVec 32 := 0#32
  let c1_i32_68 : BitVec 32 := 1#32
  let arg9 : BitVec 32 := Scf.iv c0_i32_66 c1_i32_68 k0_t7
  let c16_i32_154 : BitVec 32 := 16#32
  let v324 : BitVec 32 := Scalar.muli arg9 c16_i32_154
  let c12_i32 : BitVec 32 := 12#32
  let v485 : BitVec 32 := Scalar.addi v324 c12_i32
  let v486 : Index := Scalar.indexCast v485
  ![3, v486.toNat]
def k0_off219 (v487 : BitVec 32) : Fin 3 → Nat :=
  let v488 : Index := Scalar.indexCast v487
  let c0_206 : Index := 0#32
  let c0_207 : Index := 0#32
  ![v488.toNat, 0, 0]

def k0_chk113 (v487 : BitVec 32) : Prop :=
  (∀ a, (k0_off219 v487) a + S1x1x128.size a ≤ S100000x1x128.size a)
theorem k0_off219_inb : ∀ (v487 : BitVec 32) (k0_hw113 : k0_chk113 v487), ∀ a, (k0_off219 v487) a + S1x1x128.size a ≤ S100000x1x128.size a := fun v487 k0_hw113 => k0_hw113

def k0_off220 (v122 : BitVec 32) (k0_t7 : Fin (k0_t7_loop v122).trips) : Fin 2 → Nat :=
  let c3_209 : Index := 3#32
  let c0_i32_66 : BitVec 32 := 0#32
  let c1_i32_68 : BitVec 32 := 1#32
  let arg9 : BitVec 32 := Scf.iv c0_i32_66 c1_i32_68 k0_t7
  let c16_i32_154 : BitVec 32 := 16#32
  let v324 : BitVec 32 := Scalar.muli arg9 c16_i32_154
  let c13_i32 : BitVec 32 := 13#32
  let v499 : BitVec 32 := Scalar.addi v324 c13_i32
  let v500 : Index := Scalar.indexCast v499
  ![3, v500.toNat]
def k0_off221 (v501 : BitVec 32) : Fin 3 → Nat :=
  let v502 : Index := Scalar.indexCast v501
  let c0_210 : Index := 0#32
  let c0_211 : Index := 0#32
  ![v502.toNat, 0, 0]

def k0_chk114 (v501 : BitVec 32) : Prop :=
  (∀ a, (k0_off221 v501) a + S1x1x128.size a ≤ S100000x1x128.size a)
theorem k0_off221_inb : ∀ (v501 : BitVec 32) (k0_hw114 : k0_chk114 v501), ∀ a, (k0_off221 v501) a + S1x1x128.size a ≤ S100000x1x128.size a := fun v501 k0_hw114 => k0_hw114

def k0_off222 (v122 : BitVec 32) (k0_t7 : Fin (k0_t7_loop v122).trips) : Fin 2 → Nat :=
  let c3_213 : Index := 3#32
  let c0_i32_66 : BitVec 32 := 0#32
  let c1_i32_68 : BitVec 32 := 1#32
  let arg9 : BitVec 32 := Scf.iv c0_i32_66 c1_i32_68 k0_t7
  let c16_i32_154 : BitVec 32 := 16#32
  let v324 : BitVec 32 := Scalar.muli arg9 c16_i32_154
  let c14_i32 : BitVec 32 := 14#32
  let v513 : BitVec 32 := Scalar.addi v324 c14_i32
  let v514 : Index := Scalar.indexCast v513
  ![3, v514.toNat]
def k0_off223 (v515 : BitVec 32) : Fin 3 → Nat :=
  let v516 : Index := Scalar.indexCast v515
  let c0_214 : Index := 0#32
  let c0_215 : Index := 0#32
  ![v516.toNat, 0, 0]

def k0_chk115 (v515 : BitVec 32) : Prop :=
  (∀ a, (k0_off223 v515) a + S1x1x128.size a ≤ S100000x1x128.size a)
theorem k0_off223_inb : ∀ (v515 : BitVec 32) (k0_hw115 : k0_chk115 v515), ∀ a, (k0_off223 v515) a + S1x1x128.size a ≤ S100000x1x128.size a := fun v515 k0_hw115 => k0_hw115

def k0_off224 (v122 : BitVec 32) (k0_t7 : Fin (k0_t7_loop v122).trips) : Fin 2 → Nat :=
  let c3_218 : Index := 3#32
  let c0_i32_66 : BitVec 32 := 0#32
  let c1_i32_68 : BitVec 32 := 1#32
  let arg9 : BitVec 32 := Scf.iv c0_i32_66 c1_i32_68 k0_t7
  let c16_i32_154 : BitVec 32 := 16#32
  let v324 : BitVec 32 := Scalar.muli arg9 c16_i32_154
  let c15_i32_217 : BitVec 32 := 15#32
  let v527 : BitVec 32 := Scalar.addi v324 c15_i32_217
  let v528 : Index := Scalar.indexCast v527
  ![3, v528.toNat]
def k0_off225 (v529 : BitVec 32) : Fin 3 → Nat :=
  let v530 : Index := Scalar.indexCast v529
  let c0_219 : Index := 0#32
  let c0_220 : Index := 0#32
  ![v530.toNat, 0, 0]

def k0_chk116 (v529 : BitVec 32) : Prop :=
  (∀ a, (k0_off225 v529) a + S1x1x128.size a ≤ S100000x1x128.size a)
theorem k0_off225_inb : ∀ (v529 : BitVec 32) (k0_hw116 : k0_chk116 v529), ∀ a, (k0_off225 v529) a + S1x1x128.size a ≤ S100000x1x128.size a := fun v529 k0_hw116 => k0_hw116

@[reducible] def k0_t8_loop (v122 : BitVec 32) : Scf.Loop 32 :=
  let c0_i32_66 : BitVec 32 := 0#32
  let c15_i32_56 : BitVec 32 := 15#32
  let v123 : BitVec 32 := Scalar.addi v122 c15_i32_56
  let c0_i32_58 : BitVec 32 := 0#32
  let v125 : BitVec 1 := Scalar.cmpi .sgt v123 c0_i32_58
  let v126 : BitVec 32 := Scalar.extui v125
  let c0_i32_59 : BitVec 32 := 0#32
  let v127 : BitVec 1 := Scalar.cmpi .slt v123 c0_i32_59
  let v128 : BitVec 32 := Scalar.extui v127
  let v129 : BitVec 32 := Scalar.subi v126 v128
  let c16_i32_57 : BitVec 32 := 16#32
  let c0_i32_60 : BitVec 32 := 0#32
  let v130 : BitVec 1 := Scalar.cmpi .sgt c16_i32_57 c0_i32_60
  let v131 : BitVec 32 := Scalar.extui v130
  let c0_i32_61 : BitVec 32 := 0#32
  let v132 : BitVec 1 := Scalar.cmpi .slt c16_i32_57 c0_i32_61
  let v133 : BitVec 32 := Scalar.extui v132
  let v134 : BitVec 32 := Scalar.subi v131 v133
  let v135 : BitVec 1 := Scalar.cmpi .ne v129 v134
  let v136 : BitVec 32 := Scalar.remsi v123 c16_i32_57
  let c0_i32_62 : BitVec 32 := 0#32
  let v137 : BitVec 1 := Scalar.cmpi .ne v136 c0_i32_62
  let v138 : BitVec 1 := Scalar.andi v135 v137
  let v124 : BitVec 32 := Scalar.divsi v123 c16_i32_57
  let c1_i32_63 : BitVec 32 := 1#32
  let v139 : BitVec 32 := Scalar.subi v124 c1_i32_63
  let v140 : BitVec 32 := Scalar.select v138 v139 v124
  let v142 : BitVec 32 := Scalar.subi v140 c0_i32_66
  let c1_i32_67 : BitVec 32 := 1#32
  let v144 : BitVec 32 := Scalar.divsi v142 c1_i32_67
  let v145 : BitVec 32 := Scalar.muli v144 c1_i32_67
  let v146 : BitVec 32 := Scalar.addi c0_i32_66 v145
  let v143 : BitVec 32 := Scalar.addi c0_i32_66 v142
  let c1_i32_69 : BitVec 32 := 1#32
  ⟨v146, v143, c1_i32_69⟩
def k0_off226 (v122 : BitVec 32) (k0_t8 : Fin (k0_t8_loop v122).trips) : Fin 2 → Nat :=
  let c3_156 : Index := 3#32
  let c0_i32_66 : BitVec 32 := 0#32
  let c15_i32_56 : BitVec 32 := 15#32
  let v123 : BitVec 32 := Scalar.addi v122 c15_i32_56
  let c0_i32_58 : BitVec 32 := 0#32
  let v125 : BitVec 1 := Scalar.cmpi .sgt v123 c0_i32_58
  let v126 : BitVec 32 := Scalar.extui v125
  let c0_i32_59 : BitVec 32 := 0#32
  let v127 : BitVec 1 := Scalar.cmpi .slt v123 c0_i32_59
  let v128 : BitVec 32 := Scalar.extui v127
  let v129 : BitVec 32 := Scalar.subi v126 v128
  let c16_i32_57 : BitVec 32 := 16#32
  let c0_i32_60 : BitVec 32 := 0#32
  let v130 : BitVec 1 := Scalar.cmpi .sgt c16_i32_57 c0_i32_60
  let v131 : BitVec 32 := Scalar.extui v130
  let c0_i32_61 : BitVec 32 := 0#32
  let v132 : BitVec 1 := Scalar.cmpi .slt c16_i32_57 c0_i32_61
  let v133 : BitVec 32 := Scalar.extui v132
  let v134 : BitVec 32 := Scalar.subi v131 v133
  let v135 : BitVec 1 := Scalar.cmpi .ne v129 v134
  let v136 : BitVec 32 := Scalar.remsi v123 c16_i32_57
  let c0_i32_62 : BitVec 32 := 0#32
  let v137 : BitVec 1 := Scalar.cmpi .ne v136 c0_i32_62
  let v138 : BitVec 1 := Scalar.andi v135 v137
  let v124 : BitVec 32 := Scalar.divsi v123 c16_i32_57
  let c1_i32_63 : BitVec 32 := 1#32
  let v139 : BitVec 32 := Scalar.subi v124 c1_i32_63
  let v140 : BitVec 32 := Scalar.select v138 v139 v124
  let v142 : BitVec 32 := Scalar.subi v140 c0_i32_66
  let c1_i32_67 : BitVec 32 := 1#32
  let v144 : BitVec 32 := Scalar.divsi v142 c1_i32_67
  let v145 : BitVec 32 := Scalar.muli v144 c1_i32_67
  let v146 : BitVec 32 := Scalar.addi c0_i32_66 v145
  let c1_i32_69 : BitVec 32 := 1#32
  let arg9 : BitVec 32 := Scf.iv v146 c1_i32_69 k0_t8
  let c16_i32_154 : BitVec 32 := 16#32
  let v324 : BitVec 32 := Scalar.muli arg9 c16_i32_154
  let c0_i32_155 : BitVec 32 := 0#32
  let v325 : BitVec 32 := Scalar.addi v324 c0_i32_155
  let v326 : Index := Scalar.indexCast v325
  ![3, v326.toNat]
def k0_off227 (v327 : BitVec 32) : Fin 3 → Nat :=
  let v328 : Index := Scalar.indexCast v327
  let c0_157 : Index := 0#32
  let c0_158 : Index := 0#32
  ![v328.toNat, 0, 0]

def k0_chk117 (v327 : BitVec 32) : Prop :=
  (∀ a, (k0_off227 v327) a + S1x1x128.size a ≤ S100000x1x128.size a)
theorem k0_off227_inb : ∀ (v327 : BitVec 32) (k0_hw117 : k0_chk117 v327), ∀ a, (k0_off227 v327) a + S1x1x128.size a ≤ S100000x1x128.size a := fun v327 k0_hw117 => k0_hw117

def k0_off228 (v122 : BitVec 32) (k0_t8 : Fin (k0_t8_loop v122).trips) : Fin 2 → Nat :=
  let c3_161 : Index := 3#32
  let c0_i32_66 : BitVec 32 := 0#32
  let c15_i32_56 : BitVec 32 := 15#32
  let v123 : BitVec 32 := Scalar.addi v122 c15_i32_56
  let c0_i32_58 : BitVec 32 := 0#32
  let v125 : BitVec 1 := Scalar.cmpi .sgt v123 c0_i32_58
  let v126 : BitVec 32 := Scalar.extui v125
  let c0_i32_59 : BitVec 32 := 0#32
  let v127 : BitVec 1 := Scalar.cmpi .slt v123 c0_i32_59
  let v128 : BitVec 32 := Scalar.extui v127
  let v129 : BitVec 32 := Scalar.subi v126 v128
  let c16_i32_57 : BitVec 32 := 16#32
  let c0_i32_60 : BitVec 32 := 0#32
  let v130 : BitVec 1 := Scalar.cmpi .sgt c16_i32_57 c0_i32_60
  let v131 : BitVec 32 := Scalar.extui v130
  let c0_i32_61 : BitVec 32 := 0#32
  let v132 : BitVec 1 := Scalar.cmpi .slt c16_i32_57 c0_i32_61
  let v133 : BitVec 32 := Scalar.extui v132
  let v134 : BitVec 32 := Scalar.subi v131 v133
  let v135 : BitVec 1 := Scalar.cmpi .ne v129 v134
  let v136 : BitVec 32 := Scalar.remsi v123 c16_i32_57
  let c0_i32_62 : BitVec 32 := 0#32
  let v137 : BitVec 1 := Scalar.cmpi .ne v136 c0_i32_62
  let v138 : BitVec 1 := Scalar.andi v135 v137
  let v124 : BitVec 32 := Scalar.divsi v123 c16_i32_57
  let c1_i32_63 : BitVec 32 := 1#32
  let v139 : BitVec 32 := Scalar.subi v124 c1_i32_63
  let v140 : BitVec 32 := Scalar.select v138 v139 v124
  let v142 : BitVec 32 := Scalar.subi v140 c0_i32_66
  let c1_i32_67 : BitVec 32 := 1#32
  let v144 : BitVec 32 := Scalar.divsi v142 c1_i32_67
  let v145 : BitVec 32 := Scalar.muli v144 c1_i32_67
  let v146 : BitVec 32 := Scalar.addi c0_i32_66 v145
  let c1_i32_69 : BitVec 32 := 1#32
  let arg9 : BitVec 32 := Scf.iv v146 c1_i32_69 k0_t8
  let c16_i32_154 : BitVec 32 := 16#32
  let v324 : BitVec 32 := Scalar.muli arg9 c16_i32_154
  let c1_i32_160 : BitVec 32 := 1#32
  let v337 : BitVec 32 := Scalar.addi v324 c1_i32_160
  let v338 : Index := Scalar.indexCast v337
  ![3, v338.toNat]
def k0_off229 (v339 : BitVec 32) : Fin 3 → Nat :=
  let v340 : Index := Scalar.indexCast v339
  let c0_162 : Index := 0#32
  let c0_163 : Index := 0#32
  ![v340.toNat, 0, 0]

def k0_chk118 (v339 : BitVec 32) : Prop :=
  (∀ a, (k0_off229 v339) a + S1x1x128.size a ≤ S100000x1x128.size a)
theorem k0_off229_inb : ∀ (v339 : BitVec 32) (k0_hw118 : k0_chk118 v339), ∀ a, (k0_off229 v339) a + S1x1x128.size a ≤ S100000x1x128.size a := fun v339 k0_hw118 => k0_hw118

def k0_off230 (v122 : BitVec 32) (k0_t8 : Fin (k0_t8_loop v122).trips) : Fin 2 → Nat :=
  let c3_165 : Index := 3#32
  let c0_i32_66 : BitVec 32 := 0#32
  let c15_i32_56 : BitVec 32 := 15#32
  let v123 : BitVec 32 := Scalar.addi v122 c15_i32_56
  let c0_i32_58 : BitVec 32 := 0#32
  let v125 : BitVec 1 := Scalar.cmpi .sgt v123 c0_i32_58
  let v126 : BitVec 32 := Scalar.extui v125
  let c0_i32_59 : BitVec 32 := 0#32
  let v127 : BitVec 1 := Scalar.cmpi .slt v123 c0_i32_59
  let v128 : BitVec 32 := Scalar.extui v127
  let v129 : BitVec 32 := Scalar.subi v126 v128
  let c16_i32_57 : BitVec 32 := 16#32
  let c0_i32_60 : BitVec 32 := 0#32
  let v130 : BitVec 1 := Scalar.cmpi .sgt c16_i32_57 c0_i32_60
  let v131 : BitVec 32 := Scalar.extui v130
  let c0_i32_61 : BitVec 32 := 0#32
  let v132 : BitVec 1 := Scalar.cmpi .slt c16_i32_57 c0_i32_61
  let v133 : BitVec 32 := Scalar.extui v132
  let v134 : BitVec 32 := Scalar.subi v131 v133
  let v135 : BitVec 1 := Scalar.cmpi .ne v129 v134
  let v136 : BitVec 32 := Scalar.remsi v123 c16_i32_57
  let c0_i32_62 : BitVec 32 := 0#32
  let v137 : BitVec 1 := Scalar.cmpi .ne v136 c0_i32_62
  let v138 : BitVec 1 := Scalar.andi v135 v137
  let v124 : BitVec 32 := Scalar.divsi v123 c16_i32_57
  let c1_i32_63 : BitVec 32 := 1#32
  let v139 : BitVec 32 := Scalar.subi v124 c1_i32_63
  let v140 : BitVec 32 := Scalar.select v138 v139 v124
  let v142 : BitVec 32 := Scalar.subi v140 c0_i32_66
  let c1_i32_67 : BitVec 32 := 1#32
  let v144 : BitVec 32 := Scalar.divsi v142 c1_i32_67
  let v145 : BitVec 32 := Scalar.muli v144 c1_i32_67
  let v146 : BitVec 32 := Scalar.addi c0_i32_66 v145
  let c1_i32_69 : BitVec 32 := 1#32
  let arg9 : BitVec 32 := Scf.iv v146 c1_i32_69 k0_t8
  let c16_i32_154 : BitVec 32 := 16#32
  let v324 : BitVec 32 := Scalar.muli arg9 c16_i32_154
  let c2_i32 : BitVec 32 := 2#32
  let v349 : BitVec 32 := Scalar.addi v324 c2_i32
  let v350 : Index := Scalar.indexCast v349
  ![3, v350.toNat]
def k0_off231 (v351 : BitVec 32) : Fin 3 → Nat :=
  let v352 : Index := Scalar.indexCast v351
  let c0_166 : Index := 0#32
  let c0_167 : Index := 0#32
  ![v352.toNat, 0, 0]

def k0_chk119 (v351 : BitVec 32) : Prop :=
  (∀ a, (k0_off231 v351) a + S1x1x128.size a ≤ S100000x1x128.size a)
theorem k0_off231_inb : ∀ (v351 : BitVec 32) (k0_hw119 : k0_chk119 v351), ∀ a, (k0_off231 v351) a + S1x1x128.size a ≤ S100000x1x128.size a := fun v351 k0_hw119 => k0_hw119

def k0_off232 (v122 : BitVec 32) (k0_t8 : Fin (k0_t8_loop v122).trips) : Fin 2 → Nat :=
  let c3_169 : Index := 3#32
  let c0_i32_66 : BitVec 32 := 0#32
  let c15_i32_56 : BitVec 32 := 15#32
  let v123 : BitVec 32 := Scalar.addi v122 c15_i32_56
  let c0_i32_58 : BitVec 32 := 0#32
  let v125 : BitVec 1 := Scalar.cmpi .sgt v123 c0_i32_58
  let v126 : BitVec 32 := Scalar.extui v125
  let c0_i32_59 : BitVec 32 := 0#32
  let v127 : BitVec 1 := Scalar.cmpi .slt v123 c0_i32_59
  let v128 : BitVec 32 := Scalar.extui v127
  let v129 : BitVec 32 := Scalar.subi v126 v128
  let c16_i32_57 : BitVec 32 := 16#32
  let c0_i32_60 : BitVec 32 := 0#32
  let v130 : BitVec 1 := Scalar.cmpi .sgt c16_i32_57 c0_i32_60
  let v131 : BitVec 32 := Scalar.extui v130
  let c0_i32_61 : BitVec 32 := 0#32
  let v132 : BitVec 1 := Scalar.cmpi .slt c16_i32_57 c0_i32_61
  let v133 : BitVec 32 := Scalar.extui v132
  let v134 : BitVec 32 := Scalar.subi v131 v133
  let v135 : BitVec 1 := Scalar.cmpi .ne v129 v134
  let v136 : BitVec 32 := Scalar.remsi v123 c16_i32_57
  let c0_i32_62 : BitVec 32 := 0#32
  let v137 : BitVec 1 := Scalar.cmpi .ne v136 c0_i32_62
  let v138 : BitVec 1 := Scalar.andi v135 v137
  let v124 : BitVec 32 := Scalar.divsi v123 c16_i32_57
  let c1_i32_63 : BitVec 32 := 1#32
  let v139 : BitVec 32 := Scalar.subi v124 c1_i32_63
  let v140 : BitVec 32 := Scalar.select v138 v139 v124
  let v142 : BitVec 32 := Scalar.subi v140 c0_i32_66
  let c1_i32_67 : BitVec 32 := 1#32
  let v144 : BitVec 32 := Scalar.divsi v142 c1_i32_67
  let v145 : BitVec 32 := Scalar.muli v144 c1_i32_67
  let v146 : BitVec 32 := Scalar.addi c0_i32_66 v145
  let c1_i32_69 : BitVec 32 := 1#32
  let arg9 : BitVec 32 := Scf.iv v146 c1_i32_69 k0_t8
  let c16_i32_154 : BitVec 32 := 16#32
  let v324 : BitVec 32 := Scalar.muli arg9 c16_i32_154
  let c3_i32 : BitVec 32 := 3#32
  let v361 : BitVec 32 := Scalar.addi v324 c3_i32
  let v362 : Index := Scalar.indexCast v361
  ![3, v362.toNat]
def k0_off233 (v363 : BitVec 32) : Fin 3 → Nat :=
  let v364 : Index := Scalar.indexCast v363
  let c0_170 : Index := 0#32
  let c0_171 : Index := 0#32
  ![v364.toNat, 0, 0]

def k0_chk120 (v363 : BitVec 32) : Prop :=
  (∀ a, (k0_off233 v363) a + S1x1x128.size a ≤ S100000x1x128.size a)
theorem k0_off233_inb : ∀ (v363 : BitVec 32) (k0_hw120 : k0_chk120 v363), ∀ a, (k0_off233 v363) a + S1x1x128.size a ≤ S100000x1x128.size a := fun v363 k0_hw120 => k0_hw120

def k0_off234 (v122 : BitVec 32) (k0_t8 : Fin (k0_t8_loop v122).trips) : Fin 2 → Nat :=
  let c3_173 : Index := 3#32
  let c0_i32_66 : BitVec 32 := 0#32
  let c15_i32_56 : BitVec 32 := 15#32
  let v123 : BitVec 32 := Scalar.addi v122 c15_i32_56
  let c0_i32_58 : BitVec 32 := 0#32
  let v125 : BitVec 1 := Scalar.cmpi .sgt v123 c0_i32_58
  let v126 : BitVec 32 := Scalar.extui v125
  let c0_i32_59 : BitVec 32 := 0#32
  let v127 : BitVec 1 := Scalar.cmpi .slt v123 c0_i32_59
  let v128 : BitVec 32 := Scalar.extui v127
  let v129 : BitVec 32 := Scalar.subi v126 v128
  let c16_i32_57 : BitVec 32 := 16#32
  let c0_i32_60 : BitVec 32 := 0#32
  let v130 : BitVec 1 := Scalar.cmpi .sgt c16_i32_57 c0_i32_60
  let v131 : BitVec 32 := Scalar.extui v130
  let c0_i32_61 : BitVec 32 := 0#32
  let v132 : BitVec 1 := Scalar.cmpi .slt c16_i32_57 c0_i32_61
  let v133 : BitVec 32 := Scalar.extui v132
  let v134 : BitVec 32 := Scalar.subi v131 v133
  let v135 : BitVec 1 := Scalar.cmpi .ne v129 v134
  let v136 : BitVec 32 := Scalar.remsi v123 c16_i32_57
  let c0_i32_62 : BitVec 32 := 0#32
  let v137 : BitVec 1 := Scalar.cmpi .ne v136 c0_i32_62
  let v138 : BitVec 1 := Scalar.andi v135 v137
  let v124 : BitVec 32 := Scalar.divsi v123 c16_i32_57
  let c1_i32_63 : BitVec 32 := 1#32
  let v139 : BitVec 32 := Scalar.subi v124 c1_i32_63
  let v140 : BitVec 32 := Scalar.select v138 v139 v124
  let v142 : BitVec 32 := Scalar.subi v140 c0_i32_66
  let c1_i32_67 : BitVec 32 := 1#32
  let v144 : BitVec 32 := Scalar.divsi v142 c1_i32_67
  let v145 : BitVec 32 := Scalar.muli v144 c1_i32_67
  let v146 : BitVec 32 := Scalar.addi c0_i32_66 v145
  let c1_i32_69 : BitVec 32 := 1#32
  let arg9 : BitVec 32 := Scf.iv v146 c1_i32_69 k0_t8
  let c16_i32_154 : BitVec 32 := 16#32
  let v324 : BitVec 32 := Scalar.muli arg9 c16_i32_154
  let c4_i32 : BitVec 32 := 4#32
  let v373 : BitVec 32 := Scalar.addi v324 c4_i32
  let v374 : Index := Scalar.indexCast v373
  ![3, v374.toNat]
def k0_off235 (v375 : BitVec 32) : Fin 3 → Nat :=
  let v376 : Index := Scalar.indexCast v375
  let c0_174 : Index := 0#32
  let c0_175 : Index := 0#32
  ![v376.toNat, 0, 0]

def k0_chk121 (v375 : BitVec 32) : Prop :=
  (∀ a, (k0_off235 v375) a + S1x1x128.size a ≤ S100000x1x128.size a)
theorem k0_off235_inb : ∀ (v375 : BitVec 32) (k0_hw121 : k0_chk121 v375), ∀ a, (k0_off235 v375) a + S1x1x128.size a ≤ S100000x1x128.size a := fun v375 k0_hw121 => k0_hw121

def k0_off236 (v122 : BitVec 32) (k0_t8 : Fin (k0_t8_loop v122).trips) : Fin 2 → Nat :=
  let c3_177 : Index := 3#32
  let c0_i32_66 : BitVec 32 := 0#32
  let c15_i32_56 : BitVec 32 := 15#32
  let v123 : BitVec 32 := Scalar.addi v122 c15_i32_56
  let c0_i32_58 : BitVec 32 := 0#32
  let v125 : BitVec 1 := Scalar.cmpi .sgt v123 c0_i32_58
  let v126 : BitVec 32 := Scalar.extui v125
  let c0_i32_59 : BitVec 32 := 0#32
  let v127 : BitVec 1 := Scalar.cmpi .slt v123 c0_i32_59
  let v128 : BitVec 32 := Scalar.extui v127
  let v129 : BitVec 32 := Scalar.subi v126 v128
  let c16_i32_57 : BitVec 32 := 16#32
  let c0_i32_60 : BitVec 32 := 0#32
  let v130 : BitVec 1 := Scalar.cmpi .sgt c16_i32_57 c0_i32_60
  let v131 : BitVec 32 := Scalar.extui v130
  let c0_i32_61 : BitVec 32 := 0#32
  let v132 : BitVec 1 := Scalar.cmpi .slt c16_i32_57 c0_i32_61
  let v133 : BitVec 32 := Scalar.extui v132
  let v134 : BitVec 32 := Scalar.subi v131 v133
  let v135 : BitVec 1 := Scalar.cmpi .ne v129 v134
  let v136 : BitVec 32 := Scalar.remsi v123 c16_i32_57
  let c0_i32_62 : BitVec 32 := 0#32
  let v137 : BitVec 1 := Scalar.cmpi .ne v136 c0_i32_62
  let v138 : BitVec 1 := Scalar.andi v135 v137
  let v124 : BitVec 32 := Scalar.divsi v123 c16_i32_57
  let c1_i32_63 : BitVec 32 := 1#32
  let v139 : BitVec 32 := Scalar.subi v124 c1_i32_63
  let v140 : BitVec 32 := Scalar.select v138 v139 v124
  let v142 : BitVec 32 := Scalar.subi v140 c0_i32_66
  let c1_i32_67 : BitVec 32 := 1#32
  let v144 : BitVec 32 := Scalar.divsi v142 c1_i32_67
  let v145 : BitVec 32 := Scalar.muli v144 c1_i32_67
  let v146 : BitVec 32 := Scalar.addi c0_i32_66 v145
  let c1_i32_69 : BitVec 32 := 1#32
  let arg9 : BitVec 32 := Scf.iv v146 c1_i32_69 k0_t8
  let c16_i32_154 : BitVec 32 := 16#32
  let v324 : BitVec 32 := Scalar.muli arg9 c16_i32_154
  let c5_i32 : BitVec 32 := 5#32
  let v387 : BitVec 32 := Scalar.addi v324 c5_i32
  let v388 : Index := Scalar.indexCast v387
  ![3, v388.toNat]
def k0_off237 (v389 : BitVec 32) : Fin 3 → Nat :=
  let v390 : Index := Scalar.indexCast v389
  let c0_178 : Index := 0#32
  let c0_179 : Index := 0#32
  ![v390.toNat, 0, 0]

def k0_chk122 (v389 : BitVec 32) : Prop :=
  (∀ a, (k0_off237 v389) a + S1x1x128.size a ≤ S100000x1x128.size a)
theorem k0_off237_inb : ∀ (v389 : BitVec 32) (k0_hw122 : k0_chk122 v389), ∀ a, (k0_off237 v389) a + S1x1x128.size a ≤ S100000x1x128.size a := fun v389 k0_hw122 => k0_hw122

def k0_off238 (v122 : BitVec 32) (k0_t8 : Fin (k0_t8_loop v122).trips) : Fin 2 → Nat :=
  let c3_181 : Index := 3#32
  let c0_i32_66 : BitVec 32 := 0#32
  let c15_i32_56 : BitVec 32 := 15#32
  let v123 : BitVec 32 := Scalar.addi v122 c15_i32_56
  let c0_i32_58 : BitVec 32 := 0#32
  let v125 : BitVec 1 := Scalar.cmpi .sgt v123 c0_i32_58
  let v126 : BitVec 32 := Scalar.extui v125
  let c0_i32_59 : BitVec 32 := 0#32
  let v127 : BitVec 1 := Scalar.cmpi .slt v123 c0_i32_59
  let v128 : BitVec 32 := Scalar.extui v127
  let v129 : BitVec 32 := Scalar.subi v126 v128
  let c16_i32_57 : BitVec 32 := 16#32
  let c0_i32_60 : BitVec 32 := 0#32
  let v130 : BitVec 1 := Scalar.cmpi .sgt c16_i32_57 c0_i32_60
  let v131 : BitVec 32 := Scalar.extui v130
  let c0_i32_61 : BitVec 32 := 0#32
  let v132 : BitVec 1 := Scalar.cmpi .slt c16_i32_57 c0_i32_61
  let v133 : BitVec 32 := Scalar.extui v132
  let v134 : BitVec 32 := Scalar.subi v131 v133
  let v135 : BitVec 1 := Scalar.cmpi .ne v129 v134
  let v136 : BitVec 32 := Scalar.remsi v123 c16_i32_57
  let c0_i32_62 : BitVec 32 := 0#32
  let v137 : BitVec 1 := Scalar.cmpi .ne v136 c0_i32_62
  let v138 : BitVec 1 := Scalar.andi v135 v137
  let v124 : BitVec 32 := Scalar.divsi v123 c16_i32_57
  let c1_i32_63 : BitVec 32 := 1#32
  let v139 : BitVec 32 := Scalar.subi v124 c1_i32_63
  let v140 : BitVec 32 := Scalar.select v138 v139 v124
  let v142 : BitVec 32 := Scalar.subi v140 c0_i32_66
  let c1_i32_67 : BitVec 32 := 1#32
  let v144 : BitVec 32 := Scalar.divsi v142 c1_i32_67
  let v145 : BitVec 32 := Scalar.muli v144 c1_i32_67
  let v146 : BitVec 32 := Scalar.addi c0_i32_66 v145
  let c1_i32_69 : BitVec 32 := 1#32
  let arg9 : BitVec 32 := Scf.iv v146 c1_i32_69 k0_t8
  let c16_i32_154 : BitVec 32 := 16#32
  let v324 : BitVec 32 := Scalar.muli arg9 c16_i32_154
  let c6_i32 : BitVec 32 := 6#32
  let v401 : BitVec 32 := Scalar.addi v324 c6_i32
  let v402 : Index := Scalar.indexCast v401
  ![3, v402.toNat]
def k0_off239 (v403 : BitVec 32) : Fin 3 → Nat :=
  let v404 : Index := Scalar.indexCast v403
  let c0_182 : Index := 0#32
  let c0_183 : Index := 0#32
  ![v404.toNat, 0, 0]

def k0_chk123 (v403 : BitVec 32) : Prop :=
  (∀ a, (k0_off239 v403) a + S1x1x128.size a ≤ S100000x1x128.size a)
theorem k0_off239_inb : ∀ (v403 : BitVec 32) (k0_hw123 : k0_chk123 v403), ∀ a, (k0_off239 v403) a + S1x1x128.size a ≤ S100000x1x128.size a := fun v403 k0_hw123 => k0_hw123

def k0_off240 (v122 : BitVec 32) (k0_t8 : Fin (k0_t8_loop v122).trips) : Fin 2 → Nat :=
  let c3_185 : Index := 3#32
  let c0_i32_66 : BitVec 32 := 0#32
  let c15_i32_56 : BitVec 32 := 15#32
  let v123 : BitVec 32 := Scalar.addi v122 c15_i32_56
  let c0_i32_58 : BitVec 32 := 0#32
  let v125 : BitVec 1 := Scalar.cmpi .sgt v123 c0_i32_58
  let v126 : BitVec 32 := Scalar.extui v125
  let c0_i32_59 : BitVec 32 := 0#32
  let v127 : BitVec 1 := Scalar.cmpi .slt v123 c0_i32_59
  let v128 : BitVec 32 := Scalar.extui v127
  let v129 : BitVec 32 := Scalar.subi v126 v128
  let c16_i32_57 : BitVec 32 := 16#32
  let c0_i32_60 : BitVec 32 := 0#32
  let v130 : BitVec 1 := Scalar.cmpi .sgt c16_i32_57 c0_i32_60
  let v131 : BitVec 32 := Scalar.extui v130
  let c0_i32_61 : BitVec 32 := 0#32
  let v132 : BitVec 1 := Scalar.cmpi .slt c16_i32_57 c0_i32_61
  let v133 : BitVec 32 := Scalar.extui v132
  let v134 : BitVec 32 := Scalar.subi v131 v133
  let v135 : BitVec 1 := Scalar.cmpi .ne v129 v134
  let v136 : BitVec 32 := Scalar.remsi v123 c16_i32_57
  let c0_i32_62 : BitVec 32 := 0#32
  let v137 : BitVec 1 := Scalar.cmpi .ne v136 c0_i32_62
  let v138 : BitVec 1 := Scalar.andi v135 v137
  let v124 : BitVec 32 := Scalar.divsi v123 c16_i32_57
  let c1_i32_63 : BitVec 32 := 1#32
  let v139 : BitVec 32 := Scalar.subi v124 c1_i32_63
  let v140 : BitVec 32 := Scalar.select v138 v139 v124
  let v142 : BitVec 32 := Scalar.subi v140 c0_i32_66
  let c1_i32_67 : BitVec 32 := 1#32
  let v144 : BitVec 32 := Scalar.divsi v142 c1_i32_67
  let v145 : BitVec 32 := Scalar.muli v144 c1_i32_67
  let v146 : BitVec 32 := Scalar.addi c0_i32_66 v145
  let c1_i32_69 : BitVec 32 := 1#32
  let arg9 : BitVec 32 := Scf.iv v146 c1_i32_69 k0_t8
  let c16_i32_154 : BitVec 32 := 16#32
  let v324 : BitVec 32 := Scalar.muli arg9 c16_i32_154
  let c7_i32 : BitVec 32 := 7#32
  let v415 : BitVec 32 := Scalar.addi v324 c7_i32
  let v416 : Index := Scalar.indexCast v415
  ![3, v416.toNat]
def k0_off241 (v417 : BitVec 32) : Fin 3 → Nat :=
  let v418 : Index := Scalar.indexCast v417
  let c0_186 : Index := 0#32
  let c0_187 : Index := 0#32
  ![v418.toNat, 0, 0]

def k0_chk124 (v417 : BitVec 32) : Prop :=
  (∀ a, (k0_off241 v417) a + S1x1x128.size a ≤ S100000x1x128.size a)
theorem k0_off241_inb : ∀ (v417 : BitVec 32) (k0_hw124 : k0_chk124 v417), ∀ a, (k0_off241 v417) a + S1x1x128.size a ≤ S100000x1x128.size a := fun v417 k0_hw124 => k0_hw124

def k0_off242 (v122 : BitVec 32) (k0_t8 : Fin (k0_t8_loop v122).trips) : Fin 2 → Nat :=
  let c3_189 : Index := 3#32
  let c0_i32_66 : BitVec 32 := 0#32
  let c15_i32_56 : BitVec 32 := 15#32
  let v123 : BitVec 32 := Scalar.addi v122 c15_i32_56
  let c0_i32_58 : BitVec 32 := 0#32
  let v125 : BitVec 1 := Scalar.cmpi .sgt v123 c0_i32_58
  let v126 : BitVec 32 := Scalar.extui v125
  let c0_i32_59 : BitVec 32 := 0#32
  let v127 : BitVec 1 := Scalar.cmpi .slt v123 c0_i32_59
  let v128 : BitVec 32 := Scalar.extui v127
  let v129 : BitVec 32 := Scalar.subi v126 v128
  let c16_i32_57 : BitVec 32 := 16#32
  let c0_i32_60 : BitVec 32 := 0#32
  let v130 : BitVec 1 := Scalar.cmpi .sgt c16_i32_57 c0_i32_60
  let v131 : BitVec 32 := Scalar.extui v130
  let c0_i32_61 : BitVec 32 := 0#32
  let v132 : BitVec 1 := Scalar.cmpi .slt c16_i32_57 c0_i32_61
  let v133 : BitVec 32 := Scalar.extui v132
  let v134 : BitVec 32 := Scalar.subi v131 v133
  let v135 : BitVec 1 := Scalar.cmpi .ne v129 v134
  let v136 : BitVec 32 := Scalar.remsi v123 c16_i32_57
  let c0_i32_62 : BitVec 32 := 0#32
  let v137 : BitVec 1 := Scalar.cmpi .ne v136 c0_i32_62
  let v138 : BitVec 1 := Scalar.andi v135 v137
  let v124 : BitVec 32 := Scalar.divsi v123 c16_i32_57
  let c1_i32_63 : BitVec 32 := 1#32
  let v139 : BitVec 32 := Scalar.subi v124 c1_i32_63
  let v140 : BitVec 32 := Scalar.select v138 v139 v124
  let v142 : BitVec 32 := Scalar.subi v140 c0_i32_66
  let c1_i32_67 : BitVec 32 := 1#32
  let v144 : BitVec 32 := Scalar.divsi v142 c1_i32_67
  let v145 : BitVec 32 := Scalar.muli v144 c1_i32_67
  let v146 : BitVec 32 := Scalar.addi c0_i32_66 v145
  let c1_i32_69 : BitVec 32 := 1#32
  let arg9 : BitVec 32 := Scf.iv v146 c1_i32_69 k0_t8
  let c16_i32_154 : BitVec 32 := 16#32
  let v324 : BitVec 32 := Scalar.muli arg9 c16_i32_154
  let c8_i32 : BitVec 32 := 8#32
  let v429 : BitVec 32 := Scalar.addi v324 c8_i32
  let v430 : Index := Scalar.indexCast v429
  ![3, v430.toNat]
def k0_off243 (v431 : BitVec 32) : Fin 3 → Nat :=
  let v432 : Index := Scalar.indexCast v431
  let c0_190 : Index := 0#32
  let c0_191 : Index := 0#32
  ![v432.toNat, 0, 0]

def k0_chk125 (v431 : BitVec 32) : Prop :=
  (∀ a, (k0_off243 v431) a + S1x1x128.size a ≤ S100000x1x128.size a)
theorem k0_off243_inb : ∀ (v431 : BitVec 32) (k0_hw125 : k0_chk125 v431), ∀ a, (k0_off243 v431) a + S1x1x128.size a ≤ S100000x1x128.size a := fun v431 k0_hw125 => k0_hw125

def k0_off244 (v122 : BitVec 32) (k0_t8 : Fin (k0_t8_loop v122).trips) : Fin 2 → Nat :=
  let c3_193 : Index := 3#32
  let c0_i32_66 : BitVec 32 := 0#32
  let c15_i32_56 : BitVec 32 := 15#32
  let v123 : BitVec 32 := Scalar.addi v122 c15_i32_56
  let c0_i32_58 : BitVec 32 := 0#32
  let v125 : BitVec 1 := Scalar.cmpi .sgt v123 c0_i32_58
  let v126 : BitVec 32 := Scalar.extui v125
  let c0_i32_59 : BitVec 32 := 0#32
  let v127 : BitVec 1 := Scalar.cmpi .slt v123 c0_i32_59
  let v128 : BitVec 32 := Scalar.extui v127
  let v129 : BitVec 32 := Scalar.subi v126 v128
  let c16_i32_57 : BitVec 32 := 16#32
  let c0_i32_60 : BitVec 32 := 0#32
  let v130 : BitVec 1 := Scalar.cmpi .sgt c16_i32_57 c0_i32_60
  let v131 : BitVec 32 := Scalar.extui v130
  let c0_i32_61 : BitVec 32 := 0#32
  let v132 : BitVec 1 := Scalar.cmpi .slt c16_i32_57 c0_i32_61
  let v133 : BitVec 32 := Scalar.extui v132
  let v134 : BitVec 32 := Scalar.subi v131 v133
  let v135 : BitVec 1 := Scalar.cmpi .ne v129 v134
  let v136 : BitVec 32 := Scalar.remsi v123 c16_i32_57
  let c0_i32_62 : BitVec 32 := 0#32
  let v137 : BitVec 1 := Scalar.cmpi .ne v136 c0_i32_62
  let v138 : BitVec 1 := Scalar.andi v135 v137
  let v124 : BitVec 32 := Scalar.divsi v123 c16_i32_57
  let c1_i32_63 : BitVec 32 := 1#32
  let v139 : BitVec 32 := Scalar.subi v124 c1_i32_63
  let v140 : BitVec 32 := Scalar.select v138 v139 v124
  let v142 : BitVec 32 := Scalar.subi v140 c0_i32_66
  let c1_i32_67 : BitVec 32 := 1#32
  let v144 : BitVec 32 := Scalar.divsi v142 c1_i32_67
  let v145 : BitVec 32 := Scalar.muli v144 c1_i32_67
  let v146 : BitVec 32 := Scalar.addi c0_i32_66 v145
  let c1_i32_69 : BitVec 32 := 1#32
  let arg9 : BitVec 32 := Scf.iv v146 c1_i32_69 k0_t8
  let c16_i32_154 : BitVec 32 := 16#32
  let v324 : BitVec 32 := Scalar.muli arg9 c16_i32_154
  let c9_i32 : BitVec 32 := 9#32
  let v443 : BitVec 32 := Scalar.addi v324 c9_i32
  let v444 : Index := Scalar.indexCast v443
  ![3, v444.toNat]
def k0_off245 (v445 : BitVec 32) : Fin 3 → Nat :=
  let v446 : Index := Scalar.indexCast v445
  let c0_194 : Index := 0#32
  let c0_195 : Index := 0#32
  ![v446.toNat, 0, 0]

def k0_chk126 (v445 : BitVec 32) : Prop :=
  (∀ a, (k0_off245 v445) a + S1x1x128.size a ≤ S100000x1x128.size a)
theorem k0_off245_inb : ∀ (v445 : BitVec 32) (k0_hw126 : k0_chk126 v445), ∀ a, (k0_off245 v445) a + S1x1x128.size a ≤ S100000x1x128.size a := fun v445 k0_hw126 => k0_hw126

def k0_off246 (v122 : BitVec 32) (k0_t8 : Fin (k0_t8_loop v122).trips) : Fin 2 → Nat :=
  let c3_197 : Index := 3#32
  let c0_i32_66 : BitVec 32 := 0#32
  let c15_i32_56 : BitVec 32 := 15#32
  let v123 : BitVec 32 := Scalar.addi v122 c15_i32_56
  let c0_i32_58 : BitVec 32 := 0#32
  let v125 : BitVec 1 := Scalar.cmpi .sgt v123 c0_i32_58
  let v126 : BitVec 32 := Scalar.extui v125
  let c0_i32_59 : BitVec 32 := 0#32
  let v127 : BitVec 1 := Scalar.cmpi .slt v123 c0_i32_59
  let v128 : BitVec 32 := Scalar.extui v127
  let v129 : BitVec 32 := Scalar.subi v126 v128
  let c16_i32_57 : BitVec 32 := 16#32
  let c0_i32_60 : BitVec 32 := 0#32
  let v130 : BitVec 1 := Scalar.cmpi .sgt c16_i32_57 c0_i32_60
  let v131 : BitVec 32 := Scalar.extui v130
  let c0_i32_61 : BitVec 32 := 0#32
  let v132 : BitVec 1 := Scalar.cmpi .slt c16_i32_57 c0_i32_61
  let v133 : BitVec 32 := Scalar.extui v132
  let v134 : BitVec 32 := Scalar.subi v131 v133
  let v135 : BitVec 1 := Scalar.cmpi .ne v129 v134
  let v136 : BitVec 32 := Scalar.remsi v123 c16_i32_57
  let c0_i32_62 : BitVec 32 := 0#32
  let v137 : BitVec 1 := Scalar.cmpi .ne v136 c0_i32_62
  let v138 : BitVec 1 := Scalar.andi v135 v137
  let v124 : BitVec 32 := Scalar.divsi v123 c16_i32_57
  let c1_i32_63 : BitVec 32 := 1#32
  let v139 : BitVec 32 := Scalar.subi v124 c1_i32_63
  let v140 : BitVec 32 := Scalar.select v138 v139 v124
  let v142 : BitVec 32 := Scalar.subi v140 c0_i32_66
  let c1_i32_67 : BitVec 32 := 1#32
  let v144 : BitVec 32 := Scalar.divsi v142 c1_i32_67
  let v145 : BitVec 32 := Scalar.muli v144 c1_i32_67
  let v146 : BitVec 32 := Scalar.addi c0_i32_66 v145
  let c1_i32_69 : BitVec 32 := 1#32
  let arg9 : BitVec 32 := Scf.iv v146 c1_i32_69 k0_t8
  let c16_i32_154 : BitVec 32 := 16#32
  let v324 : BitVec 32 := Scalar.muli arg9 c16_i32_154
  let c10_i32 : BitVec 32 := 10#32
  let v457 : BitVec 32 := Scalar.addi v324 c10_i32
  let v458 : Index := Scalar.indexCast v457
  ![3, v458.toNat]
def k0_off247 (v459 : BitVec 32) : Fin 3 → Nat :=
  let v460 : Index := Scalar.indexCast v459
  let c0_198 : Index := 0#32
  let c0_199 : Index := 0#32
  ![v460.toNat, 0, 0]

def k0_chk127 (v459 : BitVec 32) : Prop :=
  (∀ a, (k0_off247 v459) a + S1x1x128.size a ≤ S100000x1x128.size a)
theorem k0_off247_inb : ∀ (v459 : BitVec 32) (k0_hw127 : k0_chk127 v459), ∀ a, (k0_off247 v459) a + S1x1x128.size a ≤ S100000x1x128.size a := fun v459 k0_hw127 => k0_hw127

def k0_off248 (v122 : BitVec 32) (k0_t8 : Fin (k0_t8_loop v122).trips) : Fin 2 → Nat :=
  let c3_201 : Index := 3#32
  let c0_i32_66 : BitVec 32 := 0#32
  let c15_i32_56 : BitVec 32 := 15#32
  let v123 : BitVec 32 := Scalar.addi v122 c15_i32_56
  let c0_i32_58 : BitVec 32 := 0#32
  let v125 : BitVec 1 := Scalar.cmpi .sgt v123 c0_i32_58
  let v126 : BitVec 32 := Scalar.extui v125
  let c0_i32_59 : BitVec 32 := 0#32
  let v127 : BitVec 1 := Scalar.cmpi .slt v123 c0_i32_59
  let v128 : BitVec 32 := Scalar.extui v127
  let v129 : BitVec 32 := Scalar.subi v126 v128
  let c16_i32_57 : BitVec 32 := 16#32
  let c0_i32_60 : BitVec 32 := 0#32
  let v130 : BitVec 1 := Scalar.cmpi .sgt c16_i32_57 c0_i32_60
  let v131 : BitVec 32 := Scalar.extui v130
  let c0_i32_61 : BitVec 32 := 0#32
  let v132 : BitVec 1 := Scalar.cmpi .slt c16_i32_57 c0_i32_61
  let v133 : BitVec 32 := Scalar.extui v132
  let v134 : BitVec 32 := Scalar.subi v131 v133
  let v135 : BitVec 1 := Scalar.cmpi .ne v129 v134
  let v136 : BitVec 32 := Scalar.remsi v123 c16_i32_57
  let c0_i32_62 : BitVec 32 := 0#32
  let v137 : BitVec 1 := Scalar.cmpi .ne v136 c0_i32_62
  let v138 : BitVec 1 := Scalar.andi v135 v137
  let v124 : BitVec 32 := Scalar.divsi v123 c16_i32_57
  let c1_i32_63 : BitVec 32 := 1#32
  let v139 : BitVec 32 := Scalar.subi v124 c1_i32_63
  let v140 : BitVec 32 := Scalar.select v138 v139 v124
  let v142 : BitVec 32 := Scalar.subi v140 c0_i32_66
  let c1_i32_67 : BitVec 32 := 1#32
  let v144 : BitVec 32 := Scalar.divsi v142 c1_i32_67
  let v145 : BitVec 32 := Scalar.muli v144 c1_i32_67
  let v146 : BitVec 32 := Scalar.addi c0_i32_66 v145
  let c1_i32_69 : BitVec 32 := 1#32
  let arg9 : BitVec 32 := Scf.iv v146 c1_i32_69 k0_t8
  let c16_i32_154 : BitVec 32 := 16#32
  let v324 : BitVec 32 := Scalar.muli arg9 c16_i32_154
  let c11_i32 : BitVec 32 := 11#32
  let v471 : BitVec 32 := Scalar.addi v324 c11_i32
  let v472 : Index := Scalar.indexCast v471
  ![3, v472.toNat]
def k0_off249 (v473 : BitVec 32) : Fin 3 → Nat :=
  let v474 : Index := Scalar.indexCast v473
  let c0_202 : Index := 0#32
  let c0_203 : Index := 0#32
  ![v474.toNat, 0, 0]

def k0_chk128 (v473 : BitVec 32) : Prop :=
  (∀ a, (k0_off249 v473) a + S1x1x128.size a ≤ S100000x1x128.size a)
theorem k0_off249_inb : ∀ (v473 : BitVec 32) (k0_hw128 : k0_chk128 v473), ∀ a, (k0_off249 v473) a + S1x1x128.size a ≤ S100000x1x128.size a := fun v473 k0_hw128 => k0_hw128

def k0_off250 (v122 : BitVec 32) (k0_t8 : Fin (k0_t8_loop v122).trips) : Fin 2 → Nat :=
  let c3_205 : Index := 3#32
  let c0_i32_66 : BitVec 32 := 0#32
  let c15_i32_56 : BitVec 32 := 15#32
  let v123 : BitVec 32 := Scalar.addi v122 c15_i32_56
  let c0_i32_58 : BitVec 32 := 0#32
  let v125 : BitVec 1 := Scalar.cmpi .sgt v123 c0_i32_58
  let v126 : BitVec 32 := Scalar.extui v125
  let c0_i32_59 : BitVec 32 := 0#32
  let v127 : BitVec 1 := Scalar.cmpi .slt v123 c0_i32_59
  let v128 : BitVec 32 := Scalar.extui v127
  let v129 : BitVec 32 := Scalar.subi v126 v128
  let c16_i32_57 : BitVec 32 := 16#32
  let c0_i32_60 : BitVec 32 := 0#32
  let v130 : BitVec 1 := Scalar.cmpi .sgt c16_i32_57 c0_i32_60
  let v131 : BitVec 32 := Scalar.extui v130
  let c0_i32_61 : BitVec 32 := 0#32
  let v132 : BitVec 1 := Scalar.cmpi .slt c16_i32_57 c0_i32_61
  let v133 : BitVec 32 := Scalar.extui v132
  let v134 : BitVec 32 := Scalar.subi v131 v133
  let v135 : BitVec 1 := Scalar.cmpi .ne v129 v134
  let v136 : BitVec 32 := Scalar.remsi v123 c16_i32_57
  let c0_i32_62 : BitVec 32 := 0#32
  let v137 : BitVec 1 := Scalar.cmpi .ne v136 c0_i32_62
  let v138 : BitVec 1 := Scalar.andi v135 v137
  let v124 : BitVec 32 := Scalar.divsi v123 c16_i32_57
  let c1_i32_63 : BitVec 32 := 1#32
  let v139 : BitVec 32 := Scalar.subi v124 c1_i32_63
  let v140 : BitVec 32 := Scalar.select v138 v139 v124
  let v142 : BitVec 32 := Scalar.subi v140 c0_i32_66
  let c1_i32_67 : BitVec 32 := 1#32
  let v144 : BitVec 32 := Scalar.divsi v142 c1_i32_67
  let v145 : BitVec 32 := Scalar.muli v144 c1_i32_67
  let v146 : BitVec 32 := Scalar.addi c0_i32_66 v145
  let c1_i32_69 : BitVec 32 := 1#32
  let arg9 : BitVec 32 := Scf.iv v146 c1_i32_69 k0_t8
  let c16_i32_154 : BitVec 32 := 16#32
  let v324 : BitVec 32 := Scalar.muli arg9 c16_i32_154
  let c12_i32 : BitVec 32 := 12#32
  let v485 : BitVec 32 := Scalar.addi v324 c12_i32
  let v486 : Index := Scalar.indexCast v485
  ![3, v486.toNat]
def k0_off251 (v487 : BitVec 32) : Fin 3 → Nat :=
  let v488 : Index := Scalar.indexCast v487
  let c0_206 : Index := 0#32
  let c0_207 : Index := 0#32
  ![v488.toNat, 0, 0]

def k0_chk129 (v487 : BitVec 32) : Prop :=
  (∀ a, (k0_off251 v487) a + S1x1x128.size a ≤ S100000x1x128.size a)
theorem k0_off251_inb : ∀ (v487 : BitVec 32) (k0_hw129 : k0_chk129 v487), ∀ a, (k0_off251 v487) a + S1x1x128.size a ≤ S100000x1x128.size a := fun v487 k0_hw129 => k0_hw129

def k0_off252 (v122 : BitVec 32) (k0_t8 : Fin (k0_t8_loop v122).trips) : Fin 2 → Nat :=
  let c3_209 : Index := 3#32
  let c0_i32_66 : BitVec 32 := 0#32
  let c15_i32_56 : BitVec 32 := 15#32
  let v123 : BitVec 32 := Scalar.addi v122 c15_i32_56
  let c0_i32_58 : BitVec 32 := 0#32
  let v125 : BitVec 1 := Scalar.cmpi .sgt v123 c0_i32_58
  let v126 : BitVec 32 := Scalar.extui v125
  let c0_i32_59 : BitVec 32 := 0#32
  let v127 : BitVec 1 := Scalar.cmpi .slt v123 c0_i32_59
  let v128 : BitVec 32 := Scalar.extui v127
  let v129 : BitVec 32 := Scalar.subi v126 v128
  let c16_i32_57 : BitVec 32 := 16#32
  let c0_i32_60 : BitVec 32 := 0#32
  let v130 : BitVec 1 := Scalar.cmpi .sgt c16_i32_57 c0_i32_60
  let v131 : BitVec 32 := Scalar.extui v130
  let c0_i32_61 : BitVec 32 := 0#32
  let v132 : BitVec 1 := Scalar.cmpi .slt c16_i32_57 c0_i32_61
  let v133 : BitVec 32 := Scalar.extui v132
  let v134 : BitVec 32 := Scalar.subi v131 v133
  let v135 : BitVec 1 := Scalar.cmpi .ne v129 v134
  let v136 : BitVec 32 := Scalar.remsi v123 c16_i32_57
  let c0_i32_62 : BitVec 32 := 0#32
  let v137 : BitVec 1 := Scalar.cmpi .ne v136 c0_i32_62
  let v138 : BitVec 1 := Scalar.andi v135 v137
  let v124 : BitVec 32 := Scalar.divsi v123 c16_i32_57
  let c1_i32_63 : BitVec 32 := 1#32
  let v139 : BitVec 32 := Scalar.subi v124 c1_i32_63
  let v140 : BitVec 32 := Scalar.select v138 v139 v124
  let v142 : BitVec 32 := Scalar.subi v140 c0_i32_66
  let c1_i32_67 : BitVec 32 := 1#32
  let v144 : BitVec 32 := Scalar.divsi v142 c1_i32_67
  let v145 : BitVec 32 := Scalar.muli v144 c1_i32_67
  let v146 : BitVec 32 := Scalar.addi c0_i32_66 v145
  let c1_i32_69 : BitVec 32 := 1#32
  let arg9 : BitVec 32 := Scf.iv v146 c1_i32_69 k0_t8
  let c16_i32_154 : BitVec 32 := 16#32
  let v324 : BitVec 32 := Scalar.muli arg9 c16_i32_154
  let c13_i32 : BitVec 32 := 13#32
  let v499 : BitVec 32 := Scalar.addi v324 c13_i32
  let v500 : Index := Scalar.indexCast v499
  ![3, v500.toNat]
def k0_off253 (v501 : BitVec 32) : Fin 3 → Nat :=
  let v502 : Index := Scalar.indexCast v501
  let c0_210 : Index := 0#32
  let c0_211 : Index := 0#32
  ![v502.toNat, 0, 0]

def k0_chk130 (v501 : BitVec 32) : Prop :=
  (∀ a, (k0_off253 v501) a + S1x1x128.size a ≤ S100000x1x128.size a)
theorem k0_off253_inb : ∀ (v501 : BitVec 32) (k0_hw130 : k0_chk130 v501), ∀ a, (k0_off253 v501) a + S1x1x128.size a ≤ S100000x1x128.size a := fun v501 k0_hw130 => k0_hw130

def k0_off254 (v122 : BitVec 32) (k0_t8 : Fin (k0_t8_loop v122).trips) : Fin 2 → Nat :=
  let c3_213 : Index := 3#32
  let c0_i32_66 : BitVec 32 := 0#32
  let c15_i32_56 : BitVec 32 := 15#32
  let v123 : BitVec 32 := Scalar.addi v122 c15_i32_56
  let c0_i32_58 : BitVec 32 := 0#32
  let v125 : BitVec 1 := Scalar.cmpi .sgt v123 c0_i32_58
  let v126 : BitVec 32 := Scalar.extui v125
  let c0_i32_59 : BitVec 32 := 0#32
  let v127 : BitVec 1 := Scalar.cmpi .slt v123 c0_i32_59
  let v128 : BitVec 32 := Scalar.extui v127
  let v129 : BitVec 32 := Scalar.subi v126 v128
  let c16_i32_57 : BitVec 32 := 16#32
  let c0_i32_60 : BitVec 32 := 0#32
  let v130 : BitVec 1 := Scalar.cmpi .sgt c16_i32_57 c0_i32_60
  let v131 : BitVec 32 := Scalar.extui v130
  let c0_i32_61 : BitVec 32 := 0#32
  let v132 : BitVec 1 := Scalar.cmpi .slt c16_i32_57 c0_i32_61
  let v133 : BitVec 32 := Scalar.extui v132
  let v134 : BitVec 32 := Scalar.subi v131 v133
  let v135 : BitVec 1 := Scalar.cmpi .ne v129 v134
  let v136 : BitVec 32 := Scalar.remsi v123 c16_i32_57
  let c0_i32_62 : BitVec 32 := 0#32
  let v137 : BitVec 1 := Scalar.cmpi .ne v136 c0_i32_62
  let v138 : BitVec 1 := Scalar.andi v135 v137
  let v124 : BitVec 32 := Scalar.divsi v123 c16_i32_57
  let c1_i32_63 : BitVec 32 := 1#32
  let v139 : BitVec 32 := Scalar.subi v124 c1_i32_63
  let v140 : BitVec 32 := Scalar.select v138 v139 v124
  let v142 : BitVec 32 := Scalar.subi v140 c0_i32_66
  let c1_i32_67 : BitVec 32 := 1#32
  let v144 : BitVec 32 := Scalar.divsi v142 c1_i32_67
  let v145 : BitVec 32 := Scalar.muli v144 c1_i32_67
  let v146 : BitVec 32 := Scalar.addi c0_i32_66 v145
  let c1_i32_69 : BitVec 32 := 1#32
  let arg9 : BitVec 32 := Scf.iv v146 c1_i32_69 k0_t8
  let c16_i32_154 : BitVec 32 := 16#32
  let v324 : BitVec 32 := Scalar.muli arg9 c16_i32_154
  let c14_i32 : BitVec 32 := 14#32
  let v513 : BitVec 32 := Scalar.addi v324 c14_i32
  let v514 : Index := Scalar.indexCast v513
  ![3, v514.toNat]
def k0_off255 (v515 : BitVec 32) : Fin 3 → Nat :=
  let v516 : Index := Scalar.indexCast v515
  let c0_214 : Index := 0#32
  let c0_215 : Index := 0#32
  ![v516.toNat, 0, 0]

def k0_chk131 (v515 : BitVec 32) : Prop :=
  (∀ a, (k0_off255 v515) a + S1x1x128.size a ≤ S100000x1x128.size a)
theorem k0_off255_inb : ∀ (v515 : BitVec 32) (k0_hw131 : k0_chk131 v515), ∀ a, (k0_off255 v515) a + S1x1x128.size a ≤ S100000x1x128.size a := fun v515 k0_hw131 => k0_hw131

def k0_off256 (v122 : BitVec 32) (k0_t8 : Fin (k0_t8_loop v122).trips) : Fin 2 → Nat :=
  let c3_218 : Index := 3#32
  let c0_i32_66 : BitVec 32 := 0#32
  let c15_i32_56 : BitVec 32 := 15#32
  let v123 : BitVec 32 := Scalar.addi v122 c15_i32_56
  let c0_i32_58 : BitVec 32 := 0#32
  let v125 : BitVec 1 := Scalar.cmpi .sgt v123 c0_i32_58
  let v126 : BitVec 32 := Scalar.extui v125
  let c0_i32_59 : BitVec 32 := 0#32
  let v127 : BitVec 1 := Scalar.cmpi .slt v123 c0_i32_59
  let v128 : BitVec 32 := Scalar.extui v127
  let v129 : BitVec 32 := Scalar.subi v126 v128
  let c16_i32_57 : BitVec 32 := 16#32
  let c0_i32_60 : BitVec 32 := 0#32
  let v130 : BitVec 1 := Scalar.cmpi .sgt c16_i32_57 c0_i32_60
  let v131 : BitVec 32 := Scalar.extui v130
  let c0_i32_61 : BitVec 32 := 0#32
  let v132 : BitVec 1 := Scalar.cmpi .slt c16_i32_57 c0_i32_61
  let v133 : BitVec 32 := Scalar.extui v132
  let v134 : BitVec 32 := Scalar.subi v131 v133
  let v135 : BitVec 1 := Scalar.cmpi .ne v129 v134
  let v136 : BitVec 32 := Scalar.remsi v123 c16_i32_57
  let c0_i32_62 : BitVec 32 := 0#32
  let v137 : BitVec 1 := Scalar.cmpi .ne v136 c0_i32_62
  let v138 : BitVec 1 := Scalar.andi v135 v137
  let v124 : BitVec 32 := Scalar.divsi v123 c16_i32_57
  let c1_i32_63 : BitVec 32 := 1#32
  let v139 : BitVec 32 := Scalar.subi v124 c1_i32_63
  let v140 : BitVec 32 := Scalar.select v138 v139 v124
  let v142 : BitVec 32 := Scalar.subi v140 c0_i32_66
  let c1_i32_67 : BitVec 32 := 1#32
  let v144 : BitVec 32 := Scalar.divsi v142 c1_i32_67
  let v145 : BitVec 32 := Scalar.muli v144 c1_i32_67
  let v146 : BitVec 32 := Scalar.addi c0_i32_66 v145
  let c1_i32_69 : BitVec 32 := 1#32
  let arg9 : BitVec 32 := Scf.iv v146 c1_i32_69 k0_t8
  let c16_i32_154 : BitVec 32 := 16#32
  let v324 : BitVec 32 := Scalar.muli arg9 c16_i32_154
  let c15_i32_217 : BitVec 32 := 15#32
  let v527 : BitVec 32 := Scalar.addi v324 c15_i32_217
  let v528 : Index := Scalar.indexCast v527
  ![3, v528.toNat]

def k0_chk100_0 (v122 : BitVec 32) : Prop :=
  ((k0_t7_loop v122).OK) ∧
  (∀ k0_t7 : Fin (k0_t7_loop v122).trips, ∀ a, (k0_off194 v122 k0_t7) a + S1x1.size a ≤ S8x512.size a) ∧
  (∀ k0_t7 : Fin (k0_t7_loop v122).trips, ∀ a, (k0_off196 v122 k0_t7) a + S1x1.size a ≤ S8x512.size a) ∧
  (∀ k0_t7 : Fin (k0_t7_loop v122).trips, ∀ a, (k0_off198 v122 k0_t7) a + S1x1.size a ≤ S8x512.size a) ∧
  (∀ k0_t7 : Fin (k0_t7_loop v122).trips, ∀ a, (k0_off200 v122 k0_t7) a + S1x1.size a ≤ S8x512.size a) ∧
  (∀ k0_t7 : Fin (k0_t7_loop v122).trips, ∀ a, (k0_off202 v122 k0_t7) a + S1x1.size a ≤ S8x512.size a) ∧
  (∀ k0_t7 : Fin (k0_t7_loop v122).trips, ∀ a, (k0_off204 v122 k0_t7) a + S1x1.size a ≤ S8x512.size a) ∧
  (∀ k0_t7 : Fin (k0_t7_loop v122).trips, ∀ a, (k0_off206 v122 k0_t7) a + S1x1.size a ≤ S8x512.size a) ∧
  (∀ k0_t7 : Fin (k0_t7_loop v122).trips, ∀ a, (k0_off208 v122 k0_t7) a + S1x1.size a ≤ S8x512.size a) ∧
  (∀ k0_t7 : Fin (k0_t7_loop v122).trips, ∀ a, (k0_off210 v122 k0_t7) a + S1x1.size a ≤ S8x512.size a) ∧
  (∀ k0_t7 : Fin (k0_t7_loop v122).trips, ∀ a, (k0_off212 v122 k0_t7) a + S1x1.size a ≤ S8x512.size a) ∧
  (∀ k0_t7 : Fin (k0_t7_loop v122).trips, ∀ a, (k0_off214 v122 k0_t7) a + S1x1.size a ≤ S8x512.size a) ∧
  (∀ k0_t7 : Fin (k0_t7_loop v122).trips, ∀ a, (k0_off216 v122 k0_t7) a + S1x1.size a ≤ S8x512.size a) ∧
  (∀ k0_t7 : Fin (k0_t7_loop v122).trips, ∀ a, (k0_off218 v122 k0_t7) a + S1x1.size a ≤ S8x512.size a) ∧
  (∀ k0_t7 : Fin (k0_t7_loop v122).trips, ∀ a, (k0_off220 v122 k0_t7) a + S1x1.size a ≤ S8x512.size a) ∧
  (∀ k0_t7 : Fin (k0_t7_loop v122).trips, ∀ a, (k0_off222 v122 k0_t7) a + S1x1.size a ≤ S8x512.size a) ∧
  (∀ k0_t7 : Fin (k0_t7_loop v122).trips, ∀ a, (k0_off224 v122 k0_t7) a + S1x1.size a ≤ S8x512.size a) ∧
  ((k0_t8_loop v122).OK) ∧
  (∀ k0_t8 : Fin (k0_t8_loop v122).trips, ∀ a, (k0_off226 v122 k0_t8) a + S1x1.size a ≤ S8x512.size a) ∧
  (∀ k0_t8 : Fin (k0_t8_loop v122).trips, ∀ a, (k0_off228 v122 k0_t8) a + S1x1.size a ≤ S8x512.size a) ∧
  (∀ k0_t8 : Fin (k0_t8_loop v122).trips, ∀ a, (k0_off230 v122 k0_t8) a + S1x1.size a ≤ S8x512.size a) ∧
  (∀ k0_t8 : Fin (k0_t8_loop v122).trips, ∀ a, (k0_off232 v122 k0_t8) a + S1x1.size a ≤ S8x512.size a) ∧
  (∀ k0_t8 : Fin (k0_t8_loop v122).trips, ∀ a, (k0_off234 v122 k0_t8) a + S1x1.size a ≤ S8x512.size a) ∧
  (∀ k0_t8 : Fin (k0_t8_loop v122).trips, ∀ a, (k0_off236 v122 k0_t8) a + S1x1.size a ≤ S8x512.size a) ∧
  (∀ k0_t8 : Fin (k0_t8_loop v122).trips, ∀ a, (k0_off238 v122 k0_t8) a + S1x1.size a ≤ S8x512.size a) ∧
  (∀ k0_t8 : Fin (k0_t8_loop v122).trips, ∀ a, (k0_off240 v122 k0_t8) a + S1x1.size a ≤ S8x512.size a) ∧
  (∀ k0_t8 : Fin (k0_t8_loop v122).trips, ∀ a, (k0_off242 v122 k0_t8) a + S1x1.size a ≤ S8x512.size a) ∧
  (∀ k0_t8 : Fin (k0_t8_loop v122).trips, ∀ a, (k0_off244 v122 k0_t8) a + S1x1.size a ≤ S8x512.size a) ∧
  (∀ k0_t8 : Fin (k0_t8_loop v122).trips, ∀ a, (k0_off246 v122 k0_t8) a + S1x1.size a ≤ S8x512.size a) ∧
  (∀ k0_t8 : Fin (k0_t8_loop v122).trips, ∀ a, (k0_off248 v122 k0_t8) a + S1x1.size a ≤ S8x512.size a) ∧
  (∀ k0_t8 : Fin (k0_t8_loop v122).trips, ∀ a, (k0_off250 v122 k0_t8) a + S1x1.size a ≤ S8x512.size a) ∧
  (∀ k0_t8 : Fin (k0_t8_loop v122).trips, ∀ a, (k0_off252 v122 k0_t8) a + S1x1.size a ≤ S8x512.size a)
def k0_chk100_1 (v122 : BitVec 32) : Prop :=
  (∀ k0_t8 : Fin (k0_t8_loop v122).trips, ∀ a, (k0_off254 v122 k0_t8) a + S1x1.size a ≤ S8x512.size a) ∧
  (∀ k0_t8 : Fin (k0_t8_loop v122).trips, ∀ a, (k0_off256 v122 k0_t8) a + S1x1.size a ≤ S8x512.size a)
def k0_chk100 (v122 : BitVec 32) : Prop :=
  k0_chk100_0 v122 ∧
  k0_chk100_1 v122
theorem k0_t7_ok : ∀ (v122 : BitVec 32) (k0_hw100 : k0_chk100 v122), (k0_t7_loop v122).OK := fun v122 k0_hw100 => k0_hw100.1.1
theorem k0_off194_inb : ∀ (v122 : BitVec 32) (k0_hw100 : k0_chk100 v122) (k0_t7 : Fin (k0_t7_loop v122).trips), ∀ a, (k0_off194 v122 k0_t7) a + S1x1.size a ≤ S8x512.size a := fun v122 k0_hw100 k0_t7 => k0_hw100.1.2.1 k0_t7
theorem k0_off196_inb : ∀ (v122 : BitVec 32) (k0_hw100 : k0_chk100 v122) (k0_t7 : Fin (k0_t7_loop v122).trips), ∀ a, (k0_off196 v122 k0_t7) a + S1x1.size a ≤ S8x512.size a := fun v122 k0_hw100 k0_t7 => k0_hw100.1.2.2.1 k0_t7
theorem k0_off198_inb : ∀ (v122 : BitVec 32) (k0_hw100 : k0_chk100 v122) (k0_t7 : Fin (k0_t7_loop v122).trips), ∀ a, (k0_off198 v122 k0_t7) a + S1x1.size a ≤ S8x512.size a := fun v122 k0_hw100 k0_t7 => k0_hw100.1.2.2.2.1 k0_t7
theorem k0_off200_inb : ∀ (v122 : BitVec 32) (k0_hw100 : k0_chk100 v122) (k0_t7 : Fin (k0_t7_loop v122).trips), ∀ a, (k0_off200 v122 k0_t7) a + S1x1.size a ≤ S8x512.size a := fun v122 k0_hw100 k0_t7 => k0_hw100.1.2.2.2.2.1 k0_t7
theorem k0_off202_inb : ∀ (v122 : BitVec 32) (k0_hw100 : k0_chk100 v122) (k0_t7 : Fin (k0_t7_loop v122).trips), ∀ a, (k0_off202 v122 k0_t7) a + S1x1.size a ≤ S8x512.size a := fun v122 k0_hw100 k0_t7 => k0_hw100.1.2.2.2.2.2.1 k0_t7
theorem k0_off204_inb : ∀ (v122 : BitVec 32) (k0_hw100 : k0_chk100 v122) (k0_t7 : Fin (k0_t7_loop v122).trips), ∀ a, (k0_off204 v122 k0_t7) a + S1x1.size a ≤ S8x512.size a := fun v122 k0_hw100 k0_t7 => k0_hw100.1.2.2.2.2.2.2.1 k0_t7
theorem k0_off206_inb : ∀ (v122 : BitVec 32) (k0_hw100 : k0_chk100 v122) (k0_t7 : Fin (k0_t7_loop v122).trips), ∀ a, (k0_off206 v122 k0_t7) a + S1x1.size a ≤ S8x512.size a := fun v122 k0_hw100 k0_t7 => k0_hw100.1.2.2.2.2.2.2.2.1 k0_t7
theorem k0_off208_inb : ∀ (v122 : BitVec 32) (k0_hw100 : k0_chk100 v122) (k0_t7 : Fin (k0_t7_loop v122).trips), ∀ a, (k0_off208 v122 k0_t7) a + S1x1.size a ≤ S8x512.size a := fun v122 k0_hw100 k0_t7 => k0_hw100.1.2.2.2.2.2.2.2.2.1 k0_t7
theorem k0_off210_inb : ∀ (v122 : BitVec 32) (k0_hw100 : k0_chk100 v122) (k0_t7 : Fin (k0_t7_loop v122).trips), ∀ a, (k0_off210 v122 k0_t7) a + S1x1.size a ≤ S8x512.size a := fun v122 k0_hw100 k0_t7 => k0_hw100.1.2.2.2.2.2.2.2.2.2.1 k0_t7
theorem k0_off212_inb : ∀ (v122 : BitVec 32) (k0_hw100 : k0_chk100 v122) (k0_t7 : Fin (k0_t7_loop v122).trips), ∀ a, (k0_off212 v122 k0_t7) a + S1x1.size a ≤ S8x512.size a := fun v122 k0_hw100 k0_t7 => k0_hw100.1.2.2.2.2.2.2.2.2.2.2.1 k0_t7
theorem k0_off214_inb : ∀ (v122 : BitVec 32) (k0_hw100 : k0_chk100 v122) (k0_t7 : Fin (k0_t7_loop v122).trips), ∀ a, (k0_off214 v122 k0_t7) a + S1x1.size a ≤ S8x512.size a := fun v122 k0_hw100 k0_t7 => k0_hw100.1.2.2.2.2.2.2.2.2.2.2.2.1 k0_t7
theorem k0_off216_inb : ∀ (v122 : BitVec 32) (k0_hw100 : k0_chk100 v122) (k0_t7 : Fin (k0_t7_loop v122).trips), ∀ a, (k0_off216 v122 k0_t7) a + S1x1.size a ≤ S8x512.size a := fun v122 k0_hw100 k0_t7 => k0_hw100.1.2.2.2.2.2.2.2.2.2.2.2.2.1 k0_t7
theorem k0_off218_inb : ∀ (v122 : BitVec 32) (k0_hw100 : k0_chk100 v122) (k0_t7 : Fin (k0_t7_loop v122).trips), ∀ a, (k0_off218 v122 k0_t7) a + S1x1.size a ≤ S8x512.size a := fun v122 k0_hw100 k0_t7 => k0_hw100.1.2.2.2.2.2.2.2.2.2.2.2.2.2.1 k0_t7
theorem k0_off220_inb : ∀ (v122 : BitVec 32) (k0_hw100 : k0_chk100 v122) (k0_t7 : Fin (k0_t7_loop v122).trips), ∀ a, (k0_off220 v122 k0_t7) a + S1x1.size a ≤ S8x512.size a := fun v122 k0_hw100 k0_t7 => k0_hw100.1.2.2.2.2.2.2.2.2.2.2.2.2.2.2.1 k0_t7
theorem k0_off222_inb : ∀ (v122 : BitVec 32) (k0_hw100 : k0_chk100 v122) (k0_t7 : Fin (k0_t7_loop v122).trips), ∀ a, (k0_off222 v122 k0_t7) a + S1x1.size a ≤ S8x512.size a := fun v122 k0_hw100 k0_t7 => k0_hw100.1.2.2.2.2.2.2.2.2.2.2.2.2.2.2.2.1 k0_t7
theorem k0_off224_inb : ∀ (v122 : BitVec 32) (k0_hw100 : k0_chk100 v122) (k0_t7 : Fin (k0_t7_loop v122).trips), ∀ a, (k0_off224 v122 k0_t7) a + S1x1.size a ≤ S8x512.size a := fun v122 k0_hw100 k0_t7 => k0_hw100.1.2.2.2.2.2.2.2.2.2.2.2.2.2.2.2.2.1 k0_t7
theorem k0_t8_ok : ∀ (v122 : BitVec 32) (k0_hw100 : k0_chk100 v122), (k0_t8_loop v122).OK := fun v122 k0_hw100 => k0_hw100.1.2.2.2.2.2.2.2.2.2.2.2.2.2.2.2.2.2.1
theorem k0_off226_inb : ∀ (v122 : BitVec 32) (k0_hw100 : k0_chk100 v122) (k0_t8 : Fin (k0_t8_loop v122).trips), ∀ a, (k0_off226 v122 k0_t8) a + S1x1.size a ≤ S8x512.size a := fun v122 k0_hw100 k0_t8 => k0_hw100.1.2.2.2.2.2.2.2.2.2.2.2.2.2.2.2.2.2.2.1 k0_t8
theorem k0_off228_inb : ∀ (v122 : BitVec 32) (k0_hw100 : k0_chk100 v122) (k0_t8 : Fin (k0_t8_loop v122).trips), ∀ a, (k0_off228 v122 k0_t8) a + S1x1.size a ≤ S8x512.size a := fun v122 k0_hw100 k0_t8 => k0_hw100.1.2.2.2.2.2.2.2.2.2.2.2.2.2.2.2.2.2.2.2.1 k0_t8
theorem k0_off230_inb : ∀ (v122 : BitVec 32) (k0_hw100 : k0_chk100 v122) (k0_t8 : Fin (k0_t8_loop v122).trips), ∀ a, (k0_off230 v122 k0_t8) a + S1x1.size a ≤ S8x512.size a := fun v122 k0_hw100 k0_t8 => k0_hw100.1.2.2.2.2.2.2.2.2.2.2.2.2.2.2.2.2.2.2.2.2.1 k0_t8
theorem k0_off232_inb : ∀ (v122 : BitVec 32) (k0_hw100 : k0_chk100 v122) (k0_t8 : Fin (k0_t8_loop v122).trips), ∀ a, (k0_off232 v122 k0_t8) a + S1x1.size a ≤ S8x512.size a := fun v122 k0_hw100 k0_t8 => k0_hw100.1.2.2.2.2.2.2.2.2.2.2.2.2.2.2.2.2.2.2.2.2.2.1 k0_t8
theorem k0_off234_inb : ∀ (v122 : BitVec 32) (k0_hw100 : k0_chk100 v122) (k0_t8 : Fin (k0_t8_loop v122).trips), ∀ a, (k0_off234 v122 k0_t8) a + S1x1.size a ≤ S8x512.size a := fun v122 k0_hw100 k0_t8 => k0_hw100.1.2.2.2.2.2.2.2.2.2.2.2.2.2.2.2.2.2.2.2.2.2.2.1 k0_t8
theorem k0_off236_inb : ∀ (v122 : BitVec 32) (k0_hw100 : k0_chk100 v122) (k0_t8 : Fin (k0_t8_loop v122).trips), ∀ a, (k0_off236 v122 k0_t8) a + S1x1.size a ≤ S8x512.size a := fun v122 k0_hw100 k0_t8 => k0_hw100.1.2.2.2.2.2.2.2.2.2.2.2.2.2.2.2.2.2.2.2.2.2.2.2.1 k0_t8
theorem k0_off238_inb : ∀ (v122 : BitVec 32) (k0_hw100 : k0_chk100 v122) (k0_t8 : Fin (k0_t8_loop v122).trips), ∀ a, (k0_off238 v122 k0_t8) a + S1x1.size a ≤ S8x512.size a := fun v122 k0_hw100 k0_t8 => k0_hw100.1.2.2.2.2.2.2.2.2.2.2.2.2.2.2.2.2.2.2.2.2.2.2.2.2.1 k0_t8
theorem k0_off240_inb : ∀ (v122 : BitVec 32) (k0_hw100 : k0_chk100 v122) (k0_t8 : Fin (k0_t8_loop v122).trips), ∀ a, (k0_off240 v122 k0_t8) a + S1x1.size a ≤ S8x512.size a := fun v122 k0_hw100 k0_t8 => k0_hw100.1.2.2.2.2.2.2.2.2.2.2.2.2.2.2.2.2.2.2.2.2.2.2.2.2.2.1 k0_t8
theorem k0_off242_inb : ∀ (v122 : BitVec 32) (k0_hw100 : k0_chk100 v122) (k0_t8 : Fin (k0_t8_loop v122).trips), ∀ a, (k0_off242 v122 k0_t8) a + S1x1.size a ≤ S8x512.size a := fun v122 k0_hw100 k0_t8 => k0_hw100.1.2.2.2.2.2.2.2.2.2.2.2.2.2.2.2.2.2.2.2.2.2.2.2.2.2.2.1 k0_t8
theorem k0_off244_inb : ∀ (v122 : BitVec 32) (k0_hw100 : k0_chk100 v122) (k0_t8 : Fin (k0_t8_loop v122).trips), ∀ a, (k0_off244 v122 k0_t8) a + S1x1.size a ≤ S8x512.size a := fun v122 k0_hw100 k0_t8 => k0_hw100.1.2.2.2.2.2.2.2.2.2.2.2.2.2.2.2.2.2.2.2.2.2.2.2.2.2.2.2.1 k0_t8
theorem k0_off246_inb : ∀ (v122 : BitVec 32) (k0_hw100 : k0_chk100 v122) (k0_t8 : Fin (k0_t8_loop v122).trips), ∀ a, (k0_off246 v122 k0_t8) a + S1x1.size a ≤ S8x512.size a := fun v122 k0_hw100 k0_t8 => k0_hw100.1.2.2.2.2.2.2.2.2.2.2.2.2.2.2.2.2.2.2.2.2.2.2.2.2.2.2.2.2.1 k0_t8
theorem k0_off248_inb : ∀ (v122 : BitVec 32) (k0_hw100 : k0_chk100 v122) (k0_t8 : Fin (k0_t8_loop v122).trips), ∀ a, (k0_off248 v122 k0_t8) a + S1x1.size a ≤ S8x512.size a := fun v122 k0_hw100 k0_t8 => k0_hw100.1.2.2.2.2.2.2.2.2.2.2.2.2.2.2.2.2.2.2.2.2.2.2.2.2.2.2.2.2.2.1 k0_t8
theorem k0_off250_inb : ∀ (v122 : BitVec 32) (k0_hw100 : k0_chk100 v122) (k0_t8 : Fin (k0_t8_loop v122).trips), ∀ a, (k0_off250 v122 k0_t8) a + S1x1.size a ≤ S8x512.size a := fun v122 k0_hw100 k0_t8 => k0_hw100.1.2.2.2.2.2.2.2.2.2.2.2.2.2.2.2.2.2.2.2.2.2.2.2.2.2.2.2.2.2.2.1 k0_t8
theorem k0_off252_inb : ∀ (v122 : BitVec 32) (k0_hw100 : k0_chk100 v122) (k0_t8 : Fin (k0_t8_loop v122).trips), ∀ a, (k0_off252 v122 k0_t8) a + S1x1.size a ≤ S8x512.size a := fun v122 k0_hw100 k0_t8 => k0_hw100.1.2.2.2.2.2.2.2.2.2.2.2.2.2.2.2.2.2.2.2.2.2.2.2.2.2.2.2.2.2.2.2 k0_t8
theorem k0_off254_inb : ∀ (v122 : BitVec 32) (k0_hw100 : k0_chk100 v122) (k0_t8 : Fin (k0_t8_loop v122).trips), ∀ a, (k0_off254 v122 k0_t8) a + S1x1.size a ≤ S8x512.size a := fun v122 k0_hw100 k0_t8 => k0_hw100.2.1 k0_t8
theorem k0_off256_inb : ∀ (v122 : BitVec 32) (k0_hw100 : k0_chk100 v122) (k0_t8 : Fin (k0_t8_loop v122).trips), ∀ a, (k0_off256 v122 k0_t8) a + S1x1.size a ≤ S8x512.size a := fun v122 k0_hw100 k0_t8 => k0_hw100.2.2 k0_t8

def k0_off257 (v529 : BitVec 32) : Fin 3 → Nat :=
  let v530 : Index := Scalar.indexCast v529
  let c0_219 : Index := 0#32
  let c0_220 : Index := 0#32
  ![v530.toNat, 0, 0]

def k0_chk132 (v529 : BitVec 32) : Prop :=
  (∀ a, (k0_off257 v529) a + S1x1x128.size a ≤ S100000x1x128.size a)
theorem k0_off257_inb : ∀ (v529 : BitVec 32) (k0_hw132 : k0_chk132 v529), ∀ a, (k0_off257 v529) a + S1x1x128.size a ≤ S100000x1x128.size a := fun v529 k0_hw132 => k0_hw132

@[reducible] def k0_t9_loop (v159 : BitVec 32) : Scf.Loop 32 :=
  let c0_i32_84 : BitVec 32 := 0#32
  let c15_i32_74 : BitVec 32 := 15#32
  let v160 : BitVec 32 := Scalar.addi v159 c15_i32_74
  let c0_i32_76 : BitVec 32 := 0#32
  let v162 : BitVec 1 := Scalar.cmpi .sgt v160 c0_i32_76
  let v163 : BitVec 32 := Scalar.extui v162
  let c0_i32_77 : BitVec 32 := 0#32
  let v164 : BitVec 1 := Scalar.cmpi .slt v160 c0_i32_77
  let v165 : BitVec 32 := Scalar.extui v164
  let v166 : BitVec 32 := Scalar.subi v163 v165
  let c16_i32_75 : BitVec 32 := 16#32
  let c0_i32_78 : BitVec 32 := 0#32
  let v167 : BitVec 1 := Scalar.cmpi .sgt c16_i32_75 c0_i32_78
  let v168 : BitVec 32 := Scalar.extui v167
  let c0_i32_79 : BitVec 32 := 0#32
  let v169 : BitVec 1 := Scalar.cmpi .slt c16_i32_75 c0_i32_79
  let v170 : BitVec 32 := Scalar.extui v169
  let v171 : BitVec 32 := Scalar.subi v168 v170
  let v172 : BitVec 1 := Scalar.cmpi .ne v166 v171
  let v173 : BitVec 32 := Scalar.remsi v160 c16_i32_75
  let c0_i32_80 : BitVec 32 := 0#32
  let v174 : BitVec 1 := Scalar.cmpi .ne v173 c0_i32_80
  let v175 : BitVec 1 := Scalar.andi v172 v174
  let v161 : BitVec 32 := Scalar.divsi v160 c16_i32_75
  let c1_i32_81 : BitVec 32 := 1#32
  let v176 : BitVec 32 := Scalar.subi v161 c1_i32_81
  let v177 : BitVec 32 := Scalar.select v175 v176 v161
  let v179 : BitVec 32 := Scalar.subi v177 c0_i32_84
  let c1_i32_85 : BitVec 32 := 1#32
  let v181 : BitVec 32 := Scalar.divsi v179 c1_i32_85
  let v182 : BitVec 32 := Scalar.muli v181 c1_i32_85
  let v183 : BitVec 32 := Scalar.addi c0_i32_84 v182
  let c1_i32_86 : BitVec 32 := 1#32
  ⟨c0_i32_84, v183, c1_i32_86⟩

def k0_off258 (v159 : BitVec 32) (k0_t9 : Fin (k0_t9_loop v159).trips) : Fin 2 → Nat :=
  let c4_156 : Index := 4#32
  let c0_i32_84 : BitVec 32 := 0#32
  let c1_i32_86 : BitVec 32 := 1#32
  let arg9 : BitVec 32 := Scf.iv c0_i32_84 c1_i32_86 k0_t9
  let c16_i32_154 : BitVec 32 := 16#32
  let v324 : BitVec 32 := Scalar.muli arg9 c16_i32_154
  let c0_i32_155 : BitVec 32 := 0#32
  let v325 : BitVec 32 := Scalar.addi v324 c0_i32_155
  let v326 : Index := Scalar.indexCast v325
  ![4, v326.toNat]
def k0_off259 (v327 : BitVec 32) : Fin 3 → Nat :=
  let v328 : Index := Scalar.indexCast v327
  let c0_157 : Index := 0#32
  let c0_158 : Index := 0#32
  ![v328.toNat, 0, 0]

def k0_chk134 (v327 : BitVec 32) : Prop :=
  (∀ a, (k0_off259 v327) a + S1x1x128.size a ≤ S100000x1x128.size a)
theorem k0_off259_inb : ∀ (v327 : BitVec 32) (k0_hw134 : k0_chk134 v327), ∀ a, (k0_off259 v327) a + S1x1x128.size a ≤ S100000x1x128.size a := fun v327 k0_hw134 => k0_hw134

def k0_off260 (v159 : BitVec 32) (k0_t9 : Fin (k0_t9_loop v159).trips) : Fin 2 → Nat :=
  let c4_161 : Index := 4#32
  let c0_i32_84 : BitVec 32 := 0#32
  let c1_i32_86 : BitVec 32 := 1#32
  let arg9 : BitVec 32 := Scf.iv c0_i32_84 c1_i32_86 k0_t9
  let c16_i32_154 : BitVec 32 := 16#32
  let v324 : BitVec 32 := Scalar.muli arg9 c16_i32_154
  let c1_i32_160 : BitVec 32 := 1#32
  let v337 : BitVec 32 := Scalar.addi v324 c1_i32_160
  let v338 : Index := Scalar.indexCast v337
  ![4, v338.toNat]
def k0_off261 (v339 : BitVec 32) : Fin 3 → Nat :=
  let v340 : Index := Scalar.indexCast v339
  let c0_162 : Index := 0#32
  let c0_163 : Index := 0#32
  ![v340.toNat, 0, 0]

def k0_chk135 (v339 : BitVec 32) : Prop :=
  (∀ a, (k0_off261 v339) a + S1x1x128.size a ≤ S100000x1x128.size a)
theorem k0_off261_inb : ∀ (v339 : BitVec 32) (k0_hw135 : k0_chk135 v339), ∀ a, (k0_off261 v339) a + S1x1x128.size a ≤ S100000x1x128.size a := fun v339 k0_hw135 => k0_hw135

def k0_off262 (v159 : BitVec 32) (k0_t9 : Fin (k0_t9_loop v159).trips) : Fin 2 → Nat :=
  let c4_165 : Index := 4#32
  let c0_i32_84 : BitVec 32 := 0#32
  let c1_i32_86 : BitVec 32 := 1#32
  let arg9 : BitVec 32 := Scf.iv c0_i32_84 c1_i32_86 k0_t9
  let c16_i32_154 : BitVec 32 := 16#32
  let v324 : BitVec 32 := Scalar.muli arg9 c16_i32_154
  let c2_i32 : BitVec 32 := 2#32
  let v349 : BitVec 32 := Scalar.addi v324 c2_i32
  let v350 : Index := Scalar.indexCast v349
  ![4, v350.toNat]
def k0_off263 (v351 : BitVec 32) : Fin 3 → Nat :=
  let v352 : Index := Scalar.indexCast v351
  let c0_166 : Index := 0#32
  let c0_167 : Index := 0#32
  ![v352.toNat, 0, 0]

def k0_chk136 (v351 : BitVec 32) : Prop :=
  (∀ a, (k0_off263 v351) a + S1x1x128.size a ≤ S100000x1x128.size a)
theorem k0_off263_inb : ∀ (v351 : BitVec 32) (k0_hw136 : k0_chk136 v351), ∀ a, (k0_off263 v351) a + S1x1x128.size a ≤ S100000x1x128.size a := fun v351 k0_hw136 => k0_hw136

def k0_off264 (v159 : BitVec 32) (k0_t9 : Fin (k0_t9_loop v159).trips) : Fin 2 → Nat :=
  let c4_169 : Index := 4#32
  let c0_i32_84 : BitVec 32 := 0#32
  let c1_i32_86 : BitVec 32 := 1#32
  let arg9 : BitVec 32 := Scf.iv c0_i32_84 c1_i32_86 k0_t9
  let c16_i32_154 : BitVec 32 := 16#32
  let v324 : BitVec 32 := Scalar.muli arg9 c16_i32_154
  let c3_i32 : BitVec 32 := 3#32
  let v361 : BitVec 32 := Scalar.addi v324 c3_i32
  let v362 : Index := Scalar.indexCast v361
  ![4, v362.toNat]
def k0_off265 (v363 : BitVec 32) : Fin 3 → Nat :=
  let v364 : Index := Scalar.indexCast v363
  let c0_170 : Index := 0#32
  let c0_171 : Index := 0#32
  ![v364.toNat, 0, 0]

def k0_chk137 (v363 : BitVec 32) : Prop :=
  (∀ a, (k0_off265 v363) a + S1x1x128.size a ≤ S100000x1x128.size a)
theorem k0_off265_inb : ∀ (v363 : BitVec 32) (k0_hw137 : k0_chk137 v363), ∀ a, (k0_off265 v363) a + S1x1x128.size a ≤ S100000x1x128.size a := fun v363 k0_hw137 => k0_hw137

def k0_off266 (v159 : BitVec 32) (k0_t9 : Fin (k0_t9_loop v159).trips) : Fin 2 → Nat :=
  let c4_173 : Index := 4#32
  let c0_i32_84 : BitVec 32 := 0#32
  let c1_i32_86 : BitVec 32 := 1#32
  let arg9 : BitVec 32 := Scf.iv c0_i32_84 c1_i32_86 k0_t9
  let c16_i32_154 : BitVec 32 := 16#32
  let v324 : BitVec 32 := Scalar.muli arg9 c16_i32_154
  let c4_i32 : BitVec 32 := 4#32
  let v373 : BitVec 32 := Scalar.addi v324 c4_i32
  let v374 : Index := Scalar.indexCast v373
  ![4, v374.toNat]
def k0_off267 (v375 : BitVec 32) : Fin 3 → Nat :=
  let v376 : Index := Scalar.indexCast v375
  let c0_174 : Index := 0#32
  let c0_175 : Index := 0#32
  ![v376.toNat, 0, 0]

def k0_chk138 (v375 : BitVec 32) : Prop :=
  (∀ a, (k0_off267 v375) a + S1x1x128.size a ≤ S100000x1x128.size a)
theorem k0_off267_inb : ∀ (v375 : BitVec 32) (k0_hw138 : k0_chk138 v375), ∀ a, (k0_off267 v375) a + S1x1x128.size a ≤ S100000x1x128.size a := fun v375 k0_hw138 => k0_hw138

def k0_off268 (v159 : BitVec 32) (k0_t9 : Fin (k0_t9_loop v159).trips) : Fin 2 → Nat :=
  let c4_177 : Index := 4#32
  let c0_i32_84 : BitVec 32 := 0#32
  let c1_i32_86 : BitVec 32 := 1#32
  let arg9 : BitVec 32 := Scf.iv c0_i32_84 c1_i32_86 k0_t9
  let c16_i32_154 : BitVec 32 := 16#32
  let v324 : BitVec 32 := Scalar.muli arg9 c16_i32_154
  let c5_i32 : BitVec 32 := 5#32
  let v387 : BitVec 32 := Scalar.addi v324 c5_i32
  let v388 : Index := Scalar.indexCast v387
  ![4, v388.toNat]
def k0_off269 (v389 : BitVec 32) : Fin 3 → Nat :=
  let v390 : Index := Scalar.indexCast v389
  let c0_178 : Index := 0#32
  let c0_179 : Index := 0#32
  ![v390.toNat, 0, 0]

def k0_chk139 (v389 : BitVec 32) : Prop :=
  (∀ a, (k0_off269 v389) a + S1x1x128.size a ≤ S100000x1x128.size a)
theorem k0_off269_inb : ∀ (v389 : BitVec 32) (k0_hw139 : k0_chk139 v389), ∀ a, (k0_off269 v389) a + S1x1x128.size a ≤ S100000x1x128.size a := fun v389 k0_hw139 => k0_hw139

def k0_off270 (v159 : BitVec 32) (k0_t9 : Fin (k0_t9_loop v159).trips) : Fin 2 → Nat :=
  let c4_181 : Index := 4#32
  let c0_i32_84 : BitVec 32 := 0#32
  let c1_i32_86 : BitVec 32 := 1#32
  let arg9 : BitVec 32 := Scf.iv c0_i32_84 c1_i32_86 k0_t9
  let c16_i32_154 : BitVec 32 := 16#32
  let v324 : BitVec 32 := Scalar.muli arg9 c16_i32_154
  let c6_i32 : BitVec 32 := 6#32
  let v401 : BitVec 32 := Scalar.addi v324 c6_i32
  let v402 : Index := Scalar.indexCast v401
  ![4, v402.toNat]
def k0_off271 (v403 : BitVec 32) : Fin 3 → Nat :=
  let v404 : Index := Scalar.indexCast v403
  let c0_182 : Index := 0#32
  let c0_183 : Index := 0#32
  ![v404.toNat, 0, 0]

def k0_chk140 (v403 : BitVec 32) : Prop :=
  (∀ a, (k0_off271 v403) a + S1x1x128.size a ≤ S100000x1x128.size a)
theorem k0_off271_inb : ∀ (v403 : BitVec 32) (k0_hw140 : k0_chk140 v403), ∀ a, (k0_off271 v403) a + S1x1x128.size a ≤ S100000x1x128.size a := fun v403 k0_hw140 => k0_hw140

def k0_off272 (v159 : BitVec 32) (k0_t9 : Fin (k0_t9_loop v159).trips) : Fin 2 → Nat :=
  let c4_185 : Index := 4#32
  let c0_i32_84 : BitVec 32 := 0#32
  let c1_i32_86 : BitVec 32 := 1#32
  let arg9 : BitVec 32 := Scf.iv c0_i32_84 c1_i32_86 k0_t9
  let c16_i32_154 : BitVec 32 := 16#32
  let v324 : BitVec 32 := Scalar.muli arg9 c16_i32_154
  let c7_i32 : BitVec 32 := 7#32
  let v415 : BitVec 32 := Scalar.addi v324 c7_i32
  let v416 : Index := Scalar.indexCast v415
  ![4, v416.toNat]
def k0_off273 (v417 : BitVec 32) : Fin 3 → Nat :=
  let v418 : Index := Scalar.indexCast v417
  let c0_186 : Index := 0#32
  let c0_187 : Index := 0#32
  ![v418.toNat, 0, 0]

def k0_chk141 (v417 : BitVec 32) : Prop :=
  (∀ a, (k0_off273 v417) a + S1x1x128.size a ≤ S100000x1x128.size a)
theorem k0_off273_inb : ∀ (v417 : BitVec 32) (k0_hw141 : k0_chk141 v417), ∀ a, (k0_off273 v417) a + S1x1x128.size a ≤ S100000x1x128.size a := fun v417 k0_hw141 => k0_hw141

def k0_off274 (v159 : BitVec 32) (k0_t9 : Fin (k0_t9_loop v159).trips) : Fin 2 → Nat :=
  let c4_189 : Index := 4#32
  let c0_i32_84 : BitVec 32 := 0#32
  let c1_i32_86 : BitVec 32 := 1#32
  let arg9 : BitVec 32 := Scf.iv c0_i32_84 c1_i32_86 k0_t9
  let c16_i32_154 : BitVec 32 := 16#32
  let v324 : BitVec 32 := Scalar.muli arg9 c16_i32_154
  let c8_i32 : BitVec 32 := 8#32
  let v429 : BitVec 32 := Scalar.addi v324 c8_i32
  let v430 : Index := Scalar.indexCast v429
  ![4, v430.toNat]
def k0_off275 (v431 : BitVec 32) : Fin 3 → Nat :=
  let v432 : Index := Scalar.indexCast v431
  let c0_190 : Index := 0#32
  let c0_191 : Index := 0#32
  ![v432.toNat, 0, 0]

def k0_chk142 (v431 : BitVec 32) : Prop :=
  (∀ a, (k0_off275 v431) a + S1x1x128.size a ≤ S100000x1x128.size a)
theorem k0_off275_inb : ∀ (v431 : BitVec 32) (k0_hw142 : k0_chk142 v431), ∀ a, (k0_off275 v431) a + S1x1x128.size a ≤ S100000x1x128.size a := fun v431 k0_hw142 => k0_hw142

def k0_off276 (v159 : BitVec 32) (k0_t9 : Fin (k0_t9_loop v159).trips) : Fin 2 → Nat :=
  let c4_193 : Index := 4#32
  let c0_i32_84 : BitVec 32 := 0#32
  let c1_i32_86 : BitVec 32 := 1#32
  let arg9 : BitVec 32 := Scf.iv c0_i32_84 c1_i32_86 k0_t9
  let c16_i32_154 : BitVec 32 := 16#32
  let v324 : BitVec 32 := Scalar.muli arg9 c16_i32_154
  let c9_i32 : BitVec 32 := 9#32
  let v443 : BitVec 32 := Scalar.addi v324 c9_i32
  let v444 : Index := Scalar.indexCast v443
  ![4, v444.toNat]
def k0_off277 (v445 : BitVec 32) : Fin 3 → Nat :=
  let v446 : Index := Scalar.indexCast v445
  let c0_194 : Index := 0#32
  let c0_195 : Index := 0#32
  ![v446.toNat, 0, 0]

def k0_chk143 (v445 : BitVec 32) : Prop :=
  (∀ a, (k0_off277 v445) a + S1x1x128.size a ≤ S100000x1x128.size a)
theorem k0_off277_inb : ∀ (v445 : BitVec 32) (k0_hw143 : k0_chk143 v445), ∀ a, (k0_off277 v445) a + S1x1x128.size a ≤ S100000x1x128.size a := fun v445 k0_hw143 => k0_hw143

def k0_off278 (v159 : BitVec 32) (k0_t9 : Fin (k0_t9_loop v159).trips) : Fin 2 → Nat :=
  let c4_197 : Index := 4#32
  let c0_i32_84 : BitVec 32 := 0#32
  let c1_i32_86 : BitVec 32 := 1#32
  let arg9 : BitVec 32 := Scf.iv c0_i32_84 c1_i32_86 k0_t9
  let c16_i32_154 : BitVec 32 := 16#32
  let v324 : BitVec 32 := Scalar.muli arg9 c16_i32_154
  let c10_i32 : BitVec 32 := 10#32
  let v457 : BitVec 32 := Scalar.addi v324 c10_i32
  let v458 : Index := Scalar.indexCast v457
  ![4, v458.toNat]
def k0_off279 (v459 : BitVec 32) : Fin 3 → Nat :=
  let v460 : Index := Scalar.indexCast v459
  let c0_198 : Index := 0#32
  let c0_199 : Index := 0#32
  ![v460.toNat, 0, 0]

def k0_chk144 (v459 : BitVec 32) : Prop :=
  (∀ a, (k0_off279 v459) a + S1x1x128.size a ≤ S100000x1x128.size a)
theorem k0_off279_inb : ∀ (v459 : BitVec 32) (k0_hw144 : k0_chk144 v459), ∀ a, (k0_off279 v459) a + S1x1x128.size a ≤ S100000x1x128.size a := fun v459 k0_hw144 => k0_hw144

def k0_off280 (v159 : BitVec 32) (k0_t9 : Fin (k0_t9_loop v159).trips) : Fin 2 → Nat :=
  let c4_201 : Index := 4#32
  let c0_i32_84 : BitVec 32 := 0#32
  let c1_i32_86 : BitVec 32 := 1#32
  let arg9 : BitVec 32 := Scf.iv c0_i32_84 c1_i32_86 k0_t9
  let c16_i32_154 : BitVec 32 := 16#32
  let v324 : BitVec 32 := Scalar.muli arg9 c16_i32_154
  let c11_i32 : BitVec 32 := 11#32
  let v471 : BitVec 32 := Scalar.addi v324 c11_i32
  let v472 : Index := Scalar.indexCast v471
  ![4, v472.toNat]
def k0_off281 (v473 : BitVec 32) : Fin 3 → Nat :=
  let v474 : Index := Scalar.indexCast v473
  let c0_202 : Index := 0#32
  let c0_203 : Index := 0#32
  ![v474.toNat, 0, 0]

def k0_chk145 (v473 : BitVec 32) : Prop :=
  (∀ a, (k0_off281 v473) a + S1x1x128.size a ≤ S100000x1x128.size a)
theorem k0_off281_inb : ∀ (v473 : BitVec 32) (k0_hw145 : k0_chk145 v473), ∀ a, (k0_off281 v473) a + S1x1x128.size a ≤ S100000x1x128.size a := fun v473 k0_hw145 => k0_hw145

def k0_off282 (v159 : BitVec 32) (k0_t9 : Fin (k0_t9_loop v159).trips) : Fin 2 → Nat :=
  let c4_205 : Index := 4#32
  let c0_i32_84 : BitVec 32 := 0#32
  let c1_i32_86 : BitVec 32 := 1#32
  let arg9 : BitVec 32 := Scf.iv c0_i32_84 c1_i32_86 k0_t9
  let c16_i32_154 : BitVec 32 := 16#32
  let v324 : BitVec 32 := Scalar.muli arg9 c16_i32_154
  let c12_i32 : BitVec 32 := 12#32
  let v485 : BitVec 32 := Scalar.addi v324 c12_i32
  let v486 : Index := Scalar.indexCast v485
  ![4, v486.toNat]
def k0_off283 (v487 : BitVec 32) : Fin 3 → Nat :=
  let v488 : Index := Scalar.indexCast v487
  let c0_206 : Index := 0#32
  let c0_207 : Index := 0#32
  ![v488.toNat, 0, 0]

def k0_chk146 (v487 : BitVec 32) : Prop :=
  (∀ a, (k0_off283 v487) a + S1x1x128.size a ≤ S100000x1x128.size a)
theorem k0_off283_inb : ∀ (v487 : BitVec 32) (k0_hw146 : k0_chk146 v487), ∀ a, (k0_off283 v487) a + S1x1x128.size a ≤ S100000x1x128.size a := fun v487 k0_hw146 => k0_hw146

def k0_off284 (v159 : BitVec 32) (k0_t9 : Fin (k0_t9_loop v159).trips) : Fin 2 → Nat :=
  let c4_209 : Index := 4#32
  let c0_i32_84 : BitVec 32 := 0#32
  let c1_i32_86 : BitVec 32 := 1#32
  let arg9 : BitVec 32 := Scf.iv c0_i32_84 c1_i32_86 k0_t9
  let c16_i32_154 : BitVec 32 := 16#32
  let v324 : BitVec 32 := Scalar.muli arg9 c16_i32_154
  let c13_i32 : BitVec 32 := 13#32
  let v499 : BitVec 32 := Scalar.addi v324 c13_i32
  let v500 : Index := Scalar.indexCast v499
  ![4, v500.toNat]
def k0_off285 (v501 : BitVec 32) : Fin 3 → Nat :=
  let v502 : Index := Scalar.indexCast v501
  let c0_210 : Index := 0#32
  let c0_211 : Index := 0#32
  ![v502.toNat, 0, 0]

def k0_chk147 (v501 : BitVec 32) : Prop :=
  (∀ a, (k0_off285 v501) a + S1x1x128.size a ≤ S100000x1x128.size a)
theorem k0_off285_inb : ∀ (v501 : BitVec 32) (k0_hw147 : k0_chk147 v501), ∀ a, (k0_off285 v501) a + S1x1x128.size a ≤ S100000x1x128.size a := fun v501 k0_hw147 => k0_hw147

def k0_off286 (v159 : BitVec 32) (k0_t9 : Fin (k0_t9_loop v159).trips) : Fin 2 → Nat :=
  let c4_213 : Index := 4#32
  let c0_i32_84 : BitVec 32 := 0#32
  let c1_i32_86 : BitVec 32 := 1#32
  let arg9 : BitVec 32 := Scf.iv c0_i32_84 c1_i32_86 k0_t9
  let c16_i32_154 : BitVec 32 := 16#32
  let v324 : BitVec 32 := Scalar.muli arg9 c16_i32_154
  let c14_i32 : BitVec 32 := 14#32
  let v513 : BitVec 32 := Scalar.addi v324 c14_i32
  let v514 : Index := Scalar.indexCast v513
  ![4, v514.toNat]
def k0_off287 (v515 : BitVec 32) : Fin 3 → Nat :=
  let v516 : Index := Scalar.indexCast v515
  let c0_214 : Index := 0#32
  let c0_215 : Index := 0#32
  ![v516.toNat, 0, 0]

def k0_chk148 (v515 : BitVec 32) : Prop :=
  (∀ a, (k0_off287 v515) a + S1x1x128.size a ≤ S100000x1x128.size a)
theorem k0_off287_inb : ∀ (v515 : BitVec 32) (k0_hw148 : k0_chk148 v515), ∀ a, (k0_off287 v515) a + S1x1x128.size a ≤ S100000x1x128.size a := fun v515 k0_hw148 => k0_hw148

def k0_off288 (v159 : BitVec 32) (k0_t9 : Fin (k0_t9_loop v159).trips) : Fin 2 → Nat :=
  let c4_218 : Index := 4#32
  let c0_i32_84 : BitVec 32 := 0#32
  let c1_i32_86 : BitVec 32 := 1#32
  let arg9 : BitVec 32 := Scf.iv c0_i32_84 c1_i32_86 k0_t9
  let c16_i32_154 : BitVec 32 := 16#32
  let v324 : BitVec 32 := Scalar.muli arg9 c16_i32_154
  let c15_i32_217 : BitVec 32 := 15#32
  let v527 : BitVec 32 := Scalar.addi v324 c15_i32_217
  let v528 : Index := Scalar.indexCast v527
  ![4, v528.toNat]
def k0_off289 (v529 : BitVec 32) : Fin 3 → Nat :=
  let v530 : Index := Scalar.indexCast v529
  let c0_219 : Index := 0#32
  let c0_220 : Index := 0#32
  ![v530.toNat, 0, 0]

def k0_chk149 (v529 : BitVec 32) : Prop :=
  (∀ a, (k0_off289 v529) a + S1x1x128.size a ≤ S100000x1x128.size a)
theorem k0_off289_inb : ∀ (v529 : BitVec 32) (k0_hw149 : k0_chk149 v529), ∀ a, (k0_off289 v529) a + S1x1x128.size a ≤ S100000x1x128.size a := fun v529 k0_hw149 => k0_hw149

@[reducible] def k0_t10_loop (v159 : BitVec 32) : Scf.Loop 32 :=
  let c0_i32_84 : BitVec 32 := 0#32
  let c15_i32_74 : BitVec 32 := 15#32
  let v160 : BitVec 32 := Scalar.addi v159 c15_i32_74
  let c0_i32_76 : BitVec 32 := 0#32
  let v162 : BitVec 1 := Scalar.cmpi .sgt v160 c0_i32_76
  let v163 : BitVec 32 := Scalar.extui v162
  let c0_i32_77 : BitVec 32 := 0#32
  let v164 : BitVec 1 := Scalar.cmpi .slt v160 c0_i32_77
  let v165 : BitVec 32 := Scalar.extui v164
  let v166 : BitVec 32 := Scalar.subi v163 v165
  let c16_i32_75 : BitVec 32 := 16#32
  let c0_i32_78 : BitVec 32 := 0#32
  let v167 : BitVec 1 := Scalar.cmpi .sgt c16_i32_75 c0_i32_78
  let v168 : BitVec 32 := Scalar.extui v167
  let c0_i32_79 : BitVec 32 := 0#32
  let v169 : BitVec 1 := Scalar.cmpi .slt c16_i32_75 c0_i32_79
  let v170 : BitVec 32 := Scalar.extui v169
  let v171 : BitVec 32 := Scalar.subi v168 v170
  let v172 : BitVec 1 := Scalar.cmpi .ne v166 v171
  let v173 : BitVec 32 := Scalar.remsi v160 c16_i32_75
  let c0_i32_80 : BitVec 32 := 0#32
  let v174 : BitVec 1 := Scalar.cmpi .ne v173 c0_i32_80
  let v175 : BitVec 1 := Scalar.andi v172 v174
  let v161 : BitVec 32 := Scalar.divsi v160 c16_i32_75
  let c1_i32_81 : BitVec 32 := 1#32
  let v176 : BitVec 32 := Scalar.subi v161 c1_i32_81
  let v177 : BitVec 32 := Scalar.select v175 v176 v161
  let v179 : BitVec 32 := Scalar.subi v177 c0_i32_84
  let c1_i32_85 : BitVec 32 := 1#32
  let v181 : BitVec 32 := Scalar.divsi v179 c1_i32_85
  let v182 : BitVec 32 := Scalar.muli v181 c1_i32_85
  let v183 : BitVec 32 := Scalar.addi c0_i32_84 v182
  let v180 : BitVec 32 := Scalar.addi c0_i32_84 v179
  let c1_i32_87 : BitVec 32 := 1#32
  ⟨v183, v180, c1_i32_87⟩
def k0_off290 (v159 : BitVec 32) (k0_t10 : Fin (k0_t10_loop v159).trips) : Fin 2 → Nat :=
  let c4_156 : Index := 4#32
  let c0_i32_84 : BitVec 32 := 0#32
  let c15_i32_74 : BitVec 32 := 15#32
  let v160 : BitVec 32 := Scalar.addi v159 c15_i32_74
  let c0_i32_76 : BitVec 32 := 0#32
  let v162 : BitVec 1 := Scalar.cmpi .sgt v160 c0_i32_76
  let v163 : BitVec 32 := Scalar.extui v162
  let c0_i32_77 : BitVec 32 := 0#32
  let v164 : BitVec 1 := Scalar.cmpi .slt v160 c0_i32_77
  let v165 : BitVec 32 := Scalar.extui v164
  let v166 : BitVec 32 := Scalar.subi v163 v165
  let c16_i32_75 : BitVec 32 := 16#32
  let c0_i32_78 : BitVec 32 := 0#32
  let v167 : BitVec 1 := Scalar.cmpi .sgt c16_i32_75 c0_i32_78
  let v168 : BitVec 32 := Scalar.extui v167
  let c0_i32_79 : BitVec 32 := 0#32
  let v169 : BitVec 1 := Scalar.cmpi .slt c16_i32_75 c0_i32_79
  let v170 : BitVec 32 := Scalar.extui v169
  let v171 : BitVec 32 := Scalar.subi v168 v170
  let v172 : BitVec 1 := Scalar.cmpi .ne v166 v171
  let v173 : BitVec 32 := Scalar.remsi v160 c16_i32_75
  let c0_i32_80 : BitVec 32 := 0#32
  let v174 : BitVec 1 := Scalar.cmpi .ne v173 c0_i32_80
  let v175 : BitVec 1 := Scalar.andi v172 v174
  let v161 : BitVec 32 := Scalar.divsi v160 c16_i32_75
  let c1_i32_81 : BitVec 32 := 1#32
  let v176 : BitVec 32 := Scalar.subi v161 c1_i32_81
  let v177 : BitVec 32 := Scalar.select v175 v176 v161
  let v179 : BitVec 32 := Scalar.subi v177 c0_i32_84
  let c1_i32_85 : BitVec 32 := 1#32
  let v181 : BitVec 32 := Scalar.divsi v179 c1_i32_85
  let v182 : BitVec 32 := Scalar.muli v181 c1_i32_85
  let v183 : BitVec 32 := Scalar.addi c0_i32_84 v182
  let c1_i32_87 : BitVec 32 := 1#32
  let arg9 : BitVec 32 := Scf.iv v183 c1_i32_87 k0_t10
  let c16_i32_154 : BitVec 32 := 16#32
  let v324 : BitVec 32 := Scalar.muli arg9 c16_i32_154
  let c0_i32_155 : BitVec 32 := 0#32
  let v325 : BitVec 32 := Scalar.addi v324 c0_i32_155
  let v326 : Index := Scalar.indexCast v325
  ![4, v326.toNat]
def k0_off291 (v327 : BitVec 32) : Fin 3 → Nat :=
  let v328 : Index := Scalar.indexCast v327
  let c0_157 : Index := 0#32
  let c0_158 : Index := 0#32
  ![v328.toNat, 0, 0]

def k0_chk150 (v327 : BitVec 32) : Prop :=
  (∀ a, (k0_off291 v327) a + S1x1x128.size a ≤ S100000x1x128.size a)
theorem k0_off291_inb : ∀ (v327 : BitVec 32) (k0_hw150 : k0_chk150 v327), ∀ a, (k0_off291 v327) a + S1x1x128.size a ≤ S100000x1x128.size a := fun v327 k0_hw150 => k0_hw150

def k0_off292 (v159 : BitVec 32) (k0_t10 : Fin (k0_t10_loop v159).trips) : Fin 2 → Nat :=
  let c4_161 : Index := 4#32
  let c0_i32_84 : BitVec 32 := 0#32
  let c15_i32_74 : BitVec 32 := 15#32
  let v160 : BitVec 32 := Scalar.addi v159 c15_i32_74
  let c0_i32_76 : BitVec 32 := 0#32
  let v162 : BitVec 1 := Scalar.cmpi .sgt v160 c0_i32_76
  let v163 : BitVec 32 := Scalar.extui v162
  let c0_i32_77 : BitVec 32 := 0#32
  let v164 : BitVec 1 := Scalar.cmpi .slt v160 c0_i32_77
  let v165 : BitVec 32 := Scalar.extui v164
  let v166 : BitVec 32 := Scalar.subi v163 v165
  let c16_i32_75 : BitVec 32 := 16#32
  let c0_i32_78 : BitVec 32 := 0#32
  let v167 : BitVec 1 := Scalar.cmpi .sgt c16_i32_75 c0_i32_78
  let v168 : BitVec 32 := Scalar.extui v167
  let c0_i32_79 : BitVec 32 := 0#32
  let v169 : BitVec 1 := Scalar.cmpi .slt c16_i32_75 c0_i32_79
  let v170 : BitVec 32 := Scalar.extui v169
  let v171 : BitVec 32 := Scalar.subi v168 v170
  let v172 : BitVec 1 := Scalar.cmpi .ne v166 v171
  let v173 : BitVec 32 := Scalar.remsi v160 c16_i32_75
  let c0_i32_80 : BitVec 32 := 0#32
  let v174 : BitVec 1 := Scalar.cmpi .ne v173 c0_i32_80
  let v175 : BitVec 1 := Scalar.andi v172 v174
  let v161 : BitVec 32 := Scalar.divsi v160 c16_i32_75
  let c1_i32_81 : BitVec 32 := 1#32
  let v176 : BitVec 32 := Scalar.subi v161 c1_i32_81
  let v177 : BitVec 32 := Scalar.select v175 v176 v161
  let v179 : BitVec 32 := Scalar.subi v177 c0_i32_84
  let c1_i32_85 : BitVec 32 := 1#32
  let v181 : BitVec 32 := Scalar.divsi v179 c1_i32_85
  let v182 : BitVec 32 := Scalar.muli v181 c1_i32_85
  let v183 : BitVec 32 := Scalar.addi c0_i32_84 v182
  let c1_i32_87 : BitVec 32 := 1#32
  let arg9 : BitVec 32 := Scf.iv v183 c1_i32_87 k0_t10
  let c16_i32_154 : BitVec 32 := 16#32
  let v324 : BitVec 32 := Scalar.muli arg9 c16_i32_154
  let c1_i32_160 : BitVec 32 := 1#32
  let v337 : BitVec 32 := Scalar.addi v324 c1_i32_160
  let v338 : Index := Scalar.indexCast v337
  ![4, v338.toNat]
def k0_off293 (v339 : BitVec 32) : Fin 3 → Nat :=
  let v340 : Index := Scalar.indexCast v339
  let c0_162 : Index := 0#32
  let c0_163 : Index := 0#32
  ![v340.toNat, 0, 0]

def k0_chk151 (v339 : BitVec 32) : Prop :=
  (∀ a, (k0_off293 v339) a + S1x1x128.size a ≤ S100000x1x128.size a)
theorem k0_off293_inb : ∀ (v339 : BitVec 32) (k0_hw151 : k0_chk151 v339), ∀ a, (k0_off293 v339) a + S1x1x128.size a ≤ S100000x1x128.size a := fun v339 k0_hw151 => k0_hw151

def k0_off294 (v159 : BitVec 32) (k0_t10 : Fin (k0_t10_loop v159).trips) : Fin 2 → Nat :=
  let c4_165 : Index := 4#32
  let c0_i32_84 : BitVec 32 := 0#32
  let c15_i32_74 : BitVec 32 := 15#32
  let v160 : BitVec 32 := Scalar.addi v159 c15_i32_74
  let c0_i32_76 : BitVec 32 := 0#32
  let v162 : BitVec 1 := Scalar.cmpi .sgt v160 c0_i32_76
  let v163 : BitVec 32 := Scalar.extui v162
  let c0_i32_77 : BitVec 32 := 0#32
  let v164 : BitVec 1 := Scalar.cmpi .slt v160 c0_i32_77
  let v165 : BitVec 32 := Scalar.extui v164
  let v166 : BitVec 32 := Scalar.subi v163 v165
  let c16_i32_75 : BitVec 32 := 16#32
  let c0_i32_78 : BitVec 32 := 0#32
  let v167 : BitVec 1 := Scalar.cmpi .sgt c16_i32_75 c0_i32_78
  let v168 : BitVec 32 := Scalar.extui v167
  let c0_i32_79 : BitVec 32 := 0#32
  let v169 : BitVec 1 := Scalar.cmpi .slt c16_i32_75 c0_i32_79
  let v170 : BitVec 32 := Scalar.extui v169
  let v171 : BitVec 32 := Scalar.subi v168 v170
  let v172 : BitVec 1 := Scalar.cmpi .ne v166 v171
  let v173 : BitVec 32 := Scalar.remsi v160 c16_i32_75
  let c0_i32_80 : BitVec 32 := 0#32
  let v174 : BitVec 1 := Scalar.cmpi .ne v173 c0_i32_80
  let v175 : BitVec 1 := Scalar.andi v172 v174
  let v161 : BitVec 32 := Scalar.divsi v160 c16_i32_75
  let c1_i32_81 : BitVec 32 := 1#32
  let v176 : BitVec 32 := Scalar.subi v161 c1_i32_81
  let v177 : BitVec 32 := Scalar.select v175 v176 v161
  let v179 : BitVec 32 := Scalar.subi v177 c0_i32_84
  let c1_i32_85 : BitVec 32 := 1#32
  let v181 : BitVec 32 := Scalar.divsi v179 c1_i32_85
  let v182 : BitVec 32 := Scalar.muli v181 c1_i32_85
  let v183 : BitVec 32 := Scalar.addi c0_i32_84 v182
  let c1_i32_87 : BitVec 32 := 1#32
  let arg9 : BitVec 32 := Scf.iv v183 c1_i32_87 k0_t10
  let c16_i32_154 : BitVec 32 := 16#32
  let v324 : BitVec 32 := Scalar.muli arg9 c16_i32_154
  let c2_i32 : BitVec 32 := 2#32
  let v349 : BitVec 32 := Scalar.addi v324 c2_i32
  let v350 : Index := Scalar.indexCast v349
  ![4, v350.toNat]
def k0_off295 (v351 : BitVec 32) : Fin 3 → Nat :=
  let v352 : Index := Scalar.indexCast v351
  let c0_166 : Index := 0#32
  let c0_167 : Index := 0#32
  ![v352.toNat, 0, 0]

def k0_chk152 (v351 : BitVec 32) : Prop :=
  (∀ a, (k0_off295 v351) a + S1x1x128.size a ≤ S100000x1x128.size a)
theorem k0_off295_inb : ∀ (v351 : BitVec 32) (k0_hw152 : k0_chk152 v351), ∀ a, (k0_off295 v351) a + S1x1x128.size a ≤ S100000x1x128.size a := fun v351 k0_hw152 => k0_hw152

def k0_off296 (v159 : BitVec 32) (k0_t10 : Fin (k0_t10_loop v159).trips) : Fin 2 → Nat :=
  let c4_169 : Index := 4#32
  let c0_i32_84 : BitVec 32 := 0#32
  let c15_i32_74 : BitVec 32 := 15#32
  let v160 : BitVec 32 := Scalar.addi v159 c15_i32_74
  let c0_i32_76 : BitVec 32 := 0#32
  let v162 : BitVec 1 := Scalar.cmpi .sgt v160 c0_i32_76
  let v163 : BitVec 32 := Scalar.extui v162
  let c0_i32_77 : BitVec 32 := 0#32
  let v164 : BitVec 1 := Scalar.cmpi .slt v160 c0_i32_77
  let v165 : BitVec 32 := Scalar.extui v164
  let v166 : BitVec 32 := Scalar.subi v163 v165
  let c16_i32_75 : BitVec 32 := 16#32
  let c0_i32_78 : BitVec 32 := 0#32
  let v167 : BitVec 1 := Scalar.cmpi .sgt c16_i32_75 c0_i32_78
  let v168 : BitVec 32 := Scalar.extui v167
  let c0_i32_79 : BitVec 32 := 0#32
  let v169 : BitVec 1 := Scalar.cmpi .slt c16_i32_75 c0_i32_79
  let v170 : BitVec 32 := Scalar.extui v169
  let v171 : BitVec 32 := Scalar.subi v168 v170
  let v172 : BitVec 1 := Scalar.cmpi .ne v166 v171
  let v173 : BitVec 32 := Scalar.remsi v160 c16_i32_75
  let c0_i32_80 : BitVec 32 := 0#32
  let v174 : BitVec 1 := Scalar.cmpi .ne v173 c0_i32_80
  let v175 : BitVec 1 := Scalar.andi v172 v174
  let v161 : BitVec 32 := Scalar.divsi v160 c16_i32_75
  let c1_i32_81 : BitVec 32 := 1#32
  let v176 : BitVec 32 := Scalar.subi v161 c1_i32_81
  let v177 : BitVec 32 := Scalar.select v175 v176 v161
  let v179 : BitVec 32 := Scalar.subi v177 c0_i32_84
  let c1_i32_85 : BitVec 32 := 1#32
  let v181 : BitVec 32 := Scalar.divsi v179 c1_i32_85
  let v182 : BitVec 32 := Scalar.muli v181 c1_i32_85
  let v183 : BitVec 32 := Scalar.addi c0_i32_84 v182
  let c1_i32_87 : BitVec 32 := 1#32
  let arg9 : BitVec 32 := Scf.iv v183 c1_i32_87 k0_t10
  let c16_i32_154 : BitVec 32 := 16#32
  let v324 : BitVec 32 := Scalar.muli arg9 c16_i32_154
  let c3_i32 : BitVec 32 := 3#32
  let v361 : BitVec 32 := Scalar.addi v324 c3_i32
  let v362 : Index := Scalar.indexCast v361
  ![4, v362.toNat]
def k0_off297 (v363 : BitVec 32) : Fin 3 → Nat :=
  let v364 : Index := Scalar.indexCast v363
  let c0_170 : Index := 0#32
  let c0_171 : Index := 0#32
  ![v364.toNat, 0, 0]

def k0_chk153 (v363 : BitVec 32) : Prop :=
  (∀ a, (k0_off297 v363) a + S1x1x128.size a ≤ S100000x1x128.size a)
theorem k0_off297_inb : ∀ (v363 : BitVec 32) (k0_hw153 : k0_chk153 v363), ∀ a, (k0_off297 v363) a + S1x1x128.size a ≤ S100000x1x128.size a := fun v363 k0_hw153 => k0_hw153

def k0_off298 (v159 : BitVec 32) (k0_t10 : Fin (k0_t10_loop v159).trips) : Fin 2 → Nat :=
  let c4_173 : Index := 4#32
  let c0_i32_84 : BitVec 32 := 0#32
  let c15_i32_74 : BitVec 32 := 15#32
  let v160 : BitVec 32 := Scalar.addi v159 c15_i32_74
  let c0_i32_76 : BitVec 32 := 0#32
  let v162 : BitVec 1 := Scalar.cmpi .sgt v160 c0_i32_76
  let v163 : BitVec 32 := Scalar.extui v162
  let c0_i32_77 : BitVec 32 := 0#32
  let v164 : BitVec 1 := Scalar.cmpi .slt v160 c0_i32_77
  let v165 : BitVec 32 := Scalar.extui v164
  let v166 : BitVec 32 := Scalar.subi v163 v165
  let c16_i32_75 : BitVec 32 := 16#32
  let c0_i32_78 : BitVec 32 := 0#32
  let v167 : BitVec 1 := Scalar.cmpi .sgt c16_i32_75 c0_i32_78
  let v168 : BitVec 32 := Scalar.extui v167
  let c0_i32_79 : BitVec 32 := 0#32
  let v169 : BitVec 1 := Scalar.cmpi .slt c16_i32_75 c0_i32_79
  let v170 : BitVec 32 := Scalar.extui v169
  let v171 : BitVec 32 := Scalar.subi v168 v170
  let v172 : BitVec 1 := Scalar.cmpi .ne v166 v171
  let v173 : BitVec 32 := Scalar.remsi v160 c16_i32_75
  let c0_i32_80 : BitVec 32 := 0#32
  let v174 : BitVec 1 := Scalar.cmpi .ne v173 c0_i32_80
  let v175 : BitVec 1 := Scalar.andi v172 v174
  let v161 : BitVec 32 := Scalar.divsi v160 c16_i32_75
  let c1_i32_81 : BitVec 32 := 1#32
  let v176 : BitVec 32 := Scalar.subi v161 c1_i32_81
  let v177 : BitVec 32 := Scalar.select v175 v176 v161
  let v179 : BitVec 32 := Scalar.subi v177 c0_i32_84
  let c1_i32_85 : BitVec 32 := 1#32
  let v181 : BitVec 32 := Scalar.divsi v179 c1_i32_85
  let v182 : BitVec 32 := Scalar.muli v181 c1_i32_85
  let v183 : BitVec 32 := Scalar.addi c0_i32_84 v182
  let c1_i32_87 : BitVec 32 := 1#32
  let arg9 : BitVec 32 := Scf.iv v183 c1_i32_87 k0_t10
  let c16_i32_154 : BitVec 32 := 16#32
  let v324 : BitVec 32 := Scalar.muli arg9 c16_i32_154
  let c4_i32 : BitVec 32 := 4#32
  let v373 : BitVec 32 := Scalar.addi v324 c4_i32
  let v374 : Index := Scalar.indexCast v373
  ![4, v374.toNat]
def k0_off299 (v375 : BitVec 32) : Fin 3 → Nat :=
  let v376 : Index := Scalar.indexCast v375
  let c0_174 : Index := 0#32
  let c0_175 : Index := 0#32
  ![v376.toNat, 0, 0]

def k0_chk154 (v375 : BitVec 32) : Prop :=
  (∀ a, (k0_off299 v375) a + S1x1x128.size a ≤ S100000x1x128.size a)
theorem k0_off299_inb : ∀ (v375 : BitVec 32) (k0_hw154 : k0_chk154 v375), ∀ a, (k0_off299 v375) a + S1x1x128.size a ≤ S100000x1x128.size a := fun v375 k0_hw154 => k0_hw154

def k0_off300 (v159 : BitVec 32) (k0_t10 : Fin (k0_t10_loop v159).trips) : Fin 2 → Nat :=
  let c4_177 : Index := 4#32
  let c0_i32_84 : BitVec 32 := 0#32
  let c15_i32_74 : BitVec 32 := 15#32
  let v160 : BitVec 32 := Scalar.addi v159 c15_i32_74
  let c0_i32_76 : BitVec 32 := 0#32
  let v162 : BitVec 1 := Scalar.cmpi .sgt v160 c0_i32_76
  let v163 : BitVec 32 := Scalar.extui v162
  let c0_i32_77 : BitVec 32 := 0#32
  let v164 : BitVec 1 := Scalar.cmpi .slt v160 c0_i32_77
  let v165 : BitVec 32 := Scalar.extui v164
  let v166 : BitVec 32 := Scalar.subi v163 v165
  let c16_i32_75 : BitVec 32 := 16#32
  let c0_i32_78 : BitVec 32 := 0#32
  let v167 : BitVec 1 := Scalar.cmpi .sgt c16_i32_75 c0_i32_78
  let v168 : BitVec 32 := Scalar.extui v167
  let c0_i32_79 : BitVec 32 := 0#32
  let v169 : BitVec 1 := Scalar.cmpi .slt c16_i32_75 c0_i32_79
  let v170 : BitVec 32 := Scalar.extui v169
  let v171 : BitVec 32 := Scalar.subi v168 v170
  let v172 : BitVec 1 := Scalar.cmpi .ne v166 v171
  let v173 : BitVec 32 := Scalar.remsi v160 c16_i32_75
  let c0_i32_80 : BitVec 32 := 0#32
  let v174 : BitVec 1 := Scalar.cmpi .ne v173 c0_i32_80
  let v175 : BitVec 1 := Scalar.andi v172 v174
  let v161 : BitVec 32 := Scalar.divsi v160 c16_i32_75
  let c1_i32_81 : BitVec 32 := 1#32
  let v176 : BitVec 32 := Scalar.subi v161 c1_i32_81
  let v177 : BitVec 32 := Scalar.select v175 v176 v161
  let v179 : BitVec 32 := Scalar.subi v177 c0_i32_84
  let c1_i32_85 : BitVec 32 := 1#32
  let v181 : BitVec 32 := Scalar.divsi v179 c1_i32_85
  let v182 : BitVec 32 := Scalar.muli v181 c1_i32_85
  let v183 : BitVec 32 := Scalar.addi c0_i32_84 v182
  let c1_i32_87 : BitVec 32 := 1#32
  let arg9 : BitVec 32 := Scf.iv v183 c1_i32_87 k0_t10
  let c16_i32_154 : BitVec 32 := 16#32
  let v324 : BitVec 32 := Scalar.muli arg9 c16_i32_154
  let c5_i32 : BitVec 32 := 5#32
  let v387 : BitVec 32 := Scalar.addi v324 c5_i32
  let v388 : Index := Scalar.indexCast v387
  ![4, v388.toNat]
def k0_off301 (v389 : BitVec 32) : Fin 3 → Nat :=
  let v390 : Index := Scalar.indexCast v389
  let c0_178 : Index := 0#32
  let c0_179 : Index := 0#32
  ![v390.toNat, 0, 0]

def k0_chk155 (v389 : BitVec 32) : Prop :=
  (∀ a, (k0_off301 v389) a + S1x1x128.size a ≤ S100000x1x128.size a)
theorem k0_off301_inb : ∀ (v389 : BitVec 32) (k0_hw155 : k0_chk155 v389), ∀ a, (k0_off301 v389) a + S1x1x128.size a ≤ S100000x1x128.size a := fun v389 k0_hw155 => k0_hw155

def k0_off302 (v159 : BitVec 32) (k0_t10 : Fin (k0_t10_loop v159).trips) : Fin 2 → Nat :=
  let c4_181 : Index := 4#32
  let c0_i32_84 : BitVec 32 := 0#32
  let c15_i32_74 : BitVec 32 := 15#32
  let v160 : BitVec 32 := Scalar.addi v159 c15_i32_74
  let c0_i32_76 : BitVec 32 := 0#32
  let v162 : BitVec 1 := Scalar.cmpi .sgt v160 c0_i32_76
  let v163 : BitVec 32 := Scalar.extui v162
  let c0_i32_77 : BitVec 32 := 0#32
  let v164 : BitVec 1 := Scalar.cmpi .slt v160 c0_i32_77
  let v165 : BitVec 32 := Scalar.extui v164
  let v166 : BitVec 32 := Scalar.subi v163 v165
  let c16_i32_75 : BitVec 32 := 16#32
  let c0_i32_78 : BitVec 32 := 0#32
  let v167 : BitVec 1 := Scalar.cmpi .sgt c16_i32_75 c0_i32_78
  let v168 : BitVec 32 := Scalar.extui v167
  let c0_i32_79 : BitVec 32 := 0#32
  let v169 : BitVec 1 := Scalar.cmpi .slt c16_i32_75 c0_i32_79
  let v170 : BitVec 32 := Scalar.extui v169
  let v171 : BitVec 32 := Scalar.subi v168 v170
  let v172 : BitVec 1 := Scalar.cmpi .ne v166 v171
  let v173 : BitVec 32 := Scalar.remsi v160 c16_i32_75
  let c0_i32_80 : BitVec 32 := 0#32
  let v174 : BitVec 1 := Scalar.cmpi .ne v173 c0_i32_80
  let v175 : BitVec 1 := Scalar.andi v172 v174
  let v161 : BitVec 32 := Scalar.divsi v160 c16_i32_75
  let c1_i32_81 : BitVec 32 := 1#32
  let v176 : BitVec 32 := Scalar.subi v161 c1_i32_81
  let v177 : BitVec 32 := Scalar.select v175 v176 v161
  let v179 : BitVec 32 := Scalar.subi v177 c0_i32_84
  let c1_i32_85 : BitVec 32 := 1#32
  let v181 : BitVec 32 := Scalar.divsi v179 c1_i32_85
  let v182 : BitVec 32 := Scalar.muli v181 c1_i32_85
  let v183 : BitVec 32 := Scalar.addi c0_i32_84 v182
  let c1_i32_87 : BitVec 32 := 1#32
  let arg9 : BitVec 32 := Scf.iv v183 c1_i32_87 k0_t10
  let c16_i32_154 : BitVec 32 := 16#32
  let v324 : BitVec 32 := Scalar.muli arg9 c16_i32_154
  let c6_i32 : BitVec 32 := 6#32
  let v401 : BitVec 32 := Scalar.addi v324 c6_i32
  let v402 : Index := Scalar.indexCast v401
  ![4, v402.toNat]
def k0_off303 (v403 : BitVec 32) : Fin 3 → Nat :=
  let v404 : Index := Scalar.indexCast v403
  let c0_182 : Index := 0#32
  let c0_183 : Index := 0#32
  ![v404.toNat, 0, 0]

def k0_chk156 (v403 : BitVec 32) : Prop :=
  (∀ a, (k0_off303 v403) a + S1x1x128.size a ≤ S100000x1x128.size a)
theorem k0_off303_inb : ∀ (v403 : BitVec 32) (k0_hw156 : k0_chk156 v403), ∀ a, (k0_off303 v403) a + S1x1x128.size a ≤ S100000x1x128.size a := fun v403 k0_hw156 => k0_hw156

def k0_off304 (v159 : BitVec 32) (k0_t10 : Fin (k0_t10_loop v159).trips) : Fin 2 → Nat :=
  let c4_185 : Index := 4#32
  let c0_i32_84 : BitVec 32 := 0#32
  let c15_i32_74 : BitVec 32 := 15#32
  let v160 : BitVec 32 := Scalar.addi v159 c15_i32_74
  let c0_i32_76 : BitVec 32 := 0#32
  let v162 : BitVec 1 := Scalar.cmpi .sgt v160 c0_i32_76
  let v163 : BitVec 32 := Scalar.extui v162
  let c0_i32_77 : BitVec 32 := 0#32
  let v164 : BitVec 1 := Scalar.cmpi .slt v160 c0_i32_77
  let v165 : BitVec 32 := Scalar.extui v164
  let v166 : BitVec 32 := Scalar.subi v163 v165
  let c16_i32_75 : BitVec 32 := 16#32
  let c0_i32_78 : BitVec 32 := 0#32
  let v167 : BitVec 1 := Scalar.cmpi .sgt c16_i32_75 c0_i32_78
  let v168 : BitVec 32 := Scalar.extui v167
  let c0_i32_79 : BitVec 32 := 0#32
  let v169 : BitVec 1 := Scalar.cmpi .slt c16_i32_75 c0_i32_79
  let v170 : BitVec 32 := Scalar.extui v169
  let v171 : BitVec 32 := Scalar.subi v168 v170
  let v172 : BitVec 1 := Scalar.cmpi .ne v166 v171
  let v173 : BitVec 32 := Scalar.remsi v160 c16_i32_75
  let c0_i32_80 : BitVec 32 := 0#32
  let v174 : BitVec 1 := Scalar.cmpi .ne v173 c0_i32_80
  let v175 : BitVec 1 := Scalar.andi v172 v174
  let v161 : BitVec 32 := Scalar.divsi v160 c16_i32_75
  let c1_i32_81 : BitVec 32 := 1#32
  let v176 : BitVec 32 := Scalar.subi v161 c1_i32_81
  let v177 : BitVec 32 := Scalar.select v175 v176 v161
  let v179 : BitVec 32 := Scalar.subi v177 c0_i32_84
  let c1_i32_85 : BitVec 32 := 1#32
  let v181 : BitVec 32 := Scalar.divsi v179 c1_i32_85
  let v182 : BitVec 32 := Scalar.muli v181 c1_i32_85
  let v183 : BitVec 32 := Scalar.addi c0_i32_84 v182
  let c1_i32_87 : BitVec 32 := 1#32
  let arg9 : BitVec 32 := Scf.iv v183 c1_i32_87 k0_t10
  let c16_i32_154 : BitVec 32 := 16#32
  let v324 : BitVec 32 := Scalar.muli arg9 c16_i32_154
  let c7_i32 : BitVec 32 := 7#32
  let v415 : BitVec 32 := Scalar.addi v324 c7_i32
  let v416 : Index := Scalar.indexCast v415
  ![4, v416.toNat]
def k0_off305 (v417 : BitVec 32) : Fin 3 → Nat :=
  let v418 : Index := Scalar.indexCast v417
  let c0_186 : Index := 0#32
  let c0_187 : Index := 0#32
  ![v418.toNat, 0, 0]

def k0_chk157 (v417 : BitVec 32) : Prop :=
  (∀ a, (k0_off305 v417) a + S1x1x128.size a ≤ S100000x1x128.size a)
theorem k0_off305_inb : ∀ (v417 : BitVec 32) (k0_hw157 : k0_chk157 v417), ∀ a, (k0_off305 v417) a + S1x1x128.size a ≤ S100000x1x128.size a := fun v417 k0_hw157 => k0_hw157

def k0_off306 (v159 : BitVec 32) (k0_t10 : Fin (k0_t10_loop v159).trips) : Fin 2 → Nat :=
  let c4_189 : Index := 4#32
  let c0_i32_84 : BitVec 32 := 0#32
  let c15_i32_74 : BitVec 32 := 15#32
  let v160 : BitVec 32 := Scalar.addi v159 c15_i32_74
  let c0_i32_76 : BitVec 32 := 0#32
  let v162 : BitVec 1 := Scalar.cmpi .sgt v160 c0_i32_76
  let v163 : BitVec 32 := Scalar.extui v162
  let c0_i32_77 : BitVec 32 := 0#32
  let v164 : BitVec 1 := Scalar.cmpi .slt v160 c0_i32_77
  let v165 : BitVec 32 := Scalar.extui v164
  let v166 : BitVec 32 := Scalar.subi v163 v165
  let c16_i32_75 : BitVec 32 := 16#32
  let c0_i32_78 : BitVec 32 := 0#32
  let v167 : BitVec 1 := Scalar.cmpi .sgt c16_i32_75 c0_i32_78
  let v168 : BitVec 32 := Scalar.extui v167
  let c0_i32_79 : BitVec 32 := 0#32
  let v169 : BitVec 1 := Scalar.cmpi .slt c16_i32_75 c0_i32_79
  let v170 : BitVec 32 := Scalar.extui v169
  let v171 : BitVec 32 := Scalar.subi v168 v170
  let v172 : BitVec 1 := Scalar.cmpi .ne v166 v171
  let v173 : BitVec 32 := Scalar.remsi v160 c16_i32_75
  let c0_i32_80 : BitVec 32 := 0#32
  let v174 : BitVec 1 := Scalar.cmpi .ne v173 c0_i32_80
  let v175 : BitVec 1 := Scalar.andi v172 v174
  let v161 : BitVec 32 := Scalar.divsi v160 c16_i32_75
  let c1_i32_81 : BitVec 32 := 1#32
  let v176 : BitVec 32 := Scalar.subi v161 c1_i32_81
  let v177 : BitVec 32 := Scalar.select v175 v176 v161
  let v179 : BitVec 32 := Scalar.subi v177 c0_i32_84
  let c1_i32_85 : BitVec 32 := 1#32
  let v181 : BitVec 32 := Scalar.divsi v179 c1_i32_85
  let v182 : BitVec 32 := Scalar.muli v181 c1_i32_85
  let v183 : BitVec 32 := Scalar.addi c0_i32_84 v182
  let c1_i32_87 : BitVec 32 := 1#32
  let arg9 : BitVec 32 := Scf.iv v183 c1_i32_87 k0_t10
  let c16_i32_154 : BitVec 32 := 16#32
  let v324 : BitVec 32 := Scalar.muli arg9 c16_i32_154
  let c8_i32 : BitVec 32 := 8#32
  let v429 : BitVec 32 := Scalar.addi v324 c8_i32
  let v430 : Index := Scalar.indexCast v429
  ![4, v430.toNat]
def k0_off307 (v431 : BitVec 32) : Fin 3 → Nat :=
  let v432 : Index := Scalar.indexCast v431
  let c0_190 : Index := 0#32
  let c0_191 : Index := 0#32
  ![v432.toNat, 0, 0]

def k0_chk158 (v431 : BitVec 32) : Prop :=
  (∀ a, (k0_off307 v431) a + S1x1x128.size a ≤ S100000x1x128.size a)
theorem k0_off307_inb : ∀ (v431 : BitVec 32) (k0_hw158 : k0_chk158 v431), ∀ a, (k0_off307 v431) a + S1x1x128.size a ≤ S100000x1x128.size a := fun v431 k0_hw158 => k0_hw158

def k0_off308 (v159 : BitVec 32) (k0_t10 : Fin (k0_t10_loop v159).trips) : Fin 2 → Nat :=
  let c4_193 : Index := 4#32
  let c0_i32_84 : BitVec 32 := 0#32
  let c15_i32_74 : BitVec 32 := 15#32
  let v160 : BitVec 32 := Scalar.addi v159 c15_i32_74
  let c0_i32_76 : BitVec 32 := 0#32
  let v162 : BitVec 1 := Scalar.cmpi .sgt v160 c0_i32_76
  let v163 : BitVec 32 := Scalar.extui v162
  let c0_i32_77 : BitVec 32 := 0#32
  let v164 : BitVec 1 := Scalar.cmpi .slt v160 c0_i32_77
  let v165 : BitVec 32 := Scalar.extui v164
  let v166 : BitVec 32 := Scalar.subi v163 v165
  let c16_i32_75 : BitVec 32 := 16#32
  let c0_i32_78 : BitVec 32 := 0#32
  let v167 : BitVec 1 := Scalar.cmpi .sgt c16_i32_75 c0_i32_78
  let v168 : BitVec 32 := Scalar.extui v167
  let c0_i32_79 : BitVec 32 := 0#32
  let v169 : BitVec 1 := Scalar.cmpi .slt c16_i32_75 c0_i32_79
  let v170 : BitVec 32 := Scalar.extui v169
  let v171 : BitVec 32 := Scalar.subi v168 v170
  let v172 : BitVec 1 := Scalar.cmpi .ne v166 v171
  let v173 : BitVec 32 := Scalar.remsi v160 c16_i32_75
  let c0_i32_80 : BitVec 32 := 0#32
  let v174 : BitVec 1 := Scalar.cmpi .ne v173 c0_i32_80
  let v175 : BitVec 1 := Scalar.andi v172 v174
  let v161 : BitVec 32 := Scalar.divsi v160 c16_i32_75
  let c1_i32_81 : BitVec 32 := 1#32
  let v176 : BitVec 32 := Scalar.subi v161 c1_i32_81
  let v177 : BitVec 32 := Scalar.select v175 v176 v161
  let v179 : BitVec 32 := Scalar.subi v177 c0_i32_84
  let c1_i32_85 : BitVec 32 := 1#32
  let v181 : BitVec 32 := Scalar.divsi v179 c1_i32_85
  let v182 : BitVec 32 := Scalar.muli v181 c1_i32_85
  let v183 : BitVec 32 := Scalar.addi c0_i32_84 v182
  let c1_i32_87 : BitVec 32 := 1#32
  let arg9 : BitVec 32 := Scf.iv v183 c1_i32_87 k0_t10
  let c16_i32_154 : BitVec 32 := 16#32
  let v324 : BitVec 32 := Scalar.muli arg9 c16_i32_154
  let c9_i32 : BitVec 32 := 9#32
  let v443 : BitVec 32 := Scalar.addi v324 c9_i32
  let v444 : Index := Scalar.indexCast v443
  ![4, v444.toNat]
def k0_off309 (v445 : BitVec 32) : Fin 3 → Nat :=
  let v446 : Index := Scalar.indexCast v445
  let c0_194 : Index := 0#32
  let c0_195 : Index := 0#32
  ![v446.toNat, 0, 0]

def k0_chk159 (v445 : BitVec 32) : Prop :=
  (∀ a, (k0_off309 v445) a + S1x1x128.size a ≤ S100000x1x128.size a)
theorem k0_off309_inb : ∀ (v445 : BitVec 32) (k0_hw159 : k0_chk159 v445), ∀ a, (k0_off309 v445) a + S1x1x128.size a ≤ S100000x1x128.size a := fun v445 k0_hw159 => k0_hw159

def k0_off310 (v159 : BitVec 32) (k0_t10 : Fin (k0_t10_loop v159).trips) : Fin 2 → Nat :=
  let c4_197 : Index := 4#32
  let c0_i32_84 : BitVec 32 := 0#32
  let c15_i32_74 : BitVec 32 := 15#32
  let v160 : BitVec 32 := Scalar.addi v159 c15_i32_74
  let c0_i32_76 : BitVec 32 := 0#32
  let v162 : BitVec 1 := Scalar.cmpi .sgt v160 c0_i32_76
  let v163 : BitVec 32 := Scalar.extui v162
  let c0_i32_77 : BitVec 32 := 0#32
  let v164 : BitVec 1 := Scalar.cmpi .slt v160 c0_i32_77
  let v165 : BitVec 32 := Scalar.extui v164
  let v166 : BitVec 32 := Scalar.subi v163 v165
  let c16_i32_75 : BitVec 32 := 16#32
  let c0_i32_78 : BitVec 32 := 0#32
  let v167 : BitVec 1 := Scalar.cmpi .sgt c16_i32_75 c0_i32_78
  let v168 : BitVec 32 := Scalar.extui v167
  let c0_i32_79 : BitVec 32 := 0#32
  let v169 : BitVec 1 := Scalar.cmpi .slt c16_i32_75 c0_i32_79
  let v170 : BitVec 32 := Scalar.extui v169
  let v171 : BitVec 32 := Scalar.subi v168 v170
  let v172 : BitVec 1 := Scalar.cmpi .ne v166 v171
  let v173 : BitVec 32 := Scalar.remsi v160 c16_i32_75
  let c0_i32_80 : BitVec 32 := 0#32
  let v174 : BitVec 1 := Scalar.cmpi .ne v173 c0_i32_80
  let v175 : BitVec 1 := Scalar.andi v172 v174
  let v161 : BitVec 32 := Scalar.divsi v160 c16_i32_75
  let c1_i32_81 : BitVec 32 := 1#32
  let v176 : BitVec 32 := Scalar.subi v161 c1_i32_81
  let v177 : BitVec 32 := Scalar.select v175 v176 v161
  let v179 : BitVec 32 := Scalar.subi v177 c0_i32_84
  let c1_i32_85 : BitVec 32 := 1#32
  let v181 : BitVec 32 := Scalar.divsi v179 c1_i32_85
  let v182 : BitVec 32 := Scalar.muli v181 c1_i32_85
  let v183 : BitVec 32 := Scalar.addi c0_i32_84 v182
  let c1_i32_87 : BitVec 32 := 1#32
  let arg9 : BitVec 32 := Scf.iv v183 c1_i32_87 k0_t10
  let c16_i32_154 : BitVec 32 := 16#32
  let v324 : BitVec 32 := Scalar.muli arg9 c16_i32_154
  let c10_i32 : BitVec 32 := 10#32
  let v457 : BitVec 32 := Scalar.addi v324 c10_i32
  let v458 : Index := Scalar.indexCast v457
  ![4, v458.toNat]
def k0_off311 (v459 : BitVec 32) : Fin 3 → Nat :=
  let v460 : Index := Scalar.indexCast v459
  let c0_198 : Index := 0#32
  let c0_199 : Index := 0#32
  ![v460.toNat, 0, 0]

def k0_chk160 (v459 : BitVec 32) : Prop :=
  (∀ a, (k0_off311 v459) a + S1x1x128.size a ≤ S100000x1x128.size a)
theorem k0_off311_inb : ∀ (v459 : BitVec 32) (k0_hw160 : k0_chk160 v459), ∀ a, (k0_off311 v459) a + S1x1x128.size a ≤ S100000x1x128.size a := fun v459 k0_hw160 => k0_hw160

def k0_off312 (v159 : BitVec 32) (k0_t10 : Fin (k0_t10_loop v159).trips) : Fin 2 → Nat :=
  let c4_201 : Index := 4#32
  let c0_i32_84 : BitVec 32 := 0#32
  let c15_i32_74 : BitVec 32 := 15#32
  let v160 : BitVec 32 := Scalar.addi v159 c15_i32_74
  let c0_i32_76 : BitVec 32 := 0#32
  let v162 : BitVec 1 := Scalar.cmpi .sgt v160 c0_i32_76
  let v163 : BitVec 32 := Scalar.extui v162
  let c0_i32_77 : BitVec 32 := 0#32
  let v164 : BitVec 1 := Scalar.cmpi .slt v160 c0_i32_77
  let v165 : BitVec 32 := Scalar.extui v164
  let v166 : BitVec 32 := Scalar.subi v163 v165
  let c16_i32_75 : BitVec 32 := 16#32
  let c0_i32_78 : BitVec 32 := 0#32
  let v167 : BitVec 1 := Scalar.cmpi .sgt c16_i32_75 c0_i32_78
  let v168 : BitVec 32 := Scalar.extui v167
  let c0_i32_79 : BitVec 32 := 0#32
  let v169 : BitVec 1 := Scalar.cmpi .slt c16_i32_75 c0_i32_79
  let v170 : BitVec 32 := Scalar.extui v169
  let v171 : BitVec 32 := Scalar.subi v168 v170
  let v172 : BitVec 1 := Scalar.cmpi .ne v166 v171
  let v173 : BitVec 32 := Scalar.remsi v160 c16_i32_75
  let c0_i32_80 : BitVec 32 := 0#32
  let v174 : BitVec 1 := Scalar.cmpi .ne v173 c0_i32_80
  let v175 : BitVec 1 := Scalar.andi v172 v174
  let v161 : BitVec 32 := Scalar.divsi v160 c16_i32_75
  let c1_i32_81 : BitVec 32 := 1#32
  let v176 : BitVec 32 := Scalar.subi v161 c1_i32_81
  let v177 : BitVec 32 := Scalar.select v175 v176 v161
  let v179 : BitVec 32 := Scalar.subi v177 c0_i32_84
  let c1_i32_85 : BitVec 32 := 1#32
  let v181 : BitVec 32 := Scalar.divsi v179 c1_i32_85
  let v182 : BitVec 32 := Scalar.muli v181 c1_i32_85
  let v183 : BitVec 32 := Scalar.addi c0_i32_84 v182
  let c1_i32_87 : BitVec 32 := 1#32
  let arg9 : BitVec 32 := Scf.iv v183 c1_i32_87 k0_t10
  let c16_i32_154 : BitVec 32 := 16#32
  let v324 : BitVec 32 := Scalar.muli arg9 c16_i32_154
  let c11_i32 : BitVec 32 := 11#32
  let v471 : BitVec 32 := Scalar.addi v324 c11_i32
  let v472 : Index := Scalar.indexCast v471
  ![4, v472.toNat]
def k0_off313 (v473 : BitVec 32) : Fin 3 → Nat :=
  let v474 : Index := Scalar.indexCast v473
  let c0_202 : Index := 0#32
  let c0_203 : Index := 0#32
  ![v474.toNat, 0, 0]

def k0_chk161 (v473 : BitVec 32) : Prop :=
  (∀ a, (k0_off313 v473) a + S1x1x128.size a ≤ S100000x1x128.size a)
theorem k0_off313_inb : ∀ (v473 : BitVec 32) (k0_hw161 : k0_chk161 v473), ∀ a, (k0_off313 v473) a + S1x1x128.size a ≤ S100000x1x128.size a := fun v473 k0_hw161 => k0_hw161

def k0_off314 (v159 : BitVec 32) (k0_t10 : Fin (k0_t10_loop v159).trips) : Fin 2 → Nat :=
  let c4_205 : Index := 4#32
  let c0_i32_84 : BitVec 32 := 0#32
  let c15_i32_74 : BitVec 32 := 15#32
  let v160 : BitVec 32 := Scalar.addi v159 c15_i32_74
  let c0_i32_76 : BitVec 32 := 0#32
  let v162 : BitVec 1 := Scalar.cmpi .sgt v160 c0_i32_76
  let v163 : BitVec 32 := Scalar.extui v162
  let c0_i32_77 : BitVec 32 := 0#32
  let v164 : BitVec 1 := Scalar.cmpi .slt v160 c0_i32_77
  let v165 : BitVec 32 := Scalar.extui v164
  let v166 : BitVec 32 := Scalar.subi v163 v165
  let c16_i32_75 : BitVec 32 := 16#32
  let c0_i32_78 : BitVec 32 := 0#32
  let v167 : BitVec 1 := Scalar.cmpi .sgt c16_i32_75 c0_i32_78
  let v168 : BitVec 32 := Scalar.extui v167
  let c0_i32_79 : BitVec 32 := 0#32
  let v169 : BitVec 1 := Scalar.cmpi .slt c16_i32_75 c0_i32_79
  let v170 : BitVec 32 := Scalar.extui v169
  let v171 : BitVec 32 := Scalar.subi v168 v170
  let v172 : BitVec 1 := Scalar.cmpi .ne v166 v171
  let v173 : BitVec 32 := Scalar.remsi v160 c16_i32_75
  let c0_i32_80 : BitVec 32 := 0#32
  let v174 : BitVec 1 := Scalar.cmpi .ne v173 c0_i32_80
  let v175 : BitVec 1 := Scalar.andi v172 v174
  let v161 : BitVec 32 := Scalar.divsi v160 c16_i32_75
  let c1_i32_81 : BitVec 32 := 1#32
  let v176 : BitVec 32 := Scalar.subi v161 c1_i32_81
  let v177 : BitVec 32 := Scalar.select v175 v176 v161
  let v179 : BitVec 32 := Scalar.subi v177 c0_i32_84
  let c1_i32_85 : BitVec 32 := 1#32
  let v181 : BitVec 32 := Scalar.divsi v179 c1_i32_85
  let v182 : BitVec 32 := Scalar.muli v181 c1_i32_85
  let v183 : BitVec 32 := Scalar.addi c0_i32_84 v182
  let c1_i32_87 : BitVec 32 := 1#32
  let arg9 : BitVec 32 := Scf.iv v183 c1_i32_87 k0_t10
  let c16_i32_154 : BitVec 32 := 16#32
  let v324 : BitVec 32 := Scalar.muli arg9 c16_i32_154
  let c12_i32 : BitVec 32 := 12#32
  let v485 : BitVec 32 := Scalar.addi v324 c12_i32
  let v486 : Index := Scalar.indexCast v485
  ![4, v486.toNat]
def k0_off315 (v487 : BitVec 32) : Fin 3 → Nat :=
  let v488 : Index := Scalar.indexCast v487
  let c0_206 : Index := 0#32
  let c0_207 : Index := 0#32
  ![v488.toNat, 0, 0]

def k0_chk162 (v487 : BitVec 32) : Prop :=
  (∀ a, (k0_off315 v487) a + S1x1x128.size a ≤ S100000x1x128.size a)
theorem k0_off315_inb : ∀ (v487 : BitVec 32) (k0_hw162 : k0_chk162 v487), ∀ a, (k0_off315 v487) a + S1x1x128.size a ≤ S100000x1x128.size a := fun v487 k0_hw162 => k0_hw162

def k0_off316 (v159 : BitVec 32) (k0_t10 : Fin (k0_t10_loop v159).trips) : Fin 2 → Nat :=
  let c4_209 : Index := 4#32
  let c0_i32_84 : BitVec 32 := 0#32
  let c15_i32_74 : BitVec 32 := 15#32
  let v160 : BitVec 32 := Scalar.addi v159 c15_i32_74
  let c0_i32_76 : BitVec 32 := 0#32
  let v162 : BitVec 1 := Scalar.cmpi .sgt v160 c0_i32_76
  let v163 : BitVec 32 := Scalar.extui v162
  let c0_i32_77 : BitVec 32 := 0#32
  let v164 : BitVec 1 := Scalar.cmpi .slt v160 c0_i32_77
  let v165 : BitVec 32 := Scalar.extui v164
  let v166 : BitVec 32 := Scalar.subi v163 v165
  let c16_i32_75 : BitVec 32 := 16#32
  let c0_i32_78 : BitVec 32 := 0#32
  let v167 : BitVec 1 := Scalar.cmpi .sgt c16_i32_75 c0_i32_78
  let v168 : BitVec 32 := Scalar.extui v167
  let c0_i32_79 : BitVec 32 := 0#32
  let v169 : BitVec 1 := Scalar.cmpi .slt c16_i32_75 c0_i32_79
  let v170 : BitVec 32 := Scalar.extui v169
  let v171 : BitVec 32 := Scalar.subi v168 v170
  let v172 : BitVec 1 := Scalar.cmpi .ne v166 v171
  let v173 : BitVec 32 := Scalar.remsi v160 c16_i32_75
  let c0_i32_80 : BitVec 32 := 0#32
  let v174 : BitVec 1 := Scalar.cmpi .ne v173 c0_i32_80
  let v175 : BitVec 1 := Scalar.andi v172 v174
  let v161 : BitVec 32 := Scalar.divsi v160 c16_i32_75
  let c1_i32_81 : BitVec 32 := 1#32
  let v176 : BitVec 32 := Scalar.subi v161 c1_i32_81
  let v177 : BitVec 32 := Scalar.select v175 v176 v161
  let v179 : BitVec 32 := Scalar.subi v177 c0_i32_84
  let c1_i32_85 : BitVec 32 := 1#32
  let v181 : BitVec 32 := Scalar.divsi v179 c1_i32_85
  let v182 : BitVec 32 := Scalar.muli v181 c1_i32_85
  let v183 : BitVec 32 := Scalar.addi c0_i32_84 v182
  let c1_i32_87 : BitVec 32 := 1#32
  let arg9 : BitVec 32 := Scf.iv v183 c1_i32_87 k0_t10
  let c16_i32_154 : BitVec 32 := 16#32
  let v324 : BitVec 32 := Scalar.muli arg9 c16_i32_154
  let c13_i32 : BitVec 32 := 13#32
  let v499 : BitVec 32 := Scalar.addi v324 c13_i32
  let v500 : Index := Scalar.indexCast v499
  ![4, v500.toNat]
def k0_off317 (v501 : BitVec 32) : Fin 3 → Nat :=
  let v502 : Index := Scalar.indexCast v501
  let c0_210 : Index := 0#32
  let c0_211 : Index := 0#32
  ![v502.toNat, 0, 0]

def k0_chk163 (v501 : BitVec 32) : Prop :=
  (∀ a, (k0_off317 v501) a + S1x1x128.size a ≤ S100000x1x128.size a)
theorem k0_off317_inb : ∀ (v501 : BitVec 32) (k0_hw163 : k0_chk163 v501), ∀ a, (k0_off317 v501) a + S1x1x128.size a ≤ S100000x1x128.size a := fun v501 k0_hw163 => k0_hw163

def k0_off318 (v159 : BitVec 32) (k0_t10 : Fin (k0_t10_loop v159).trips) : Fin 2 → Nat :=
  let c4_213 : Index := 4#32
  let c0_i32_84 : BitVec 32 := 0#32
  let c15_i32_74 : BitVec 32 := 15#32
  let v160 : BitVec 32 := Scalar.addi v159 c15_i32_74
  let c0_i32_76 : BitVec 32 := 0#32
  let v162 : BitVec 1 := Scalar.cmpi .sgt v160 c0_i32_76
  let v163 : BitVec 32 := Scalar.extui v162
  let c0_i32_77 : BitVec 32 := 0#32
  let v164 : BitVec 1 := Scalar.cmpi .slt v160 c0_i32_77
  let v165 : BitVec 32 := Scalar.extui v164
  let v166 : BitVec 32 := Scalar.subi v163 v165
  let c16_i32_75 : BitVec 32 := 16#32
  let c0_i32_78 : BitVec 32 := 0#32
  let v167 : BitVec 1 := Scalar.cmpi .sgt c16_i32_75 c0_i32_78
  let v168 : BitVec 32 := Scalar.extui v167
  let c0_i32_79 : BitVec 32 := 0#32
  let v169 : BitVec 1 := Scalar.cmpi .slt c16_i32_75 c0_i32_79
  let v170 : BitVec 32 := Scalar.extui v169
  let v171 : BitVec 32 := Scalar.subi v168 v170
  let v172 : BitVec 1 := Scalar.cmpi .ne v166 v171
  let v173 : BitVec 32 := Scalar.remsi v160 c16_i32_75
  let c0_i32_80 : BitVec 32 := 0#32
  let v174 : BitVec 1 := Scalar.cmpi .ne v173 c0_i32_80
  let v175 : BitVec 1 := Scalar.andi v172 v174
  let v161 : BitVec 32 := Scalar.divsi v160 c16_i32_75
  let c1_i32_81 : BitVec 32 := 1#32
  let v176 : BitVec 32 := Scalar.subi v161 c1_i32_81
  let v177 : BitVec 32 := Scalar.select v175 v176 v161
  let v179 : BitVec 32 := Scalar.subi v177 c0_i32_84
  let c1_i32_85 : BitVec 32 := 1#32
  let v181 : BitVec 32 := Scalar.divsi v179 c1_i32_85
  let v182 : BitVec 32 := Scalar.muli v181 c1_i32_85
  let v183 : BitVec 32 := Scalar.addi c0_i32_84 v182
  let c1_i32_87 : BitVec 32 := 1#32
  let arg9 : BitVec 32 := Scf.iv v183 c1_i32_87 k0_t10
  let c16_i32_154 : BitVec 32 := 16#32
  let v324 : BitVec 32 := Scalar.muli arg9 c16_i32_154
  let c14_i32 : BitVec 32 := 14#32
  let v513 : BitVec 32 := Scalar.addi v324 c14_i32
  let v514 : Index := Scalar.indexCast v513
  ![4, v514.toNat]
def k0_off319 (v515 : BitVec 32) : Fin 3 → Nat :=
  let v516 : Index := Scalar.indexCast v515
  let c0_214 : Index := 0#32
  let c0_215 : Index := 0#32
  ![v516.toNat, 0, 0]

def k0_chk164 (v515 : BitVec 32) : Prop :=
  (∀ a, (k0_off319 v515) a + S1x1x128.size a ≤ S100000x1x128.size a)
theorem k0_off319_inb : ∀ (v515 : BitVec 32) (k0_hw164 : k0_chk164 v515), ∀ a, (k0_off319 v515) a + S1x1x128.size a ≤ S100000x1x128.size a := fun v515 k0_hw164 => k0_hw164

def k0_off320 (v159 : BitVec 32) (k0_t10 : Fin (k0_t10_loop v159).trips) : Fin 2 → Nat :=
  let c4_218 : Index := 4#32
  let c0_i32_84 : BitVec 32 := 0#32
  let c15_i32_74 : BitVec 32 := 15#32
  let v160 : BitVec 32 := Scalar.addi v159 c15_i32_74
  let c0_i32_76 : BitVec 32 := 0#32
  let v162 : BitVec 1 := Scalar.cmpi .sgt v160 c0_i32_76
  let v163 : BitVec 32 := Scalar.extui v162
  let c0_i32_77 : BitVec 32 := 0#32
  let v164 : BitVec 1 := Scalar.cmpi .slt v160 c0_i32_77
  let v165 : BitVec 32 := Scalar.extui v164
  let v166 : BitVec 32 := Scalar.subi v163 v165
  let c16_i32_75 : BitVec 32 := 16#32
  let c0_i32_78 : BitVec 32 := 0#32
  let v167 : BitVec 1 := Scalar.cmpi .sgt c16_i32_75 c0_i32_78
  let v168 : BitVec 32 := Scalar.extui v167
  let c0_i32_79 : BitVec 32 := 0#32
  let v169 : BitVec 1 := Scalar.cmpi .slt c16_i32_75 c0_i32_79
  let v170 : BitVec 32 := Scalar.extui v169
  let v171 : BitVec 32 := Scalar.subi v168 v170
  let v172 : BitVec 1 := Scalar.cmpi .ne v166 v171
  let v173 : BitVec 32 := Scalar.remsi v160 c16_i32_75
  let c0_i32_80 : BitVec 32 := 0#32
  let v174 : BitVec 1 := Scalar.cmpi .ne v173 c0_i32_80
  let v175 : BitVec 1 := Scalar.andi v172 v174
  let v161 : BitVec 32 := Scalar.divsi v160 c16_i32_75
  let c1_i32_81 : BitVec 32 := 1#32
  let v176 : BitVec 32 := Scalar.subi v161 c1_i32_81
  let v177 : BitVec 32 := Scalar.select v175 v176 v161
  let v179 : BitVec 32 := Scalar.subi v177 c0_i32_84
  let c1_i32_85 : BitVec 32 := 1#32
  let v181 : BitVec 32 := Scalar.divsi v179 c1_i32_85
  let v182 : BitVec 32 := Scalar.muli v181 c1_i32_85
  let v183 : BitVec 32 := Scalar.addi c0_i32_84 v182
  let c1_i32_87 : BitVec 32 := 1#32
  let arg9 : BitVec 32 := Scf.iv v183 c1_i32_87 k0_t10
  let c16_i32_154 : BitVec 32 := 16#32
  let v324 : BitVec 32 := Scalar.muli arg9 c16_i32_154
  let c15_i32_217 : BitVec 32 := 15#32
  let v527 : BitVec 32 := Scalar.addi v324 c15_i32_217
  let v528 : Index := Scalar.indexCast v527
  ![4, v528.toNat]

def k0_chk133_0 (v159 : BitVec 32) : Prop :=
  ((k0_t9_loop v159).OK) ∧
  (∀ k0_t9 : Fin (k0_t9_loop v159).trips, ∀ a, (k0_off258 v159 k0_t9) a + S1x1.size a ≤ S8x512.size a) ∧
  (∀ k0_t9 : Fin (k0_t9_loop v159).trips, ∀ a, (k0_off260 v159 k0_t9) a + S1x1.size a ≤ S8x512.size a) ∧
  (∀ k0_t9 : Fin (k0_t9_loop v159).trips, ∀ a, (k0_off262 v159 k0_t9) a + S1x1.size a ≤ S8x512.size a) ∧
  (∀ k0_t9 : Fin (k0_t9_loop v159).trips, ∀ a, (k0_off264 v159 k0_t9) a + S1x1.size a ≤ S8x512.size a) ∧
  (∀ k0_t9 : Fin (k0_t9_loop v159).trips, ∀ a, (k0_off266 v159 k0_t9) a + S1x1.size a ≤ S8x512.size a) ∧
  (∀ k0_t9 : Fin (k0_t9_loop v159).trips, ∀ a, (k0_off268 v159 k0_t9) a + S1x1.size a ≤ S8x512.size a) ∧
  (∀ k0_t9 : Fin (k0_t9_loop v159).trips, ∀ a, (k0_off270 v159 k0_t9) a + S1x1.size a ≤ S8x512.size a) ∧
  (∀ k0_t9 : Fin (k0_t9_loop v159).trips, ∀ a, (k0_off272 v159 k0_t9) a + S1x1.size a ≤ S8x512.size a) ∧
  (∀ k0_t9 : Fin (k0_t9_loop v159).trips, ∀ a, (k0_off274 v159 k0_t9) a + S1x1.size a ≤ S8x512.size a) ∧
  (∀ k0_t9 : Fin (k0_t9_loop v159).trips, ∀ a, (k0_off276 v159 k0_t9) a + S1x1.size a ≤ S8x512.size a) ∧
  (∀ k0_t9 : Fin (k0_t9_loop v159).trips, ∀ a, (k0_off278 v159 k0_t9) a + S1x1.size a ≤ S8x512.size a) ∧
  (∀ k0_t9 : Fin (k0_t9_loop v159).trips, ∀ a, (k0_off280 v159 k0_t9) a + S1x1.size a ≤ S8x512.size a) ∧
  (∀ k0_t9 : Fin (k0_t9_loop v159).trips, ∀ a, (k0_off282 v159 k0_t9) a + S1x1.size a ≤ S8x512.size a) ∧
  (∀ k0_t9 : Fin (k0_t9_loop v159).trips, ∀ a, (k0_off284 v159 k0_t9) a + S1x1.size a ≤ S8x512.size a) ∧
  (∀ k0_t9 : Fin (k0_t9_loop v159).trips, ∀ a, (k0_off286 v159 k0_t9) a + S1x1.size a ≤ S8x512.size a) ∧
  (∀ k0_t9 : Fin (k0_t9_loop v159).trips, ∀ a, (k0_off288 v159 k0_t9) a + S1x1.size a ≤ S8x512.size a) ∧
  ((k0_t10_loop v159).OK) ∧
  (∀ k0_t10 : Fin (k0_t10_loop v159).trips, ∀ a, (k0_off290 v159 k0_t10) a + S1x1.size a ≤ S8x512.size a) ∧
  (∀ k0_t10 : Fin (k0_t10_loop v159).trips, ∀ a, (k0_off292 v159 k0_t10) a + S1x1.size a ≤ S8x512.size a) ∧
  (∀ k0_t10 : Fin (k0_t10_loop v159).trips, ∀ a, (k0_off294 v159 k0_t10) a + S1x1.size a ≤ S8x512.size a) ∧
  (∀ k0_t10 : Fin (k0_t10_loop v159).trips, ∀ a, (k0_off296 v159 k0_t10) a + S1x1.size a ≤ S8x512.size a) ∧
  (∀ k0_t10 : Fin (k0_t10_loop v159).trips, ∀ a, (k0_off298 v159 k0_t10) a + S1x1.size a ≤ S8x512.size a) ∧
  (∀ k0_t10 : Fin (k0_t10_loop v159).trips, ∀ a, (k0_off300 v159 k0_t10) a + S1x1.size a ≤ S8x512.size a) ∧
  (∀ k0_t10 : Fin (k0_t10_loop v159).trips, ∀ a, (k0_off302 v159 k0_t10) a + S1x1.size a ≤ S8x512.size a) ∧
  (∀ k0_t10 : Fin (k0_t10_loop v159).trips, ∀ a, (k0_off304 v159 k0_t10) a + S1x1.size a ≤ S8x512.size a) ∧
  (∀ k0_t10 : Fin (k0_t10_loop v159).trips, ∀ a, (k0_off306 v159 k0_t10) a + S1x1.size a ≤ S8x512.size a) ∧
  (∀ k0_t10 : Fin (k0_t10_loop v159).trips, ∀ a, (k0_off308 v159 k0_t10) a + S1x1.size a ≤ S8x512.size a) ∧
  (∀ k0_t10 : Fin (k0_t10_loop v159).trips, ∀ a, (k0_off310 v159 k0_t10) a + S1x1.size a ≤ S8x512.size a) ∧
  (∀ k0_t10 : Fin (k0_t10_loop v159).trips, ∀ a, (k0_off312 v159 k0_t10) a + S1x1.size a ≤ S8x512.size a) ∧
  (∀ k0_t10 : Fin (k0_t10_loop v159).trips, ∀ a, (k0_off314 v159 k0_t10) a + S1x1.size a ≤ S8x512.size a) ∧
  (∀ k0_t10 : Fin (k0_t10_loop v159).trips, ∀ a, (k0_off316 v159 k0_t10) a + S1x1.size a ≤ S8x512.size a)
def k0_chk133_1 (v159 : BitVec 32) : Prop :=
  (∀ k0_t10 : Fin (k0_t10_loop v159).trips, ∀ a, (k0_off318 v159 k0_t10) a + S1x1.size a ≤ S8x512.size a) ∧
  (∀ k0_t10 : Fin (k0_t10_loop v159).trips, ∀ a, (k0_off320 v159 k0_t10) a + S1x1.size a ≤ S8x512.size a)
def k0_chk133 (v159 : BitVec 32) : Prop :=
  k0_chk133_0 v159 ∧
  k0_chk133_1 v159
theorem k0_t9_ok : ∀ (v159 : BitVec 32) (k0_hw133 : k0_chk133 v159), (k0_t9_loop v159).OK := fun v159 k0_hw133 => k0_hw133.1.1
theorem k0_off258_inb : ∀ (v159 : BitVec 32) (k0_hw133 : k0_chk133 v159) (k0_t9 : Fin (k0_t9_loop v159).trips), ∀ a, (k0_off258 v159 k0_t9) a + S1x1.size a ≤ S8x512.size a := fun v159 k0_hw133 k0_t9 => k0_hw133.1.2.1 k0_t9
theorem k0_off260_inb : ∀ (v159 : BitVec 32) (k0_hw133 : k0_chk133 v159) (k0_t9 : Fin (k0_t9_loop v159).trips), ∀ a, (k0_off260 v159 k0_t9) a + S1x1.size a ≤ S8x512.size a := fun v159 k0_hw133 k0_t9 => k0_hw133.1.2.2.1 k0_t9
theorem k0_off262_inb : ∀ (v159 : BitVec 32) (k0_hw133 : k0_chk133 v159) (k0_t9 : Fin (k0_t9_loop v159).trips), ∀ a, (k0_off262 v159 k0_t9) a + S1x1.size a ≤ S8x512.size a := fun v159 k0_hw133 k0_t9 => k0_hw133.1.2.2.2.1 k0_t9
theorem k0_off264_inb : ∀ (v159 : BitVec 32) (k0_hw133 : k0_chk133 v159) (k0_t9 : Fin (k0_t9_loop v159).trips), ∀ a, (k0_off264 v159 k0_t9) a + S1x1.size a ≤ S8x512.size a := fun v159 k0_hw133 k0_t9 => k0_hw133.1.2.2.2.2.1 k0_t9
theorem k0_off266_inb : ∀ (v159 : BitVec 32) (k0_hw133 : k0_chk133 v159) (k0_t9 : Fin (k0_t9_loop v159).trips), ∀ a, (k0_off266 v159 k0_t9) a + S1x1.size a ≤ S8x512.size a := fun v159 k0_hw133 k0_t9 => k0_hw133.1.2.2.2.2.2.1 k0_t9
theorem k0_off268_inb : ∀ (v159 : BitVec 32) (k0_hw133 : k0_chk133 v159) (k0_t9 : Fin (k0_t9_loop v159).trips), ∀ a, (k0_off268 v159 k0_t9) a + S1x1.size a ≤ S8x512.size a := fun v159 k0_hw133 k0_t9 => k0_hw133.1.2.2.2.2.2.2.1 k0_t9
theorem k0_off270_inb : ∀ (v159 : BitVec 32) (k0_hw133 : k0_chk133 v159) (k0_t9 : Fin (k0_t9_loop v159).trips), ∀ a, (k0_off270 v159 k0_t9) a + S1x1.size a ≤ S8x512.size a := fun v159 k0_hw133 k0_t9 => k0_hw133.1.2.2.2.2.2.2.2.1 k0_t9
theorem k0_off272_inb : ∀ (v159 : BitVec 32) (k0_hw133 : k0_chk133 v159) (k0_t9 : Fin (k0_t9_loop v159).trips), ∀ a, (k0_off272 v159 k0_t9) a + S1x1.size a ≤ S8x512.size a := fun v159 k0_hw133 k0_t9 => k0_hw133.1.2.2.2.2.2.2.2.2.1 k0_t9
theorem k0_off274_inb : ∀ (v159 : BitVec 32) (k0_hw133 : k0_chk133 v159) (k0_t9 : Fin (k0_t9_loop v159).trips), ∀ a, (k0_off274 v159 k0_t9) a + S1x1.size a ≤ S8x512.size a := fun v159 k0_hw133 k0_t9 => k0_hw133.1.2.2.2.2.2.2.2.2.2.1 k0_t9
theorem k0_off276_inb : ∀ (v159 : BitVec 32) (k0_hw133 : k0_chk133 v159) (k0_t9 : Fin (k0_t9_loop v159).trips), ∀ a, (k0_off276 v159 k0_t9) a + S1x1.size a ≤ S8x512.size a := fun v159 k0_hw133 k0_t9 => k0_hw133.1.2.2.2.2.2.2.2.2.2.2.1 k0_t9
theorem k0_off278_inb : ∀ (v159 : BitVec 32) (k0_hw133 : k0_chk133 v159) (k0_t9 : Fin (k0_t9_loop v159).trips), ∀ a, (k0_off278 v159 k0_t9) a + S1x1.size a ≤ S8x512.size a := fun v159 k0_hw133 k0_t9 => k0_hw133.1.2.2.2.2.2.2.2.2.2.2.2.1 k0_t9
theorem k0_off280_inb : ∀ (v159 : BitVec 32) (k0_hw133 : k0_chk133 v159) (k0_t9 : Fin (k0_t9_loop v159).trips), ∀ a, (k0_off280 v159 k0_t9) a + S1x1.size a ≤ S8x512.size a := fun v159 k0_hw133 k0_t9 => k0_hw133.1.2.2.2.2.2.2.2.2.2.2.2.2.1 k0_t9
theorem k0_off282_inb : ∀ (v159 : BitVec 32) (k0_hw133 : k0_chk133 v159) (k0_t9 : Fin (k0_t9_loop v159).trips), ∀ a, (k0_off282 v159 k0_t9) a + S1x1.size a ≤ S8x512.size a := fun v159 k0_hw133 k0_t9 => k0_hw133.1.2.2.2.2.2.2.2.2.2.2.2.2.2.1 k0_t9
theorem k0_off284_inb : ∀ (v159 : BitVec 32) (k0_hw133 : k0_chk133 v159) (k0_t9 : Fin (k0_t9_loop v159).trips), ∀ a, (k0_off284 v159 k0_t9) a + S1x1.size a ≤ S8x512.size a := fun v159 k0_hw133 k0_t9 => k0_hw133.1.2.2.2.2.2.2.2.2.2.2.2.2.2.2.1 k0_t9
theorem k0_off286_inb : ∀ (v159 : BitVec 32) (k0_hw133 : k0_chk133 v159) (k0_t9 : Fin (k0_t9_loop v159).trips), ∀ a, (k0_off286 v159 k0_t9) a + S1x1.size a ≤ S8x512.size a := fun v159 k0_hw133 k0_t9 => k0_hw133.1.2.2.2.2.2.2.2.2.2.2.2.2.2.2.2.1 k0_t9
theorem k0_off288_inb : ∀ (v159 : BitVec 32) (k0_hw133 : k0_chk133 v159) (k0_t9 : Fin (k0_t9_loop v159).trips), ∀ a, (k0_off288 v159 k0_t9) a + S1x1.size a ≤ S8x512.size a := fun v159 k0_hw133 k0_t9 => k0_hw133.1.2.2.2.2.2.2.2.2.2.2.2.2.2.2.2.2.1 k0_t9
theorem k0_t10_ok : ∀ (v159 : BitVec 32) (k0_hw133 : k0_chk133 v159), (k0_t10_loop v159).OK := fun v159 k0_hw133 => k0_hw133.1.2.2.2.2.2.2.2.2.2.2.2.2.2.2.2.2.2.1
theorem k0_off290_inb : ∀ (v159 : BitVec 32) (k0_hw133 : k0_chk133 v159) (k0_t10 : Fin (k0_t10_loop v159).trips), ∀ a, (k0_off290 v159 k0_t10) a + S1x1.size a ≤ S8x512.size a := fun v159 k0_hw133 k0_t10 => k0_hw133.1.2.2.2.2.2.2.2.2.2.2.2.2.2.2.2.2.2.2.1 k0_t10
theorem k0_off292_inb : ∀ (v159 : BitVec 32) (k0_hw133 : k0_chk133 v159) (k0_t10 : Fin (k0_t10_loop v159).trips), ∀ a, (k0_off292 v159 k0_t10) a + S1x1.size a ≤ S8x512.size a := fun v159 k0_hw133 k0_t10 => k0_hw133.1.2.2.2.2.2.2.2.2.2.2.2.2.2.2.2.2.2.2.2.1 k0_t10
theorem k0_off294_inb : ∀ (v159 : BitVec 32) (k0_hw133 : k0_chk133 v159) (k0_t10 : Fin (k0_t10_loop v159).trips), ∀ a, (k0_off294 v159 k0_t10) a + S1x1.size a ≤ S8x512.size a := fun v159 k0_hw133 k0_t10 => k0_hw133.1.2.2.2.2.2.2.2.2.2.2.2.2.2.2.2.2.2.2.2.2.1 k0_t10
theorem k0_off296_inb : ∀ (v159 : BitVec 32) (k0_hw133 : k0_chk133 v159) (k0_t10 : Fin (k0_t10_loop v159).trips), ∀ a, (k0_off296 v159 k0_t10) a + S1x1.size a ≤ S8x512.size a := fun v159 k0_hw133 k0_t10 => k0_hw133.1.2.2.2.2.2.2.2.2.2.2.2.2.2.2.2.2.2.2.2.2.2.1 k0_t10
theorem k0_off298_inb : ∀ (v159 : BitVec 32) (k0_hw133 : k0_chk133 v159) (k0_t10 : Fin (k0_t10_loop v159).trips), ∀ a, (k0_off298 v159 k0_t10) a + S1x1.size a ≤ S8x512.size a := fun v159 k0_hw133 k0_t10 => k0_hw133.1.2.2.2.2.2.2.2.2.2.2.2.2.2.2.2.2.2.2.2.2.2.2.1 k0_t10
theorem k0_off300_inb : ∀ (v159 : BitVec 32) (k0_hw133 : k0_chk133 v159) (k0_t10 : Fin (k0_t10_loop v159).trips), ∀ a, (k0_off300 v159 k0_t10) a + S1x1.size a ≤ S8x512.size a := fun v159 k0_hw133 k0_t10 => k0_hw133.1.2.2.2.2.2.2.2.2.2.2.2.2.2.2.2.2.2.2.2.2.2.2.2.1 k0_t10
theorem k0_off302_inb : ∀ (v159 : BitVec 32) (k0_hw133 : k0_chk133 v159) (k0_t10 : Fin (k0_t10_loop v159).trips), ∀ a, (k0_off302 v159 k0_t10) a + S1x1.size a ≤ S8x512.size a := fun v159 k0_hw133 k0_t10 => k0_hw133.1.2.2.2.2.2.2.2.2.2.2.2.2.2.2.2.2.2.2.2.2.2.2.2.2.1 k0_t10
theorem k0_off304_inb : ∀ (v159 : BitVec 32) (k0_hw133 : k0_chk133 v159) (k0_t10 : Fin (k0_t10_loop v159).trips), ∀ a, (k0_off304 v159 k0_t10) a + S1x1.size a ≤ S8x512.size a := fun v159 k0_hw133 k0_t10 => k0_hw133.1.2.2.2.2.2.2.2.2.2.2.2.2.2.2.2.2.2.2.2.2.2.2.2.2.2.1 k0_t10
theorem k0_off306_inb : ∀ (v159 : BitVec 32) (k0_hw133 : k0_chk133 v159) (k0_t10 : Fin (k0_t10_loop v159).trips), ∀ a, (k0_off306 v159 k0_t10) a + S1x1.size a ≤ S8x512.size a := fun v159 k0_hw133 k0_t10 => k0_hw133.1.2.2.2.2.2.2.2.2.2.2.2.2.2.2.2.2.2.2.2.2.2.2.2.2.2.2.1 k0_t10
theorem k0_off308_inb : ∀ (v159 : BitVec 32) (k0_hw133 : k0_chk133 v159) (k0_t10 : Fin (k0_t10_loop v159).trips), ∀ a, (k0_off308 v159 k0_t10) a + S1x1.size a ≤ S8x512.size a := fun v159 k0_hw133 k0_t10 => k0_hw133.1.2.2.2.2.2.2.2.2.2.2.2.2.2.2.2.2.2.2.2.2.2.2.2.2.2.2.2.1 k0_t10
theorem k0_off310_inb : ∀ (v159 : BitVec 32) (k0_hw133 : k0_chk133 v159) (k0_t10 : Fin (k0_t10_loop v159).trips), ∀ a, (k0_off310 v159 k0_t10) a + S1x1.size a ≤ S8x512.size a := fun v159 k0_hw133 k0_t10 => k0_hw133.1.2.2.2.2.2.2.2.2.2.2.2.2.2.2.2.2.2.2.2.2.2.2.2.2.2.2.2.2.1 k0_t10
theorem k0_off312_inb : ∀ (v159 : BitVec 32) (k0_hw133 : k0_chk133 v159) (k0_t10 : Fin (k0_t10_loop v159).trips), ∀ a, (k0_off312 v159 k0_t10) a + S1x1.size a ≤ S8x512.size a := fun v159 k0_hw133 k0_t10 => k0_hw133.1.2.2.2.2.2.2.2.2.2.2.2.2.2.2.2.2.2.2.2.2.2.2.2.2.2.2.2.2.2.1 k0_t10
theorem k0_off314_inb : ∀ (v159 : BitVec 32) (k0_hw133 : k0_chk133 v159) (k0_t10 : Fin (k0_t10_loop v159).trips), ∀ a, (k0_off314 v159 k0_t10) a + S1x1.size a ≤ S8x512.size a := fun v159 k0_hw133 k0_t10 => k0_hw133.1.2.2.2.2.2.2.2.2.2.2.2.2.2.2.2.2.2.2.2.2.2.2.2.2.2.2.2.2.2.2.1 k0_t10
theorem k0_off316_inb : ∀ (v159 : BitVec 32) (k0_hw133 : k0_chk133 v159) (k0_t10 : Fin (k0_t10_loop v159).trips), ∀ a, (k0_off316 v159 k0_t10) a + S1x1.size a ≤ S8x512.size a := fun v159 k0_hw133 k0_t10 => k0_hw133.1.2.2.2.2.2.2.2.2.2.2.2.2.2.2.2.2.2.2.2.2.2.2.2.2.2.2.2.2.2.2.2 k0_t10
theorem k0_off318_inb : ∀ (v159 : BitVec 32) (k0_hw133 : k0_chk133 v159) (k0_t10 : Fin (k0_t10_loop v159).trips), ∀ a, (k0_off318 v159 k0_t10) a + S1x1.size a ≤ S8x512.size a := fun v159 k0_hw133 k0_t10 => k0_hw133.2.1 k0_t10
theorem k0_off320_inb : ∀ (v159 : BitVec 32) (k0_hw133 : k0_chk133 v159) (k0_t10 : Fin (k0_t10_loop v159).trips), ∀ a, (k0_off320 v159 k0_t10) a + S1x1.size a ≤ S8x512.size a := fun v159 k0_hw133 k0_t10 => k0_hw133.2.2 k0_t10

def k0_off321 (v529 : BitVec 32) : Fin 3 → Nat :=
  let v530 : Index := Scalar.indexCast v529
  let c0_219 : Index := 0#32
  let c0_220 : Index := 0#32
  ![v530.toNat, 0, 0]

def k0_chk165 (v529 : BitVec 32) : Prop :=
  (∀ a, (k0_off321 v529) a + S1x1x128.size a ≤ S100000x1x128.size a)
theorem k0_off321_inb : ∀ (v529 : BitVec 32) (k0_hw165 : k0_chk165 v529), ∀ a, (k0_off321 v529) a + S1x1x128.size a ≤ S100000x1x128.size a := fun v529 k0_hw165 => k0_hw165

@[reducible] def k0_t11_loop (v196 : BitVec 32) : Scf.Loop 32 :=
  let c0_i32_102 : BitVec 32 := 0#32
  let c15_i32_92 : BitVec 32 := 15#32
  let v197 : BitVec 32 := Scalar.addi v196 c15_i32_92
  let c0_i32_94 : BitVec 32 := 0#32
  let v199 : BitVec 1 := Scalar.cmpi .sgt v197 c0_i32_94
  let v200 : BitVec 32 := Scalar.extui v199
  let c0_i32_95 : BitVec 32 := 0#32
  let v201 : BitVec 1 := Scalar.cmpi .slt v197 c0_i32_95
  let v202 : BitVec 32 := Scalar.extui v201
  let v203 : BitVec 32 := Scalar.subi v200 v202
  let c16_i32_93 : BitVec 32 := 16#32
  let c0_i32_96 : BitVec 32 := 0#32
  let v204 : BitVec 1 := Scalar.cmpi .sgt c16_i32_93 c0_i32_96
  let v205 : BitVec 32 := Scalar.extui v204
  let c0_i32_97 : BitVec 32 := 0#32
  let v206 : BitVec 1 := Scalar.cmpi .slt c16_i32_93 c0_i32_97
  let v207 : BitVec 32 := Scalar.extui v206
  let v208 : BitVec 32 := Scalar.subi v205 v207
  let v209 : BitVec 1 := Scalar.cmpi .ne v203 v208
  let v210 : BitVec 32 := Scalar.remsi v197 c16_i32_93
  let c0_i32_98 : BitVec 32 := 0#32
  let v211 : BitVec 1 := Scalar.cmpi .ne v210 c0_i32_98
  let v212 : BitVec 1 := Scalar.andi v209 v211
  let v198 : BitVec 32 := Scalar.divsi v197 c16_i32_93
  let c1_i32_99 : BitVec 32 := 1#32
  let v213 : BitVec 32 := Scalar.subi v198 c1_i32_99
  let v214 : BitVec 32 := Scalar.select v212 v213 v198
  let v216 : BitVec 32 := Scalar.subi v214 c0_i32_102
  let c1_i32_103 : BitVec 32 := 1#32
  let v218 : BitVec 32 := Scalar.divsi v216 c1_i32_103
  let v219 : BitVec 32 := Scalar.muli v218 c1_i32_103
  let v220 : BitVec 32 := Scalar.addi c0_i32_102 v219
  let c1_i32_104 : BitVec 32 := 1#32
  ⟨c0_i32_102, v220, c1_i32_104⟩

def k0_off322 (v196 : BitVec 32) (k0_t11 : Fin (k0_t11_loop v196).trips) : Fin 2 → Nat :=
  let c5_156 : Index := 5#32
  let c0_i32_102 : BitVec 32 := 0#32
  let c1_i32_104 : BitVec 32 := 1#32
  let arg9 : BitVec 32 := Scf.iv c0_i32_102 c1_i32_104 k0_t11
  let c16_i32_154 : BitVec 32 := 16#32
  let v324 : BitVec 32 := Scalar.muli arg9 c16_i32_154
  let c0_i32_155 : BitVec 32 := 0#32
  let v325 : BitVec 32 := Scalar.addi v324 c0_i32_155
  let v326 : Index := Scalar.indexCast v325
  ![5, v326.toNat]
def k0_off323 (v327 : BitVec 32) : Fin 3 → Nat :=
  let v328 : Index := Scalar.indexCast v327
  let c0_157 : Index := 0#32
  let c0_158 : Index := 0#32
  ![v328.toNat, 0, 0]

def k0_chk167 (v327 : BitVec 32) : Prop :=
  (∀ a, (k0_off323 v327) a + S1x1x128.size a ≤ S100000x1x128.size a)
theorem k0_off323_inb : ∀ (v327 : BitVec 32) (k0_hw167 : k0_chk167 v327), ∀ a, (k0_off323 v327) a + S1x1x128.size a ≤ S100000x1x128.size a := fun v327 k0_hw167 => k0_hw167

def k0_off324 (v196 : BitVec 32) (k0_t11 : Fin (k0_t11_loop v196).trips) : Fin 2 → Nat :=
  let c5_161 : Index := 5#32
  let c0_i32_102 : BitVec 32 := 0#32
  let c1_i32_104 : BitVec 32 := 1#32
  let arg9 : BitVec 32 := Scf.iv c0_i32_102 c1_i32_104 k0_t11
  let c16_i32_154 : BitVec 32 := 16#32
  let v324 : BitVec 32 := Scalar.muli arg9 c16_i32_154
  let c1_i32_160 : BitVec 32 := 1#32
  let v337 : BitVec 32 := Scalar.addi v324 c1_i32_160
  let v338 : Index := Scalar.indexCast v337
  ![5, v338.toNat]
def k0_off325 (v339 : BitVec 32) : Fin 3 → Nat :=
  let v340 : Index := Scalar.indexCast v339
  let c0_162 : Index := 0#32
  let c0_163 : Index := 0#32
  ![v340.toNat, 0, 0]

def k0_chk168 (v339 : BitVec 32) : Prop :=
  (∀ a, (k0_off325 v339) a + S1x1x128.size a ≤ S100000x1x128.size a)
theorem k0_off325_inb : ∀ (v339 : BitVec 32) (k0_hw168 : k0_chk168 v339), ∀ a, (k0_off325 v339) a + S1x1x128.size a ≤ S100000x1x128.size a := fun v339 k0_hw168 => k0_hw168

def k0_off326 (v196 : BitVec 32) (k0_t11 : Fin (k0_t11_loop v196).trips) : Fin 2 → Nat :=
  let c5_165 : Index := 5#32
  let c0_i32_102 : BitVec 32 := 0#32
  let c1_i32_104 : BitVec 32 := 1#32
  let arg9 : BitVec 32 := Scf.iv c0_i32_102 c1_i32_104 k0_t11
  let c16_i32_154 : BitVec 32 := 16#32
  let v324 : BitVec 32 := Scalar.muli arg9 c16_i32_154
  let c2_i32 : BitVec 32 := 2#32
  let v349 : BitVec 32 := Scalar.addi v324 c2_i32
  let v350 : Index := Scalar.indexCast v349
  ![5, v350.toNat]
def k0_off327 (v351 : BitVec 32) : Fin 3 → Nat :=
  let v352 : Index := Scalar.indexCast v351
  let c0_166 : Index := 0#32
  let c0_167 : Index := 0#32
  ![v352.toNat, 0, 0]

def k0_chk169 (v351 : BitVec 32) : Prop :=
  (∀ a, (k0_off327 v351) a + S1x1x128.size a ≤ S100000x1x128.size a)
theorem k0_off327_inb : ∀ (v351 : BitVec 32) (k0_hw169 : k0_chk169 v351), ∀ a, (k0_off327 v351) a + S1x1x128.size a ≤ S100000x1x128.size a := fun v351 k0_hw169 => k0_hw169

def k0_off328 (v196 : BitVec 32) (k0_t11 : Fin (k0_t11_loop v196).trips) : Fin 2 → Nat :=
  let c5_169 : Index := 5#32
  let c0_i32_102 : BitVec 32 := 0#32
  let c1_i32_104 : BitVec 32 := 1#32
  let arg9 : BitVec 32 := Scf.iv c0_i32_102 c1_i32_104 k0_t11
  let c16_i32_154 : BitVec 32 := 16#32
  let v324 : BitVec 32 := Scalar.muli arg9 c16_i32_154
  let c3_i32 : BitVec 32 := 3#32
  let v361 : BitVec 32 := Scalar.addi v324 c3_i32
  let v362 : Index := Scalar.indexCast v361
  ![5, v362.toNat]
def k0_off329 (v363 : BitVec 32) : Fin 3 → Nat :=
  let v364 : Index := Scalar.indexCast v363
  let c0_170 : Index := 0#32
  let c0_171 : Index := 0#32
  ![v364.toNat, 0, 0]

def k0_chk170 (v363 : BitVec 32) : Prop :=
  (∀ a, (k0_off329 v363) a + S1x1x128.size a ≤ S100000x1x128.size a)
theorem k0_off329_inb : ∀ (v363 : BitVec 32) (k0_hw170 : k0_chk170 v363), ∀ a, (k0_off329 v363) a + S1x1x128.size a ≤ S100000x1x128.size a := fun v363 k0_hw170 => k0_hw170

def k0_off330 (v196 : BitVec 32) (k0_t11 : Fin (k0_t11_loop v196).trips) : Fin 2 → Nat :=
  let c5_173 : Index := 5#32
  let c0_i32_102 : BitVec 32 := 0#32
  let c1_i32_104 : BitVec 32 := 1#32
  let arg9 : BitVec 32 := Scf.iv c0_i32_102 c1_i32_104 k0_t11
  let c16_i32_154 : BitVec 32 := 16#32
  let v324 : BitVec 32 := Scalar.muli arg9 c16_i32_154
  let c4_i32 : BitVec 32 := 4#32
  let v373 : BitVec 32 := Scalar.addi v324 c4_i32
  let v374 : Index := Scalar.indexCast v373
  ![5, v374.toNat]
def k0_off331 (v375 : BitVec 32) : Fin 3 → Nat :=
  let v376 : Index := Scalar.indexCast v375
  let c0_174 : Index := 0#32
  let c0_175 : Index := 0#32
  ![v376.toNat, 0, 0]

def k0_chk171 (v375 : BitVec 32) : Prop :=
  (∀ a, (k0_off331 v375) a + S1x1x128.size a ≤ S100000x1x128.size a)
theorem k0_off331_inb : ∀ (v375 : BitVec 32) (k0_hw171 : k0_chk171 v375), ∀ a, (k0_off331 v375) a + S1x1x128.size a ≤ S100000x1x128.size a := fun v375 k0_hw171 => k0_hw171

def k0_off332 (v196 : BitVec 32) (k0_t11 : Fin (k0_t11_loop v196).trips) : Fin 2 → Nat :=
  let c5_177 : Index := 5#32
  let c0_i32_102 : BitVec 32 := 0#32
  let c1_i32_104 : BitVec 32 := 1#32
  let arg9 : BitVec 32 := Scf.iv c0_i32_102 c1_i32_104 k0_t11
  let c16_i32_154 : BitVec 32 := 16#32
  let v324 : BitVec 32 := Scalar.muli arg9 c16_i32_154
  let c5_i32 : BitVec 32 := 5#32
  let v387 : BitVec 32 := Scalar.addi v324 c5_i32
  let v388 : Index := Scalar.indexCast v387
  ![5, v388.toNat]
def k0_off333 (v389 : BitVec 32) : Fin 3 → Nat :=
  let v390 : Index := Scalar.indexCast v389
  let c0_178 : Index := 0#32
  let c0_179 : Index := 0#32
  ![v390.toNat, 0, 0]

def k0_chk172 (v389 : BitVec 32) : Prop :=
  (∀ a, (k0_off333 v389) a + S1x1x128.size a ≤ S100000x1x128.size a)
theorem k0_off333_inb : ∀ (v389 : BitVec 32) (k0_hw172 : k0_chk172 v389), ∀ a, (k0_off333 v389) a + S1x1x128.size a ≤ S100000x1x128.size a := fun v389 k0_hw172 => k0_hw172

def k0_off334 (v196 : BitVec 32) (k0_t11 : Fin (k0_t11_loop v196).trips) : Fin 2 → Nat :=
  let c5_181 : Index := 5#32
  let c0_i32_102 : BitVec 32 := 0#32
  let c1_i32_104 : BitVec 32 := 1#32
  let arg9 : BitVec 32 := Scf.iv c0_i32_102 c1_i32_104 k0_t11
  let c16_i32_154 : BitVec 32 := 16#32
  let v324 : BitVec 32 := Scalar.muli arg9 c16_i32_154
  let c6_i32 : BitVec 32 := 6#32
  let v401 : BitVec 32 := Scalar.addi v324 c6_i32
  let v402 : Index := Scalar.indexCast v401
  ![5, v402.toNat]
def k0_off335 (v403 : BitVec 32) : Fin 3 → Nat :=
  let v404 : Index := Scalar.indexCast v403
  let c0_182 : Index := 0#32
  let c0_183 : Index := 0#32
  ![v404.toNat, 0, 0]

def k0_chk173 (v403 : BitVec 32) : Prop :=
  (∀ a, (k0_off335 v403) a + S1x1x128.size a ≤ S100000x1x128.size a)
theorem k0_off335_inb : ∀ (v403 : BitVec 32) (k0_hw173 : k0_chk173 v403), ∀ a, (k0_off335 v403) a + S1x1x128.size a ≤ S100000x1x128.size a := fun v403 k0_hw173 => k0_hw173

def k0_off336 (v196 : BitVec 32) (k0_t11 : Fin (k0_t11_loop v196).trips) : Fin 2 → Nat :=
  let c5_185 : Index := 5#32
  let c0_i32_102 : BitVec 32 := 0#32
  let c1_i32_104 : BitVec 32 := 1#32
  let arg9 : BitVec 32 := Scf.iv c0_i32_102 c1_i32_104 k0_t11
  let c16_i32_154 : BitVec 32 := 16#32
  let v324 : BitVec 32 := Scalar.muli arg9 c16_i32_154
  let c7_i32 : BitVec 32 := 7#32
  let v415 : BitVec 32 := Scalar.addi v324 c7_i32
  let v416 : Index := Scalar.indexCast v415
  ![5, v416.toNat]
def k0_off337 (v417 : BitVec 32) : Fin 3 → Nat :=
  let v418 : Index := Scalar.indexCast v417
  let c0_186 : Index := 0#32
  let c0_187 : Index := 0#32
  ![v418.toNat, 0, 0]

def k0_chk174 (v417 : BitVec 32) : Prop :=
  (∀ a, (k0_off337 v417) a + S1x1x128.size a ≤ S100000x1x128.size a)
theorem k0_off337_inb : ∀ (v417 : BitVec 32) (k0_hw174 : k0_chk174 v417), ∀ a, (k0_off337 v417) a + S1x1x128.size a ≤ S100000x1x128.size a := fun v417 k0_hw174 => k0_hw174

def k0_off338 (v196 : BitVec 32) (k0_t11 : Fin (k0_t11_loop v196).trips) : Fin 2 → Nat :=
  let c5_189 : Index := 5#32
  let c0_i32_102 : BitVec 32 := 0#32
  let c1_i32_104 : BitVec 32 := 1#32
  let arg9 : BitVec 32 := Scf.iv c0_i32_102 c1_i32_104 k0_t11
  let c16_i32_154 : BitVec 32 := 16#32
  let v324 : BitVec 32 := Scalar.muli arg9 c16_i32_154
  let c8_i32 : BitVec 32 := 8#32
  let v429 : BitVec 32 := Scalar.addi v324 c8_i32
  let v430 : Index := Scalar.indexCast v429
  ![5, v430.toNat]
def k0_off339 (v431 : BitVec 32) : Fin 3 → Nat :=
  let v432 : Index := Scalar.indexCast v431
  let c0_190 : Index := 0#32
  let c0_191 : Index := 0#32
  ![v432.toNat, 0, 0]

def k0_chk175 (v431 : BitVec 32) : Prop :=
  (∀ a, (k0_off339 v431) a + S1x1x128.size a ≤ S100000x1x128.size a)
theorem k0_off339_inb : ∀ (v431 : BitVec 32) (k0_hw175 : k0_chk175 v431), ∀ a, (k0_off339 v431) a + S1x1x128.size a ≤ S100000x1x128.size a := fun v431 k0_hw175 => k0_hw175

def k0_off340 (v196 : BitVec 32) (k0_t11 : Fin (k0_t11_loop v196).trips) : Fin 2 → Nat :=
  let c5_193 : Index := 5#32
  let c0_i32_102 : BitVec 32 := 0#32
  let c1_i32_104 : BitVec 32 := 1#32
  let arg9 : BitVec 32 := Scf.iv c0_i32_102 c1_i32_104 k0_t11
  let c16_i32_154 : BitVec 32 := 16#32
  let v324 : BitVec 32 := Scalar.muli arg9 c16_i32_154
  let c9_i32 : BitVec 32 := 9#32
  let v443 : BitVec 32 := Scalar.addi v324 c9_i32
  let v444 : Index := Scalar.indexCast v443
  ![5, v444.toNat]
def k0_off341 (v445 : BitVec 32) : Fin 3 → Nat :=
  let v446 : Index := Scalar.indexCast v445
  let c0_194 : Index := 0#32
  let c0_195 : Index := 0#32
  ![v446.toNat, 0, 0]

def k0_chk176 (v445 : BitVec 32) : Prop :=
  (∀ a, (k0_off341 v445) a + S1x1x128.size a ≤ S100000x1x128.size a)
theorem k0_off341_inb : ∀ (v445 : BitVec 32) (k0_hw176 : k0_chk176 v445), ∀ a, (k0_off341 v445) a + S1x1x128.size a ≤ S100000x1x128.size a := fun v445 k0_hw176 => k0_hw176

def k0_off342 (v196 : BitVec 32) (k0_t11 : Fin (k0_t11_loop v196).trips) : Fin 2 → Nat :=
  let c5_197 : Index := 5#32
  let c0_i32_102 : BitVec 32 := 0#32
  let c1_i32_104 : BitVec 32 := 1#32
  let arg9 : BitVec 32 := Scf.iv c0_i32_102 c1_i32_104 k0_t11
  let c16_i32_154 : BitVec 32 := 16#32
  let v324 : BitVec 32 := Scalar.muli arg9 c16_i32_154
  let c10_i32 : BitVec 32 := 10#32
  let v457 : BitVec 32 := Scalar.addi v324 c10_i32
  let v458 : Index := Scalar.indexCast v457
  ![5, v458.toNat]
def k0_off343 (v459 : BitVec 32) : Fin 3 → Nat :=
  let v460 : Index := Scalar.indexCast v459
  let c0_198 : Index := 0#32
  let c0_199 : Index := 0#32
  ![v460.toNat, 0, 0]

def k0_chk177 (v459 : BitVec 32) : Prop :=
  (∀ a, (k0_off343 v459) a + S1x1x128.size a ≤ S100000x1x128.size a)
theorem k0_off343_inb : ∀ (v459 : BitVec 32) (k0_hw177 : k0_chk177 v459), ∀ a, (k0_off343 v459) a + S1x1x128.size a ≤ S100000x1x128.size a := fun v459 k0_hw177 => k0_hw177

def k0_off344 (v196 : BitVec 32) (k0_t11 : Fin (k0_t11_loop v196).trips) : Fin 2 → Nat :=
  let c5_201 : Index := 5#32
  let c0_i32_102 : BitVec 32 := 0#32
  let c1_i32_104 : BitVec 32 := 1#32
  let arg9 : BitVec 32 := Scf.iv c0_i32_102 c1_i32_104 k0_t11
  let c16_i32_154 : BitVec 32 := 16#32
  let v324 : BitVec 32 := Scalar.muli arg9 c16_i32_154
  let c11_i32 : BitVec 32 := 11#32
  let v471 : BitVec 32 := Scalar.addi v324 c11_i32
  let v472 : Index := Scalar.indexCast v471
  ![5, v472.toNat]
def k0_off345 (v473 : BitVec 32) : Fin 3 → Nat :=
  let v474 : Index := Scalar.indexCast v473
  let c0_202 : Index := 0#32
  let c0_203 : Index := 0#32
  ![v474.toNat, 0, 0]

def k0_chk178 (v473 : BitVec 32) : Prop :=
  (∀ a, (k0_off345 v473) a + S1x1x128.size a ≤ S100000x1x128.size a)
theorem k0_off345_inb : ∀ (v473 : BitVec 32) (k0_hw178 : k0_chk178 v473), ∀ a, (k0_off345 v473) a + S1x1x128.size a ≤ S100000x1x128.size a := fun v473 k0_hw178 => k0_hw178

def k0_off346 (v196 : BitVec 32) (k0_t11 : Fin (k0_t11_loop v196).trips) : Fin 2 → Nat :=
  let c5_205 : Index := 5#32
  let c0_i32_102 : BitVec 32 := 0#32
  let c1_i32_104 : BitVec 32 := 1#32
  let arg9 : BitVec 32 := Scf.iv c0_i32_102 c1_i32_104 k0_t11
  let c16_i32_154 : BitVec 32 := 16#32
  let v324 : BitVec 32 := Scalar.muli arg9 c16_i32_154
  let c12_i32 : BitVec 32 := 12#32
  let v485 : BitVec 32 := Scalar.addi v324 c12_i32
  let v486 : Index := Scalar.indexCast v485
  ![5, v486.toNat]
def k0_off347 (v487 : BitVec 32) : Fin 3 → Nat :=
  let v488 : Index := Scalar.indexCast v487
  let c0_206 : Index := 0#32
  let c0_207 : Index := 0#32
  ![v488.toNat, 0, 0]

def k0_chk179 (v487 : BitVec 32) : Prop :=
  (∀ a, (k0_off347 v487) a + S1x1x128.size a ≤ S100000x1x128.size a)
theorem k0_off347_inb : ∀ (v487 : BitVec 32) (k0_hw179 : k0_chk179 v487), ∀ a, (k0_off347 v487) a + S1x1x128.size a ≤ S100000x1x128.size a := fun v487 k0_hw179 => k0_hw179

def k0_off348 (v196 : BitVec 32) (k0_t11 : Fin (k0_t11_loop v196).trips) : Fin 2 → Nat :=
  let c5_209 : Index := 5#32
  let c0_i32_102 : BitVec 32 := 0#32
  let c1_i32_104 : BitVec 32 := 1#32
  let arg9 : BitVec 32 := Scf.iv c0_i32_102 c1_i32_104 k0_t11
  let c16_i32_154 : BitVec 32 := 16#32
  let v324 : BitVec 32 := Scalar.muli arg9 c16_i32_154
  let c13_i32 : BitVec 32 := 13#32
  let v499 : BitVec 32 := Scalar.addi v324 c13_i32
  let v500 : Index := Scalar.indexCast v499
  ![5, v500.toNat]
def k0_off349 (v501 : BitVec 32) : Fin 3 → Nat :=
  let v502 : Index := Scalar.indexCast v501
  let c0_210 : Index := 0#32
  let c0_211 : Index := 0#32
  ![v502.toNat, 0, 0]

def k0_chk180 (v501 : BitVec 32) : Prop :=
  (∀ a, (k0_off349 v501) a + S1x1x128.size a ≤ S100000x1x128.size a)
theorem k0_off349_inb : ∀ (v501 : BitVec 32) (k0_hw180 : k0_chk180 v501), ∀ a, (k0_off349 v501) a + S1x1x128.size a ≤ S100000x1x128.size a := fun v501 k0_hw180 => k0_hw180

def k0_off350 (v196 : BitVec 32) (k0_t11 : Fin (k0_t11_loop v196).trips) : Fin 2 → Nat :=
  let c5_213 : Index := 5#32
  let c0_i32_102 : BitVec 32 := 0#32
  let c1_i32_104 : BitVec 32 := 1#32
  let arg9 : BitVec 32 := Scf.iv c0_i32_102 c1_i32_104 k0_t11
  let c16_i32_154 : BitVec 32 := 16#32
  let v324 : BitVec 32 := Scalar.muli arg9 c16_i32_154
  let c14_i32 : BitVec 32 := 14#32
  let v513 : BitVec 32 := Scalar.addi v324 c14_i32
  let v514 : Index := Scalar.indexCast v513
  ![5, v514.toNat]
def k0_off351 (v515 : BitVec 32) : Fin 3 → Nat :=
  let v516 : Index := Scalar.indexCast v515
  let c0_214 : Index := 0#32
  let c0_215 : Index := 0#32
  ![v516.toNat, 0, 0]

def k0_chk181 (v515 : BitVec 32) : Prop :=
  (∀ a, (k0_off351 v515) a + S1x1x128.size a ≤ S100000x1x128.size a)
theorem k0_off351_inb : ∀ (v515 : BitVec 32) (k0_hw181 : k0_chk181 v515), ∀ a, (k0_off351 v515) a + S1x1x128.size a ≤ S100000x1x128.size a := fun v515 k0_hw181 => k0_hw181

def k0_off352 (v196 : BitVec 32) (k0_t11 : Fin (k0_t11_loop v196).trips) : Fin 2 → Nat :=
  let c5_218 : Index := 5#32
  let c0_i32_102 : BitVec 32 := 0#32
  let c1_i32_104 : BitVec 32 := 1#32
  let arg9 : BitVec 32 := Scf.iv c0_i32_102 c1_i32_104 k0_t11
  let c16_i32_154 : BitVec 32 := 16#32
  let v324 : BitVec 32 := Scalar.muli arg9 c16_i32_154
  let c15_i32_217 : BitVec 32 := 15#32
  let v527 : BitVec 32 := Scalar.addi v324 c15_i32_217
  let v528 : Index := Scalar.indexCast v527
  ![5, v528.toNat]
def k0_off353 (v529 : BitVec 32) : Fin 3 → Nat :=
  let v530 : Index := Scalar.indexCast v529
  let c0_219 : Index := 0#32
  let c0_220 : Index := 0#32
  ![v530.toNat, 0, 0]

def k0_chk182 (v529 : BitVec 32) : Prop :=
  (∀ a, (k0_off353 v529) a + S1x1x128.size a ≤ S100000x1x128.size a)
theorem k0_off353_inb : ∀ (v529 : BitVec 32) (k0_hw182 : k0_chk182 v529), ∀ a, (k0_off353 v529) a + S1x1x128.size a ≤ S100000x1x128.size a := fun v529 k0_hw182 => k0_hw182

@[reducible] def k0_t12_loop (v196 : BitVec 32) : Scf.Loop 32 :=
  let c0_i32_102 : BitVec 32 := 0#32
  let c15_i32_92 : BitVec 32 := 15#32
  let v197 : BitVec 32 := Scalar.addi v196 c15_i32_92
  let c0_i32_94 : BitVec 32 := 0#32
  let v199 : BitVec 1 := Scalar.cmpi .sgt v197 c0_i32_94
  let v200 : BitVec 32 := Scalar.extui v199
  let c0_i32_95 : BitVec 32 := 0#32
  let v201 : BitVec 1 := Scalar.cmpi .slt v197 c0_i32_95
  let v202 : BitVec 32 := Scalar.extui v201
  let v203 : BitVec 32 := Scalar.subi v200 v202
  let c16_i32_93 : BitVec 32 := 16#32
  let c0_i32_96 : BitVec 32 := 0#32
  let v204 : BitVec 1 := Scalar.cmpi .sgt c16_i32_93 c0_i32_96
  let v205 : BitVec 32 := Scalar.extui v204
  let c0_i32_97 : BitVec 32 := 0#32
  let v206 : BitVec 1 := Scalar.cmpi .slt c16_i32_93 c0_i32_97
  let v207 : BitVec 32 := Scalar.extui v206
  let v208 : BitVec 32 := Scalar.subi v205 v207
  let v209 : BitVec 1 := Scalar.cmpi .ne v203 v208
  let v210 : BitVec 32 := Scalar.remsi v197 c16_i32_93
  let c0_i32_98 : BitVec 32 := 0#32
  let v211 : BitVec 1 := Scalar.cmpi .ne v210 c0_i32_98
  let v212 : BitVec 1 := Scalar.andi v209 v211
  let v198 : BitVec 32 := Scalar.divsi v197 c16_i32_93
  let c1_i32_99 : BitVec 32 := 1#32
  let v213 : BitVec 32 := Scalar.subi v198 c1_i32_99
  let v214 : BitVec 32 := Scalar.select v212 v213 v198
  let v216 : BitVec 32 := Scalar.subi v214 c0_i32_102
  let c1_i32_103 : BitVec 32 := 1#32
  let v218 : BitVec 32 := Scalar.divsi v216 c1_i32_103
  let v219 : BitVec 32 := Scalar.muli v218 c1_i32_103
  let v220 : BitVec 32 := Scalar.addi c0_i32_102 v219
  let v217 : BitVec 32 := Scalar.addi c0_i32_102 v216
  let c1_i32_105 : BitVec 32 := 1#32
  ⟨v220, v217, c1_i32_105⟩
def k0_off354 (v196 : BitVec 32) (k0_t12 : Fin (k0_t12_loop v196).trips) : Fin 2 → Nat :=
  let c5_156 : Index := 5#32
  let c0_i32_102 : BitVec 32 := 0#32
  let c15_i32_92 : BitVec 32 := 15#32
  let v197 : BitVec 32 := Scalar.addi v196 c15_i32_92
  let c0_i32_94 : BitVec 32 := 0#32
  let v199 : BitVec 1 := Scalar.cmpi .sgt v197 c0_i32_94
  let v200 : BitVec 32 := Scalar.extui v199
  let c0_i32_95 : BitVec 32 := 0#32
  let v201 : BitVec 1 := Scalar.cmpi .slt v197 c0_i32_95
  let v202 : BitVec 32 := Scalar.extui v201
  let v203 : BitVec 32 := Scalar.subi v200 v202
  let c16_i32_93 : BitVec 32 := 16#32
  let c0_i32_96 : BitVec 32 := 0#32
  let v204 : BitVec 1 := Scalar.cmpi .sgt c16_i32_93 c0_i32_96
  let v205 : BitVec 32 := Scalar.extui v204
  let c0_i32_97 : BitVec 32 := 0#32
  let v206 : BitVec 1 := Scalar.cmpi .slt c16_i32_93 c0_i32_97
  let v207 : BitVec 32 := Scalar.extui v206
  let v208 : BitVec 32 := Scalar.subi v205 v207
  let v209 : BitVec 1 := Scalar.cmpi .ne v203 v208
  let v210 : BitVec 32 := Scalar.remsi v197 c16_i32_93
  let c0_i32_98 : BitVec 32 := 0#32
  let v211 : BitVec 1 := Scalar.cmpi .ne v210 c0_i32_98
  let v212 : BitVec 1 := Scalar.andi v209 v211
  let v198 : BitVec 32 := Scalar.divsi v197 c16_i32_93
  let c1_i32_99 : BitVec 32 := 1#32
  let v213 : BitVec 32 := Scalar.subi v198 c1_i32_99
  let v214 : BitVec 32 := Scalar.select v212 v213 v198
  let v216 : BitVec 32 := Scalar.subi v214 c0_i32_102
  let c1_i32_103 : BitVec 32 := 1#32
  let v218 : BitVec 32 := Scalar.divsi v216 c1_i32_103
  let v219 : BitVec 32 := Scalar.muli v218 c1_i32_103
  let v220 : BitVec 32 := Scalar.addi c0_i32_102 v219
  let c1_i32_105 : BitVec 32 := 1#32
  let arg9 : BitVec 32 := Scf.iv v220 c1_i32_105 k0_t12
  let c16_i32_154 : BitVec 32 := 16#32
  let v324 : BitVec 32 := Scalar.muli arg9 c16_i32_154
  let c0_i32_155 : BitVec 32 := 0#32
  let v325 : BitVec 32 := Scalar.addi v324 c0_i32_155
  let v326 : Index := Scalar.indexCast v325
  ![5, v326.toNat]
def k0_off355 (v327 : BitVec 32) : Fin 3 → Nat :=
  let v328 : Index := Scalar.indexCast v327
  let c0_157 : Index := 0#32
  let c0_158 : Index := 0#32
  ![v328.toNat, 0, 0]

def k0_chk183 (v327 : BitVec 32) : Prop :=
  (∀ a, (k0_off355 v327) a + S1x1x128.size a ≤ S100000x1x128.size a)
theorem k0_off355_inb : ∀ (v327 : BitVec 32) (k0_hw183 : k0_chk183 v327), ∀ a, (k0_off355 v327) a + S1x1x128.size a ≤ S100000x1x128.size a := fun v327 k0_hw183 => k0_hw183

def k0_off356 (v196 : BitVec 32) (k0_t12 : Fin (k0_t12_loop v196).trips) : Fin 2 → Nat :=
  let c5_161 : Index := 5#32
  let c0_i32_102 : BitVec 32 := 0#32
  let c15_i32_92 : BitVec 32 := 15#32
  let v197 : BitVec 32 := Scalar.addi v196 c15_i32_92
  let c0_i32_94 : BitVec 32 := 0#32
  let v199 : BitVec 1 := Scalar.cmpi .sgt v197 c0_i32_94
  let v200 : BitVec 32 := Scalar.extui v199
  let c0_i32_95 : BitVec 32 := 0#32
  let v201 : BitVec 1 := Scalar.cmpi .slt v197 c0_i32_95
  let v202 : BitVec 32 := Scalar.extui v201
  let v203 : BitVec 32 := Scalar.subi v200 v202
  let c16_i32_93 : BitVec 32 := 16#32
  let c0_i32_96 : BitVec 32 := 0#32
  let v204 : BitVec 1 := Scalar.cmpi .sgt c16_i32_93 c0_i32_96
  let v205 : BitVec 32 := Scalar.extui v204
  let c0_i32_97 : BitVec 32 := 0#32
  let v206 : BitVec 1 := Scalar.cmpi .slt c16_i32_93 c0_i32_97
  let v207 : BitVec 32 := Scalar.extui v206
  let v208 : BitVec 32 := Scalar.subi v205 v207
  let v209 : BitVec 1 := Scalar.cmpi .ne v203 v208
  let v210 : BitVec 32 := Scalar.remsi v197 c16_i32_93
  let c0_i32_98 : BitVec 32 := 0#32
  let v211 : BitVec 1 := Scalar.cmpi .ne v210 c0_i32_98
  let v212 : BitVec 1 := Scalar.andi v209 v211
  let v198 : BitVec 32 := Scalar.divsi v197 c16_i32_93
  let c1_i32_99 : BitVec 32 := 1#32
  let v213 : BitVec 32 := Scalar.subi v198 c1_i32_99
  let v214 : BitVec 32 := Scalar.select v212 v213 v198
  let v216 : BitVec 32 := Scalar.subi v214 c0_i32_102
  let c1_i32_103 : BitVec 32 := 1#32
  let v218 : BitVec 32 := Scalar.divsi v216 c1_i32_103
  let v219 : BitVec 32 := Scalar.muli v218 c1_i32_103
  let v220 : BitVec 32 := Scalar.addi c0_i32_102 v219
  let c1_i32_105 : BitVec 32 := 1#32
  let arg9 : BitVec 32 := Scf.iv v220 c1_i32_105 k0_t12
  let c16_i32_154 : BitVec 32 := 16#32
  let v324 : BitVec 32 := Scalar.muli arg9 c16_i32_154
  let c1_i32_160 : BitVec 32 := 1#32
  let v337 : BitVec 32 := Scalar.addi v324 c1_i32_160
  let v338 : Index := Scalar.indexCast v337
  ![5, v338.toNat]
def k0_off357 (v339 : BitVec 32) : Fin 3 → Nat :=
  let v340 : Index := Scalar.indexCast v339
  let c0_162 : Index := 0#32
  let c0_163 : Index := 0#32
  ![v340.toNat, 0, 0]

def k0_chk184 (v339 : BitVec 32) : Prop :=
  (∀ a, (k0_off357 v339) a + S1x1x128.size a ≤ S100000x1x128.size a)
theorem k0_off357_inb : ∀ (v339 : BitVec 32) (k0_hw184 : k0_chk184 v339), ∀ a, (k0_off357 v339) a + S1x1x128.size a ≤ S100000x1x128.size a := fun v339 k0_hw184 => k0_hw184

def k0_off358 (v196 : BitVec 32) (k0_t12 : Fin (k0_t12_loop v196).trips) : Fin 2 → Nat :=
  let c5_165 : Index := 5#32
  let c0_i32_102 : BitVec 32 := 0#32
  let c15_i32_92 : BitVec 32 := 15#32
  let v197 : BitVec 32 := Scalar.addi v196 c15_i32_92
  let c0_i32_94 : BitVec 32 := 0#32
  let v199 : BitVec 1 := Scalar.cmpi .sgt v197 c0_i32_94
  let v200 : BitVec 32 := Scalar.extui v199
  let c0_i32_95 : BitVec 32 := 0#32
  let v201 : BitVec 1 := Scalar.cmpi .slt v197 c0_i32_95
  let v202 : BitVec 32 := Scalar.extui v201
  let v203 : BitVec 32 := Scalar.subi v200 v202
  let c16_i32_93 : BitVec 32 := 16#32
  let c0_i32_96 : BitVec 32 := 0#32
  let v204 : BitVec 1 := Scalar.cmpi .sgt c16_i32_93 c0_i32_96
  let v205 : BitVec 32 := Scalar.extui v204
  let c0_i32_97 : BitVec 32 := 0#32
  let v206 : BitVec 1 := Scalar.cmpi .slt c16_i32_93 c0_i32_97
  let v207 : BitVec 32 := Scalar.extui v206
  let v208 : BitVec 32 := Scalar.subi v205 v207
  let v209 : BitVec 1 := Scalar.cmpi .ne v203 v208
  let v210 : BitVec 32 := Scalar.remsi v197 c16_i32_93
  let c0_i32_98 : BitVec 32 := 0#32
  let v211 : BitVec 1 := Scalar.cmpi .ne v210 c0_i32_98
  let v212 : BitVec 1 := Scalar.andi v209 v211
  let v198 : BitVec 32 := Scalar.divsi v197 c16_i32_93
  let c1_i32_99 : BitVec 32 := 1#32
  let v213 : BitVec 32 := Scalar.subi v198 c1_i32_99
  let v214 : BitVec 32 := Scalar.select v212 v213 v198
  let v216 : BitVec 32 := Scalar.subi v214 c0_i32_102
  let c1_i32_103 : BitVec 32 := 1#32
  let v218 : BitVec 32 := Scalar.divsi v216 c1_i32_103
  let v219 : BitVec 32 := Scalar.muli v218 c1_i32_103
  let v220 : BitVec 32 := Scalar.addi c0_i32_102 v219
  let c1_i32_105 : BitVec 32 := 1#32
  let arg9 : BitVec 32 := Scf.iv v220 c1_i32_105 k0_t12
  let c16_i32_154 : BitVec 32 := 16#32
  let v324 : BitVec 32 := Scalar.muli arg9 c16_i32_154
  let c2_i32 : BitVec 32 := 2#32
  let v349 : BitVec 32 := Scalar.addi v324 c2_i32
  let v350 : Index := Scalar.indexCast v349
  ![5, v350.toNat]
def k0_off359 (v351 : BitVec 32) : Fin 3 → Nat :=
  let v352 : Index := Scalar.indexCast v351
  let c0_166 : Index := 0#32
  let c0_167 : Index := 0#32
  ![v352.toNat, 0, 0]

def k0_chk185 (v351 : BitVec 32) : Prop :=
  (∀ a, (k0_off359 v351) a + S1x1x128.size a ≤ S100000x1x128.size a)
theorem k0_off359_inb : ∀ (v351 : BitVec 32) (k0_hw185 : k0_chk185 v351), ∀ a, (k0_off359 v351) a + S1x1x128.size a ≤ S100000x1x128.size a := fun v351 k0_hw185 => k0_hw185

def k0_off360 (v196 : BitVec 32) (k0_t12 : Fin (k0_t12_loop v196).trips) : Fin 2 → Nat :=
  let c5_169 : Index := 5#32
  let c0_i32_102 : BitVec 32 := 0#32
  let c15_i32_92 : BitVec 32 := 15#32
  let v197 : BitVec 32 := Scalar.addi v196 c15_i32_92
  let c0_i32_94 : BitVec 32 := 0#32
  let v199 : BitVec 1 := Scalar.cmpi .sgt v197 c0_i32_94
  let v200 : BitVec 32 := Scalar.extui v199
  let c0_i32_95 : BitVec 32 := 0#32
  let v201 : BitVec 1 := Scalar.cmpi .slt v197 c0_i32_95
  let v202 : BitVec 32 := Scalar.extui v201
  let v203 : BitVec 32 := Scalar.subi v200 v202
  let c16_i32_93 : BitVec 32 := 16#32
  let c0_i32_96 : BitVec 32 := 0#32
  let v204 : BitVec 1 := Scalar.cmpi .sgt c16_i32_93 c0_i32_96
  let v205 : BitVec 32 := Scalar.extui v204
  let c0_i32_97 : BitVec 32 := 0#32
  let v206 : BitVec 1 := Scalar.cmpi .slt c16_i32_93 c0_i32_97
  let v207 : BitVec 32 := Scalar.extui v206
  let v208 : BitVec 32 := Scalar.subi v205 v207
  let v209 : BitVec 1 := Scalar.cmpi .ne v203 v208
  let v210 : BitVec 32 := Scalar.remsi v197 c16_i32_93
  let c0_i32_98 : BitVec 32 := 0#32
  let v211 : BitVec 1 := Scalar.cmpi .ne v210 c0_i32_98
  let v212 : BitVec 1 := Scalar.andi v209 v211
  let v198 : BitVec 32 := Scalar.divsi v197 c16_i32_93
  let c1_i32_99 : BitVec 32 := 1#32
  let v213 : BitVec 32 := Scalar.subi v198 c1_i32_99
  let v214 : BitVec 32 := Scalar.select v212 v213 v198
  let v216 : BitVec 32 := Scalar.subi v214 c0_i32_102
  let c1_i32_103 : BitVec 32 := 1#32
  let v218 : BitVec 32 := Scalar.divsi v216 c1_i32_103
  let v219 : BitVec 32 := Scalar.muli v218 c1_i32_103
  let v220 : BitVec 32 := Scalar.addi c0_i32_102 v219
  let c1_i32_105 : BitVec 32 := 1#32
  let arg9 : BitVec 32 := Scf.iv v220 c1_i32_105 k0_t12
  let c16_i32_154 : BitVec 32 := 16#32
  let v324 : BitVec 32 := Scalar.muli arg9 c16_i32_154
  let c3_i32 : BitVec 32 := 3#32
  let v361 : BitVec 32 := Scalar.addi v324 c3_i32
  let v362 : Index := Scalar.indexCast v361
  ![5, v362.toNat]
def k0_off361 (v363 : BitVec 32) : Fin 3 → Nat :=
  let v364 : Index := Scalar.indexCast v363
  let c0_170 : Index := 0#32
  let c0_171 : Index := 0#32
  ![v364.toNat, 0, 0]

def k0_chk186 (v363 : BitVec 32) : Prop :=
  (∀ a, (k0_off361 v363) a + S1x1x128.size a ≤ S100000x1x128.size a)
theorem k0_off361_inb : ∀ (v363 : BitVec 32) (k0_hw186 : k0_chk186 v363), ∀ a, (k0_off361 v363) a + S1x1x128.size a ≤ S100000x1x128.size a := fun v363 k0_hw186 => k0_hw186

def k0_off362 (v196 : BitVec 32) (k0_t12 : Fin (k0_t12_loop v196).trips) : Fin 2 → Nat :=
  let c5_173 : Index := 5#32
  let c0_i32_102 : BitVec 32 := 0#32
  let c15_i32_92 : BitVec 32 := 15#32
  let v197 : BitVec 32 := Scalar.addi v196 c15_i32_92
  let c0_i32_94 : BitVec 32 := 0#32
  let v199 : BitVec 1 := Scalar.cmpi .sgt v197 c0_i32_94
  let v200 : BitVec 32 := Scalar.extui v199
  let c0_i32_95 : BitVec 32 := 0#32
  let v201 : BitVec 1 := Scalar.cmpi .slt v197 c0_i32_95
  let v202 : BitVec 32 := Scalar.extui v201
  let v203 : BitVec 32 := Scalar.subi v200 v202
  let c16_i32_93 : BitVec 32 := 16#32
  let c0_i32_96 : BitVec 32 := 0#32
  let v204 : BitVec 1 := Scalar.cmpi .sgt c16_i32_93 c0_i32_96
  let v205 : BitVec 32 := Scalar.extui v204
  let c0_i32_97 : BitVec 32 := 0#32
  let v206 : BitVec 1 := Scalar.cmpi .slt c16_i32_93 c0_i32_97
  let v207 : BitVec 32 := Scalar.extui v206
  let v208 : BitVec 32 := Scalar.subi v205 v207
  let v209 : BitVec 1 := Scalar.cmpi .ne v203 v208
  let v210 : BitVec 32 := Scalar.remsi v197 c16_i32_93
  let c0_i32_98 : BitVec 32 := 0#32
  let v211 : BitVec 1 := Scalar.cmpi .ne v210 c0_i32_98
  let v212 : BitVec 1 := Scalar.andi v209 v211
  let v198 : BitVec 32 := Scalar.divsi v197 c16_i32_93
  let c1_i32_99 : BitVec 32 := 1#32
  let v213 : BitVec 32 := Scalar.subi v198 c1_i32_99
  let v214 : BitVec 32 := Scalar.select v212 v213 v198
  let v216 : BitVec 32 := Scalar.subi v214 c0_i32_102
  let c1_i32_103 : BitVec 32 := 1#32
  let v218 : BitVec 32 := Scalar.divsi v216 c1_i32_103
  let v219 : BitVec 32 := Scalar.muli v218 c1_i32_103
  let v220 : BitVec 32 := Scalar.addi c0_i32_102 v219
  let c1_i32_105 : BitVec 32 := 1#32
  let arg9 : BitVec 32 := Scf.iv v220 c1_i32_105 k0_t12
  let c16_i32_154 : BitVec 32 := 16#32
  let v324 : BitVec 32 := Scalar.muli arg9 c16_i32_154
  let c4_i32 : BitVec 32 := 4#32
  let v373 : BitVec 32 := Scalar.addi v324 c4_i32
  let v374 : Index := Scalar.indexCast v373
  ![5, v374.toNat]
def k0_off363 (v375 : BitVec 32) : Fin 3 → Nat :=
  let v376 : Index := Scalar.indexCast v375
  let c0_174 : Index := 0#32
  let c0_175 : Index := 0#32
  ![v376.toNat, 0, 0]

def k0_chk187 (v375 : BitVec 32) : Prop :=
  (∀ a, (k0_off363 v375) a + S1x1x128.size a ≤ S100000x1x128.size a)
theorem k0_off363_inb : ∀ (v375 : BitVec 32) (k0_hw187 : k0_chk187 v375), ∀ a, (k0_off363 v375) a + S1x1x128.size a ≤ S100000x1x128.size a := fun v375 k0_hw187 => k0_hw187

def k0_off364 (v196 : BitVec 32) (k0_t12 : Fin (k0_t12_loop v196).trips) : Fin 2 → Nat :=
  let c5_177 : Index := 5#32
  let c0_i32_102 : BitVec 32 := 0#32
  let c15_i32_92 : BitVec 32 := 15#32
  let v197 : BitVec 32 := Scalar.addi v196 c15_i32_92
  let c0_i32_94 : BitVec 32 := 0#32
  let v199 : BitVec 1 := Scalar.cmpi .sgt v197 c0_i32_94
  let v200 : BitVec 32 := Scalar.extui v199
  let c0_i32_95 : BitVec 32 := 0#32
  let v201 : BitVec 1 := Scalar.cmpi .slt v197 c0_i32_95
  let v202 : BitVec 32 := Scalar.extui v201
  let v203 : BitVec 32 := Scalar.subi v200 v202
  let c16_i32_93 : BitVec 32 := 16#32
  let c0_i32_96 : BitVec 32 := 0#32
  let v204 : BitVec 1 := Scalar.cmpi .sgt c16_i32_93 c0_i32_96
  let v205 : BitVec 32 := Scalar.extui v204
  let c0_i32_97 : BitVec 32 := 0#32
  let v206 : BitVec 1 := Scalar.cmpi .slt c16_i32_93 c0_i32_97
  let v207 : BitVec 32 := Scalar.extui v206
  let v208 : BitVec 32 := Scalar.subi v205 v207
  let v209 : BitVec 1 := Scalar.cmpi .ne v203 v208
  let v210 : BitVec 32 := Scalar.remsi v197 c16_i32_93
  let c0_i32_98 : BitVec 32 := 0#32
  let v211 : BitVec 1 := Scalar.cmpi .ne v210 c0_i32_98
  let v212 : BitVec 1 := Scalar.andi v209 v211
  let v198 : BitVec 32 := Scalar.divsi v197 c16_i32_93
  let c1_i32_99 : BitVec 32 := 1#32
  let v213 : BitVec 32 := Scalar.subi v198 c1_i32_99
  let v214 : BitVec 32 := Scalar.select v212 v213 v198
  let v216 : BitVec 32 := Scalar.subi v214 c0_i32_102
  let c1_i32_103 : BitVec 32 := 1#32
  let v218 : BitVec 32 := Scalar.divsi v216 c1_i32_103
  let v219 : BitVec 32 := Scalar.muli v218 c1_i32_103
  let v220 : BitVec 32 := Scalar.addi c0_i32_102 v219
  let c1_i32_105 : BitVec 32 := 1#32
  let arg9 : BitVec 32 := Scf.iv v220 c1_i32_105 k0_t12
  let c16_i32_154 : BitVec 32 := 16#32
  let v324 : BitVec 32 := Scalar.muli arg9 c16_i32_154
  let c5_i32 : BitVec 32 := 5#32
  let v387 : BitVec 32 := Scalar.addi v324 c5_i32
  let v388 : Index := Scalar.indexCast v387
  ![5, v388.toNat]
def k0_off365 (v389 : BitVec 32) : Fin 3 → Nat :=
  let v390 : Index := Scalar.indexCast v389
  let c0_178 : Index := 0#32
  let c0_179 : Index := 0#32
  ![v390.toNat, 0, 0]

def k0_chk188 (v389 : BitVec 32) : Prop :=
  (∀ a, (k0_off365 v389) a + S1x1x128.size a ≤ S100000x1x128.size a)
theorem k0_off365_inb : ∀ (v389 : BitVec 32) (k0_hw188 : k0_chk188 v389), ∀ a, (k0_off365 v389) a + S1x1x128.size a ≤ S100000x1x128.size a := fun v389 k0_hw188 => k0_hw188

def k0_off366 (v196 : BitVec 32) (k0_t12 : Fin (k0_t12_loop v196).trips) : Fin 2 → Nat :=
  let c5_181 : Index := 5#32
  let c0_i32_102 : BitVec 32 := 0#32
  let c15_i32_92 : BitVec 32 := 15#32
  let v197 : BitVec 32 := Scalar.addi v196 c15_i32_92
  let c0_i32_94 : BitVec 32 := 0#32
  let v199 : BitVec 1 := Scalar.cmpi .sgt v197 c0_i32_94
  let v200 : BitVec 32 := Scalar.extui v199
  let c0_i32_95 : BitVec 32 := 0#32
  let v201 : BitVec 1 := Scalar.cmpi .slt v197 c0_i32_95
  let v202 : BitVec 32 := Scalar.extui v201
  let v203 : BitVec 32 := Scalar.subi v200 v202
  let c16_i32_93 : BitVec 32 := 16#32
  let c0_i32_96 : BitVec 32 := 0#32
  let v204 : BitVec 1 := Scalar.cmpi .sgt c16_i32_93 c0_i32_96
  let v205 : BitVec 32 := Scalar.extui v204
  let c0_i32_97 : BitVec 32 := 0#32
  let v206 : BitVec 1 := Scalar.cmpi .slt c16_i32_93 c0_i32_97
  let v207 : BitVec 32 := Scalar.extui v206
  let v208 : BitVec 32 := Scalar.subi v205 v207
  let v209 : BitVec 1 := Scalar.cmpi .ne v203 v208
  let v210 : BitVec 32 := Scalar.remsi v197 c16_i32_93
  let c0_i32_98 : BitVec 32 := 0#32
  let v211 : BitVec 1 := Scalar.cmpi .ne v210 c0_i32_98
  let v212 : BitVec 1 := Scalar.andi v209 v211
  let v198 : BitVec 32 := Scalar.divsi v197 c16_i32_93
  let c1_i32_99 : BitVec 32 := 1#32
  let v213 : BitVec 32 := Scalar.subi v198 c1_i32_99
  let v214 : BitVec 32 := Scalar.select v212 v213 v198
  let v216 : BitVec 32 := Scalar.subi v214 c0_i32_102
  let c1_i32_103 : BitVec 32 := 1#32
  let v218 : BitVec 32 := Scalar.divsi v216 c1_i32_103
  let v219 : BitVec 32 := Scalar.muli v218 c1_i32_103
  let v220 : BitVec 32 := Scalar.addi c0_i32_102 v219
  let c1_i32_105 : BitVec 32 := 1#32
  let arg9 : BitVec 32 := Scf.iv v220 c1_i32_105 k0_t12
  let c16_i32_154 : BitVec 32 := 16#32
  let v324 : BitVec 32 := Scalar.muli arg9 c16_i32_154
  let c6_i32 : BitVec 32 := 6#32
  let v401 : BitVec 32 := Scalar.addi v324 c6_i32
  let v402 : Index := Scalar.indexCast v401
  ![5, v402.toNat]
def k0_off367 (v403 : BitVec 32) : Fin 3 → Nat :=
  let v404 : Index := Scalar.indexCast v403
  let c0_182 : Index := 0#32
  let c0_183 : Index := 0#32
  ![v404.toNat, 0, 0]

def k0_chk189 (v403 : BitVec 32) : Prop :=
  (∀ a, (k0_off367 v403) a + S1x1x128.size a ≤ S100000x1x128.size a)
theorem k0_off367_inb : ∀ (v403 : BitVec 32) (k0_hw189 : k0_chk189 v403), ∀ a, (k0_off367 v403) a + S1x1x128.size a ≤ S100000x1x128.size a := fun v403 k0_hw189 => k0_hw189

def k0_off368 (v196 : BitVec 32) (k0_t12 : Fin (k0_t12_loop v196).trips) : Fin 2 → Nat :=
  let c5_185 : Index := 5#32
  let c0_i32_102 : BitVec 32 := 0#32
  let c15_i32_92 : BitVec 32 := 15#32
  let v197 : BitVec 32 := Scalar.addi v196 c15_i32_92
  let c0_i32_94 : BitVec 32 := 0#32
  let v199 : BitVec 1 := Scalar.cmpi .sgt v197 c0_i32_94
  let v200 : BitVec 32 := Scalar.extui v199
  let c0_i32_95 : BitVec 32 := 0#32
  let v201 : BitVec 1 := Scalar.cmpi .slt v197 c0_i32_95
  let v202 : BitVec 32 := Scalar.extui v201
  let v203 : BitVec 32 := Scalar.subi v200 v202
  let c16_i32_93 : BitVec 32 := 16#32
  let c0_i32_96 : BitVec 32 := 0#32
  let v204 : BitVec 1 := Scalar.cmpi .sgt c16_i32_93 c0_i32_96
  let v205 : BitVec 32 := Scalar.extui v204
  let c0_i32_97 : BitVec 32 := 0#32
  let v206 : BitVec 1 := Scalar.cmpi .slt c16_i32_93 c0_i32_97
  let v207 : BitVec 32 := Scalar.extui v206
  let v208 : BitVec 32 := Scalar.subi v205 v207
  let v209 : BitVec 1 := Scalar.cmpi .ne v203 v208
  let v210 : BitVec 32 := Scalar.remsi v197 c16_i32_93
  let c0_i32_98 : BitVec 32 := 0#32
  let v211 : BitVec 1 := Scalar.cmpi .ne v210 c0_i32_98
  let v212 : BitVec 1 := Scalar.andi v209 v211
  let v198 : BitVec 32 := Scalar.divsi v197 c16_i32_93
  let c1_i32_99 : BitVec 32 := 1#32
  let v213 : BitVec 32 := Scalar.subi v198 c1_i32_99
  let v214 : BitVec 32 := Scalar.select v212 v213 v198
  let v216 : BitVec 32 := Scalar.subi v214 c0_i32_102
  let c1_i32_103 : BitVec 32 := 1#32
  let v218 : BitVec 32 := Scalar.divsi v216 c1_i32_103
  let v219 : BitVec 32 := Scalar.muli v218 c1_i32_103
  let v220 : BitVec 32 := Scalar.addi c0_i32_102 v219
  let c1_i32_105 : BitVec 32 := 1#32
  let arg9 : BitVec 32 := Scf.iv v220 c1_i32_105 k0_t12
  let c16_i32_154 : BitVec 32 := 16#32
  let v324 : BitVec 32 := Scalar.muli arg9 c16_i32_154
  let c7_i32 : BitVec 32 := 7#32
  let v415 : BitVec 32 := Scalar.addi v324 c7_i32
  let v416 : Index := Scalar.indexCast v415
  ![5, v416.toNat]
def k0_off369 (v417 : BitVec 32) : Fin 3 → Nat :=
  let v418 : Index := Scalar.indexCast v417
  let c0_186 : Index := 0#32
  let c0_187 : Index := 0#32
  ![v418.toNat, 0, 0]

def k0_chk190 (v417 : BitVec 32) : Prop :=
  (∀ a, (k0_off369 v417) a + S1x1x128.size a ≤ S100000x1x128.size a)
theorem k0_off369_inb : ∀ (v417 : BitVec 32) (k0_hw190 : k0_chk190 v417), ∀ a, (k0_off369 v417) a + S1x1x128.size a ≤ S100000x1x128.size a := fun v417 k0_hw190 => k0_hw190

def k0_off370 (v196 : BitVec 32) (k0_t12 : Fin (k0_t12_loop v196).trips) : Fin 2 → Nat :=
  let c5_189 : Index := 5#32
  let c0_i32_102 : BitVec 32 := 0#32
  let c15_i32_92 : BitVec 32 := 15#32
  let v197 : BitVec 32 := Scalar.addi v196 c15_i32_92
  let c0_i32_94 : BitVec 32 := 0#32
  let v199 : BitVec 1 := Scalar.cmpi .sgt v197 c0_i32_94
  let v200 : BitVec 32 := Scalar.extui v199
  let c0_i32_95 : BitVec 32 := 0#32
  let v201 : BitVec 1 := Scalar.cmpi .slt v197 c0_i32_95
  let v202 : BitVec 32 := Scalar.extui v201
  let v203 : BitVec 32 := Scalar.subi v200 v202
  let c16_i32_93 : BitVec 32 := 16#32
  let c0_i32_96 : BitVec 32 := 0#32
  let v204 : BitVec 1 := Scalar.cmpi .sgt c16_i32_93 c0_i32_96
  let v205 : BitVec 32 := Scalar.extui v204
  let c0_i32_97 : BitVec 32 := 0#32
  let v206 : BitVec 1 := Scalar.cmpi .slt c16_i32_93 c0_i32_97
  let v207 : BitVec 32 := Scalar.extui v206
  let v208 : BitVec 32 := Scalar.subi v205 v207
  let v209 : BitVec 1 := Scalar.cmpi .ne v203 v208
  let v210 : BitVec 32 := Scalar.remsi v197 c16_i32_93
  let c0_i32_98 : BitVec 32 := 0#32
  let v211 : BitVec 1 := Scalar.cmpi .ne v210 c0_i32_98
  let v212 : BitVec 1 := Scalar.andi v209 v211
  let v198 : BitVec 32 := Scalar.divsi v197 c16_i32_93
  let c1_i32_99 : BitVec 32 := 1#32
  let v213 : BitVec 32 := Scalar.subi v198 c1_i32_99
  let v214 : BitVec 32 := Scalar.select v212 v213 v198
  let v216 : BitVec 32 := Scalar.subi v214 c0_i32_102
  let c1_i32_103 : BitVec 32 := 1#32
  let v218 : BitVec 32 := Scalar.divsi v216 c1_i32_103
  let v219 : BitVec 32 := Scalar.muli v218 c1_i32_103
  let v220 : BitVec 32 := Scalar.addi c0_i32_102 v219
  let c1_i32_105 : BitVec 32 := 1#32
  let arg9 : BitVec 32 := Scf.iv v220 c1_i32_105 k0_t12
  let c16_i32_154 : BitVec 32 := 16#32
  let v324 : BitVec 32 := Scalar.muli arg9 c16_i32_154
  let c8_i32 : BitVec 32 := 8#32
  let v429 : BitVec 32 := Scalar.addi v324 c8_i32
  let v430 : Index := Scalar.indexCast v429
  ![5, v430.toNat]
def k0_off371 (v431 : BitVec 32) : Fin 3 → Nat :=
  let v432 : Index := Scalar.indexCast v431
  let c0_190 : Index := 0#32
  let c0_191 : Index := 0#32
  ![v432.toNat, 0, 0]

def k0_chk191 (v431 : BitVec 32) : Prop :=
  (∀ a, (k0_off371 v431) a + S1x1x128.size a ≤ S100000x1x128.size a)
theorem k0_off371_inb : ∀ (v431 : BitVec 32) (k0_hw191 : k0_chk191 v431), ∀ a, (k0_off371 v431) a + S1x1x128.size a ≤ S100000x1x128.size a := fun v431 k0_hw191 => k0_hw191

def k0_off372 (v196 : BitVec 32) (k0_t12 : Fin (k0_t12_loop v196).trips) : Fin 2 → Nat :=
  let c5_193 : Index := 5#32
  let c0_i32_102 : BitVec 32 := 0#32
  let c15_i32_92 : BitVec 32 := 15#32
  let v197 : BitVec 32 := Scalar.addi v196 c15_i32_92
  let c0_i32_94 : BitVec 32 := 0#32
  let v199 : BitVec 1 := Scalar.cmpi .sgt v197 c0_i32_94
  let v200 : BitVec 32 := Scalar.extui v199
  let c0_i32_95 : BitVec 32 := 0#32
  let v201 : BitVec 1 := Scalar.cmpi .slt v197 c0_i32_95
  let v202 : BitVec 32 := Scalar.extui v201
  let v203 : BitVec 32 := Scalar.subi v200 v202
  let c16_i32_93 : BitVec 32 := 16#32
  let c0_i32_96 : BitVec 32 := 0#32
  let v204 : BitVec 1 := Scalar.cmpi .sgt c16_i32_93 c0_i32_96
  let v205 : BitVec 32 := Scalar.extui v204
  let c0_i32_97 : BitVec 32 := 0#32
  let v206 : BitVec 1 := Scalar.cmpi .slt c16_i32_93 c0_i32_97
  let v207 : BitVec 32 := Scalar.extui v206
  let v208 : BitVec 32 := Scalar.subi v205 v207
  let v209 : BitVec 1 := Scalar.cmpi .ne v203 v208
  let v210 : BitVec 32 := Scalar.remsi v197 c16_i32_93
  let c0_i32_98 : BitVec 32 := 0#32
  let v211 : BitVec 1 := Scalar.cmpi .ne v210 c0_i32_98
  let v212 : BitVec 1 := Scalar.andi v209 v211
  let v198 : BitVec 32 := Scalar.divsi v197 c16_i32_93
  let c1_i32_99 : BitVec 32 := 1#32
  let v213 : BitVec 32 := Scalar.subi v198 c1_i32_99
  let v214 : BitVec 32 := Scalar.select v212 v213 v198
  let v216 : BitVec 32 := Scalar.subi v214 c0_i32_102
  let c1_i32_103 : BitVec 32 := 1#32
  let v218 : BitVec 32 := Scalar.divsi v216 c1_i32_103
  let v219 : BitVec 32 := Scalar.muli v218 c1_i32_103
  let v220 : BitVec 32 := Scalar.addi c0_i32_102 v219
  let c1_i32_105 : BitVec 32 := 1#32
  let arg9 : BitVec 32 := Scf.iv v220 c1_i32_105 k0_t12
  let c16_i32_154 : BitVec 32 := 16#32
  let v324 : BitVec 32 := Scalar.muli arg9 c16_i32_154
  let c9_i32 : BitVec 32 := 9#32
  let v443 : BitVec 32 := Scalar.addi v324 c9_i32
  let v444 : Index := Scalar.indexCast v443
  ![5, v444.toNat]
def k0_off373 (v445 : BitVec 32) : Fin 3 → Nat :=
  let v446 : Index := Scalar.indexCast v445
  let c0_194 : Index := 0#32
  let c0_195 : Index := 0#32
  ![v446.toNat, 0, 0]

def k0_chk192 (v445 : BitVec 32) : Prop :=
  (∀ a, (k0_off373 v445) a + S1x1x128.size a ≤ S100000x1x128.size a)
theorem k0_off373_inb : ∀ (v445 : BitVec 32) (k0_hw192 : k0_chk192 v445), ∀ a, (k0_off373 v445) a + S1x1x128.size a ≤ S100000x1x128.size a := fun v445 k0_hw192 => k0_hw192

def k0_off374 (v196 : BitVec 32) (k0_t12 : Fin (k0_t12_loop v196).trips) : Fin 2 → Nat :=
  let c5_197 : Index := 5#32
  let c0_i32_102 : BitVec 32 := 0#32
  let c15_i32_92 : BitVec 32 := 15#32
  let v197 : BitVec 32 := Scalar.addi v196 c15_i32_92
  let c0_i32_94 : BitVec 32 := 0#32
  let v199 : BitVec 1 := Scalar.cmpi .sgt v197 c0_i32_94
  let v200 : BitVec 32 := Scalar.extui v199
  let c0_i32_95 : BitVec 32 := 0#32
  let v201 : BitVec 1 := Scalar.cmpi .slt v197 c0_i32_95
  let v202 : BitVec 32 := Scalar.extui v201
  let v203 : BitVec 32 := Scalar.subi v200 v202
  let c16_i32_93 : BitVec 32 := 16#32
  let c0_i32_96 : BitVec 32 := 0#32
  let v204 : BitVec 1 := Scalar.cmpi .sgt c16_i32_93 c0_i32_96
  let v205 : BitVec 32 := Scalar.extui v204
  let c0_i32_97 : BitVec 32 := 0#32
  let v206 : BitVec 1 := Scalar.cmpi .slt c16_i32_93 c0_i32_97
  let v207 : BitVec 32 := Scalar.extui v206
  let v208 : BitVec 32 := Scalar.subi v205 v207
  let v209 : BitVec 1 := Scalar.cmpi .ne v203 v208
  let v210 : BitVec 32 := Scalar.remsi v197 c16_i32_93
  let c0_i32_98 : BitVec 32 := 0#32
  let v211 : BitVec 1 := Scalar.cmpi .ne v210 c0_i32_98
  let v212 : BitVec 1 := Scalar.andi v209 v211
  let v198 : BitVec 32 := Scalar.divsi v197 c16_i32_93
  let c1_i32_99 : BitVec 32 := 1#32
  let v213 : BitVec 32 := Scalar.subi v198 c1_i32_99
  let v214 : BitVec 32 := Scalar.select v212 v213 v198
  let v216 : BitVec 32 := Scalar.subi v214 c0_i32_102
  let c1_i32_103 : BitVec 32 := 1#32
  let v218 : BitVec 32 := Scalar.divsi v216 c1_i32_103
  let v219 : BitVec 32 := Scalar.muli v218 c1_i32_103
  let v220 : BitVec 32 := Scalar.addi c0_i32_102 v219
  let c1_i32_105 : BitVec 32 := 1#32
  let arg9 : BitVec 32 := Scf.iv v220 c1_i32_105 k0_t12
  let c16_i32_154 : BitVec 32 := 16#32
  let v324 : BitVec 32 := Scalar.muli arg9 c16_i32_154
  let c10_i32 : BitVec 32 := 10#32
  let v457 : BitVec 32 := Scalar.addi v324 c10_i32
  let v458 : Index := Scalar.indexCast v457
  ![5, v458.toNat]
def k0_off375 (v459 : BitVec 32) : Fin 3 → Nat :=
  let v460 : Index := Scalar.indexCast v459
  let c0_198 : Index := 0#32
  let c0_199 : Index := 0#32
  ![v460.toNat, 0, 0]

def k0_chk193 (v459 : BitVec 32) : Prop :=
  (∀ a, (k0_off375 v459) a + S1x1x128.size a ≤ S100000x1x128.size a)
theorem k0_off375_inb : ∀ (v459 : BitVec 32) (k0_hw193 : k0_chk193 v459), ∀ a, (k0_off375 v459) a + S1x1x128.size a ≤ S100000x1x128.size a := fun v459 k0_hw193 => k0_hw193

def k0_off376 (v196 : BitVec 32) (k0_t12 : Fin (k0_t12_loop v196).trips) : Fin 2 → Nat :=
  let c5_201 : Index := 5#32
  let c0_i32_102 : BitVec 32 := 0#32
  let c15_i32_92 : BitVec 32 := 15#32
  let v197 : BitVec 32 := Scalar.addi v196 c15_i32_92
  let c0_i32_94 : BitVec 32 := 0#32
  let v199 : BitVec 1 := Scalar.cmpi .sgt v197 c0_i32_94
  let v200 : BitVec 32 := Scalar.extui v199
  let c0_i32_95 : BitVec 32 := 0#32
  let v201 : BitVec 1 := Scalar.cmpi .slt v197 c0_i32_95
  let v202 : BitVec 32 := Scalar.extui v201
  let v203 : BitVec 32 := Scalar.subi v200 v202
  let c16_i32_93 : BitVec 32 := 16#32
  let c0_i32_96 : BitVec 32 := 0#32
  let v204 : BitVec 1 := Scalar.cmpi .sgt c16_i32_93 c0_i32_96
  let v205 : BitVec 32 := Scalar.extui v204
  let c0_i32_97 : BitVec 32 := 0#32
  let v206 : BitVec 1 := Scalar.cmpi .slt c16_i32_93 c0_i32_97
  let v207 : BitVec 32 := Scalar.extui v206
  let v208 : BitVec 32 := Scalar.subi v205 v207
  let v209 : BitVec 1 := Scalar.cmpi .ne v203 v208
  let v210 : BitVec 32 := Scalar.remsi v197 c16_i32_93
  let c0_i32_98 : BitVec 32 := 0#32
  let v211 : BitVec 1 := Scalar.cmpi .ne v210 c0_i32_98
  let v212 : BitVec 1 := Scalar.andi v209 v211
  let v198 : BitVec 32 := Scalar.divsi v197 c16_i32_93
  let c1_i32_99 : BitVec 32 := 1#32
  let v213 : BitVec 32 := Scalar.subi v198 c1_i32_99
  let v214 : BitVec 32 := Scalar.select v212 v213 v198
  let v216 : BitVec 32 := Scalar.subi v214 c0_i32_102
  let c1_i32_103 : BitVec 32 := 1#32
  let v218 : BitVec 32 := Scalar.divsi v216 c1_i32_103
  let v219 : BitVec 32 := Scalar.muli v218 c1_i32_103
  let v220 : BitVec 32 := Scalar.addi c0_i32_102 v219
  let c1_i32_105 : BitVec 32 := 1#32
  let arg9 : BitVec 32 := Scf.iv v220 c1_i32_105 k0_t12
  let c16_i32_154 : BitVec 32 := 16#32
  let v324 : BitVec 32 := Scalar.muli arg9 c16_i32_154
  let c11_i32 : BitVec 32 := 11#32
  let v471 : BitVec 32 := Scalar.addi v324 c11_i32
  let v472 : Index := Scalar.indexCast v471
  ![5, v472.toNat]
def k0_off377 (v473 : BitVec 32) : Fin 3 → Nat :=
  let v474 : Index := Scalar.indexCast v473
  let c0_202 : Index := 0#32
  let c0_203 : Index := 0#32
  ![v474.toNat, 0, 0]

def k0_chk194 (v473 : BitVec 32) : Prop :=
  (∀ a, (k0_off377 v473) a + S1x1x128.size a ≤ S100000x1x128.size a)
theorem k0_off377_inb : ∀ (v473 : BitVec 32) (k0_hw194 : k0_chk194 v473), ∀ a, (k0_off377 v473) a + S1x1x128.size a ≤ S100000x1x128.size a := fun v473 k0_hw194 => k0_hw194

def k0_off378 (v196 : BitVec 32) (k0_t12 : Fin (k0_t12_loop v196).trips) : Fin 2 → Nat :=
  let c5_205 : Index := 5#32
  let c0_i32_102 : BitVec 32 := 0#32
  let c15_i32_92 : BitVec 32 := 15#32
  let v197 : BitVec 32 := Scalar.addi v196 c15_i32_92
  let c0_i32_94 : BitVec 32 := 0#32
  let v199 : BitVec 1 := Scalar.cmpi .sgt v197 c0_i32_94
  let v200 : BitVec 32 := Scalar.extui v199
  let c0_i32_95 : BitVec 32 := 0#32
  let v201 : BitVec 1 := Scalar.cmpi .slt v197 c0_i32_95
  let v202 : BitVec 32 := Scalar.extui v201
  let v203 : BitVec 32 := Scalar.subi v200 v202
  let c16_i32_93 : BitVec 32 := 16#32
  let c0_i32_96 : BitVec 32 := 0#32
  let v204 : BitVec 1 := Scalar.cmpi .sgt c16_i32_93 c0_i32_96
  let v205 : BitVec 32 := Scalar.extui v204
  let c0_i32_97 : BitVec 32 := 0#32
  let v206 : BitVec 1 := Scalar.cmpi .slt c16_i32_93 c0_i32_97
  let v207 : BitVec 32 := Scalar.extui v206
  let v208 : BitVec 32 := Scalar.subi v205 v207
  let v209 : BitVec 1 := Scalar.cmpi .ne v203 v208
  let v210 : BitVec 32 := Scalar.remsi v197 c16_i32_93
  let c0_i32_98 : BitVec 32 := 0#32
  let v211 : BitVec 1 := Scalar.cmpi .ne v210 c0_i32_98
  let v212 : BitVec 1 := Scalar.andi v209 v211
  let v198 : BitVec 32 := Scalar.divsi v197 c16_i32_93
  let c1_i32_99 : BitVec 32 := 1#32
  let v213 : BitVec 32 := Scalar.subi v198 c1_i32_99
  let v214 : BitVec 32 := Scalar.select v212 v213 v198
  let v216 : BitVec 32 := Scalar.subi v214 c0_i32_102
  let c1_i32_103 : BitVec 32 := 1#32
  let v218 : BitVec 32 := Scalar.divsi v216 c1_i32_103
  let v219 : BitVec 32 := Scalar.muli v218 c1_i32_103
  let v220 : BitVec 32 := Scalar.addi c0_i32_102 v219
  let c1_i32_105 : BitVec 32 := 1#32
  let arg9 : BitVec 32 := Scf.iv v220 c1_i32_105 k0_t12
  let c16_i32_154 : BitVec 32 := 16#32
  let v324 : BitVec 32 := Scalar.muli arg9 c16_i32_154
  let c12_i32 : BitVec 32 := 12#32
  let v485 : BitVec 32 := Scalar.addi v324 c12_i32
  let v486 : Index := Scalar.indexCast v485
  ![5, v486.toNat]
def k0_off379 (v487 : BitVec 32) : Fin 3 → Nat :=
  let v488 : Index := Scalar.indexCast v487
  let c0_206 : Index := 0#32
  let c0_207 : Index := 0#32
  ![v488.toNat, 0, 0]

def k0_chk195 (v487 : BitVec 32) : Prop :=
  (∀ a, (k0_off379 v487) a + S1x1x128.size a ≤ S100000x1x128.size a)
theorem k0_off379_inb : ∀ (v487 : BitVec 32) (k0_hw195 : k0_chk195 v487), ∀ a, (k0_off379 v487) a + S1x1x128.size a ≤ S100000x1x128.size a := fun v487 k0_hw195 => k0_hw195

def k0_off380 (v196 : BitVec 32) (k0_t12 : Fin (k0_t12_loop v196).trips) : Fin 2 → Nat :=
  let c5_209 : Index := 5#32
  let c0_i32_102 : BitVec 32 := 0#32
  let c15_i32_92 : BitVec 32 := 15#32
  let v197 : BitVec 32 := Scalar.addi v196 c15_i32_92
  let c0_i32_94 : BitVec 32 := 0#32
  let v199 : BitVec 1 := Scalar.cmpi .sgt v197 c0_i32_94
  let v200 : BitVec 32 := Scalar.extui v199
  let c0_i32_95 : BitVec 32 := 0#32
  let v201 : BitVec 1 := Scalar.cmpi .slt v197 c0_i32_95
  let v202 : BitVec 32 := Scalar.extui v201
  let v203 : BitVec 32 := Scalar.subi v200 v202
  let c16_i32_93 : BitVec 32 := 16#32
  let c0_i32_96 : BitVec 32 := 0#32
  let v204 : BitVec 1 := Scalar.cmpi .sgt c16_i32_93 c0_i32_96
  let v205 : BitVec 32 := Scalar.extui v204
  let c0_i32_97 : BitVec 32 := 0#32
  let v206 : BitVec 1 := Scalar.cmpi .slt c16_i32_93 c0_i32_97
  let v207 : BitVec 32 := Scalar.extui v206
  let v208 : BitVec 32 := Scalar.subi v205 v207
  let v209 : BitVec 1 := Scalar.cmpi .ne v203 v208
  let v210 : BitVec 32 := Scalar.remsi v197 c16_i32_93
  let c0_i32_98 : BitVec 32 := 0#32
  let v211 : BitVec 1 := Scalar.cmpi .ne v210 c0_i32_98
  let v212 : BitVec 1 := Scalar.andi v209 v211
  let v198 : BitVec 32 := Scalar.divsi v197 c16_i32_93
  let c1_i32_99 : BitVec 32 := 1#32
  let v213 : BitVec 32 := Scalar.subi v198 c1_i32_99
  let v214 : BitVec 32 := Scalar.select v212 v213 v198
  let v216 : BitVec 32 := Scalar.subi v214 c0_i32_102
  let c1_i32_103 : BitVec 32 := 1#32
  let v218 : BitVec 32 := Scalar.divsi v216 c1_i32_103
  let v219 : BitVec 32 := Scalar.muli v218 c1_i32_103
  let v220 : BitVec 32 := Scalar.addi c0_i32_102 v219
  let c1_i32_105 : BitVec 32 := 1#32
  let arg9 : BitVec 32 := Scf.iv v220 c1_i32_105 k0_t12
  let c16_i32_154 : BitVec 32 := 16#32
  let v324 : BitVec 32 := Scalar.muli arg9 c16_i32_154
  let c13_i32 : BitVec 32 := 13#32
  let v499 : BitVec 32 := Scalar.addi v324 c13_i32
  let v500 : Index := Scalar.indexCast v499
  ![5, v500.toNat]
def k0_off381 (v501 : BitVec 32) : Fin 3 → Nat :=
  let v502 : Index := Scalar.indexCast v501
  let c0_210 : Index := 0#32
  let c0_211 : Index := 0#32
  ![v502.toNat, 0, 0]

def k0_chk196 (v501 : BitVec 32) : Prop :=
  (∀ a, (k0_off381 v501) a + S1x1x128.size a ≤ S100000x1x128.size a)
theorem k0_off381_inb : ∀ (v501 : BitVec 32) (k0_hw196 : k0_chk196 v501), ∀ a, (k0_off381 v501) a + S1x1x128.size a ≤ S100000x1x128.size a := fun v501 k0_hw196 => k0_hw196

def k0_off382 (v196 : BitVec 32) (k0_t12 : Fin (k0_t12_loop v196).trips) : Fin 2 → Nat :=
  let c5_213 : Index := 5#32
  let c0_i32_102 : BitVec 32 := 0#32
  let c15_i32_92 : BitVec 32 := 15#32
  let v197 : BitVec 32 := Scalar.addi v196 c15_i32_92
  let c0_i32_94 : BitVec 32 := 0#32
  let v199 : BitVec 1 := Scalar.cmpi .sgt v197 c0_i32_94
  let v200 : BitVec 32 := Scalar.extui v199
  let c0_i32_95 : BitVec 32 := 0#32
  let v201 : BitVec 1 := Scalar.cmpi .slt v197 c0_i32_95
  let v202 : BitVec 32 := Scalar.extui v201
  let v203 : BitVec 32 := Scalar.subi v200 v202
  let c16_i32_93 : BitVec 32 := 16#32
  let c0_i32_96 : BitVec 32 := 0#32
  let v204 : BitVec 1 := Scalar.cmpi .sgt c16_i32_93 c0_i32_96
  let v205 : BitVec 32 := Scalar.extui v204
  let c0_i32_97 : BitVec 32 := 0#32
  let v206 : BitVec 1 := Scalar.cmpi .slt c16_i32_93 c0_i32_97
  let v207 : BitVec 32 := Scalar.extui v206
  let v208 : BitVec 32 := Scalar.subi v205 v207
  let v209 : BitVec 1 := Scalar.cmpi .ne v203 v208
  let v210 : BitVec 32 := Scalar.remsi v197 c16_i32_93
  let c0_i32_98 : BitVec 32 := 0#32
  let v211 : BitVec 1 := Scalar.cmpi .ne v210 c0_i32_98
  let v212 : BitVec 1 := Scalar.andi v209 v211
  let v198 : BitVec 32 := Scalar.divsi v197 c16_i32_93
  let c1_i32_99 : BitVec 32 := 1#32
  let v213 : BitVec 32 := Scalar.subi v198 c1_i32_99
  let v214 : BitVec 32 := Scalar.select v212 v213 v198
  let v216 : BitVec 32 := Scalar.subi v214 c0_i32_102
  let c1_i32_103 : BitVec 32 := 1#32
  let v218 : BitVec 32 := Scalar.divsi v216 c1_i32_103
  let v219 : BitVec 32 := Scalar.muli v218 c1_i32_103
  let v220 : BitVec 32 := Scalar.addi c0_i32_102 v219
  let c1_i32_105 : BitVec 32 := 1#32
  let arg9 : BitVec 32 := Scf.iv v220 c1_i32_105 k0_t12
  let c16_i32_154 : BitVec 32 := 16#32
  let v324 : BitVec 32 := Scalar.muli arg9 c16_i32_154
  let c14_i32 : BitVec 32 := 14#32
  let v513 : BitVec 32 := Scalar.addi v324 c14_i32
  let v514 : Index := Scalar.indexCast v513
  ![5, v514.toNat]
def k0_off383 (v515 : BitVec 32) : Fin 3 → Nat :=
  let v516 : Index := Scalar.indexCast v515
  let c0_214 : Index := 0#32
  let c0_215 : Index := 0#32
  ![v516.toNat, 0, 0]

def k0_chk197 (v515 : BitVec 32) : Prop :=
  (∀ a, (k0_off383 v515) a + S1x1x128.size a ≤ S100000x1x128.size a)
theorem k0_off383_inb : ∀ (v515 : BitVec 32) (k0_hw197 : k0_chk197 v515), ∀ a, (k0_off383 v515) a + S1x1x128.size a ≤ S100000x1x128.size a := fun v515 k0_hw197 => k0_hw197

def k0_off384 (v196 : BitVec 32) (k0_t12 : Fin (k0_t12_loop v196).trips) : Fin 2 → Nat :=
  let c5_218 : Index := 5#32
  let c0_i32_102 : BitVec 32 := 0#32
  let c15_i32_92 : BitVec 32 := 15#32
  let v197 : BitVec 32 := Scalar.addi v196 c15_i32_92
  let c0_i32_94 : BitVec 32 := 0#32
  let v199 : BitVec 1 := Scalar.cmpi .sgt v197 c0_i32_94
  let v200 : BitVec 32 := Scalar.extui v199
  let c0_i32_95 : BitVec 32 := 0#32
  let v201 : BitVec 1 := Scalar.cmpi .slt v197 c0_i32_95
  let v202 : BitVec 32 := Scalar.extui v201
  let v203 : BitVec 32 := Scalar.subi v200 v202
  let c16_i32_93 : BitVec 32 := 16#32
  let c0_i32_96 : BitVec 32 := 0#32
  let v204 : BitVec 1 := Scalar.cmpi .sgt c16_i32_93 c0_i32_96
  let v205 : BitVec 32 := Scalar.extui v204
  let c0_i32_97 : BitVec 32 := 0#32
  let v206 : BitVec 1 := Scalar.cmpi .slt c16_i32_93 c0_i32_97
  let v207 : BitVec 32 := Scalar.extui v206
  let v208 : BitVec 32 := Scalar.subi v205 v207
  let v209 : BitVec 1 := Scalar.cmpi .ne v203 v208
  let v210 : BitVec 32 := Scalar.remsi v197 c16_i32_93
  let c0_i32_98 : BitVec 32 := 0#32
  let v211 : BitVec 1 := Scalar.cmpi .ne v210 c0_i32_98
  let v212 : BitVec 1 := Scalar.andi v209 v211
  let v198 : BitVec 32 := Scalar.divsi v197 c16_i32_93
  let c1_i32_99 : BitVec 32 := 1#32
  let v213 : BitVec 32 := Scalar.subi v198 c1_i32_99
  let v214 : BitVec 32 := Scalar.select v212 v213 v198
  let v216 : BitVec 32 := Scalar.subi v214 c0_i32_102
  let c1_i32_103 : BitVec 32 := 1#32
  let v218 : BitVec 32 := Scalar.divsi v216 c1_i32_103
  let v219 : BitVec 32 := Scalar.muli v218 c1_i32_103
  let v220 : BitVec 32 := Scalar.addi c0_i32_102 v219
  let c1_i32_105 : BitVec 32 := 1#32
  let arg9 : BitVec 32 := Scf.iv v220 c1_i32_105 k0_t12
  let c16_i32_154 : BitVec 32 := 16#32
  let v324 : BitVec 32 := Scalar.muli arg9 c16_i32_154
  let c15_i32_217 : BitVec 32 := 15#32
  let v527 : BitVec 32 := Scalar.addi v324 c15_i32_217
  let v528 : Index := Scalar.indexCast v527
  ![5, v528.toNat]

def k0_chk166_0 (v196 : BitVec 32) : Prop :=
  ((k0_t11_loop v196).OK) ∧
  (∀ k0_t11 : Fin (k0_t11_loop v196).trips, ∀ a, (k0_off322 v196 k0_t11) a + S1x1.size a ≤ S8x512.size a) ∧
  (∀ k0_t11 : Fin (k0_t11_loop v196).trips, ∀ a, (k0_off324 v196 k0_t11) a + S1x1.size a ≤ S8x512.size a) ∧
  (∀ k0_t11 : Fin (k0_t11_loop v196).trips, ∀ a, (k0_off326 v196 k0_t11) a + S1x1.size a ≤ S8x512.size a) ∧
  (∀ k0_t11 : Fin (k0_t11_loop v196).trips, ∀ a, (k0_off328 v196 k0_t11) a + S1x1.size a ≤ S8x512.size a) ∧
  (∀ k0_t11 : Fin (k0_t11_loop v196).trips, ∀ a, (k0_off330 v196 k0_t11) a + S1x1.size a ≤ S8x512.size a) ∧
  (∀ k0_t11 : Fin (k0_t11_loop v196).trips, ∀ a, (k0_off332 v196 k0_t11) a + S1x1.size a ≤ S8x512.size a) ∧
  (∀ k0_t11 : Fin (k0_t11_loop v196).trips, ∀ a, (k0_off334 v196 k0_t11) a + S1x1.size a ≤ S8x512.size a) ∧
  (∀ k0_t11 : Fin (k0_t11_loop v196).trips, ∀ a, (k0_off336 v196 k0_t11) a + S1x1.size a ≤ S8x512.size a) ∧
  (∀ k0_t11 : Fin (k0_t11_loop v196).trips, ∀ a, (k0_off338 v196 k0_t11) a + S1x1.size a ≤ S8x512.size a) ∧
  (∀ k0_t11 : Fin (k0_t11_loop v196).trips, ∀ a, (k0_off340 v196 k0_t11) a + S1x1.size a ≤ S8x512.size a) ∧
  (∀ k0_t11 : Fin (k0_t11_loop v196).trips, ∀ a, (k0_off342 v196 k0_t11) a + S1x1.size a ≤ S8x512.size a) ∧
  (∀ k0_t11 : Fin (k0_t11_loop v196).trips, ∀ a, (k0_off344 v196 k0_t11) a + S1x1.size a ≤ S8x512.size a) ∧
  (∀ k0_t11 : Fin (k0_t11_loop v196).trips, ∀ a, (k0_off346 v196 k0_t11) a + S1x1.size a ≤ S8x512.size a) ∧
  (∀ k0_t11 : Fin (k0_t11_loop v196).trips, ∀ a, (k0_off348 v196 k0_t11) a + S1x1.size a ≤ S8x512.size a) ∧
  (∀ k0_t11 : Fin (k0_t11_loop v196).trips, ∀ a, (k0_off350 v196 k0_t11) a + S1x1.size a ≤ S8x512.size a) ∧
  (∀ k0_t11 : Fin (k0_t11_loop v196).trips, ∀ a, (k0_off352 v196 k0_t11) a + S1x1.size a ≤ S8x512.size a) ∧
  ((k0_t12_loop v196).OK) ∧
  (∀ k0_t12 : Fin (k0_t12_loop v196).trips, ∀ a, (k0_off354 v196 k0_t12) a + S1x1.size a ≤ S8x512.size a) ∧
  (∀ k0_t12 : Fin (k0_t12_loop v196).trips, ∀ a, (k0_off356 v196 k0_t12) a + S1x1.size a ≤ S8x512.size a) ∧
  (∀ k0_t12 : Fin (k0_t12_loop v196).trips, ∀ a, (k0_off358 v196 k0_t12) a + S1x1.size a ≤ S8x512.size a) ∧
  (∀ k0_t12 : Fin (k0_t12_loop v196).trips, ∀ a, (k0_off360 v196 k0_t12) a + S1x1.size a ≤ S8x512.size a) ∧
  (∀ k0_t12 : Fin (k0_t12_loop v196).trips, ∀ a, (k0_off362 v196 k0_t12) a + S1x1.size a ≤ S8x512.size a) ∧
  (∀ k0_t12 : Fin (k0_t12_loop v196).trips, ∀ a, (k0_off364 v196 k0_t12) a + S1x1.size a ≤ S8x512.size a) ∧
  (∀ k0_t12 : Fin (k0_t12_loop v196).trips, ∀ a, (k0_off366 v196 k0_t12) a + S1x1.size a ≤ S8x512.size a) ∧
  (∀ k0_t12 : Fin (k0_t12_loop v196).trips, ∀ a, (k0_off368 v196 k0_t12) a + S1x1.size a ≤ S8x512.size a) ∧
  (∀ k0_t12 : Fin (k0_t12_loop v196).trips, ∀ a, (k0_off370 v196 k0_t12) a + S1x1.size a ≤ S8x512.size a) ∧
  (∀ k0_t12 : Fin (k0_t12_loop v196).trips, ∀ a, (k0_off372 v196 k0_t12) a + S1x1.size a ≤ S8x512.size a) ∧
  (∀ k0_t12 : Fin (k0_t12_loop v196).trips, ∀ a, (k0_off374 v196 k0_t12) a + S1x1.size a ≤ S8x512.size a) ∧
  (∀ k0_t12 : Fin (k0_t12_loop v196).trips, ∀ a, (k0_off376 v196 k0_t12) a + S1x1.size a ≤ S8x512.size a) ∧
  (∀ k0_t12 : Fin (k0_t12_loop v196).trips, ∀ a, (k0_off378 v196 k0_t12) a + S1x1.size a ≤ S8x512.size a) ∧
  (∀ k0_t12 : Fin (k0_t12_loop v196).trips, ∀ a, (k0_off380 v196 k0_t12) a + S1x1.size a ≤ S8x512.size a)
def k0_chk166_1 (v196 : BitVec 32) : Prop :=
  (∀ k0_t12 : Fin (k0_t12_loop v196).trips, ∀ a, (k0_off382 v196 k0_t12) a + S1x1.size a ≤ S8x512.size a) ∧
  (∀ k0_t12 : Fin (k0_t12_loop v196).trips, ∀ a, (k0_off384 v196 k0_t12) a + S1x1.size a ≤ S8x512.size a)
def k0_chk166 (v196 : BitVec 32) : Prop :=
  k0_chk166_0 v196 ∧
  k0_chk166_1 v196
theorem k0_t11_ok : ∀ (v196 : BitVec 32) (k0_hw166 : k0_chk166 v196), (k0_t11_loop v196).OK := fun v196 k0_hw166 => k0_hw166.1.1
theorem k0_off322_inb : ∀ (v196 : BitVec 32) (k0_hw166 : k0_chk166 v196) (k0_t11 : Fin (k0_t11_loop v196).trips), ∀ a, (k0_off322 v196 k0_t11) a + S1x1.size a ≤ S8x512.size a := fun v196 k0_hw166 k0_t11 => k0_hw166.1.2.1 k0_t11
theorem k0_off324_inb : ∀ (v196 : BitVec 32) (k0_hw166 : k0_chk166 v196) (k0_t11 : Fin (k0_t11_loop v196).trips), ∀ a, (k0_off324 v196 k0_t11) a + S1x1.size a ≤ S8x512.size a := fun v196 k0_hw166 k0_t11 => k0_hw166.1.2.2.1 k0_t11
theorem k0_off326_inb : ∀ (v196 : BitVec 32) (k0_hw166 : k0_chk166 v196) (k0_t11 : Fin (k0_t11_loop v196).trips), ∀ a, (k0_off326 v196 k0_t11) a + S1x1.size a ≤ S8x512.size a := fun v196 k0_hw166 k0_t11 => k0_hw166.1.2.2.2.1 k0_t11
theorem k0_off328_inb : ∀ (v196 : BitVec 32) (k0_hw166 : k0_chk166 v196) (k0_t11 : Fin (k0_t11_loop v196).trips), ∀ a, (k0_off328 v196 k0_t11) a + S1x1.size a ≤ S8x512.size a := fun v196 k0_hw166 k0_t11 => k0_hw166.1.2.2.2.2.1 k0_t11
theorem k0_off330_inb : ∀ (v196 : BitVec 32) (k0_hw166 : k0_chk166 v196) (k0_t11 : Fin (k0_t11_loop v196).trips), ∀ a, (k0_off330 v196 k0_t11) a + S1x1.size a ≤ S8x512.size a := fun v196 k0_hw166 k0_t11 => k0_hw166.1.2.2.2.2.2.1 k0_t11
theorem k0_off332_inb : ∀ (v196 : BitVec 32) (k0_hw166 : k0_chk166 v196) (k0_t11 : Fin (k0_t11_loop v196).trips), ∀ a, (k0_off332 v196 k0_t11) a + S1x1.size a ≤ S8x512.size a := fun v196 k0_hw166 k0_t11 => k0_hw166.1.2.2.2.2.2.2.1 k0_t11
theorem k0_off334_inb : ∀ (v196 : BitVec 32) (k0_hw166 : k0_chk166 v196) (k0_t11 : Fin (k0_t11_loop v196).trips), ∀ a, (k0_off334 v196 k0_t11) a + S1x1.size a ≤ S8x512.size a := fun v196 k0_hw166 k0_t11 => k0_hw166.1.2.2.2.2.2.2.2.1 k0_t11
theorem k0_off336_inb : ∀ (v196 : BitVec 32) (k0_hw166 : k0_chk166 v196) (k0_t11 : Fin (k0_t11_loop v196).trips), ∀ a, (k0_off336 v196 k0_t11) a + S1x1.size a ≤ S8x512.size a := fun v196 k0_hw166 k0_t11 => k0_hw166.1.2.2.2.2.2.2.2.2.1 k0_t11
theorem k0_off338_inb : ∀ (v196 : BitVec 32) (k0_hw166 : k0_chk166 v196) (k0_t11 : Fin (k0_t11_loop v196).trips), ∀ a, (k0_off338 v196 k0_t11) a + S1x1.size a ≤ S8x512.size a := fun v196 k0_hw166 k0_t11 => k0_hw166.1.2.2.2.2.2.2.2.2.2.1 k0_t11
theorem k0_off340_inb : ∀ (v196 : BitVec 32) (k0_hw166 : k0_chk166 v196) (k0_t11 : Fin (k0_t11_loop v196).trips), ∀ a, (k0_off340 v196 k0_t11) a + S1x1.size a ≤ S8x512.size a := fun v196 k0_hw166 k0_t11 => k0_hw166.1.2.2.2.2.2.2.2.2.2.2.1 k0_t11
theorem k0_off342_inb : ∀ (v196 : BitVec 32) (k0_hw166 : k0_chk166 v196) (k0_t11 : Fin (k0_t11_loop v196).trips), ∀ a, (k0_off342 v196 k0_t11) a + S1x1.size a ≤ S8x512.size a := fun v196 k0_hw166 k0_t11 => k0_hw166.1.2.2.2.2.2.2.2.2.2.2.2.1 k0_t11
theorem k0_off344_inb : ∀ (v196 : BitVec 32) (k0_hw166 : k0_chk166 v196) (k0_t11 : Fin (k0_t11_loop v196).trips), ∀ a, (k0_off344 v196 k0_t11) a + S1x1.size a ≤ S8x512.size a := fun v196 k0_hw166 k0_t11 => k0_hw166.1.2.2.2.2.2.2.2.2.2.2.2.2.1 k0_t11
theorem k0_off346_inb : ∀ (v196 : BitVec 32) (k0_hw166 : k0_chk166 v196) (k0_t11 : Fin (k0_t11_loop v196).trips), ∀ a, (k0_off346 v196 k0_t11) a + S1x1.size a ≤ S8x512.size a := fun v196 k0_hw166 k0_t11 => k0_hw166.1.2.2.2.2.2.2.2.2.2.2.2.2.2.1 k0_t11
theorem k0_off348_inb : ∀ (v196 : BitVec 32) (k0_hw166 : k0_chk166 v196) (k0_t11 : Fin (k0_t11_loop v196).trips), ∀ a, (k0_off348 v196 k0_t11) a + S1x1.size a ≤ S8x512.size a := fun v196 k0_hw166 k0_t11 => k0_hw166.1.2.2.2.2.2.2.2.2.2.2.2.2.2.2.1 k0_t11
theorem k0_off350_inb : ∀ (v196 : BitVec 32) (k0_hw166 : k0_chk166 v196) (k0_t11 : Fin (k0_t11_loop v196).trips), ∀ a, (k0_off350 v196 k0_t11) a + S1x1.size a ≤ S8x512.size a := fun v196 k0_hw166 k0_t11 => k0_hw166.1.2.2.2.2.2.2.2.2.2.2.2.2.2.2.2.1 k0_t11
theorem k0_off352_inb : ∀ (v196 : BitVec 32) (k0_hw166 : k0_chk166 v196) (k0_t11 : Fin (k0_t11_loop v196).trips), ∀ a, (k0_off352 v196 k0_t11) a + S1x1.size a ≤ S8x512.size a := fun v196 k0_hw166 k0_t11 => k0_hw166.1.2.2.2.2.2.2.2.2.2.2.2.2.2.2.2.2.1 k0_t11
theorem k0_t12_ok : ∀ (v196 : BitVec 32) (k0_hw166 : k0_chk166 v196), (k0_t12_loop v196).OK := fun v196 k0_hw166 => k0_hw166.1.2.2.2.2.2.2.2.2.2.2.2.2.2.2.2.2.2.1
theorem k0_off354_inb : ∀ (v196 : BitVec 32) (k0_hw166 : k0_chk166 v196) (k0_t12 : Fin (k0_t12_loop v196).trips), ∀ a, (k0_off354 v196 k0_t12) a + S1x1.size a ≤ S8x512.size a := fun v196 k0_hw166 k0_t12 => k0_hw166.1.2.2.2.2.2.2.2.2.2.2.2.2.2.2.2.2.2.2.1 k0_t12
theorem k0_off356_inb : ∀ (v196 : BitVec 32) (k0_hw166 : k0_chk166 v196) (k0_t12 : Fin (k0_t12_loop v196).trips), ∀ a, (k0_off356 v196 k0_t12) a + S1x1.size a ≤ S8x512.size a := fun v196 k0_hw166 k0_t12 => k0_hw166.1.2.2.2.2.2.2.2.2.2.2.2.2.2.2.2.2.2.2.2.1 k0_t12
theorem k0_off358_inb : ∀ (v196 : BitVec 32) (k0_hw166 : k0_chk166 v196) (k0_t12 : Fin (k0_t12_loop v196).trips), ∀ a, (k0_off358 v196 k0_t12) a + S1x1.size a ≤ S8x512.size a := fun v196 k0_hw166 k0_t12 => k0_hw166.1.2.2.2.2.2.2.2.2.2.2.2.2.2.2.2.2.2.2.2.2.1 k0_t12
theorem k0_off360_inb : ∀ (v196 : BitVec 32) (k0_hw166 : k0_chk166 v196) (k0_t12 : Fin (k0_t12_loop v196).trips), ∀ a, (k0_off360 v196 k0_t12) a + S1x1.size a ≤ S8x512.size a := fun v196 k0_hw166 k0_t12 => k0_hw166.1.2.2.2.2.2.2.2.2.2.2.2.2.2.2.2.2.2.2.2.2.2.1 k0_t12
theorem k0_off362_inb : ∀ (v196 : BitVec 32) (k0_hw166 : k0_chk166 v196) (k0_t12 : Fin (k0_t12_loop v196).trips), ∀ a, (k0_off362 v196 k0_t12) a + S1x1.size a ≤ S8x512.size a := fun v196 k0_hw166 k0_t12 => k0_hw166.1.2.2.2.2.2.2.2.2.2.2.2.2.2.2.2.2.2.2.2.2.2.2.1 k0_t12
theorem k0_off364_inb : ∀ (v196 : BitVec 32) (k0_hw166 : k0_chk166 v196) (k0_t12 : Fin (k0_t12_loop v196).trips), ∀ a, (k0_off364 v196 k0_t12) a + S1x1.size a ≤ S8x512.size a := fun v196 k0_hw166 k0_t12 => k0_hw166.1.2.2.2.2.2.2.2.2.2.2.2.2.2.2.2.2.2.2.2.2.2.2.2.1 k0_t12
theorem k0_off366_inb : ∀ (v196 : BitVec 32) (k0_hw166 : k0_chk166 v196) (k0_t12 : Fin (k0_t12_loop v196).trips), ∀ a, (k0_off366 v196 k0_t12) a + S1x1.size a ≤ S8x512.size a := fun v196 k0_hw166 k0_t12 => k0_hw166.1.2.2.2.2.2.2.2.2.2.2.2.2.2.2.2.2.2.2.2.2.2.2.2.2.1 k0_t12
theorem k0_off368_inb : ∀ (v196 : BitVec 32) (k0_hw166 : k0_chk166 v196) (k0_t12 : Fin (k0_t12_loop v196).trips), ∀ a, (k0_off368 v196 k0_t12) a + S1x1.size a ≤ S8x512.size a := fun v196 k0_hw166 k0_t12 => k0_hw166.1.2.2.2.2.2.2.2.2.2.2.2.2.2.2.2.2.2.2.2.2.2.2.2.2.2.1 k0_t12
theorem k0_off370_inb : ∀ (v196 : BitVec 32) (k0_hw166 : k0_chk166 v196) (k0_t12 : Fin (k0_t12_loop v196).trips), ∀ a, (k0_off370 v196 k0_t12) a + S1x1.size a ≤ S8x512.size a := fun v196 k0_hw166 k0_t12 => k0_hw166.1.2.2.2.2.2.2.2.2.2.2.2.2.2.2.2.2.2.2.2.2.2.2.2.2.2.2.1 k0_t12
theorem k0_off372_inb : ∀ (v196 : BitVec 32) (k0_hw166 : k0_chk166 v196) (k0_t12 : Fin (k0_t12_loop v196).trips), ∀ a, (k0_off372 v196 k0_t12) a + S1x1.size a ≤ S8x512.size a := fun v196 k0_hw166 k0_t12 => k0_hw166.1.2.2.2.2.2.2.2.2.2.2.2.2.2.2.2.2.2.2.2.2.2.2.2.2.2.2.2.1 k0_t12
theorem k0_off374_inb : ∀ (v196 : BitVec 32) (k0_hw166 : k0_chk166 v196) (k0_t12 : Fin (k0_t12_loop v196).trips), ∀ a, (k0_off374 v196 k0_t12) a + S1x1.size a ≤ S8x512.size a := fun v196 k0_hw166 k0_t12 => k0_hw166.1.2.2.2.2.2.2.2.2.2.2.2.2.2.2.2.2.2.2.2.2.2.2.2.2.2.2.2.2.1 k0_t12
theorem k0_off376_inb : ∀ (v196 : BitVec 32) (k0_hw166 : k0_chk166 v196) (k0_t12 : Fin (k0_t12_loop v196).trips), ∀ a, (k0_off376 v196 k0_t12) a + S1x1.size a ≤ S8x512.size a := fun v196 k0_hw166 k0_t12 => k0_hw166.1.2.2.2.2.2.2.2.2.2.2.2.2.2.2.2.2.2.2.2.2.2.2.2.2.2.2.2.2.2.1 k0_t12
theorem k0_off378_inb : ∀ (v196 : BitVec 32) (k0_hw166 : k0_chk166 v196) (k0_t12 : Fin (k0_t12_loop v196).trips), ∀ a, (k0_off378 v196 k0_t12) a + S1x1.size a ≤ S8x512.size a := fun v196 k0_hw166 k0_t12 => k0_hw166.1.2.2.2.2.2.2.2.2.2.2.2.2.2.2.2.2.2.2.2.2.2.2.2.2.2.2.2.2.2.2.1 k0_t12
theorem k0_off380_inb : ∀ (v196 : BitVec 32) (k0_hw166 : k0_chk166 v196) (k0_t12 : Fin (k0_t12_loop v196).trips), ∀ a, (k0_off380 v196 k0_t12) a + S1x1.size a ≤ S8x512.size a := fun v196 k0_hw166 k0_t12 => k0_hw166.1.2.2.2.2.2.2.2.2.2.2.2.2.2.2.2.2.2.2.2.2.2.2.2.2.2.2.2.2.2.2.2 k0_t12
theorem k0_off382_inb : ∀ (v196 : BitVec 32) (k0_hw166 : k0_chk166 v196) (k0_t12 : Fin (k0_t12_loop v196).trips), ∀ a, (k0_off382 v196 k0_t12) a + S1x1.size a ≤ S8x512.size a := fun v196 k0_hw166 k0_t12 => k0_hw166.2.1 k0_t12
theorem k0_off384_inb : ∀ (v196 : BitVec 32) (k0_hw166 : k0_chk166 v196) (k0_t12 : Fin (k0_t12_loop v196).trips), ∀ a, (k0_off384 v196 k0_t12) a + S1x1.size a ≤ S8x512.size a := fun v196 k0_hw166 k0_t12 => k0_hw166.2.2 k0_t12

def k0_off385 (v529 : BitVec 32) : Fin 3 → Nat :=
  let v530 : Index := Scalar.indexCast v529
  let c0_219 : Index := 0#32
  let c0_220 : Index := 0#32
  ![v530.toNat, 0, 0]

def k0_chk198 (v529 : BitVec 32) : Prop :=
  (∀ a, (k0_off385 v529) a + S1x1x128.size a ≤ S100000x1x128.size a)
theorem k0_off385_inb : ∀ (v529 : BitVec 32) (k0_hw198 : k0_chk198 v529), ∀ a, (k0_off385 v529) a + S1x1x128.size a ≤ S100000x1x128.size a := fun v529 k0_hw198 => k0_hw198

@[reducible] def k0_t13_loop (v233 : BitVec 32) : Scf.Loop 32 :=
  let c0_i32_120 : BitVec 32 := 0#32
  let c15_i32_110 : BitVec 32 := 15#32
  let v234 : BitVec 32 := Scalar.addi v233 c15_i32_110
  let c0_i32_112 : BitVec 32 := 0#32
  let v236 : BitVec 1 := Scalar.cmpi .sgt v234 c0_i32_112
  let v237 : BitVec 32 := Scalar.extui v236
  let c0_i32_113 : BitVec 32 := 0#32
  let v238 : BitVec 1 := Scalar.cmpi .slt v234 c0_i32_113
  let v239 : BitVec 32 := Scalar.extui v238
  let v240 : BitVec 32 := Scalar.subi v237 v239
  let c16_i32_111 : BitVec 32 := 16#32
  let c0_i32_114 : BitVec 32 := 0#32
  let v241 : BitVec 1 := Scalar.cmpi .sgt c16_i32_111 c0_i32_114
  let v242 : BitVec 32 := Scalar.extui v241
  let c0_i32_115 : BitVec 32 := 0#32
  let v243 : BitVec 1 := Scalar.cmpi .slt c16_i32_111 c0_i32_115
  let v244 : BitVec 32 := Scalar.extui v243
  let v245 : BitVec 32 := Scalar.subi v242 v244
  let v246 : BitVec 1 := Scalar.cmpi .ne v240 v245
  let v247 : BitVec 32 := Scalar.remsi v234 c16_i32_111
  let c0_i32_116 : BitVec 32 := 0#32
  let v248 : BitVec 1 := Scalar.cmpi .ne v247 c0_i32_116
  let v249 : BitVec 1 := Scalar.andi v246 v248
  let v235 : BitVec 32 := Scalar.divsi v234 c16_i32_111
  let c1_i32_117 : BitVec 32 := 1#32
  let v250 : BitVec 32 := Scalar.subi v235 c1_i32_117
  let v251 : BitVec 32 := Scalar.select v249 v250 v235
  let v253 : BitVec 32 := Scalar.subi v251 c0_i32_120
  let c1_i32_121 : BitVec 32 := 1#32
  let v255 : BitVec 32 := Scalar.divsi v253 c1_i32_121
  let v256 : BitVec 32 := Scalar.muli v255 c1_i32_121
  let v257 : BitVec 32 := Scalar.addi c0_i32_120 v256
  let c1_i32_122 : BitVec 32 := 1#32
  ⟨c0_i32_120, v257, c1_i32_122⟩

def k0_off386 (v233 : BitVec 32) (k0_t13 : Fin (k0_t13_loop v233).trips) : Fin 2 → Nat :=
  let c6_156 : Index := 6#32
  let c0_i32_120 : BitVec 32 := 0#32
  let c1_i32_122 : BitVec 32 := 1#32
  let arg9 : BitVec 32 := Scf.iv c0_i32_120 c1_i32_122 k0_t13
  let c16_i32_154 : BitVec 32 := 16#32
  let v324 : BitVec 32 := Scalar.muli arg9 c16_i32_154
  let c0_i32_155 : BitVec 32 := 0#32
  let v325 : BitVec 32 := Scalar.addi v324 c0_i32_155
  let v326 : Index := Scalar.indexCast v325
  ![6, v326.toNat]
def k0_off387 (v327 : BitVec 32) : Fin 3 → Nat :=
  let v328 : Index := Scalar.indexCast v327
  let c0_157 : Index := 0#32
  let c0_158 : Index := 0#32
  ![v328.toNat, 0, 0]

def k0_chk200 (v327 : BitVec 32) : Prop :=
  (∀ a, (k0_off387 v327) a + S1x1x128.size a ≤ S100000x1x128.size a)
theorem k0_off387_inb : ∀ (v327 : BitVec 32) (k0_hw200 : k0_chk200 v327), ∀ a, (k0_off387 v327) a + S1x1x128.size a ≤ S100000x1x128.size a := fun v327 k0_hw200 => k0_hw200

def k0_off388 (v233 : BitVec 32) (k0_t13 : Fin (k0_t13_loop v233).trips) : Fin 2 → Nat :=
  let c6_161 : Index := 6#32
  let c0_i32_120 : BitVec 32 := 0#32
  let c1_i32_122 : BitVec 32 := 1#32
  let arg9 : BitVec 32 := Scf.iv c0_i32_120 c1_i32_122 k0_t13
  let c16_i32_154 : BitVec 32 := 16#32
  let v324 : BitVec 32 := Scalar.muli arg9 c16_i32_154
  let c1_i32_160 : BitVec 32 := 1#32
  let v337 : BitVec 32 := Scalar.addi v324 c1_i32_160
  let v338 : Index := Scalar.indexCast v337
  ![6, v338.toNat]
def k0_off389 (v339 : BitVec 32) : Fin 3 → Nat :=
  let v340 : Index := Scalar.indexCast v339
  let c0_162 : Index := 0#32
  let c0_163 : Index := 0#32
  ![v340.toNat, 0, 0]

def k0_chk201 (v339 : BitVec 32) : Prop :=
  (∀ a, (k0_off389 v339) a + S1x1x128.size a ≤ S100000x1x128.size a)
theorem k0_off389_inb : ∀ (v339 : BitVec 32) (k0_hw201 : k0_chk201 v339), ∀ a, (k0_off389 v339) a + S1x1x128.size a ≤ S100000x1x128.size a := fun v339 k0_hw201 => k0_hw201

def k0_off390 (v233 : BitVec 32) (k0_t13 : Fin (k0_t13_loop v233).trips) : Fin 2 → Nat :=
  let c6_165 : Index := 6#32
  let c0_i32_120 : BitVec 32 := 0#32
  let c1_i32_122 : BitVec 32 := 1#32
  let arg9 : BitVec 32 := Scf.iv c0_i32_120 c1_i32_122 k0_t13
  let c16_i32_154 : BitVec 32 := 16#32
  let v324 : BitVec 32 := Scalar.muli arg9 c16_i32_154
  let c2_i32 : BitVec 32 := 2#32
  let v349 : BitVec 32 := Scalar.addi v324 c2_i32
  let v350 : Index := Scalar.indexCast v349
  ![6, v350.toNat]
def k0_off391 (v351 : BitVec 32) : Fin 3 → Nat :=
  let v352 : Index := Scalar.indexCast v351
  let c0_166 : Index := 0#32
  let c0_167 : Index := 0#32
  ![v352.toNat, 0, 0]

def k0_chk202 (v351 : BitVec 32) : Prop :=
  (∀ a, (k0_off391 v351) a + S1x1x128.size a ≤ S100000x1x128.size a)
theorem k0_off391_inb : ∀ (v351 : BitVec 32) (k0_hw202 : k0_chk202 v351), ∀ a, (k0_off391 v351) a + S1x1x128.size a ≤ S100000x1x128.size a := fun v351 k0_hw202 => k0_hw202

def k0_off392 (v233 : BitVec 32) (k0_t13 : Fin (k0_t13_loop v233).trips) : Fin 2 → Nat :=
  let c6_169 : Index := 6#32
  let c0_i32_120 : BitVec 32 := 0#32
  let c1_i32_122 : BitVec 32 := 1#32
  let arg9 : BitVec 32 := Scf.iv c0_i32_120 c1_i32_122 k0_t13
  let c16_i32_154 : BitVec 32 := 16#32
  let v324 : BitVec 32 := Scalar.muli arg9 c16_i32_154
  let c3_i32 : BitVec 32 := 3#32
  let v361 : BitVec 32 := Scalar.addi v324 c3_i32
  let v362 : Index := Scalar.indexCast v361
  ![6, v362.toNat]
def k0_off393 (v363 : BitVec 32) : Fin 3 → Nat :=
  let v364 : Index := Scalar.indexCast v363
  let c0_170 : Index := 0#32
  let c0_171 : Index := 0#32
  ![v364.toNat, 0, 0]

def k0_chk203 (v363 : BitVec 32) : Prop :=
  (∀ a, (k0_off393 v363) a + S1x1x128.size a ≤ S100000x1x128.size a)
theorem k0_off393_inb : ∀ (v363 : BitVec 32) (k0_hw203 : k0_chk203 v363), ∀ a, (k0_off393 v363) a + S1x1x128.size a ≤ S100000x1x128.size a := fun v363 k0_hw203 => k0_hw203

def k0_off394 (v233 : BitVec 32) (k0_t13 : Fin (k0_t13_loop v233).trips) : Fin 2 → Nat :=
  let c6_173 : Index := 6#32
  let c0_i32_120 : BitVec 32 := 0#32
  let c1_i32_122 : BitVec 32 := 1#32
  let arg9 : BitVec 32 := Scf.iv c0_i32_120 c1_i32_122 k0_t13
  let c16_i32_154 : BitVec 32 := 16#32
  let v324 : BitVec 32 := Scalar.muli arg9 c16_i32_154
  let c4_i32 : BitVec 32 := 4#32
  let v373 : BitVec 32 := Scalar.addi v324 c4_i32
  let v374 : Index := Scalar.indexCast v373
  ![6, v374.toNat]
def k0_off395 (v375 : BitVec 32) : Fin 3 → Nat :=
  let v376 : Index := Scalar.indexCast v375
  let c0_174 : Index := 0#32
  let c0_175 : Index := 0#32
  ![v376.toNat, 0, 0]

def k0_chk204 (v375 : BitVec 32) : Prop :=
  (∀ a, (k0_off395 v375) a + S1x1x128.size a ≤ S100000x1x128.size a)
theorem k0_off395_inb : ∀ (v375 : BitVec 32) (k0_hw204 : k0_chk204 v375), ∀ a, (k0_off395 v375) a + S1x1x128.size a ≤ S100000x1x128.size a := fun v375 k0_hw204 => k0_hw204

def k0_off396 (v233 : BitVec 32) (k0_t13 : Fin (k0_t13_loop v233).trips) : Fin 2 → Nat :=
  let c6_177 : Index := 6#32
  let c0_i32_120 : BitVec 32 := 0#32
  let c1_i32_122 : BitVec 32 := 1#32
  let arg9 : BitVec 32 := Scf.iv c0_i32_120 c1_i32_122 k0_t13
  let c16_i32_154 : BitVec 32 := 16#32
  let v324 : BitVec 32 := Scalar.muli arg9 c16_i32_154
  let c5_i32 : BitVec 32 := 5#32
  let v387 : BitVec 32 := Scalar.addi v324 c5_i32
  let v388 : Index := Scalar.indexCast v387
  ![6, v388.toNat]
def k0_off397 (v389 : BitVec 32) : Fin 3 → Nat :=
  let v390 : Index := Scalar.indexCast v389
  let c0_178 : Index := 0#32
  let c0_179 : Index := 0#32
  ![v390.toNat, 0, 0]

def k0_chk205 (v389 : BitVec 32) : Prop :=
  (∀ a, (k0_off397 v389) a + S1x1x128.size a ≤ S100000x1x128.size a)
theorem k0_off397_inb : ∀ (v389 : BitVec 32) (k0_hw205 : k0_chk205 v389), ∀ a, (k0_off397 v389) a + S1x1x128.size a ≤ S100000x1x128.size a := fun v389 k0_hw205 => k0_hw205

def k0_off398 (v233 : BitVec 32) (k0_t13 : Fin (k0_t13_loop v233).trips) : Fin 2 → Nat :=
  let c6_181 : Index := 6#32
  let c0_i32_120 : BitVec 32 := 0#32
  let c1_i32_122 : BitVec 32 := 1#32
  let arg9 : BitVec 32 := Scf.iv c0_i32_120 c1_i32_122 k0_t13
  let c16_i32_154 : BitVec 32 := 16#32
  let v324 : BitVec 32 := Scalar.muli arg9 c16_i32_154
  let c6_i32 : BitVec 32 := 6#32
  let v401 : BitVec 32 := Scalar.addi v324 c6_i32
  let v402 : Index := Scalar.indexCast v401
  ![6, v402.toNat]
def k0_off399 (v403 : BitVec 32) : Fin 3 → Nat :=
  let v404 : Index := Scalar.indexCast v403
  let c0_182 : Index := 0#32
  let c0_183 : Index := 0#32
  ![v404.toNat, 0, 0]

def k0_chk206 (v403 : BitVec 32) : Prop :=
  (∀ a, (k0_off399 v403) a + S1x1x128.size a ≤ S100000x1x128.size a)
theorem k0_off399_inb : ∀ (v403 : BitVec 32) (k0_hw206 : k0_chk206 v403), ∀ a, (k0_off399 v403) a + S1x1x128.size a ≤ S100000x1x128.size a := fun v403 k0_hw206 => k0_hw206

def k0_off400 (v233 : BitVec 32) (k0_t13 : Fin (k0_t13_loop v233).trips) : Fin 2 → Nat :=
  let c6_185 : Index := 6#32
  let c0_i32_120 : BitVec 32 := 0#32
  let c1_i32_122 : BitVec 32 := 1#32
  let arg9 : BitVec 32 := Scf.iv c0_i32_120 c1_i32_122 k0_t13
  let c16_i32_154 : BitVec 32 := 16#32
  let v324 : BitVec 32 := Scalar.muli arg9 c16_i32_154
  let c7_i32 : BitVec 32 := 7#32
  let v415 : BitVec 32 := Scalar.addi v324 c7_i32
  let v416 : Index := Scalar.indexCast v415
  ![6, v416.toNat]
def k0_off401 (v417 : BitVec 32) : Fin 3 → Nat :=
  let v418 : Index := Scalar.indexCast v417
  let c0_186 : Index := 0#32
  let c0_187 : Index := 0#32
  ![v418.toNat, 0, 0]

def k0_chk207 (v417 : BitVec 32) : Prop :=
  (∀ a, (k0_off401 v417) a + S1x1x128.size a ≤ S100000x1x128.size a)
theorem k0_off401_inb : ∀ (v417 : BitVec 32) (k0_hw207 : k0_chk207 v417), ∀ a, (k0_off401 v417) a + S1x1x128.size a ≤ S100000x1x128.size a := fun v417 k0_hw207 => k0_hw207

def k0_off402 (v233 : BitVec 32) (k0_t13 : Fin (k0_t13_loop v233).trips) : Fin 2 → Nat :=
  let c6_189 : Index := 6#32
  let c0_i32_120 : BitVec 32 := 0#32
  let c1_i32_122 : BitVec 32 := 1#32
  let arg9 : BitVec 32 := Scf.iv c0_i32_120 c1_i32_122 k0_t13
  let c16_i32_154 : BitVec 32 := 16#32
  let v324 : BitVec 32 := Scalar.muli arg9 c16_i32_154
  let c8_i32 : BitVec 32 := 8#32
  let v429 : BitVec 32 := Scalar.addi v324 c8_i32
  let v430 : Index := Scalar.indexCast v429
  ![6, v430.toNat]
def k0_off403 (v431 : BitVec 32) : Fin 3 → Nat :=
  let v432 : Index := Scalar.indexCast v431
  let c0_190 : Index := 0#32
  let c0_191 : Index := 0#32
  ![v432.toNat, 0, 0]

def k0_chk208 (v431 : BitVec 32) : Prop :=
  (∀ a, (k0_off403 v431) a + S1x1x128.size a ≤ S100000x1x128.size a)
theorem k0_off403_inb : ∀ (v431 : BitVec 32) (k0_hw208 : k0_chk208 v431), ∀ a, (k0_off403 v431) a + S1x1x128.size a ≤ S100000x1x128.size a := fun v431 k0_hw208 => k0_hw208

def k0_off404 (v233 : BitVec 32) (k0_t13 : Fin (k0_t13_loop v233).trips) : Fin 2 → Nat :=
  let c6_193 : Index := 6#32
  let c0_i32_120 : BitVec 32 := 0#32
  let c1_i32_122 : BitVec 32 := 1#32
  let arg9 : BitVec 32 := Scf.iv c0_i32_120 c1_i32_122 k0_t13
  let c16_i32_154 : BitVec 32 := 16#32
  let v324 : BitVec 32 := Scalar.muli arg9 c16_i32_154
  let c9_i32 : BitVec 32 := 9#32
  let v443 : BitVec 32 := Scalar.addi v324 c9_i32
  let v444 : Index := Scalar.indexCast v443
  ![6, v444.toNat]
def k0_off405 (v445 : BitVec 32) : Fin 3 → Nat :=
  let v446 : Index := Scalar.indexCast v445
  let c0_194 : Index := 0#32
  let c0_195 : Index := 0#32
  ![v446.toNat, 0, 0]

def k0_chk209 (v445 : BitVec 32) : Prop :=
  (∀ a, (k0_off405 v445) a + S1x1x128.size a ≤ S100000x1x128.size a)
theorem k0_off405_inb : ∀ (v445 : BitVec 32) (k0_hw209 : k0_chk209 v445), ∀ a, (k0_off405 v445) a + S1x1x128.size a ≤ S100000x1x128.size a := fun v445 k0_hw209 => k0_hw209

def k0_off406 (v233 : BitVec 32) (k0_t13 : Fin (k0_t13_loop v233).trips) : Fin 2 → Nat :=
  let c6_197 : Index := 6#32
  let c0_i32_120 : BitVec 32 := 0#32
  let c1_i32_122 : BitVec 32 := 1#32
  let arg9 : BitVec 32 := Scf.iv c0_i32_120 c1_i32_122 k0_t13
  let c16_i32_154 : BitVec 32 := 16#32
  let v324 : BitVec 32 := Scalar.muli arg9 c16_i32_154
  let c10_i32 : BitVec 32 := 10#32
  let v457 : BitVec 32 := Scalar.addi v324 c10_i32
  let v458 : Index := Scalar.indexCast v457
  ![6, v458.toNat]
def k0_off407 (v459 : BitVec 32) : Fin 3 → Nat :=
  let v460 : Index := Scalar.indexCast v459
  let c0_198 : Index := 0#32
  let c0_199 : Index := 0#32
  ![v460.toNat, 0, 0]

def k0_chk210 (v459 : BitVec 32) : Prop :=
  (∀ a, (k0_off407 v459) a + S1x1x128.size a ≤ S100000x1x128.size a)
theorem k0_off407_inb : ∀ (v459 : BitVec 32) (k0_hw210 : k0_chk210 v459), ∀ a, (k0_off407 v459) a + S1x1x128.size a ≤ S100000x1x128.size a := fun v459 k0_hw210 => k0_hw210

def k0_off408 (v233 : BitVec 32) (k0_t13 : Fin (k0_t13_loop v233).trips) : Fin 2 → Nat :=
  let c6_201 : Index := 6#32
  let c0_i32_120 : BitVec 32 := 0#32
  let c1_i32_122 : BitVec 32 := 1#32
  let arg9 : BitVec 32 := Scf.iv c0_i32_120 c1_i32_122 k0_t13
  let c16_i32_154 : BitVec 32 := 16#32
  let v324 : BitVec 32 := Scalar.muli arg9 c16_i32_154
  let c11_i32 : BitVec 32 := 11#32
  let v471 : BitVec 32 := Scalar.addi v324 c11_i32
  let v472 : Index := Scalar.indexCast v471
  ![6, v472.toNat]
def k0_off409 (v473 : BitVec 32) : Fin 3 → Nat :=
  let v474 : Index := Scalar.indexCast v473
  let c0_202 : Index := 0#32
  let c0_203 : Index := 0#32
  ![v474.toNat, 0, 0]

def k0_chk211 (v473 : BitVec 32) : Prop :=
  (∀ a, (k0_off409 v473) a + S1x1x128.size a ≤ S100000x1x128.size a)
theorem k0_off409_inb : ∀ (v473 : BitVec 32) (k0_hw211 : k0_chk211 v473), ∀ a, (k0_off409 v473) a + S1x1x128.size a ≤ S100000x1x128.size a := fun v473 k0_hw211 => k0_hw211

def k0_off410 (v233 : BitVec 32) (k0_t13 : Fin (k0_t13_loop v233).trips) : Fin 2 → Nat :=
  let c6_205 : Index := 6#32
  let c0_i32_120 : BitVec 32 := 0#32
  let c1_i32_122 : BitVec 32 := 1#32
  let arg9 : BitVec 32 := Scf.iv c0_i32_120 c1_i32_122 k0_t13
  let c16_i32_154 : BitVec 32 := 16#32
  let v324 : BitVec 32 := Scalar.muli arg9 c16_i32_154
  let c12_i32 : BitVec 32 := 12#32
  let v485 : BitVec 32 := Scalar.addi v324 c12_i32
  let v486 : Index := Scalar.indexCast v485
  ![6, v486.toNat]
def k0_off411 (v487 : BitVec 32) : Fin 3 → Nat :=
  let v488 : Index := Scalar.indexCast v487
  let c0_206 : Index := 0#32
  let c0_207 : Index := 0#32
  ![v488.toNat, 0, 0]

def k0_chk212 (v487 : BitVec 32) : Prop :=
  (∀ a, (k0_off411 v487) a + S1x1x128.size a ≤ S100000x1x128.size a)
theorem k0_off411_inb : ∀ (v487 : BitVec 32) (k0_hw212 : k0_chk212 v487), ∀ a, (k0_off411 v487) a + S1x1x128.size a ≤ S100000x1x128.size a := fun v487 k0_hw212 => k0_hw212

def k0_off412 (v233 : BitVec 32) (k0_t13 : Fin (k0_t13_loop v233).trips) : Fin 2 → Nat :=
  let c6_209 : Index := 6#32
  let c0_i32_120 : BitVec 32 := 0#32
  let c1_i32_122 : BitVec 32 := 1#32
  let arg9 : BitVec 32 := Scf.iv c0_i32_120 c1_i32_122 k0_t13
  let c16_i32_154 : BitVec 32 := 16#32
  let v324 : BitVec 32 := Scalar.muli arg9 c16_i32_154
  let c13_i32 : BitVec 32 := 13#32
  let v499 : BitVec 32 := Scalar.addi v324 c13_i32
  let v500 : Index := Scalar.indexCast v499
  ![6, v500.toNat]
def k0_off413 (v501 : BitVec 32) : Fin 3 → Nat :=
  let v502 : Index := Scalar.indexCast v501
  let c0_210 : Index := 0#32
  let c0_211 : Index := 0#32
  ![v502.toNat, 0, 0]

def k0_chk213 (v501 : BitVec 32) : Prop :=
  (∀ a, (k0_off413 v501) a + S1x1x128.size a ≤ S100000x1x128.size a)
theorem k0_off413_inb : ∀ (v501 : BitVec 32) (k0_hw213 : k0_chk213 v501), ∀ a, (k0_off413 v501) a + S1x1x128.size a ≤ S100000x1x128.size a := fun v501 k0_hw213 => k0_hw213

def k0_off414 (v233 : BitVec 32) (k0_t13 : Fin (k0_t13_loop v233).trips) : Fin 2 → Nat :=
  let c6_213 : Index := 6#32
  let c0_i32_120 : BitVec 32 := 0#32
  let c1_i32_122 : BitVec 32 := 1#32
  let arg9 : BitVec 32 := Scf.iv c0_i32_120 c1_i32_122 k0_t13
  let c16_i32_154 : BitVec 32 := 16#32
  let v324 : BitVec 32 := Scalar.muli arg9 c16_i32_154
  let c14_i32 : BitVec 32 := 14#32
  let v513 : BitVec 32 := Scalar.addi v324 c14_i32
  let v514 : Index := Scalar.indexCast v513
  ![6, v514.toNat]
def k0_off415 (v515 : BitVec 32) : Fin 3 → Nat :=
  let v516 : Index := Scalar.indexCast v515
  let c0_214 : Index := 0#32
  let c0_215 : Index := 0#32
  ![v516.toNat, 0, 0]

def k0_chk214 (v515 : BitVec 32) : Prop :=
  (∀ a, (k0_off415 v515) a + S1x1x128.size a ≤ S100000x1x128.size a)
theorem k0_off415_inb : ∀ (v515 : BitVec 32) (k0_hw214 : k0_chk214 v515), ∀ a, (k0_off415 v515) a + S1x1x128.size a ≤ S100000x1x128.size a := fun v515 k0_hw214 => k0_hw214

def k0_off416 (v233 : BitVec 32) (k0_t13 : Fin (k0_t13_loop v233).trips) : Fin 2 → Nat :=
  let c6_218 : Index := 6#32
  let c0_i32_120 : BitVec 32 := 0#32
  let c1_i32_122 : BitVec 32 := 1#32
  let arg9 : BitVec 32 := Scf.iv c0_i32_120 c1_i32_122 k0_t13
  let c16_i32_154 : BitVec 32 := 16#32
  let v324 : BitVec 32 := Scalar.muli arg9 c16_i32_154
  let c15_i32_217 : BitVec 32 := 15#32
  let v527 : BitVec 32 := Scalar.addi v324 c15_i32_217
  let v528 : Index := Scalar.indexCast v527
  ![6, v528.toNat]
def k0_off417 (v529 : BitVec 32) : Fin 3 → Nat :=
  let v530 : Index := Scalar.indexCast v529
  let c0_219 : Index := 0#32
  let c0_220 : Index := 0#32
  ![v530.toNat, 0, 0]

def k0_chk215 (v529 : BitVec 32) : Prop :=
  (∀ a, (k0_off417 v529) a + S1x1x128.size a ≤ S100000x1x128.size a)
theorem k0_off417_inb : ∀ (v529 : BitVec 32) (k0_hw215 : k0_chk215 v529), ∀ a, (k0_off417 v529) a + S1x1x128.size a ≤ S100000x1x128.size a := fun v529 k0_hw215 => k0_hw215

@[reducible] def k0_t14_loop (v233 : BitVec 32) : Scf.Loop 32 :=
  let c0_i32_120 : BitVec 32 := 0#32
  let c15_i32_110 : BitVec 32 := 15#32
  let v234 : BitVec 32 := Scalar.addi v233 c15_i32_110
  let c0_i32_112 : BitVec 32 := 0#32
  let v236 : BitVec 1 := Scalar.cmpi .sgt v234 c0_i32_112
  let v237 : BitVec 32 := Scalar.extui v236
  let c0_i32_113 : BitVec 32 := 0#32
  let v238 : BitVec 1 := Scalar.cmpi .slt v234 c0_i32_113
  let v239 : BitVec 32 := Scalar.extui v238
  let v240 : BitVec 32 := Scalar.subi v237 v239
  let c16_i32_111 : BitVec 32 := 16#32
  let c0_i32_114 : BitVec 32 := 0#32
  let v241 : BitVec 1 := Scalar.cmpi .sgt c16_i32_111 c0_i32_114
  let v242 : BitVec 32 := Scalar.extui v241
  let c0_i32_115 : BitVec 32 := 0#32
  let v243 : BitVec 1 := Scalar.cmpi .slt c16_i32_111 c0_i32_115
  let v244 : BitVec 32 := Scalar.extui v243
  let v245 : BitVec 32 := Scalar.subi v242 v244
  let v246 : BitVec 1 := Scalar.cmpi .ne v240 v245
  let v247 : BitVec 32 := Scalar.remsi v234 c16_i32_111
  let c0_i32_116 : BitVec 32 := 0#32
  let v248 : BitVec 1 := Scalar.cmpi .ne v247 c0_i32_116
  let v249 : BitVec 1 := Scalar.andi v246 v248
  let v235 : BitVec 32 := Scalar.divsi v234 c16_i32_111
  let c1_i32_117 : BitVec 32 := 1#32
  let v250 : BitVec 32 := Scalar.subi v235 c1_i32_117
  let v251 : BitVec 32 := Scalar.select v249 v250 v235
  let v253 : BitVec 32 := Scalar.subi v251 c0_i32_120
  let c1_i32_121 : BitVec 32 := 1#32
  let v255 : BitVec 32 := Scalar.divsi v253 c1_i32_121
  let v256 : BitVec 32 := Scalar.muli v255 c1_i32_121
  let v257 : BitVec 32 := Scalar.addi c0_i32_120 v256
  let v254 : BitVec 32 := Scalar.addi c0_i32_120 v253
  let c1_i32_123 : BitVec 32 := 1#32
  ⟨v257, v254, c1_i32_123⟩
def k0_off418 (v233 : BitVec 32) (k0_t14 : Fin (k0_t14_loop v233).trips) : Fin 2 → Nat :=
  let c6_156 : Index := 6#32
  let c0_i32_120 : BitVec 32 := 0#32
  let c15_i32_110 : BitVec 32 := 15#32
  let v234 : BitVec 32 := Scalar.addi v233 c15_i32_110
  let c0_i32_112 : BitVec 32 := 0#32
  let v236 : BitVec 1 := Scalar.cmpi .sgt v234 c0_i32_112
  let v237 : BitVec 32 := Scalar.extui v236
  let c0_i32_113 : BitVec 32 := 0#32
  let v238 : BitVec 1 := Scalar.cmpi .slt v234 c0_i32_113
  let v239 : BitVec 32 := Scalar.extui v238
  let v240 : BitVec 32 := Scalar.subi v237 v239
  let c16_i32_111 : BitVec 32 := 16#32
  let c0_i32_114 : BitVec 32 := 0#32
  let v241 : BitVec 1 := Scalar.cmpi .sgt c16_i32_111 c0_i32_114
  let v242 : BitVec 32 := Scalar.extui v241
  let c0_i32_115 : BitVec 32 := 0#32
  let v243 : BitVec 1 := Scalar.cmpi .slt c16_i32_111 c0_i32_115
  let v244 : BitVec 32 := Scalar.extui v243
  let v245 : BitVec 32 := Scalar.subi v242 v244
  let v246 : BitVec 1 := Scalar.cmpi .ne v240 v245
  let v247 : BitVec 32 := Scalar.remsi v234 c16_i32_111
  let c0_i32_116 : BitVec 32 := 0#32
  let v248 : BitVec 1 := Scalar.cmpi .ne v247 c0_i32_116
  let v249 : BitVec 1 := Scalar.andi v246 v248
  let v235 : BitVec 32 := Scalar.divsi v234 c16_i32_111
  let c1_i32_117 : BitVec 32 := 1#32
  let v250 : BitVec 32 := Scalar.subi v235 c1_i32_117
  let v251 : BitVec 32 := Scalar.select v249 v250 v235
  let v253 : BitVec 32 := Scalar.subi v251 c0_i32_120
  let c1_i32_121 : BitVec 32 := 1#32
  let v255 : BitVec 32 := Scalar.divsi v253 c1_i32_121
  let v256 : BitVec 32 := Scalar.muli v255 c1_i32_121
  let v257 : BitVec 32 := Scalar.addi c0_i32_120 v256
  let c1_i32_123 : BitVec 32 := 1#32
  let arg9 : BitVec 32 := Scf.iv v257 c1_i32_123 k0_t14
  let c16_i32_154 : BitVec 32 := 16#32
  let v324 : BitVec 32 := Scalar.muli arg9 c16_i32_154
  let c0_i32_155 : BitVec 32 := 0#32
  let v325 : BitVec 32 := Scalar.addi v324 c0_i32_155
  let v326 : Index := Scalar.indexCast v325
  ![6, v326.toNat]
def k0_off419 (v327 : BitVec 32) : Fin 3 → Nat :=
  let v328 : Index := Scalar.indexCast v327
  let c0_157 : Index := 0#32
  let c0_158 : Index := 0#32
  ![v328.toNat, 0, 0]

def k0_chk216 (v327 : BitVec 32) : Prop :=
  (∀ a, (k0_off419 v327) a + S1x1x128.size a ≤ S100000x1x128.size a)
theorem k0_off419_inb : ∀ (v327 : BitVec 32) (k0_hw216 : k0_chk216 v327), ∀ a, (k0_off419 v327) a + S1x1x128.size a ≤ S100000x1x128.size a := fun v327 k0_hw216 => k0_hw216

def k0_off420 (v233 : BitVec 32) (k0_t14 : Fin (k0_t14_loop v233).trips) : Fin 2 → Nat :=
  let c6_161 : Index := 6#32
  let c0_i32_120 : BitVec 32 := 0#32
  let c15_i32_110 : BitVec 32 := 15#32
  let v234 : BitVec 32 := Scalar.addi v233 c15_i32_110
  let c0_i32_112 : BitVec 32 := 0#32
  let v236 : BitVec 1 := Scalar.cmpi .sgt v234 c0_i32_112
  let v237 : BitVec 32 := Scalar.extui v236
  let c0_i32_113 : BitVec 32 := 0#32
  let v238 : BitVec 1 := Scalar.cmpi .slt v234 c0_i32_113
  let v239 : BitVec 32 := Scalar.extui v238
  let v240 : BitVec 32 := Scalar.subi v237 v239
  let c16_i32_111 : BitVec 32 := 16#32
  let c0_i32_114 : BitVec 32 := 0#32
  let v241 : BitVec 1 := Scalar.cmpi .sgt c16_i32_111 c0_i32_114
  let v242 : BitVec 32 := Scalar.extui v241
  let c0_i32_115 : BitVec 32 := 0#32
  let v243 : BitVec 1 := Scalar.cmpi .slt c16_i32_111 c0_i32_115
  let v244 : BitVec 32 := Scalar.extui v243
  let v245 : BitVec 32 := Scalar.subi v242 v244
  let v246 : BitVec 1 := Scalar.cmpi .ne v240 v245
  let v247 : BitVec 32 := Scalar.remsi v234 c16_i32_111
  let c0_i32_116 : BitVec 32 := 0#32
  let v248 : BitVec 1 := Scalar.cmpi .ne v247 c0_i32_116
  let v249 : BitVec 1 := Scalar.andi v246 v248
  let v235 : BitVec 32 := Scalar.divsi v234 c16_i32_111
  let c1_i32_117 : BitVec 32 := 1#32
  let v250 : BitVec 32 := Scalar.subi v235 c1_i32_117
  let v251 : BitVec 32 := Scalar.select v249 v250 v235
  let v253 : BitVec 32 := Scalar.subi v251 c0_i32_120
  let c1_i32_121 : BitVec 32 := 1#32
  let v255 : BitVec 32 := Scalar.divsi v253 c1_i32_121
  let v256 : BitVec 32 := Scalar.muli v255 c1_i32_121
  let v257 : BitVec 32 := Scalar.addi c0_i32_120 v256
  let c1_i32_123 : BitVec 32 := 1#32
  let arg9 : BitVec 32 := Scf.iv v257 c1_i32_123 k0_t14
  let c16_i32_154 : BitVec 32 := 16#32
  let v324 : BitVec 32 := Scalar.muli arg9 c16_i32_154
  let c1_i32_160 : BitVec 32 := 1#32
  let v337 : BitVec 32 := Scalar.addi v324 c1_i32_160
  let v338 : Index := Scalar.indexCast v337
  ![6, v338.toNat]
def k0_off421 (v339 : BitVec 32) : Fin 3 → Nat :=
  let v340 : Index := Scalar.indexCast v339
  let c0_162 : Index := 0#32
  let c0_163 : Index := 0#32
  ![v340.toNat, 0, 0]

def k0_chk217 (v339 : BitVec 32) : Prop :=
  (∀ a, (k0_off421 v339) a + S1x1x128.size a ≤ S100000x1x128.size a)
theorem k0_off421_inb : ∀ (v339 : BitVec 32) (k0_hw217 : k0_chk217 v339), ∀ a, (k0_off421 v339) a + S1x1x128.size a ≤ S100000x1x128.size a := fun v339 k0_hw217 => k0_hw217

def k0_off422 (v233 : BitVec 32) (k0_t14 : Fin (k0_t14_loop v233).trips) : Fin 2 → Nat :=
  let c6_165 : Index := 6#32
  let c0_i32_120 : BitVec 32 := 0#32
  let c15_i32_110 : BitVec 32 := 15#32
  let v234 : BitVec 32 := Scalar.addi v233 c15_i32_110
  let c0_i32_112 : BitVec 32 := 0#32
  let v236 : BitVec 1 := Scalar.cmpi .sgt v234 c0_i32_112
  let v237 : BitVec 32 := Scalar.extui v236
  let c0_i32_113 : BitVec 32 := 0#32
  let v238 : BitVec 1 := Scalar.cmpi .slt v234 c0_i32_113
  let v239 : BitVec 32 := Scalar.extui v238
  let v240 : BitVec 32 := Scalar.subi v237 v239
  let c16_i32_111 : BitVec 32 := 16#32
  let c0_i32_114 : BitVec 32 := 0#32
  let v241 : BitVec 1 := Scalar.cmpi .sgt c16_i32_111 c0_i32_114
  let v242 : BitVec 32 := Scalar.extui v241
  let c0_i32_115 : BitVec 32 := 0#32
  let v243 : BitVec 1 := Scalar.cmpi .slt c16_i32_111 c0_i32_115
  let v244 : BitVec 32 := Scalar.extui v243
  let v245 : BitVec 32 := Scalar.subi v242 v244
  let v246 : BitVec 1 := Scalar.cmpi .ne v240 v245
  let v247 : BitVec 32 := Scalar.remsi v234 c16_i32_111
  let c0_i32_116 : BitVec 32 := 0#32
  let v248 : BitVec 1 := Scalar.cmpi .ne v247 c0_i32_116
  let v249 : BitVec 1 := Scalar.andi v246 v248
  let v235 : BitVec 32 := Scalar.divsi v234 c16_i32_111
  let c1_i32_117 : BitVec 32 := 1#32
  let v250 : BitVec 32 := Scalar.subi v235 c1_i32_117
  let v251 : BitVec 32 := Scalar.select v249 v250 v235
  let v253 : BitVec 32 := Scalar.subi v251 c0_i32_120
  let c1_i32_121 : BitVec 32 := 1#32
  let v255 : BitVec 32 := Scalar.divsi v253 c1_i32_121
  let v256 : BitVec 32 := Scalar.muli v255 c1_i32_121
  let v257 : BitVec 32 := Scalar.addi c0_i32_120 v256
  let c1_i32_123 : BitVec 32 := 1#32
  let arg9 : BitVec 32 := Scf.iv v257 c1_i32_123 k0_t14
  let c16_i32_154 : BitVec 32 := 16#32
  let v324 : BitVec 32 := Scalar.muli arg9 c16_i32_154
  let c2_i32 : BitVec 32 := 2#32
  let v349 : BitVec 32 := Scalar.addi v324 c2_i32
  let v350 : Index := Scalar.indexCast v349
  ![6, v350.toNat]
def k0_off423 (v351 : BitVec 32) : Fin 3 → Nat :=
  let v352 : Index := Scalar.indexCast v351
  let c0_166 : Index := 0#32
  let c0_167 : Index := 0#32
  ![v352.toNat, 0, 0]

def k0_chk218 (v351 : BitVec 32) : Prop :=
  (∀ a, (k0_off423 v351) a + S1x1x128.size a ≤ S100000x1x128.size a)
theorem k0_off423_inb : ∀ (v351 : BitVec 32) (k0_hw218 : k0_chk218 v351), ∀ a, (k0_off423 v351) a + S1x1x128.size a ≤ S100000x1x128.size a := fun v351 k0_hw218 => k0_hw218

def k0_off424 (v233 : BitVec 32) (k0_t14 : Fin (k0_t14_loop v233).trips) : Fin 2 → Nat :=
  let c6_169 : Index := 6#32
  let c0_i32_120 : BitVec 32 := 0#32
  let c15_i32_110 : BitVec 32 := 15#32
  let v234 : BitVec 32 := Scalar.addi v233 c15_i32_110
  let c0_i32_112 : BitVec 32 := 0#32
  let v236 : BitVec 1 := Scalar.cmpi .sgt v234 c0_i32_112
  let v237 : BitVec 32 := Scalar.extui v236
  let c0_i32_113 : BitVec 32 := 0#32
  let v238 : BitVec 1 := Scalar.cmpi .slt v234 c0_i32_113
  let v239 : BitVec 32 := Scalar.extui v238
  let v240 : BitVec 32 := Scalar.subi v237 v239
  let c16_i32_111 : BitVec 32 := 16#32
  let c0_i32_114 : BitVec 32 := 0#32
  let v241 : BitVec 1 := Scalar.cmpi .sgt c16_i32_111 c0_i32_114
  let v242 : BitVec 32 := Scalar.extui v241
  let c0_i32_115 : BitVec 32 := 0#32
  let v243 : BitVec 1 := Scalar.cmpi .slt c16_i32_111 c0_i32_115
  let v244 : BitVec 32 := Scalar.extui v243
  let v245 : BitVec 32 := Scalar.subi v242 v244
  let v246 : BitVec 1 := Scalar.cmpi .ne v240 v245
  let v247 : BitVec 32 := Scalar.remsi v234 c16_i32_111
  let c0_i32_116 : BitVec 32 := 0#32
  let v248 : BitVec 1 := Scalar.cmpi .ne v247 c0_i32_116
  let v249 : BitVec 1 := Scalar.andi v246 v248
  let v235 : BitVec 32 := Scalar.divsi v234 c16_i32_111
  let c1_i32_117 : BitVec 32 := 1#32
  let v250 : BitVec 32 := Scalar.subi v235 c1_i32_117
  let v251 : BitVec 32 := Scalar.select v249 v250 v235
  let v253 : BitVec 32 := Scalar.subi v251 c0_i32_120
  let c1_i32_121 : BitVec 32 := 1#32
  let v255 : BitVec 32 := Scalar.divsi v253 c1_i32_121
  let v256 : BitVec 32 := Scalar.muli v255 c1_i32_121
  let v257 : BitVec 32 := Scalar.addi c0_i32_120 v256
  let c1_i32_123 : BitVec 32 := 1#32
  let arg9 : BitVec 32 := Scf.iv v257 c1_i32_123 k0_t14
  let c16_i32_154 : BitVec 32 := 16#32
  let v324 : BitVec 32 := Scalar.muli arg9 c16_i32_154
  let c3_i32 : BitVec 32 := 3#32
  let v361 : BitVec 32 := Scalar.addi v324 c3_i32
  let v362 : Index := Scalar.indexCast v361
  ![6, v362.toNat]
def k0_off425 (v363 : BitVec 32) : Fin 3 → Nat :=
  let v364 : Index := Scalar.indexCast v363
  let c0_170 : Index := 0#32
  let c0_171 : Index := 0#32
  ![v364.toNat, 0, 0]

def k0_chk219 (v363 : BitVec 32) : Prop :=
  (∀ a, (k0_off425 v363) a + S1x1x128.size a ≤ S100000x1x128.size a)
theorem k0_off425_inb : ∀ (v363 : BitVec 32) (k0_hw219 : k0_chk219 v363), ∀ a, (k0_off425 v363) a + S1x1x128.size a ≤ S100000x1x128.size a := fun v363 k0_hw219 => k0_hw219

def k0_off426 (v233 : BitVec 32) (k0_t14 : Fin (k0_t14_loop v233).trips) : Fin 2 → Nat :=
  let c6_173 : Index := 6#32
  let c0_i32_120 : BitVec 32 := 0#32
  let c15_i32_110 : BitVec 32 := 15#32
  let v234 : BitVec 32 := Scalar.addi v233 c15_i32_110
  let c0_i32_112 : BitVec 32 := 0#32
  let v236 : BitVec 1 := Scalar.cmpi .sgt v234 c0_i32_112
  let v237 : BitVec 32 := Scalar.extui v236
  let c0_i32_113 : BitVec 32 := 0#32
  let v238 : BitVec 1 := Scalar.cmpi .slt v234 c0_i32_113
  let v239 : BitVec 32 := Scalar.extui v238
  let v240 : BitVec 32 := Scalar.subi v237 v239
  let c16_i32_111 : BitVec 32 := 16#32
  let c0_i32_114 : BitVec 32 := 0#32
  let v241 : BitVec 1 := Scalar.cmpi .sgt c16_i32_111 c0_i32_114
  let v242 : BitVec 32 := Scalar.extui v241
  let c0_i32_115 : BitVec 32 := 0#32
  let v243 : BitVec 1 := Scalar.cmpi .slt c16_i32_111 c0_i32_115
  let v244 : BitVec 32 := Scalar.extui v243
  let v245 : BitVec 32 := Scalar.subi v242 v244
  let v246 : BitVec 1 := Scalar.cmpi .ne v240 v245
  let v247 : BitVec 32 := Scalar.remsi v234 c16_i32_111
  let c0_i32_116 : BitVec 32 := 0#32
  let v248 : BitVec 1 := Scalar.cmpi .ne v247 c0_i32_116
  let v249 : BitVec 1 := Scalar.andi v246 v248
  let v235 : BitVec 32 := Scalar.divsi v234 c16_i32_111
  let c1_i32_117 : BitVec 32 := 1#32
  let v250 : BitVec 32 := Scalar.subi v235 c1_i32_117
  let v251 : BitVec 32 := Scalar.select v249 v250 v235
  let v253 : BitVec 32 := Scalar.subi v251 c0_i32_120
  let c1_i32_121 : BitVec 32 := 1#32
  let v255 : BitVec 32 := Scalar.divsi v253 c1_i32_121
  let v256 : BitVec 32 := Scalar.muli v255 c1_i32_121
  let v257 : BitVec 32 := Scalar.addi c0_i32_120 v256
  let c1_i32_123 : BitVec 32 := 1#32
  let arg9 : BitVec 32 := Scf.iv v257 c1_i32_123 k0_t14
  let c16_i32_154 : BitVec 32 := 16#32
  let v324 : BitVec 32 := Scalar.muli arg9 c16_i32_154
  let c4_i32 : BitVec 32 := 4#32
  let v373 : BitVec 32 := Scalar.addi v324 c4_i32
  let v374 : Index := Scalar.indexCast v373
  ![6, v374.toNat]
def k0_off427 (v375 : BitVec 32) : Fin 3 → Nat :=
  let v376 : Index := Scalar.indexCast v375
  let c0_174 : Index := 0#32
  let c0_175 : Index := 0#32
  ![v376.toNat, 0, 0]

def k0_chk220 (v375 : BitVec 32) : Prop :=
  (∀ a, (k0_off427 v375) a + S1x1x128.size a ≤ S100000x1x128.size a)
theorem k0_off427_inb : ∀ (v375 : BitVec 32) (k0_hw220 : k0_chk220 v375), ∀ a, (k0_off427 v375) a + S1x1x128.size a ≤ S100000x1x128.size a := fun v375 k0_hw220 => k0_hw220

def k0_off428 (v233 : BitVec 32) (k0_t14 : Fin (k0_t14_loop v233).trips) : Fin 2 → Nat :=
  let c6_177 : Index := 6#32
  let c0_i32_120 : BitVec 32 := 0#32
  let c15_i32_110 : BitVec 32 := 15#32
  let v234 : BitVec 32 := Scalar.addi v233 c15_i32_110
  let c0_i32_112 : BitVec 32 := 0#32
  let v236 : BitVec 1 := Scalar.cmpi .sgt v234 c0_i32_112
  let v237 : BitVec 32 := Scalar.extui v236
  let c0_i32_113 : BitVec 32 := 0#32
  let v238 : BitVec 1 := Scalar.cmpi .slt v234 c0_i32_113
  let v239 : BitVec 32 := Scalar.extui v238
  let v240 : BitVec 32 := Scalar.subi v237 v239
  let c16_i32_111 : BitVec 32 := 16#32
  let c0_i32_114 : BitVec 32 := 0#32
  let v241 : BitVec 1 := Scalar.cmpi .sgt c16_i32_111 c0_i32_114
  let v242 : BitVec 32 := Scalar.extui v241
  let c0_i32_115 : BitVec 32 := 0#32
  let v243 : BitVec 1 := Scalar.cmpi .slt c16_i32_111 c0_i32_115
  let v244 : BitVec 32 := Scalar.extui v243
  let v245 : BitVec 32 := Scalar.subi v242 v244
  let v246 : BitVec 1 := Scalar.cmpi .ne v240 v245
  let v247 : BitVec 32 := Scalar.remsi v234 c16_i32_111
  let c0_i32_116 : BitVec 32 := 0#32
  let v248 : BitVec 1 := Scalar.cmpi .ne v247 c0_i32_116
  let v249 : BitVec 1 := Scalar.andi v246 v248
  let v235 : BitVec 32 := Scalar.divsi v234 c16_i32_111
  let c1_i32_117 : BitVec 32 := 1#32
  let v250 : BitVec 32 := Scalar.subi v235 c1_i32_117
  let v251 : BitVec 32 := Scalar.select v249 v250 v235
  let v253 : BitVec 32 := Scalar.subi v251 c0_i32_120
  let c1_i32_121 : BitVec 32 := 1#32
  let v255 : BitVec 32 := Scalar.divsi v253 c1_i32_121
  let v256 : BitVec 32 := Scalar.muli v255 c1_i32_121
  let v257 : BitVec 32 := Scalar.addi c0_i32_120 v256
  let c1_i32_123 : BitVec 32 := 1#32
  let arg9 : BitVec 32 := Scf.iv v257 c1_i32_123 k0_t14
  let c16_i32_154 : BitVec 32 := 16#32
  let v324 : BitVec 32 := Scalar.muli arg9 c16_i32_154
  let c5_i32 : BitVec 32 := 5#32
  let v387 : BitVec 32 := Scalar.addi v324 c5_i32
  let v388 : Index := Scalar.indexCast v387
  ![6, v388.toNat]
def k0_off429 (v389 : BitVec 32) : Fin 3 → Nat :=
  let v390 : Index := Scalar.indexCast v389
  let c0_178 : Index := 0#32
  let c0_179 : Index := 0#32
  ![v390.toNat, 0, 0]

def k0_chk221 (v389 : BitVec 32) : Prop :=
  (∀ a, (k0_off429 v389) a + S1x1x128.size a ≤ S100000x1x128.size a)
theorem k0_off429_inb : ∀ (v389 : BitVec 32) (k0_hw221 : k0_chk221 v389), ∀ a, (k0_off429 v389) a + S1x1x128.size a ≤ S100000x1x128.size a := fun v389 k0_hw221 => k0_hw221

def k0_off430 (v233 : BitVec 32) (k0_t14 : Fin (k0_t14_loop v233).trips) : Fin 2 → Nat :=
  let c6_181 : Index := 6#32
  let c0_i32_120 : BitVec 32 := 0#32
  let c15_i32_110 : BitVec 32 := 15#32
  let v234 : BitVec 32 := Scalar.addi v233 c15_i32_110
  let c0_i32_112 : BitVec 32 := 0#32
  let v236 : BitVec 1 := Scalar.cmpi .sgt v234 c0_i32_112
  let v237 : BitVec 32 := Scalar.extui v236
  let c0_i32_113 : BitVec 32 := 0#32
  let v238 : BitVec 1 := Scalar.cmpi .slt v234 c0_i32_113
  let v239 : BitVec 32 := Scalar.extui v238
  let v240 : BitVec 32 := Scalar.subi v237 v239
  let c16_i32_111 : BitVec 32 := 16#32
  let c0_i32_114 : BitVec 32 := 0#32
  let v241 : BitVec 1 := Scalar.cmpi .sgt c16_i32_111 c0_i32_114
  let v242 : BitVec 32 := Scalar.extui v241
  let c0_i32_115 : BitVec 32 := 0#32
  let v243 : BitVec 1 := Scalar.cmpi .slt c16_i32_111 c0_i32_115
  let v244 : BitVec 32 := Scalar.extui v243
  let v245 : BitVec 32 := Scalar.subi v242 v244
  let v246 : BitVec 1 := Scalar.cmpi .ne v240 v245
  let v247 : BitVec 32 := Scalar.remsi v234 c16_i32_111
  let c0_i32_116 : BitVec 32 := 0#32
  let v248 : BitVec 1 := Scalar.cmpi .ne v247 c0_i32_116
  let v249 : BitVec 1 := Scalar.andi v246 v248
  let v235 : BitVec 32 := Scalar.divsi v234 c16_i32_111
  let c1_i32_117 : BitVec 32 := 1#32
  let v250 : BitVec 32 := Scalar.subi v235 c1_i32_117
  let v251 : BitVec 32 := Scalar.select v249 v250 v235
  let v253 : BitVec 32 := Scalar.subi v251 c0_i32_120
  let c1_i32_121 : BitVec 32 := 1#32
  let v255 : BitVec 32 := Scalar.divsi v253 c1_i32_121
  let v256 : BitVec 32 := Scalar.muli v255 c1_i32_121
  let v257 : BitVec 32 := Scalar.addi c0_i32_120 v256
  let c1_i32_123 : BitVec 32 := 1#32
  let arg9 : BitVec 32 := Scf.iv v257 c1_i32_123 k0_t14
  let c16_i32_154 : BitVec 32 := 16#32
  let v324 : BitVec 32 := Scalar.muli arg9 c16_i32_154
  let c6_i32 : BitVec 32 := 6#32
  let v401 : BitVec 32 := Scalar.addi v324 c6_i32
  let v402 : Index := Scalar.indexCast v401
  ![6, v402.toNat]
def k0_off431 (v403 : BitVec 32) : Fin 3 → Nat :=
  let v404 : Index := Scalar.indexCast v403
  let c0_182 : Index := 0#32
  let c0_183 : Index := 0#32
  ![v404.toNat, 0, 0]

def k0_chk222 (v403 : BitVec 32) : Prop :=
  (∀ a, (k0_off431 v403) a + S1x1x128.size a ≤ S100000x1x128.size a)
theorem k0_off431_inb : ∀ (v403 : BitVec 32) (k0_hw222 : k0_chk222 v403), ∀ a, (k0_off431 v403) a + S1x1x128.size a ≤ S100000x1x128.size a := fun v403 k0_hw222 => k0_hw222

def k0_off432 (v233 : BitVec 32) (k0_t14 : Fin (k0_t14_loop v233).trips) : Fin 2 → Nat :=
  let c6_185 : Index := 6#32
  let c0_i32_120 : BitVec 32 := 0#32
  let c15_i32_110 : BitVec 32 := 15#32
  let v234 : BitVec 32 := Scalar.addi v233 c15_i32_110
  let c0_i32_112 : BitVec 32 := 0#32
  let v236 : BitVec 1 := Scalar.cmpi .sgt v234 c0_i32_112
  let v237 : BitVec 32 := Scalar.extui v236
  let c0_i32_113 : BitVec 32 := 0#32
  let v238 : BitVec 1 := Scalar.cmpi .slt v234 c0_i32_113
  let v239 : BitVec 32 := Scalar.extui v238
  let v240 : BitVec 32 := Scalar.subi v237 v239
  let c16_i32_111 : BitVec 32 := 16#32
  let c0_i32_114 : BitVec 32 := 0#32
  let v241 : BitVec 1 := Scalar.cmpi .sgt c16_i32_111 c0_i32_114
  let v242 : BitVec 32 := Scalar.extui v241
  let c0_i32_115 : BitVec 32 := 0#32
  let v243 : BitVec 1 := Scalar.cmpi .slt c16_i32_111 c0_i32_115
  let v244 : BitVec 32 := Scalar.extui v243
  let v245 : BitVec 32 := Scalar.subi v242 v244
  let v246 : BitVec 1 := Scalar.cmpi .ne v240 v245
  let v247 : BitVec 32 := Scalar.remsi v234 c16_i32_111
  let c0_i32_116 : BitVec 32 := 0#32
  let v248 : BitVec 1 := Scalar.cmpi .ne v247 c0_i32_116
  let v249 : BitVec 1 := Scalar.andi v246 v248
  let v235 : BitVec 32 := Scalar.divsi v234 c16_i32_111
  let c1_i32_117 : BitVec 32 := 1#32
  let v250 : BitVec 32 := Scalar.subi v235 c1_i32_117
  let v251 : BitVec 32 := Scalar.select v249 v250 v235
  let v253 : BitVec 32 := Scalar.subi v251 c0_i32_120
  let c1_i32_121 : BitVec 32 := 1#32
  let v255 : BitVec 32 := Scalar.divsi v253 c1_i32_121
  let v256 : BitVec 32 := Scalar.muli v255 c1_i32_121
  let v257 : BitVec 32 := Scalar.addi c0_i32_120 v256
  let c1_i32_123 : BitVec 32 := 1#32
  let arg9 : BitVec 32 := Scf.iv v257 c1_i32_123 k0_t14
  let c16_i32_154 : BitVec 32 := 16#32
  let v324 : BitVec 32 := Scalar.muli arg9 c16_i32_154
  let c7_i32 : BitVec 32 := 7#32
  let v415 : BitVec 32 := Scalar.addi v324 c7_i32
  let v416 : Index := Scalar.indexCast v415
  ![6, v416.toNat]
def k0_off433 (v417 : BitVec 32) : Fin 3 → Nat :=
  let v418 : Index := Scalar.indexCast v417
  let c0_186 : Index := 0#32
  let c0_187 : Index := 0#32
  ![v418.toNat, 0, 0]

def k0_chk223 (v417 : BitVec 32) : Prop :=
  (∀ a, (k0_off433 v417) a + S1x1x128.size a ≤ S100000x1x128.size a)
theorem k0_off433_inb : ∀ (v417 : BitVec 32) (k0_hw223 : k0_chk223 v417), ∀ a, (k0_off433 v417) a + S1x1x128.size a ≤ S100000x1x128.size a := fun v417 k0_hw223 => k0_hw223

def k0_off434 (v233 : BitVec 32) (k0_t14 : Fin (k0_t14_loop v233).trips) : Fin 2 → Nat :=
  let c6_189 : Index := 6#32
  let c0_i32_120 : BitVec 32 := 0#32
  let c15_i32_110 : BitVec 32 := 15#32
  let v234 : BitVec 32 := Scalar.addi v233 c15_i32_110
  let c0_i32_112 : BitVec 32 := 0#32
  let v236 : BitVec 1 := Scalar.cmpi .sgt v234 c0_i32_112
  let v237 : BitVec 32 := Scalar.extui v236
  let c0_i32_113 : BitVec 32 := 0#32
  let v238 : BitVec 1 := Scalar.cmpi .slt v234 c0_i32_113
  let v239 : BitVec 32 := Scalar.extui v238
  let v240 : BitVec 32 := Scalar.subi v237 v239
  let c16_i32_111 : BitVec 32 := 16#32
  let c0_i32_114 : BitVec 32 := 0#32
  let v241 : BitVec 1 := Scalar.cmpi .sgt c16_i32_111 c0_i32_114
  let v242 : BitVec 32 := Scalar.extui v241
  let c0_i32_115 : BitVec 32 := 0#32
  let v243 : BitVec 1 := Scalar.cmpi .slt c16_i32_111 c0_i32_115
  let v244 : BitVec 32 := Scalar.extui v243
  let v245 : BitVec 32 := Scalar.subi v242 v244
  let v246 : BitVec 1 := Scalar.cmpi .ne v240 v245
  let v247 : BitVec 32 := Scalar.remsi v234 c16_i32_111
  let c0_i32_116 : BitVec 32 := 0#32
  let v248 : BitVec 1 := Scalar.cmpi .ne v247 c0_i32_116
  let v249 : BitVec 1 := Scalar.andi v246 v248
  let v235 : BitVec 32 := Scalar.divsi v234 c16_i32_111
  let c1_i32_117 : BitVec 32 := 1#32
  let v250 : BitVec 32 := Scalar.subi v235 c1_i32_117
  let v251 : BitVec 32 := Scalar.select v249 v250 v235
  let v253 : BitVec 32 := Scalar.subi v251 c0_i32_120
  let c1_i32_121 : BitVec 32 := 1#32
  let v255 : BitVec 32 := Scalar.divsi v253 c1_i32_121
  let v256 : BitVec 32 := Scalar.muli v255 c1_i32_121
  let v257 : BitVec 32 := Scalar.addi c0_i32_120 v256
  let c1_i32_123 : BitVec 32 := 1#32
  let arg9 : BitVec 32 := Scf.iv v257 c1_i32_123 k0_t14
  let c16_i32_154 : BitVec 32 := 16#32
  let v324 : BitVec 32 := Scalar.muli arg9 c16_i32_154
  let c8_i32 : BitVec 32 := 8#32
  let v429 : BitVec 32 := Scalar.addi v324 c8_i32
  let v430 : Index := Scalar.indexCast v429
  ![6, v430.toNat]
def k0_off435 (v431 : BitVec 32) : Fin 3 → Nat :=
  let v432 : Index := Scalar.indexCast v431
  let c0_190 : Index := 0#32
  let c0_191 : Index := 0#32
  ![v432.toNat, 0, 0]

def k0_chk224 (v431 : BitVec 32) : Prop :=
  (∀ a, (k0_off435 v431) a + S1x1x128.size a ≤ S100000x1x128.size a)
theorem k0_off435_inb : ∀ (v431 : BitVec 32) (k0_hw224 : k0_chk224 v431), ∀ a, (k0_off435 v431) a + S1x1x128.size a ≤ S100000x1x128.size a := fun v431 k0_hw224 => k0_hw224

def k0_off436 (v233 : BitVec 32) (k0_t14 : Fin (k0_t14_loop v233).trips) : Fin 2 → Nat :=
  let c6_193 : Index := 6#32
  let c0_i32_120 : BitVec 32 := 0#32
  let c15_i32_110 : BitVec 32 := 15#32
  let v234 : BitVec 32 := Scalar.addi v233 c15_i32_110
  let c0_i32_112 : BitVec 32 := 0#32
  let v236 : BitVec 1 := Scalar.cmpi .sgt v234 c0_i32_112
  let v237 : BitVec 32 := Scalar.extui v236
  let c0_i32_113 : BitVec 32 := 0#32
  let v238 : BitVec 1 := Scalar.cmpi .slt v234 c0_i32_113
  let v239 : BitVec 32 := Scalar.extui v238
  let v240 : BitVec 32 := Scalar.subi v237 v239
  let c16_i32_111 : BitVec 32 := 16#32
  let c0_i32_114 : BitVec 32 := 0#32
  let v241 : BitVec 1 := Scalar.cmpi .sgt c16_i32_111 c0_i32_114
  let v242 : BitVec 32 := Scalar.extui v241
  let c0_i32_115 : BitVec 32 := 0#32
  let v243 : BitVec 1 := Scalar.cmpi .slt c16_i32_111 c0_i32_115
  let v244 : BitVec 32 := Scalar.extui v243
  let v245 : BitVec 32 := Scalar.subi v242 v244
  let v246 : BitVec 1 := Scalar.cmpi .ne v240 v245
  let v247 : BitVec 32 := Scalar.remsi v234 c16_i32_111
  let c0_i32_116 : BitVec 32 := 0#32
  let v248 : BitVec 1 := Scalar.cmpi .ne v247 c0_i32_116
  let v249 : BitVec 1 := Scalar.andi v246 v248
  let v235 : BitVec 32 := Scalar.divsi v234 c16_i32_111
  let c1_i32_117 : BitVec 32 := 1#32
  let v250 : BitVec 32 := Scalar.subi v235 c1_i32_117
  let v251 : BitVec 32 := Scalar.select v249 v250 v235
  let v253 : BitVec 32 := Scalar.subi v251 c0_i32_120
  let c1_i32_121 : BitVec 32 := 1#32
  let v255 : BitVec 32 := Scalar.divsi v253 c1_i32_121
  let v256 : BitVec 32 := Scalar.muli v255 c1_i32_121
  let v257 : BitVec 32 := Scalar.addi c0_i32_120 v256
  let c1_i32_123 : BitVec 32 := 1#32
  let arg9 : BitVec 32 := Scf.iv v257 c1_i32_123 k0_t14
  let c16_i32_154 : BitVec 32 := 16#32
  let v324 : BitVec 32 := Scalar.muli arg9 c16_i32_154
  let c9_i32 : BitVec 32 := 9#32
  let v443 : BitVec 32 := Scalar.addi v324 c9_i32
  let v444 : Index := Scalar.indexCast v443
  ![6, v444.toNat]
def k0_off437 (v445 : BitVec 32) : Fin 3 → Nat :=
  let v446 : Index := Scalar.indexCast v445
  let c0_194 : Index := 0#32
  let c0_195 : Index := 0#32
  ![v446.toNat, 0, 0]

def k0_chk225 (v445 : BitVec 32) : Prop :=
  (∀ a, (k0_off437 v445) a + S1x1x128.size a ≤ S100000x1x128.size a)
theorem k0_off437_inb : ∀ (v445 : BitVec 32) (k0_hw225 : k0_chk225 v445), ∀ a, (k0_off437 v445) a + S1x1x128.size a ≤ S100000x1x128.size a := fun v445 k0_hw225 => k0_hw225

def k0_off438 (v233 : BitVec 32) (k0_t14 : Fin (k0_t14_loop v233).trips) : Fin 2 → Nat :=
  let c6_197 : Index := 6#32
  let c0_i32_120 : BitVec 32 := 0#32
  let c15_i32_110 : BitVec 32 := 15#32
  let v234 : BitVec 32 := Scalar.addi v233 c15_i32_110
  let c0_i32_112 : BitVec 32 := 0#32
  let v236 : BitVec 1 := Scalar.cmpi .sgt v234 c0_i32_112
  let v237 : BitVec 32 := Scalar.extui v236
  let c0_i32_113 : BitVec 32 := 0#32
  let v238 : BitVec 1 := Scalar.cmpi .slt v234 c0_i32_113
  let v239 : BitVec 32 := Scalar.extui v238
  let v240 : BitVec 32 := Scalar.subi v237 v239
  let c16_i32_111 : BitVec 32 := 16#32
  let c0_i32_114 : BitVec 32 := 0#32
  let v241 : BitVec 1 := Scalar.cmpi .sgt c16_i32_111 c0_i32_114
  let v242 : BitVec 32 := Scalar.extui v241
  let c0_i32_115 : BitVec 32 := 0#32
  let v243 : BitVec 1 := Scalar.cmpi .slt c16_i32_111 c0_i32_115
  let v244 : BitVec 32 := Scalar.extui v243
  let v245 : BitVec 32 := Scalar.subi v242 v244
  let v246 : BitVec 1 := Scalar.cmpi .ne v240 v245
  let v247 : BitVec 32 := Scalar.remsi v234 c16_i32_111
  let c0_i32_116 : BitVec 32 := 0#32
  let v248 : BitVec 1 := Scalar.cmpi .ne v247 c0_i32_116
  let v249 : BitVec 1 := Scalar.andi v246 v248
  let v235 : BitVec 32 := Scalar.divsi v234 c16_i32_111
  let c1_i32_117 : BitVec 32 := 1#32
  let v250 : BitVec 32 := Scalar.subi v235 c1_i32_117
  let v251 : BitVec 32 := Scalar.select v249 v250 v235
  let v253 : BitVec 32 := Scalar.subi v251 c0_i32_120
  let c1_i32_121 : BitVec 32 := 1#32
  let v255 : BitVec 32 := Scalar.divsi v253 c1_i32_121
  let v256 : BitVec 32 := Scalar.muli v255 c1_i32_121
  let v257 : BitVec 32 := Scalar.addi c0_i32_120 v256
  let c1_i32_123 : BitVec 32 := 1#32
  let arg9 : BitVec 32 := Scf.iv v257 c1_i32_123 k0_t14
  let c16_i32_154 : BitVec 32 := 16#32
  let v324 : BitVec 32 := Scalar.muli arg9 c16_i32_154
  let c10_i32 : BitVec 32 := 10#32
  let v457 : BitVec 32 := Scalar.addi v324 c10_i32
  let v458 : Index := Scalar.indexCast v457
  ![6, v458.toNat]
def k0_off439 (v459 : BitVec 32) : Fin 3 → Nat :=
  let v460 : Index := Scalar.indexCast v459
  let c0_198 : Index := 0#32
  let c0_199 : Index := 0#32
  ![v460.toNat, 0, 0]

def k0_chk226 (v459 : BitVec 32) : Prop :=
  (∀ a, (k0_off439 v459) a + S1x1x128.size a ≤ S100000x1x128.size a)
theorem k0_off439_inb : ∀ (v459 : BitVec 32) (k0_hw226 : k0_chk226 v459), ∀ a, (k0_off439 v459) a + S1x1x128.size a ≤ S100000x1x128.size a := fun v459 k0_hw226 => k0_hw226

def k0_off440 (v233 : BitVec 32) (k0_t14 : Fin (k0_t14_loop v233).trips) : Fin 2 → Nat :=
  let c6_201 : Index := 6#32
  let c0_i32_120 : BitVec 32 := 0#32
  let c15_i32_110 : BitVec 32 := 15#32
  let v234 : BitVec 32 := Scalar.addi v233 c15_i32_110
  let c0_i32_112 : BitVec 32 := 0#32
  let v236 : BitVec 1 := Scalar.cmpi .sgt v234 c0_i32_112
  let v237 : BitVec 32 := Scalar.extui v236
  let c0_i32_113 : BitVec 32 := 0#32
  let v238 : BitVec 1 := Scalar.cmpi .slt v234 c0_i32_113
  let v239 : BitVec 32 := Scalar.extui v238
  let v240 : BitVec 32 := Scalar.subi v237 v239
  let c16_i32_111 : BitVec 32 := 16#32
  let c0_i32_114 : BitVec 32 := 0#32
  let v241 : BitVec 1 := Scalar.cmpi .sgt c16_i32_111 c0_i32_114
  let v242 : BitVec 32 := Scalar.extui v241
  let c0_i32_115 : BitVec 32 := 0#32
  let v243 : BitVec 1 := Scalar.cmpi .slt c16_i32_111 c0_i32_115
  let v244 : BitVec 32 := Scalar.extui v243
  let v245 : BitVec 32 := Scalar.subi v242 v244
  let v246 : BitVec 1 := Scalar.cmpi .ne v240 v245
  let v247 : BitVec 32 := Scalar.remsi v234 c16_i32_111
  let c0_i32_116 : BitVec 32 := 0#32
  let v248 : BitVec 1 := Scalar.cmpi .ne v247 c0_i32_116
  let v249 : BitVec 1 := Scalar.andi v246 v248
  let v235 : BitVec 32 := Scalar.divsi v234 c16_i32_111
  let c1_i32_117 : BitVec 32 := 1#32
  let v250 : BitVec 32 := Scalar.subi v235 c1_i32_117
  let v251 : BitVec 32 := Scalar.select v249 v250 v235
  let v253 : BitVec 32 := Scalar.subi v251 c0_i32_120
  let c1_i32_121 : BitVec 32 := 1#32
  let v255 : BitVec 32 := Scalar.divsi v253 c1_i32_121
  let v256 : BitVec 32 := Scalar.muli v255 c1_i32_121
  let v257 : BitVec 32 := Scalar.addi c0_i32_120 v256
  let c1_i32_123 : BitVec 32 := 1#32
  let arg9 : BitVec 32 := Scf.iv v257 c1_i32_123 k0_t14
  let c16_i32_154 : BitVec 32 := 16#32
  let v324 : BitVec 32 := Scalar.muli arg9 c16_i32_154
  let c11_i32 : BitVec 32 := 11#32
  let v471 : BitVec 32 := Scalar.addi v324 c11_i32
  let v472 : Index := Scalar.indexCast v471
  ![6, v472.toNat]
def k0_off441 (v473 : BitVec 32) : Fin 3 → Nat :=
  let v474 : Index := Scalar.indexCast v473
  let c0_202 : Index := 0#32
  let c0_203 : Index := 0#32
  ![v474.toNat, 0, 0]

def k0_chk227 (v473 : BitVec 32) : Prop :=
  (∀ a, (k0_off441 v473) a + S1x1x128.size a ≤ S100000x1x128.size a)
theorem k0_off441_inb : ∀ (v473 : BitVec 32) (k0_hw227 : k0_chk227 v473), ∀ a, (k0_off441 v473) a + S1x1x128.size a ≤ S100000x1x128.size a := fun v473 k0_hw227 => k0_hw227

def k0_off442 (v233 : BitVec 32) (k0_t14 : Fin (k0_t14_loop v233).trips) : Fin 2 → Nat :=
  let c6_205 : Index := 6#32
  let c0_i32_120 : BitVec 32 := 0#32
  let c15_i32_110 : BitVec 32 := 15#32
  let v234 : BitVec 32 := Scalar.addi v233 c15_i32_110
  let c0_i32_112 : BitVec 32 := 0#32
  let v236 : BitVec 1 := Scalar.cmpi .sgt v234 c0_i32_112
  let v237 : BitVec 32 := Scalar.extui v236
  let c0_i32_113 : BitVec 32 := 0#32
  let v238 : BitVec 1 := Scalar.cmpi .slt v234 c0_i32_113
  let v239 : BitVec 32 := Scalar.extui v238
  let v240 : BitVec 32 := Scalar.subi v237 v239
  let c16_i32_111 : BitVec 32 := 16#32
  let c0_i32_114 : BitVec 32 := 0#32
  let v241 : BitVec 1 := Scalar.cmpi .sgt c16_i32_111 c0_i32_114
  let v242 : BitVec 32 := Scalar.extui v241
  let c0_i32_115 : BitVec 32 := 0#32
  let v243 : BitVec 1 := Scalar.cmpi .slt c16_i32_111 c0_i32_115
  let v244 : BitVec 32 := Scalar.extui v243
  let v245 : BitVec 32 := Scalar.subi v242 v244
  let v246 : BitVec 1 := Scalar.cmpi .ne v240 v245
  let v247 : BitVec 32 := Scalar.remsi v234 c16_i32_111
  let c0_i32_116 : BitVec 32 := 0#32
  let v248 : BitVec 1 := Scalar.cmpi .ne v247 c0_i32_116
  let v249 : BitVec 1 := Scalar.andi v246 v248
  let v235 : BitVec 32 := Scalar.divsi v234 c16_i32_111
  let c1_i32_117 : BitVec 32 := 1#32
  let v250 : BitVec 32 := Scalar.subi v235 c1_i32_117
  let v251 : BitVec 32 := Scalar.select v249 v250 v235
  let v253 : BitVec 32 := Scalar.subi v251 c0_i32_120
  let c1_i32_121 : BitVec 32 := 1#32
  let v255 : BitVec 32 := Scalar.divsi v253 c1_i32_121
  let v256 : BitVec 32 := Scalar.muli v255 c1_i32_121
  let v257 : BitVec 32 := Scalar.addi c0_i32_120 v256
  let c1_i32_123 : BitVec 32 := 1#32
  let arg9 : BitVec 32 := Scf.iv v257 c1_i32_123 k0_t14
  let c16_i32_154 : BitVec 32 := 16#32
  let v324 : BitVec 32 := Scalar.muli arg9 c16_i32_154
  let c12_i32 : BitVec 32 := 12#32
  let v485 : BitVec 32 := Scalar.addi v324 c12_i32
  let v486 : Index := Scalar.indexCast v485
  ![6, v486.toNat]
def k0_off443 (v487 : BitVec 32) : Fin 3 → Nat :=
  let v488 : Index := Scalar.indexCast v487
  let c0_206 : Index := 0#32
  let c0_207 : Index := 0#32
  ![v488.toNat, 0, 0]

def k0_chk228 (v487 : BitVec 32) : Prop :=
  (∀ a, (k0_off443 v487) a + S1x1x128.size a ≤ S100000x1x128.size a)
theorem k0_off443_inb : ∀ (v487 : BitVec 32) (k0_hw228 : k0_chk228 v487), ∀ a, (k0_off443 v487) a + S1x1x128.size a ≤ S100000x1x128.size a := fun v487 k0_hw228 => k0_hw228

def k0_off444 (v233 : BitVec 32) (k0_t14 : Fin (k0_t14_loop v233).trips) : Fin 2 → Nat :=
  let c6_209 : Index := 6#32
  let c0_i32_120 : BitVec 32 := 0#32
  let c15_i32_110 : BitVec 32 := 15#32
  let v234 : BitVec 32 := Scalar.addi v233 c15_i32_110
  let c0_i32_112 : BitVec 32 := 0#32
  let v236 : BitVec 1 := Scalar.cmpi .sgt v234 c0_i32_112
  let v237 : BitVec 32 := Scalar.extui v236
  let c0_i32_113 : BitVec 32 := 0#32
  let v238 : BitVec 1 := Scalar.cmpi .slt v234 c0_i32_113
  let v239 : BitVec 32 := Scalar.extui v238
  let v240 : BitVec 32 := Scalar.subi v237 v239
  let c16_i32_111 : BitVec 32 := 16#32
  let c0_i32_114 : BitVec 32 := 0#32
  let v241 : BitVec 1 := Scalar.cmpi .sgt c16_i32_111 c0_i32_114
  let v242 : BitVec 32 := Scalar.extui v241
  let c0_i32_115 : BitVec 32 := 0#32
  let v243 : BitVec 1 := Scalar.cmpi .slt c16_i32_111 c0_i32_115
  let v244 : BitVec 32 := Scalar.extui v243
  let v245 : BitVec 32 := Scalar.subi v242 v244
  let v246 : BitVec 1 := Scalar.cmpi .ne v240 v245
  let v247 : BitVec 32 := Scalar.remsi v234 c16_i32_111
  let c0_i32_116 : BitVec 32 := 0#32
  let v248 : BitVec 1 := Scalar.cmpi .ne v247 c0_i32_116
  let v249 : BitVec 1 := Scalar.andi v246 v248
  let v235 : BitVec 32 := Scalar.divsi v234 c16_i32_111
  let c1_i32_117 : BitVec 32 := 1#32
  let v250 : BitVec 32 := Scalar.subi v235 c1_i32_117
  let v251 : BitVec 32 := Scalar.select v249 v250 v235
  let v253 : BitVec 32 := Scalar.subi v251 c0_i32_120
  let c1_i32_121 : BitVec 32 := 1#32
  let v255 : BitVec 32 := Scalar.divsi v253 c1_i32_121
  let v256 : BitVec 32 := Scalar.muli v255 c1_i32_121
  let v257 : BitVec 32 := Scalar.addi c0_i32_120 v256
  let c1_i32_123 : BitVec 32 := 1#32
  let arg9 : BitVec 32 := Scf.iv v257 c1_i32_123 k0_t14
  let c16_i32_154 : BitVec 32 := 16#32
  let v324 : BitVec 32 := Scalar.muli arg9 c16_i32_154
  let c13_i32 : BitVec 32 := 13#32
  let v499 : BitVec 32 := Scalar.addi v324 c13_i32
  let v500 : Index := Scalar.indexCast v499
  ![6, v500.toNat]
def k0_off445 (v501 : BitVec 32) : Fin 3 → Nat :=
  let v502 : Index := Scalar.indexCast v501
  let c0_210 : Index := 0#32
  let c0_211 : Index := 0#32
  ![v502.toNat, 0, 0]

def k0_chk229 (v501 : BitVec 32) : Prop :=
  (∀ a, (k0_off445 v501) a + S1x1x128.size a ≤ S100000x1x128.size a)
theorem k0_off445_inb : ∀ (v501 : BitVec 32) (k0_hw229 : k0_chk229 v501), ∀ a, (k0_off445 v501) a + S1x1x128.size a ≤ S100000x1x128.size a := fun v501 k0_hw229 => k0_hw229

def k0_off446 (v233 : BitVec 32) (k0_t14 : Fin (k0_t14_loop v233).trips) : Fin 2 → Nat :=
  let c6_213 : Index := 6#32
  let c0_i32_120 : BitVec 32 := 0#32
  let c15_i32_110 : BitVec 32 := 15#32
  let v234 : BitVec 32 := Scalar.addi v233 c15_i32_110
  let c0_i32_112 : BitVec 32 := 0#32
  let v236 : BitVec 1 := Scalar.cmpi .sgt v234 c0_i32_112
  let v237 : BitVec 32 := Scalar.extui v236
  let c0_i32_113 : BitVec 32 := 0#32
  let v238 : BitVec 1 := Scalar.cmpi .slt v234 c0_i32_113
  let v239 : BitVec 32 := Scalar.extui v238
  let v240 : BitVec 32 := Scalar.subi v237 v239
  let c16_i32_111 : BitVec 32 := 16#32
  let c0_i32_114 : BitVec 32 := 0#32
  let v241 : BitVec 1 := Scalar.cmpi .sgt c16_i32_111 c0_i32_114
  let v242 : BitVec 32 := Scalar.extui v241
  let c0_i32_115 : BitVec 32 := 0#32
  let v243 : BitVec 1 := Scalar.cmpi .slt c16_i32_111 c0_i32_115
  let v244 : BitVec 32 := Scalar.extui v243
  let v245 : BitVec 32 := Scalar.subi v242 v244
  let v246 : BitVec 1 := Scalar.cmpi .ne v240 v245
  let v247 : BitVec 32 := Scalar.remsi v234 c16_i32_111
  let c0_i32_116 : BitVec 32 := 0#32
  let v248 : BitVec 1 := Scalar.cmpi .ne v247 c0_i32_116
  let v249 : BitVec 1 := Scalar.andi v246 v248
  let v235 : BitVec 32 := Scalar.divsi v234 c16_i32_111
  let c1_i32_117 : BitVec 32 := 1#32
  let v250 : BitVec 32 := Scalar.subi v235 c1_i32_117
  let v251 : BitVec 32 := Scalar.select v249 v250 v235
  let v253 : BitVec 32 := Scalar.subi v251 c0_i32_120
  let c1_i32_121 : BitVec 32 := 1#32
  let v255 : BitVec 32 := Scalar.divsi v253 c1_i32_121
  let v256 : BitVec 32 := Scalar.muli v255 c1_i32_121
  let v257 : BitVec 32 := Scalar.addi c0_i32_120 v256
  let c1_i32_123 : BitVec 32 := 1#32
  let arg9 : BitVec 32 := Scf.iv v257 c1_i32_123 k0_t14
  let c16_i32_154 : BitVec 32 := 16#32
  let v324 : BitVec 32 := Scalar.muli arg9 c16_i32_154
  let c14_i32 : BitVec 32 := 14#32
  let v513 : BitVec 32 := Scalar.addi v324 c14_i32
  let v514 : Index := Scalar.indexCast v513
  ![6, v514.toNat]
def k0_off447 (v515 : BitVec 32) : Fin 3 → Nat :=
  let v516 : Index := Scalar.indexCast v515
  let c0_214 : Index := 0#32
  let c0_215 : Index := 0#32
  ![v516.toNat, 0, 0]

def k0_chk230 (v515 : BitVec 32) : Prop :=
  (∀ a, (k0_off447 v515) a + S1x1x128.size a ≤ S100000x1x128.size a)
theorem k0_off447_inb : ∀ (v515 : BitVec 32) (k0_hw230 : k0_chk230 v515), ∀ a, (k0_off447 v515) a + S1x1x128.size a ≤ S100000x1x128.size a := fun v515 k0_hw230 => k0_hw230

def k0_off448 (v233 : BitVec 32) (k0_t14 : Fin (k0_t14_loop v233).trips) : Fin 2 → Nat :=
  let c6_218 : Index := 6#32
  let c0_i32_120 : BitVec 32 := 0#32
  let c15_i32_110 : BitVec 32 := 15#32
  let v234 : BitVec 32 := Scalar.addi v233 c15_i32_110
  let c0_i32_112 : BitVec 32 := 0#32
  let v236 : BitVec 1 := Scalar.cmpi .sgt v234 c0_i32_112
  let v237 : BitVec 32 := Scalar.extui v236
  let c0_i32_113 : BitVec 32 := 0#32
  let v238 : BitVec 1 := Scalar.cmpi .slt v234 c0_i32_113
  let v239 : BitVec 32 := Scalar.extui v238
  let v240 : BitVec 32 := Scalar.subi v237 v239
  let c16_i32_111 : BitVec 32 := 16#32
  let c0_i32_114 : BitVec 32 := 0#32
  let v241 : BitVec 1 := Scalar.cmpi .sgt c16_i32_111 c0_i32_114
  let v242 : BitVec 32 := Scalar.extui v241
  let c0_i32_115 : BitVec 32 := 0#32
  let v243 : BitVec 1 := Scalar.cmpi .slt c16_i32_111 c0_i32_115
  let v244 : BitVec 32 := Scalar.extui v243
  let v245 : BitVec 32 := Scalar.subi v242 v244
  let v246 : BitVec 1 := Scalar.cmpi .ne v240 v245
  let v247 : BitVec 32 := Scalar.remsi v234 c16_i32_111
  let c0_i32_116 : BitVec 32 := 0#32
  let v248 : BitVec 1 := Scalar.cmpi .ne v247 c0_i32_116
  let v249 : BitVec 1 := Scalar.andi v246 v248
  let v235 : BitVec 32 := Scalar.divsi v234 c16_i32_111
  let c1_i32_117 : BitVec 32 := 1#32
  let v250 : BitVec 32 := Scalar.subi v235 c1_i32_117
  let v251 : BitVec 32 := Scalar.select v249 v250 v235
  let v253 : BitVec 32 := Scalar.subi v251 c0_i32_120
  let c1_i32_121 : BitVec 32 := 1#32
  let v255 : BitVec 32 := Scalar.divsi v253 c1_i32_121
  let v256 : BitVec 32 := Scalar.muli v255 c1_i32_121
  let v257 : BitVec 32 := Scalar.addi c0_i32_120 v256
  let c1_i32_123 : BitVec 32 := 1#32
  let arg9 : BitVec 32 := Scf.iv v257 c1_i32_123 k0_t14
  let c16_i32_154 : BitVec 32 := 16#32
  let v324 : BitVec 32 := Scalar.muli arg9 c16_i32_154
  let c15_i32_217 : BitVec 32 := 15#32
  let v527 : BitVec 32 := Scalar.addi v324 c15_i32_217
  let v528 : Index := Scalar.indexCast v527
  ![6, v528.toNat]

def k0_chk199_0 (v233 : BitVec 32) : Prop :=
  ((k0_t13_loop v233).OK) ∧
  (∀ k0_t13 : Fin (k0_t13_loop v233).trips, ∀ a, (k0_off386 v233 k0_t13) a + S1x1.size a ≤ S8x512.size a) ∧
  (∀ k0_t13 : Fin (k0_t13_loop v233).trips, ∀ a, (k0_off388 v233 k0_t13) a + S1x1.size a ≤ S8x512.size a) ∧
  (∀ k0_t13 : Fin (k0_t13_loop v233).trips, ∀ a, (k0_off390 v233 k0_t13) a + S1x1.size a ≤ S8x512.size a) ∧
  (∀ k0_t13 : Fin (k0_t13_loop v233).trips, ∀ a, (k0_off392 v233 k0_t13) a + S1x1.size a ≤ S8x512.size a) ∧
  (∀ k0_t13 : Fin (k0_t13_loop v233).trips, ∀ a, (k0_off394 v233 k0_t13) a + S1x1.size a ≤ S8x512.size a) ∧
  (∀ k0_t13 : Fin (k0_t13_loop v233).trips, ∀ a, (k0_off396 v233 k0_t13) a + S1x1.size a ≤ S8x512.size a) ∧
  (∀ k0_t13 : Fin (k0_t13_loop v233).trips, ∀ a, (k0_off398 v233 k0_t13) a + S1x1.size a ≤ S8x512.size a) ∧
  (∀ k0_t13 : Fin (k0_t13_loop v233).trips, ∀ a, (k0_off400 v233 k0_t13) a + S1x1.size a ≤ S8x512.size a) ∧
  (∀ k0_t13 : Fin (k0_t13_loop v233).trips, ∀ a, (k0_off402 v233 k0_t13) a + S1x1.size a ≤ S8x512.size a) ∧
  (∀ k0_t13 : Fin (k0_t13_loop v233).trips, ∀ a, (k0_off404 v233 k0_t13) a + S1x1.size a ≤ S8x512.size a) ∧
  (∀ k0_t13 : Fin (k0_t13_loop v233).trips, ∀ a, (k0_off406 v233 k0_t13) a + S1x1.size a ≤ S8x512.size a) ∧
  (∀ k0_t13 : Fin (k0_t13_loop v233).trips, ∀ a, (k0_off408 v233 k0_t13) a + S1x1.size a ≤ S8x512.size a) ∧
  (∀ k0_t13 : Fin (k0_t13_loop v233).trips, ∀ a, (k0_off410 v233 k0_t13) a + S1x1.size a ≤ S8x512.size a) ∧
  (∀ k0_t13 : Fin (k0_t13_loop v233).trips, ∀ a, (k0_off412 v233 k0_t13) a + S1x1.size a ≤ S8x512.size a) ∧
  (∀ k0_t13 : Fin (k0_t13_loop v233).trips, ∀ a, (k0_off414 v233 k0_t13) a + S1x1.size a ≤ S8x512.size a) ∧
  (∀ k0_t13 : Fin (k0_t13_loop v233).trips, ∀ a, (k0_off416 v233 k0_t13) a + S1x1.size a ≤ S8x512.size a) ∧
  ((k0_t14_loop v233).OK) ∧
  (∀ k0_t14 : Fin (k0_t14_loop v233).trips, ∀ a, (k0_off418 v233 k0_t14) a + S1x1.size a ≤ S8x512.size a) ∧
  (∀ k0_t14 : Fin (k0_t14_loop v233).trips, ∀ a, (k0_off420 v233 k0_t14) a + S1x1.size a ≤ S8x512.size a) ∧
  (∀ k0_t14 : Fin (k0_t14_loop v233).trips, ∀ a, (k0_off422 v233 k0_t14) a + S1x1.size a ≤ S8x512.size a) ∧
  (∀ k0_t14 : Fin (k0_t14_loop v233).trips, ∀ a, (k0_off424 v233 k0_t14) a + S1x1.size a ≤ S8x512.size a) ∧
  (∀ k0_t14 : Fin (k0_t14_loop v233).trips, ∀ a, (k0_off426 v233 k0_t14) a + S1x1.size a ≤ S8x512.size a) ∧
  (∀ k0_t14 : Fin (k0_t14_loop v233).trips, ∀ a, (k0_off428 v233 k0_t14) a + S1x1.size a ≤ S8x512.size a) ∧
  (∀ k0_t14 : Fin (k0_t14_loop v233).trips, ∀ a, (k0_off430 v233 k0_t14) a + S1x1.size a ≤ S8x512.size a) ∧
  (∀ k0_t14 : Fin (k0_t14_loop v233).trips, ∀ a, (k0_off432 v233 k0_t14) a + S1x1.size a ≤ S8x512.size a) ∧
  (∀ k0_t14 : Fin (k0_t14_loop v233).trips, ∀ a, (k0_off434 v233 k0_t14) a + S1x1.size a ≤ S8x512.size a) ∧
  (∀ k0_t14 : Fin (k0_t14_loop v233).trips, ∀ a, (k0_off436 v233 k0_t14) a + S1x1.size a ≤ S8x512.size a) ∧
  (∀ k0_t14 : Fin (k0_t14_loop v233).trips, ∀ a, (k0_off438 v233 k0_t14) a + S1x1.size a ≤ S8x512.size a) ∧
  (∀ k0_t14 : Fin (k0_t14_loop v233).trips, ∀ a, (k0_off440 v233 k0_t14) a + S1x1.size a ≤ S8x512.size a) ∧
  (∀ k0_t14 : Fin (k0_t14_loop v233).trips, ∀ a, (k0_off442 v233 k0_t14) a + S1x1.size a ≤ S8x512.size a) ∧
  (∀ k0_t14 : Fin (k0_t14_loop v233).trips, ∀ a, (k0_off444 v233 k0_t14) a + S1x1.size a ≤ S8x512.size a)
def k0_chk199_1 (v233 : BitVec 32) : Prop :=
  (∀ k0_t14 : Fin (k0_t14_loop v233).trips, ∀ a, (k0_off446 v233 k0_t14) a + S1x1.size a ≤ S8x512.size a) ∧
  (∀ k0_t14 : Fin (k0_t14_loop v233).trips, ∀ a, (k0_off448 v233 k0_t14) a + S1x1.size a ≤ S8x512.size a)
def k0_chk199 (v233 : BitVec 32) : Prop :=
  k0_chk199_0 v233 ∧
  k0_chk199_1 v233
theorem k0_t13_ok : ∀ (v233 : BitVec 32) (k0_hw199 : k0_chk199 v233), (k0_t13_loop v233).OK := fun v233 k0_hw199 => k0_hw199.1.1
theorem k0_off386_inb : ∀ (v233 : BitVec 32) (k0_hw199 : k0_chk199 v233) (k0_t13 : Fin (k0_t13_loop v233).trips), ∀ a, (k0_off386 v233 k0_t13) a + S1x1.size a ≤ S8x512.size a := fun v233 k0_hw199 k0_t13 => k0_hw199.1.2.1 k0_t13
theorem k0_off388_inb : ∀ (v233 : BitVec 32) (k0_hw199 : k0_chk199 v233) (k0_t13 : Fin (k0_t13_loop v233).trips), ∀ a, (k0_off388 v233 k0_t13) a + S1x1.size a ≤ S8x512.size a := fun v233 k0_hw199 k0_t13 => k0_hw199.1.2.2.1 k0_t13
theorem k0_off390_inb : ∀ (v233 : BitVec 32) (k0_hw199 : k0_chk199 v233) (k0_t13 : Fin (k0_t13_loop v233).trips), ∀ a, (k0_off390 v233 k0_t13) a + S1x1.size a ≤ S8x512.size a := fun v233 k0_hw199 k0_t13 => k0_hw199.1.2.2.2.1 k0_t13
theorem k0_off392_inb : ∀ (v233 : BitVec 32) (k0_hw199 : k0_chk199 v233) (k0_t13 : Fin (k0_t13_loop v233).trips), ∀ a, (k0_off392 v233 k0_t13) a + S1x1.size a ≤ S8x512.size a := fun v233 k0_hw199 k0_t13 => k0_hw199.1.2.2.2.2.1 k0_t13
theorem k0_off394_inb : ∀ (v233 : BitVec 32) (k0_hw199 : k0_chk199 v233) (k0_t13 : Fin (k0_t13_loop v233).trips), ∀ a, (k0_off394 v233 k0_t13) a + S1x1.size a ≤ S8x512.size a := fun v233 k0_hw199 k0_t13 => k0_hw199.1.2.2.2.2.2.1 k0_t13
theorem k0_off396_inb : ∀ (v233 : BitVec 32) (k0_hw199 : k0_chk199 v233) (k0_t13 : Fin (k0_t13_loop v233).trips), ∀ a, (k0_off396 v233 k0_t13) a + S1x1.size a ≤ S8x512.size a := fun v233 k0_hw199 k0_t13 => k0_hw199.1.2.2.2.2.2.2.1 k0_t13
theorem k0_off398_inb : ∀ (v233 : BitVec 32) (k0_hw199 : k0_chk199 v233) (k0_t13 : Fin (k0_t13_loop v233).trips), ∀ a, (k0_off398 v233 k0_t13) a + S1x1.size a ≤ S8x512.size a := fun v233 k0_hw199 k0_t13 => k0_hw199.1.2.2.2.2.2.2.2.1 k0_t13
theorem k0_off400_inb : ∀ (v233 : BitVec 32) (k0_hw199 : k0_chk199 v233) (k0_t13 : Fin (k0_t13_loop v233).trips), ∀ a, (k0_off400 v233 k0_t13) a + S1x1.size a ≤ S8x512.size a := fun v233 k0_hw199 k0_t13 => k0_hw199.1.2.2.2.2.2.2.2.2.1 k0_t13
theorem k0_off402_inb : ∀ (v233 : BitVec 32) (k0_hw199 : k0_chk199 v233) (k0_t13 : Fin (k0_t13_loop v233).trips), ∀ a, (k0_off402 v233 k0_t13) a + S1x1.size a ≤ S8x512.size a := fun v233 k0_hw199 k0_t13 => k0_hw199.1.2.2.2.2.2.2.2.2.2.1 k0_t13
theorem k0_off404_inb : ∀ (v233 : BitVec 32) (k0_hw199 : k0_chk199 v233) (k0_t13 : Fin (k0_t13_loop v233).trips), ∀ a, (k0_off404 v233 k0_t13) a + S1x1.size a ≤ S8x512.size a := fun v233 k0_hw199 k0_t13 => k0_hw199.1.2.2.2.2.2.2.2.2.2.2.1 k0_t13
theorem k0_off406_inb : ∀ (v233 : BitVec 32) (k0_hw199 : k0_chk199 v233) (k0_t13 : Fin (k0_t13_loop v233).trips), ∀ a, (k0_off406 v233 k0_t13) a + S1x1.size a ≤ S8x512.size a := fun v233 k0_hw199 k0_t13 => k0_hw199.1.2.2.2.2.2.2.2.2.2.2.2.1 k0_t13
theorem k0_off408_inb : ∀ (v233 : BitVec 32) (k0_hw199 : k0_chk199 v233) (k0_t13 : Fin (k0_t13_loop v233).trips), ∀ a, (k0_off408 v233 k0_t13) a + S1x1.size a ≤ S8x512.size a := fun v233 k0_hw199 k0_t13 => k0_hw199.1.2.2.2.2.2.2.2.2.2.2.2.2.1 k0_t13
theorem k0_off410_inb : ∀ (v233 : BitVec 32) (k0_hw199 : k0_chk199 v233) (k0_t13 : Fin (k0_t13_loop v233).trips), ∀ a, (k0_off410 v233 k0_t13) a + S1x1.size a ≤ S8x512.size a := fun v233 k0_hw199 k0_t13 => k0_hw199.1.2.2.2.2.2.2.2.2.2.2.2.2.2.1 k0_t13
theorem k0_off412_inb : ∀ (v233 : BitVec 32) (k0_hw199 : k0_chk199 v233) (k0_t13 : Fin (k0_t13_loop v233).trips), ∀ a, (k0_off412 v233 k0_t13) a + S1x1.size a ≤ S8x512.size a := fun v233 k0_hw199 k0_t13 => k0_hw199.1.2.2.2.2.2.2.2.2.2.2.2.2.2.2.1 k0_t13
theorem k0_off414_inb : ∀ (v233 : BitVec 32) (k0_hw199 : k0_chk199 v233) (k0_t13 : Fin (k0_t13_loop v233).trips), ∀ a, (k0_off414 v233 k0_t13) a + S1x1.size a ≤ S8x512.size a := fun v233 k0_hw199 k0_t13 => k0_hw199.1.2.2.2.2.2.2.2.2.2.2.2.2.2.2.2.1 k0_t13
theorem k0_off416_inb : ∀ (v233 : BitVec 32) (k0_hw199 : k0_chk199 v233) (k0_t13 : Fin (k0_t13_loop v233).trips), ∀ a, (k0_off416 v233 k0_t13) a + S1x1.size a ≤ S8x512.size a := fun v233 k0_hw199 k0_t13 => k0_hw199.1.2.2.2.2.2.2.2.2.2.2.2.2.2.2.2.2.1 k0_t13
theorem k0_t14_ok : ∀ (v233 : BitVec 32) (k0_hw199 : k0_chk199 v233), (k0_t14_loop v233).OK := fun v233 k0_hw199 => k0_hw199.1.2.2.2.2.2.2.2.2.2.2.2.2.2.2.2.2.2.1
theorem k0_off418_inb : ∀ (v233 : BitVec 32) (k0_hw199 : k0_chk199 v233) (k0_t14 : Fin (k0_t14_loop v233).trips), ∀ a, (k0_off418 v233 k0_t14) a + S1x1.size a ≤ S8x512.size a := fun v233 k0_hw199 k0_t14 => k0_hw199.1.2.2.2.2.2.2.2.2.2.2.2.2.2.2.2.2.2.2.1 k0_t14
theorem k0_off420_inb : ∀ (v233 : BitVec 32) (k0_hw199 : k0_chk199 v233) (k0_t14 : Fin (k0_t14_loop v233).trips), ∀ a, (k0_off420 v233 k0_t14) a + S1x1.size a ≤ S8x512.size a := fun v233 k0_hw199 k0_t14 => k0_hw199.1.2.2.2.2.2.2.2.2.2.2.2.2.2.2.2.2.2.2.2.1 k0_t14
theorem k0_off422_inb : ∀ (v233 : BitVec 32) (k0_hw199 : k0_chk199 v233) (k0_t14 : Fin (k0_t14_loop v233).trips), ∀ a, (k0_off422 v233 k0_t14) a + S1x1.size a ≤ S8x512.size a := fun v233 k0_hw199 k0_t14 => k0_hw199.1.2.2.2.2.2.2.2.2.2.2.2.2.2.2.2.2.2.2.2.2.1 k0_t14
theorem k0_off424_inb : ∀ (v233 : BitVec 32) (k0_hw199 : k0_chk199 v233) (k0_t14 : Fin (k0_t14_loop v233).trips), ∀ a, (k0_off424 v233 k0_t14) a + S1x1.size a ≤ S8x512.size a := fun v233 k0_hw199 k0_t14 => k0_hw199.1.2.2.2.2.2.2.2.2.2.2.2.2.2.2.2.2.2.2.2.2.2.1 k0_t14
theorem k0_off426_inb : ∀ (v233 : BitVec 32) (k0_hw199 : k0_chk199 v233) (k0_t14 : Fin (k0_t14_loop v233).trips), ∀ a, (k0_off426 v233 k0_t14) a + S1x1.size a ≤ S8x512.size a := fun v233 k0_hw199 k0_t14 => k0_hw199.1.2.2.2.2.2.2.2.2.2.2.2.2.2.2.2.2.2.2.2.2.2.2.1 k0_t14
theorem k0_off428_inb : ∀ (v233 : BitVec 32) (k0_hw199 : k0_chk199 v233) (k0_t14 : Fin (k0_t14_loop v233).trips), ∀ a, (k0_off428 v233 k0_t14) a + S1x1.size a ≤ S8x512.size a := fun v233 k0_hw199 k0_t14 => k0_hw199.1.2.2.2.2.2.2.2.2.2.2.2.2.2.2.2.2.2.2.2.2.2.2.2.1 k0_t14
theorem k0_off430_inb : ∀ (v233 : BitVec 32) (k0_hw199 : k0_chk199 v233) (k0_t14 : Fin (k0_t14_loop v233).trips), ∀ a, (k0_off430 v233 k0_t14) a + S1x1.size a ≤ S8x512.size a := fun v233 k0_hw199 k0_t14 => k0_hw199.1.2.2.2.2.2.2.2.2.2.2.2.2.2.2.2.2.2.2.2.2.2.2.2.2.1 k0_t14
theorem k0_off432_inb : ∀ (v233 : BitVec 32) (k0_hw199 : k0_chk199 v233) (k0_t14 : Fin (k0_t14_loop v233).trips), ∀ a, (k0_off432 v233 k0_t14) a + S1x1.size a ≤ S8x512.size a := fun v233 k0_hw199 k0_t14 => k0_hw199.1.2.2.2.2.2.2.2.2.2.2.2.2.2.2.2.2.2.2.2.2.2.2.2.2.2.1 k0_t14
theorem k0_off434_inb : ∀ (v233 : BitVec 32) (k0_hw199 : k0_chk199 v233) (k0_t14 : Fin (k0_t14_loop v233).trips), ∀ a, (k0_off434 v233 k0_t14) a + S1x1.size a ≤ S8x512.size a := fun v233 k0_hw199 k0_t14 => k0_hw199.1.2.2.2.2.2.2.2.2.2.2.2.2.2.2.2.2.2.2.2.2.2.2.2.2.2.2.1 k0_t14
theorem k0_off436_inb : ∀ (v233 : BitVec 32) (k0_hw199 : k0_chk199 v233) (k0_t14 : Fin (k0_t14_loop v233).trips), ∀ a, (k0_off436 v233 k0_t14) a + S1x1.size a ≤ S8x512.size a := fun v233 k0_hw199 k0_t14 => k0_hw199.1.2.2.2.2.2.2.2.2.2.2.2.2.2.2.2.2.2.2.2.2.2.2.2.2.2.2.2.1 k0_t14
theorem k0_off438_inb : ∀ (v233 : BitVec 32) (k0_hw199 : k0_chk199 v233) (k0_t14 : Fin (k0_t14_loop v233).trips), ∀ a, (k0_off438 v233 k0_t14) a + S1x1.size a ≤ S8x512.size a := fun v233 k0_hw199 k0_t14 => k0_hw199.1.2.2.2.2.2.2.2.2.2.2.2.2.2.2.2.2.2.2.2.2.2.2.2.2.2.2.2.2.1 k0_t14
theorem k0_off440_inb : ∀ (v233 : BitVec 32) (k0_hw199 : k0_chk199 v233) (k0_t14 : Fin (k0_t14_loop v233).trips), ∀ a, (k0_off440 v233 k0_t14) a + S1x1.size a ≤ S8x512.size a := fun v233 k0_hw199 k0_t14 => k0_hw199.1.2.2.2.2.2.2.2.2.2.2.2.2.2.2.2.2.2.2.2.2.2.2.2.2.2.2.2.2.2.1 k0_t14
theorem k0_off442_inb : ∀ (v233 : BitVec 32) (k0_hw199 : k0_chk199 v233) (k0_t14 : Fin (k0_t14_loop v233).trips), ∀ a, (k0_off442 v233 k0_t14) a + S1x1.size a ≤ S8x512.size a := fun v233 k0_hw199 k0_t14 => k0_hw199.1.2.2.2.2.2.2.2.2.2.2.2.2.2.2.2.2.2.2.2.2.2.2.2.2.2.2.2.2.2.2.1 k0_t14
theorem k0_off444_inb : ∀ (v233 : BitVec 32) (k0_hw199 : k0_chk199 v233) (k0_t14 : Fin (k0_t14_loop v233).trips), ∀ a, (k0_off444 v233 k0_t14) a + S1x1.size a ≤ S8x512.size a := fun v233 k0_hw199 k0_t14 => k0_hw199.1.2.2.2.2.2.2.2.2.2.2.2.2.2.2.2.2.2.2.2.2.2.2.2.2.2.2.2.2.2.2.2 k0_t14
theorem k0_off446_inb : ∀ (v233 : BitVec 32) (k0_hw199 : k0_chk199 v233) (k0_t14 : Fin (k0_t14_loop v233).trips), ∀ a, (k0_off446 v233 k0_t14) a + S1x1.size a ≤ S8x512.size a := fun v233 k0_hw199 k0_t14 => k0_hw199.2.1 k0_t14
theorem k0_off448_inb : ∀ (v233 : BitVec 32) (k0_hw199 : k0_chk199 v233) (k0_t14 : Fin (k0_t14_loop v233).trips), ∀ a, (k0_off448 v233 k0_t14) a + S1x1.size a ≤ S8x512.size a := fun v233 k0_hw199 k0_t14 => k0_hw199.2.2 k0_t14

def k0_off449 (v529 : BitVec 32) : Fin 3 → Nat :=
  let v530 : Index := Scalar.indexCast v529
  let c0_219 : Index := 0#32
  let c0_220 : Index := 0#32
  ![v530.toNat, 0, 0]

def k0_chk231 (v529 : BitVec 32) : Prop :=
  (∀ a, (k0_off449 v529) a + S1x1x128.size a ≤ S100000x1x128.size a)
theorem k0_off449_inb : ∀ (v529 : BitVec 32) (k0_hw231 : k0_chk231 v529), ∀ a, (k0_off449 v529) a + S1x1x128.size a ≤ S100000x1x128.size a := fun v529 k0_hw231 => k0_hw231

@[reducible] def k0_t15_loop (v270 : BitVec 32) : Scf.Loop 32 :=
  let c0_i32_138 : BitVec 32 := 0#32
  let c15_i32_128 : BitVec 32 := 15#32
  let v271 : BitVec 32 := Scalar.addi v270 c15_i32_128
  let c0_i32_130 : BitVec 32 := 0#32
  let v273 : BitVec 1 := Scalar.cmpi .sgt v271 c0_i32_130
  let v274 : BitVec 32 := Scalar.extui v273
  let c0_i32_131 : BitVec 32 := 0#32
  let v275 : BitVec 1 := Scalar.cmpi .slt v271 c0_i32_131
  let v276 : BitVec 32 := Scalar.extui v275
  let v277 : BitVec 32 := Scalar.subi v274 v276
  let c16_i32_129 : BitVec 32 := 16#32
  let c0_i32_132 : BitVec 32 := 0#32
  let v278 : BitVec 1 := Scalar.cmpi .sgt c16_i32_129 c0_i32_132
  let v279 : BitVec 32 := Scalar.extui v278
  let c0_i32_133 : BitVec 32 := 0#32
  let v280 : BitVec 1 := Scalar.cmpi .slt c16_i32_129 c0_i32_133
  let v281 : BitVec 32 := Scalar.extui v280
  let v282 : BitVec 32 := Scalar.subi v279 v281
  let v283 : BitVec 1 := Scalar.cmpi .ne v277 v282
  let v284 : BitVec 32 := Scalar.remsi v271 c16_i32_129
  let c0_i32_134 : BitVec 32 := 0#32
  let v285 : BitVec 1 := Scalar.cmpi .ne v284 c0_i32_134
  let v286 : BitVec 1 := Scalar.andi v283 v285
  let v272 : BitVec 32 := Scalar.divsi v271 c16_i32_129
  let c1_i32_135 : BitVec 32 := 1#32
  let v287 : BitVec 32 := Scalar.subi v272 c1_i32_135
  let v288 : BitVec 32 := Scalar.select v286 v287 v272
  let v290 : BitVec 32 := Scalar.subi v288 c0_i32_138
  let c1_i32_139 : BitVec 32 := 1#32
  let v292 : BitVec 32 := Scalar.divsi v290 c1_i32_139
  let v293 : BitVec 32 := Scalar.muli v292 c1_i32_139
  let v294 : BitVec 32 := Scalar.addi c0_i32_138 v293
  let c1_i32_140 : BitVec 32 := 1#32
  ⟨c0_i32_138, v294, c1_i32_140⟩

def k0_off450 (v270 : BitVec 32) (k0_t15 : Fin (k0_t15_loop v270).trips) : Fin 2 → Nat :=
  let c7_156 : Index := 7#32
  let c0_i32_138 : BitVec 32 := 0#32
  let c1_i32_140 : BitVec 32 := 1#32
  let arg9 : BitVec 32 := Scf.iv c0_i32_138 c1_i32_140 k0_t15
  let c16_i32_154 : BitVec 32 := 16#32
  let v324 : BitVec 32 := Scalar.muli arg9 c16_i32_154
  let c0_i32_155 : BitVec 32 := 0#32
  let v325 : BitVec 32 := Scalar.addi v324 c0_i32_155
  let v326 : Index := Scalar.indexCast v325
  ![7, v326.toNat]
def k0_off451 (v327 : BitVec 32) : Fin 3 → Nat :=
  let v328 : Index := Scalar.indexCast v327
  let c0_157 : Index := 0#32
  let c0_158 : Index := 0#32
  ![v328.toNat, 0, 0]

def k0_chk233 (v327 : BitVec 32) : Prop :=
  (∀ a, (k0_off451 v327) a + S1x1x128.size a ≤ S100000x1x128.size a)
theorem k0_off451_inb : ∀ (v327 : BitVec 32) (k0_hw233 : k0_chk233 v327), ∀ a, (k0_off451 v327) a + S1x1x128.size a ≤ S100000x1x128.size a := fun v327 k0_hw233 => k0_hw233

def k0_off452 (v270 : BitVec 32) (k0_t15 : Fin (k0_t15_loop v270).trips) : Fin 2 → Nat :=
  let c7_161 : Index := 7#32
  let c0_i32_138 : BitVec 32 := 0#32
  let c1_i32_140 : BitVec 32 := 1#32
  let arg9 : BitVec 32 := Scf.iv c0_i32_138 c1_i32_140 k0_t15
  let c16_i32_154 : BitVec 32 := 16#32
  let v324 : BitVec 32 := Scalar.muli arg9 c16_i32_154
  let c1_i32_160 : BitVec 32 := 1#32
  let v337 : BitVec 32 := Scalar.addi v324 c1_i32_160
  let v338 : Index := Scalar.indexCast v337
  ![7, v338.toNat]
def k0_off453 (v339 : BitVec 32) : Fin 3 → Nat :=
  let v340 : Index := Scalar.indexCast v339
  let c0_162 : Index := 0#32
  let c0_163 : Index := 0#32
  ![v340.toNat, 0, 0]

def k0_chk234 (v339 : BitVec 32) : Prop :=
  (∀ a, (k0_off453 v339) a + S1x1x128.size a ≤ S100000x1x128.size a)
theorem k0_off453_inb : ∀ (v339 : BitVec 32) (k0_hw234 : k0_chk234 v339), ∀ a, (k0_off453 v339) a + S1x1x128.size a ≤ S100000x1x128.size a := fun v339 k0_hw234 => k0_hw234

def k0_off454 (v270 : BitVec 32) (k0_t15 : Fin (k0_t15_loop v270).trips) : Fin 2 → Nat :=
  let c7_165 : Index := 7#32
  let c0_i32_138 : BitVec 32 := 0#32
  let c1_i32_140 : BitVec 32 := 1#32
  let arg9 : BitVec 32 := Scf.iv c0_i32_138 c1_i32_140 k0_t15
  let c16_i32_154 : BitVec 32 := 16#32
  let v324 : BitVec 32 := Scalar.muli arg9 c16_i32_154
  let c2_i32 : BitVec 32 := 2#32
  let v349 : BitVec 32 := Scalar.addi v324 c2_i32
  let v350 : Index := Scalar.indexCast v349
  ![7, v350.toNat]
def k0_off455 (v351 : BitVec 32) : Fin 3 → Nat :=
  let v352 : Index := Scalar.indexCast v351
  let c0_166 : Index := 0#32
  let c0_167 : Index := 0#32
  ![v352.toNat, 0, 0]

def k0_chk235 (v351 : BitVec 32) : Prop :=
  (∀ a, (k0_off455 v351) a + S1x1x128.size a ≤ S100000x1x128.size a)
theorem k0_off455_inb : ∀ (v351 : BitVec 32) (k0_hw235 : k0_chk235 v351), ∀ a, (k0_off455 v351) a + S1x1x128.size a ≤ S100000x1x128.size a := fun v351 k0_hw235 => k0_hw235

def k0_off456 (v270 : BitVec 32) (k0_t15 : Fin (k0_t15_loop v270).trips) : Fin 2 → Nat :=
  let c7_169 : Index := 7#32
  let c0_i32_138 : BitVec 32 := 0#32
  let c1_i32_140 : BitVec 32 := 1#32
  let arg9 : BitVec 32 := Scf.iv c0_i32_138 c1_i32_140 k0_t15
  let c16_i32_154 : BitVec 32 := 16#32
  let v324 : BitVec 32 := Scalar.muli arg9 c16_i32_154
  let c3_i32 : BitVec 32 := 3#32
  let v361 : BitVec 32 := Scalar.addi v324 c3_i32
  let v362 : Index := Scalar.indexCast v361
  ![7, v362.toNat]
def k0_off457 (v363 : BitVec 32) : Fin 3 → Nat :=
  let v364 : Index := Scalar.indexCast v363
  let c0_170 : Index := 0#32
  let c0_171 : Index := 0#32
  ![v364.toNat, 0, 0]

def k0_chk236 (v363 : BitVec 32) : Prop :=
  (∀ a, (k0_off457 v363) a + S1x1x128.size a ≤ S100000x1x128.size a)
theorem k0_off457_inb : ∀ (v363 : BitVec 32) (k0_hw236 : k0_chk236 v363), ∀ a, (k0_off457 v363) a + S1x1x128.size a ≤ S100000x1x128.size a := fun v363 k0_hw236 => k0_hw236

def k0_off458 (v270 : BitVec 32) (k0_t15 : Fin (k0_t15_loop v270).trips) : Fin 2 → Nat :=
  let c7_173 : Index := 7#32
  let c0_i32_138 : BitVec 32 := 0#32
  let c1_i32_140 : BitVec 32 := 1#32
  let arg9 : BitVec 32 := Scf.iv c0_i32_138 c1_i32_140 k0_t15
  let c16_i32_154 : BitVec 32 := 16#32
  let v324 : BitVec 32 := Scalar.muli arg9 c16_i32_154
  let c4_i32 : BitVec 32 := 4#32
  let v373 : BitVec 32 := Scalar.addi v324 c4_i32
  let v374 : Index := Scalar.indexCast v373
  ![7, v374.toNat]
def k0_off459 (v375 : BitVec 32) : Fin 3 → Nat :=
  let v376 : Index := Scalar.indexCast v375
  let c0_174 : Index := 0#32
  let c0_175 : Index := 0#32
  ![v376.toNat, 0, 0]

def k0_chk237 (v375 : BitVec 32) : Prop :=
  (∀ a, (k0_off459 v375) a + S1x1x128.size a ≤ S100000x1x128.size a)
theorem k0_off459_inb : ∀ (v375 : BitVec 32) (k0_hw237 : k0_chk237 v375), ∀ a, (k0_off459 v375) a + S1x1x128.size a ≤ S100000x1x128.size a := fun v375 k0_hw237 => k0_hw237

def k0_off460 (v270 : BitVec 32) (k0_t15 : Fin (k0_t15_loop v270).trips) : Fin 2 → Nat :=
  let c7_177 : Index := 7#32
  let c0_i32_138 : BitVec 32 := 0#32
  let c1_i32_140 : BitVec 32 := 1#32
  let arg9 : BitVec 32 := Scf.iv c0_i32_138 c1_i32_140 k0_t15
  let c16_i32_154 : BitVec 32 := 16#32
  let v324 : BitVec 32 := Scalar.muli arg9 c16_i32_154
  let c5_i32 : BitVec 32 := 5#32
  let v387 : BitVec 32 := Scalar.addi v324 c5_i32
  let v388 : Index := Scalar.indexCast v387
  ![7, v388.toNat]
def k0_off461 (v389 : BitVec 32) : Fin 3 → Nat :=
  let v390 : Index := Scalar.indexCast v389
  let c0_178 : Index := 0#32
  let c0_179 : Index := 0#32
  ![v390.toNat, 0, 0]

def k0_chk238 (v389 : BitVec 32) : Prop :=
  (∀ a, (k0_off461 v389) a + S1x1x128.size a ≤ S100000x1x128.size a)
theorem k0_off461_inb : ∀ (v389 : BitVec 32) (k0_hw238 : k0_chk238 v389), ∀ a, (k0_off461 v389) a + S1x1x128.size a ≤ S100000x1x128.size a := fun v389 k0_hw238 => k0_hw238

def k0_off462 (v270 : BitVec 32) (k0_t15 : Fin (k0_t15_loop v270).trips) : Fin 2 → Nat :=
  let c7_181 : Index := 7#32
  let c0_i32_138 : BitVec 32 := 0#32
  let c1_i32_140 : BitVec 32 := 1#32
  let arg9 : BitVec 32 := Scf.iv c0_i32_138 c1_i32_140 k0_t15
  let c16_i32_154 : BitVec 32 := 16#32
  let v324 : BitVec 32 := Scalar.muli arg9 c16_i32_154
  let c6_i32 : BitVec 32 := 6#32
  let v401 : BitVec 32 := Scalar.addi v324 c6_i32
  let v402 : Index := Scalar.indexCast v401
  ![7, v402.toNat]
def k0_off463 (v403 : BitVec 32) : Fin 3 → Nat :=
  let v404 : Index := Scalar.indexCast v403
  let c0_182 : Index := 0#32
  let c0_183 : Index := 0#32
  ![v404.toNat, 0, 0]

def k0_chk239 (v403 : BitVec 32) : Prop :=
  (∀ a, (k0_off463 v403) a + S1x1x128.size a ≤ S100000x1x128.size a)
theorem k0_off463_inb : ∀ (v403 : BitVec 32) (k0_hw239 : k0_chk239 v403), ∀ a, (k0_off463 v403) a + S1x1x128.size a ≤ S100000x1x128.size a := fun v403 k0_hw239 => k0_hw239

def k0_off464 (v270 : BitVec 32) (k0_t15 : Fin (k0_t15_loop v270).trips) : Fin 2 → Nat :=
  let c7_185 : Index := 7#32
  let c0_i32_138 : BitVec 32 := 0#32
  let c1_i32_140 : BitVec 32 := 1#32
  let arg9 : BitVec 32 := Scf.iv c0_i32_138 c1_i32_140 k0_t15
  let c16_i32_154 : BitVec 32 := 16#32
  let v324 : BitVec 32 := Scalar.muli arg9 c16_i32_154
  let c7_i32 : BitVec 32 := 7#32
  let v415 : BitVec 32 := Scalar.addi v324 c7_i32
  let v416 : Index := Scalar.indexCast v415
  ![7, v416.toNat]
def k0_off465 (v417 : BitVec 32) : Fin 3 → Nat :=
  let v418 : Index := Scalar.indexCast v417
  let c0_186 : Index := 0#32
  let c0_187 : Index := 0#32
  ![v418.toNat, 0, 0]

def k0_chk240 (v417 : BitVec 32) : Prop :=
  (∀ a, (k0_off465 v417) a + S1x1x128.size a ≤ S100000x1x128.size a)
theorem k0_off465_inb : ∀ (v417 : BitVec 32) (k0_hw240 : k0_chk240 v417), ∀ a, (k0_off465 v417) a + S1x1x128.size a ≤ S100000x1x128.size a := fun v417 k0_hw240 => k0_hw240

def k0_off466 (v270 : BitVec 32) (k0_t15 : Fin (k0_t15_loop v270).trips) : Fin 2 → Nat :=
  let c7_189 : Index := 7#32
  let c0_i32_138 : BitVec 32 := 0#32
  let c1_i32_140 : BitVec 32 := 1#32
  let arg9 : BitVec 32 := Scf.iv c0_i32_138 c1_i32_140 k0_t15
  let c16_i32_154 : BitVec 32 := 16#32
  let v324 : BitVec 32 := Scalar.muli arg9 c16_i32_154
  let c8_i32 : BitVec 32 := 8#32
  let v429 : BitVec 32 := Scalar.addi v324 c8_i32
  let v430 : Index := Scalar.indexCast v429
  ![7, v430.toNat]
def k0_off467 (v431 : BitVec 32) : Fin 3 → Nat :=
  let v432 : Index := Scalar.indexCast v431
  let c0_190 : Index := 0#32
  let c0_191 : Index := 0#32
  ![v432.toNat, 0, 0]

def k0_chk241 (v431 : BitVec 32) : Prop :=
  (∀ a, (k0_off467 v431) a + S1x1x128.size a ≤ S100000x1x128.size a)
theorem k0_off467_inb : ∀ (v431 : BitVec 32) (k0_hw241 : k0_chk241 v431), ∀ a, (k0_off467 v431) a + S1x1x128.size a ≤ S100000x1x128.size a := fun v431 k0_hw241 => k0_hw241

def k0_off468 (v270 : BitVec 32) (k0_t15 : Fin (k0_t15_loop v270).trips) : Fin 2 → Nat :=
  let c7_193 : Index := 7#32
  let c0_i32_138 : BitVec 32 := 0#32
  let c1_i32_140 : BitVec 32 := 1#32
  let arg9 : BitVec 32 := Scf.iv c0_i32_138 c1_i32_140 k0_t15
  let c16_i32_154 : BitVec 32 := 16#32
  let v324 : BitVec 32 := Scalar.muli arg9 c16_i32_154
  let c9_i32 : BitVec 32 := 9#32
  let v443 : BitVec 32 := Scalar.addi v324 c9_i32
  let v444 : Index := Scalar.indexCast v443
  ![7, v444.toNat]
def k0_off469 (v445 : BitVec 32) : Fin 3 → Nat :=
  let v446 : Index := Scalar.indexCast v445
  let c0_194 : Index := 0#32
  let c0_195 : Index := 0#32
  ![v446.toNat, 0, 0]

def k0_chk242 (v445 : BitVec 32) : Prop :=
  (∀ a, (k0_off469 v445) a + S1x1x128.size a ≤ S100000x1x128.size a)
theorem k0_off469_inb : ∀ (v445 : BitVec 32) (k0_hw242 : k0_chk242 v445), ∀ a, (k0_off469 v445) a + S1x1x128.size a ≤ S100000x1x128.size a := fun v445 k0_hw242 => k0_hw242

def k0_off470 (v270 : BitVec 32) (k0_t15 : Fin (k0_t15_loop v270).trips) : Fin 2 → Nat :=
  let c7_197 : Index := 7#32
  let c0_i32_138 : BitVec 32 := 0#32
  let c1_i32_140 : BitVec 32 := 1#32
  let arg9 : BitVec 32 := Scf.iv c0_i32_138 c1_i32_140 k0_t15
  let c16_i32_154 : BitVec 32 := 16#32
  let v324 : BitVec 32 := Scalar.muli arg9 c16_i32_154
  let c10_i32 : BitVec 32 := 10#32
  let v457 : BitVec 32 := Scalar.addi v324 c10_i32
  let v458 : Index := Scalar.indexCast v457
  ![7, v458.toNat]
def k0_off471 (v459 : BitVec 32) : Fin 3 → Nat :=
  let v460 : Index := Scalar.indexCast v459
  let c0_198 : Index := 0#32
  let c0_199 : Index := 0#32
  ![v460.toNat, 0, 0]

def k0_chk243 (v459 : BitVec 32) : Prop :=
  (∀ a, (k0_off471 v459) a + S1x1x128.size a ≤ S100000x1x128.size a)
theorem k0_off471_inb : ∀ (v459 : BitVec 32) (k0_hw243 : k0_chk243 v459), ∀ a, (k0_off471 v459) a + S1x1x128.size a ≤ S100000x1x128.size a := fun v459 k0_hw243 => k0_hw243

def k0_off472 (v270 : BitVec 32) (k0_t15 : Fin (k0_t15_loop v270).trips) : Fin 2 → Nat :=
  let c7_201 : Index := 7#32
  let c0_i32_138 : BitVec 32 := 0#32
  let c1_i32_140 : BitVec 32 := 1#32
  let arg9 : BitVec 32 := Scf.iv c0_i32_138 c1_i32_140 k0_t15
  let c16_i32_154 : BitVec 32 := 16#32
  let v324 : BitVec 32 := Scalar.muli arg9 c16_i32_154
  let c11_i32 : BitVec 32 := 11#32
  let v471 : BitVec 32 := Scalar.addi v324 c11_i32
  let v472 : Index := Scalar.indexCast v471
  ![7, v472.toNat]
def k0_off473 (v473 : BitVec 32) : Fin 3 → Nat :=
  let v474 : Index := Scalar.indexCast v473
  let c0_202 : Index := 0#32
  let c0_203 : Index := 0#32
  ![v474.toNat, 0, 0]

def k0_chk244 (v473 : BitVec 32) : Prop :=
  (∀ a, (k0_off473 v473) a + S1x1x128.size a ≤ S100000x1x128.size a)
theorem k0_off473_inb : ∀ (v473 : BitVec 32) (k0_hw244 : k0_chk244 v473), ∀ a, (k0_off473 v473) a + S1x1x128.size a ≤ S100000x1x128.size a := fun v473 k0_hw244 => k0_hw244

def k0_off474 (v270 : BitVec 32) (k0_t15 : Fin (k0_t15_loop v270).trips) : Fin 2 → Nat :=
  let c7_205 : Index := 7#32
  let c0_i32_138 : BitVec 32 := 0#32
  let c1_i32_140 : BitVec 32 := 1#32
  let arg9 : BitVec 32 := Scf.iv c0_i32_138 c1_i32_140 k0_t15
  let c16_i32_154 : BitVec 32 := 16#32
  let v324 : BitVec 32 := Scalar.muli arg9 c16_i32_154
  let c12_i32 : BitVec 32 := 12#32
  let v485 : BitVec 32 := Scalar.addi v324 c12_i32
  let v486 : Index := Scalar.indexCast v485
  ![7, v486.toNat]
def k0_off475 (v487 : BitVec 32) : Fin 3 → Nat :=
  let v488 : Index := Scalar.indexCast v487
  let c0_206 : Index := 0#32
  let c0_207 : Index := 0#32
  ![v488.toNat, 0, 0]

def k0_chk245 (v487 : BitVec 32) : Prop :=
  (∀ a, (k0_off475 v487) a + S1x1x128.size a ≤ S100000x1x128.size a)
theorem k0_off475_inb : ∀ (v487 : BitVec 32) (k0_hw245 : k0_chk245 v487), ∀ a, (k0_off475 v487) a + S1x1x128.size a ≤ S100000x1x128.size a := fun v487 k0_hw245 => k0_hw245

def k0_off476 (v270 : BitVec 32) (k0_t15 : Fin (k0_t15_loop v270).trips) : Fin 2 → Nat :=
  let c7_209 : Index := 7#32
  let c0_i32_138 : BitVec 32 := 0#32
  let c1_i32_140 : BitVec 32 := 1#32
  let arg9 : BitVec 32 := Scf.iv c0_i32_138 c1_i32_140 k0_t15
  let c16_i32_154 : BitVec 32 := 16#32
  let v324 : BitVec 32 := Scalar.muli arg9 c16_i32_154
  let c13_i32 : BitVec 32 := 13#32
  let v499 : BitVec 32 := Scalar.addi v324 c13_i32
  let v500 : Index := Scalar.indexCast v499
  ![7, v500.toNat]
def k0_off477 (v501 : BitVec 32) : Fin 3 → Nat :=
  let v502 : Index := Scalar.indexCast v501
  let c0_210 : Index := 0#32
  let c0_211 : Index := 0#32
  ![v502.toNat, 0, 0]

def k0_chk246 (v501 : BitVec 32) : Prop :=
  (∀ a, (k0_off477 v501) a + S1x1x128.size a ≤ S100000x1x128.size a)
theorem k0_off477_inb : ∀ (v501 : BitVec 32) (k0_hw246 : k0_chk246 v501), ∀ a, (k0_off477 v501) a + S1x1x128.size a ≤ S100000x1x128.size a := fun v501 k0_hw246 => k0_hw246

def k0_off478 (v270 : BitVec 32) (k0_t15 : Fin (k0_t15_loop v270).trips) : Fin 2 → Nat :=
  let c7_213 : Index := 7#32
  let c0_i32_138 : BitVec 32 := 0#32
  let c1_i32_140 : BitVec 32 := 1#32
  let arg9 : BitVec 32 := Scf.iv c0_i32_138 c1_i32_140 k0_t15
  let c16_i32_154 : BitVec 32 := 16#32
  let v324 : BitVec 32 := Scalar.muli arg9 c16_i32_154
  let c14_i32 : BitVec 32 := 14#32
  let v513 : BitVec 32 := Scalar.addi v324 c14_i32
  let v514 : Index := Scalar.indexCast v513
  ![7, v514.toNat]
def k0_off479 (v515 : BitVec 32) : Fin 3 → Nat :=
  let v516 : Index := Scalar.indexCast v515
  let c0_214 : Index := 0#32
  let c0_215 : Index := 0#32
  ![v516.toNat, 0, 0]

def k0_chk247 (v515 : BitVec 32) : Prop :=
  (∀ a, (k0_off479 v515) a + S1x1x128.size a ≤ S100000x1x128.size a)
theorem k0_off479_inb : ∀ (v515 : BitVec 32) (k0_hw247 : k0_chk247 v515), ∀ a, (k0_off479 v515) a + S1x1x128.size a ≤ S100000x1x128.size a := fun v515 k0_hw247 => k0_hw247

def k0_off480 (v270 : BitVec 32) (k0_t15 : Fin (k0_t15_loop v270).trips) : Fin 2 → Nat :=
  let c7_218 : Index := 7#32
  let c0_i32_138 : BitVec 32 := 0#32
  let c1_i32_140 : BitVec 32 := 1#32
  let arg9 : BitVec 32 := Scf.iv c0_i32_138 c1_i32_140 k0_t15
  let c16_i32_154 : BitVec 32 := 16#32
  let v324 : BitVec 32 := Scalar.muli arg9 c16_i32_154
  let c15_i32_217 : BitVec 32 := 15#32
  let v527 : BitVec 32 := Scalar.addi v324 c15_i32_217
  let v528 : Index := Scalar.indexCast v527
  ![7, v528.toNat]
def k0_off481 (v529 : BitVec 32) : Fin 3 → Nat :=
  let v530 : Index := Scalar.indexCast v529
  let c0_219 : Index := 0#32
  let c0_220 : Index := 0#32
  ![v530.toNat, 0, 0]

def k0_chk248 (v529 : BitVec 32) : Prop :=
  (∀ a, (k0_off481 v529) a + S1x1x128.size a ≤ S100000x1x128.size a)
theorem k0_off481_inb : ∀ (v529 : BitVec 32) (k0_hw248 : k0_chk248 v529), ∀ a, (k0_off481 v529) a + S1x1x128.size a ≤ S100000x1x128.size a := fun v529 k0_hw248 => k0_hw248

@[reducible] def k0_t16_loop (v270 : BitVec 32) : Scf.Loop 32 :=
  let c0_i32_138 : BitVec 32 := 0#32
  let c15_i32_128 : BitVec 32 := 15#32
  let v271 : BitVec 32 := Scalar.addi v270 c15_i32_128
  let c0_i32_130 : BitVec 32 := 0#32
  let v273 : BitVec 1 := Scalar.cmpi .sgt v271 c0_i32_130
  let v274 : BitVec 32 := Scalar.extui v273
  let c0_i32_131 : BitVec 32 := 0#32
  let v275 : BitVec 1 := Scalar.cmpi .slt v271 c0_i32_131
  let v276 : BitVec 32 := Scalar.extui v275
  let v277 : BitVec 32 := Scalar.subi v274 v276
  let c16_i32_129 : BitVec 32 := 16#32
  let c0_i32_132 : BitVec 32 := 0#32
  let v278 : BitVec 1 := Scalar.cmpi .sgt c16_i32_129 c0_i32_132
  let v279 : BitVec 32 := Scalar.extui v278
  let c0_i32_133 : BitVec 32 := 0#32
  let v280 : BitVec 1 := Scalar.cmpi .slt c16_i32_129 c0_i32_133
  let v281 : BitVec 32 := Scalar.extui v280
  let v282 : BitVec 32 := Scalar.subi v279 v281
  let v283 : BitVec 1 := Scalar.cmpi .ne v277 v282
  let v284 : BitVec 32 := Scalar.remsi v271 c16_i32_129
  let c0_i32_134 : BitVec 32 := 0#32
  let v285 : BitVec 1 := Scalar.cmpi .ne v284 c0_i32_134
  let v286 : BitVec 1 := Scalar.andi v283 v285
  let v272 : BitVec 32 := Scalar.divsi v271 c16_i32_129
  let c1_i32_135 : BitVec 32 := 1#32
  let v287 : BitVec 32 := Scalar.subi v272 c1_i32_135
  let v288 : BitVec 32 := Scalar.select v286 v287 v272
  let v290 : BitVec 32 := Scalar.subi v288 c0_i32_138
  let c1_i32_139 : BitVec 32 := 1#32
  let v292 : BitVec 32 := Scalar.divsi v290 c1_i32_139
  let v293 : BitVec 32 := Scalar.muli v292 c1_i32_139
  let v294 : BitVec 32 := Scalar.addi c0_i32_138 v293
  let v291 : BitVec 32 := Scalar.addi c0_i32_138 v290
  let c1_i32_141 : BitVec 32 := 1#32
  ⟨v294, v291, c1_i32_141⟩
def k0_off482 (v270 : BitVec 32) (k0_t16 : Fin (k0_t16_loop v270).trips) : Fin 2 → Nat :=
  let c7_156 : Index := 7#32
  let c0_i32_138 : BitVec 32 := 0#32
  let c15_i32_128 : BitVec 32 := 15#32
  let v271 : BitVec 32 := Scalar.addi v270 c15_i32_128
  let c0_i32_130 : BitVec 32 := 0#32
  let v273 : BitVec 1 := Scalar.cmpi .sgt v271 c0_i32_130
  let v274 : BitVec 32 := Scalar.extui v273
  let c0_i32_131 : BitVec 32 := 0#32
  let v275 : BitVec 1 := Scalar.cmpi .slt v271 c0_i32_131
  let v276 : BitVec 32 := Scalar.extui v275
  let v277 : BitVec 32 := Scalar.subi v274 v276
  let c16_i32_129 : BitVec 32 := 16#32
  let c0_i32_132 : BitVec 32 := 0#32
  let v278 : BitVec 1 := Scalar.cmpi .sgt c16_i32_129 c0_i32_132
  let v279 : BitVec 32 := Scalar.extui v278
  let c0_i32_133 : BitVec 32 := 0#32
  let v280 : BitVec 1 := Scalar.cmpi .slt c16_i32_129 c0_i32_133
  let v281 : BitVec 32 := Scalar.extui v280
  let v282 : BitVec 32 := Scalar.subi v279 v281
  let v283 : BitVec 1 := Scalar.cmpi .ne v277 v282
  let v284 : BitVec 32 := Scalar.remsi v271 c16_i32_129
  let c0_i32_134 : BitVec 32 := 0#32
  let v285 : BitVec 1 := Scalar.cmpi .ne v284 c0_i32_134
  let v286 : BitVec 1 := Scalar.andi v283 v285
  let v272 : BitVec 32 := Scalar.divsi v271 c16_i32_129
  let c1_i32_135 : BitVec 32 := 1#32
  let v287 : BitVec 32 := Scalar.subi v272 c1_i32_135
  let v288 : BitVec 32 := Scalar.select v286 v287 v272
  let v290 : BitVec 32 := Scalar.subi v288 c0_i32_138
  let c1_i32_139 : BitVec 32 := 1#32
  let v292 : BitVec 32 := Scalar.divsi v290 c1_i32_139
  let v293 : BitVec 32 := Scalar.muli v292 c1_i32_139
  let v294 : BitVec 32 := Scalar.addi c0_i32_138 v293
  let c1_i32_141 : BitVec 32 := 1#32
  let arg9 : BitVec 32 := Scf.iv v294 c1_i32_141 k0_t16
  let c16_i32_154 : BitVec 32 := 16#32
  let v324 : BitVec 32 := Scalar.muli arg9 c16_i32_154
  let c0_i32_155 : BitVec 32 := 0#32
  let v325 : BitVec 32 := Scalar.addi v324 c0_i32_155
  let v326 : Index := Scalar.indexCast v325
  ![7, v326.toNat]
def k0_off483 (v327 : BitVec 32) : Fin 3 → Nat :=
  let v328 : Index := Scalar.indexCast v327
  let c0_157 : Index := 0#32
  let c0_158 : Index := 0#32
  ![v328.toNat, 0, 0]

def k0_chk249 (v327 : BitVec 32) : Prop :=
  (∀ a, (k0_off483 v327) a + S1x1x128.size a ≤ S100000x1x128.size a)
theorem k0_off483_inb : ∀ (v327 : BitVec 32) (k0_hw249 : k0_chk249 v327), ∀ a, (k0_off483 v327) a + S1x1x128.size a ≤ S100000x1x128.size a := fun v327 k0_hw249 => k0_hw249

def k0_off484 (v270 : BitVec 32) (k0_t16 : Fin (k0_t16_loop v270).trips) : Fin 2 → Nat :=
  let c7_161 : Index := 7#32
  let c0_i32_138 : BitVec 32 := 0#32
  let c15_i32_128 : BitVec 32 := 15#32
  let v271 : BitVec 32 := Scalar.addi v270 c15_i32_128
  let c0_i32_130 : BitVec 32 := 0#32
  let v273 : BitVec 1 := Scalar.cmpi .sgt v271 c0_i32_130
  let v274 : BitVec 32 := Scalar.extui v273
  let c0_i32_131 : BitVec 32 := 0#32
  let v275 : BitVec 1 := Scalar.cmpi .slt v271 c0_i32_131
  let v276 : BitVec 32 := Scalar.extui v275
  let v277 : BitVec 32 := Scalar.subi v274 v276
  let c16_i32_129 : BitVec 32 := 16#32
  let c0_i32_132 : BitVec 32 := 0#32
  let v278 : BitVec 1 := Scalar.cmpi .sgt c16_i32_129 c0_i32_132
  let v279 : BitVec 32 := Scalar.extui v278
  let c0_i32_133 : BitVec 32 := 0#32
  let v280 : BitVec 1 := Scalar.cmpi .slt c16_i32_129 c0_i32_133
  let v281 : BitVec 32 := Scalar.extui v280
  let v282 : BitVec 32 := Scalar.subi v279 v281
  let v283 : BitVec 1 := Scalar.cmpi .ne v277 v282
  let v284 : BitVec 32 := Scalar.remsi v271 c16_i32_129
  let c0_i32_134 : BitVec 32 := 0#32
  let v285 : BitVec 1 := Scalar.cmpi .ne v284 c0_i32_134
  let v286 : BitVec 1 := Scalar.andi v283 v285
  let v272 : BitVec 32 := Scalar.divsi v271 c16_i32_129
  let c1_i32_135 : BitVec 32 := 1#32
  let v287 : BitVec 32 := Scalar.subi v272 c1_i32_135
  let v288 : BitVec 32 := Scalar.select v286 v287 v272
  let v290 : BitVec 32 := Scalar.subi v288 c0_i32_138
  let c1_i32_139 : BitVec 32 := 1#32
  let v292 : BitVec 32 := Scalar.divsi v290 c1_i32_139
  let v293 : BitVec 32 := Scalar.muli v292 c1_i32_139
  let v294 : BitVec 32 := Scalar.addi c0_i32_138 v293
  let c1_i32_141 : BitVec 32 := 1#32
  let arg9 : BitVec 32 := Scf.iv v294 c1_i32_141 k0_t16
  let c16_i32_154 : BitVec 32 := 16#32
  let v324 : BitVec 32 := Scalar.muli arg9 c16_i32_154
  let c1_i32_160 : BitVec 32 := 1#32
  let v337 : BitVec 32 := Scalar.addi v324 c1_i32_160
  let v338 : Index := Scalar.indexCast v337
  ![7, v338.toNat]
def k0_off485 (v339 : BitVec 32) : Fin 3 → Nat :=
  let v340 : Index := Scalar.indexCast v339
  let c0_162 : Index := 0#32
  let c0_163 : Index := 0#32
  ![v340.toNat, 0, 0]

def k0_chk250 (v339 : BitVec 32) : Prop :=
  (∀ a, (k0_off485 v339) a + S1x1x128.size a ≤ S100000x1x128.size a)
theorem k0_off485_inb : ∀ (v339 : BitVec 32) (k0_hw250 : k0_chk250 v339), ∀ a, (k0_off485 v339) a + S1x1x128.size a ≤ S100000x1x128.size a := fun v339 k0_hw250 => k0_hw250

def k0_off486 (v270 : BitVec 32) (k0_t16 : Fin (k0_t16_loop v270).trips) : Fin 2 → Nat :=
  let c7_165 : Index := 7#32
  let c0_i32_138 : BitVec 32 := 0#32
  let c15_i32_128 : BitVec 32 := 15#32
  let v271 : BitVec 32 := Scalar.addi v270 c15_i32_128
  let c0_i32_130 : BitVec 32 := 0#32
  let v273 : BitVec 1 := Scalar.cmpi .sgt v271 c0_i32_130
  let v274 : BitVec 32 := Scalar.extui v273
  let c0_i32_131 : BitVec 32 := 0#32
  let v275 : BitVec 1 := Scalar.cmpi .slt v271 c0_i32_131
  let v276 : BitVec 32 := Scalar.extui v275
  let v277 : BitVec 32 := Scalar.subi v274 v276
  let c16_i32_129 : BitVec 32 := 16#32
  let c0_i32_132 : BitVec 32 := 0#32
  let v278 : BitVec 1 := Scalar.cmpi .sgt c16_i32_129 c0_i32_132
  let v279 : BitVec 32 := Scalar.extui v278
  let c0_i32_133 : BitVec 32 := 0#32
  let v280 : BitVec 1 := Scalar.cmpi .slt c16_i32_129 c0_i32_133
  let v281 : BitVec 32 := Scalar.extui v280
  let v282 : BitVec 32 := Scalar.subi v279 v281
  let v283 : BitVec 1 := Scalar.cmpi .ne v277 v282
  let v284 : BitVec 32 := Scalar.remsi v271 c16_i32_129
  let c0_i32_134 : BitVec 32 := 0#32
  let v285 : BitVec 1 := Scalar.cmpi .ne v284 c0_i32_134
  let v286 : BitVec 1 := Scalar.andi v283 v285
  let v272 : BitVec 32 := Scalar.divsi v271 c16_i32_129
  let c1_i32_135 : BitVec 32 := 1#32
  let v287 : BitVec 32 := Scalar.subi v272 c1_i32_135
  let v288 : BitVec 32 := Scalar.select v286 v287 v272
  let v290 : BitVec 32 := Scalar.subi v288 c0_i32_138
  let c1_i32_139 : BitVec 32 := 1#32
  let v292 : BitVec 32 := Scalar.divsi v290 c1_i32_139
  let v293 : BitVec 32 := Scalar.muli v292 c1_i32_139
  let v294 : BitVec 32 := Scalar.addi c0_i32_138 v293
  let c1_i32_141 : BitVec 32 := 1#32
  let arg9 : BitVec 32 := Scf.iv v294 c1_i32_141 k0_t16
  let c16_i32_154 : BitVec 32 := 16#32
  let v324 : BitVec 32 := Scalar.muli arg9 c16_i32_154
  let c2_i32 : BitVec 32 := 2#32
  let v349 : BitVec 32 := Scalar.addi v324 c2_i32
  let v350 : Index := Scalar.indexCast v349
  ![7, v350.toNat]
def k0_off487 (v351 : BitVec 32) : Fin 3 → Nat :=
  let v352 : Index := Scalar.indexCast v351
  let c0_166 : Index := 0#32
  let c0_167 : Index := 0#32
  ![v352.toNat, 0, 0]

def k0_chk251 (v351 : BitVec 32) : Prop :=
  (∀ a, (k0_off487 v351) a + S1x1x128.size a ≤ S100000x1x128.size a)
theorem k0_off487_inb : ∀ (v351 : BitVec 32) (k0_hw251 : k0_chk251 v351), ∀ a, (k0_off487 v351) a + S1x1x128.size a ≤ S100000x1x128.size a := fun v351 k0_hw251 => k0_hw251

def k0_off488 (v270 : BitVec 32) (k0_t16 : Fin (k0_t16_loop v270).trips) : Fin 2 → Nat :=
  let c7_169 : Index := 7#32
  let c0_i32_138 : BitVec 32 := 0#32
  let c15_i32_128 : BitVec 32 := 15#32
  let v271 : BitVec 32 := Scalar.addi v270 c15_i32_128
  let c0_i32_130 : BitVec 32 := 0#32
  let v273 : BitVec 1 := Scalar.cmpi .sgt v271 c0_i32_130
  let v274 : BitVec 32 := Scalar.extui v273
  let c0_i32_131 : BitVec 32 := 0#32
  let v275 : BitVec 1 := Scalar.cmpi .slt v271 c0_i32_131
  let v276 : BitVec 32 := Scalar.extui v275
  let v277 : BitVec 32 := Scalar.subi v274 v276
  let c16_i32_129 : BitVec 32 := 16#32
  let c0_i32_132 : BitVec 32 := 0#32
  let v278 : BitVec 1 := Scalar.cmpi .sgt c16_i32_129 c0_i32_132
  let v279 : BitVec 32 := Scalar.extui v278
  let c0_i32_133 : BitVec 32 := 0#32
  let v280 : BitVec 1 := Scalar.cmpi .slt c16_i32_129 c0_i32_133
  let v281 : BitVec 32 := Scalar.extui v280
  let v282 : BitVec 32 := Scalar.subi v279 v281
  let v283 : BitVec 1 := Scalar.cmpi .ne v277 v282
  let v284 : BitVec 32 := Scalar.remsi v271 c16_i32_129
  let c0_i32_134 : BitVec 32 := 0#32
  let v285 : BitVec 1 := Scalar.cmpi .ne v284 c0_i32_134
  let v286 : BitVec 1 := Scalar.andi v283 v285
  let v272 : BitVec 32 := Scalar.divsi v271 c16_i32_129
  let c1_i32_135 : BitVec 32 := 1#32
  let v287 : BitVec 32 := Scalar.subi v272 c1_i32_135
  let v288 : BitVec 32 := Scalar.select v286 v287 v272
  let v290 : BitVec 32 := Scalar.subi v288 c0_i32_138
  let c1_i32_139 : BitVec 32 := 1#32
  let v292 : BitVec 32 := Scalar.divsi v290 c1_i32_139
  let v293 : BitVec 32 := Scalar.muli v292 c1_i32_139
  let v294 : BitVec 32 := Scalar.addi c0_i32_138 v293
  let c1_i32_141 : BitVec 32 := 1#32
  let arg9 : BitVec 32 := Scf.iv v294 c1_i32_141 k0_t16
  let c16_i32_154 : BitVec 32 := 16#32
  let v324 : BitVec 32 := Scalar.muli arg9 c16_i32_154
  let c3_i32 : BitVec 32 := 3#32
  let v361 : BitVec 32 := Scalar.addi v324 c3_i32
  let v362 : Index := Scalar.indexCast v361
  ![7, v362.toNat]
def k0_off489 (v363 : BitVec 32) : Fin 3 → Nat :=
  let v364 : Index := Scalar.indexCast v363
  let c0_170 : Index := 0#32
  let c0_171 : Index := 0#32
  ![v364.toNat, 0, 0]

def k0_chk252 (v363 : BitVec 32) : Prop :=
  (∀ a, (k0_off489 v363) a + S1x1x128.size a ≤ S100000x1x128.size a)
theorem k0_off489_inb : ∀ (v363 : BitVec 32) (k0_hw252 : k0_chk252 v363), ∀ a, (k0_off489 v363) a + S1x1x128.size a ≤ S100000x1x128.size a := fun v363 k0_hw252 => k0_hw252

def k0_off490 (v270 : BitVec 32) (k0_t16 : Fin (k0_t16_loop v270).trips) : Fin 2 → Nat :=
  let c7_173 : Index := 7#32
  let c0_i32_138 : BitVec 32 := 0#32
  let c15_i32_128 : BitVec 32 := 15#32
  let v271 : BitVec 32 := Scalar.addi v270 c15_i32_128
  let c0_i32_130 : BitVec 32 := 0#32
  let v273 : BitVec 1 := Scalar.cmpi .sgt v271 c0_i32_130
  let v274 : BitVec 32 := Scalar.extui v273
  let c0_i32_131 : BitVec 32 := 0#32
  let v275 : BitVec 1 := Scalar.cmpi .slt v271 c0_i32_131
  let v276 : BitVec 32 := Scalar.extui v275
  let v277 : BitVec 32 := Scalar.subi v274 v276
  let c16_i32_129 : BitVec 32 := 16#32
  let c0_i32_132 : BitVec 32 := 0#32
  let v278 : BitVec 1 := Scalar.cmpi .sgt c16_i32_129 c0_i32_132
  let v279 : BitVec 32 := Scalar.extui v278
  let c0_i32_133 : BitVec 32 := 0#32
  let v280 : BitVec 1 := Scalar.cmpi .slt c16_i32_129 c0_i32_133
  let v281 : BitVec 32 := Scalar.extui v280
  let v282 : BitVec 32 := Scalar.subi v279 v281
  let v283 : BitVec 1 := Scalar.cmpi .ne v277 v282
  let v284 : BitVec 32 := Scalar.remsi v271 c16_i32_129
  let c0_i32_134 : BitVec 32 := 0#32
  let v285 : BitVec 1 := Scalar.cmpi .ne v284 c0_i32_134
  let v286 : BitVec 1 := Scalar.andi v283 v285
  let v272 : BitVec 32 := Scalar.divsi v271 c16_i32_129
  let c1_i32_135 : BitVec 32 := 1#32
  let v287 : BitVec 32 := Scalar.subi v272 c1_i32_135
  let v288 : BitVec 32 := Scalar.select v286 v287 v272
  let v290 : BitVec 32 := Scalar.subi v288 c0_i32_138
  let c1_i32_139 : BitVec 32 := 1#32
  let v292 : BitVec 32 := Scalar.divsi v290 c1_i32_139
  let v293 : BitVec 32 := Scalar.muli v292 c1_i32_139
  let v294 : BitVec 32 := Scalar.addi c0_i32_138 v293
  let c1_i32_141 : BitVec 32 := 1#32
  let arg9 : BitVec 32 := Scf.iv v294 c1_i32_141 k0_t16
  let c16_i32_154 : BitVec 32 := 16#32
  let v324 : BitVec 32 := Scalar.muli arg9 c16_i32_154
  let c4_i32 : BitVec 32 := 4#32
  let v373 : BitVec 32 := Scalar.addi v324 c4_i32
  let v374 : Index := Scalar.indexCast v373
  ![7, v374.toNat]
def k0_off491 (v375 : BitVec 32) : Fin 3 → Nat :=
  let v376 : Index := Scalar.indexCast v375
  let c0_174 : Index := 0#32
  let c0_175 : Index := 0#32
  ![v376.toNat, 0, 0]

def k0_chk253 (v375 : BitVec 32) : Prop :=
  (∀ a, (k0_off491 v375) a + S1x1x128.size a ≤ S100000x1x128.size a)
theorem k0_off491_inb : ∀ (v375 : BitVec 32) (k0_hw253 : k0_chk253 v375), ∀ a, (k0_off491 v375) a + S1x1x128.size a ≤ S100000x1x128.size a := fun v375 k0_hw253 => k0_hw253

def k0_off492 (v270 : BitVec 32) (k0_t16 : Fin (k0_t16_loop v270).trips) : Fin 2 → Nat :=
  let c7_177 : Index := 7#32
  let c0_i32_138 : BitVec 32 := 0#32
  let c15_i32_128 : BitVec 32 := 15#32
  let v271 : BitVec 32 := Scalar.addi v270 c15_i32_128
  let c0_i32_130 : BitVec 32 := 0#32
  let v273 : BitVec 1 := Scalar.cmpi .sgt v271 c0_i32_130
  let v274 : BitVec 32 := Scalar.extui v273
  let c0_i32_131 : BitVec 32 := 0#32
  let v275 : BitVec 1 := Scalar.cmpi .slt v271 c0_i32_131
  let v276 : BitVec 32 := Scalar.extui v275
  let v277 : BitVec 32 := Scalar.subi v274 v276
  let c16_i32_129 : BitVec 32 := 16#32
  let c0_i32_132 : BitVec 32 := 0#32
  let v278 : BitVec 1 := Scalar.cmpi .sgt c16_i32_129 c0_i32_132
  let v279 : BitVec 32 := Scalar.extui v278
  let c0_i32_133 : BitVec 32 := 0#32
  let v280 : BitVec 1 := Scalar.cmpi .slt c16_i32_129 c0_i32_133
  let v281 : BitVec 32 := Scalar.extui v280
  let v282 : BitVec 32 := Scalar.subi v279 v281
  let v283 : BitVec 1 := Scalar.cmpi .ne v277 v282
  let v284 : BitVec 32 := Scalar.remsi v271 c16_i32_129
  let c0_i32_134 : BitVec 32 := 0#32
  let v285 : BitVec 1 := Scalar.cmpi .ne v284 c0_i32_134
  let v286 : BitVec 1 := Scalar.andi v283 v285
  let v272 : BitVec 32 := Scalar.divsi v271 c16_i32_129
  let c1_i32_135 : BitVec 32 := 1#32
  let v287 : BitVec 32 := Scalar.subi v272 c1_i32_135
  let v288 : BitVec 32 := Scalar.select v286 v287 v272
  let v290 : BitVec 32 := Scalar.subi v288 c0_i32_138
  let c1_i32_139 : BitVec 32 := 1#32
  let v292 : BitVec 32 := Scalar.divsi v290 c1_i32_139
  let v293 : BitVec 32 := Scalar.muli v292 c1_i32_139
  let v294 : BitVec 32 := Scalar.addi c0_i32_138 v293
  let c1_i32_141 : BitVec 32 := 1#32
  let arg9 : BitVec 32 := Scf.iv v294 c1_i32_141 k0_t16
  let c16_i32_154 : BitVec 32 := 16#32
  let v324 : BitVec 32 := Scalar.muli arg9 c16_i32_154
  let c5_i32 : BitVec 32 := 5#32
  let v387 : BitVec 32 := Scalar.addi v324 c5_i32
  let v388 : Index := Scalar.indexCast v387
  ![7, v388.toNat]
def k0_off493 (v389 : BitVec 32) : Fin 3 → Nat :=
  let v390 : Index := Scalar.indexCast v389
  let c0_178 : Index := 0#32
  let c0_179 : Index := 0#32
  ![v390.toNat, 0, 0]

def k0_chk254 (v389 : BitVec 32) : Prop :=
  (∀ a, (k0_off493 v389) a + S1x1x128.size a ≤ S100000x1x128.size a)
theorem k0_off493_inb : ∀ (v389 : BitVec 32) (k0_hw254 : k0_chk254 v389), ∀ a, (k0_off493 v389) a + S1x1x128.size a ≤ S100000x1x128.size a := fun v389 k0_hw254 => k0_hw254

def k0_off494 (v270 : BitVec 32) (k0_t16 : Fin (k0_t16_loop v270).trips) : Fin 2 → Nat :=
  let c7_181 : Index := 7#32
  let c0_i32_138 : BitVec 32 := 0#32
  let c15_i32_128 : BitVec 32 := 15#32
  let v271 : BitVec 32 := Scalar.addi v270 c15_i32_128
  let c0_i32_130 : BitVec 32 := 0#32
  let v273 : BitVec 1 := Scalar.cmpi .sgt v271 c0_i32_130
  let v274 : BitVec 32 := Scalar.extui v273
  let c0_i32_131 : BitVec 32 := 0#32
  let v275 : BitVec 1 := Scalar.cmpi .slt v271 c0_i32_131
  let v276 : BitVec 32 := Scalar.extui v275
  let v277 : BitVec 32 := Scalar.subi v274 v276
  let c16_i32_129 : BitVec 32 := 16#32
  let c0_i32_132 : BitVec 32 := 0#32
  let v278 : BitVec 1 := Scalar.cmpi .sgt c16_i32_129 c0_i32_132
  let v279 : BitVec 32 := Scalar.extui v278
  let c0_i32_133 : BitVec 32 := 0#32
  let v280 : BitVec 1 := Scalar.cmpi .slt c16_i32_129 c0_i32_133
  let v281 : BitVec 32 := Scalar.extui v280
  let v282 : BitVec 32 := Scalar.subi v279 v281
  let v283 : BitVec 1 := Scalar.cmpi .ne v277 v282
  let v284 : BitVec 32 := Scalar.remsi v271 c16_i32_129
  let c0_i32_134 : BitVec 32 := 0#32
  let v285 : BitVec 1 := Scalar.cmpi .ne v284 c0_i32_134
  let v286 : BitVec 1 := Scalar.andi v283 v285
  let v272 : BitVec 32 := Scalar.divsi v271 c16_i32_129
  let c1_i32_135 : BitVec 32 := 1#32
  let v287 : BitVec 32 := Scalar.subi v272 c1_i32_135
  let v288 : BitVec 32 := Scalar.select v286 v287 v272
  let v290 : BitVec 32 := Scalar.subi v288 c0_i32_138
  let c1_i32_139 : BitVec 32 := 1#32
  let v292 : BitVec 32 := Scalar.divsi v290 c1_i32_139
  let v293 : BitVec 32 := Scalar.muli v292 c1_i32_139
  let v294 : BitVec 32 := Scalar.addi c0_i32_138 v293
  let c1_i32_141 : BitVec 32 := 1#32
  let arg9 : BitVec 32 := Scf.iv v294 c1_i32_141 k0_t16
  let c16_i32_154 : BitVec 32 := 16#32
  let v324 : BitVec 32 := Scalar.muli arg9 c16_i32_154
  let c6_i32 : BitVec 32 := 6#32
  let v401 : BitVec 32 := Scalar.addi v324 c6_i32
  let v402 : Index := Scalar.indexCast v401
  ![7, v402.toNat]
def k0_off495 (v403 : BitVec 32) : Fin 3 → Nat :=
  let v404 : Index := Scalar.indexCast v403
  let c0_182 : Index := 0#32
  let c0_183 : Index := 0#32
  ![v404.toNat, 0, 0]

def k0_chk255 (v403 : BitVec 32) : Prop :=
  (∀ a, (k0_off495 v403) a + S1x1x128.size a ≤ S100000x1x128.size a)
theorem k0_off495_inb : ∀ (v403 : BitVec 32) (k0_hw255 : k0_chk255 v403), ∀ a, (k0_off495 v403) a + S1x1x128.size a ≤ S100000x1x128.size a := fun v403 k0_hw255 => k0_hw255

def k0_off496 (v270 : BitVec 32) (k0_t16 : Fin (k0_t16_loop v270).trips) : Fin 2 → Nat :=
  let c7_185 : Index := 7#32
  let c0_i32_138 : BitVec 32 := 0#32
  let c15_i32_128 : BitVec 32 := 15#32
  let v271 : BitVec 32 := Scalar.addi v270 c15_i32_128
  let c0_i32_130 : BitVec 32 := 0#32
  let v273 : BitVec 1 := Scalar.cmpi .sgt v271 c0_i32_130
  let v274 : BitVec 32 := Scalar.extui v273
  let c0_i32_131 : BitVec 32 := 0#32
  let v275 : BitVec 1 := Scalar.cmpi .slt v271 c0_i32_131
  let v276 : BitVec 32 := Scalar.extui v275
  let v277 : BitVec 32 := Scalar.subi v274 v276
  let c16_i32_129 : BitVec 32 := 16#32
  let c0_i32_132 : BitVec 32 := 0#32
  let v278 : BitVec 1 := Scalar.cmpi .sgt c16_i32_129 c0_i32_132
  let v279 : BitVec 32 := Scalar.extui v278
  let c0_i32_133 : BitVec 32 := 0#32
  let v280 : BitVec 1 := Scalar.cmpi .slt c16_i32_129 c0_i32_133
  let v281 : BitVec 32 := Scalar.extui v280
  let v282 : BitVec 32 := Scalar.subi v279 v281
  let v283 : BitVec 1 := Scalar.cmpi .ne v277 v282
  let v284 : BitVec 32 := Scalar.remsi v271 c16_i32_129
  let c0_i32_134 : BitVec 32 := 0#32
  let v285 : BitVec 1 := Scalar.cmpi .ne v284 c0_i32_134
  let v286 : BitVec 1 := Scalar.andi v283 v285
  let v272 : BitVec 32 := Scalar.divsi v271 c16_i32_129
  let c1_i32_135 : BitVec 32 := 1#32
  let v287 : BitVec 32 := Scalar.subi v272 c1_i32_135
  let v288 : BitVec 32 := Scalar.select v286 v287 v272
  let v290 : BitVec 32 := Scalar.subi v288 c0_i32_138
  let c1_i32_139 : BitVec 32 := 1#32
  let v292 : BitVec 32 := Scalar.divsi v290 c1_i32_139
  let v293 : BitVec 32 := Scalar.muli v292 c1_i32_139
  let v294 : BitVec 32 := Scalar.addi c0_i32_138 v293
  let c1_i32_141 : BitVec 32 := 1#32
  let arg9 : BitVec 32 := Scf.iv v294 c1_i32_141 k0_t16
  let c16_i32_154 : BitVec 32 := 16#32
  let v324 : BitVec 32 := Scalar.muli arg9 c16_i32_154
  let c7_i32 : BitVec 32 := 7#32
  let v415 : BitVec 32 := Scalar.addi v324 c7_i32
  let v416 : Index := Scalar.indexCast v415
  ![7, v416.toNat]
def k0_off497 (v417 : BitVec 32) : Fin 3 → Nat :=
  let v418 : Index := Scalar.indexCast v417
  let c0_186 : Index := 0#32
  let c0_187 : Index := 0#32
  ![v418.toNat, 0, 0]

def k0_chk256 (v417 : BitVec 32) : Prop :=
  (∀ a, (k0_off497 v417) a + S1x1x128.size a ≤ S100000x1x128.size a)
theorem k0_off497_inb : ∀ (v417 : BitVec 32) (k0_hw256 : k0_chk256 v417), ∀ a, (k0_off497 v417) a + S1x1x128.size a ≤ S100000x1x128.size a := fun v417 k0_hw256 => k0_hw256

def k0_off498 (v270 : BitVec 32) (k0_t16 : Fin (k0_t16_loop v270).trips) : Fin 2 → Nat :=
  let c7_189 : Index := 7#32
  let c0_i32_138 : BitVec 32 := 0#32
  let c15_i32_128 : BitVec 32 := 15#32
  let v271 : BitVec 32 := Scalar.addi v270 c15_i32_128
  let c0_i32_130 : BitVec 32 := 0#32
  let v273 : BitVec 1 := Scalar.cmpi .sgt v271 c0_i32_130
  let v274 : BitVec 32 := Scalar.extui v273
  let c0_i32_131 : BitVec 32 := 0#32
  let v275 : BitVec 1 := Scalar.cmpi .slt v271 c0_i32_131
  let v276 : BitVec 32 := Scalar.extui v275
  let v277 : BitVec 32 := Scalar.subi v274 v276
  let c16_i32_129 : BitVec 32 := 16#32
  let c0_i32_132 : BitVec 32 := 0#32
  let v278 : BitVec 1 := Scalar.cmpi .sgt c16_i32_129 c0_i32_132
  let v279 : BitVec 32 := Scalar.extui v278
  let c0_i32_133 : BitVec 32 := 0#32
  let v280 : BitVec 1 := Scalar.cmpi .slt c16_i32_129 c0_i32_133
  let v281 : BitVec 32 := Scalar.extui v280
  let v282 : BitVec 32 := Scalar.subi v279 v281
  let v283 : BitVec 1 := Scalar.cmpi .ne v277 v282
  let v284 : BitVec 32 := Scalar.remsi v271 c16_i32_129
  let c0_i32_134 : BitVec 32 := 0#32
  let v285 : BitVec 1 := Scalar.cmpi .ne v284 c0_i32_134
  let v286 : BitVec 1 := Scalar.andi v283 v285
  let v272 : BitVec 32 := Scalar.divsi v271 c16_i32_129
  let c1_i32_135 : BitVec 32 := 1#32
  let v287 : BitVec 32 := Scalar.subi v272 c1_i32_135
  let v288 : BitVec 32 := Scalar.select v286 v287 v272
  let v290 : BitVec 32 := Scalar.subi v288 c0_i32_138
  let c1_i32_139 : BitVec 32 := 1#32
  let v292 : BitVec 32 := Scalar.divsi v290 c1_i32_139
  let v293 : BitVec 32 := Scalar.muli v292 c1_i32_139
  let v294 : BitVec 32 := Scalar.addi c0_i32_138 v293
  let c1_i32_141 : BitVec 32 := 1#32
  let arg9 : BitVec 32 := Scf.iv v294 c1_i32_141 k0_t16
  let c16_i32_154 : BitVec 32 := 16#32
  let v324 : BitVec 32 := Scalar.muli arg9 c16_i32_154
  let c8_i32 : BitVec 32 := 8#32
  let v429 : BitVec 32 := Scalar.addi v324 c8_i32
  let v430 : Index := Scalar.indexCast v429
  ![7, v430.toNat]
def k0_off499 (v431 : BitVec 32) : Fin 3 → Nat :=
  let v432 : Index := Scalar.indexCast v431
  let c0_190 : Index := 0#32
  let c0_191 : Index := 0#32
  ![v432.toNat, 0, 0]

def k0_chk257 (v431 : BitVec 32) : Prop :=
  (∀ a, (k0_off499 v431) a + S1x1x128.size a ≤ S100000x1x128.size a)
theorem k0_off499_inb : ∀ (v431 : BitVec 32) (k0_hw257 : k0_chk257 v431), ∀ a, (k0_off499 v431) a + S1x1x128.size a ≤ S100000x1x128.size a := fun v431 k0_hw257 => k0_hw257

def k0_off500 (v270 : BitVec 32) (k0_t16 : Fin (k0_t16_loop v270).trips) : Fin 2 → Nat :=
  let c7_193 : Index := 7#32
  let c0_i32_138 : BitVec 32 := 0#32
  let c15_i32_128 : BitVec 32 := 15#32
  let v271 : BitVec 32 := Scalar.addi v270 c15_i32_128
  let c0_i32_130 : BitVec 32 := 0#32
  let v273 : BitVec 1 := Scalar.cmpi .sgt v271 c0_i32_130
  let v274 : BitVec 32 := Scalar.extui v273
  let c0_i32_131 : BitVec 32 := 0#32
  let v275 : BitVec 1 := Scalar.cmpi .slt v271 c0_i32_131
  let v276 : BitVec 32 := Scalar.extui v275
  let v277 : BitVec 32 := Scalar.subi v274 v276
  let c16_i32_129 : BitVec 32 := 16#32
  let c0_i32_132 : BitVec 32 := 0#32
  let v278 : BitVec 1 := Scalar.cmpi .sgt c16_i32_129 c0_i32_132
  let v279 : BitVec 32 := Scalar.extui v278
  let c0_i32_133 : BitVec 32 := 0#32
  let v280 : BitVec 1 := Scalar.cmpi .slt c16_i32_129 c0_i32_133
  let v281 : BitVec 32 := Scalar.extui v280
  let v282 : BitVec 32 := Scalar.subi v279 v281
  let v283 : BitVec 1 := Scalar.cmpi .ne v277 v282
  let v284 : BitVec 32 := Scalar.remsi v271 c16_i32_129
  let c0_i32_134 : BitVec 32 := 0#32
  let v285 : BitVec 1 := Scalar.cmpi .ne v284 c0_i32_134
  let v286 : BitVec 1 := Scalar.andi v283 v285
  let v272 : BitVec 32 := Scalar.divsi v271 c16_i32_129
  let c1_i32_135 : BitVec 32 := 1#32
  let v287 : BitVec 32 := Scalar.subi v272 c1_i32_135
  let v288 : BitVec 32 := Scalar.select v286 v287 v272
  let v290 : BitVec 32 := Scalar.subi v288 c0_i32_138
  let c1_i32_139 : BitVec 32 := 1#32
  let v292 : BitVec 32 := Scalar.divsi v290 c1_i32_139
  let v293 : BitVec 32 := Scalar.muli v292 c1_i32_139
  let v294 : BitVec 32 := Scalar.addi c0_i32_138 v293
  let c1_i32_141 : BitVec 32 := 1#32
  let arg9 : BitVec 32 := Scf.iv v294 c1_i32_141 k0_t16
  let c16_i32_154 : BitVec 32 := 16#32
  let v324 : BitVec 32 := Scalar.muli arg9 c16_i32_154
  let c9_i32 : BitVec 32 := 9#32
  let v443 : BitVec 32 := Scalar.addi v324 c9_i32
  let v444 : Index := Scalar.indexCast v443
  ![7, v444.toNat]
def k0_off501 (v445 : BitVec 32) : Fin 3 → Nat :=
  let v446 : Index := Scalar.indexCast v445
  let c0_194 : Index := 0#32
  let c0_195 : Index := 0#32
  ![v446.toNat, 0, 0]

def k0_chk258 (v445 : BitVec 32) : Prop :=
  (∀ a, (k0_off501 v445) a + S1x1x128.size a ≤ S100000x1x128.size a)
theorem k0_off501_inb : ∀ (v445 : BitVec 32) (k0_hw258 : k0_chk258 v445), ∀ a, (k0_off501 v445) a + S1x1x128.size a ≤ S100000x1x128.size a := fun v445 k0_hw258 => k0_hw258

def k0_off502 (v270 : BitVec 32) (k0_t16 : Fin (k0_t16_loop v270).trips) : Fin 2 → Nat :=
  let c7_197 : Index := 7#32
  let c0_i32_138 : BitVec 32 := 0#32
  let c15_i32_128 : BitVec 32 := 15#32
  let v271 : BitVec 32 := Scalar.addi v270 c15_i32_128
  let c0_i32_130 : BitVec 32 := 0#32
  let v273 : BitVec 1 := Scalar.cmpi .sgt v271 c0_i32_130
  let v274 : BitVec 32 := Scalar.extui v273
  let c0_i32_131 : BitVec 32 := 0#32
  let v275 : BitVec 1 := Scalar.cmpi .slt v271 c0_i32_131
  let v276 : BitVec 32 := Scalar.extui v275
  let v277 : BitVec 32 := Scalar.subi v274 v276
  let c16_i32_129 : BitVec 32 := 16#32
  let c0_i32_132 : BitVec 32 := 0#32
  let v278 : BitVec 1 := Scalar.cmpi .sgt c16_i32_129 c0_i32_132
  let v279 : BitVec 32 := Scalar.extui v278
  let c0_i32_133 : BitVec 32 := 0#32
  let v280 : BitVec 1 := Scalar.cmpi .slt c16_i32_129 c0_i32_133
  let v281 : BitVec 32 := Scalar.extui v280
  let v282 : BitVec 32 := Scalar.subi v279 v281
  let v283 : BitVec 1 := Scalar.cmpi .ne v277 v282
  let v284 : BitVec 32 := Scalar.remsi v271 c16_i32_129
  let c0_i32_134 : BitVec 32 := 0#32
  let v285 : BitVec 1 := Scalar.cmpi .ne v284 c0_i32_134
  let v286 : BitVec 1 := Scalar.andi v283 v285
  let v272 : BitVec 32 := Scalar.divsi v271 c16_i32_129
  let c1_i32_135 : BitVec 32 := 1#32
  let v287 : BitVec 32 := Scalar.subi v272 c1_i32_135
  let v288 : BitVec 32 := Scalar.select v286 v287 v272
  let v290 : BitVec 32 := Scalar.subi v288 c0_i32_138
  let c1_i32_139 : BitVec 32 := 1#32
  let v292 : BitVec 32 := Scalar.divsi v290 c1_i32_139
  let v293 : BitVec 32 := Scalar.muli v292 c1_i32_139
  let v294 : BitVec 32 := Scalar.addi c0_i32_138 v293
  let c1_i32_141 : BitVec 32 := 1#32
  let arg9 : BitVec 32 := Scf.iv v294 c1_i32_141 k0_t16
  let c16_i32_154 : BitVec 32 := 16#32
  let v324 : BitVec 32 := Scalar.muli arg9 c16_i32_154
  let c10_i32 : BitVec 32 := 10#32
  let v457 : BitVec 32 := Scalar.addi v324 c10_i32
  let v458 : Index := Scalar.indexCast v457
  ![7, v458.toNat]
def k0_off503 (v459 : BitVec 32) : Fin 3 → Nat :=
  let v460 : Index := Scalar.indexCast v459
  let c0_198 : Index := 0#32
  let c0_199 : Index := 0#32
  ![v460.toNat, 0, 0]

def k0_chk259 (v459 : BitVec 32) : Prop :=
  (∀ a, (k0_off503 v459) a + S1x1x128.size a ≤ S100000x1x128.size a)
theorem k0_off503_inb : ∀ (v459 : BitVec 32) (k0_hw259 : k0_chk259 v459), ∀ a, (k0_off503 v459) a + S1x1x128.size a ≤ S100000x1x128.size a := fun v459 k0_hw259 => k0_hw259

def k0_off504 (v270 : BitVec 32) (k0_t16 : Fin (k0_t16_loop v270).trips) : Fin 2 → Nat :=
  let c7_201 : Index := 7#32
  let c0_i32_138 : BitVec 32 := 0#32
  let c15_i32_128 : BitVec 32 := 15#32
  let v271 : BitVec 32 := Scalar.addi v270 c15_i32_128
  let c0_i32_130 : BitVec 32 := 0#32
  let v273 : BitVec 1 := Scalar.cmpi .sgt v271 c0_i32_130
  let v274 : BitVec 32 := Scalar.extui v273
  let c0_i32_131 : BitVec 32 := 0#32
  let v275 : BitVec 1 := Scalar.cmpi .slt v271 c0_i32_131
  let v276 : BitVec 32 := Scalar.extui v275
  let v277 : BitVec 32 := Scalar.subi v274 v276
  let c16_i32_129 : BitVec 32 := 16#32
  let c0_i32_132 : BitVec 32 := 0#32
  let v278 : BitVec 1 := Scalar.cmpi .sgt c16_i32_129 c0_i32_132
  let v279 : BitVec 32 := Scalar.extui v278
  let c0_i32_133 : BitVec 32 := 0#32
  let v280 : BitVec 1 := Scalar.cmpi .slt c16_i32_129 c0_i32_133
  let v281 : BitVec 32 := Scalar.extui v280
  let v282 : BitVec 32 := Scalar.subi v279 v281
  let v283 : BitVec 1 := Scalar.cmpi .ne v277 v282
  let v284 : BitVec 32 := Scalar.remsi v271 c16_i32_129
  let c0_i32_134 : BitVec 32 := 0#32
  let v285 : BitVec 1 := Scalar.cmpi .ne v284 c0_i32_134
  let v286 : BitVec 1 := Scalar.andi v283 v285
  let v272 : BitVec 32 := Scalar.divsi v271 c16_i32_129
  let c1_i32_135 : BitVec 32 := 1#32
  let v287 : BitVec 32 := Scalar.subi v272 c1_i32_135
  let v288 : BitVec 32 := Scalar.select v286 v287 v272
  let v290 : BitVec 32 := Scalar.subi v288 c0_i32_138
  let c1_i32_139 : BitVec 32 := 1#32
  let v292 : BitVec 32 := Scalar.divsi v290 c1_i32_139
  let v293 : BitVec 32 := Scalar.muli v292 c1_i32_139
  let v294 : BitVec 32 := Scalar.addi c0_i32_138 v293
  let c1_i32_141 : BitVec 32 := 1#32
  let arg9 : BitVec 32 := Scf.iv v294 c1_i32_141 k0_t16
  let c16_i32_154 : BitVec 32 := 16#32
  let v324 : BitVec 32 := Scalar.muli arg9 c16_i32_154
  let c11_i32 : BitVec 32 := 11#32
  let v471 : BitVec 32 := Scalar.addi v324 c11_i32
  let v472 : Index := Scalar.indexCast v471
  ![7, v472.toNat]
def k0_off505 (v473 : BitVec 32) : Fin 3 → Nat :=
  let v474 : Index := Scalar.indexCast v473
  let c0_202 : Index := 0#32
  let c0_203 : Index := 0#32
  ![v474.toNat, 0, 0]

def k0_chk260 (v473 : BitVec 32) : Prop :=
  (∀ a, (k0_off505 v473) a + S1x1x128.size a ≤ S100000x1x128.size a)
theorem k0_off505_inb : ∀ (v473 : BitVec 32) (k0_hw260 : k0_chk260 v473), ∀ a, (k0_off505 v473) a + S1x1x128.size a ≤ S100000x1x128.size a := fun v473 k0_hw260 => k0_hw260

def k0_off506 (v270 : BitVec 32) (k0_t16 : Fin (k0_t16_loop v270).trips) : Fin 2 → Nat :=
  let c7_205 : Index := 7#32
  let c0_i32_138 : BitVec 32 := 0#32
  let c15_i32_128 : BitVec 32 := 15#32
  let v271 : BitVec 32 := Scalar.addi v270 c15_i32_128
  let c0_i32_130 : BitVec 32 := 0#32
  let v273 : BitVec 1 := Scalar.cmpi .sgt v271 c0_i32_130
  let v274 : BitVec 32 := Scalar.extui v273
  let c0_i32_131 : BitVec 32 := 0#32
  let v275 : BitVec 1 := Scalar.cmpi .slt v271 c0_i32_131
  let v276 : BitVec 32 := Scalar.extui v275
  let v277 : BitVec 32 := Scalar.subi v274 v276
  let c16_i32_129 : BitVec 32 := 16#32
  let c0_i32_132 : BitVec 32 := 0#32
  let v278 : BitVec 1 := Scalar.cmpi .sgt c16_i32_129 c0_i32_132
  let v279 : BitVec 32 := Scalar.extui v278
  let c0_i32_133 : BitVec 32 := 0#32
  let v280 : BitVec 1 := Scalar.cmpi .slt c16_i32_129 c0_i32_133
  let v281 : BitVec 32 := Scalar.extui v280
  let v282 : BitVec 32 := Scalar.subi v279 v281
  let v283 : BitVec 1 := Scalar.cmpi .ne v277 v282
  let v284 : BitVec 32 := Scalar.remsi v271 c16_i32_129
  let c0_i32_134 : BitVec 32 := 0#32
  let v285 : BitVec 1 := Scalar.cmpi .ne v284 c0_i32_134
  let v286 : BitVec 1 := Scalar.andi v283 v285
  let v272 : BitVec 32 := Scalar.divsi v271 c16_i32_129
  let c1_i32_135 : BitVec 32 := 1#32
  let v287 : BitVec 32 := Scalar.subi v272 c1_i32_135
  let v288 : BitVec 32 := Scalar.select v286 v287 v272
  let v290 : BitVec 32 := Scalar.subi v288 c0_i32_138
  let c1_i32_139 : BitVec 32 := 1#32
  let v292 : BitVec 32 := Scalar.divsi v290 c1_i32_139
  let v293 : BitVec 32 := Scalar.muli v292 c1_i32_139
  let v294 : BitVec 32 := Scalar.addi c0_i32_138 v293
  let c1_i32_141 : BitVec 32 := 1#32
  let arg9 : BitVec 32 := Scf.iv v294 c1_i32_141 k0_t16
  let c16_i32_154 : BitVec 32 := 16#32
  let v324 : BitVec 32 := Scalar.muli arg9 c16_i32_154
  let c12_i32 : BitVec 32 := 12#32
  let v485 : BitVec 32 := Scalar.addi v324 c12_i32
  let v486 : Index := Scalar.indexCast v485
  ![7, v486.toNat]
def k0_off507 (v487 : BitVec 32) : Fin 3 → Nat :=
  let v488 : Index := Scalar.indexCast v487
  let c0_206 : Index := 0#32
  let c0_207 : Index := 0#32
  ![v488.toNat, 0, 0]

def k0_chk261 (v487 : BitVec 32) : Prop :=
  (∀ a, (k0_off507 v487) a + S1x1x128.size a ≤ S100000x1x128.size a)
theorem k0_off507_inb : ∀ (v487 : BitVec 32) (k0_hw261 : k0_chk261 v487), ∀ a, (k0_off507 v487) a + S1x1x128.size a ≤ S100000x1x128.size a := fun v487 k0_hw261 => k0_hw261

def k0_off508 (v270 : BitVec 32) (k0_t16 : Fin (k0_t16_loop v270).trips) : Fin 2 → Nat :=
  let c7_209 : Index := 7#32
  let c0_i32_138 : BitVec 32 := 0#32
  let c15_i32_128 : BitVec 32 := 15#32
  let v271 : BitVec 32 := Scalar.addi v270 c15_i32_128
  let c0_i32_130 : BitVec 32 := 0#32
  let v273 : BitVec 1 := Scalar.cmpi .sgt v271 c0_i32_130
  let v274 : BitVec 32 := Scalar.extui v273
  let c0_i32_131 : BitVec 32 := 0#32
  let v275 : BitVec 1 := Scalar.cmpi .slt v271 c0_i32_131
  let v276 : BitVec 32 := Scalar.extui v275
  let v277 : BitVec 32 := Scalar.subi v274 v276
  let c16_i32_129 : BitVec 32 := 16#32
  let c0_i32_132 : BitVec 32 := 0#32
  let v278 : BitVec 1 := Scalar.cmpi .sgt c16_i32_129 c0_i32_132
  let v279 : BitVec 32 := Scalar.extui v278
  let c0_i32_133 : BitVec 32 := 0#32
  let v280 : BitVec 1 := Scalar.cmpi .slt c16_i32_129 c0_i32_133
  let v281 : BitVec 32 := Scalar.extui v280
  let v282 : BitVec 32 := Scalar.subi v279 v281
  let v283 : BitVec 1 := Scalar.cmpi .ne v277 v282
  let v284 : BitVec 32 := Scalar.remsi v271 c16_i32_129
  let c0_i32_134 : BitVec 32 := 0#32
  let v285 : BitVec 1 := Scalar.cmpi .ne v284 c0_i32_134
  let v286 : BitVec 1 := Scalar.andi v283 v285
  let v272 : BitVec 32 := Scalar.divsi v271 c16_i32_129
  let c1_i32_135 : BitVec 32 := 1#32
  let v287 : BitVec 32 := Scalar.subi v272 c1_i32_135
  let v288 : BitVec 32 := Scalar.select v286 v287 v272
  let v290 : BitVec 32 := Scalar.subi v288 c0_i32_138
  let c1_i32_139 : BitVec 32 := 1#32
  let v292 : BitVec 32 := Scalar.divsi v290 c1_i32_139
  let v293 : BitVec 32 := Scalar.muli v292 c1_i32_139
  let v294 : BitVec 32 := Scalar.addi c0_i32_138 v293
  let c1_i32_141 : BitVec 32 := 1#32
  let arg9 : BitVec 32 := Scf.iv v294 c1_i32_141 k0_t16
  let c16_i32_154 : BitVec 32 := 16#32
  let v324 : BitVec 32 := Scalar.muli arg9 c16_i32_154
  let c13_i32 : BitVec 32 := 13#32
  let v499 : BitVec 32 := Scalar.addi v324 c13_i32
  let v500 : Index := Scalar.indexCast v499
  ![7, v500.toNat]
def k0_off509 (v501 : BitVec 32) : Fin 3 → Nat :=
  let v502 : Index := Scalar.indexCast v501
  let c0_210 : Index := 0#32
  let c0_211 : Index := 0#32
  ![v502.toNat, 0, 0]

def k0_chk262 (v501 : BitVec 32) : Prop :=
  (∀ a, (k0_off509 v501) a + S1x1x128.size a ≤ S100000x1x128.size a)
theorem k0_off509_inb : ∀ (v501 : BitVec 32) (k0_hw262 : k0_chk262 v501), ∀ a, (k0_off509 v501) a + S1x1x128.size a ≤ S100000x1x128.size a := fun v501 k0_hw262 => k0_hw262

def k0_off510 (v270 : BitVec 32) (k0_t16 : Fin (k0_t16_loop v270).trips) : Fin 2 → Nat :=
  let c7_213 : Index := 7#32
  let c0_i32_138 : BitVec 32 := 0#32
  let c15_i32_128 : BitVec 32 := 15#32
  let v271 : BitVec 32 := Scalar.addi v270 c15_i32_128
  let c0_i32_130 : BitVec 32 := 0#32
  let v273 : BitVec 1 := Scalar.cmpi .sgt v271 c0_i32_130
  let v274 : BitVec 32 := Scalar.extui v273
  let c0_i32_131 : BitVec 32 := 0#32
  let v275 : BitVec 1 := Scalar.cmpi .slt v271 c0_i32_131
  let v276 : BitVec 32 := Scalar.extui v275
  let v277 : BitVec 32 := Scalar.subi v274 v276
  let c16_i32_129 : BitVec 32 := 16#32
  let c0_i32_132 : BitVec 32 := 0#32
  let v278 : BitVec 1 := Scalar.cmpi .sgt c16_i32_129 c0_i32_132
  let v279 : BitVec 32 := Scalar.extui v278
  let c0_i32_133 : BitVec 32 := 0#32
  let v280 : BitVec 1 := Scalar.cmpi .slt c16_i32_129 c0_i32_133
  let v281 : BitVec 32 := Scalar.extui v280
  let v282 : BitVec 32 := Scalar.subi v279 v281
  let v283 : BitVec 1 := Scalar.cmpi .ne v277 v282
  let v284 : BitVec 32 := Scalar.remsi v271 c16_i32_129
  let c0_i32_134 : BitVec 32 := 0#32
  let v285 : BitVec 1 := Scalar.cmpi .ne v284 c0_i32_134
  let v286 : BitVec 1 := Scalar.andi v283 v285
  let v272 : BitVec 32 := Scalar.divsi v271 c16_i32_129
  let c1_i32_135 : BitVec 32 := 1#32
  let v287 : BitVec 32 := Scalar.subi v272 c1_i32_135
  let v288 : BitVec 32 := Scalar.select v286 v287 v272
  let v290 : BitVec 32 := Scalar.subi v288 c0_i32_138
  let c1_i32_139 : BitVec 32 := 1#32
  let v292 : BitVec 32 := Scalar.divsi v290 c1_i32_139
  let v293 : BitVec 32 := Scalar.muli v292 c1_i32_139
  let v294 : BitVec 32 := Scalar.addi c0_i32_138 v293
  let c1_i32_141 : BitVec 32 := 1#32
  let arg9 : BitVec 32 := Scf.iv v294 c1_i32_141 k0_t16
  let c16_i32_154 : BitVec 32 := 16#32
  let v324 : BitVec 32 := Scalar.muli arg9 c16_i32_154
  let c14_i32 : BitVec 32 := 14#32
  let v513 : BitVec 32 := Scalar.addi v324 c14_i32
  let v514 : Index := Scalar.indexCast v513
  ![7, v514.toNat]
def k0_off511 (v515 : BitVec 32) : Fin 3 → Nat :=
  let v516 : Index := Scalar.indexCast v515
  let c0_214 : Index := 0#32
  let c0_215 : Index := 0#32
  ![v516.toNat, 0, 0]

def k0_chk263 (v515 : BitVec 32) : Prop :=
  (∀ a, (k0_off511 v515) a + S1x1x128.size a ≤ S100000x1x128.size a)
theorem k0_off511_inb : ∀ (v515 : BitVec 32) (k0_hw263 : k0_chk263 v515), ∀ a, (k0_off511 v515) a + S1x1x128.size a ≤ S100000x1x128.size a := fun v515 k0_hw263 => k0_hw263

def k0_off512 (v270 : BitVec 32) (k0_t16 : Fin (k0_t16_loop v270).trips) : Fin 2 → Nat :=
  let c7_218 : Index := 7#32
  let c0_i32_138 : BitVec 32 := 0#32
  let c15_i32_128 : BitVec 32 := 15#32
  let v271 : BitVec 32 := Scalar.addi v270 c15_i32_128
  let c0_i32_130 : BitVec 32 := 0#32
  let v273 : BitVec 1 := Scalar.cmpi .sgt v271 c0_i32_130
  let v274 : BitVec 32 := Scalar.extui v273
  let c0_i32_131 : BitVec 32 := 0#32
  let v275 : BitVec 1 := Scalar.cmpi .slt v271 c0_i32_131
  let v276 : BitVec 32 := Scalar.extui v275
  let v277 : BitVec 32 := Scalar.subi v274 v276
  let c16_i32_129 : BitVec 32 := 16#32
  let c0_i32_132 : BitVec 32 := 0#32
  let v278 : BitVec 1 := Scalar.cmpi .sgt c16_i32_129 c0_i32_132
  let v279 : BitVec 32 := Scalar.extui v278
  let c0_i32_133 : BitVec 32 := 0#32
  let v280 : BitVec 1 := Scalar.cmpi .slt c16_i32_129 c0_i32_133
  let v281 : BitVec 32 := Scalar.extui v280
  let v282 : BitVec 32 := Scalar.subi v279 v281
  let v283 : BitVec 1 := Scalar.cmpi .ne v277 v282
  let v284 : BitVec 32 := Scalar.remsi v271 c16_i32_129
  let c0_i32_134 : BitVec 32 := 0#32
  let v285 : BitVec 1 := Scalar.cmpi .ne v284 c0_i32_134
  let v286 : BitVec 1 := Scalar.andi v283 v285
  let v272 : BitVec 32 := Scalar.divsi v271 c16_i32_129
  let c1_i32_135 : BitVec 32 := 1#32
  let v287 : BitVec 32 := Scalar.subi v272 c1_i32_135
  let v288 : BitVec 32 := Scalar.select v286 v287 v272
  let v290 : BitVec 32 := Scalar.subi v288 c0_i32_138
  let c1_i32_139 : BitVec 32 := 1#32
  let v292 : BitVec 32 := Scalar.divsi v290 c1_i32_139
  let v293 : BitVec 32 := Scalar.muli v292 c1_i32_139
  let v294 : BitVec 32 := Scalar.addi c0_i32_138 v293
  let c1_i32_141 : BitVec 32 := 1#32
  let arg9 : BitVec 32 := Scf.iv v294 c1_i32_141 k0_t16
  let c16_i32_154 : BitVec 32 := 16#32
  let v324 : BitVec 32 := Scalar.muli arg9 c16_i32_154
  let c15_i32_217 : BitVec 32 := 15#32
  let v527 : BitVec 32 := Scalar.addi v324 c15_i32_217
  let v528 : Index := Scalar.indexCast v527
  ![7, v528.toNat]

def k0_chk232_0 (v270 : BitVec 32) : Prop :=
  ((k0_t15_loop v270).OK) ∧
  (∀ k0_t15 : Fin (k0_t15_loop v270).trips, ∀ a, (k0_off450 v270 k0_t15) a + S1x1.size a ≤ S8x512.size a) ∧
  (∀ k0_t15 : Fin (k0_t15_loop v270).trips, ∀ a, (k0_off452 v270 k0_t15) a + S1x1.size a ≤ S8x512.size a) ∧
  (∀ k0_t15 : Fin (k0_t15_loop v270).trips, ∀ a, (k0_off454 v270 k0_t15) a + S1x1.size a ≤ S8x512.size a) ∧
  (∀ k0_t15 : Fin (k0_t15_loop v270).trips, ∀ a, (k0_off456 v270 k0_t15) a + S1x1.size a ≤ S8x512.size a) ∧
  (∀ k0_t15 : Fin (k0_t15_loop v270).trips, ∀ a, (k0_off458 v270 k0_t15) a + S1x1.size a ≤ S8x512.size a) ∧
  (∀ k0_t15 : Fin (k0_t15_loop v270).trips, ∀ a, (k0_off460 v270 k0_t15) a + S1x1.size a ≤ S8x512.size a) ∧
  (∀ k0_t15 : Fin (k0_t15_loop v270).trips, ∀ a, (k0_off462 v270 k0_t15) a + S1x1.size a ≤ S8x512.size a) ∧
  (∀ k0_t15 : Fin (k0_t15_loop v270).trips, ∀ a, (k0_off464 v270 k0_t15) a + S1x1.size a ≤ S8x512.size a) ∧
  (∀ k0_t15 : Fin (k0_t15_loop v270).trips, ∀ a, (k0_off466 v270 k0_t15) a + S1x1.size a ≤ S8x512.size a) ∧
  (∀ k0_t15 : Fin (k0_t15_loop v270).trips, ∀ a, (k0_off468 v270 k0_t15) a + S1x1.size a ≤ S8x512.size a) ∧
  (∀ k0_t15 : Fin (k0_t15_loop v270).trips, ∀ a, (k0_off470 v270 k0_t15) a + S1x1.size a ≤ S8x512.size a) ∧
  (∀ k0_t15 : Fin (k0_t15_loop v270).trips, ∀ a, (k0_off472 v270 k0_t15) a + S1x1.size a ≤ S8x512.size a) ∧
  (∀ k0_t15 : Fin (k0_t15_loop v270).trips, ∀ a, (k0_off474 v270 k0_t15) a + S1x1.size a ≤ S8x512.size a) ∧
  (∀ k0_t15 : Fin (k0_t15_loop v270).trips, ∀ a, (k0_off476 v270 k0_t15) a + S1x1.size a ≤ S8x512.size a) ∧
  (∀ k0_t15 : Fin (k0_t15_loop v270).trips, ∀ a, (k0_off478 v270 k0_t15) a + S1x1.size a ≤ S8x512.size a) ∧
  (∀ k0_t15 : Fin (k0_t15_loop v270).trips, ∀ a, (k0_off480 v270 k0_t15) a + S1x1.size a ≤ S8x512.size a) ∧
  ((k0_t16_loop v270).OK) ∧
  (∀ k0_t16 : Fin (k0_t16_loop v270).trips, ∀ a, (k0_off482 v270 k0_t16) a + S1x1.size a ≤ S8x512.size a) ∧
  (∀ k0_t16 : Fin (k0_t16_loop v270).trips, ∀ a, (k0_off484 v270 k0_t16) a + S1x1.size a ≤ S8x512.size a) ∧
  (∀ k0_t16 : Fin (k0_t16_loop v270).trips, ∀ a, (k0_off486 v270 k0_t16) a + S1x1.size a ≤ S8x512.size a) ∧
  (∀ k0_t16 : Fin (k0_t16_loop v270).trips, ∀ a, (k0_off488 v270 k0_t16) a + S1x1.size a ≤ S8x512.size a) ∧
  (∀ k0_t16 : Fin (k0_t16_loop v270).trips, ∀ a, (k0_off490 v270 k0_t16) a + S1x1.size a ≤ S8x512.size a) ∧
  (∀ k0_t16 : Fin (k0_t16_loop v270).trips, ∀ a, (k0_off492 v270 k0_t16) a + S1x1.size a ≤ S8x512.size a) ∧
  (∀ k0_t16 : Fin (k0_t16_loop v270).trips, ∀ a, (k0_off494 v270 k0_t16) a + S1x1.size a ≤ S8x512.size a) ∧
  (∀ k0_t16 : Fin (k0_t16_loop v270).trips, ∀ a, (k0_off496 v270 k0_t16) a + S1x1.size a ≤ S8x512.size a) ∧
  (∀ k0_t16 : Fin (k0_t16_loop v270).trips, ∀ a, (k0_off498 v270 k0_t16) a + S1x1.size a ≤ S8x512.size a) ∧
  (∀ k0_t16 : Fin (k0_t16_loop v270).trips, ∀ a, (k0_off500 v270 k0_t16) a + S1x1.size a ≤ S8x512.size a) ∧
  (∀ k0_t16 : Fin (k0_t16_loop v270).trips, ∀ a, (k0_off502 v270 k0_t16) a + S1x1.size a ≤ S8x512.size a) ∧
  (∀ k0_t16 : Fin (k0_t16_loop v270).trips, ∀ a, (k0_off504 v270 k0_t16) a + S1x1.size a ≤ S8x512.size a) ∧
  (∀ k0_t16 : Fin (k0_t16_loop v270).trips, ∀ a, (k0_off506 v270 k0_t16) a + S1x1.size a ≤ S8x512.size a) ∧
  (∀ k0_t16 : Fin (k0_t16_loop v270).trips, ∀ a, (k0_off508 v270 k0_t16) a + S1x1.size a ≤ S8x512.size a)
def k0_chk232_1 (v270 : BitVec 32) : Prop :=
  (∀ k0_t16 : Fin (k0_t16_loop v270).trips, ∀ a, (k0_off510 v270 k0_t16) a + S1x1.size a ≤ S8x512.size a) ∧
  (∀ k0_t16 : Fin (k0_t16_loop v270).trips, ∀ a, (k0_off512 v270 k0_t16) a + S1x1.size a ≤ S8x512.size a)
def k0_chk232 (v270 : BitVec 32) : Prop :=
  k0_chk232_0 v270 ∧
  k0_chk232_1 v270
theorem k0_t15_ok : ∀ (v270 : BitVec 32) (k0_hw232 : k0_chk232 v270), (k0_t15_loop v270).OK := fun v270 k0_hw232 => k0_hw232.1.1
theorem k0_off450_inb : ∀ (v270 : BitVec 32) (k0_hw232 : k0_chk232 v270) (k0_t15 : Fin (k0_t15_loop v270).trips), ∀ a, (k0_off450 v270 k0_t15) a + S1x1.size a ≤ S8x512.size a := fun v270 k0_hw232 k0_t15 => k0_hw232.1.2.1 k0_t15
theorem k0_off452_inb : ∀ (v270 : BitVec 32) (k0_hw232 : k0_chk232 v270) (k0_t15 : Fin (k0_t15_loop v270).trips), ∀ a, (k0_off452 v270 k0_t15) a + S1x1.size a ≤ S8x512.size a := fun v270 k0_hw232 k0_t15 => k0_hw232.1.2.2.1 k0_t15
theorem k0_off454_inb : ∀ (v270 : BitVec 32) (k0_hw232 : k0_chk232 v270) (k0_t15 : Fin (k0_t15_loop v270).trips), ∀ a, (k0_off454 v270 k0_t15) a + S1x1.size a ≤ S8x512.size a := fun v270 k0_hw232 k0_t15 => k0_hw232.1.2.2.2.1 k0_t15
theorem k0_off456_inb : ∀ (v270 : BitVec 32) (k0_hw232 : k0_chk232 v270) (k0_t15 : Fin (k0_t15_loop v270).trips), ∀ a, (k0_off456 v270 k0_t15) a + S1x1.size a ≤ S8x512.size a := fun v270 k0_hw232 k0_t15 => k0_hw232.1.2.2.2.2.1 k0_t15
theorem k0_off458_inb : ∀ (v270 : BitVec 32) (k0_hw232 : k0_chk232 v270) (k0_t15 : Fin (k0_t15_loop v270).trips), ∀ a, (k0_off458 v270 k0_t15) a + S1x1.size a ≤ S8x512.size a := fun v270 k0_hw232 k0_t15 => k0_hw232.1.2.2.2.2.2.1 k0_t15
theorem k0_off460_inb : ∀ (v270 : BitVec 32) (k0_hw232 : k0_chk232 v270) (k0_t15 : Fin (k0_t15_loop v270).trips), ∀ a, (k0_off460 v270 k0_t15) a + S1x1.size a ≤ S8x512.size a := fun v270 k0_hw232 k0_t15 => k0_hw232.1.2.2.2.2.2.2.1 k0_t15
theorem k0_off462_inb : ∀ (v270 : BitVec 32) (k0_hw232 : k0_chk232 v270) (k0_t15 : Fin (k0_t15_loop v270).trips), ∀ a, (k0_off462 v270 k0_t15) a + S1x1.size a ≤ S8x512.size a := fun v270 k0_hw232 k0_t15 => k0_hw232.1.2.2.2.2.2.2.2.1 k0_t15
theorem k0_off464_inb : ∀ (v270 : BitVec 32) (k0_hw232 : k0_chk232 v270) (k0_t15 : Fin (k0_t15_loop v270).trips), ∀ a, (k0_off464 v270 k0_t15) a + S1x1.size a ≤ S8x512.size a := fun v270 k0_hw232 k0_t15 => k0_hw232.1.2.2.2.2.2.2.2.2.1 k0_t15
theorem k0_off466_inb : ∀ (v270 : BitVec 32) (k0_hw232 : k0_chk232 v270) (k0_t15 : Fin (k0_t15_loop v270).trips), ∀ a, (k0_off466 v270 k0_t15) a + S1x1.size a ≤ S8x512.size a := fun v270 k0_hw232 k0_t15 => k0_hw232.1.2.2.2.2.2.2.2.2.2.1 k0_t15
theorem k0_off468_inb : ∀ (v270 : BitVec 32) (k0_hw232 : k0_chk232 v270) (k0_t15 : Fin (k0_t15_loop v270).trips), ∀ a, (k0_off468 v270 k0_t15) a + S1x1.size a ≤ S8x512.size a := fun v270 k0_hw232 k0_t15 => k0_hw232.1.2.2.2.2.2.2.2.2.2.2.1 k0_t15
theorem k0_off470_inb : ∀ (v270 : BitVec 32) (k0_hw232 : k0_chk232 v270) (k0_t15 : Fin (k0_t15_loop v270).trips), ∀ a, (k0_off470 v270 k0_t15) a + S1x1.size a ≤ S8x512.size a := fun v270 k0_hw232 k0_t15 => k0_hw232.1.2.2.2.2.2.2.2.2.2.2.2.1 k0_t15
theorem k0_off472_inb : ∀ (v270 : BitVec 32) (k0_hw232 : k0_chk232 v270) (k0_t15 : Fin (k0_t15_loop v270).trips), ∀ a, (k0_off472 v270 k0_t15) a + S1x1.size a ≤ S8x512.size a := fun v270 k0_hw232 k0_t15 => k0_hw232.1.2.2.2.2.2.2.2.2.2.2.2.2.1 k0_t15
theorem k0_off474_inb : ∀ (v270 : BitVec 32) (k0_hw232 : k0_chk232 v270) (k0_t15 : Fin (k0_t15_loop v270).trips), ∀ a, (k0_off474 v270 k0_t15) a + S1x1.size a ≤ S8x512.size a := fun v270 k0_hw232 k0_t15 => k0_hw232.1.2.2.2.2.2.2.2.2.2.2.2.2.2.1 k0_t15
theorem k0_off476_inb : ∀ (v270 : BitVec 32) (k0_hw232 : k0_chk232 v270) (k0_t15 : Fin (k0_t15_loop v270).trips), ∀ a, (k0_off476 v270 k0_t15) a + S1x1.size a ≤ S8x512.size a := fun v270 k0_hw232 k0_t15 => k0_hw232.1.2.2.2.2.2.2.2.2.2.2.2.2.2.2.1 k0_t15
theorem k0_off478_inb : ∀ (v270 : BitVec 32) (k0_hw232 : k0_chk232 v270) (k0_t15 : Fin (k0_t15_loop v270).trips), ∀ a, (k0_off478 v270 k0_t15) a + S1x1.size a ≤ S8x512.size a := fun v270 k0_hw232 k0_t15 => k0_hw232.1.2.2.2.2.2.2.2.2.2.2.2.2.2.2.2.1 k0_t15
theorem k0_off480_inb : ∀ (v270 : BitVec 32) (k0_hw232 : k0_chk232 v270) (k0_t15 : Fin (k0_t15_loop v270).trips), ∀ a, (k0_off480 v270 k0_t15) a + S1x1.size a ≤ S8x512.size a := fun v270 k0_hw232 k0_t15 => k0_hw232.1.2.2.2.2.2.2.2.2.2.2.2.2.2.2.2.2.1 k0_t15
theorem k0_t16_ok : ∀ (v270 : BitVec 32) (k0_hw232 : k0_chk232 v270), (k0_t16_loop v270).OK := fun v270 k0_hw232 => k0_hw232.1.2.2.2.2.2.2.2.2.2.2.2.2.2.2.2.2.2.1
theorem k0_off482_inb : ∀ (v270 : BitVec 32) (k0_hw232 : k0_chk232 v270) (k0_t16 : Fin (k0_t16_loop v270).trips), ∀ a, (k0_off482 v270 k0_t16) a + S1x1.size a ≤ S8x512.size a := fun v270 k0_hw232 k0_t16 => k0_hw232.1.2.2.2.2.2.2.2.2.2.2.2.2.2.2.2.2.2.2.1 k0_t16
theorem k0_off484_inb : ∀ (v270 : BitVec 32) (k0_hw232 : k0_chk232 v270) (k0_t16 : Fin (k0_t16_loop v270).trips), ∀ a, (k0_off484 v270 k0_t16) a + S1x1.size a ≤ S8x512.size a := fun v270 k0_hw232 k0_t16 => k0_hw232.1.2.2.2.2.2.2.2.2.2.2.2.2.2.2.2.2.2.2.2.1 k0_t16
theorem k0_off486_inb : ∀ (v270 : BitVec 32) (k0_hw232 : k0_chk232 v270) (k0_t16 : Fin (k0_t16_loop v270).trips), ∀ a, (k0_off486 v270 k0_t16) a + S1x1.size a ≤ S8x512.size a := fun v270 k0_hw232 k0_t16 => k0_hw232.1.2.2.2.2.2.2.2.2.2.2.2.2.2.2.2.2.2.2.2.2.1 k0_t16
theorem k0_off488_inb : ∀ (v270 : BitVec 32) (k0_hw232 : k0_chk232 v270) (k0_t16 : Fin (k0_t16_loop v270).trips), ∀ a, (k0_off488 v270 k0_t16) a + S1x1.size a ≤ S8x512.size a := fun v270 k0_hw232 k0_t16 => k0_hw232.1.2.2.2.2.2.2.2.2.2.2.2.2.2.2.2.2.2.2.2.2.2.1 k0_t16
theorem k0_off490_inb : ∀ (v270 : BitVec 32) (k0_hw232 : k0_chk232 v270) (k0_t16 : Fin (k0_t16_loop v270).trips), ∀ a, (k0_off490 v270 k0_t16) a + S1x1.size a ≤ S8x512.size a := fun v270 k0_hw232 k0_t16 => k0_hw232.1.2.2.2.2.2.2.2.2.2.2.2.2.2.2.2.2.2.2.2.2.2.2.1 k0_t16
theorem k0_off492_inb : ∀ (v270 : BitVec 32) (k0_hw232 : k0_chk232 v270) (k0_t16 : Fin (k0_t16_loop v270).trips), ∀ a, (k0_off492 v270 k0_t16) a + S1x1.size a ≤ S8x512.size a := fun v270 k0_hw232 k0_t16 => k0_hw232.1.2.2.2.2.2.2.2.2.2.2.2.2.2.2.2.2.2.2.2.2.2.2.2.1 k0_t16
theorem k0_off494_inb : ∀ (v270 : BitVec 32) (k0_hw232 : k0_chk232 v270) (k0_t16 : Fin (k0_t16_loop v270).trips), ∀ a, (k0_off494 v270 k0_t16) a + S1x1.size a ≤ S8x512.size a := fun v270 k0_hw232 k0_t16 => k0_hw232.1.2.2.2.2.2.2.2.2.2.2.2.2.2.2.2.2.2.2.2.2.2.2.2.2.1 k0_t16
theorem k0_off496_inb : ∀ (v270 : BitVec 32) (k0_hw232 : k0_chk232 v270) (k0_t16 : Fin (k0_t16_loop v270).trips), ∀ a, (k0_off496 v270 k0_t16) a + S1x1.size a ≤ S8x512.size a := fun v270 k0_hw232 k0_t16 => k0_hw232.1.2.2.2.2.2.2.2.2.2.2.2.2.2.2.2.2.2.2.2.2.2.2.2.2.2.1 k0_t16
theorem k0_off498_inb : ∀ (v270 : BitVec 32) (k0_hw232 : k0_chk232 v270) (k0_t16 : Fin (k0_t16_loop v270).trips), ∀ a, (k0_off498 v270 k0_t16) a + S1x1.size a ≤ S8x512.size a := fun v270 k0_hw232 k0_t16 => k0_hw232.1.2.2.2.2.2.2.2.2.2.2.2.2.2.2.2.2.2.2.2.2.2.2.2.2.2.2.1 k0_t16
theorem k0_off500_inb : ∀ (v270 : BitVec 32) (k0_hw232 : k0_chk232 v270) (k0_t16 : Fin (k0_t16_loop v270).trips), ∀ a, (k0_off500 v270 k0_t16) a + S1x1.size a ≤ S8x512.size a := fun v270 k0_hw232 k0_t16 => k0_hw232.1.2.2.2.2.2.2.2.2.2.2.2.2.2.2.2.2.2.2.2.2.2.2.2.2.2.2.2.1 k0_t16
theorem k0_off502_inb : ∀ (v270 : BitVec 32) (k0_hw232 : k0_chk232 v270) (k0_t16 : Fin (k0_t16_loop v270).trips), ∀ a, (k0_off502 v270 k0_t16) a + S1x1.size a ≤ S8x512.size a := fun v270 k0_hw232 k0_t16 => k0_hw232.1.2.2.2.2.2.2.2.2.2.2.2.2.2.2.2.2.2.2.2.2.2.2.2.2.2.2.2.2.1 k0_t16
theorem k0_off504_inb : ∀ (v270 : BitVec 32) (k0_hw232 : k0_chk232 v270) (k0_t16 : Fin (k0_t16_loop v270).trips), ∀ a, (k0_off504 v270 k0_t16) a + S1x1.size a ≤ S8x512.size a := fun v270 k0_hw232 k0_t16 => k0_hw232.1.2.2.2.2.2.2.2.2.2.2.2.2.2.2.2.2.2.2.2.2.2.2.2.2.2.2.2.2.2.1 k0_t16
theorem k0_off506_inb : ∀ (v270 : BitVec 32) (k0_hw232 : k0_chk232 v270) (k0_t16 : Fin (k0_t16_loop v270).trips), ∀ a, (k0_off506 v270 k0_t16) a + S1x1.size a ≤ S8x512.size a := fun v270 k0_hw232 k0_t16 => k0_hw232.1.2.2.2.2.2.2.2.2.2.2.2.2.2.2.2.2.2.2.2.2.2.2.2.2.2.2.2.2.2.2.1 k0_t16
theorem k0_off508_inb : ∀ (v270 : BitVec 32) (k0_hw232 : k0_chk232 v270) (k0_t16 : Fin (k0_t16_loop v270).trips), ∀ a, (k0_off508 v270 k0_t16) a + S1x1.size a ≤ S8x512.size a := fun v270 k0_hw232 k0_t16 => k0_hw232.1.2.2.2.2.2.2.2.2.2.2.2.2.2.2.2.2.2.2.2.2.2.2.2.2.2.2.2.2.2.2.2 k0_t16
theorem k0_off510_inb : ∀ (v270 : BitVec 32) (k0_hw232 : k0_chk232 v270) (k0_t16 : Fin (k0_t16_loop v270).trips), ∀ a, (k0_off510 v270 k0_t16) a + S1x1.size a ≤ S8x512.size a := fun v270 k0_hw232 k0_t16 => k0_hw232.2.1 k0_t16
theorem k0_off512_inb : ∀ (v270 : BitVec 32) (k0_hw232 : k0_chk232 v270) (k0_t16 : Fin (k0_t16_loop v270).trips), ∀ a, (k0_off512 v270 k0_t16) a + S1x1.size a ≤ S8x512.size a := fun v270 k0_hw232 k0_t16 => k0_hw232.2.2 k0_t16

def k0_off513 (v529 : BitVec 32) : Fin 3 → Nat :=
  let v530 : Index := Scalar.indexCast v529
  let c0_219 : Index := 0#32
  let c0_220 : Index := 0#32
  ![v530.toNat, 0, 0]

def k0_chk264 (v529 : BitVec 32) : Prop :=
  (∀ a, (k0_off513 v529) a + S1x1x128.size a ≤ S100000x1x128.size a)
theorem k0_off513_inb : ∀ (v529 : BitVec 32) (k0_hw264 : k0_chk264 v529), ∀ a, (k0_off513 v529) a + S1x1x128.size a ≤ S100000x1x128.size a := fun v529 k0_hw264 => k0_hw264

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, arg0.toNat, c0_i32.toNat, c0_i32_0.toNat]

abbrev stage0_0 : Fin 2 → Memref sig .tc .smem S8x512 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .smem S1x1x8 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S8x512 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S8x1x1x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev grid1 : Pipeline.Grid := ⟨1, ![4], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S512x512 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S512x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S256x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]
-- ==== ReferenceIdeal.lean ====
abbrev S2x100000x128 : Shape := ⟨3, ![2, 100000, 128]⟩
abbrev S1024x512 : Shape := ⟨2, ![1024, 512]⟩
abbrev S512x300 : Shape := ⟨2, ![512, 300]⟩
abbrev S512 : Shape := ⟨1, ![512]⟩
abbrev S5x512 : Shape := ⟨2, ![5, 512]⟩
abbrev S5 : Shape := ⟨1, ![5]⟩
abbrev S_ : Shape := ⟨0, ![]⟩
abbrev S1x100000x128 : Shape := ⟨3, ![1, 100000, 128]⟩
abbrev S100000x128 : Shape := ⟨2, ![100000, 128]⟩
abbrev S1x100000x44 : Shape := ⟨3, ![1, 100000, 44]⟩
abbrev S100000x44 : Shape := ⟨2, ![100000, 44]⟩
abbrev S100000x300 : Shape := ⟨2, ![100000, 300]⟩
abbrev S1024x1 : Shape := ⟨2, ![1024, 1]⟩
abbrev S1024 : Shape := ⟨1, ![1024]⟩
abbrev S1024x512x1 : Shape := ⟨3, ![1024, 512, 1]⟩
abbrev S1024x512x300 : Shape := ⟨3, ![1024, 512, 300]⟩
abbrev S1024x300 : Shape := ⟨2, ![1024, 300]⟩
abbrev S300x512 : Shape := ⟨2, ![300, 512]⟩
abbrev S1x512 : Shape := ⟨2, ![1, 512]⟩
abbrev S512x5 : Shape := ⟨2, ![512, 5]⟩
abbrev S1024x5 : Shape := ⟨2, ![1024, 5]⟩
abbrev S1x5 : Shape := ⟨2, ![1, 5]⟩

abbrev nBuf : Space → Nat
  | .hbm => 65
  | .vmem => 0
  | .smem => 0
  | _ => 0

abbrev bufTy : (tb : Table) → Fin (tcTables nBuf tb) → BufTy
  | .hbm, ⟨0, _⟩ => ⟨S2x100000x128, .i32⟩
  | .hbm, ⟨1, _⟩ => ⟨S1024x512, .i32⟩
  | .hbm, ⟨2, _⟩ => ⟨S512x300, .f32⟩
  | .hbm, ⟨3, _⟩ => ⟨S512, .f32⟩
  | .hbm, ⟨4, _⟩ => ⟨S5x512, .f32⟩
  | .hbm, ⟨5, _⟩ => ⟨S5, .f32⟩
  | .hbm, ⟨6, _⟩ => ⟨S_, .i32⟩
  | .hbm, ⟨7, _⟩ => ⟨S2x100000x128, .i32⟩
  | .hbm, ⟨8, _⟩ => ⟨S2x100000x128, .i32⟩
  | .hbm, ⟨9, _⟩ => ⟨S2x100000x128, .f32⟩
  | .hbm, ⟨10, _⟩ => ⟨S_, .i32⟩
  | .hbm, ⟨11, _⟩ => ⟨S2x100000x128, .i32⟩
  | .hbm, ⟨12, _⟩ => ⟨S2x100000x128, .i32⟩
  | .hbm, ⟨13, _⟩ => ⟨S2x100000x128, .f32⟩
  | .hbm, ⟨14, _⟩ => ⟨S1x100000x128, .f32⟩
  | .hbm, ⟨15, _⟩ => ⟨S100000x128, .f32⟩
  | .hbm, ⟨16, _⟩ => ⟨S1x100000x128, .f32⟩
  | .hbm, ⟨17, _⟩ => ⟨S100000x128, .f32⟩
  | .hbm, ⟨18, _⟩ => ⟨S1x100000x44, .f32⟩
  | .hbm, ⟨19, _⟩ => ⟨S100000x44, .f32⟩
  | .hbm, ⟨20, _⟩ => ⟨S100000x300, .f32⟩
  | .hbm, ⟨21, _⟩ => ⟨S1024x1, .i32⟩
  | .hbm, ⟨22, _⟩ => ⟨S1024, .i32⟩
  | .hbm, ⟨23, _⟩ => ⟨S_, .i32⟩
  | .hbm, ⟨24, _⟩ => ⟨S1024, .i32⟩
  | .hbm, ⟨25, _⟩ => ⟨S1024, .i1⟩
  | .hbm, ⟨26, _⟩ => ⟨S_, .i32⟩
  | .hbm, ⟨27, _⟩ => ⟨S1024x512, .i32⟩
  | .hbm, ⟨28, _⟩ => ⟨S1024x512, .i1⟩
  | .hbm, ⟨29, _⟩ => ⟨S1024x512, .i32⟩
  | .hbm, ⟨30, _⟩ => ⟨S_, .i1⟩
  | .hbm, ⟨31, _⟩ => ⟨S_, .i32⟩
  | .hbm, ⟨32, _⟩ => ⟨S1024, .i1⟩
  | .hbm, ⟨33, _⟩ => ⟨S1024, .i32⟩
  | .hbm, ⟨34, _⟩ => ⟨S1024, .f32⟩
  | .hbm, ⟨35, _⟩ => ⟨S_, .f32⟩
  | .hbm, ⟨36, _⟩ => ⟨S1024, .f32⟩
  | .hbm, ⟨37, _⟩ => ⟨S1024, .f32⟩
  | .hbm, ⟨38, _⟩ => ⟨S_, .i32⟩
  | .hbm, ⟨39, _⟩ => ⟨S1024x512, .i32⟩
  | .hbm, ⟨40, _⟩ => ⟨S1024x512, .i1⟩
  | .hbm, ⟨41, _⟩ => ⟨S_, .i32⟩
  | .hbm, ⟨42, _⟩ => ⟨S1024x512, .i32⟩
  | .hbm, ⟨43, _⟩ => ⟨S1024x512, .i32⟩
  | .hbm, ⟨44, _⟩ => ⟨S1024x512, .i32⟩
  | .hbm, ⟨45, _⟩ => ⟨S1024x512x1, .i32⟩
  | .hbm, ⟨46, _⟩ => ⟨S1024x512x300, .f32⟩
  | .hbm, ⟨47, _⟩ => ⟨S_, .f32⟩
  | .hbm, ⟨48, _⟩ => ⟨S1024x300, .f32⟩
  | .hbm, ⟨49, _⟩ => ⟨S1024x1, .f32⟩
  | .hbm, ⟨50, _⟩ => ⟨S1024x300, .f32⟩
  | .hbm, ⟨51, _⟩ => ⟨S1024x300, .f32⟩
  | .hbm, ⟨52, _⟩ => ⟨S300x512, .f32⟩
  | .hbm, ⟨53, _⟩ => ⟨S1024x512, .f32⟩
  | .hbm, ⟨54, _⟩ => ⟨S1x512, .f32⟩
  | .hbm, ⟨55, _⟩ => ⟨S1024x512, .f32⟩
  | .hbm, ⟨56, _⟩ => ⟨S1024x512, .f32⟩
  | .hbm, ⟨57, _⟩ => ⟨S_, .f32⟩
  | .hbm, ⟨58, _⟩ => ⟨S1024x512, .f32⟩
  | .hbm, ⟨59, _⟩ => ⟨S1024x512, .f32⟩
  | .hbm, ⟨60, _⟩ => ⟨S512x5, .f32⟩
  | .hbm, ⟨61, _⟩ => ⟨S1024x5, .f32⟩
  | .hbm, ⟨62, _⟩ => ⟨S1x5, .f32⟩
  | .hbm, ⟨63, _⟩ => ⟨S1024x5, .f32⟩
  | .hbm, ⟨64, _⟩ => ⟨S1024x5, .f32⟩
  | _, _ => ⟨S2x100000x128, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_c_1 : Ref sig .tc := ⟨.hbm, 23, rfl⟩
abbrev main_v15 : Ref sig .tc := ⟨.hbm, 24, rfl⟩
abbrev main_v16 : Ref sig .tc := ⟨.hbm, 25, rfl⟩
abbrev main_c_2 : Ref sig .tc := ⟨.hbm, 26, rfl⟩
abbrev main_v17 : Ref sig .tc := ⟨.hbm, 27, rfl⟩
abbrev main_v18 : Ref sig .tc := ⟨.hbm, 28, rfl⟩
abbrev main_call0_v0 : Ref sig .tc := ⟨.hbm, 29, rfl⟩
abbrev main_call0_c : Ref sig .tc := ⟨.hbm, 30, rfl⟩
abbrev main_call0_c_0 : Ref sig .tc := ⟨.hbm, 31, rfl⟩
abbrev main_call0_v1_0 : Ref sig .tc := ⟨.hbm, 32, rfl⟩
abbrev main_v19 : Ref sig .tc := ⟨.hbm, 33, rfl⟩
abbrev main_v20 : Ref sig .tc := ⟨.hbm, 34, rfl⟩
abbrev main_cst : Ref sig .tc := ⟨.hbm, 35, rfl⟩
abbrev main_call1_v0 : Ref sig .tc := ⟨.hbm, 36, rfl⟩
abbrev main_v21 : Ref sig .tc := ⟨.hbm, 37, rfl⟩
abbrev main_c_3 : Ref sig .tc := ⟨.hbm, 38, rfl⟩
abbrev main_v22 : Ref sig .tc := ⟨.hbm, 39, rfl⟩
abbrev main_v23 : Ref sig .tc := ⟨.hbm, 40, rfl⟩
abbrev main_c_4 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_cst_5 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_call2_cst : Ref sig .tc := ⟨.hbm, 57, rfl⟩
abbrev main_call2_v0 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩

abbrev nD : Nat := 1
abbrev τ : Topo := Topo.v7x

variable {F : FTy → Type} [FloatOps F]
-- ==== Pack.lean ====
abbrev S100000x300 : Shape := ⟨2, ![100000, 300]⟩
abbrev S2x100000x128 : Shape := ⟨3, ![2, 100000, 128]⟩
abbrev S4000x300 : Shape := ⟨2, ![4000, 300]⟩
abbrev S1x4000x128 : Shape := ⟨3, ![1, 4000, 128]⟩
abbrev S4000x128 : Shape := ⟨2, ![4000, 128]⟩

abbrev nBuf : Space → Nat
  | .hbm => 2
  | .vmem => 4
  | .smem => 0
  | _ => 0

abbrev bufTy : (tb : Table) → Fin (tcTables nBuf tb) → BufTy
  | .hbm, ⟨0, _⟩ => ⟨S100000x300, .f32⟩
  | .hbm, ⟨1, _⟩ => ⟨S2x100000x128, .i32⟩
  | .local _ .vmem, ⟨0, _⟩ => ⟨S4000x300, .f32⟩
  | .local _ .vmem, ⟨1, _⟩ => ⟨S4000x300, .f32⟩
  | .local _ .vmem, ⟨2, _⟩ => ⟨S1x4000x128, .i32⟩
  | .local _ .vmem, ⟨3, _⟩ => ⟨S1x4000x128, .i32⟩
  | _, _ => ⟨S100000x300, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [BitOps F]

abbrev grid0 : Pipeline.Grid := ⟨2, ![2, 25], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_2 : BitVec 32 := 0#32
  let v5 : BitVec 1 := Scalar.cmpi .ne v4 c0_i32_2
  v5

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S4000x300 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x4000x128 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]
-- ==== PackReference.lean ====
abbrev S100000x300 : Shape := ⟨2, ![100000, 300]⟩
abbrev S_ : Shape := ⟨0, ![]⟩
abbrev S100000x128 : Shape := ⟨2, ![100000, 128]⟩
abbrev S100000x44 : Shape := ⟨2, ![100000, 44]⟩
abbrev S1x100000x128 : Shape := ⟨3, ![1, 100000, 128]⟩
abbrev S2x100000x128 : Shape := ⟨3, ![2, 100000, 128]⟩

abbrev nBuf : Space → Nat
  | .hbm => 24
  | .vmem => 0
  | .smem => 0
  | _ => 0

abbrev bufTy : (tb : Table) → Fin (tcTables nBuf tb) → BufTy
  | .hbm, ⟨0, _⟩ => ⟨S100000x300, .f32⟩
  | .hbm, ⟨1, _⟩ => ⟨S100000x300, .i32⟩
  | .hbm, ⟨2, _⟩ => ⟨S_, .i32⟩
  | .hbm, ⟨3, _⟩ => ⟨S100000x300, .i32⟩
  | .hbm, ⟨4, _⟩ => ⟨S100000x300, .i32⟩
  | .hbm, ⟨5, _⟩ => ⟨S_, .i32⟩
  | .hbm, ⟨6, _⟩ => ⟨S100000x300, .i32⟩
  | .hbm, ⟨7, _⟩ => ⟨S100000x300, .i32⟩
  | .hbm, ⟨8, _⟩ => ⟨S100000x128, .i32⟩
  | .hbm, ⟨9, _⟩ => ⟨S_, .i32⟩
  | .hbm, ⟨10, _⟩ => ⟨S100000x128, .i32⟩
  | .hbm, ⟨11, _⟩ => ⟨S100000x128, .i32⟩
  | .hbm, ⟨12, _⟩ => ⟨S100000x128, .i32⟩
  | .hbm, ⟨13, _⟩ => ⟨S100000x128, .i32⟩
  | .hbm, ⟨14, _⟩ => ⟨S100000x44, .i32⟩
  | .hbm, ⟨15, _⟩ => ⟨S_, .i32⟩
  | .hbm, ⟨16, _⟩ => ⟨S100000x44, .i32⟩
  | .hbm, ⟨17, _⟩ => ⟨S100000x44, .i32⟩
  | .hbm, ⟨18, _⟩ => ⟨S_, .i32⟩
  | .hbm, ⟨19, _⟩ => ⟨S_, .i32⟩
  | .hbm, ⟨20, _⟩ => ⟨S100000x128, .i32⟩
  | .hbm, ⟨21, _⟩ => ⟨S1x100000x128, .i32⟩
  | .hbm, ⟨22, _⟩ => ⟨S1x100000x128, .i32⟩
  | .hbm, ⟨23, _⟩ => ⟨S2x100000x128, .i32⟩
  | _, _ => ⟨S100000x300, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_c : Ref sig .tc := ⟨.hbm, 2, rfl⟩
abbrev main_v1 : Ref sig .tc := ⟨.hbm, 3, rfl⟩
abbrev main_v2 : Ref sig .tc := ⟨.hbm, 4, rfl⟩
abbrev main_c_0 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_c_1 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_c_2 : Ref sig .tc := ⟨.hbm, 15, rfl⟩
abbrev main_v11 : Ref sig .tc := ⟨.hbm, 16, rfl⟩
abbrev main_v12 : Ref sig .tc := ⟨.hbm, 17, rfl⟩
abbrev main_c_3 : Ref sig .tc := ⟨.hbm, 18, rfl⟩
abbrev main_call0_v0 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [BitOps F]
-- ==== Proof.PoolProg.lean ====
/-
  The pooling kernel's body, said once: the printed text repeats one row eight times and, inside a row, one table
  lookup sixteen times; here a lookup, a loop trip, a row's two loops and the whole-plane copy are each a definition,
  and the printed windows are these definitions put in sequence.
-/
module

public import proofs.«01_k».proof.Proof.Gen.KernelIdeal
public import proofs.«01_k».proof.Proof.Gen.KernelIdeal.Launch
public import Idealize.ShloMosaic.Lib.Pipeline.Regions

@[expose] public section

noncomputable section

namespace Cert.Proof.Pool

open Cert.KernelIdeal Cert.KernelIdeal.Gen
open Idealize.ShloMosaic Idealize.SL.Sem

variable {F : FTy → Type} [FloatOps F]

/-- A program of the kernel's body. -/
abbrev Body (F : FTy → Type) [FloatOps F] (α : Type) : Type _ := Prog (TpuEff nD τ sig (Elt F) Λ₀ .tc) α

/-- The two halves of one row of packed words, read as floats: the high half in place, the low half moved up. -/
def hi (w : Vec F S1x1x128 .i32) : FVec F S1x128 .f32 :=
  bitcastToFloat .f32 (andi (shapeCast S1x128 w shapeCasts_S1x1x128_S1x128 : IVec S1x128 32) (broadcast S1x128 4294901760#32))
def lo (w : Vec F S1x1x128 .i32) : FVec F S1x128 .f32 :=
  bitcastToFloat .f32 (shli (shapeCast S1x128 w shapeCasts_S1x1x128_S1x128 : IVec S1x128 32) (broadcast S1x128 16#32))

/-- The pair of running sums a row's loop carries. -/
abbrev Acc (F : FTy → Type) : Type := FVec F S1x128 .f32 × FVec F S1x128 .f32

def zero128 : FVec F S1x128 .f32 := broadcast S1x128 (Scalar.ofBits .f32 0x00000000#32)

/-- Sixteen rows summed in four interleaved chains, then the chains pairwise. -/
def sum16 (g : Fin 16 → FVec F S1x128 .f32) : FVec F S1x128 .f32 :=
  addf
    (addf (addf (addf (addf (g 0) (g 4)) (g 8)) (g 12)) (addf (addf (addf (g 1) (g 5)) (g 9)) (g 13)))
    (addf (addf (addf (addf (g 2) (g 6)) (g 10)) (g 14)) (addf (addf (addf (g 3) (g 7)) (g 11)) (g 15)))

/-- What a trip yields from the sixteen rows it looked up. -/
def tripVal (f : Fin 16 → Vec F S1x1x128 .i32) (acc : Acc F) : Acc F :=
  (addf acc.1 (sum16 fun j => hi (f j)), addf acc.2 (sum16 fun j => lo (f j)))

/-- Where lookup `j` of the trip with induction variable `iv` reads the indices of row `r`. -/
def offAt (r : Nat) (iv : BitVec 32) (j : BitVec 32) : Fin 2 → Nat :=
  ![r, (Scalar.indexCast (Scalar.addi (Scalar.muli iv 16#32) j)).toNat]

/-- That place lies inside the block of indices. -/
abbrev Inb (off : Fin 2 → Nat) : Prop := ∀ a, off a + S1x1.size a ≤ S8x512.size a

/-- `P` at `n` numbers from `s` on, and then `Q`. -/
def conj (P : Nat → Prop) : Nat → Nat → Prop → Prop
  | _, 0, Q => Q
  | s, n + 1, Q => P s ∧ conj P (s + 1) n Q

/-- A nested conjunction gives each of its members and what follows them. -/
theorem conj_elim (P : Nat → Prop) (Q : Prop) : ∀ n s, conj P s n Q → (∀ j, j < n → P (s + j)) ∧ Q
  | 0, _, h => ⟨fun _ hj => absurd hj (Nat.not_lt_zero _), h⟩
  | n + 1, s, h => by
    obtain ⟨h0, h1⟩ := h
    obtain ⟨h2, h3⟩ := conj_elim P Q n (s + 1) h1
    refine ⟨fun j hj => ?_, h3⟩
    cases j with
    | zero => exact h0
    | succ j => have := h2 j (by omega); rwa [show s + (j + 1) = s + 1 + j by omega]

/-- Members that all hold, with what follows them, make up the nested conjunction. -/
theorem conj_intro (P : Nat → Prop) (Q : Prop) (hP : ∀ j, P j) (hQ : Q) : ∀ n s, conj P s n Q
  | 0, _ => hQ
  | n + 1, s => ⟨hP s, conj_intro P Q hP hQ n (s + 1)⟩

def inbA (r : Nat) (v : BitVec 32) (j : Nat) : Prop :=
  ∀ t : Fin (k0_t1_loop v).trips, Inb (offAt r (Scf.iv 0#32 1#32 t) (BitVec.ofNat 32 j))
def inbB (r : Nat) (v : BitVec 32) (j : Nat) : Prop :=
  ∀ t : Fin (k0_t2_loop v).trips, Inb (offAt r (Scf.iv (k0_t2_loop v).lb 1#32 t) (BitVec.ofNat 32 j))

/-- What the body assumes of row `r`'s length word. -/
def chk (r : Nat) (v : BitVec 32) : Prop :=
  ((k0_t1_loop v).OK ∧ conj (inbA r v) 0 16 ((k0_t2_loop v).OK ∧ conj (inbB r v) 0 13 (inbB r v 13))) ∧ (inbB r v 14 ∧ inbB r v 15)

/-- The assumption on the first row's loops is the general one at row 0. -/
theorem chk1 : k0_chk1 = chk 0 := by chain_rfl
/-- The assumption on the second row's loops. -/
theorem chk34 : k0_chk34 = chk 1 := by chain_rfl
/-- The assumption on the third row's loops. -/
theorem chk67 : k0_chk67 = chk 2 := by chain_rfl
/-- The assumption on the fourth row's loops. -/
theorem chk100 : k0_chk100 = chk 3 := by chain_rfl
/-- The assumption on the fifth row's loops. -/
theorem chk133 : k0_chk133 = chk 4 := by chain_rfl
/-- The assumption on the sixth row's loops. -/
theorem chk166 : k0_chk166 = chk 5 := by chain_rfl
/-- The assumption on the seventh row's loops. -/
theorem chk199 : k0_chk199 = chk 6 := by chain_rfl
/-- The assumption on the last row's loops. -/
theorem chk232 : k0_chk232 = chk 7 := by chain_rfl

/-- A nested conjunction from 0 gives its member `j`. -/
theorem conj_at {P : Nat → Prop} {Q : Prop} {n : Nat} (h : conj P 0 n Q) {j : Nat} (hj : j < n) : P j := by
  have := (conj_elim P Q n 0 h).1 j hj; rwa [Nat.zero_add] at this

/-- The main loop's bounds are in order. -/
theorem chk.okA {r : Nat} {v : BitVec 32} (h : chk r v) : (k0_t1_loop v).OK := h.1.1
/-- The remainder loop's bounds are in order. -/
theorem chk.okB {r : Nat} {v : BitVec 32} (h : chk r v) : (k0_t2_loop v).OK := (conj_elim _ _ _ _ h.1.2).2.1
/-- The main loop's look-ups lie inside the block of indices. -/
theorem chk.inA {r : Nat} {v : BitVec 32} (h : chk r v) (t : Fin (k0_t1_loop v).trips) (j : Nat) (hj : j < 16) :
    Inb (offAt r (Scf.iv 0#32 1#32 t) (BitVec.ofNat 32 j)) := conj_at h.1.2 hj t
/-- The remainder loop's look-ups lie inside the block of indices. -/
theorem chk.inB {r : Nat} {v : BitVec 32} (h : chk r v) (t : Fin (k0_t2_loop v).trips) (j : Nat) (hj : j < 16) :
    Inb (offAt r (Scf.iv (k0_t2_loop v).lb 1#32 t) (BitVec.ofNat 32 j)) := by
  have h2 := (conj_elim _ _ _ _ h.1.2).2.2
  rcases Nat.lt_or_ge j 13 with hj' | hj'
  · exact conj_at h2 hj' t
  · obtain rfl | rfl | rfl : j = 13 ∨ j = 14 ∨ j = 15 := by omega
    · exact (conj_elim _ _ _ _ h2).2 t
    · exact h.2.1 t
    · exact h.2.2 t

section Programs

variable (arg2 : Memref sig .tc .hbm S2x100000x128 .i32) (arg3 : Memref sig .tc .smem S8x512 .i32)
  (arg4 : Memref sig .tc .smem S1x1x8 .i32) (arg7 : Memref sig .tc .vmem S100000x1x128 .i32) (arg8 : DmaSems sig S_)

/-- One lookup: the index word at `off`, assumed inside the table, then the table row it names. -/
def look (off : Fin 2 → Nat) (h : Inb off) : Body F (Vec F S1x1x128 .i32) := do
  let v : Elt F .i32 ← smemLoad arg3 (Rect.unit (s := S8x512) off S1x1.size h) numel1_S1x1 rfl
  have hw : k0_chk2 v := (← Prog.lift (TpuEff.assume (k0_chk2 v) (k0_chk2.dec v))).down
  Prog.lift (.load arg7 (Rect.unit (s := S100000x1x128) (k0_off3 v) S1x1x128.size (k0_off3_inb v hw)).toLoadRect (View.loadsAt_vmem h_S1x1x128))

/-- One trip: sixteen lookups, summed. -/
def trip (off : Fin 16 → Fin 2 → Nat) (h : ∀ j, Inb (off j)) (acc : Acc F) : Body F (Acc F) := do
  let a0 ← look arg3 arg7 (off 0) (h 0)
  let a1 ← look arg3 arg7 (off 1) (h 1)
  let a2 ← look arg3 arg7 (off 2) (h 2)
  let a3 ← look arg3 arg7 (off 3) (h 3)
  let a4 ← look arg3 arg7 (off 4) (h 4)
  let a5 ← look arg3 arg7 (off 5) (h 5)
  let a6 ← look arg3 arg7 (off 6) (h 6)
  let a7 ← look arg3 arg7 (off 7) (h 7)
  let a8 ← look arg3 arg7 (off 8) (h 8)
  let a9 ← look arg3 arg7 (off 9) (h 9)
  let a10 ← look arg3 arg7 (off 10) (h 10)
  let a11 ← look arg3 arg7 (off 11) (h 11)
  let a12 ← look arg3 arg7 (off 12) (h 12)
  let a13 ← look arg3 arg7 (off 13) (h 13)
  let a14 ← look arg3 arg7 (off 14) (h 14)
  let a15 ← look arg3 arg7 (off 15) (h 15)
  pure (tripVal ![a0, a1, a2, a3, a4, a5, a6, a7, a8, a9, a10, a11, a12, a13, a14, a15] acc)

/-- The places a trip of row `r` reads its indices from. -/
def offs (r : Nat) (iv : BitVec 32) (j : Fin 16) : Fin 2 → Nat := offAt r iv (BitVec.ofNat 32 j.val)

/-- Row `r`'s loop over the trips its length asks for, and the loop over what is left of it (no trip). -/
def loopA (r : Nat) (v : BitVec 32) (hw : chk r v) (acc : Acc F) : Body F (Acc F) :=
  Scf.Loop.for (k0_t1_loop v) hw.okA acc fun t acc =>
    trip arg3 arg7 (offs r (Scf.iv 0#32 1#32 t)) (fun j => hw.inA t j.val j.isLt) acc
def loopB (r : Nat) (v : BitVec 32) (hw : chk r v) (acc : Acc F) : Body F (Acc F) :=
  Scf.Loop.for (k0_t2_loop v) hw.okB acc fun t acc =>
    trip arg3 arg7 (offs r (Scf.iv (k0_t2_loop v).lb 1#32 t)) (fun j => hw.inB t j.val j.isLt) acc

/-- The number of trips as the body computes it. -/
def nch (v : BitVec 32) : BitVec 32 :=
  let v12 : BitVec 32 := Scalar.addi v 15#32
  let v13 : BitVec 32 := Scalar.divsi v12 16#32
  let v18 : BitVec 32 := Scalar.subi (Scalar.extui (Scalar.cmpi .sgt v12 0#32)) (Scalar.extui (Scalar.cmpi .slt v12 0#32))
  let v23 : BitVec 32 := Scalar.subi (Scalar.extui (Scalar.cmpi .sgt 16#32 0#32)) (Scalar.extui (Scalar.cmpi .slt 16#32 0#32))
  let v27 : BitVec 1 := Scalar.andi (Scalar.cmpi .ne v18 v23) (Scalar.cmpi .ne (Scalar.remsi v12 16#32) 0#32)
  Scalar.select v27 (Scalar.subi v13 1#32) v13

/-- How many padding rows the trips leave out, as a float. -/
def remf (n : BitVec 32) : F .f32 := Scalar.sitofp .f32 (Scalar.subi 512#32 (Scalar.muli n 16#32))

/-- A row of the pooled block: the sums plus the first table row as often as trips were left out. -/
def rowHi (v7 : FVec F S1x128 .f32) (n : BitVec 32) (b : FVec F S1x128 .f32) : FVec F S1x128 .f32 :=
  addf b (mulf v7 (broadcast S1x128 (remf n)))
def rowOf (v7 v10 : FVec F S1x128 .f32) (n : BitVec 32) (b : Acc F) : FVec F S1x256 .f32 :=
  concatenate S1x256 1 [⟨S1x128, rowHi v7 n b.1⟩, ⟨S1x128, rowHi v10 n b.2⟩] concatenates_S1x128_S1x128_S1x256_d1

/-- Row `r`'s length word. -/
def len (off : Fin 3 → Nat) (h : ∀ a, off a + S1x1x1.size a ≤ S1x1x8.size a) : Body F (Elt F .i32) :=
  smemLoad arg4 (Rect.unit (s := S1x1x8) off S1x1x1.size h) numel1_S1x1x1 rfl

/-- The copy of the whole plane, made at the first block of a plane. -/
def copy (i : grid0.Coords) (h : k0_cond1 i = 1#1) : Body F PUnit := do
  Prog.lift (.enqueueDma
    ((arg2.slice (Rect.unit (s := S2x100000x128) (k0_off1 i) S1x100000x128.size (k0_off1_inb i h)) (fun _ => rfl)).squeeze S100000x128 squeezes_S1x100000x128_S100000x128)
    (.here ((arg7.slice (Rect.unit (s := S100000x1x128) ![0, 0, 0] S100000x1x128.size inb_S100000x1x128_S100000x1x128_0_0_0) (fun _ => rfl)).squeeze S100000x128 squeezes_S100000x1x128_S100000x128))
    (.dma arg8.sem) ((View.wordExact_bits rfl).reshape _ _) ((View.wordExact_bits rfl).reshape _ _) ⟨Or.inl rfl, trivial⟩)
  Prog.lift (.waitDma2 arg8.sem
    ((arg2.slice (Rect.unit (s := S2x100000x128) (k0_off1 i) S1x100000x128.size (k0_off1_inb i h)) (fun _ => rfl)).squeeze S100000x128 squeezes_S1x100000x128_S100000x128)
    ((arg7.slice (Rect.unit (s := S100000x1x128) ![0, 0, 0] S100000x1x128.size inb_S100000x1x128_S100000x1x128_0_0_0) (fun _ => rfl)).squeeze S100000x128 squeezes_S100000x1x128_S100000x128)
    ((View.wordExact_bits rfl).reshape _ _) ((View.wordExact_bits rfl).reshape _ _))
  pure ⟨⟩

end Programs

section Parts

variable (i : grid0.Coords) (arg2 : Memref sig .tc .hbm S2x100000x128 .i32) (harg2 : arg2.IsWhole) (arg3 : Memref sig .tc .smem S8x512 .i32) (harg3 : arg3.IsWhole) (arg4 : Memref sig .tc .smem S1x1x8 .i32) (harg4 : arg4.IsWhole) (arg5 : Memref sig .tc .vmem S8x512 .i32) (harg5 : arg5.IsWhole) (arg6 : Memref sig .tc .vmem S8x1x1x256 .f32) (harg6 : arg6.IsWhole) (arg7 : Memref sig .tc .vmem S100000x1x128 .i32) (harg7 : arg7.IsWhole) (arg8 : DmaSems sig S_)
variable (v7 v10 : FVec F S1x128 .f32)

/-- The first table row of the resident plane. -/
def row0 (arg7 : Memref sig .tc .vmem S100000x1x128 .i32) : Body F (Vec F S1x1x128 .i32) :=
  Prog.lift (.load arg7 (Rect.unit (s := S100000x1x128) ![0, 0, 0] S1x1x128.size inb_S100000x1x128_S1x1x128_0_0_0).toLoadRect (View.loadsAt_vmem h_S1x1x128))

/-- The upper bound of a row's loop as the body spells it where the loop starts in a later window. -/
def ubw (v : BitVec 32) : BitVec 32 := Scalar.addi 0#32 (Scalar.muli (Scalar.divsi (Scalar.subi (nch v) 0#32) 1#32) 1#32)

/-- The first part in the words of this file. -/
theorem part81 :
    k0_part81 (F := F) i arg2 harg2 arg3 harg3 arg4 harg4 arg5 harg5 arg6 harg6 arg7 harg7 arg8 = (do
      if h : k0_cond1 i = 1#1 then do
        copy arg2 arg7 arg8 i h
      else do
        pure ⟨⟩
      let w ← row0 arg7
      let v ← len arg4 ![0, 0, 0] inb_S1x1x8_S1x1x1_0_0_0
      have hv : k0_chk1 v := (← Prog.lift (TpuEff.assume (k0_chk1 v) (k0_chk1.dec v))).down
      pure ⟨hi w, lo w, v, hv, nch v, zero128, 4294901760#32, 0#32, 1#32, (Scalar.divsi (Scalar.subi (nch v) 0#32) 1#32)⟩) := by
  chain_rfl

/-- The second part in the words of this file. -/
theorem part82 (u : Elt F .i32) (hu : k0_chk1 u) :
    k0_part82 (F := F) i arg2 harg2 arg3 harg3 arg4 harg4 arg5 harg5 arg6 harg6 arg7 harg7 arg8 v7 v10 u hu (nch u) zero128 4294901760#32 0#32 1#32 (Scalar.divsi (Scalar.subi (nch u) 0#32) 1#32) = (do
      let a ← loopA arg3 arg7 0 u hu (zero128, zero128)
      let b ← loopB arg3 arg7 0 u hu a
      let v ← len arg4 ![0, 0, 1] inb_S1x1x8_S1x1x1_0_0_1
      have hv : k0_chk34 v := (← Prog.lift (TpuEff.assume (k0_chk34 v) (k0_chk34.dec v))).down
      pure ⟨rowOf v7 v10 (nch u) b, v, hv, nch v, zero128, 4294901760#32, 0#32, ubw v, 1#32⟩) := by
  chain_rfl

/-- The third part in the words of this file. -/
theorem part83 (u : Elt F .i32) (hu : k0_chk34 u) :
    k0_part83 (F := F) i arg2 harg2 arg3 harg3 arg4 harg4 arg5 harg5 arg6 harg6 arg7 harg7 arg8 v7 v10 u hu (nch u) zero128 4294901760#32 0#32 (ubw u) 1#32 = (do
      let a ← loopA arg3 arg7 1 u hu (zero128, zero128)
      let b ← loopB arg3 arg7 1 u hu a
      let v ← len arg4 ![0, 0, 2] inb_S1x1x8_S1x1x1_0_0_2
      have hv : k0_chk67 v := (← Prog.lift (TpuEff.assume (k0_chk67 v) (k0_chk67.dec v))).down
      let c ← loopA arg3 arg7 2 v hv (zero128, zero128)
      let d ← loopB arg3 arg7 2 v hv c
      pure ⟨rowOf v7 v10 (nch u) b, nch v, d.1, d.2⟩) := by
  chain_rfl

/-- The fourth part in the words of this file. -/
theorem part84 (u : BitVec 32) (p : Acc F) :
    k0_part84 (F := F) i arg2 harg2 arg3 harg3 arg4 harg4 arg5 harg5 arg6 harg6 arg7 harg7 arg8 v7 v10 (nch u) p.1 p.2 = (do
      let v ← len arg4 ![0, 0, 3] inb_S1x1x8_S1x1x1_0_0_3
      have hv : k0_chk100 v := (← Prog.lift (TpuEff.assume (k0_chk100 v) (k0_chk100.dec v))).down
      let c ← loopA arg3 arg7 3 v hv (zero128, zero128)
      let d ← loopB arg3 arg7 3 v hv c
      pure ⟨rowOf v7 v10 (nch u) p, d.1, d.2, Scalar.muli (nch v) 16#32, 512#32⟩) := by
  chain_rfl

/-- The fifth part in the words of this file. -/
theorem part85 (u : BitVec 32) (p : Acc F) :
    k0_part85 (F := F) i arg2 harg2 arg3 harg3 arg4 harg4 arg5 harg5 arg6 harg6 arg7 harg7 arg8 v7 v10 p.1 p.2 (Scalar.muli (nch u) 16#32) 512#32 = (do
      let v ← len arg4 ![0, 0, 4] inb_S1x1x8_S1x1x1_0_0_4
      have hv : k0_chk133 v := (← Prog.lift (TpuEff.assume (k0_chk133 v) (k0_chk133.dec v))).down
      let c ← loopA arg3 arg7 4 v hv (zero128, zero128)
      let d ← loopB arg3 arg7 4 v hv c
      pure ⟨rowOf v7 v10 (nch u) p, d.1, d.2, remf (nch v), broadcast S1x128 (remf (nch v))⟩) := by
  chain_rfl

/-- The sixth part in the words of this file. -/
theorem part86 (u : BitVec 32) (p : Acc F) :
    k0_part86 (F := F) i arg2 harg2 arg3 harg3 arg4 harg4 arg5 harg5 arg6 harg6 arg7 harg7 arg8 v7 v10 p.1 p.2 (remf (nch u)) (broadcast S1x128 (remf (nch u))) = (do
      let v ← len arg4 ![0, 0, 5] inb_S1x1x8_S1x1x1_0_0_5
      have hv : k0_chk166 v := (← Prog.lift (TpuEff.assume (k0_chk166 v) (k0_chk166.dec v))).down
      let c ← loopA arg3 arg7 5 v hv (zero128, zero128)
      let d ← loopB arg3 arg7 5 v hv c
      pure ⟨rowOf v7 v10 (nch u) p, d.2, rowHi v7 (nch v) d.1, broadcast S1x128 (remf (nch v))⟩) := by
  chain_rfl

/-- The seventh part in the words of this file. -/
theorem part87 (u : BitVec 32) (p : Acc F) :
    k0_part87 (F := F) i arg2 harg2 arg3 harg3 arg4 harg4 arg5 harg5 arg6 harg6 arg7 harg7 arg8 v7 v10 p.2 (rowHi v7 (nch u) p.1) (broadcast S1x128 (remf (nch u))) = (do
      let v ← len arg4 ![0, 0, 6] inb_S1x1x8_S1x1x1_0_0_6
      have hv : k0_chk199 v := (← Prog.lift (TpuEff.assume (k0_chk199 v) (k0_chk199.dec v))).down
      let c ← loopA arg3 arg7 6 v hv (zero128, zero128)
      let d ← loopB arg3 arg7 6 v hv c
      pure ⟨rowOf v7 v10 (nch u) p, rowOf v7 v10 (nch v) d⟩) := by
  chain_rfl

/-- The eight pooled rows of the block, one under the other. -/
def stack (r0 r1 r2 r3 r4 r5 r6 r7 : FVec F S1x256 .f32) : FVec F S8x256 .f32 :=
  concatenate S8x256 0 [⟨S1x256, r0⟩, ⟨S1x256, r1⟩, ⟨S1x256, r2⟩, ⟨S1x256, r3⟩, ⟨S1x256, r4⟩, ⟨S1x256, r5⟩, ⟨S1x256, r6⟩, ⟨S1x256, r7⟩]
    concatenates_S1x256_S1x256_S1x256_S1x256_S1x256_S1x256_S1x256_S1x256_S8x256_d0

/-- The eighth part in the words of this file. -/
theorem part88 (r0 r1 r2 r3 r4 r5 r6 : FVec F S1x256 .f32) :
    k0_part88 (F := F) i arg2 harg2 arg3 harg3 arg4 harg4 arg5 harg5 arg6 harg6 arg7 harg7 arg8 v7 v10 r0 r1 r2 r3 r4 r5 r6 = (do
      let v ← len arg4 ![0, 0, 7] inb_S1x1x8_S1x1x1_0_0_7
      have hv : k0_chk232 v := (← Prog.lift (TpuEff.assume (k0_chk232 v) (k0_chk232.dec v))).down
      let c ← loopA arg3 arg7 7 v hv (zero128, zero128)
      let d ← loopB arg3 arg7 7 v hv c
      pure ⟨stack r0 r1 r2 r3 r4 r5 r6 (rowOf v7 v10 (nch v) d), iota .tc S8x512 32 [1] iota_S8x512_d1_w32⟩) := by
  chain_rfl

/-- One over the length of each row of the block, found again from the block of indices. -/
def recip (io : IVec S8x512 32) (x : Vec F S8x512 .i32) : FVec F S8x1 .f32 :=
  divf (broadcast S8x1 (Scalar.ofBits .f32 0x3F800000#32))
    (sitofp .f32 (shapeCast S8x1
      (multiReductionI .minsi [1] S8
        (select (cmpi .eq (x : IVec S8x512 32) (broadcast S8x512 0#32)) io (broadcast S8x512 512#32))
        2147483647#32 reduces_S8x512_S8 rfl : IVec S8 32) shapeCasts_S8_S8x1 : IVec S8x1 32))

/-- The block the body stores. -/
def blockOf (sums : FVec F S8x256 .f32) (io : IVec S8x512 32) (x : Vec F S8x512 .i32) : FVec F S8x1x1x256 .f32 :=
  shapeCast S8x1x1x256 (mulf sums (broadcastTo S8x256 (recip io x) broadcasts_S8x1_S8x256)) shapeCasts_S8x256_S8x1x1x256

/-- The end of the body: the block of indices read, the pooled block stored. -/
def finish (sums : FVec F S8x256 .f32) (io : IVec S8x512 32) : Body F PUnit := do
  let x : Vec F S8x512 .i32 ← Prog.lift (.load arg5 (Rect.unit (s := S8x512) ![0, 0] S8x512.size inb_S8x512_S8x512_0_0).toLoadRect (View.loadsAt_vmem h_S8x512))
  let _ : Vec F S8x1x1x256 .f32 ← Prog.lift (.load arg6 (Rect.unit (s := S8x1x1x256) ![0, 0, 0, 0] S8x1x1x256.size inb_S8x1x1x256_S8x1x1x256_0_0_0_0).toLoadRect (View.loadsAt_vmem h_S8x1x1x256))
  Prog.lift (.store arg6 (Rect.unit (s := S8x1x1x256) ![0, 0, 0, 0] S8x1x1x256.size inb_S8x1x1x256_S8x1x1x256_0_0_0_0) (blockOf sums io x) Finset.univ (View.stores_vmem_bits_univ h_S8x1x1x256 rfl) (.inl rfl))
  pure ⟨⟩

/-- The body is its parts, one after the other, and the store at the end. -/
theorem body_eq :
    cc0_embed_pool (F := F) i arg2 harg2 arg3 harg3 arg4 harg4 arg5 harg5 arg6 harg6 arg7 harg7 arg8 = (do
      let ⟨v7, v10, v11, h1, v29, v30, m, z, o, v33⟩ ← k0_part81 i arg2 harg2 arg3 harg3 arg4 harg4 arg5 harg5 arg6 harg6 arg7 harg7 arg8
      let ⟨r0, v48, h34, v66, v67, m, z, v72, o⟩ ← k0_part82 i arg2 harg2 arg3 harg3 arg4 harg4 arg5 harg5 arg6 harg6 arg7 harg7 arg8 v7 v10 v11 h1 v29 v30 m z o v33
      let ⟨r1, v103, a, b⟩ ← k0_part83 i arg2 harg2 arg3 harg3 arg4 harg4 arg5 harg5 arg6 harg6 arg7 harg7 arg8 v7 v10 v48 h34 v66 v67 m z v72 o
      let ⟨r2, a, b, v149, l⟩ ← k0_part84 i arg2 harg2 arg3 harg3 arg4 harg4 arg5 harg5 arg6 harg6 arg7 harg7 arg8 v7 v10 v103 a b
      let ⟨r3, a, b, v188, v189⟩ ← k0_part85 i arg2 harg2 arg3 harg3 arg4 harg4 arg5 harg5 arg6 harg6 arg7 harg7 arg8 v7 v10 a b v149 l
      let ⟨r4, b, v228, v229⟩ ← k0_part86 i arg2 harg2 arg3 harg3 arg4 harg4 arg5 harg5 arg6 harg6 arg7 harg7 arg8 v7 v10 a b v188 v189
      let ⟨r5, r6⟩ ← k0_part87 i arg2 harg2 arg3 harg3 arg4 harg4 arg5 harg5 arg6 harg6 arg7 harg7 arg8 v7 v10 b v228 v229
      let ⟨v307, v308⟩ ← k0_part88 i arg2 harg2 arg3 harg3 arg4 harg4 arg5 harg5 arg6 harg6 arg7 harg7 arg8 v7 v10 r0 r1 r2 r3 r4 r5 r6
      finish arg5 arg6 v307 v308) := by
  chain_rfl

end Parts

end Cert.Proof.Pool

end
-- ==== Proof.PoolRun.lean ====
/-
  The pooling kernel's body run once, at operands held whole: what each of its windows reads and yields.
-/
module

public import proofs.«01_k».proof.Proof.PoolProg
public import Idealize.ShloMosaic.Lib.Tactic
public import Idealize.ShloMosaic.Lib.Pipeline.Kit

@[expose] public section

noncomputable section

namespace Cert.Proof.Pool

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The resource algebra: the pipeline's staging cells, beside the counters a body's own copies take tokens from. -/
abbrev UU (nD : Nat) (τ : Topo) : Type := UR sig nD τ × Counters

local notation "𝕄" => MT nD τ sig Unit (Elt F) ℕ (UU nD τ) ℕ

/-- Memref `M`'s buffer on core `c`: its contents type, and it held whole at `f`. -/
abbrev Bf (F : FTy → Type) (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf F c M) : sProp 𝕄 :=
  M.view.loc (c : Thread nD τ) ↦{fullShare} f

/-- The weakest precondition of a program of the body on core `c`. -/
abbrev W (c : Dev nD) {α : Type} (p : Body F α) (Q : α → sProp 𝕄) : sProp 𝕄 :=
  wp frame (wpE (defs₀ (F := F)) Variants.none (c : Thread nD τ) none) Set.univ p Q

section Look

variable (c : Dev nD) (arg3 : Memref sig .tc .smem S8x512 .i32) (arg4 : Memref sig .tc .smem S1x1x8 .i32) (arg7 : Memref sig .tc .vmem S100000x1x128 .i32)
variable (X3 : Bf F c arg3) (X4 : Bf F c arg4) (X7 : Bf F c arg7)

/-- The index word at `off`, the length word at `off`, and the table row a word names. -/
def wordAt (off : Fin 2 → Nat) (h : Inb off) : BitVec 32 :=
  (arg3.access (Rect.unit (s := S8x512) off S1x1.size h)).read (Elt F) X3 (Shape.Idx.first (numel1_S1x1.symm ▸ Nat.one_pos))
def lenAt (off : Fin 3 → Nat) (h : ∀ a, off a + S1x1x1.size a ≤ S1x1x8.size a) : BitVec 32 :=
  (arg4.access (Rect.unit (s := S1x1x8) off S1x1x1.size h)).read (Elt F) X4 (Shape.Idx.first (numel1_S1x1x1.symm ▸ Nat.one_pos))
def rowAt (v : BitVec 32) (hv : k0_chk2 v) : Vec F S1x1x128 .i32 :=
  (arg7.access (Rect.unit (s := S100000x1x128) (k0_off3 v) S1x1x128.size (k0_off3_inb v hv))).read (Elt F) X7

/-- What a lookup yields, at any offset (nothing in particular outside the block or the table). -/
def lookAt (off : Fin 2 → Nat) : Vec F S1x1x128 .i32 :=
  if h : Inb off then if hv : k0_chk2 (wordAt c arg3 X3 off h) then rowAt c arg7 X7 _ hv else fun _ => 0#32 else fun _ => 0#32

/-- The three buffers the loops read. -/
def RR : sProp 𝕄 := iprop(pt c arg3 X3 ∗ pt c arg4 X4 ∗ pt c arg7 X7)

variable (hok : ∀ off h, k0_chk2 (wordAt c arg3 X3 off h))
include hok

omit hok in
/-- A word read from scalar memory at the head of a program of the body. -/
theorem wp_word {α : Type} {s : Shape} (M : Memref sig .tc .smem s .i32) (X : Bf F c M) (r : Rect s) (hw : (M.access r).Loads) (x : r.shape.Idx)
    (k : Elt F .i32 → Body F α) (Q : α → sProp 𝕄) :
    pt c M X ⊢ iprop((pt c M X -∗ W c (k ((M.access r).read (Elt F) X x)) Q) -∗ W c (smemLoadElt M r hw x k) Q) :=
  wp_smemLoadElt (defs := defs₀ (F := F)) Variants.none (c : Thread nD τ) none Set.univ (m := M) (r := r) (hw := hw) (x := x) (k := k) (S := Finset.univ) (f := X) (q := fullShare) (Finset.subset_univ _)

omit hok in
/-- A vector read at the head of a program of the body. -/
theorem wp_vec {α : Type} {s : Shape} {e : EltTy} (M : Memref sig .tc .vmem s e) (X : Bf F c M) (r : Rect s) (hl : M.view.LoadsAt r.toLoadRect)
    (k : (r.shape.Idx → Elt F e) → Body F α) (Q : α → sProp 𝕄) :
    pt c M X ⊢ iprop((pt c M X -∗ W c (k ((M.access r).read (Elt F) X)) Q) -∗ W c (.op (.load M r.toLoadRect hl) k) Q) :=
  wp_load_rect (defs := defs₀ (F := F)) Variants.none (c : Thread nD τ) none Set.univ (m := M) (r := r) (hl := hl) (k := k) (S := Finset.univ) (f := X) (q := fullShare) (Finset.subset_univ _)

omit hok in
/-- An assumption at the head of a program of the body. -/
theorem wp_asm {α : Type} {P : Prop} (d : Decidable P) (h : P) (k : PLift P → Body F α) (Q : α → sProp 𝕄) :
    W c (k ⟨h⟩) Q ⊢ W c (.op (.assume P d) k) Q :=
  wp_assume (defs := defs₀ (F := F)) Variants.none (c : Thread nD τ) none Set.univ (d := d) (k := k) h

omit hok in
/-- A program of the body that has returned. -/
theorem wp_done {α : Type} (a : α) (Q : α → sProp 𝕄) : Q a ⊢ W c (.ret a : Body F α) Q := by
  unfold W; rw [wp_ret]; iintro H; imodintro; iexact H

omit hok in
/-- One program of the body after another. -/
theorem wp_seq {α β : Type} (p : Body F α) (k : α → Body F β) (Q : β → sProp 𝕄) :
    W c p (fun a => W c (k a) Q) ⊢ W c (p >>= k) Q := by
  unfold W; rw [wp_bind]

/-- A lookup's end, from the word it read. -/
def lookK (v : Elt F .i32) : Body F (Vec F S1x1x128 .i32) :=
  .op (.assume (k0_chk2 v) (k0_chk2.dec v)) fun hw =>
    .op (.load arg7 (Rect.unit (s := S100000x1x128) (k0_off3 v) S1x1x128.size (k0_off3_inb v hw.down)).toLoadRect (View.loadsAt_vmem h_S1x1x128)) .ret

omit hok in
/-- A look-up is a read of an index and then of the table row. -/
theorem look_eq (off : Fin 2 → Nat) (h : Inb off) :
    look (F := F) arg3 arg7 off h
      = smemLoadElt arg3 (Rect.unit (s := S8x512) off S1x1.size h) (View.loads_smem_one rfl numel1_S1x1) (Shape.Idx.first (numel1_S1x1.symm ▸ Nat.one_pos)) (lookK arg7) := by
  chain_rfl

omit hok in
/-- The read of the table row, for an index inside the table. -/
theorem wp_lookK (v : BitVec 32) (hv : k0_chk2 v) (Q : Vec F S1x1x128 .i32 → sProp 𝕄) :
    pt c arg7 X7 ⊢ iprop((pt c arg7 X7 -∗ Q (rowAt c arg7 X7 v hv)) -∗ W c (lookK arg7 v) Q) := by
  unfold rowAt lookK
  iintro H7 HK
  iapply (wp_asm c _ hv)
  iapply (wp_vec c arg7 X7) $$ H7
  iintro H7
  iapply (wp_done c)
  iapply HK $$ H7

/-- A look-up returns the row that the index names. -/
theorem wp_look (off : Fin 2 → Nat) (h : Inb off) (Q : Vec F S1x1x128 .i32 → sProp 𝕄) :
    RR c arg3 arg4 arg7 X3 X4 X7 ⊢ iprop((RR c arg3 arg4 arg7 X3 X4 X7 -∗ Q (lookAt c arg3 arg7 X3 X7 off)) -∗ W c (look arg3 arg7 off h) Q) := by
  have hv := hok off h
  have e : lookAt c arg3 arg7 X3 X7 off = rowAt c arg7 X7 _ hv := by unfold lookAt; rw [dif_pos h, dif_pos hv]
  rw [e, look_eq]
  unfold RR
  iintro ⟨H3, H4, H7⟩ HK
  iapply (wp_word c arg3 X3) $$ H3
  iintro H3
  iapply (wp_lookK c arg7 X7 _ hv) $$ H7
  iintro H7
  iapply HK
  isplitl [H3]; · iexact H3
  isplitl [H4]; · iexact H4
  iexact H7

/-- The same, with what follows it. -/
theorem wp_look_seq {α : Type} (off : Fin 2 → Nat) (h : Inb off) (k : Vec F S1x1x128 .i32 → Body F α) (Q : α → sProp 𝕄) :
    RR c arg3 arg4 arg7 X3 X4 X7
      ⊢ iprop((RR c arg3 arg4 arg7 X3 X4 X7 -∗ W c (k (lookAt c arg3 arg7 X3 X7 off)) Q) -∗ W c (look arg3 arg7 off h >>= k) Q) := by
  iintro HR HK
  iapply (wp_seq c)
  iapply (wp_look c arg3 arg4 arg7 X3 X4 X7 hok off h) $$ HR
  iexact HK

/-- A trip yields the sum of the sixteen rows it looks up. -/
theorem wp_trip (off : Fin 16 → Fin 2 → Nat) (h : ∀ j, Inb (off j)) (acc : Acc F) (Q : Acc F → sProp 𝕄) :
    RR c arg3 arg4 arg7 X3 X4 X7
      ⊢ iprop((RR c arg3 arg4 arg7 X3 X4 X7 -∗ Q (tripVal (fun j => lookAt c arg3 arg7 X3 X7 (off j)) acc)) -∗ W c (trip arg3 arg7 off h acc) Q) := by
  have e : (fun j => lookAt c arg3 arg7 X3 X7 (off j)) = ![lookAt c arg3 arg7 X3 X7 (off 0), lookAt c arg3 arg7 X3 X7 (off 1), lookAt c arg3 arg7 X3 X7 (off 2), lookAt c arg3 arg7 X3 X7 (off 3),
      lookAt c arg3 arg7 X3 X7 (off 4), lookAt c arg3 arg7 X3 X7 (off 5), lookAt c arg3 arg7 X3 X7 (off 6), lookAt c arg3 arg7 X3 X7 (off 7), lookAt c arg3 arg7 X3 X7 (off 8),
      lookAt c arg3 arg7 X3 X7 (off 9), lookAt c arg3 arg7 X3 X7 (off 10), lookAt c arg3 arg7 X3 X7 (off 11), lookAt c arg3 arg7 X3 X7 (off 12), lookAt c arg3 arg7 X3 X7 (off 13),
      lookAt c arg3 arg7 X3 X7 (off 14), lookAt c arg3 arg7 X3 X7 (off 15)] := by
    funext j; fin_cases j <;> rfl
  rw [e]
  unfold trip
  iintro HR HK
  iterate 16 (iapply (wp_look_seq c arg3 arg4 arg7 X3 X4 X7 hok) $$ HR; iintro HR)
  iapply (wp_done c)
  iapply HK $$ HR

/-- The sums of row `r` after `t` trips. -/
def accAt (r : Nat) : Nat → Acc F
  | 0 => (zero128, zero128)
  | t + 1 => tripVal (fun j => lookAt c arg3 arg7 X3 X7 (offs r (Scf.iv 0#32 1#32 t) j)) (accAt r t)

/-- Row `r`'s loop yields the sums after its last trip. -/
theorem wp_loopA {α : Type} (r : Nat) (v : BitVec 32) (hw : chk r v) (k : Acc F → Body F α) (Q : α → sProp 𝕄) :
    RR c arg3 arg4 arg7 X3 X4 X7
      ⊢ iprop((RR c arg3 arg4 arg7 X3 X4 X7 -∗ W c (k (accAt c arg3 arg7 X3 X7 r (k0_t1_loop v).trips)) Q) -∗ W c (loopA arg3 arg7 r v hw (zero128, zero128) >>= k) Q) := by
  iintro HR HK
  iapply (wp_seq c)
  unfold loopA
  iapply (Scf.wp_for Idealize.ShloMosaic.frame (wpE (defs₀ (F := F)) Variants.none (c : Thread nD τ) none) Set.univ (k0_t1_loop v).lb (k0_t1_loop v).ub (k0_t1_loop v).st hw.okA
    (zero128, zero128) _ (fun t acc => iprop(⌜acc = accAt c arg3 arg7 X3 X7 r t⌝ ∗ RR c arg3 arg4 arg7 X3 X4 X7)) ?hb)
  case hb =>
    intro t acc
    iintro ⟨%hacc, HR⟩
    subst hacc
    iapply (wp_trip c arg3 arg4 arg7 X3 X4 X7 hok) $$ HR
    iintro HR
    isplitr
    · ipureintro; rfl
    · iexact HR
  isplitl [HR]
  · isplitr
    · ipureintro; rfl
    · iexact HR
  · iintro %acc ⟨%hacc, HR⟩
    subst hacc
    iapply HK $$ HR

omit hok in
/-- The loop over the rest, which has no trip, yields what it was given. -/
theorem wp_loopB {α : Type} (r : Nat) (v : BitVec 32) (hw : chk r v) (h0 : (k0_t2_loop v).trips = 0) (a : Acc F) (k : Acc F → Body F α) (Q : α → sProp 𝕄) :
    W c (k a) Q ⊢ W c (loopB arg3 arg7 r v hw a >>= k) Q := by
  iintro HK
  iapply (wp_seq c)
  unfold loopB
  iapply (Scf.wp_for Idealize.ShloMosaic.frame (wpE (defs₀ (F := F)) Variants.none (c : Thread nD τ) none) Set.univ (k0_t2_loop v).lb (k0_t2_loop v).ub (k0_t2_loop v).st hw.okB
    a _ (fun _ acc => iprop(⌜acc = a⌝)) ?hb)
  case hb =>
    intro t acc
    exact absurd t.isLt (by have : Scf.trips (k0_t2_loop v).lb (k0_t2_loop v).ub (k0_t2_loop v).st = 0 := h0; omega)
  isplitr
  · ipureintro; rfl
  · iintro %acc %hacc
    subst hacc
    iexact HK

end Look

end Cert.Proof.Pool

end
-- ==== Proof.PoolCopy.lean ====
/-
  The copy of one plane of the table into the resident buffer.
-/
module

public import proofs.«01_k».proof.Proof.PoolRun

@[expose] public section

noncomputable section

namespace Cert.Proof.Pool

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UU nD τ) ℕ

/-- The plane of the table block row `i 0` selects, and the resident buffer, as the copy names them. -/
abbrev planeSrc (arg2 : Memref sig .tc .hbm S2x100000x128 .i32) (i : grid0.Coords) (h : k0_cond1 i = 1#1) : Memref sig .tc .hbm S100000x128 .i32 :=
  (arg2.slice (Rect.unit (s := S2x100000x128) (k0_off1 i) S1x100000x128.size (k0_off1_inb i h)) (fun _ => rfl)).squeeze S100000x128 squeezes_S1x100000x128_S100000x128
abbrev planeDst (arg7 : Memref sig .tc .vmem S100000x1x128 .i32) : Memref sig .tc .vmem S100000x128 .i32 :=
  (arg7.slice (Rect.unit (s := S100000x1x128) ![0, 0, 0] S100000x1x128.size inb_S100000x1x128_S100000x1x128_0_0_0) (fun _ => rfl)).squeeze S100000x128 squeezes_S100000x1x128_S100000x128

/-- The resident buffer after the copy. -/
def copied (c : Dev nD) (arg2 : Memref sig .tc .hbm S2x100000x128 .i32) (arg7 : Memref sig .tc .vmem S100000x1x128 .i32)
    (X2 : Bf F c arg2) (X7 : Bf F c arg7) (i : grid0.Coords) (h : k0_cond1 i = 1#1) : Bf F c arg7 :=
  View.write (Elt F) (planeDst arg7).view X7 (View.read (Elt F) (planeSrc arg2 i h).view X2) Finset.univ

/-- The copy leaves the table as it was and the resident buffer holding the plane, its semaphore back at zero. -/
theorem wp_copy (c : Dev nD) (arg2 : Memref sig .tc .hbm S2x100000x128 .i32) (arg7 : Memref sig .tc .vmem S100000x1x128 .i32) (arg8 : DmaSems sig S_)
    (X2 : Bf F c arg2) (X7 : Bf F c arg7) (w : Waits sig Unit) (i : grid0.Coords) (h : k0_cond1 i = 1#1) (Q : PUnit → sProp 𝕄) :
    iprop(pt c arg2 X2 ∗ pt c arg7 X7 ∗ semVal ((c : Thread nD τ), .dma arg8.sem) 0 ∗ owes (c : Thread nD τ) 0 w
      ∗ (iprop(pt c arg2 X2 ∗ pt c arg7 (copied c arg2 arg7 X2 X7 i h) ∗ semVal ((c : Thread nD τ), .dma arg8.sem) 0 ∗ ∃ w, owes (c : Thread nD τ) 0 w) -∗ Q ⟨⟩))
    ⊢ wp frame (wpE (defs₀ (F := F)) Variants.none (c : Thread nD τ) none) Set.univ (copy arg2 arg7 arg8 i h) Q := by
  unfold copy
  iintro ⟨H2, H7, Hs, HO, HK⟩
  sl_exec!
  sl_step
  iapply HK
  isplitl [H2]; · iexact H2
  isplitl [H7]
  · unfold copied
    exact (Entails.of_eq (by rfl))
  isplitl [Hs]; · iexact Hs
  iexists _; iexact HO

end Cert.Proof.Pool

end
-- ==== Proof.PoolBody.lean ====
/-
  The pooling kernel's windows run in order: the eight rows, the stacked block and the store.
-/
module

public import proofs.«01_k».proof.Proof.PoolCopy

@[expose] public section

noncomputable section

namespace Cert.Proof.Pool

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UU nD τ) ℕ

/-- For a length of at most 512 the body's trip count is the length over sixteen, rounded up. -/
theorem nch_le : ∀ n : Fin 513, nch (BitVec.ofNat 32 n.val) = BitVec.ofNat 32 ((n.val + 15) / 16) := by decide +kernel
/-- The main loop runs once for each 16 positions begun. -/
theorem tripsA_le : ∀ n : Fin 513, (k0_t1_loop (BitVec.ofNat 32 n.val)).trips = (n.val + 15) / 16 := by decide +kernel
/-- The remainder loop does not run. -/
theorem tripsB_le : ∀ n : Fin 513, (k0_t2_loop (BitVec.ofNat 32 n.val)).trips = 0 := by decide +kernel
/-- The main loop's bounds are in order for each length. -/
theorem okA_le : ∀ n : Fin 513, (k0_t1_loop (BitVec.ofNat 32 n.val)).OK := by decide +kernel
/-- The remainder loop's bounds are in order for each length. -/
theorem okB_le : ∀ n : Fin 513, (k0_t2_loop (BitVec.ofNat 32 n.val)).OK := by decide +kernel

/-- A word of value at most 512, as the word of a number below 513. -/
theorem word_le (v : BitVec 32) (hv : v.toNat ≤ 512) : ∃ n : Fin 513, v = BitVec.ofNat 32 n.val :=
  ⟨⟨v.toNat, by omega⟩, by simp⟩

/-- The column a lookup reads is sixteen times the trip plus the lookup's place in it. -/
theorem col_le : ∀ (t : Fin 32) (j : Fin 16), (Scalar.indexCast (Scalar.addi (Scalar.muli (Scf.iv 0#32 1#32 t.val) 16#32) (BitVec.ofNat 32 j.val))).toNat = 16 * t.val + j.val := by decide +kernel

/-- The address of a look-up in the block of indices: row `r`, position `16 t + j`. -/
theorem offs_eq (r : Nat) (t : Fin 32) (j : Fin 16) : offs r (Scf.iv 0#32 1#32 t.val) j = ![r, 16 * t.val + j.val] := by
  unfold offs offAt; rw [col_le]

/-- A length of at most 512 meets everything the body assumes of it. -/
theorem chk_of_le (r : Nat) (hr : r < 8) (v : BitVec 32) (hv : v.toNat ≤ 512) : chk r v := by
  obtain ⟨n, rfl⟩ := word_le v hv
  have hB : ∀ j, inbB r (BitVec.ofNat 32 n.val) j := fun j t => absurd t.isLt (by have := tripsB_le n; omega)
  have hA : ∀ j, j < 16 → inbA r (BitVec.ofNat 32 n.val) j := by
    intro j hj t
    have ht : t.val < 32 := lt_of_lt_of_le t.isLt (by rw [tripsA_le]; have := n.isLt; omega)
    have e := offs_eq r ⟨t.val, ht⟩ ⟨j, hj⟩
    unfold offs at e
    intro a
    rw [show offAt r (Scf.iv 0#32 1#32 t.val) (BitVec.ofNat 32 j) = ![r, 16 * t.val + j] from e]
    fin_cases a
    · show r + 1 ≤ 8; omega
    · show 16 * t.val + j + 1 ≤ 512; omega
  have hconj : ∀ (Q : Prop) (m s : Nat), s + m ≤ 16 → Q → conj (inbA r (BitVec.ofNat 32 n.val)) s m Q := by
    intro Q m
    induction m with
    | zero => intro s _ hQ; exact hQ
    | succ m ih => intro s hs hQ; exact ⟨hA s (by omega), ih (s + 1) (by omega) hQ⟩
  exact ⟨⟨okA_le n, hconj _ 16 0 (by omega) ⟨okB_le n, conj_intro _ _ hB (hB 13) 13 0⟩⟩, hB 14, hB 15⟩

/-- The remainder loop does not run, for a length given as a word. -/
theorem tripsB_zero (v : BitVec 32) (hv : v.toNat ≤ 512) : (k0_t2_loop v).trips = 0 := by
  obtain ⟨n, rfl⟩ := word_le v hv; exact tripsB_le n

section Parts

variable (c : Dev nD) (i : grid0.Coords) (arg2 : Memref sig .tc .hbm S2x100000x128 .i32) (harg2 : arg2.IsWhole) (arg3 : Memref sig .tc .smem S8x512 .i32) (harg3 : arg3.IsWhole) (arg4 : Memref sig .tc .smem S1x1x8 .i32) (harg4 : arg4.IsWhole) (arg5 : Memref sig .tc .vmem S8x512 .i32) (harg5 : arg5.IsWhole) (arg6 : Memref sig .tc .vmem S8x1x1x256 .f32) (harg6 : arg6.IsWhole) (arg7 : Memref sig .tc .vmem S100000x1x128 .i32) (harg7 : arg7.IsWhole) (arg8 : DmaSems sig S_)
variable (v7 v10 : FVec F S1x128 .f32)
variable (X3 : Bf F c arg3) (X4 : Bf F c arg4) (X7 : Bf F c arg7)

/-- Row `r`'s length word lies in its block. -/
theorem lenInb (r : Fin 8) : ∀ a, (![0, 0, r.val] : Fin 3 → Nat) a + S1x1x1.size a ≤ S1x1x8.size a := by
  revert r; decide

/-- Row `r`'s length, its sums, and the pooled row made of them. -/
def lenR (r : Fin 8) : BitVec 32 := lenAt c arg4 X4 ![0, 0, r.val] (lenInb r)
def accR (r : Fin 8) : Acc F := accAt c arg3 arg7 X3 X7 r.val (k0_t1_loop (lenR c arg4 X4 r)).trips
def rowR (r : Fin 8) : FVec F S1x256 .f32 := rowOf v7 v10 (nch (lenR c arg4 X4 r)) (accR c arg3 arg4 arg7 X3 X4 X7 r)

variable (hok : ∀ off h, k0_chk2 (wordAt c arg3 X3 off h)) (hL : ∀ r, (lenR c arg4 X4 r).toNat ≤ 512)
include hok hL

omit hok hL in
/-- A length word read, then assumed of. -/
theorem wp_len {α : Type} (r : Fin 8) (h : ∀ a, (![0, 0, r.val] : Fin 3 → Nat) a + S1x1x1.size a ≤ S1x1x8.size a) (P : BitVec 32 → Prop) (d : ∀ v, Decidable (P v)) (hP : P (lenR c arg4 X4 r))
    (k : (v : BitVec 32) → PLift (P v) → Body F α) (Q : α → sProp 𝕄) :
    RR c arg3 arg4 arg7 X3 X4 X7
      ⊢ iprop((RR c arg3 arg4 arg7 X3 X4 X7 -∗ W c (k (lenR c arg4 X4 r) ⟨hP⟩) Q)
        -∗ W c (len arg4 ![0, 0, r.val] h >>= fun v => Prog.lift (TpuEff.assume (P v) (d v)) >>= fun x => k v x) Q) := by
  unfold RR
  iintro ⟨H3, H4, H7⟩ HK
  have e : (len (F := F) arg4 ![0, 0, r.val] h >>= fun v => Prog.lift (TpuEff.assume (P v) (d v)) >>= fun x => k v x)
      = smemLoadElt arg4 (Rect.unit (s := S1x1x8) ![0, 0, r.val] S1x1x1.size h) (View.loads_smem_one rfl numel1_S1x1x1) (Shape.Idx.first (numel1_S1x1x1.symm ▸ Nat.one_pos))
          (fun v => .op (.assume (P v) (d v)) fun x => k v x) := by chain_rfl
  rw [e]
  iapply (wp_word c arg4 X4) $$ H4
  iintro H4
  iapply (wp_asm c (d _) hP)
  iapply HK
  isplitl [H3]; · iexact H3
  isplitl [H4]; · iexact H4
  iexact H7

/-- Row `r`'s two loops, from its length, yield its sums. -/
theorem wp_loops {α : Type} (r : Fin 8) (hw : chk r.val (lenR c arg4 X4 r)) (k : Acc F → Body F α) (Q : α → sProp 𝕄) :
    RR c arg3 arg4 arg7 X3 X4 X7
      ⊢ iprop((RR c arg3 arg4 arg7 X3 X4 X7 -∗ W c (k (accR c arg3 arg4 arg7 X3 X4 X7 r)) Q)
        -∗ W c (loopA arg3 arg7 r.val (lenR c arg4 X4 r) hw (zero128, zero128) >>= fun a => loopB arg3 arg7 r.val (lenR c arg4 X4 r) hw a >>= k) Q) := by
  iintro HR HK
  iapply (wp_loopA c arg3 arg4 arg7 X3 X4 X7 hok r.val (lenR c arg4 X4 r) hw) $$ HR
  iintro HR
  iapply (wp_loopB c arg3 arg7 r.val (lenR c arg4 X4 r) hw (tripsB_zero _ (hL r)))
  iapply HK $$ HR

/-- The second part: the first row is pooled, and the second row's length is read. -/
theorem wp_part82 (hu : k0_chk1 (lenR c arg4 X4 0)) (Q : _ → sProp 𝕄) :
    RR c arg3 arg4 arg7 X3 X4 X7
      ⊢ iprop((RR c arg3 arg4 arg7 X3 X4 X7 -∗ Q ⟨(rowR c arg3 arg4 arg7 v7 v10 X3 X4 X7 0), (lenR c arg4 X4 1), (chk_of_le 1 (by omega) _ (hL 1)), nch (lenR c arg4 X4 1), zero128, 4294901760#32, 0#32, ubw (lenR c arg4 X4 1), 1#32⟩) -∗ W c (k0_part82 (F := F) i arg2 harg2 arg3 harg3 arg4 harg4 arg5 harg5 arg6 harg6 arg7 harg7 arg8 v7 v10 (lenR c arg4 X4 0) hu (nch (lenR c arg4 X4 0)) zero128 4294901760#32 0#32 1#32 (Scalar.divsi (Scalar.subi (nch (lenR c arg4 X4 0)) 0#32) 1#32)) Q) := by
  unfold rowR; rw [part82]
  iintro HR HK
  iapply (wp_loops c arg3 arg4 arg7 X3 X4 X7 hok hL 0 (chk_of_le 0 (by omega) _ (hL 0))) $$ HR
  iintro HR
  iapply (wp_len c arg3 arg4 arg7 X3 X4 X7 1 _ k0_chk34 k0_chk34.dec (chk_of_le 1 (by omega) _ (hL 1))) $$ HR
  iintro HR
  iapply (wp_done c)
  iapply HK $$ HR

/-- The third part: the second row is finished and the third accumulated. -/
theorem wp_part83 (hu : k0_chk34 (lenR c arg4 X4 1)) (Q : _ → sProp 𝕄) :
    RR c arg3 arg4 arg7 X3 X4 X7
      ⊢ iprop((RR c arg3 arg4 arg7 X3 X4 X7 -∗ Q ⟨(rowR c arg3 arg4 arg7 v7 v10 X3 X4 X7 1), nch (lenR c arg4 X4 2), (accR c arg3 arg4 arg7 X3 X4 X7 2).1, (accR c arg3 arg4 arg7 X3 X4 X7 2).2⟩) -∗ W c (k0_part83 (F := F) i arg2 harg2 arg3 harg3 arg4 harg4 arg5 harg5 arg6 harg6 arg7 harg7 arg8 v7 v10 (lenR c arg4 X4 1) hu (nch (lenR c arg4 X4 1)) zero128 4294901760#32 0#32 (ubw (lenR c arg4 X4 1)) 1#32) Q) := by
  unfold rowR; rw [part83]
  iintro HR HK
  iapply (wp_loops c arg3 arg4 arg7 X3 X4 X7 hok hL 1 (chk_of_le 1 (by omega) _ (hL 1))) $$ HR
  iintro HR
  iapply (wp_len c arg3 arg4 arg7 X3 X4 X7 2 _ k0_chk67 k0_chk67.dec (chk_of_le 2 (by omega) _ (hL 2))) $$ HR
  iintro HR
  iapply (wp_loops c arg3 arg4 arg7 X3 X4 X7 hok hL 2 (chk_of_le 2 (by omega) _ (hL 2))) $$ HR
  iintro HR
  iapply (wp_done c)
  iapply HK $$ HR

/-- The fourth part: the third row is finished and the fourth accumulated. -/
theorem wp_part84 (Q : _ → sProp 𝕄) :
    RR c arg3 arg4 arg7 X3 X4 X7
      ⊢ iprop((RR c arg3 arg4 arg7 X3 X4 X7 -∗ Q ⟨(rowR c arg3 arg4 arg7 v7 v10 X3 X4 X7 2), (accR c arg3 arg4 arg7 X3 X4 X7 3).1, (accR c arg3 arg4 arg7 X3 X4 X7 3).2, Scalar.muli (nch (lenR c arg4 X4 3)) 16#32, 512#32⟩) -∗ W c (k0_part84 (F := F) i arg2 harg2 arg3 harg3 arg4 harg4 arg5 harg5 arg6 harg6 arg7 harg7 arg8 v7 v10 (nch (lenR c arg4 X4 2)) (accR c arg3 arg4 arg7 X3 X4 X7 2).1 (accR c arg3 arg4 arg7 X3 X4 X7 2).2) Q) := by
  unfold rowR; rw [part84]
  iintro HR HK
  iapply (wp_len c arg3 arg4 arg7 X3 X4 X7 3 _ k0_chk100 k0_chk100.dec (chk_of_le 3 (by omega) _ (hL 3))) $$ HR
  iintro HR
  iapply (wp_loops c arg3 arg4 arg7 X3 X4 X7 hok hL 3 (chk_of_le 3 (by omega) _ (hL 3))) $$ HR
  iintro HR
  iapply (wp_done c)
  iapply HK $$ HR

/-- The fifth part: the fourth row is finished and the fifth accumulated. -/
theorem wp_part85 (Q : _ → sProp 𝕄) :
    RR c arg3 arg4 arg7 X3 X4 X7
      ⊢ iprop((RR c arg3 arg4 arg7 X3 X4 X7 -∗ Q ⟨(rowR c arg3 arg4 arg7 v7 v10 X3 X4 X7 3), (accR c arg3 arg4 arg7 X3 X4 X7 4).1, (accR c arg3 arg4 arg7 X3 X4 X7 4).2, remf (nch (lenR c arg4 X4 4)), broadcast S1x128 (remf (nch (lenR c arg4 X4 4)))⟩) -∗ W c (k0_part85 (F := F) i arg2 harg2 arg3 harg3 arg4 harg4 arg5 harg5 arg6 harg6 arg7 harg7 arg8 v7 v10 (accR c arg3 arg4 arg7 X3 X4 X7 3).1 (accR c arg3 arg4 arg7 X3 X4 X7 3).2 (Scalar.muli (nch (lenR c arg4 X4 3)) 16#32) 512#32) Q) := by
  unfold rowR; rw [part85]
  iintro HR HK
  iapply (wp_len c arg3 arg4 arg7 X3 X4 X7 4 _ k0_chk133 k0_chk133.dec (chk_of_le 4 (by omega) _ (hL 4))) $$ HR
  iintro HR
  iapply (wp_loops c arg3 arg4 arg7 X3 X4 X7 hok hL 4 (chk_of_le 4 (by omega) _ (hL 4))) $$ HR
  iintro HR
  iapply (wp_done c)
  iapply HK $$ HR

/-- The sixth part: the fifth row is finished and the sixth accumulated. -/
theorem wp_part86 (Q : _ → sProp 𝕄) :
    RR c arg3 arg4 arg7 X3 X4 X7
      ⊢ iprop((RR c arg3 arg4 arg7 X3 X4 X7 -∗ Q ⟨(rowR c arg3 arg4 arg7 v7 v10 X3 X4 X7 4), (accR c arg3 arg4 arg7 X3 X4 X7 5).2, rowHi v7 (nch (lenR c arg4 X4 5)) (accR c arg3 arg4 arg7 X3 X4 X7 5).1, broadcast S1x128 (remf (nch (lenR c arg4 X4 5)))⟩) -∗ W c (k0_part86 (F := F) i arg2 harg2 arg3 harg3 arg4 harg4 arg5 harg5 arg6 harg6 arg7 harg7 arg8 v7 v10 (accR c arg3 arg4 arg7 X3 X4 X7 4).1 (accR c arg3 arg4 arg7 X3 X4 X7 4).2 (remf (nch (lenR c arg4 X4 4))) (broadcast S1x128 (remf (nch (lenR c arg4 X4 4))))) Q) := by
  unfold rowR; rw [part86]
  iintro HR HK
  iapply (wp_len c arg3 arg4 arg7 X3 X4 X7 5 _ k0_chk166 k0_chk166.dec (chk_of_le 5 (by omega) _ (hL 5))) $$ HR
  iintro HR
  iapply (wp_loops c arg3 arg4 arg7 X3 X4 X7 hok hL 5 (chk_of_le 5 (by omega) _ (hL 5))) $$ HR
  iintro HR
  iapply (wp_done c)
  iapply HK $$ HR

/-- The seventh part: the sixth and the seventh row are finished. -/
theorem wp_part87 (Q : _ → sProp 𝕄) :
    RR c arg3 arg4 arg7 X3 X4 X7
      ⊢ iprop((RR c arg3 arg4 arg7 X3 X4 X7 -∗ Q ⟨(rowR c arg3 arg4 arg7 v7 v10 X3 X4 X7 5), (rowR c arg3 arg4 arg7 v7 v10 X3 X4 X7 6)⟩) -∗ W c (k0_part87 (F := F) i arg2 harg2 arg3 harg3 arg4 harg4 arg5 harg5 arg6 harg6 arg7 harg7 arg8 v7 v10 (accR c arg3 arg4 arg7 X3 X4 X7 5).2 (rowHi v7 (nch (lenR c arg4 X4 5)) (accR c arg3 arg4 arg7 X3 X4 X7 5).1) (broadcast S1x128 (remf (nch (lenR c arg4 X4 5))))) Q) := by
  unfold rowR; rw [part87]
  iintro HR HK
  iapply (wp_len c arg3 arg4 arg7 X3 X4 X7 6 _ k0_chk199 k0_chk199.dec (chk_of_le 6 (by omega) _ (hL 6))) $$ HR
  iintro HR
  iapply (wp_loops c arg3 arg4 arg7 X3 X4 X7 hok hL 6 (chk_of_le 6 (by omega) _ (hL 6))) $$ HR
  iintro HR
  iapply (wp_done c)
  iapply HK $$ HR

/-- The eighth part: the last row is pooled and the eight rows are stacked. -/
theorem wp_part88 (r0 r1 r2 r3 r4 r5 r6 : FVec F S1x256 .f32) (Q : _ → sProp 𝕄) :
    RR c arg3 arg4 arg7 X3 X4 X7
      ⊢ iprop((RR c arg3 arg4 arg7 X3 X4 X7 -∗ Q ⟨stack r0 r1 r2 r3 r4 r5 r6 (rowR c arg3 arg4 arg7 v7 v10 X3 X4 X7 7), iota .tc S8x512 32 [1] iota_S8x512_d1_w32⟩) -∗ W c (k0_part88 (F := F) i arg2 harg2 arg3 harg3 arg4 harg4 arg5 harg5 arg6 harg6 arg7 harg7 arg8 v7 v10 r0 r1 r2 r3 r4 r5 r6) Q) := by
  unfold rowR; rw [part88]
  iintro HR HK
  iapply (wp_len c arg3 arg4 arg7 X3 X4 X7 7 _ k0_chk232 k0_chk232.dec (chk_of_le 7 (by omega) _ (hL 7))) $$ HR
  iintro HR
  iapply (wp_loops c arg3 arg4 arg7 X3 X4 X7 hok hL 7 (chk_of_le 7 (by omega) _ (hL 7))) $$ HR
  iintro HR
  iapply (wp_done c)
  iapply HK $$ HR

/-- The resident buffer after the copy, where one is made. -/
def kept (arg2 : Memref sig .tc .hbm S2x100000x128 .i32) (X2 : Bf F c arg2) (arg7 : Memref sig .tc .vmem S100000x1x128 .i32) (X7 : Bf F c arg7) : Bf F c arg7 :=
  if h : k0_cond1 i = 1#1 then copied c arg2 arg7 X2 X7 i h else X7

/-- The first row of the resident buffer. -/
def firstRow (arg7 : Memref sig .tc .vmem S100000x1x128 .i32) (X7 : Bf F c arg7) : Vec F S1x1x128 .i32 :=
  (arg7.access (Rect.unit (s := S100000x1x128) ![0, 0, 0] S1x1x128.size inb_S100000x1x128_S1x1x128_0_0_0)).read (Elt F) X7

/-- The window after the copy: the first row's two halves and the first length. -/
theorem wp_tail81 (Q : (Σ' (v7 : FVec F S1x128 .f32) (v10 : FVec F S1x128 .f32) (v11 : Elt F .i32) (k0_hw1 : k0_chk1 v11) (v29 : BitVec 32) (v30 : FVec F S1x128 .f32) (c_m65536_i32_12 : BitVec 32) (c0_i32_13 : BitVec 32) (c1_i32_14 : BitVec 32), BitVec 32) → sProp 𝕄) :
    RR c arg3 arg4 arg7 X3 X4 X7
      ⊢ iprop((RR c arg3 arg4 arg7 X3 X4 X7 -∗ Q ⟨hi (firstRow c arg7 X7), lo (firstRow c arg7 X7), (lenR c arg4 X4 0), (chk_of_le 0 (by omega) _ (hL 0)), nch (lenR c arg4 X4 0), zero128, 4294901760#32, 0#32, 1#32, (Scalar.divsi (Scalar.subi (nch (lenR c arg4 X4 0)) 0#32) 1#32)⟩)
        -∗ W c (row0 arg7 >>= fun w => len arg4 ![0, 0, 0] inb_S1x1x8_S1x1x1_0_0_0 >>= fun v => Prog.lift (TpuEff.assume (k0_chk1 v) (k0_chk1.dec v)) >>= fun x =>
            pure ⟨hi w, lo w, v, x.down, nch v, zero128, 4294901760#32, 0#32, 1#32, (Scalar.divsi (Scalar.subi (nch v) 0#32) 1#32)⟩) Q) := by
  iintro HR HK
  iapply (wp_seq c)
  unfold row0
  ihave H := (Entails.of_eq (by unfold RR; rfl) : RR c arg3 arg4 arg7 X3 X4 X7 ⊢ iprop(pt c arg3 X3 ∗ pt c arg4 X4 ∗ pt c arg7 X7)) $$ HR
  icases H with ⟨H3, H4, H7⟩
  iapply (wp_vec c arg7 X7) $$ H7
  iintro H7
  iapply (wp_done c)
  ihave HR := (Entails.of_eq (by unfold RR; rfl) : iprop(pt c arg3 X3 ∗ pt c arg4 X4 ∗ pt c arg7 X7) ⊢ RR c arg3 arg4 arg7 X3 X4 X7) $$ [H3 H4 H7]
  · isplitl [H3]; · iexact H3
    isplitl [H4]; · iexact H4
    iexact H7
  iapply (wp_len c arg3 arg4 arg7 X3 X4 X7 0 _ k0_chk1 k0_chk1.dec (chk_of_le 0 (by omega) _ (hL 0))) $$ HR
  iintro HR
  iapply (wp_done c)
  unfold firstRow
  iapply HK $$ HR

/-- The first part: the plane is copied if the point asks for it, row 0 and the first length are read. -/
theorem wp_part81 (X2 : Bf F c arg2) (w : Waits sig Unit) (Q : _ → sProp 𝕄) :
    iprop(pt c arg2 X2 ∗ RR c arg3 arg4 arg7 X3 X4 X7 ∗ semVal ((c : Thread nD τ), .dma arg8.sem) 0 ∗ owes (c : Thread nD τ) 0 w)
      ⊢ iprop((iprop(pt c arg2 X2 ∗ RR c arg3 arg4 arg7 X3 X4 (kept c i arg2 X2 arg7 X7) ∗ semVal ((c : Thread nD τ), .dma arg8.sem) 0 ∗ ∃ w, owes (c : Thread nD τ) 0 w)
          -∗ Q ⟨hi (firstRow c arg7 (kept c i arg2 X2 arg7 X7)), lo (firstRow c arg7 (kept c i arg2 X2 arg7 X7)), (lenR c arg4 X4 0), (chk_of_le 0 (by omega) _ (hL 0)), nch (lenR c arg4 X4 0), zero128, 4294901760#32, 0#32, 1#32, (Scalar.divsi (Scalar.subi (nch (lenR c arg4 X4 0)) 0#32) 1#32)⟩)
        -∗ W c (k0_part81 (F := F) i arg2 harg2 arg3 harg3 arg4 harg4 arg5 harg5 arg6 harg6 arg7 harg7 arg8) Q) := by
  rw [part81]
  by_cases h : k0_cond1 i = 1#1
  · rw [show kept c i arg2 X2 arg7 X7 = copied c arg2 arg7 X2 X7 i h from dif_pos h]
    simp only [dif_pos h]
    iintro ⟨H2, HR, Hs, HO⟩ HK
    ihave H := (Entails.of_eq (by unfold RR; rfl) : RR c arg3 arg4 arg7 X3 X4 X7 ⊢ iprop(pt c arg3 X3 ∗ pt c arg4 X4 ∗ pt c arg7 X7)) $$ HR
    icases H with ⟨H3, H4, H7⟩
    iapply (wp_seq c)
    iapply (wp_copy c arg2 arg7 arg8 X2 X7 w i h)
    isplitl [H2]; · iexact H2
    isplitl [H7]; · iexact H7
    isplitl [Hs]; · iexact Hs
    isplitl [HO]; · iexact HO
    iintro ⟨H2, H7, Hs, HO⟩
    ihave HR := (Entails.of_eq (by unfold RR; rfl) : iprop(pt c arg3 X3 ∗ pt c arg4 X4 ∗ pt c arg7 (copied c arg2 arg7 X2 X7 i h)) ⊢ RR c arg3 arg4 arg7 X3 X4 (copied c arg2 arg7 X2 X7 i h)) $$ [H3 H4 H7]
    · isplitl [H3]; · iexact H3
      isplitl [H4]; · iexact H4
      iexact H7
    iapply (wp_tail81 c arg3 arg4 arg7 X3 X4 (copied c arg2 arg7 X2 X7 i h) hok hL) $$ HR
    iintro HR
    iapply HK
    isplitl [H2]; · iexact H2
    isplitl [HR]; · iexact HR
    isplitl [Hs]; · iexact Hs
    iexact HO
  · rw [show kept c i arg2 X2 arg7 X7 = X7 from dif_neg h]
    simp only [dif_neg h]
    iintro ⟨H2, HR, Hs, HO⟩ HK
    iapply (wp_tail81 c arg3 arg4 arg7 X3 X4 X7 hok hL) $$ HR
    iintro HR
    iapply HK
    isplitl [H2]; · iexact H2
    isplitl [HR]; · iexact HR
    isplitl [Hs]; · iexact Hs
    iexists w; iexact HO

/-- The block of indices as the end of the body reads it, and the result block after its store. -/
def readX (arg5 : Memref sig .tc .vmem S8x512 .i32) (X5 : Bf F c arg5) : Vec F S8x512 .i32 :=
  (arg5.access (Rect.unit (s := S8x512) ![0, 0] S8x512.size inb_S8x512_S8x512_0_0)).read (Elt F) X5
def stored (arg6 : Memref sig .tc .vmem S8x1x1x256 .f32) (X6 : Bf F c arg6) (b : FVec F S8x1x1x256 .f32) : Bf F c arg6 :=
  (arg6.access (Rect.unit (s := S8x1x1x256) ![0, 0, 0, 0] S8x1x1x256.size inb_S8x1x1x256_S8x1x1x256_0_0_0_0)).write (Elt F) X6 b Finset.univ

omit hok hL in
/-- The last part: the stacked sums are scaled by the lengths' reciprocals and stored. -/
theorem wp_finish (X5 : Bf F c arg5) (X6 : Bf F c arg6) (sums : FVec F S8x256 .f32) (io : IVec S8x512 32) (Q : PUnit → sProp 𝕄) :
    iprop(pt c arg5 X5 ∗ pt c arg6 X6)
      ⊢ iprop((iprop(pt c arg5 X5 ∗ pt c arg6 (stored c arg6 X6 (blockOf sums io (readX c arg5 X5)))) -∗ Q ⟨⟩) -∗ W c (finish arg5 arg6 sums io) Q) := by
  unfold finish readX stored
  iintro ⟨H5, H6⟩ HK
  iapply (wp_vec c arg5 X5) $$ H5
  iintro H5
  iapply (wp_vec c arg6 X6) $$ H6
  iintro H6
  iapply (wp_store (defs := defs₀ (F := F)) Variants.none (c : Thread nD τ) none Set.univ (m := arg6) (r := Rect.unit (s := S8x1x1x256) ![0, 0, 0, 0] S8x1x1x256.size inb_S8x1x1x256_S8x1x1x256_0_0_0_0) (S := Finset.univ) (f := X6) (Finset.subset_univ _)) $$ H6
  iintro H6
  iapply (wp_done c)
  iapply HK
  isplitl [H5]; · iexact H5
  iexact H6

/-- The eight pooled sums of a block, from the resident plane. -/
def sums : FVec F S8x256 .f32 :=
  stack (rowR c arg3 arg4 arg7 (hi (firstRow c arg7 X7)) (lo (firstRow c arg7 X7)) X3 X4 X7 0) (rowR c arg3 arg4 arg7 (hi (firstRow c arg7 X7)) (lo (firstRow c arg7 X7)) X3 X4 X7 1)
    (rowR c arg3 arg4 arg7 (hi (firstRow c arg7 X7)) (lo (firstRow c arg7 X7)) X3 X4 X7 2) (rowR c arg3 arg4 arg7 (hi (firstRow c arg7 X7)) (lo (firstRow c arg7 X7)) X3 X4 X7 3)
    (rowR c arg3 arg4 arg7 (hi (firstRow c arg7 X7)) (lo (firstRow c arg7 X7)) X3 X4 X7 4) (rowR c arg3 arg4 arg7 (hi (firstRow c arg7 X7)) (lo (firstRow c arg7 X7)) X3 X4 X7 5)
    (rowR c arg3 arg4 arg7 (hi (firstRow c arg7 X7)) (lo (firstRow c arg7 X7)) X3 X4 X7 6) (rowR c arg3 arg4 arg7 (hi (firstRow c arg7 X7)) (lo (firstRow c arg7 X7)) X3 X4 X7 7)

/-- The block a run of the body stores. -/
def outBlock (X5 : Bf F c arg5) : FVec F S8x1x1x256 .f32 :=
  blockOf (sums c arg3 arg4 arg7 X3 X4 X7) (iota .tc S8x512 32 [1] iota_S8x512_d1_w32) (readX c arg5 X5)

/-- The body runs to its return: the plane copied where a plane begins, the block of pooled rows stored, everything
    else as it was. -/
theorem wp_body (X2 : Bf F c arg2) (X5 : Bf F c arg5) (X6 : Bf F c arg6) (w : Waits sig Unit) (Q : PUnit → sProp 𝕄) :
    iprop(pt c arg2 X2 ∗ pt c arg3 X3 ∗ pt c arg4 X4 ∗ pt c arg5 X5 ∗ pt c arg6 X6 ∗ pt c arg7 X7 ∗ semVal ((c : Thread nD τ), .dma arg8.sem) 0 ∗ owes (c : Thread nD τ) 0 w
      ∗ (iprop(pt c arg2 X2 ∗ pt c arg3 X3 ∗ pt c arg4 X4 ∗ pt c arg5 X5 ∗ pt c arg6 (stored c arg6 X6 (outBlock c arg3 arg4 arg5 arg7 X3 X4 (kept c i arg2 X2 arg7 X7) X5))
          ∗ pt c arg7 (kept c i arg2 X2 arg7 X7) ∗ semVal ((c : Thread nD τ), .dma arg8.sem) 0 ∗ ∃ w, owes (c : Thread nD τ) 0 w) -∗ Q ⟨⟩))
      ⊢ W c (cc0_embed_pool (F := F) i arg2 harg2 arg3 harg3 arg4 harg4 arg5 harg5 arg6 harg6 arg7 harg7 arg8) Q := by
  rw [body_eq]
  iintro ⟨H2, H3, H4, H5, H6, H7, Hs, HO, HK⟩
  ihave HR := (Entails.of_eq (by unfold RR; rfl) : iprop(pt c arg3 X3 ∗ pt c arg4 X4 ∗ pt c arg7 X7) ⊢ RR c arg3 arg4 arg7 X3 X4 X7) $$ [H3 H4 H7]
  · isplitl [H3]; · iexact H3
    isplitl [H4]; · iexact H4
    iexact H7
  iapply (wp_seq c)
  ihave HP := (wp_part81 c i arg2 harg2 arg3 harg3 arg4 harg4 arg5 harg5 arg6 harg6 arg7 harg7 arg8 X3 X4 X7 hok hL X2 w _) $$ [H2 HR Hs HO]
  · isplitl [H2]; · iexact H2
    isplitl [HR]; · iexact HR
    isplitl [Hs]; · iexact Hs
    iexact HO
  iapply HP
  iintro ⟨H2, HR, Hs, HO⟩
  iapply (wp_seq c)
  iapply (wp_part82 c i arg2 harg2 arg3 harg3 arg4 harg4 arg5 harg5 arg6 harg6 arg7 harg7 arg8 _ _ X3 X4 (kept c i arg2 X2 arg7 X7) hok hL) $$ HR
  iintro HR
  iapply (wp_seq c)
  iapply (wp_part83 c i arg2 harg2 arg3 harg3 arg4 harg4 arg5 harg5 arg6 harg6 arg7 harg7 arg8 _ _ X3 X4 (kept c i arg2 X2 arg7 X7) hok hL) $$ HR
  iintro HR
  iapply (wp_seq c)
  iapply (wp_part84 c i arg2 harg2 arg3 harg3 arg4 harg4 arg5 harg5 arg6 harg6 arg7 harg7 arg8 _ _ X3 X4 (kept c i arg2 X2 arg7 X7) hok hL) $$ HR
  iintro HR
  iapply (wp_seq c)
  iapply (wp_part85 c i arg2 harg2 arg3 harg3 arg4 harg4 arg5 harg5 arg6 harg6 arg7 harg7 arg8 _ _ X3 X4 (kept c i arg2 X2 arg7 X7) hok hL) $$ HR
  iintro HR
  iapply (wp_seq c)
  iapply (wp_part86 c i arg2 harg2 arg3 harg3 arg4 harg4 arg5 harg5 arg6 harg6 arg7 harg7 arg8 _ _ X3 X4 (kept c i arg2 X2 arg7 X7) hok hL) $$ HR
  iintro HR
  iapply (wp_seq c)
  iapply (wp_part87 c i arg2 harg2 arg3 harg3 arg4 harg4 arg5 harg5 arg6 harg6 arg7 harg7 arg8 _ _ X3 X4 (kept c i arg2 X2 arg7 X7) hok hL) $$ HR
  iintro HR
  iapply (wp_seq c)
  iapply (wp_part88 c i arg2 harg2 arg3 harg3 arg4 harg4 arg5 harg5 arg6 harg6 arg7 harg7 arg8 _ _ X3 X4 (kept c i arg2 X2 arg7 X7) hok hL) $$ HR
  iintro HR
  ihave HF := (wp_finish c arg5 arg6 X5 X6 _ _ Q) $$ [H5 H6]
  · isplitl [H5]; · iexact H5
    iexact H6
  iapply HF
  iintro ⟨H5, H6⟩
  ihave H := (Entails.of_eq (by unfold RR; rfl) : RR c arg3 arg4 arg7 X3 X4 (kept c i arg2 X2 arg7 X7) ⊢ iprop(pt c arg3 X3 ∗ pt c arg4 X4 ∗ pt c arg7 (kept c i arg2 X2 arg7 X7))) $$ HR
  icases H with ⟨H3, H4, H7⟩
  unfold outBlock sums
  iapply HK
  isplitl [H2]; · iexact H2
  isplitl [H3]; · iexact H3
  isplitl [H4]; · iexact H4
  isplitl [H5]; · iexact H5
  isplitl [H6]; · iexact H6
  isplitl [H7]; · iexact H7
  isplitl [Hs]; · iexact Hs
  iexact HO

end Parts

end Cert.Proof.Pool

end
-- ==== Proof.PoolPure.lean ====
/-
  The block the pooling kernel stores as a function of the blocks it reads and of the resident plane.
-/
module

public import proofs.«01_k».proof.Proof.PoolBody
public import Idealize.ShloMosaic.Lib.Pointwise
public import Idealize.ShloMosaic.Lib.Pipeline.Value

@[expose] public section

noncomputable section

namespace Cert.Proof.Pool

open Cert.KernelIdeal Cert.KernelIdeal.Gen
open Idealize.ShloMosaic
open Idealize.ShloMosaic.TcCoe Idealize.ShloMosaic.Tactic
open Idealize.SL Idealize.SL.RA Idealize.SL.BI

variable {F : FTy → Type} [FloatOps F]

section Fns

variable (xb : Vec F S8x512 .i32) (lb : Vec F S1x1x8 .i32) (tb : Vec F S100000x1x128 .i32)

/-- The index word at an offset of the block, a row's length word, and the table row a word selects. -/
def wordF (off : Fin 2 → Nat) (h : Inb off) : BitVec 32 := xb ((Rect.unit (s := S8x512) off S1x1.size h).emb (Shape.Idx.first (numel1_S1x1.symm ▸ Nat.one_pos)))
def lenF (r : Fin 8) : BitVec 32 := lb ((Rect.unit (s := S1x1x8) ![0, 0, r.val] S1x1x1.size (lenInb r)).emb (Shape.Idx.first (numel1_S1x1x1.symm ▸ Nat.one_pos)))
def rowF (v : BitVec 32) (hv : k0_chk2 v) : Vec F S1x1x128 .i32 := fun y => tb ((Rect.unit (s := S100000x1x128) (k0_off3 v) S1x1x128.size (k0_off3_inb v hv)).emb y)
def lookF (off : Fin 2 → Nat) : Vec F S1x1x128 .i32 :=
  if h : Inb off then if hv : k0_chk2 (wordF xb off h) then rowF tb _ hv else fun _ => 0#32 else fun _ => 0#32
def accF (r : Nat) : Nat → Acc F
  | 0 => (zero128, zero128)
  | t + 1 => tripVal (fun j => lookF xb tb (offs r (Scf.iv 0#32 1#32 t) j)) (accF r t)
def row0F : Vec F S1x1x128 .i32 := fun y => tb ((Rect.unit (s := S100000x1x128) ![0, 0, 0] S1x1x128.size inb_S100000x1x128_S1x1x128_0_0_0).emb y)

/-- One row's pooled sum. -/
def poolF (r : Fin 8) : FVec F S1x256 .f32 :=
  rowOf (hi (row0F tb)) (lo (row0F tb)) (nch (lenF lb r)) (accF xb tb r.val (k0_t1_loop (lenF lb r)).trips)
def sumsF : FVec F S8x256 .f32 :=
  stack (poolF xb lb tb 0) (poolF xb lb tb 1) (poolF xb lb tb 2) (poolF xb lb tb 3) (poolF xb lb tb 4) (poolF xb lb tb 5) (poolF xb lb tb 6) (poolF xb lb tb 7)
/-- The block stored. -/
def blockF : FVec F S8x1x1x256 .f32 := blockOf (sumsF xb lb tb) (iota .tc S8x512 32 [1] iota_S8x512_d1_w32) (fun y => xb ((Rect.unit (s := S8x512) ![0, 0] S8x512.size inb_S8x512_S8x512_0_0).emb y))

end Fns

section Eqs

variable (c : Dev nD) (i : grid0.Coords) (arg2 : Memref sig .tc .hbm S2x100000x128 .i32) (arg3 : Memref sig .tc .smem S8x512 .i32) (arg4 : Memref sig .tc .smem S1x1x8 .i32)
  (arg5 : Memref sig .tc .vmem S8x512 .i32) (arg6 : Memref sig .tc .vmem S8x1x1x256 .f32) (arg7 : Memref sig .tc .vmem S100000x1x128 .i32)
variable (X2 : Bf F c arg2) (X3 : Bf F c arg3) (X4 : Bf F c arg4) (X5 : Bf F c arg5) (X6 : Bf F c arg6) (X7 : Bf F c arg7)

/-- An index read is a function of what the block of indices reads as. -/
theorem word_eq (off : Fin 2 → Nat) (h : Inb off) : wordAt c arg3 X3 off h = wordF (arg3.view.read (Elt F) X3) off h := rfl
/-- A length read is a function of what the block of lengths reads as. -/
theorem len_eq (r : Fin 8) : lenR c arg4 X4 r = lenF (arg4.view.read (Elt F) X4) r := rfl
/-- A table row read is a function of what the plane reads as. -/
theorem row_eq (v : BitVec 32) (hv : k0_chk2 v) : rowAt c arg7 X7 v hv = rowF (arg7.view.read (Elt F) X7) v hv := rfl
/-- A look-up is a function of what the indices and the plane read as. -/
theorem lookAt_eq (off : Fin 2 → Nat) : lookAt c arg3 arg7 X3 X7 off = lookF (arg3.view.read (Elt F) X3) (arg7.view.read (Elt F) X7) off := rfl
/-- So is the accumulator after any number of trips. -/
theorem acc_eq (r t : Nat) : accAt c arg3 arg7 X3 X7 r t = accF (arg3.view.read (Elt F) X3) (arg7.view.read (Elt F) X7) r t := by
  induction t with
  | zero => rfl
  | succ t ih => unfold accAt accF; rw [ih]; simp only [lookAt_eq]
/-- So is row 0 of the plane. -/
theorem first_eq : firstRow c arg7 X7 = row0F (arg7.view.read (Elt F) X7) := rfl
/-- So is a whole pooled row. -/
theorem rowR_eq (r : Fin 8) :
    rowR c arg3 arg4 arg7 (hi (firstRow c arg7 X7)) (lo (firstRow c arg7 X7)) X3 X4 X7 r = poolF (arg3.view.read (Elt F) X3) (arg4.view.read (Elt F) X4) (arg7.view.read (Elt F) X7) r := by
  unfold rowR accR poolF; rw [acc_eq, first_eq, len_eq]
/-- The block stored, by the blocks read. -/
theorem out_eq (h5 : arg5.view.read (Elt F) X5 = arg3.view.read (Elt F) X3) : outBlock c arg3 arg4 arg5 arg7 X3 X4 X7 X5 = blockF (arg3.view.read (Elt F) X3) (arg4.view.read (Elt F) X4) (arg7.view.read (Elt F) X7) := by
  unfold outBlock sums blockF sumsF
  simp only [rowR_eq]
  rw [← h5]
  rfl

/-- The result block, read back after its store. -/
theorem stored_read (b : FVec F S8x1x1x256 .f32) : arg6.view.read (Elt F) (stored c arg6 X6 b) = b := by
  have h : (arg6.access (Rect.unit (s := S8x1x1x256) ![0, 0, 0, 0] S8x1x1x256.size inb_S8x1x1x256_S8x1x1x256_0_0_0_0)).read (Elt F) (stored c arg6 X6 b) = b := View.read_write_univ _ _
  funext y
  have h' := congrFun h y
  refine Eq.trans ?_ h'
  refine congrArg (arg6.view.read (Elt F) (stored c arg6 X6 b)) ?_
  funext a; fin_cases a <;> exact Fin.ext (by simp)

end Eqs

/-- A plane of the table, as the resident buffer holds it. -/
def planeOf (tab : Vec F S2x100000x128 .i32) (e : Fin 2) : Vec F S100000x1x128 .i32 := fun y => tab (ix3 e (y 0) (y 2))

/-- The copy's two views drop the axis of one element. -/
theorem shape_row {α : Type} (f : S100000x1x128.Idx → α) (a : Fin 100000) (b : Fin 128) :
    shapeCast S100000x128 f (by decide) (ix2 a b) = f (ix3 a 0 b) := by
  pointwise
/-- The plane reshaped to two axes keeps its elements. -/
theorem shape_plane {α : Type} (f : S1x100000x128.Idx → α) (a : Fin 100000) (b : Fin 128) :
    shapeCast S100000x128 f (by decide) (ix2 a b) = f (ix3 0 a b) := by
  pointwise

/-- The plane's two shapes have as many elements. -/
theorem plane_casts : S1x100000x128.ShapeCasts S100000x128 := by decide

/-- The copy leaves the plane in the resident buffer. -/
theorem copied_eq (c : Dev nD) (X2 : Bf F c (Memref.whole main_arg0)) (X7 : Bf F c (Memref.whole cc0_scratch0)) (i : grid0.Coords) (h : k0_cond1 i = 1#1) :
    copied c (Memref.whole main_arg0) (Memref.whole cc0_scratch0) X2 X7 i h = planeOf (F := F) X2 (i 0) := by
  have e := View.read_write_univ (Val := Elt F) (v := (planeDst (Memref.whole cc0_scratch0)).view) X7 (View.read (Elt F) (planeSrc (Memref.whole main_arg0) i h).view X2)
  funext y
  obtain ⟨a, b, d, rfl⟩ : ∃ a b d, y = ix3 a b d := ⟨_, _, _, eq_ix3 y⟩
  obtain rfl : b = 0 := Subsingleton.elim _ _
  have e' := congrFun e (ix2 a d)
  have l : ∀ f : Bf F c (Memref.whole cc0_scratch0), View.read (Elt F) (planeDst (Memref.whole cc0_scratch0)).view f (ix2 a d) = f (ix3 a 0 d) := fun f => by
    refine (congrFun (Memref.read_squeeze_slice (Memref.whole cc0_scratch0) _ _ _ (by decide) f) (ix2 a d)).trans ((shape_row _ a d).trans ?_)
    refine congrArg f ?_
    funext k; fin_cases k <;> exact Fin.ext (by simp [Rect.emb, Rect.unit])
  have r : View.read (Elt F) (planeSrc (Memref.whole main_arg0) i h).view X2 (ix2 a d) = X2 (ix3 (i 0) a d) := by
    refine (congrFun (Memref.read_squeeze_slice (Memref.whole main_arg0) _ _ _ plane_casts X2) (ix2 a d)).trans ((shape_plane _ a d).trans ?_)
    refine congrArg X2 ?_
    funext k
    have h0 : (BitVec.ofNat 32 (i 0).val).toNat = (i 0).val := by
      have : (i 0).val < 2 := (i 0).isLt
      simp; omega
    fin_cases k <;> refine Fin.ext ?_
    · exact (congrArg (· + 1 * 0) h0 : (BitVec.ofNat 32 (i 0).val).toNat + 1 * 0 = (i 0).val + 1 * 0).trans (by simp : (i 0).val + 1 * 0 = (i 0).val)
    · exact (by simp : 0 + 1 * a.val = a.val)
    · exact (by simp : 0 + 1 * d.val = d.val)
  exact ((l _).symm.trans e').trans r

end Cert.Proof.Pool

end
-- ==== Proof.PoolDat.lean ====
/-
  The pooling call: what each grid point finds and leaves, and the body obligation.
-/
module

public import proofs.«01_k».proof.Proof.PoolPure
public import proofs.«01_k».proof.Proof.Gen.KernelIdeal.Points
public import proofs.«01_k».proof.Proof.Gen.KernelIdeal.Regions
public import Idealize.ShloMosaic.Lib.Pipeline.FrameBody

@[expose] public section

noncomputable section

namespace Cert.Proof.Pool

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UU nD τ) ℕ

/-- A whole memref owned at what it reads is its buffer held at contents reading so. -/
theorem owns_eq (c : Dev nD) {sp : Space} {s : Shape} {e : EltTy} (M : Memref sig .tc sp s e) (h : M.IsWhole) (X : s.Idx → Elt F e) :
    (owns (c : Thread nD τ) M fullShare X : sProp 𝕄) = iprop(∃ f : Bf F c M, ⌜M.view.read (Elt F) f = X⌝ ∗ pt c M f) := by
  unfold owns; rw [h.set_eq_univ]

variable (V : (c : Dev nD) → (b : Ref sig .tc) → Buf (Elt F) ((c : Thread nD τ).loc b))

/-- The blocks a point is handed: the indices (twice), the lengths. -/
abbrev xblk (c : Dev nD) (t : Fin cfg0.N) : Vec F S8x512 .i32 := ((cfg0.win 0).blk t).view.read (Elt F) (V c main_arg1)
abbrev lblk (c : Dev nD) (t : Fin cfg0.N) : Vec F S1x1x8 .i32 := ((cfg0.win 1).blk t).view.read (Elt F) (V c main_v6)
abbrev plane (c : Dev nD) (t : Fin cfg0.N) : Vec F S100000x1x128 .i32 := planeOf (F := F) (V c main_arg0) (grid0.coords t 0)

/-- The scoped buffers the pooling call does not touch. -/
abbrev any (c : Dev nD) (b : Ref sig .tc) : sProp 𝕄 := iprop(∃ f : Buf (Elt F) ((c : Thread nD τ).loc b), ((c : Thread nD τ).loc b) ↦{fullShare} f)
def others (c : Dev nD) : sProp 𝕄 :=
  iprop(any (F := F) c cc1_stg0_0 ∗ any (F := F) c cc1_stg0_1 ∗ any (F := F) c cc1_stg1_0 ∗ any (F := F) c cc1_stg2_0 ∗ any (F := F) c cc1_stg3_0 ∗ any (F := F) c cc1_stg4_0 ∗ any (F := F) c cc1_stg5_0 ∗ any (F := F) c cc1_stg5_1)

/-- The invariant before point `k`: the table at its contents; the resident buffer at anything where a plane begins and
    at the current plane elsewhere; the copy's semaphore at zero. -/
def Inv (c : Dev nD) (k : Nat) : sProp 𝕄 :=
  iprop(pt c (Memref.whole main_arg0) (V c main_arg0)
    ∗ (∃ f : Bf F c (Memref.whole cc0_scratch0), ⌜∀ t : Fin cfg0.N, t.val = k → ¬ k0_cond1 (grid0.coords t) = 1#1 → f = plane V c t⌝ ∗ pt c (Memref.whole cc0_scratch0) f)
    ∗ semVal ((c : Thread nD τ), .dma cc0_scratch1.sem) 0 ∗ others c)

/-- The pooling call's proof data on core `c`. -/
def dat0 (c : Dev nD) : Dat τ (Elt F) Unit ℕ (UU nD τ) ℕ cfg0 c where
  A w := V c (Pipeline.arrRef spec0 w)
  after w t := match w with
    | ⟨0, _⟩ => xblk V c t
    | ⟨1, _⟩ => lblk V c t
    | ⟨2, _⟩ => xblk V c t
    | ⟨3, _⟩ => blockF (xblk V c t) (lblk V c t) (plane V c t)
  Φ k := Inv V c k.val
  q w := Pipeline.shareOf spec0 w
  owed _ := 0

/-- The first window holds the point's block of indices. -/
theorem before0 (c : Dev nD) (t : Fin cfg0.N) (d) : (dat0 V c).before 0 t d = xblk V c t := (dat0 V c).before_fetched 0 t (fetch0_0 t) d
/-- The second window holds the point's block of lengths. -/
theorem before1 (c : Dev nD) (t : Fin cfg0.N) (d) : (dat0 V c).before 1 t d = lblk V c t := (dat0 V c).before_fetched 1 t (fetch0_1 t) d
/-- The third window holds the point's block of indices as well. -/
theorem before2 (c : Dev nD) (t : Fin cfg0.N) (d) : (dat0 V c).before 2 t d = xblk V c t := (dat0 V c).before_fetched 2 t (fetch0_2 t) d

/-- Point numbers below 256 are points. -/
theorem pt_lt (n : Fin 255) : n.val < grid0.N ∧ n.val + 1 < grid0.N := by rw [N_0]; omega

/-- A point that copies nothing has the plane of the point before it, for every point. -/
theorem same_plane_all : ∀ n : Fin 255, ¬ k0_cond1 (grid0.coords (⟨n.val + 1, (pt_lt n).2⟩ : Fin grid0.N)) = 1#1 →
    grid0.coords (⟨n.val + 1, (pt_lt n).2⟩ : Fin grid0.N) 0 = grid0.coords (⟨n.val, (pt_lt n).1⟩ : Fin grid0.N) 0 := by
  decide +kernel

/-- Within a plane, the next point is on the same plane. -/
theorem same_plane (t u : Fin cfg0.N) (h : u.val = t.val + 1) (hu : ¬ k0_cond1 (grid0.coords u) = 1#1) : grid0.coords u 0 = grid0.coords t 0 := by
  obtain ⟨t, ht⟩ := t
  obtain ⟨u, hu0⟩ := u
  dsimp only at h
  subst h
  have hlt : t + 1 < 256 := lt_of_lt_of_eq hu0 N_0
  exact same_plane_all ⟨t, by omega⟩ hu

/-- A window's stage owned is its buffer held at contents reading so. -/
theorem stage_eq (c : Dev nD) (t : Fin cfg0.N) :
    (∀ X, (owns (c : Thread nD τ) ((cfg0.win 0).stage (cfg0.slots t 0)) fullShare X : sProp 𝕄) = iprop(∃ f : Bf F c (st0_0 t), ⌜(st0_0 t).view.read (Elt F) f = X⌝ ∗ pt c (st0_0 t) f))
    ∧ (∀ X, (owns (c : Thread nD τ) ((cfg0.win 1).stage (cfg0.slots t 1)) fullShare X : sProp 𝕄) = iprop(∃ f : Bf F c (st0_1 t), ⌜(st0_1 t).view.read (Elt F) f = X⌝ ∗ pt c (st0_1 t) f))
    ∧ (∀ X, (owns (c : Thread nD τ) ((cfg0.win 2).stage (cfg0.slots t 2)) fullShare X : sProp 𝕄) = iprop(∃ f : Bf F c (st0_2 t), ⌜(st0_2 t).view.read (Elt F) f = X⌝ ∗ pt c (st0_2 t) f))
    ∧ (∀ X, (owns (c : Thread nD τ) ((cfg0.win 3).stage (cfg0.slots t 3)) fullShare X : sProp 𝕄) = iprop(∃ f : Bf F c (st0_3 t), ⌜(st0_3 t).view.read (Elt F) f = X⌝ ∗ pt c (st0_3 t) f)) :=
  ⟨owns_eq c (st0_0 t) (hstage0_0 ((cfg0.slots t 0).cast nbuf0_0)), owns_eq c (st0_1 t) (hstage0_1 ((cfg0.slots t 1).cast nbuf0_1)),
    owns_eq c (st0_2 t) (hstage0_2 ((cfg0.slots t 2).cast nbuf0_2)), owns_eq c (st0_3 t) (hstage0_3 ((cfg0.slots t 3).cast nbuf0_3))⟩

variable (hx : ∀ c i, k0_chk2 (V c main_arg1 i)) (hl : ∀ c i, (V c main_v6 i : BitVec 32).toNat ≤ 512)
include hx hl

/-- Every point of the pooling call does what its data say. -/
theorem body0 (c : Dev nD) : BodyObligation (dat0 V c) (defs₀ (F := F)) Variants.none () Set.univ := fun t => by
  rw [bigSep_W0, bigSep_W0]
  obtain ⟨e0, e1, e2, e3⟩ := stage_eq (F := F) c t
  rw [show (dat0 V c).Φ t.castSucc = Inv V c t.val from rfl, show (dat0 V c).Φ t.succ = Inv V c (t.val + 1) from rfl]
  unfold Inv Dat.owesAt Pipeline.owesWithin
  rw [show (dat0 V c).owed t.castSucc = 0 from rfl, show (dat0 V c).owed t.succ = 0 from rfl]
  iintro ⟨⟨H2, ⟨%f7, %h7, H7⟩, Hs, Hoth⟩, ⟨%w, %hw, HO⟩, ⟨%d3, H3⟩, ⟨%d4, H4⟩, ⟨%d5, H5⟩, ⟨%d6, H6⟩⟩
  ihave H3' := (Entails.of_eq (e0 _)) $$ H3
  ihave H4' := (Entails.of_eq (e1 _)) $$ H4
  ihave H5' := (Entails.of_eq (e2 _)) $$ H5
  ihave H6' := (Entails.of_eq (e3 _)) $$ H6
  icases H3' with ⟨%f3, %h3, H3⟩
  icases H4' with ⟨%f4, %h4, H4⟩
  icases H5' with ⟨%f5, %h5, H5⟩
  icases H6' with ⟨%f6, -, H6⟩
  rw [before0] at h3
  rw [before1] at h4
  rw [before2] at h5
  have hok : ∀ off h, k0_chk2 (wordAt c _ f3 off h) := fun off h => by
    rw [word_eq, h3]; exact hx c _
  have hL : ∀ r, (lenR c _ f4 r).toNat ≤ 512 := fun r => by
    rw [len_eq, h4]; exact hl c _
  have hk : kept c (grid0.coords t) (Memref.whole main_arg0) (V c main_arg0) (Memref.whole cc0_scratch0) f7 = plane V c t := by
    unfold kept
    split
    · next h => exact copied_eq c _ _ _ h
    · next h => exact h7 t rfl h
  have hout : outBlock c (st0_0 t) (st0_1 t) (st0_2 t) (Memref.whole cc0_scratch0) f3 f4 (kept c (grid0.coords t) (Memref.whole main_arg0) (V c main_arg0) (Memref.whole cc0_scratch0) f7) f5 = blockF (xblk V c t) (lblk V c t) (plane V c t) := by
    rw [out_eq _ _ _ _ _ _ _ _ _ (h5.trans h3.symm), h3, h4, hk]; rfl
  iapply (wp_body c (grid0.coords t) (Memref.whole main_arg0) (Memref.isWhole_whole _) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (Memref.whole cc0_scratch0) (Memref.isWhole_whole _) cc0_scratch1 f3 f4 f7 hok hL (V c main_arg0) f5 f6 w _)
  isplitl [H2]; · iexact H2
  isplitl [H3]; · iexact H3
  isplitl [H4]; · iexact H4
  isplitl [H5]; · iexact H5
  isplitl [H6]; · iexact H6
  isplitl [H7]; · iexact H7
  isplitl [Hs]; · iexact Hs
  isplitl [HO]; · iexact HO
  rw [hout]
  iintro ⟨H2, H3, H4, H5, H6, H7, Hs, ⟨%w', HO⟩⟩
  isplitl [H2 H7 Hs Hoth]
  · isplitl [H2]; · iexact H2
    isplitl [H7]
    · iexists _; isplitr; swap; (· iexact H7)
      ipureintro
      intro u hu hc
      rw [hk]; unfold plane; rw [same_plane t u hu hc]
    isplitl [Hs]; · iexact Hs
    iexact Hoth
  isplitl [HO]
  · iexists w'; isplitr; · ipureintro; exact fun _ _ => Or.inl trivial
    iexact HO
  isplitl [H3]
  · iapply (Entails.of_eq (e0 _).symm)
    iexists f3; isplitr; · ipureintro; exact h3
    iexact H3
  isplitl [H4]
  · iapply (Entails.of_eq (e1 _).symm)
    iexists f4; isplitr; · ipureintro; exact h4
    iexact H4
  isplitl [H5]
  · iapply (Entails.of_eq (e2 _).symm)
    iexists f5; isplitr; · ipureintro; exact h5
    iexact H5
  iapply (Entails.of_eq (e3 _).symm)
  iexists _; isplitr; swap; (· iexact H6)
  ipureintro; exact stored_read c _ _ _

end Cert.Proof.Pool

end
-- ==== Proof.MlpDat.lean ====
/-
  The perceptron call: its block as a pure function of the blocks it is handed, a run of its body, what each grid point
  finds and leaves, and the body obligation.
-/
module

public import proofs.«01_k».proof.Proof.PoolDat

@[expose] public section

noncomputable section

namespace Cert.Proof.Mlp

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Proof.Pool (Body Bf pt W UU wp_vec wp_done owns_eq)

variable {F : FTy → Type} [FloatOps F]

local notation "𝕄" => MT nD τ sig Unit (Elt F) ℕ (UU nD τ) ℕ

/-- The perceptron of a block of pooled rows: two affine layers, the first rectified. -/
def mlpF (y : FVec F S256x512 .f32) (w1 : FVec F S512x512 .f32) (b1 : FVec F S1x512 .f32) (w2 : FVec F S512x128 .f32) (b2 : FVec F S1x128 .f32) : FVec F S256x128 .f32 :=
  addf (matmul dot_S256x512_S512x128_S256x128_1_0_0_1_n_n none
      (maximumf (addf (matmul dot_S256x512_S512x512_S256x512_1_0_0_1_n_n none (shapeCast S256x512 y shapeCasts_S256x512_S256x512) (shapeCast S512x512 w1 shapeCasts_S512x512_S512x512) (constant S256x512 .f32 0x00000000#32))
        (broadcastTo S256x512 (shapeCast S1x512 b1 shapeCasts_S1x512_S1x512) broadcasts_S1x512_S256x512)) (broadcast S256x512 (Scalar.ofBits .f32 0x00000000#32)))
      (shapeCast S512x128 w2 shapeCasts_S512x128_S512x128) (constant S256x128 .f32 0x00000000#32))
    (broadcastTo S256x128 (shapeCast S1x128 b2 shapeCasts_S1x128_S1x128) broadcasts_S1x128_S256x128)

section Run

variable (c : Dev nD) (i : grid1.Coords) (arg1 : Memref sig .tc .vmem S256x512 .f32) (harg1 : arg1.IsWhole) (arg2 : Memref sig .tc .vmem S512x512 .f32) (harg2 : arg2.IsWhole) (arg3 : Memref sig .tc .vmem S1x512 .f32) (harg3 : arg3.IsWhole)
  (arg4 : Memref sig .tc .vmem S512x128 .f32) (harg4 : arg4.IsWhole) (arg5 : Memref sig .tc .vmem S1x128 .f32) (harg5 : arg5.IsWhole) (arg6 : Memref sig .tc .vmem S256x128 .f32) (harg6 : arg6.IsWhole)
variable (X1 : Bf F c arg1) (X2 : Bf F c arg2) (X3 : Bf F c arg3) (X4 : Bf F c arg4) (X5 : Bf F c arg5) (X6 : Bf F c arg6)

/-- The whole rectangle of a rank-2 shape. -/
abbrev full2 (s : Shape) (off : Fin s.rank → Nat) (h : ∀ a, off a + s.size a ≤ s.size a) : Rect s := Rect.unit (s := s) off s.size h

/-- A full access at zero offsets reads what the memref reads. -/
theorem read_full {sp : Space} {s : Shape} {e : EltTy} (M : Memref sig .tc sp s e) (off : Fin s.rank → Nat) (h0 : ∀ a, off a = 0) (h) (f : Bf F c M) :
    (M.access (full2 s off h)).read (Elt F) f = M.view.read (Elt F) f := by
  funext y
  have e : (full2 s off h).idx y = y := by
    funext a; refine Fin.ext ?_
    show off a + 1 * (y a).val = (y a).val
    rw [h0]; omega
  exact congrArg (M.view.read (Elt F) f) e

/-- Both offsets are 0. -/
theorem zero2 : ∀ a : Fin 2, (![0, 0] : Fin 2 → Nat) a = 0 := by decide

/-- The buffer after the store of a block over it. -/
def stored (b : FVec F S256x128 .f32) : Bf F c arg6 :=
  (arg6.access (Rect.unit (s := S256x128) ![0, 0] S256x128.size inb_S256x128_S256x128_0_0)).write (Elt F) X6 b Finset.univ

/-- What was stored to the whole block is what is read from it. -/
theorem stored_read (b : FVec F S256x128 .f32) : arg6.view.read (Elt F) (stored c arg6 X6 b) = b := by
  rw [← read_full c arg6 ![0, 0] zero2 inb_S256x128_S256x128_0_0]
  exact View.read_write_univ _ _

/-- The body loads its five operands whole and stores their perceptron. -/
theorem wp_body (Q : PUnit → sProp 𝕄) :
    iprop(pt c arg1 X1 ∗ pt c arg2 X2 ∗ pt c arg3 X3 ∗ pt c arg4 X4 ∗ pt c arg5 X5 ∗ pt c arg6 X6
      ∗ (iprop(pt c arg1 X1 ∗ pt c arg2 X2 ∗ pt c arg3 X3 ∗ pt c arg4 X4 ∗ pt c arg5 X5
          ∗ pt c arg6 (stored c arg6 X6 (mlpF (arg1.view.read (Elt F) X1) (arg2.view.read (Elt F) X2) (arg3.view.read (Elt F) X3) (arg4.view.read (Elt F) X4) (arg5.view.read (Elt F) X5)))) -∗ Q ⟨⟩))
      ⊢ W c (cc1_pool_mlp (F := F) i arg1 harg1 arg2 harg2 arg3 harg3 arg4 harg4 arg5 harg5 arg6 harg6) Q := by
  rw [← read_full c arg1 ![0, 0] zero2 inb_S256x512_S256x512_0_0, ← read_full c arg2 ![0, 0] zero2 inb_S512x512_S512x512_0_0, ← read_full c arg3 ![0, 0] zero2 inb_S1x512_S1x512_0_0,
    ← read_full c arg4 ![0, 0] zero2 inb_S512x128_S512x128_0_0, ← read_full c arg5 ![0, 0] zero2 inb_S1x128_S1x128_0_0]
  unfold cc1_pool_mlp mlpF stored
  iintro ⟨H1, H2, H3, H4, H5, H6, HK⟩
  iapply (wp_vec c arg1 X1) $$ H1
  iintro H1
  iapply (wp_vec c arg2 X2) $$ H2
  iintro H2
  iapply (wp_vec c arg3 X3) $$ H3
  iintro H3
  iapply (wp_vec c arg4 X4) $$ H4
  iintro H4
  iapply (wp_vec c arg5 X5) $$ H5
  iintro H5
  iapply (wp_vec c arg6 X6) $$ H6
  iintro H6
  iapply (wp_store (defs := defs₀ (F := F)) Variants.none (c : Thread nD τ) none Set.univ (m := arg6) (r := Rect.unit (s := S256x128) ![0, 0] S256x128.size inb_S256x128_S256x128_0_0) (S := Finset.univ) (f := X6) (Finset.subset_univ _)) $$ H6
  iintro H6
  iapply (wp_done c)
  iapply HK
  isplitl [H1]; · iexact H1
  isplitl [H2]; · iexact H2
  isplitl [H3]; · iexact H3
  isplitl [H4]; · iexact H4
  isplitl [H5]; · iexact H5
  iexact H6

end Run

variable (V : (c : Dev nD) → (b : Ref sig .tc) → Buf (Elt F) ((c : Thread nD τ).loc b))

/-- The blocks a point is handed. -/
abbrev yblk (c : Dev nD) (t : Fin cfg1.N) : FVec F S256x512 .f32 := ((cfg1.win 0).blk t).view.read (Elt F) (V c main_v8)
abbrev w1blk (c : Dev nD) (t : Fin cfg1.N) : FVec F S512x512 .f32 := ((cfg1.win 1).blk t).view.read (Elt F) (V c main_v17)
abbrev b1blk (c : Dev nD) (t : Fin cfg1.N) : FVec F S1x512 .f32 := ((cfg1.win 2).blk t).view.read (Elt F) (V c main_v20)
abbrev w2blk (c : Dev nD) (t : Fin cfg1.N) : FVec F S512x128 .f32 := ((cfg1.win 3).blk t).view.read (Elt F) (V c main_v19)
abbrev b2blk (c : Dev nD) (t : Fin cfg1.N) : FVec F S1x128 .f32 := ((cfg1.win 4).blk t).view.read (Elt F) (V c main_v22)

/-- The perceptron call's proof data on core `c`. -/
def dat1 (c : Dev nD) : Dat τ (Elt F) Unit ℕ (UU nD τ) ℕ cfg1 c where
  A w := V c (Pipeline.arrRef spec1 w)
  after w t := match w with
    | ⟨0, _⟩ => yblk V c t
    | ⟨1, _⟩ => w1blk V c t
    | ⟨2, _⟩ => b1blk V c t
    | ⟨3, _⟩ => w2blk V c t
    | ⟨4, _⟩ => b2blk V c t
    | ⟨5, _⟩ => mlpF (yblk V c t) (w1blk V c t) (b1blk V c t) (w2blk V c t) (b2blk V c t)
  Φ _ := Pipeline.scopedRest spec1 c
  q _ := fullShare
  owed _ := 0

/-- The first window holds the point's block of rows. -/
theorem before0 (c : Dev nD) (t : Fin cfg1.N) (d) : (dat1 V c).before 0 t d = yblk V c t := (dat1 V c).before_fetched 0 t (fetch1_0 t) d
/-- The second window holds the first weights at every point. -/
theorem before1 (c : Dev nD) (t : Fin cfg1.N) (d) : (dat1 V c).before 1 t d = w1blk V c t := (dat1 V c).before_in_eq_fetched 1 rfl (fun _ => rfl) (fun _ _ _ => rfl) (fun _ => rfl) t d
/-- The third window holds the first bias at every point. -/
theorem before2 (c : Dev nD) (t : Fin cfg1.N) (d) : (dat1 V c).before 2 t d = b1blk V c t := (dat1 V c).before_in_eq_fetched 2 rfl (fun _ => rfl) (fun _ _ _ => rfl) (fun _ => rfl) t d
/-- The fourth window holds the second weights at every point. -/
theorem before3 (c : Dev nD) (t : Fin cfg1.N) (d) : (dat1 V c).before 3 t d = w2blk V c t := (dat1 V c).before_in_eq_fetched 3 rfl (fun _ => rfl) (fun _ _ _ => rfl) (fun _ => rfl) t d
/-- The fifth window holds the second bias at every point. -/
theorem before4 (c : Dev nD) (t : Fin cfg1.N) (d) : (dat1 V c).before 4 t d = b2blk V c t := (dat1 V c).before_in_eq_fetched 4 rfl (fun _ => rfl) (fun _ _ _ => rfl) (fun _ => rfl) t d

/-- A window's stage owned is its buffer held at contents reading so. -/
theorem stage_eq (c : Dev nD) (t : Fin cfg1.N) :
    (∀ X, (owns (c : Thread nD τ) ((cfg1.win 0).stage (cfg1.slots t 0)) fullShare X : sProp 𝕄) = iprop(∃ f : Bf F c (st1_0 t), ⌜(st1_0 t).view.read (Elt F) f = X⌝ ∗ pt c (st1_0 t) f))
    ∧ (∀ X, (owns (c : Thread nD τ) ((cfg1.win 1).stage (cfg1.slots t 1)) fullShare X : sProp 𝕄) = iprop(∃ f : Bf F c (st1_1 t), ⌜(st1_1 t).view.read (Elt F) f = X⌝ ∗ pt c (st1_1 t) f))
    ∧ (∀ X, (owns (c : Thread nD τ) ((cfg1.win 2).stage (cfg1.slots t 2)) fullShare X : sProp 𝕄) = iprop(∃ f : Bf F c (st1_2 t), ⌜(st1_2 t).view.read (Elt F) f = X⌝ ∗ pt c (st1_2 t) f))
    ∧ (∀ X, (owns (c : Thread nD τ) ((cfg1.win 3).stage (cfg1.slots t 3)) fullShare X : sProp 𝕄) = iprop(∃ f : Bf F c (st1_3 t), ⌜(st1_3 t).view.read (Elt F) f = X⌝ ∗ pt c (st1_3 t) f))
    ∧ (∀ X, (owns (c : Thread nD τ) ((cfg1.win 4).stage (cfg1.slots t 4)) fullShare X : sProp 𝕄) = iprop(∃ f : Bf F c (st1_4 t), ⌜(st1_4 t).view.read (Elt F) f = X⌝ ∗ pt c (st1_4 t) f))
    ∧ (∀ X, (owns (c : Thread nD τ) ((cfg1.win 5).stage (cfg1.slots t 5)) fullShare X : sProp 𝕄) = iprop(∃ f : Bf F c (st1_5 t), ⌜(st1_5 t).view.read (Elt F) f = X⌝ ∗ pt c (st1_5 t) f)) :=
  ⟨owns_eq c (st1_0 t) (hstage1_0 ((cfg1.slots t 0).cast nbuf1_0)), owns_eq c (st1_1 t) (hstage1_1 ((cfg1.slots t 1).cast nbuf1_1)),
    owns_eq c (st1_2 t) (hstage1_2 ((cfg1.slots t 2).cast nbuf1_2)), owns_eq c (st1_3 t) (hstage1_3 ((cfg1.slots t 3).cast nbuf1_3)),
    owns_eq c (st1_4 t) (hstage1_4 ((cfg1.slots t 4).cast nbuf1_4)), owns_eq c (st1_5 t) (hstage1_5 ((cfg1.slots t 5).cast nbuf1_5))⟩

/-- Every point of the perceptron call does what its data say. -/
theorem body1 (c : Dev nD) : BodyObligation (dat1 V c) (defs₀ (F := F)) Variants.none () Set.univ := fun t => by
  rw [bigSep_W1, bigSep_W1]
  obtain ⟨e0, e1, e2, e3, e4, e5⟩ := stage_eq (F := F) c t
  rw [show (dat1 V c).Φ t.succ = (dat1 V c).Φ t.castSucc from rfl, show (dat1 V c).owesAt () t.succ = (dat1 V c).owesAt () t.castSucc from rfl]
  iintro ⟨HΦ, HO, ⟨%d0, H0⟩, ⟨%d1, H1⟩, ⟨%d2, H2⟩, ⟨%d3, H3⟩, ⟨%d4, H4⟩, ⟨%d5, H5⟩⟩
  ihave H0' := (Entails.of_eq (e0 _)) $$ H0
  ihave H1' := (Entails.of_eq (e1 _)) $$ H1
  ihave H2' := (Entails.of_eq (e2 _)) $$ H2
  ihave H3' := (Entails.of_eq (e3 _)) $$ H3
  ihave H4' := (Entails.of_eq (e4 _)) $$ H4
  ihave H5' := (Entails.of_eq (e5 _)) $$ H5
  icases H0' with ⟨%f0, %h0, H0⟩
  icases H1' with ⟨%f1, %h1, H1⟩
  icases H2' with ⟨%f2, %h2, H2⟩
  icases H3' with ⟨%f3, %h3, H3⟩
  icases H4' with ⟨%f4, %h4, H4⟩
  icases H5' with ⟨%f5, -, H5⟩
  rw [before0] at h0
  rw [before1] at h1
  rw [before2] at h2
  rw [before3] at h3
  rw [before4] at h4
  iapply (wp_body c (grid1.coords t) (st1_0 t) (hstage1_0 ((cfg1.slots t 0).cast nbuf1_0)) (st1_1 t) (hstage1_1 ((cfg1.slots t 1).cast nbuf1_1)) (st1_2 t) (hstage1_2 ((cfg1.slots t 2).cast nbuf1_2)) (st1_3 t) (hstage1_3 ((cfg1.slots t 3).cast nbuf1_3)) (st1_4 t) (hstage1_4 ((cfg1.slots t 4).cast nbuf1_4)) (st1_5 t) (hstage1_5 ((cfg1.slots t 5).cast nbuf1_5)) f0 f1 f2 f3 f4 f5 _)
  isplitl [H0]; · iexact H0
  isplitl [H1]; · iexact H1
  isplitl [H2]; · iexact H2
  isplitl [H3]; · iexact H3
  isplitl [H4]; · iexact H4
  isplitl [H5]; · iexact H5
  rw [h0, h1, h2, h3, h4]
  iintro ⟨H0, H1, H2, H3, H4, H5⟩
  isplitl [HΦ]; · iexact HΦ
  isplitl [HO]; · iexact HO
  isplitl [H0]
  · iapply (Entails.of_eq (e0 _).symm)
    iexists f0; isplitr; · ipureintro; exact h0
    iexact H0
  isplitl [H1]
  · iapply (Entails.of_eq (e1 _).symm)
    iexists f1; isplitr; · ipureintro; exact h1
    iexact H1
  isplitl [H2]
  · iapply (Entails.of_eq (e2 _).symm)
    iexists f2; isplitr; · ipureintro; exact h2
    iexact H2
  isplitl [H3]
  · iapply (Entails.of_eq (e3 _).symm)
    iexists f3; isplitr; · ipureintro; exact h3
    iexact H3
  isplitl [H4]
  · iapply (Entails.of_eq (e4 _).symm)
    iexists f4; isplitr; · ipureintro; exact h4
    iexact H4
  iapply (Entails.of_eq (e5 _).symm)
  iexists _; isplitr; swap; (· iexact H5)
  ipureintro; exact stored_read c _ _ _

end Cert.Proof.Mlp

end
-- ==== Proof.Seg0.lean ====
/-
  The two calls as segments of the host program: the pooling call first.
-/
module

public import proofs.«01_k».proof.Proof.MlpDat
public import Idealize.ShloMosaic.Lib.Pipeline.RegionsLoop

@[expose] public section

noncomputable section

namespace Cert.Proof.Segs

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Proof.Pool (Body Bf pt W UU any others plane dat0 body0)
open Cert.Proof.Mlp (dat1 body1)

variable {F : FTy → Type} [FloatOps F]

local notation "𝕄" => MT nD τ sig Unit (Elt F) ℕ (UU nD τ) ℕ

/-- Contents of every buffer of every core. -/
abbrev Vals (F : FTy → Type) := (c : Dev nD) → (b : Ref sig .tc) → Buf (Elt F) ((c : Thread nD τ).loc b)

/-- The data of the two calls, from the contents each is entered at. -/
def pd (V V' : Vals F) : (p : Fin 2) → (c : Dev nD) → Dat τ (Elt F) Unit ℕ (UU nD τ) ℕ (Pipeline.pin (pcfgs (F := F)) adm p) c
  | ⟨0, _⟩ => fun c => dat0 V c
  | ⟨1, _⟩ => fun c => dat1 V' c

abbrev 𝒱₀ : Variants := Variants.none
abbrev L : GSem nD τ sig → Finset Unit := fun _ => ∅
abbrev lv : GSem nD τ sig → Unit → ℕ := fun _ _ => 0

/-- The pooling call's own semaphore. -/
abbrev osem : Fin 1 → SemLoc sig := fun _ => .dma cc0_scratch1.sem

/-- The copy's semaphore is the call's own. -/
theorem osem_facts : Pipeline.OwnSemFacts spec0 osem := by decide

/-- The call's own semaphores at zero: that one counter. -/
theorem ownSems0_eq (c : Dev nD) : (Pipeline.ownSems0 (Ix := Unit) (Name := ℕ) (U := UU nD τ) (Lvl := ℕ) (Val := Elt F) (τ := τ) osem c : sProp 𝕄) = semVal ((c : Thread nD τ), .dma cc0_scratch1.sem) 0 :=
  Pipeline.ownSems0_eq_of_list c osem [0] (by decide) (by decide)

/-- What a core owes between segments: nothing. -/
abbrev R (c : Dev nD) : sProp 𝕄 := iprop(∃ W, owes (c : Thread nD τ) (0 : CellTallies nD τ sig Unit) W)

/-- The other unscoped buffers of the pooling call: the table apart. -/
def restBut (c : Dev nD) (V : Vals F) : sProp 𝕄 :=
  bigSep ((((Finset.univ.filter fun b : Ref sig .tc => ¬ b.isScoped) \ Finset.univ.image (Pipeline.arrRef spec0))).erase main_arg0) fun b => ((c : Thread nD τ).loc b) ↦{fullShare} V c b

/-- The packed table is an array that no window reads. -/
theorem arg0_rest : (main_arg0 : Ref sig .tc) ∈ ((Finset.univ.filter fun b : Ref sig .tc => ¬ b.isScoped) \ Finset.univ.image (Pipeline.arrRef spec0)) := by decide

/-- The arrays that no window reads: the packed table and the others. -/
theorem rest_split (c : Dev nD) (V : Vals F) :
    (Pipeline.unscopedRest spec0 c (V c) : sProp 𝕄) = iprop(pt c (Memref.whole main_arg0) (V c main_arg0) ∗ restBut c V) := by
  unfold Pipeline.unscopedRest restBut
  exact bigSep_erase arg0_rest

variable (V V₁ V' : Vals F) (hx : ∀ c i, k0_chk2 (V c main_arg1 i)) (hl : ∀ c i, (V c main_v6 i : BitVec 32).toNat ≤ 512)
variable (hV : ∀ c w, (dat0 V c).arrAt w cfg0.N = V₁ c (Pipeline.arrRef spec0 w)) (hV' : ∀ c b, b ∉ Finset.univ.image (Pipeline.arrRef spec0) → V₁ c b = V c b)

set_option backward.isDefEq.respectTransparency.types false in
/-- The pooling call: entered with every buffer at `V`, left with every buffer at `V₁`. -/
def reg0 : Pipeline.RegionSeg (pcfgs (F := F)) adm (pd V V') () defs₀ 𝒱₀ L lv 0 where
  win := winFacts₀0
  block_pos := block_pos0
  stage_whole := stage_whole0
  K := Fin 1
  osem := osem
  ho := osem_facts
  hbody c := (body0 V hx hl c).loose
  hwaits := Pipeline.hwaits_of_owed_zero _ _ _ _ L lv 0 fun _ _ => rfl
  pre c := iprop(unscopedBufs c (V c) ∗ R c)
  post c := iprop(unscopedBufs c (V₁ c) ∗ R c)
  X c := iprop(pt c (Memref.whole main_arg0) (V c main_arg0) ∗ semVal ((c : Thread nD τ), .dma cc0_scratch1.sem) 0)
  Y c := pt c (Memref.whole main_arg0) (V c main_arg0)
  Z c := restBut c V
  hentry c := by
    rw [ownSems0_eq]
    have hsplit := (Pipeline.arrays_of_unscopedBufs_shared (p := 0) (pcfgs (F := F)) adm (pd V V') winFacts₀0 sharedIn0 arr_whole0 c
      (fun w _ => rfl) (V c) (fun w => rfl)).trans (sep_mono .rfl (Entails.of_eq (rest_split c V)))
    iintro ⟨⟨Hub, HO⟩, Hos, -⟩
    ihave H := hsplit $$ Hub
    icases H with ⟨Ha, H0, HZ⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [H0 Hos]
    · isplitl [H0]; · iexact H0
      iexact Hos
    iexact HZ
  hin c := by
    rw [show (pd V V' 0 c).Φ 0 = Pool.Inv V c 0 from rfl, show Pipeline.scopedRest (Pipeline.pin (pcfgs (F := F)) adm 0).spec c = _ from scopedRest0_eq c]; unfold Pool.Inv others
    iintro ⟨⟨H0, Hos⟩, -, ⟨%f, Hs⟩, Hr⟩
    isplitl [H0]; · iexact H0
    isplitl [Hs]
    · iexists f; isplitr; swap; (· iexact Hs)
      ipureintro
      intro t ht hc
      refine absurd ?_ hc
      have e : t = (⟨0, by rw [show cfg0.N = grid0.N from rfl, N_0]; decide⟩ : Fin cfg0.N) := Fin.ext ht
      subst e
      decide
    isplitl [Hos] <;> iassumption
  hout c := by
    rw [ownSems0_eq, show (pd V V' 0 c).Φ (Fin.last (Pipeline.pin (pcfgs (F := F)) adm 0).N) = Pool.Inv V c cfg0.N from rfl, show Pipeline.scopedRest (Pipeline.pin (pcfgs (F := F)) adm 0).spec c = _ from scopedRest0_eq c]; unfold Pool.Inv others
    iintro ⟨H0, ⟨%f, -, Hs⟩, Hos, Hr⟩
    isplitl [H0]; · iexact H0
    isplitl [Hos]; · iexact Hos
    isplitl [Hs]; · iexists f; iexact Hs
    iexact Hr
  hexit c := by
    have hjoin := (sep_mono .rfl (Entails.of_eq (rest_split c V).symm)).trans (Pipeline.unscopedBufs_of_arrays_shared (p := 0) (pcfgs (F := F)) adm winFacts₀0 sharedIn0 arr_whole0 c (pd V V')
      (fun w _ => rfl) (V c) (V₁ c) (fun w => (dat0 V c).arrAt w cfg0.N) (hV c) (hV' c))
    iintro ⟨Ha, HO, HY, HZ⟩
    imodintro
    isplitr [HO]
    · iapply hjoin
      isplitl [Ha]; · iexact Ha
      isplitl [HY] <;> iassumption
    · unfold Pipeline.Dat.owesAt Pipeline.owesWithin
      icases HO with ⟨%W, -, HO⟩; iexists W; iexact HO

end Cert.Proof.Segs

end
-- ==== Proof.Seg1.lean ====
/-
  The perceptron call as a segment of the host program, and the run of the whole program with its result.
-/
module

public import proofs.«01_k».proof.Proof.Seg0

@[expose] public section

noncomputable section

namespace Cert.Proof.Segs

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg)
open Cert.Proof.Pool (Body Bf pt W UU any others plane dat0 body0)
open Cert.Proof.Mlp (dat1 body1)

variable {F : FTy → Type} [FloatOps F]

local notation "𝕄" => MT nD τ sig Unit (Elt F) ℕ (UU nD τ) ℕ

/-- The perceptron call has no semaphore of its own. -/
abbrev osem1 : PEmpty → SemLoc sig := fun k => k.elim

/-- The second call has no semaphore of its own. -/
theorem osem1_facts : Pipeline.OwnSemFacts spec1 osem1 := by decide

section Region

variable (V V' V₂ : Vals F)
variable (hV : ∀ c w, (dat1 V' c).arrAt w cfg1.N = V₂ c (Pipeline.arrRef spec1 w)) (hV' : ∀ c b, b ∉ Finset.univ.image (Pipeline.arrRef spec1) → V₂ c b = V' c b)

set_option backward.isDefEq.respectTransparency.types false in
/-- The perceptron call: entered with every buffer at `V'`, left with every buffer at `V₂`. -/
def reg1 : Pipeline.RegionSeg (pcfgs (F := F)) adm (pd V V') () defs₀ 𝒱₀ L lv 1 where
  win := launch1.win.to₀
  block_pos := launch1.block_pos
  stage_whole := launch1.stage_whole
  K := PEmpty
  osem := osem1
  ho := osem1_facts
  hbody c := (body1 V' c).loose
  hwaits := Pipeline.hwaits_of_owed_zero _ _ _ _ L lv 1 fun _ _ => rfl
  pre c := iprop(unscopedBufs c (V' c) ∗ R c)
  post c := iprop(unscopedBufs c (V₂ c) ∗ R c)
  X c := BI.emp
  Y c := BI.emp
  Z c := Pipeline.unscopedRest spec1 c (V' c)
  hentry c := by
    have hsplit := Pipeline.arrays_of_unscopedBufs (p := 1) (pcfgs (F := F)) adm (pd V V') launch1.win launch1.arr_whole c
      ((pd V V' 1 c).share_full fun _ => rfl) (V' c) (fun w => rfl)
    iintro ⟨⟨Hub, HO⟩, -, -⟩
    ihave H := hsplit $$ Hub
    icases H with ⟨Ha, HZ⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact HZ
  hin c := by
    rw [show (pd V V' 1 c).Φ 0 = Pipeline.scopedRest spec1 c from rfl]
    iintro ⟨-, -, Hr⟩
    iexact Hr
  hout c := by
    rw [show (pd V V' 1 c).Φ (Fin.last (Pipeline.pin (pcfgs (F := F)) adm 1).N) = Pipeline.scopedRest spec1 c from rfl]
    unfold Pipeline.ownSems0
    rw [show (Finset.univ : Finset PEmpty) = ∅ from rfl, BI.bigSep_empty]
    iintro Hr
    isplitr; · iempintro
    isplitr; · iempintro
    iexact Hr
  hexit c := by
    have hjoin := Pipeline.unscopedBufs_of_arrays (p := 1) (pcfgs (F := F)) adm launch1.win launch1.arr_whole c (pd V V')
      ((pd V V' 1 c).share_full fun _ => rfl) (V' c) (V₂ c) (fun w => (dat1 V' c).arrAt w cfg1.N) (hV c) (hV' c)
    iintro ⟨Ha, HO, -, HZ⟩
    imodintro
    isplitr [HO]
    · iapply hjoin
      isplitl [Ha]; · iexact Ha
      iexact HZ
    · unfold Pipeline.Dat.owesAt Pipeline.owesWithin
      icases HO with ⟨%W, -, HO⟩; iexists W; iexact HO

end Region

variable (m : (ℓ : Loc nD τ sig) → Buf (Elt F) ℓ)

/-- The buffers when the pooling call is entered. -/
def VA : Vals F := fun c b => V3 m c b

/-- What the pooling call leaves, -/
def o4 : Outs (F := F) := fun _ => Function.update (fun r c => m ((c : Thread nD τ).loc r)) main_v7 (fun c => (dat0 (VA m) c).arrAt 3 cfg0.N)

/-- the buffers when the perceptron call is entered, -/
def VC : Vals F := fun c b => V9 m (o4 m) c b

/-- and what both calls leave. -/
def outs : Outs (F := F) := fun n => Function.update (o4 m n) main_v23 (fun c => (dat1 (VC m) c).arrAt 5 cfg1.N)

/-- What the pooling call leaves in its result. -/
theorem outs_v7 (c : Dev nD) (n : Nat) : outs m n main_v7 c = (dat0 (VA m) c).arrAt 3 cfg0.N := by
  unfold outs o4; rw [Function.update_of_ne (by decide), Function.update_self]

/-- What the second call leaves in its result. -/
theorem outs_v23 (c : Dev nD) (n : Nat) : outs m n main_v23 c = (dat1 (VC m) c).arrAt 5 cfg1.N := by
  unfold outs; rw [Function.update_self]

/-- The pooling call's result, before the second call is known. -/
theorem o4_v7 (c : Dev nD) (n : Nat) : o4 m n main_v7 c = (dat0 (VA m) c).arrAt 3 cfg0.N := by
  unfold o4; rw [Function.update_self]

/-- The memory after the pooling call does not depend on the second call's result. -/
theorem V4_outs (c : Dev nD) : V4 m (outs m) c = V4 m (o4 m) c := by
  unfold V4; rw [outs_v7, o4_v7]

/-- Nor does the memory before the second call. -/
theorem V9_outs (c : Dev nD) : V9 m (outs m) c = V9 m (o4 m) c := by
  unfold V9 V8 V7 V6 V5; rw [V4_outs]

/-- After the pooling call its result is in place. -/
theorem V4_v7 (o : Outs (F := F)) (c : Dev nD) : V4 m o c main_v7 = o 4 main_v7 c := by unfold V4; exact Function.update_self _ _ _

/-- After the second call its result is in place. -/
theorem V10_v23 (o : Outs (F := F)) (c : Dev nD) : V10 m o c main_v23 = o 10 main_v23 c := by unfold V10; exact Function.update_self _ _ _

/-- The pooling call changes no array but its result. -/
theorem A0_eq (c : Dev nD) (b : Ref sig .tc) (h : b ≠ main_v7) : VA m c b = V4 m (outs m) c b := (V4_of m (outs m) c b fun h' => h (List.mem_singleton.mp h')).symm

/-- Each window's array after the pooling call, from these two facts. -/
theorem exit0_of (V V₁ : Vals F) (c : Dev nD) (h : ∀ b : Ref sig .tc, b ≠ main_v7 → V c b = V₁ c b) (h7 : (dat0 V c).arrAt 3 cfg0.N = V₁ c main_v7) (w : Fin cfg0.W) :
    (dat0 V c).arrAt w cfg0.N = V₁ c (Pipeline.arrRef spec0 w) := by
  match w with
  | ⟨0, _⟩ => exact ((dat0 V c).arrAt_in 0 rfl _).trans (h main_arg1 (by decide))
  | ⟨1, _⟩ => exact ((dat0 V c).arrAt_in 1 rfl _).trans (h main_v6 (by decide))
  | ⟨2, _⟩ => exact ((dat0 V c).arrAt_in 2 rfl _).trans (h main_arg1 (by decide))
  | ⟨3, _⟩ => exact h7

/-- Each window's array after the pooling call. -/
theorem exit0 (c : Dev nD) (w : Fin cfg0.W) : (dat0 (VA m) c).arrAt w cfg0.N = V4 m (outs m) c (Pipeline.arrRef spec0 w) :=
  exit0_of (VA m) (fun c b => V4 m (outs m) c b) c (A0_eq m c) ((V4_v7 m (outs m) c).trans (outs_v7 m c 4)).symm w

/-- The arrays without a window after the pooling call. -/
theorem exit0' (c : Dev nD) (b : Ref sig .tc) (h : b ∉ Finset.univ.image (Pipeline.arrRef spec0)) : V4 m (outs m) c b = VA m c b :=
  V4_of m (outs m) c b fun h' => h (by rw [List.mem_singleton.mp h']; decide)

/-- The second call changes no array but its result. -/
theorem A1_eq (c : Dev nD) (b : Ref sig .tc) (h : b ≠ main_v23) : VC m c b = V10 m (outs m) c b := by
  rw [V10_of m (outs m) c b fun h' => h (List.mem_singleton.mp h'), V9_outs]; unfold VC; exact Eq.refl _

/-- Each window's array after the second call, from these two facts. -/
theorem exit1_of (V V₁ : Vals F) (c : Dev nD) (h : ∀ b : Ref sig .tc, b ≠ main_v23 → V c b = V₁ c b) (h7 : (dat1 V c).arrAt 5 cfg1.N = V₁ c main_v23) (w : Fin cfg1.W) :
    (dat1 V c).arrAt w cfg1.N = V₁ c (Pipeline.arrRef spec1 w) := by
  match w with
  | ⟨0, _⟩ => exact ((dat1 V c).arrAt_in 0 rfl _).trans (h main_v8 (by decide))
  | ⟨1, _⟩ => exact ((dat1 V c).arrAt_in 1 rfl _).trans (h main_v17 (by decide))
  | ⟨2, _⟩ => exact ((dat1 V c).arrAt_in 2 rfl _).trans (h main_v20 (by decide))
  | ⟨3, _⟩ => exact ((dat1 V c).arrAt_in 3 rfl _).trans (h main_v19 (by decide))
  | ⟨4, _⟩ => exact ((dat1 V c).arrAt_in 4 rfl _).trans (h main_v22 (by decide))
  | ⟨5, _⟩ => exact h7

/-- Each window's array after the second call. -/
theorem exit1 (c : Dev nD) (w : Fin cfg1.W) : (dat1 (VC m) c).arrAt w cfg1.N = V10 m (outs m) c (Pipeline.arrRef spec1 w) :=
  exit1_of (VC m) (fun c b => V10 m (outs m) c b) c (A1_eq m c) ((V10_v23 m (outs m) c).trans (outs_v23 m c 10)).symm w

/-- The arrays without a window after the second call. -/
theorem exit1' (c : Dev nD) (b : Ref sig .tc) (h : b ∉ Finset.univ.image (Pipeline.arrRef spec1)) : V10 m (outs m) c b = VC m c b :=
  (V10_of m (outs m) c b fun h' => h (by rw [List.mem_singleton.mp h']; decide)).trans (by rw [V9_outs]; rfl)

/-- The launch element: the pipeline library's. -/
def u₀ : UU nD τ := (initOf (Pipeline.cells cfgs cellOf_inj) (Pipeline.launchToks cfgs cellOf_inj), 1)

variable (hx : ∀ c i, k0_chk2 (VA m c main_arg1 i)) (hl : ∀ c i, (VA m c main_v6 i : BitVec 32).toNat ≤ 512)

/-- The arrays held before the second call. -/
theorem held9 (c : Dev nD) : (StableHlo.held (c : Thread nD τ) (Pipeline.ucRefs τ sig) (V9 m (outs m) c) : sProp 𝕄) = unscopedBufs c (VC m c) := by
  rw [V9_outs]; exact (Pipeline.unscopedBufs_held c (V9 m (o4 m) c)).symm

include hx hl in
set_option backward.isDefEq.respectTransparency.types false in
/-- THE RUN: from any memory with zero counters every weakly fair execution terminates, with the result buffer at the
    last valuation, the arguments as launched and every counter at zero. -/
theorem run (ρ : Dev nD → PrngReg) : θ_run defs (onTc (τ := τ) (main (F := F))) ⟨m, fun _ => 0, ρ⟩ (fun r => (∀ c : Dev nD,
      r.2.mem ((c.tc : Thread nD τ).loc main_v24) = V11 m (outs m) c main_v24
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) := by
  refine Pipeline.θ_run_regions_kit_dev_sems (pcfgs (F := F)) adm (pd (VA m) (VC m)) () cellOf_inj (embL : Emb (URounds (GSem nD τ sig) Unit) 𝕄) defs₀ 𝒱₀ L lv m ρ main
    (segs m (outs m) 𝒱₀ L lv (fun _ => R) () (pd (VA m) (VC m))
      (reg0 (VA m) (fun c b => V4 m (outs m) c b) (VC m) hx hl (exit0 m) (exit0' m)) (reg1 (VA m) (VC m) (fun c b => V10 m (outs m) c b) (exit1 m) (exit1' m)))
    (fun c Q => by
      rewrite [main_chain c, Seg.run_eq_chain]
      exact .rfl)
    (fun c => by simp only [segs, Seg.pipes_host, Seg.pipes_region, Seg.pipes_nil]; decide) (fun _ => 0) (fun _ _ => rfl) (fun _ => iprop(emp)) u₀ ?_
    (T₀ := fun c => iprop(StableHlo.held (c : Thread nD τ) (Pipeline.ucRefs τ sig) (V0 m c) ∗ R c))
    (Tₙ := fun c => StableHlo.held (c : Thread nD τ) (Pipeline.ucRefs τ sig) (V11 m (outs m) c))
    (hch := fun c => ⟨.rfl, .rfl, .rfl, sep_mono (Entails.of_eq (Pipeline.unscopedBufs_held c (V3 m c)).symm) .rfl, sep_mono (Entails.of_eq (Pipeline.unscopedBufs_held c (V4 m (outs m) c))) .rfl,
      .rfl, .rfl, .rfl, .rfl, sep_mono (Entails.of_eq (held9 m c)) .rfl, sep_mono (Entails.of_eq (Pipeline.unscopedBufs_held c (V10 m (outs m) c))) .rfl, .rfl⟩)
    (hinit := ?_) (QY := fun c s => s.mem ((c.tc : Thread nD τ).loc main_v24) = V11 m (outs m) c main_v24
      ∧ s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_arg2) = m ((c.tc : Thread nD τ).loc main_arg2)
      ∧ s.mem ((c.tc : Thread nD τ).loc main_arg3) = m ((c.tc : Thread nD τ).loc main_arg3)
      ∧ s.mem ((c.tc : Thread nD τ).loc main_arg4) = m ((c.tc : Thread nD τ).loc main_arg4)
      ∧ s.mem ((c.tc : Thread nD τ).loc main_arg5) = m ((c.tc : Thread nD τ).loc main_arg5))
    (hfin := fun c s' => ?_) (hQ := fun _ h hz => ⟨h, funext fun g => hz g (.inr (regions_no_unscoped g.2))⟩)
  · unfold u₀
    iintro Hu
    ihave H := (ownU_pair _ _) $$ Hu
    icases H with ⟨HP, -⟩
    imodintro
    isplitl [HP]; · iexact HP
    iapply (show (BI.emp : sProp 𝕄) ⊢ bigSep Finset.univ (fun _ : Dev nD => (BI.emp : sProp 𝕄)) from by rw [BI.bigSep_emp_const])
    iempintro
  · refine Pipeline.initEach L lv fun c => ?_
    rw [show unscopedBufs c (fun b => m ((c : Thread nD τ).loc b)) = StableHlo.held (c : Thread nD τ) (Pipeline.ucRefs τ sig) (V0 m c) from Pipeline.unscopedBufs_held c (V0 m c)]
    iintro ⟨⟨Hh, -, HO, -, -, -⟩, -⟩
    imodintro
    isplitl [Hh]; · iexact Hh
    iexists ∅; iexact HO
  · unfold StableHlo.held
    iintro ⟨Hh, HSI⟩
    ihave Hr := (pointsTo_read_all (Pipeline.ucRefs τ sig) (fun b => ((c : Thread nD τ).1, b)) (V11 m (outs m) c) s') $$ [Hh HSI]
    · isplitl [Hh] <;> iassumption
    icases Hr with ⟨%h, HSI⟩
    imodintro
    isplitr
    · ipureintro
      exact ⟨h (Proc.devRef .tc main_v24) (Finset.mem_filter.mpr ⟨StableHlo.devRef_mem_tcRefs main_v24, by decide⟩),
        (h (Proc.devRef .tc main_arg0) (Finset.mem_filter.mpr ⟨StableHlo.devRef_mem_tcRefs main_arg0, by decide⟩)).trans (V11_main_arg0 m (outs m) c),
        (h (Proc.devRef .tc main_arg1) (Finset.mem_filter.mpr ⟨StableHlo.devRef_mem_tcRefs main_arg1, by decide⟩)).trans (V11_main_arg1 m (outs m) c),
        (h (Proc.devRef .tc main_arg2) (Finset.mem_filter.mpr ⟨StableHlo.devRef_mem_tcRefs main_arg2, by decide⟩)).trans (V11_main_arg2 m (outs m) c),
        (h (Proc.devRef .tc main_arg3) (Finset.mem_filter.mpr ⟨StableHlo.devRef_mem_tcRefs main_arg3, by decide⟩)).trans (V11_main_arg3 m (outs m) c),
        (h (Proc.devRef .tc main_arg4) (Finset.mem_filter.mpr ⟨StableHlo.devRef_mem_tcRefs main_arg4, by decide⟩)).trans (V11_main_arg4 m (outs m) c),
        (h (Proc.devRef .tc main_arg5) (Finset.mem_filter.mpr ⟨StableHlo.devRef_mem_tcRefs main_arg5, by decide⟩)).trans (V11_main_arg5 m (outs m) c)⟩
    · iexact HSI

end Cert.Proof.Segs

end
-- ==== Proof.KHost.lean ====
/-
  What the operations around the two calls leave in the arrays the calls read, as functions of the program's arguments.
-/
module

public import proofs.«01_k».proof.Proof.Seg1
public import Idealize.ShloMosaic.Lib.StableHlo.RunRead

@[expose] public section

noncomputable section

namespace Cert.Proof.KHost

open Cert.KernelIdeal Cert.KernelIdeal.Gen
open Idealize.ShloMosaic Idealize.ShloMosaic.TcCoe Idealize.SL.Sem Idealize.ShloMosaic.StableHlo
open Cert.Proof.Segs

variable {F : FTy → Type} [FloatOps F]

/-- Each index's position where it is zero, and the row's size where it is not. -/
def selK (x : IVec S1024x512 32) : IVec S1024x512 32 :=
  select (cmpi .eq x (broadcastInDim S1024x512 ![] bcast_S_S1024x512 (constantI S_ 32 0#32)))
    (broadcastInDim S1024x512 ![0, 1] bcast_S1x512_S1024x512_0_1 (broadcastInDim S1x512 ![1] bcast_S512_S1x512_1 (iotaInDim S512 32 0)))
    (broadcastInDim S1024x512 ![] bcast_S_S1024x512 (constantI S_ 32 512#32))

/-- The rows' lengths: the least of those. -/
def minK (x : IVec S1024x512 32) : IVec S1024 32 :=
  Host.reduce IntOp.minsi (selK x) (constantI S_ 32 2147483647#32) reducesTo_S1024x512_S1024_d1 h_S_

/-- The first layer's weights laid out over the lanes of the pooled rows. -/
def w1K (w1 : FVec F S512x300 .f32) : FVec F S512x512 .f32 :=
  Host.scatter scatter_S512x512_S1_S44x512_01_n_0_0 (fun _ b => b)
    (Host.scatter scatter_S512x512_S1_S256x512_01_n_0_0 (fun _ b => b)
      (broadcastInDim S512x512 ![] bcast_S_S512x512 (constant S_ .f32 0x00000000#32) : FVec F S512x512 .f32)
      (broadcastInDim S1 ![] bcast_S_S1 (constantI S_ 32 0#32))
      (transpose S256x512 [1, 0] (extractStridedSlice S512x256 ![0, 0] w1 slices_S512x300_S512x256_0_0) transposes_S512x256_S256x512_1_0))
    (broadcastInDim S1 ![] bcast_S_S1 (constantI S_ 32 340#32))
    (transpose S44x512 [1, 0] (extractStridedSlice S512x44 ![0, 256] w1 slices_S512x300_S512x44_0_256) transposes_S512x44_S44x512_1_0)

/-- The second layer's weights and both biases, padded. -/
def w2K (w2 : FVec F S5x512 .f32) : FVec F S512x128 .f32 :=
  transpose S512x128 [1, 0] (pad S128x512 ![0, 0] ![123, 0] ![0, 0] w2 (sitofp .f32 (constantI S_ 32 0#32)) pads_S5x512_S128x512_01230_000 h_S_) transposes_S128x512_S512x128_1_0
def b1K (b1 : FVec F S512 .f32) : FVec F S1x512 .f32 := shapeCast S1x512 b1 shapeCasts_S512_S1x512
def b2K (b2 : FVec F S5 .f32) : FVec F S1x128 .f32 :=
  shapeCast S1x128 (pad S128 ![0] ![123] ![0] b2 (sitofp .f32 (constantI S_ 32 0#32)) pads_S5_S128_01230 h_S_) shapeCasts_S128_S1x128

section Reads

variable (W : Valuation τ sig (Elt F))

/-- The first group of host lines leaves the candidates for the lengths. -/
theorem r4 : after hostOps0_1 (after hostOps0 W) main_v4 = selK (W main_arg1) := by after_reads_simp; rfl
/-- The second group leaves their minima, reshaped to blocks of 8. -/
theorem r6 : after hostOps0_2 W main_v6 = shapeCast S128x1x8 (Host.reduce IntOp.minsi (W main_v4) (constantI S_ 32 2147483647#32) reducesTo_S1024x512_S1024_d1 h_S_) shapeCasts_S1024_S128x1x8 := by after_reads_simp; rfl
/-- Between the calls the pooled array is flattened to one row for each sequence. -/
theorem r8 : after hostOps1 W main_v8 = shapeCast S1024x512 (W main_v7) shapeCasts_S1024x2x1x256_S1024x512 := by after_reads_simp; rfl
/-- Between the calls the first layer's weights are laid out to the lanes. -/
theorem r17 : after hostOps1 W main_v17 = w1K (W main_arg2) := by after_reads_simp; rfl
/-- The integer that the second layer's weights are padded with is 0. -/
theorem rc4 : after hostOps1 W main_c_4 = constantI S_ 32 0#32 := by after_reads_simp
/-- The second layer's weights padded to 128 rows. -/
theorem r18 : after hostOps1_1 W main_v18 = pad S128x512 ![0, 0] ![123, 0] ![0, 0] (W main_arg4) (sitofp .f32 (W main_c_4)) pads_S5x512_S128x512_01230_000 h_S_ := by after_reads_simp; rfl
/-- The padded weights transposed. -/
theorem r19 : after hostOps1_2 W main_v19 = transpose S512x128 [1, 0] (W main_v18) transposes_S128x512_S512x128_1_0 := by after_reads_simp
/-- The first bias as a row. -/
theorem r20 : after hostOps1_2 W main_v20 = b1K (W main_arg3) := by after_reads_simp; rfl
/-- The integer that the second bias is padded with is 0. -/
theorem rc5 : after hostOps1_2 W main_c_5 = constantI S_ 32 0#32 := by after_reads_simp
/-- The second bias padded to 128. -/
theorem r21 : after hostOps1_3 W main_v21 = pad S128 ![0] ![123] ![0] (W main_arg5) (sitofp .f32 (W main_c_5)) pads_S5_S128_01230 h_S_ := by after_reads_simp; rfl
/-- The padded bias as a row. -/
theorem r22 : after hostOps1_4 W main_v22 = shapeCast S1x128 (W main_v21) shapeCasts_S128_S1x128 := by after_reads_simp; rfl
/-- After the second call the first five columns are kept. -/
theorem r24 : after hostOps2 W main_v24 = extractStridedSlice S1024x5 ![0, 0] (W main_v23) slices_S1024x128_S1024x5_0_0 := by after_reads_simp

end Reads

variable (m : (ℓ : Loc nD τ sig) → Buf (Elt F) ℓ) (o : Outs (F := F)) (c : Dev nD)

/-- Before the pooling call: the lengths, in blocks of 8. -/
theorem V3_v6 : V3 m c main_v6 = shapeCast S128x1x8 (minK (m ((c.tc : Thread nD τ).loc main_arg1))) shapeCasts_S1024_S128x1x8 := by
  unfold V3; rw [r6]; unfold V2 V1; rw [r4]; rfl
/-- Before the pooling call: the packed table is untouched. -/
theorem V3_arg0 : V3 m c main_arg0 = m ((c.tc : Thread nD τ).loc main_arg0) := by
  rw [V3_of m c _ (by decide), V2_of m c _ (by decide), V1_of m c _ (by decide)]
/-- Before the pooling call: the indices are untouched. -/
theorem V3_arg1 : V3 m c main_arg1 = m ((c.tc : Thread nD τ).loc main_arg1) := by
  rw [V3_of m c _ (by decide), V2_of m c _ (by decide), V1_of m c _ (by decide)]
/-- After the pooling call: the first weights are untouched. -/
theorem V4_arg2 : V4 m o c main_arg2 = m ((c.tc : Thread nD τ).loc main_arg2) := by
  rw [V4_of m o c _ (by decide), V3_of m c _ (by decide), V2_of m c _ (by decide), V1_of m c _ (by decide)]
/-- The first bias is untouched where it is read. -/
theorem V6_arg3 : V6 m o c main_arg3 = m ((c.tc : Thread nD τ).loc main_arg3) := by
  rw [V6_of m o c _ (by decide), V5_of m o c _ (by decide), V4_of m o c _ (by decide), V3_of m c _ (by decide), V2_of m c _ (by decide), V1_of m c _ (by decide)]
/-- The second weights are untouched where they are read. -/
theorem V5_arg4 : V5 m o c main_arg4 = m ((c.tc : Thread nD τ).loc main_arg4) := by
  rw [V5_of m o c _ (by decide), V4_of m o c _ (by decide), V3_of m c _ (by decide), V2_of m c _ (by decide), V1_of m c _ (by decide)]
/-- The second bias is untouched where it is read. -/
theorem V7_arg5 : V7 m o c main_arg5 = m ((c.tc : Thread nD τ).loc main_arg5) := by
  rw [V7_of m o c _ (by decide), V6_of m o c _ (by decide), V5_of m o c _ (by decide), V4_of m o c _ (by decide), V3_of m c _ (by decide), V2_of m c _ (by decide), V1_of m c _ (by decide)]

/-- Before the second call: the pooled array, flattened. -/
theorem V9_v8 : V9 m o c main_v8 = shapeCast S1024x512 (o 4 main_v7 c) shapeCasts_S1024x2x1x256_S1024x512 := by
  rw [V9_of m o c _ (by decide), V8_of m o c _ (by decide), V7_of m o c _ (by decide), V6_of m o c _ (by decide)]
  unfold V5; rw [r8, V4_v7]
/-- Before the second call: the first weights, laid out. -/
theorem V9_v17 : V9 m o c main_v17 = w1K (m ((c.tc : Thread nD τ).loc main_arg2)) := by
  rw [V9_of m o c _ (by decide), V8_of m o c _ (by decide), V7_of m o c _ (by decide), V6_of m o c _ (by decide)]
  unfold V5; rw [r17, V4_arg2]
/-- Before the second call: the first bias as a row. -/
theorem V9_v20 : V9 m o c main_v20 = b1K (m ((c.tc : Thread nD τ).loc main_arg3)) := by
  rw [V9_of m o c _ (by decide), V8_of m o c _ (by decide)]
  unfold V7; rw [r20, V6_arg3]
/-- Before the second call: the second weights, padded and transposed. -/
theorem V9_v19 : V9 m o c main_v19 = w2K (m ((c.tc : Thread nD τ).loc main_arg4)) := by
  rw [V9_of m o c _ (by decide), V8_of m o c _ (by decide)]
  unfold V7; rw [r19]; unfold V6; rw [r18, V5_arg4]; unfold V5; rw [rc4]; rfl
/-- Before the second call: the second bias, padded. -/
theorem V9_v22 : V9 m o c main_v22 = b2K (m ((c.tc : Thread nD τ).loc main_arg5)) := by
  unfold V9; rw [r22]; unfold V8; rw [r21, V7_arg5]; unfold V7; rw [rc5]; rfl
/-- At the end: the first five columns of what the second call left. -/
theorem V11_v24 : V11 m o c main_v24 = extractStridedSlice S1024x5 ![0, 0] (o 10 main_v23 c) slices_S1024x128_S1024x5_0_0 := by
  unfold V11; rw [r24, V10_v23]

end Cert.Proof.KHost
-- ==== Proof.RefRun.lean ====
/-
  The reference as a straight line of operations, and its run: every execution ends with each of its arrays at the fold of
  the operations over the launch contents. The three functions it calls (argmax, where, relu) are written out at the call.
-/
module

public import proofs.«01_k».proof.Proof.Gen.ReferenceIdeal
public import Idealize.ShloMosaic.Lib.Pipeline.Regions
public import Idealize.ShloMosaic.Lib.StableHlo.RunRead
public import Idealize.ShloMosaic.Lib.Quiescent

@[expose] public section

noncomputable section

namespace Cert.Proof.Ref

open Cert.ReferenceIdeal Cert.ReferenceIdeal.Gen
open Idealize.ShloMosaic Idealize.SL.Sem Idealize.ShloMosaic.StableHlo

variable {F : FTy → Type} [FloatOps F]

/-- The reference's operations in order. -/
abbrev ops : List (HloOp τ sig (Elt F)) :=
   [nullary main_c (constantI S_ 32 4294901760#32),
    unary main_c main_v0 (broadcastInDim S2x100000x128 ![] bcast_S_S2x100000x128 : (⟨S_, .i32⟩ : BufTy).Contents (Elt F) → (⟨S2x100000x128, .i32⟩ : BufTy).Contents (Elt F)),
    binary main_arg0 main_v0 main_v1 (andi : (⟨S2x100000x128, .i32⟩ : BufTy).Contents (Elt F) → (⟨S2x100000x128, .i32⟩ : BufTy).Contents (Elt F) → (⟨S2x100000x128, .i32⟩ : BufTy).Contents (Elt F)),
    unary main_v1 main_v2 (bitcastToFloat .f32 : (⟨S2x100000x128, .i32⟩ : BufTy).Contents (Elt F) → (⟨S2x100000x128, .f32⟩ : BufTy).Contents (Elt F)),
    nullary main_c_0 (constantI S_ 32 16#32),
    unary main_c_0 main_v3 (broadcastInDim S2x100000x128 ![] bcast_S_S2x100000x128 : (⟨S_, .i32⟩ : BufTy).Contents (Elt F) → (⟨S2x100000x128, .i32⟩ : BufTy).Contents (Elt F)),
    binary main_arg0 main_v3 main_v4 (Host.shli : (⟨S2x100000x128, .i32⟩ : BufTy).Contents (Elt F) → (⟨S2x100000x128, .i32⟩ : BufTy).Contents (Elt F) → (⟨S2x100000x128, .i32⟩ : BufTy).Contents (Elt F)),
    unary main_v4 main_v5 (bitcastToFloat .f32 : (⟨S2x100000x128, .i32⟩ : BufTy).Contents (Elt F) → (⟨S2x100000x128, .f32⟩ : BufTy).Contents (Elt F)),
    unary main_v2 main_v6 ((extractStridedSlice S1x100000x128 ![0, 0, 0] · slices_S2x100000x128_S1x100000x128_0_0_0) : (⟨S2x100000x128, .f32⟩ : BufTy).Contents (Elt F) → (⟨S1x100000x128, .f32⟩ : BufTy).Contents (Elt F)),
    reshape main_v6 main_v7 (rfl : (.f32 : EltTy) = .f32) shapeCasts_S1x100000x128_S100000x128,
    unary main_v5 main_v8 ((extractStridedSlice S1x100000x128 ![0, 0, 0] · slices_S2x100000x128_S1x100000x128_0_0_0) : (⟨S2x100000x128, .f32⟩ : BufTy).Contents (Elt F) → (⟨S1x100000x128, .f32⟩ : BufTy).Contents (Elt F)),
    reshape main_v8 main_v9 (rfl : (.f32 : EltTy) = .f32) shapeCasts_S1x100000x128_S100000x128,
    unary main_v2 main_v10 ((extractStridedSlice S1x100000x44 ![1, 0, 84] · slices_S2x100000x128_S1x100000x44_1_0_84) : (⟨S2x100000x128, .f32⟩ : BufTy).Contents (Elt F) → (⟨S1x100000x44, .f32⟩ : BufTy).Contents (Elt F)),
    reshape main_v10 main_v11 (rfl : (.f32 : EltTy) = .f32) shapeCasts_S1x100000x44_S100000x44,
    nary ![main_v7, main_v9, main_v11] main_v12 (fun u => (concatenate S100000x300 1 [⟨S100000x128, (u 0 : (⟨S100000x128, .f32⟩ : BufTy).Contents (Elt F))⟩, ⟨S100000x128, (u 1 : (⟨S100000x128, .f32⟩ : BufTy).Contents (Elt F))⟩, ⟨S100000x44, (u 2 : (⟨S100000x44, .f32⟩ : BufTy).Contents (Elt F))⟩] concatenates_S100000x128_S100000x128_S100000x44_S100000x300_d1 : (⟨S100000x300, .f32⟩ : BufTy).Contents (Elt F))),
    unary main_arg1 main_v13 ((extractStridedSlice S1024x1 ![0, 511] · slices_S1024x512_S1024x1_0_511) : (⟨S1024x512, .i32⟩ : BufTy).Contents (Elt F) → (⟨S1024x1, .i32⟩ : BufTy).Contents (Elt F)),
    reshape main_v13 main_v14 (rfl : (.i32 : EltTy) = .i32) shapeCasts_S1024x1_S1024,
    nullary main_c_1 (constantI S_ 32 0#32),
    unary main_c_1 main_v15 (broadcastInDim S1024 ![] bcast_S_S1024 : (⟨S_, .i32⟩ : BufTy).Contents (Elt F) → (⟨S1024, .i32⟩ : BufTy).Contents (Elt F)),
    binary main_v14 main_v15 main_v16 (cmpi .ne : (⟨S1024, .i32⟩ : BufTy).Contents (Elt F) → (⟨S1024, .i32⟩ : BufTy).Contents (Elt F) → (⟨S1024, .i1⟩ : BufTy).Contents (Elt F)),
    nullary main_c_2 (constantI S_ 32 0#32),
    unary main_c_2 main_v17 (broadcastInDim S1024x512 ![] bcast_S_S1024x512 : (⟨S_, .i32⟩ : BufTy).Contents (Elt F) → (⟨S1024x512, .i32⟩ : BufTy).Contents (Elt F)),
    binary main_arg1 main_v17 main_v18 (cmpi .eq : (⟨S1024x512, .i32⟩ : BufTy).Contents (Elt F) → (⟨S1024x512, .i32⟩ : BufTy).Contents (Elt F) → (⟨S1024x512, .i1⟩ : BufTy).Contents (Elt F)),
    nullary main_call0_v0 (iotaInDim S1024x512 32 1),
    nullary main_call0_c (constantI S_ 1 0#1),
    nullary main_call0_c_0 (constantI S_ 32 0#32),
    quaternary main_v18 main_call0_v0 main_call0_c main_call0_c_0 main_call0_v1_0 (fun x y u v j => (Host.reduce2 reducer_argmax_i1_i32 x y u v reducesTo_S1024x512_S1024_d1 h_S_ j).1),
    quaternary main_v18 main_call0_v0 main_call0_c main_call0_c_0 main_v19 (fun x y u v j => (Host.reduce2 reducer_argmax_i1_i32 x y u v reducesTo_S1024x512_S1024_d1 h_S_ j).2),
    unary main_v19 main_v20 (sitofp .f32 : (⟨S1024, .i32⟩ : BufTy).Contents (Elt F) → (⟨S1024, .f32⟩ : BufTy).Contents (Elt F)),
    nullary main_cst (constant S_ .f32 0x44000000#32),
    unary main_cst main_call1_v0 (broadcastInDim S1024 ![] bcast_S_S1024),
    ternary main_v16 main_call1_v0 main_v20 main_v21 select,
    nullary main_c_3 (constantI S_ 32 0#32),
    unary main_c_3 main_v22 (broadcastInDim S1024x512 ![] bcast_S_S1024x512 : (⟨S_, .i32⟩ : BufTy).Contents (Elt F) → (⟨S1024x512, .i32⟩ : BufTy).Contents (Elt F)),
    binary main_arg1 main_v22 main_v23 (cmpi .slt : (⟨S1024x512, .i32⟩ : BufTy).Contents (Elt F) → (⟨S1024x512, .i32⟩ : BufTy).Contents (Elt F) → (⟨S1024x512, .i1⟩ : BufTy).Contents (Elt F)),
    nullary main_c_4 (constantI S_ 32 100000#32),
    unary main_c_4 main_v24 (broadcastInDim S1024x512 ![] bcast_S_S1024x512 : (⟨S_, .i32⟩ : BufTy).Contents (Elt F) → (⟨S1024x512, .i32⟩ : BufTy).Contents (Elt F)),
    binary main_arg1 main_v24 main_v25 (addi : (⟨S1024x512, .i32⟩ : BufTy).Contents (Elt F) → (⟨S1024x512, .i32⟩ : BufTy).Contents (Elt F) → (⟨S1024x512, .i32⟩ : BufTy).Contents (Elt F)),
    ternary main_v23 main_v25 main_arg1 main_v26 (select : (⟨S1024x512, .i1⟩ : BufTy).Contents (Elt F) → (⟨S1024x512, .i32⟩ : BufTy).Contents (Elt F) → (⟨S1024x512, .i32⟩ : BufTy).Contents (Elt F) → (⟨S1024x512, .i32⟩ : BufTy).Contents (Elt F)),
    unary main_v26 main_v27 (broadcastInDim S1024x512x1 ![0, 1] bcast_S1024x512_S1024x512x1_0_1 : (⟨S1024x512, .i32⟩ : BufTy).Contents (Elt F) → (⟨S1024x512x1, .i32⟩ : BufTy).Contents (Elt F)),
    binary main_v12 main_v27 main_v28 ((fun x i => Host.gather gather_S100000x300_S1024x512x1_S1024x512x300_2_0_n_n_0_2_1300 x i) : (⟨S100000x300, .f32⟩ : BufTy).Contents (Elt F) → (⟨S1024x512x1, .i32⟩ : BufTy).Contents (Elt F) → (⟨S1024x512x300, .f32⟩ : BufTy).Contents (Elt F)),
    nullary main_cst_5 (constant S_ .f32 0x00000000#32),
    binary main_v28 main_cst_5 main_v29 ((fun x v => Host.reduceAdd x v reducesTo_S1024x512x300_S1024x300_d1 h_S_) : (⟨S1024x512x300, .f32⟩ : BufTy).Contents (Elt F) → (⟨S_, .f32⟩ : BufTy).Contents (Elt F) → (⟨S1024x300, .f32⟩ : BufTy).Contents (Elt F)),
    unary main_v21 main_v30 (broadcastInDim S1024x1 ![0] bcast_S1024_S1024x1_0 : (⟨S1024, .f32⟩ : BufTy).Contents (Elt F) → (⟨S1024x1, .f32⟩ : BufTy).Contents (Elt F)),
    unary main_v30 main_v31 (broadcastInDim S1024x300 ![0, 1] bcast_S1024x1_S1024x300_0_1 : (⟨S1024x1, .f32⟩ : BufTy).Contents (Elt F) → (⟨S1024x300, .f32⟩ : BufTy).Contents (Elt F)),
    binary main_v29 main_v31 main_v32 (Host.divf : (⟨S1024x300, .f32⟩ : BufTy).Contents (Elt F) → (⟨S1024x300, .f32⟩ : BufTy).Contents (Elt F) → (⟨S1024x300, .f32⟩ : BufTy).Contents (Elt F)),
    unary main_arg2 main_v33 ((transpose S300x512 [1, 0] · transposes_S512x300_S300x512_1_0) : (⟨S512x300, .f32⟩ : BufTy).Contents (Elt F) → (⟨S300x512, .f32⟩ : BufTy).Contents (Elt F)),
    binary main_v32 main_v33 main_v34 ((fun l r => Host.dotGeneral dot_S1024x300_S300x512_S1024x512_1_0_0_1_n_n none l r) : (⟨S1024x300, .f32⟩ : BufTy).Contents (Elt F) → (⟨S300x512, .f32⟩ : BufTy).Contents (Elt F) → (⟨S1024x512, .f32⟩ : BufTy).Contents (Elt F)),
    unary main_arg3 main_v35 (broadcastInDim S1x512 ![1] bcast_S512_S1x512_1 : (⟨S512, .f32⟩ : BufTy).Contents (Elt F) → (⟨S1x512, .f32⟩ : BufTy).Contents (Elt F)),
    unary main_v35 main_v36 (broadcastInDim S1024x512 ![0, 1] bcast_S1x512_S1024x512_0_1 : (⟨S1x512, .f32⟩ : BufTy).Contents (Elt F) → (⟨S1024x512, .f32⟩ : BufTy).Contents (Elt F)),
    binary main_v34 main_v36 main_v37 (addf : (⟨S1024x512, .f32⟩ : BufTy).Contents (Elt F) → (⟨S1024x512, .f32⟩ : BufTy).Contents (Elt F) → (⟨S1024x512, .f32⟩ : BufTy).Contents (Elt F)),
    nullary main_call2_cst (constant S_ .f32 0x00000000#32),
    unary main_call2_cst main_call2_v0 (broadcastInDim S1024x512 ![] bcast_S_S1024x512),
    binary main_v37 main_call2_v0 main_v38 maximumf,
    unary main_arg4 main_v39 ((transpose S512x5 [1, 0] · transposes_S5x512_S512x5_1_0) : (⟨S5x512, .f32⟩ : BufTy).Contents (Elt F) → (⟨S512x5, .f32⟩ : BufTy).Contents (Elt F)),
    binary main_v38 main_v39 main_v40 ((fun l r => Host.dotGeneral dot_S1024x512_S512x5_S1024x5_1_0_0_1_n_n none l r) : (⟨S1024x512, .f32⟩ : BufTy).Contents (Elt F) → (⟨S512x5, .f32⟩ : BufTy).Contents (Elt F) → (⟨S1024x5, .f32⟩ : BufTy).Contents (Elt F)),
    unary main_arg5 main_v41 (broadcastInDim S1x5 ![1] bcast_S5_S1x5_1 : (⟨S5, .f32⟩ : BufTy).Contents (Elt F) → (⟨S1x5, .f32⟩ : BufTy).Contents (Elt F)),
    unary main_v41 main_v42 (broadcastInDim S1024x5 ![0, 1] bcast_S1x5_S1024x5_0_1 : (⟨S1x5, .f32⟩ : BufTy).Contents (Elt F) → (⟨S1024x5, .f32⟩ : BufTy).Contents (Elt F)),
    binary main_v40 main_v42 main_v43 (addf : (⟨S1024x5, .f32⟩ : BufTy).Contents (Elt F) → (⟨S1024x5, .f32⟩ : BufTy).Contents (Elt F) → (⟨S1024x5, .f32⟩ : BufTy).Contents (Elt F))]

/-- The reference is its list of operations. -/
theorem main_eq (c : Dev nD) : main (F := F) c = seq ops := by chain_rfl
/-- The reference has no scoped array. -/
theorem scopedRefs_eq : (Finset.univ.filter fun b : Ref sig .tc => b.isScoped) = ∅ := by decide
/-- The reference has no scoped semaphore. -/
theorem scopedSems_eq : (Finset.univ.filter fun sm : SemLoc sig => sm.isScoped .tc) = ∅ := by decide
/-- Its operations use arrays of the core alone. -/
theorem ops_sub : (ops : List (HloOp τ sig (Elt F))).Forall fun op => op.bufs ⊆ tcRefs τ sig := by
  simp only [ops, List.Forall]; simp

/-- Its operations allocate nothing. -/
theorem ops_fresh : ∀ op ∈ (ops : List (HloOp τ sig (Elt F))), op.fresh = ∅ := by
  intro _ h; (repeat (cases h with | head => rfl | tail _ h => ?_)); exact nomatch h

/-- Every execution of the reference ends with each array at the fold of the operations, and no counter raised. -/
theorem run (m : (ℓ : Loc nD τ sig) → Buf (Elt F) ℓ) (ρ : Dev nD → PrngReg) :
    θ_run defs (onTc (τ := τ) (main (F := F))) ⟨m, fun _ => 0, ρ⟩ fun r =>
      (∀ (c : Dev nD) (b : Ref sig .tc), r.2.mem ((c.tc : Thread nD τ).loc b) = after ops (launchContents m c) (Proc.devRef .tc b)) ∧ r.2.sem = fun _ => 0 :=
  (θ_run defs _ _).mono (fun r h => ⟨h, sem_eq_zero_of_no_sems (by decide) r.2⟩)
    (run_seq scopedRefs_eq scopedSems_eq defs main (fun _ => ops) main_eq (fun _ => ops_sub) m ρ (fun _ => ops_fresh))

/-! ## The result as a function of the arguments -/

/-- The two halves of the packed table as floats. -/
def hiT (pk : Vec F S2x100000x128 .i32) : FVec F S2x100000x128 .f32 :=
  bitcastToFloat .f32 (andi (pk : IVec S2x100000x128 32) (broadcastInDim S2x100000x128 ![] bcast_S_S2x100000x128 (constantI S_ 32 4294901760#32)))
def loT (pk : Vec F S2x100000x128 .i32) : FVec F S2x100000x128 .f32 :=
  bitcastToFloat .f32 (Host.shli (pk : IVec S2x100000x128 32) (broadcastInDim S2x100000x128 ![] bcast_S_S2x100000x128 (constantI S_ 32 16#32)))

/-- The embedding table the packed one stands for. -/
def tabR (pk : Vec F S2x100000x128 .i32) : FVec F S100000x300 .f32 :=
  concatenate S100000x300 1
    [⟨S100000x128, shapeCast S100000x128 (extractStridedSlice S1x100000x128 ![0, 0, 0] (hiT pk) slices_S2x100000x128_S1x100000x128_0_0_0) shapeCasts_S1x100000x128_S100000x128⟩,
      ⟨S100000x128, shapeCast S100000x128 (extractStridedSlice S1x100000x128 ![0, 0, 0] (loT pk) slices_S2x100000x128_S1x100000x128_0_0_0) shapeCasts_S1x100000x128_S100000x128⟩,
      ⟨S100000x44, shapeCast S100000x44 (extractStridedSlice S1x100000x44 ![1, 0, 84] (hiT pk) slices_S2x100000x128_S1x100000x44_1_0_84) shapeCasts_S1x100000x44_S100000x44⟩]
    concatenates_S100000x128_S100000x128_S100000x44_S100000x300_d1

/-- Where the first zero of each row is. -/
def argR (x : IVec S1024x512 32) : IVec S1024 32 := fun j =>
  (Host.reduce2 reducer_argmax_i1_i32 (cmpi .eq x (broadcastInDim S1024x512 ![] bcast_S_S1024x512 (constantI S_ 32 0#32)))
    (iotaInDim S1024x512 32 1) (constantI S_ 1 0#1) (constantI S_ 32 0#32) reducesTo_S1024x512_S1024_d1 h_S_ j).2

/-- The rows' lengths as floats. -/
def lenR (x : IVec S1024x512 32) : FVec F S1024 .f32 :=
  select (cmpi .ne (shapeCast S1024 (extractStridedSlice S1024x1 ![0, 511] x slices_S1024x512_S1024x1_0_511) shapeCasts_S1024x1_S1024 : IVec S1024 32)
      (broadcastInDim S1024 ![] bcast_S_S1024 (constantI S_ 32 0#32)))
    (broadcastInDim S1024 ![] bcast_S_S1024 (constant S_ .f32 1140850688#32))
    (sitofp .f32 (argR x))

/-- The indices the lookup uses: a negative one counts from the end of the table. -/
def idxR (x : IVec S1024x512 32) : IVec S1024x512x1 32 :=
  broadcastInDim S1024x512x1 ![0, 1] bcast_S1024x512_S1024x512x1_0_1
    (select (cmpi .slt x (broadcastInDim S1024x512 ![] bcast_S_S1024x512 (constantI S_ 32 0#32)))
      (addi x (broadcastInDim S1024x512 ![] bcast_S_S1024x512 (constantI S_ 32 100000#32))) x)

/-- The pooled rows. -/
def poolR (pk : Vec F S2x100000x128 .i32) (x : IVec S1024x512 32) : FVec F S1024x300 .f32 :=
  Host.divf
    (Host.reduceAdd (Host.gather gather_S100000x300_S1024x512x1_S1024x512x300_2_0_n_n_0_2_1300 (tabR pk) (idxR x))
      (constant S_ .f32 0#32) reducesTo_S1024x512x300_S1024x300_d1 h_S_)
    (broadcastInDim S1024x300 ![0, 1] bcast_S1024x1_S1024x300_0_1 (broadcastInDim S1024x1 ![0] bcast_S1024_S1024x1_0 (lenR x)))

/-- The two layers on pooled rows. -/
def mlpR (y : FVec F S1024x300 .f32) (w1 : FVec F S512x300 .f32) (b1 : FVec F S512 .f32) (w2 : FVec F S5x512 .f32) (b2 : FVec F S5 .f32) : FVec F S1024x5 .f32 :=
  addf
    (Host.dotGeneral dot_S1024x512_S512x5_S1024x5_1_0_0_1_n_n none
      (maximumf
        (addf
          (Host.dotGeneral dot_S1024x300_S300x512_S1024x512_1_0_0_1_n_n none y
            (transpose S300x512 [1, 0] w1 transposes_S512x300_S300x512_1_0))
          (broadcastInDim S1024x512 ![0, 1] bcast_S1x512_S1024x512_0_1 (broadcastInDim S1x512 ![1] bcast_S512_S1x512_1 b1)))
        (broadcastInDim S1024x512 ![] bcast_S_S1024x512 (constant S_ .f32 0#32)))
      (transpose S512x5 [1, 0] w2 transposes_S5x512_S512x5_1_0))
    (broadcastInDim S1024x5 ![0, 1] bcast_S1x5_S1024x5_0_1 (broadcastInDim S1x5 ![1] bcast_S5_S1x5_1 b2))

variable (V : (b : DevRef τ sig) → b.ty.Contents (Elt F))

/-- The first 128 columns of the table. -/
theorem read7 : upto ops V 14 (Proc.devRef .tc main_v7) = shapeCast S100000x128 (extractStridedSlice S1x100000x128 ![0, 0, 0] (hiT (V (Proc.devRef .tc main_arg0))) slices_S2x100000x128_S1x100000x128_0_0_0) shapeCasts_S1x100000x128_S100000x128 := by
  after_reads_simp; rfl
/-- The next 128 columns of the table. -/
theorem read9 : upto ops V 14 (Proc.devRef .tc main_v9) = shapeCast S100000x128 (extractStridedSlice S1x100000x128 ![0, 0, 0] (loT (V (Proc.devRef .tc main_arg0))) slices_S2x100000x128_S1x100000x128_0_0_0) shapeCasts_S1x100000x128_S100000x128 := by
  after_reads_simp; rfl
/-- The last 44 columns of the table. -/
theorem read11 : upto ops V 14 (Proc.devRef .tc main_v11) = shapeCast S100000x44 (extractStridedSlice S1x100000x44 ![1, 0, 84] (hiT (V (Proc.devRef .tc main_arg0))) slices_S2x100000x128_S1x100000x44_1_0_84) shapeCasts_S1x100000x44_S100000x44 := by
  after_reads_simp; rfl

/-- The reference's result as that function of its arguments. -/
theorem read43 : after ops V (Proc.devRef .tc main_v43)
    = mlpR (poolR (V (Proc.devRef .tc main_arg0)) (V (Proc.devRef .tc main_arg1))) (V (Proc.devRef .tc main_arg2)) (V (Proc.devRef .tc main_arg3)) (V (Proc.devRef .tc main_arg4)) (V (Proc.devRef .tc main_arg5)) := by
  after_reads_simp
  have h7 := read7 V
  have h9 := read9 V
  have h11 := read11 V
  unfold mlpR poolR tabR
  rw [← h7, ← h9, ← h11]
  rfl

/-! ## The arguments -/

/-- The packed table is untouched. -/
theorem readArg0 : after ops V (Proc.devRef .tc main_arg0) = V (Proc.devRef .tc main_arg0) := by after_reads_simp
/-- The indices are untouched. -/
theorem readArg1 : after ops V (Proc.devRef .tc main_arg1) = V (Proc.devRef .tc main_arg1) := by after_reads_simp
/-- The first weights are untouched. -/
theorem readArg2 : after ops V (Proc.devRef .tc main_arg2) = V (Proc.devRef .tc main_arg2) := by after_reads_simp
/-- The first bias is untouched. -/
theorem readArg3 : after ops V (Proc.devRef .tc main_arg3) = V (Proc.devRef .tc main_arg3) := by after_reads_simp
/-- The second weights are untouched. -/
theorem readArg4 : after ops V (Proc.devRef .tc main_arg4) = V (Proc.devRef .tc main_arg4) := by after_reads_simp
/-- The second bias is untouched. -/
theorem readArg5 : after ops V (Proc.devRef .tc main_arg5) = V (Proc.devRef .tc main_arg5) := by after_reads_simp

end Cert.Proof.Ref
-- ==== Proof.Facts.lean ====
/-
  What the precondition says of the indices, and the rows' lengths: every index is in the table, and each row is some
  number `n` of nonzero indices, at least one, followed by zeros. The kernel's length (the least position of a zero, or the row's
  size) and the reference's (the position of the first zero, or the row's size) are both that `n`.
-/
module

public import proofs.«01_k».proof.Proof.KHost
public import proofs.«01_k».proof.Proof.RefRun
public import proofs.«01_k».proof.Proof.Gen.Pre_padded
public import Idealize.ShloMosaic.Lib.Pointwise
public import Idealize.ShloMosaic.Lib.ReduceAll
public import Idealize.ShloMosaic.Lib.WordArith
public import Idealize.ShloMosaic.Lib.Affine

@[expose] public section

noncomputable section

namespace Cert.Proof.Facts

open Idealize.ShloMosaic

abbrev SX : Shape := Cert.KernelIdeal.S1024x512

/-- A row is `n` nonzero indices, at least one, and then zeros. -/
structure Len (f : Fin 512 → BitVec 32) (n : Nat) : Prop where
  pos : 1 ≤ n
  le : n ≤ 512
  zero : ∀ l, f l = 0#32 ↔ n ≤ l.val

/-- A row whose first index is not 0, and in which a 0 is followed by a 0, has a length. -/
theorem exists_len (f : Fin 512 → BitVec 32) (h0 : f 0 ≠ 0#32) (hs : ∀ l : Fin 511, f ⟨l.val, by omega⟩ ≠ 0#32 ∨ f ⟨l.val + 1, by omega⟩ = 0#32) : ∃ n, Len f n := by
  classical
  let P : Nat → Prop := fun n => ∀ h : n < 512, f ⟨n, h⟩ = 0#32
  have hP : ∃ n, P n := ⟨512, fun h => absurd h (by omega)⟩
  have hmono : ∀ k n, P n → P (n + k) := by
    intro k
    induction k with
    | zero => intro n h; exact h
    | succ k ih =>
      intro n h hlt
      have := ih n h (by omega)
      rcases hs ⟨n + k, by omega⟩ with h' | h'
      · exact absurd this h'
      · exact h'
  refine ⟨Nat.find hP, ?_, Nat.find_min' hP (fun h => absurd h (by omega)), fun l => ⟨fun h => Nat.find_min' hP fun _ => h, fun h => ?_⟩⟩
  · rw [Nat.one_le_iff_ne_zero]
    intro h
    have := Nat.find_spec hP
    rw [h] at this
    exact h0 (this (by omega))
  · have := hmono (l.val - Nat.find hP) _ (Nat.find_spec hP)
    rw [Nat.add_sub_cancel' h] at this
    exact this l.isLt

/-- What the precondition says of the indices. -/
structure Good (x : IVec SX 32) : Prop where
  lt : ∀ i, (x i).toNat < 100000
  len : ∀ b : Fin 1024, ∃ n, Len (fun l => x (ix2 b l)) n

/-- The precondition gives these facts of the indices. -/
theorem good_of_pre {F : FTy → Type} [FloatOps F] (pk : IVec Cert.Pre_padded.S2x100000x128 32) (x : IVec SX 32) (w1 : FVec F Cert.Pre_padded.S512x300 .f32) (b1 : FVec F Cert.Pre_padded.S512 .f32)
    (w2 : FVec F Cert.Pre_padded.S5x512 .f32) (b2 : FVec F Cert.Pre_padded.S5 .f32)
    (h : @Cert.Pre_padded.fn Cert.Pre_padded.Gen.facts F _ pk x w1 b1 w2 b2 = fun _ => 1#1) : Good x := by
  have h1 := congrFun h Idealize.ShloMosaic.ix0
  dsimp only [Cert.Pre_padded.fn, Cert.Pre_padded.fn_part1] at h1
  obtain ⟨h2, h12⟩ := IntOp.andi_eq_one.1 h1
  obtain ⟨h13, h18⟩ := IntOp.andi_eq_one.1 h2
  have hlt : ∀ i, (x i).toNat < 100000 := by
    intro i
    have := Host.reduce_andi_all _ _ _ _ _ h13 i
    obtain ⟨ha, hb⟩ := IntOp.andi_eq_one.1 this
    have ha : (0#32 : BitVec 32).toInt ≤ (x i).toInt := IntOp.cmpi_sge.1 ha
    have hb : (x i).toInt < (100000#32 : BitVec 32).toInt := IntOp.cmpi_slt.1 hb
    have e := BitVec.toInt_eq_toNat_cond (x i)
    rw [show (0#32 : BitVec 32).toInt = 0 by decide] at ha
    rw [show (100000#32 : BitVec 32).toInt = 100000 by decide] at hb
    split at e <;> omega
  refine ⟨hlt, fun b => exists_len _ ?_ ?_⟩
  · have := IntOp.cmpi_ne.1 (Host.reduce_andi_all _ _ _ _ _ h18 (ix1 b))
    clear h h1 h2 h12 h13 h18 hlt
    revert this
    pointwise
    exact fun h => h
  · intro l
    have := Or.imp IntOp.cmpi_ne.1 IntOp.cmpi_eq.1 (IntOp.ori_eq_one.1 (Host.reduce_andi_all _ _ _ _ _ h12 (ix2 b l)))
    clear h h1 h2 h12 h13 h18 hlt
    revert this
    pointwise
    intro h
    have e : (⟨1 + l.val, by omega⟩ : Fin 512) = ⟨l.val + 1, by omega⟩ := Fin.ext (Nat.add_comm _ _)
    rwa [← e]

/-! ## The kernel's length -/

/-- The signed minimum over a list is at most the start and every value, and is one of them. -/
theorem foldl_min (g : SX.Idx → BitVec 32) : ∀ (L : List SX.Idx) (a : BitVec 32),
    (L.foldl (fun r i => IntOp.minsi r (g i)) a).toInt ≤ a.toInt ∧ (∀ i ∈ L, (L.foldl (fun r i => IntOp.minsi r (g i)) a).toInt ≤ (g i).toInt)
      ∧ (L.foldl (fun r i => IntOp.minsi r (g i)) a = a ∨ ∃ i ∈ L, L.foldl (fun r i => IntOp.minsi r (g i)) a = g i)
  | [], a => ⟨le_rfl, fun _ h => absurd h (List.not_mem_nil), Or.inl rfl⟩
  | i :: L, a => by
    obtain ⟨h1, h2, h3⟩ := foldl_min g L (IntOp.minsi a (g i))
    have hm : (IntOp.minsi a (g i)).toInt = min a.toInt (g i).toInt := by
      unfold IntOp.minsi; split
      · rename_i h; rw [BitVec.slt_iff_toInt_lt] at h; omega
      · rename_i h; rw [BitVec.slt_iff_toInt_lt] at h; omega
    have hc : IntOp.minsi a (g i) = a ∨ IntOp.minsi a (g i) = g i := by
      unfold IntOp.minsi; split
      · exact Or.inl rfl
      · exact Or.inr rfl
    simp only [List.foldl_cons]
    refine ⟨by omega, fun j hj => ?_, ?_⟩
    · rcases List.mem_cons.1 hj with rfl | hj
      · omega
      · exact h2 j hj
    · rcases h3 with h3 | ⟨j, hj, h3⟩
      · rcases hc with hc | hc
        · exact Or.inl (h3.trans hc)
        · exact Or.inr ⟨i, List.mem_cons_self, h3.trans hc⟩
      · exact Or.inr ⟨j, List.mem_cons_of_mem _ hj, h3⟩

/-- The candidate at a position: the position itself where the index is 0, else 512. -/
theorem sel_at (x : IVec SX 32) (b : Fin 1024) (l : Fin 512) : KHost.selK x (ix2 b l) = if x (ix2 b l) = 0#32 then BitVec.ofNat 32 l.val else 512#32 := by
  unfold KHost.selK
  pointwise
  unfold Scalar.select IntOp.cmpi
  by_cases h : x (ix2 b l) = 0#32
  · rw [if_pos h, h]; rfl
  · rw [if_neg h, show (x (ix2 b l) == 0#32) = false from beq_eq_false_iff_ne.2 h]; rfl

/-- A small number's word reads back as the number. -/
theorem toInt_small (k : Nat) (h : k ≤ 512) : (BitVec.ofNat 32 k).toInt = k := by
  rw [BitVec.toInt_eq_toNat_cond, BitVec.toNat_ofNat, Nat.mod_eq_of_lt (by omega), if_pos (by omega)]

/-- The reduction over the positions sends an index of the array to its row. -/
theorem drop_iff (i : SX.Idx) (b : Fin 1024) :
    (Cert.KernelIdeal.Gen.reducesTo_S1024x512_S1024_d1).drop i = ix1 b ↔ i 0 = b := by
  have hv : ((Cert.KernelIdeal.Gen.reducesTo_S1024x512_S1024_d1).drop i 0 : Nat) = i 0 :=
    Shape.ReducesTo.drop_apply_val_of_eq _ i 0 0
  constructor
  · intro h; rw [h] at hv; exact Fin.ext hv.symm
  · intro h; funext a; fin_cases a; exact Fin.ext (hv.trans (congrArg Fin.val h))

/-- The indices reduced into row `b` are those of row `b`. -/
theorem mem_fiber (i : SX.Idx) (b : Fin 1024) :
    i ∈ (((List.finRange SX.numel).map SX.rowMajor.symm).filter fun i => (Cert.KernelIdeal.Gen.reducesTo_S1024x512_S1024_d1).drop i = ix1 b) ↔ i 0 = b := by
  rw [List.mem_filter, decide_eq_true_iff, drop_iff]
  exact ⟨fun h => h.2, fun h => ⟨List.mem_map.2 ⟨SX.rowMajor i, List.mem_finRange _, Equiv.symm_apply_apply _ _⟩, h⟩⟩

/-- An index of row `b` is `b` with some position. -/
theorem row_eq (i : SX.Idx) (b : Fin 1024) (h : i 0 = b) : ∃ l : Fin 512, i = ix2 b l := by
  refine ⟨i 1, ?_⟩
  funext a; fin_cases a
  · exact h
  · rfl

/-- Every row's length as the kernel counts it. -/
theorem minK_eq (x : IVec SX 32) (b : Fin 1024) (n : Nat) (h : Len (fun l => x (ix2 b l)) n) : KHost.minK x (ix1 b) = BitVec.ofNat 32 n := by
  unfold KHost.minK
  rw [Host.reduce_eq_foldl]
  obtain ⟨-, h2, h3⟩ := foldl_min (KHost.selK x) (((List.finRange SX.numel).map SX.rowMajor.symm).filter fun i => (Cert.KernelIdeal.Gen.reducesTo_S1024x512_S1024_d1).drop i = ix1 b) 2147483647#32
  have hn := h.le
  have hex : ∃ l : Fin 512, KHost.selK x (ix2 b l) = BitVec.ofNat 32 n := by
    by_cases hlt : n < 512
    · exact ⟨⟨n, hlt⟩, by rw [sel_at, if_pos ((h.zero ⟨n, hlt⟩).2 le_rfl)]⟩
    · refine ⟨0, ?_⟩
      rw [sel_at, if_neg fun h' => ?_]
      · rw [show n = 512 by omega]
      · have := (h.zero 0).1 h'; have := h.pos; have e : ((0 : Fin 512) : Nat) = 0 := rfl; omega
  obtain ⟨l, hl⟩ := hex
  have hle := h2 (ix2 b l) ((mem_fiber _ _).2 rfl)
  rw [hl, toInt_small n hn] at hle
  rcases h3 with h3 | ⟨i, hi, h3⟩
  · rw [h3] at hle; rw [show (2147483647#32 : BitVec 32).toInt = 2147483647 by decide] at hle; omega
  · obtain ⟨k, rfl⟩ := row_eq i b ((mem_fiber _ _).1 hi)
    rw [sel_at] at h3
    by_cases hz : x (ix2 b k) = 0#32
    · have hnl := (h.zero k).1 hz
      rw [if_pos hz] at h3
      rw [h3, toInt_small _ k.isLt.le] at hle
      refine h3.trans (congrArg _ ?_)
      omega
    · rw [if_neg hz] at h3
      rw [h3, show (512#32 : BitVec 32).toInt = 512 by decide] at hle
      refine h3.trans ?_
      rw [show n = 512 by omega]

/-! ## The reference's length -/

/-- The reference's argmax over a list, read as a search: with no hit it gives position 0, and else the least position among the hits. -/
theorem foldl_arg (z : SX.Idx → BitVec 1) (y : SX.Idx → BitVec 32) (hy : ∀ i, 0 ≤ (y i).toInt) : ∀ (L : List SX.Idx) (a : BitVec 1 × BitVec 32),
    (a.1 = 0#1 → a.2 = 0#32) →
    let r := L.foldl (fun r i => Cert.ReferenceIdeal.reducer_argmax_i1_i32 r (z i, y i)) a
    (r.1 = 0#1 → r.2 = 0#32 ∧ a.1 = 0#1 ∧ ∀ i ∈ L, z i = 0#1)
      ∧ (r.1 = 1#1 → (a.1 = 1#1 → r.2.toInt ≤ a.2.toInt) ∧ (∀ i ∈ L, z i = 1#1 → r.2.toInt ≤ (y i).toInt) ∧ (a.1 = 1#1 ∧ r.2 = a.2 ∨ ∃ i ∈ L, z i = 1#1 ∧ r.2 = y i))
  | [], a, ha => ⟨fun h => ⟨ha h, h, fun _ h => absurd h List.not_mem_nil⟩, fun h => ⟨fun _ => le_rfl, fun _ h => absurd h List.not_mem_nil, Or.inl ⟨h, rfl⟩⟩⟩
  | i :: L, a, ha => by
    have hz : z i = 0#1 ∨ z i = 1#1 := by generalize z i = q; revert q; decide
    have ha1 : a.1 = 0#1 ∨ a.1 = 1#1 := by generalize a.1 = q; revert q; decide
    obtain ⟨a1, a2⟩ := a
    dsimp only at ha ha1
    have hred : Cert.ReferenceIdeal.reducer_argmax_i1_i32 (a1, a2) (z i, y i)
        = if a1 = 1#1 then (if z i = 1#1 then (1#1, if a2.toInt < (y i).toInt then a2 else y i) else (1#1, a2)) else (if z i = 1#1 then (1#1, y i) else (0#1, 0#32)) := by
      by_cases hlt : a2.toInt < (y i).toInt
      · have e : IntOp.cmpi .slt a2 (y i) = 1#1 := IntOp.cmpi_slt.2 hlt
        rcases ha1 with rfl | rfl <;> rcases hz with hz | hz <;> simp only [Cert.ReferenceIdeal.reducer_argmax_i1_i32, e, hz, if_pos hlt]
        · rw [ha rfl]; rfl
        · rfl
        · rfl
        · rfl
      · have e : IntOp.cmpi .slt a2 (y i) = 0#1 := by
          have := mt IntOp.cmpi_slt.1 hlt
          revert this; generalize IntOp.cmpi .slt a2 (y i) = q; revert q; decide
        rcases ha1 with rfl | rfl <;> rcases hz with hz | hz <;> simp only [Cert.ReferenceIdeal.reducer_argmax_i1_i32, e, hz, if_neg hlt]
        · have h0 := hy i
          rw [ha rfl, show (0#32 : BitVec 32).toInt = 0 by decide] at hlt
          have : y i = 0#32 := BitVec.eq_of_toInt_eq (by rw [show (0#32 : BitVec 32).toInt = 0 by decide]; omega)
          rw [this]; rfl
        · rfl
        · rfl
        · rfl
    have ih := foldl_arg z y hy L (Cert.ReferenceIdeal.reducer_argmax_i1_i32 (a1, a2) (z i, y i)) (by
      rw [hred]; intro h
      rcases ha1 with rfl | rfl <;> rcases hz with hz | hz <;> simp [hz] at h ⊢)
    intro r
    have hr : r = L.foldl (fun r i => Cert.ReferenceIdeal.reducer_argmax_i1_i32 r (z i, y i)) (Cert.ReferenceIdeal.reducer_argmax_i1_i32 (a1, a2) (z i, y i)) := rfl
    rw [← hr, hred] at ih
    clear_value r
    clear hr hred
    obtain ⟨ih0, ih1⟩ := ih
    rcases ha1 with rfl | rfl <;> rcases hz with hz | hz <;> simp [hz] at ih0 ih1 ⊢
    · exact ⟨fun h => ih0 h, fun h => ih1 h⟩
    · refine ⟨fun h => ih0 h, fun h => ?_⟩
      obtain ⟨h1, h2, h3⟩ := ih1 h
      exact ⟨⟨h1, h2⟩, h3⟩
    · exact ⟨fun h => ih0 h, fun h => ih1 h⟩
    · refine ⟨fun h => ih0 h, fun h => ?_⟩
      obtain ⟨h1, h2, h3⟩ := ih1 h
      by_cases hlt : a2.toInt < (y i).toInt
      · rw [if_pos hlt] at h1 h3
        exact ⟨h1, ⟨by omega, h2⟩, h3.imp id Or.inr⟩
      · rw [if_neg hlt] at h1 h3
        exact ⟨by omega, ⟨h1, h2⟩, Or.inr h3⟩

/-- The reference's test at a position says whether the index there is 0. -/
theorem zero_at (x : IVec SX 32) (b : Fin 1024) (l : Fin 512) :
    (cmpi .eq x (broadcastInDim SX ![] Cert.ReferenceIdeal.Gen.bcast_S_S1024x512 (constantI Cert.ReferenceIdeal.S_ 32 0#32)) : IVec SX 1) (ix2 b l) = 1#1 ↔ x (ix2 b l) = 0#32 := IntOp.cmpi_eq

/-- The position's number. -/
theorem iota_at (b : Fin 1024) (l : Fin 512) : (iotaInDim SX 32 1 : IVec SX 32) (ix2 b l) = BitVec.ofNat 32 l.val := rfl

/-- If `k` is the position of a hit and no hit has a smaller one, the search ends at `k`. -/
theorem arg_first (z : SX.Idx → BitVec 1) (y : SX.Idx → BitVec 32) (hy : ∀ i, 0 ≤ (y i).toInt) (L : List (Fin SX.numel)) (k : Nat) (hk : k ≤ 512)
    (h1 : ∃ n ∈ L, z (SX.rowMajor.symm n) = 1#1 ∧ y (SX.rowMajor.symm n) = BitVec.ofNat 32 k)
    (h2 : ∀ n ∈ L, z (SX.rowMajor.symm n) = 1#1 → (k : Int) ≤ (y (SX.rowMajor.symm n)).toInt) :
    (L.foldl (fun r n => Cert.ReferenceIdeal.reducer_argmax_i1_i32 r (z (SX.rowMajor.symm n), y (SX.rowMajor.symm n))) (0#1, 0#32)).2 = BitVec.ofNat 32 k := by
  have H := foldl_arg z y hy (L.map SX.rowMajor.symm) (0#1, 0#32) (fun _ => rfl)
  rw [List.foldl_map] at H
  dsimp only at H
  generalize List.foldl _ _ _ = r at H ⊢
  obtain ⟨H0, H1⟩ := H
  obtain ⟨n, hn, hz, hyk⟩ := h1
  have hr : r.1 = 0#1 ∨ r.1 = 1#1 := by generalize r.1 = q; revert q; decide
  rcases hr with hr | hr
  · have := (H0 hr).2.2 _ (List.mem_map_of_mem hn)
    rw [hz] at this; exact absurd this (by decide)
  · obtain ⟨-, H2, H3⟩ := H1 hr
    have hle := H2 _ (List.mem_map_of_mem hn) hz
    rw [hyk, toInt_small k hk] at hle
    rcases H3 with ⟨h, -⟩ | ⟨i, hi, hzi, hri⟩
    · exact absurd h (by decide)
    · obtain ⟨n', hn', rfl⟩ := List.mem_map.1 hi
      have := h2 n' hn' hzi
      rw [← hri] at this
      exact BitVec.eq_of_toInt_eq (by rw [toInt_small k hk]; omega)

/-- The same fiber, by the number of the index in row-major order. -/
theorem mem_fiber' (q : Fin SX.numel) (b : Fin 1024) :
    q ∈ ((List.finRange SX.numel).filter fun n => (Cert.KernelIdeal.Gen.reducesTo_S1024x512_S1024_d1).drop (SX.rowMajor.symm n) = ix1 b) ↔ (SX.rowMajor.symm q) 0 = b := by
  rw [List.mem_filter, decide_eq_true_iff, drop_iff]
  exact ⟨fun h => h.2, fun h => ⟨List.mem_finRange _, h⟩⟩

/-- The first zero of a row that has one, as the reference finds it. -/
theorem argR_eq (x : IVec SX 32) (b : Fin 1024) (n : Nat) (h : Len (fun l => x (ix2 b l)) n) (hlt : n < 512) : Ref.argR x (ix1 b) = BitVec.ofNat 32 n := by
  unfold Ref.argR
  rw [Host.reduce2_eq_foldl_fiber, Host.argReduceFiber, List.foldl_map]
  refine arg_first _ _ ?_ _ n hlt.le ?_ ?_
  · intro i
    obtain ⟨l, hl⟩ := row_eq i (i 0) rfl
    rw [hl]
    refine le_of_le_of_eq ?_ (toInt_small _ l.isLt.le).symm
    omega
  · refine ⟨SX.rowMajor (ix2 b ⟨n, hlt⟩), (mem_fiber' _ _).2 ?_, ?_⟩
    · rw [Equiv.symm_apply_apply]; rfl
    · rw [Equiv.symm_apply_apply]
      exact ⟨(zero_at x b ⟨n, hlt⟩).2 ((h.zero ⟨n, hlt⟩).2 le_rfl), rfl⟩
  · intro q hq hz
    obtain ⟨l, hl⟩ := row_eq _ b ((mem_fiber' _ _).1 hq)
    rw [hl] at hz ⊢
    have := (h.zero l).1 ((zero_at x b l).1 hz)
    refine le_of_le_of_eq ?_ (toInt_small _ l.isLt.le).symm
    omega

/-- The float word of 512 is 512. -/
theorem ofBits_512 : Ideal.ofBits .f32 1140850688#32 = ((512 : ℝ) : EReal) := by
  simp [Ideal.ofBits, Ideal.ieee, -EReal.coe_mul]; norm_num

/-- A row's length as the reference's float. -/
theorem lenR_eq (x : IVec SX 32) (b : Fin 1024) (n : Nat) (h : Len (fun l => x (ix2 b l)) n) : (Ref.lenR x : FVec Ideal Cert.ReferenceIdeal.S1024 .f32) (ix1 b) = ((n : ℝ) : EReal) := by
  unfold Ref.lenR
  pointwise
  have hn := h.le
  by_cases hz : x (ix2 b 511) = 0#32
  · have h511 := (h.zero 511).1 hz
    have e : ((511 : Fin 512) : Nat) = 511 := rfl
    rw [hz, argR_eq x b n h (by omega)]
    change (((BitVec.ofNat 32 n).toInt : ℝ) : EReal) = _
    rw [toInt_small n hn]; rfl
  · have h511 := mt (h.zero 511).2 hz
    have e : ((511 : Fin 512) : Nat) = 511 := rfl
    have e1 : IntOp.cmpi .ne (x (ix2 b 511)) 0#32 = 1#1 := IntOp.cmpi_ne.2 hz
    rw [e1, ofBits_512, show n = 512 by omega]
    change ((512 : ℝ) : EReal) = _
    norm_num

/-! ## What the kernel assumes of the words it reads -/

/-- An index inside the table passes the look-up's bounds. -/
theorem chk2 (v : BitVec 32) (h : v.toNat < 100000) : Cert.KernelIdeal.k0_chk2 v := by
  intro a
  have h0 : Cert.KernelIdeal.k0_off3 v = ![v.toNat, 0, 0] := by
    unfold Cert.KernelIdeal.k0_off3
    rfl
  rw [h0]
  fin_cases a
  · show v.toNat + 1 ≤ 100000; omega
  · show 0 + 1 ≤ 1; omega
  · show 0 + 128 ≤ 128; omega

/-- The kernel's lengths are at most 512. -/
theorem minK_le (x : IVec SX 32) (hx : Good x) (j : Cert.KernelIdeal.S1024.Idx) : (KHost.minK x j : BitVec 32).toNat ≤ 512 := by
  have hj : j = ix1 (j 0) := by funext a; fin_cases a; rfl
  obtain ⟨n, hn⟩ := hx.len (j 0)
  rw [hj]
  refine le_of_eq_of_le (congrArg BitVec.toNat (minK_eq x (j 0) n hn)) ?_
  have := hn.le
  rw [BitVec.toNat_ofNat, Nat.mod_eq_of_lt (by omega)]; exact this

open Cert.KernelIdeal Cert.KernelIdeal.Gen Idealize.SL.Sem in
/-- At the pooling call every index passes the look-up's bounds. -/
theorem hx_of {F : FTy → Type} [FloatOps F] (m : (ℓ : Loc nD τ sig) → Buf (Elt F) ℓ) (hg : ∀ c : Dev nD, Good (m ((c.tc : Thread nD τ).loc main_arg1))) (c : Dev nD) (i) :
    k0_chk2 (Segs.VA m c main_arg1 i) := by
  have e := KHost.V3_arg1 m c
  refine chk2 _ ?_
  unfold Segs.VA
  rw [e]
  exact (hg c).lt i

open Cert.KernelIdeal Cert.KernelIdeal.Gen Idealize.SL.Sem in
/-- At the pooling call every length is at most 512. -/
theorem hl_of {F : FTy → Type} [FloatOps F] (m : (ℓ : Loc nD τ sig) → Buf (Elt F) ℓ) (hg : ∀ c : Dev nD, Good (m ((c.tc : Thread nD τ).loc main_arg1))) (c : Dev nD) (i) :
    (Segs.VA m c main_v6 i : BitVec 32).toNat ≤ 512 := by
  have e := KHost.V3_v6 m c
  unfold Segs.VA
  rw [e]
  exact minK_le _ (hg c) _

end Cert.Proof.Facts
-- ==== Proof.Frames.lean ====
/-
  The frames: under the precondition the kernel runs to the end with its arguments unchanged and every counter back at
  zero, at the words and at the extended reals; so does the reference.
-/
module

public import proofs.«01_k».proof.Defs
public import proofs.«01_k».proof.Proof.Facts
public import proofs.«01_k».proof.Proof.Gen.Kernel

@[expose] public section

noncomputable section

namespace Cert.Proof.Frames

open Idealize.ShloMosaic Idealize.SL.Sem

attribute [local instance] Cert.Kernel.Gen.facts Cert.KernelIdeal.Gen.facts Cert.ReferenceIdeal.Gen.facts Cert.Pre_padded.Gen.facts

section
open Cert.KernelIdeal

/-- The kernel's run under the precondition's consequences, with its arguments unchanged. -/
def RunsI (F : FTy → Type) [FloatOps F] : Prop := ∀ (m : (ℓ : Loc nD τ sig) → Buf (Elt F) ℓ) (g : Dev nD → PrngReg),
    (∀ c : Dev nD, Facts.Good (m ((c.tc : Thread nD τ).loc main_arg1))) →
    θ_run (defs (F := F)) (onTc (τ := τ) (main (F := F))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) ∧ r.2.sem = fun _ => 0)

/-- The kernel's run, for either reading of the floats. -/
theorem runsI {F : FTy → Type} [FloatOps F] : RunsI F := fun m g hg =>
  (θ_run _ _ _).mono (fun _ h => ⟨fun c => (h.1 c).2, h.2⟩) (Segs.run m (Facts.hx_of m hg) (Facts.hl_of m hg) g)
end

section
open Cert.Kernel

/-- The same of the program before the idealization, which is the same program. -/
def RunsK (F : FTy → Type) [FloatOps F] : Prop := ∀ (m : (ℓ : Loc nD τ sig) → Buf (Elt F) ℓ) (g : Dev nD → PrngReg),
    (∀ c : Dev nD, Facts.Good (m ((c.tc : Thread nD τ).loc main_arg1))) →
    θ_run (defs (F := F)) (onTc (τ := τ) (main (F := F))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) ∧ r.2.sem = fun _ => 0)

/-- The two statements are one. -/
theorem runs_eq : RunsI Bits = RunsK Bits := by chain_rfl
end

/-- The frame of the kernel's program. -/
theorem frame_p : Cert.quiescent_Kernel := fun m g hpre =>
  (runs_eq ▸ runsI (F := Bits) : RunsK Bits) m g fun c => Facts.good_of_pre _ _ _ _ _ _ (hpre c)

/-- The frame of the idealized program. -/
theorem frame_pi : Cert.quiescent_KernelIdeal := fun m g hpre =>
  runsI m g fun c => Facts.good_of_pre _ _ _ _ _ _ (hpre c)

/-- The frame of the reference. -/
theorem frame_ri : Cert.quiescent_ReferenceIdeal := fun m g _ =>
  (θ_run _ _ _).mono (fun _ h => ⟨fun c =>
    ⟨(h.1 c _).trans (Ref.readArg0 _), (h.1 c _).trans (Ref.readArg1 _), (h.1 c _).trans (Ref.readArg2 _), (h.1 c _).trans (Ref.readArg3 _), (h.1 c _).trans (Ref.readArg4 _), (h.1 c _).trans (Ref.readArg5 _)⟩, h.2⟩)
    (Ref.run m g)

end Cert.Proof.Frames
-- ==== Proof.PoolVal.lean ====
/-
  The pooled block at the extended reals: each lane of a row is the sum of that lane over the row's 512 table rows, times
  one over the row's length.
-/
module

public import proofs.«01_k».proof.Proof.PoolPure
public import proofs.«01_k».proof.Proof.Facts
public import Idealize.ShloMosaic.Lib.Pointwise
public import Idealize.ShloMosaic.Lib.IdealHost

@[expose] public section

noncomputable section

namespace Cert.Proof.Pool

open Cert.KernelIdeal Cert.KernelIdeal.Gen
open Idealize.ShloMosaic Idealize.SL.Sem

/-! ## Operators at an index -/

/-- The two halves of a packed word as extended reals. -/
def hiE (w : BitVec 32) : EReal := Ideal.ofBits .f32 (IntOp.andi w 4294901760#32)
def loE (w : BitVec 32) : EReal := Ideal.ofBits .f32 (IntOp.shli ArithUnit.vector w 16#32)

/-- The high halves of a row, lane by lane. -/
theorem hi_at (w : Vec Ideal S1x1x128 .i32) (q : Fin 128) : hi w (ix2 0 q) = hiE (w (ix3 0 0 q)) := by
  unfold hi hiE
  pointwise
/-- The low halves of a row, lane by lane. -/
theorem lo_at (w : Vec Ideal S1x1x128 .i32) (q : Fin 128) : lo w (ix2 0 q) = loE (w (ix3 0 0 q)) := by
  unfold lo loE
  pointwise

/-- The number of positions past the last chunk. -/
theorem rem_le : ∀ k : Fin 33, (Scalar.subi (512#32) (Scalar.muli (BitVec.ofNat 32 k.val) 16#32)).toInt = 512 - 16 * k.val := by decide +kernel

/-- The left half of a finished row: the sum of high halves and row 0 for the rest. -/
theorem rowOf_left (a b : FVec Ideal S1x128 .f32) (n : BitVec 32) (c : Acc Ideal) (q : Fin 128) :
    rowOf a b n c (ix2 0 ⟨q.val, by omega⟩) = c.1 (ix2 0 q) + a (ix2 0 q) * (((Scalar.subi (512#32) (Scalar.muli n 16#32)).toInt : ℝ) : EReal) := by
  unfold rowOf rowHi remf
  pointwise
/-- The right half of a finished row: the sum of low halves and row 0 for the rest. -/
theorem rowOf_right (a b : FVec Ideal S1x128 .f32) (n : BitVec 32) (c : Acc Ideal) (q : Fin 128) :
    rowOf a b n c (ix2 0 ⟨128 + q.val, by omega⟩) = c.2 (ix2 0 q) + b (ix2 0 q) * (((Scalar.subi (512#32) (Scalar.muli n 16#32)).toInt : ℝ) : EReal) := by
  unfold rowOf rowHi remf
  pointwise
/-- An element of the block: the row's sum times the reciprocal of its length. -/
theorem block_at (s : FVec Ideal S8x256 .f32) (io : IVec S8x512 32) (x : Vec Ideal S8x512 .i32) (r : Fin 8) (q : Fin 256) :
    blockOf s io x (ix4 r 0 0 q) = s (ix2 r q) * recip io x (ix2 r 0) := by
  unfold blockOf
  pointwise

/-- The signed minimum over a finite set is at most every value, and is the start or one of them. -/
theorem fold_min {ι : Type} [DecidableEq ι] (g : ι → BitVec 32) (a : BitVec 32) (S : Finset ι) :
    (∀ i ∈ S, (S.fold IntOp.minsi a g).toInt ≤ (g i).toInt) ∧ (S.fold IntOp.minsi a g = a ∨ ∃ i ∈ S, S.fold IntOp.minsi a g = g i) := by
  induction S using Finset.induction_on with
  | empty => exact ⟨fun _ h => absurd h (Finset.notMem_empty _), Or.inl Finset.fold_empty⟩
  | insert i S hi ih =>
    obtain ⟨h2, h3⟩ := ih
    rw [Finset.fold_insert hi]
    generalize S.fold IntOp.minsi a g = r at h2 h3
    have hm : (IntOp.minsi (g i) r).toInt = min (g i).toInt r.toInt := by
      unfold IntOp.minsi; split
      · rename_i h; rw [BitVec.slt_iff_toInt_lt] at h; omega
      · rename_i h; rw [BitVec.slt_iff_toInt_lt] at h; omega
    have hc : IntOp.minsi (g i) r = g i ∨ IntOp.minsi (g i) r = r := by
      unfold IntOp.minsi; split
      · exact Or.inl rfl
      · exact Or.inr rfl
    refine ⟨fun j hj => ?_, ?_⟩
    · rcases Finset.mem_insert.1 hj with rfl | hj
      · omega
      · have := h2 j hj; omega
    · rcases hc with hc | hc
      · exact Or.inr ⟨i, Finset.mem_insert_self _ _, hc⟩
      · rcases h3 with h3 | ⟨j, hj, h3⟩
        · exact Or.inl (hc.trans h3)
        · exact Or.inr ⟨j, Finset.mem_insert_of_mem hj, hc.trans h3⟩

/-- The candidate for the length at a position. -/
theorem sel_word (v : BitVec 32) (k : BitVec 32) : Scalar.select (IntOp.cmpi .eq v 0#32) k 512#32 = if v = 0#32 then k else 512#32 := by
  unfold Scalar.select IntOp.cmpi
  by_cases h : v = 0#32
  · rw [if_pos h, h]; rfl
  · rw [if_neg h, show (v == 0#32) = false from beq_eq_false_iff_ne.2 h]; rfl

/-- The least position of a zero, or the row's size. -/
theorem fold_len (f : Fin 512 → BitVec 32) (n : Nat) (h : Facts.Len f n) :
    Finset.fold IntOp.minsi (2147483647#32) (fun l : Fin 512 => Scalar.select (IntOp.cmpi .eq (f l) 0#32) (BitVec.ofNat 32 l.val) 512#32) Finset.univ = BitVec.ofNat 32 n := by
  obtain ⟨h2, h3⟩ := fold_min (fun l : Fin 512 => Scalar.select (IntOp.cmpi .eq (f l) 0#32) (BitVec.ofNat 32 l.val) 512#32) 2147483647#32 Finset.univ
  generalize Finset.fold (IntOp.minsi (w := 32)) (2147483647#32) (fun l : Fin 512 => Scalar.select (IntOp.cmpi .eq (f l) 0#32) (BitVec.ofNat 32 l.val) 512#32) Finset.univ = r at h2 h3 ⊢
  have hn := h.le
  have hex : ∃ l : Fin 512, (if f l = 0#32 then BitVec.ofNat 32 l.val else 512#32) = BitVec.ofNat 32 n := by
    by_cases hlt : n < 512
    · exact ⟨⟨n, hlt⟩, by rw [if_pos ((h.zero ⟨n, hlt⟩).2 le_rfl)]⟩
    · refine ⟨0, ?_⟩
      rw [if_neg fun h' => ?_]
      · rw [show n = 512 by omega]
      · have := (h.zero 0).1 h'; have := h.pos; have e : ((0 : Fin 512) : Nat) = 0 := rfl; omega
  obtain ⟨l, hl⟩ := hex
  have hle := h2 l (Finset.mem_univ _)
  rw [sel_word, hl, Facts.toInt_small n hn] at hle
  rcases h3 with h3 | ⟨k, -, h3⟩
  · rw [h3, show (2147483647#32 : BitVec 32).toInt = 2147483647 by decide] at hle; omega
  · rw [sel_word] at h3
    by_cases hz : f k = 0#32
    · have hnl := (h.zero k).1 hz
      rw [if_pos hz] at h3
      rw [h3, Facts.toInt_small _ k.isLt.le] at hle
      exact h3.trans (congrArg _ (by omega))
    · rw [if_neg hz] at h3
      rw [h3, show (512#32 : BitVec 32).toInt = 512 by decide] at hle
      exact h3.trans (by rw [show n = 512 by omega])

/-- The reciprocal of a row's length. -/
theorem recip_at (x : Vec Ideal S8x512 .i32) (r : Fin 8) (n : Nat) (h : Facts.Len (fun l => x (ix2 r l)) n) :
    recip (F := Ideal) (iota .tc S8x512 32 [1] iota_S8x512_d1_w32) x (ix2 r 0) = Ideal.div 1 ((n : ℝ) : EReal) := by
  unfold recip
  pointwise
  have e := fold_len _ n h
  refine congrArg (Ideal.div 1) ?_
  refine (congrArg (FloatOps.sitofp (F := Ideal) FTy.f32) e).trans ?_
  change (((BitVec.ofNat 32 n).toInt : ℝ) : EReal) = _
  rw [Facts.toInt_small n h.le]; rfl

/-- The stacked rows, row by row. -/
theorem stack_at (r : Fin 8 → FVec Ideal S1x256 .f32) (q : Fin 256) (k : Fin 8) : stack (r 0) (r 1) (r 2) (r 3) (r 4) (r 5) (r 6) (r 7) (ix2 k q) = r k (ix2 0 q) := by
  unfold stack
  pointwise
  fin_cases k <;> rfl

/-- The four partial sums of a chunk add up to the chunk's sum. -/
theorem sum16_at (g : Fin 16 → FVec Ideal S1x128 .f32) (q : Fin 128) : sum16 g (ix2 0 q) = ∑ j, g j (ix2 0 q) := by
  have h : ∀ a : Fin 16 → EReal, (((a 0 + a 4) + a 8) + a 12 + (((a 1 + a 5) + a 9) + a 13)) + ((((a 2 + a 6) + a 10) + a 14) + (((a 3 + a 7) + a 11) + a 15)) = ∑ j, a j := by
    intro a
    have e : ∑ j, a j = a 0 + (a 1 + (a 2 + (a 3 + (a 4 + (a 5 + (a 6 + (a 7 + (a 8 + (a 9 + (a 10 + (a 11 + (a 12 + (a 13 + (a 14 + a 15)))))))))))))) := by
      simp only [Fin.sum_univ_succ, Fin.sum_univ_zero, add_zero]; rfl
    rw [e]
    ac_rfl
  exact h fun j => g j (ix2 0 q)

/-! ## The sums -/

section Sums

variable (xb : Vec Ideal S8x512 .i32) (lb : Vec Ideal S1x1x8 .i32) (tb : Vec Ideal S100000x1x128 .i32)

/-- The table row a word names. -/
def tidx (v : BitVec 32) : Fin 100000 := ⟨v.toNat % 100000, Nat.mod_lt _ (by omega)⟩

/-- A row and a position lie inside the block. -/
theorem offs_at (r : Fin 8) (l : Fin 512) : Inb ![r.val, l.val] := by
  intro a; fin_cases a
  · show r.val + 1 ≤ 8; omega
  · show l.val + 1 ≤ 512; omega

/-- The index read at a row and a position. -/
theorem word_at (r : Fin 8) (l : Fin 512) (h) : wordF xb ![r.val, l.val] h = xb (ix2 r l) := by
  unfold wordF
  refine congrArg xb ?_
  funext a; fin_cases a
  · exact Fin.ext (show r.val + 1 * 0 = r.val by omega)
  · exact Fin.ext (show l.val + 1 * 0 = l.val by omega)

/-- The table row read at a row and a position. -/
theorem look_at (r : Fin 8) (l : Fin 512) (q : Fin 128) (hx : (xb (ix2 r l)).toNat < 100000) :
    lookF xb tb ![r.val, l.val] (ix3 0 0 q) = tb (ix3 (tidx (xb (ix2 r l))) 0 q) := by
  unfold lookF
  have hv : k0_chk2 (wordF xb ![r.val, l.val] (offs_at r l)) := by rw [word_at]; exact Facts.chk2 _ hx
  rw [dif_pos (offs_at r l), dif_pos hv]
  unfold rowF
  refine congrArg tb ?_
  have h0 : (wordF xb ![r.val, l.val] (offs_at r l)).toNat = (tidx (xb (ix2 r l))).val := by
    rw [word_at]; exact (Nat.mod_eq_of_lt hx).symm
  funext a; fin_cases a
  · exact Fin.ext (show (wordF xb ![r.val, l.val] (offs_at r l)).toNat + 1 * 0 = _ by rw [h0]; rfl)
  · exact Fin.ext (show 0 + 1 * 0 = 0 by omega)
  · exact Fin.ext (show 0 + 1 * q.val = q.val by omega)

/-- A lane of a row's sum, word by word: `d` reads the half. -/
def term (d : BitVec 32 → EReal) (r : Fin 8) (q : Fin 128) (l : Nat) : EReal :=
  if h : l < 512 then d (tb (ix3 (tidx (xb (ix2 r ⟨l, h⟩))) 0 q)) else 0

/-- The sum over 512 numbered positions is the sum over the positions. -/
theorem sum_range_term (d : BitVec 32 → EReal) (r : Fin 8) (q : Fin 128) :
    ∑ l ∈ Finset.range 512, term xb tb d r q l = ∑ l : Fin 512, d (tb (ix3 (tidx (xb (ix2 r l))) 0 q)) := by
  rw [Finset.sum_range]
  exact Finset.sum_congr rfl fun l _ => by unfold term; rw [dif_pos l.isLt]

/-- One more chunk of 16 terms. -/
theorem sum_step (g : Nat → EReal) (t : Nat) : ∑ l ∈ Finset.range (16 * (t + 1)), g l = ∑ l ∈ Finset.range (16 * t), g l + ∑ j : Fin 16, g (16 * t + j.val) := by
  rw [show 16 * (t + 1) = 16 * t + 16 by ring, Finset.sum_range_add, Finset.sum_range (n := 16)]

variable (hx : ∀ i, (xb i).toNat < 100000)
include hx

/-- After `t` chunks the accumulators hold the sums of the first `16 t` rows. -/
theorem acc_at (r : Fin 8) (q : Fin 128) : ∀ t, t ≤ 32 →
    (accF xb tb r.val t).1 (ix2 0 q) = ∑ l ∈ Finset.range (16 * t), term xb tb hiE r q l
      ∧ (accF xb tb r.val t).2 (ix2 0 q) = ∑ l ∈ Finset.range (16 * t), term xb tb loE r q l := by
  intro t
  induction t with
  | zero =>
    intro _
    have h0 : (zero128 : FVec Ideal S1x128 .f32) (ix2 0 q) = 0 := Ideal.ofBits_zero_f32
    exact ⟨h0.trans (by simp), h0.trans (by simp)⟩
  | succ t ih =>
    intro ht
    obtain ⟨i1, i2⟩ := ih (by omega)
    have hj : ∀ j : Fin 16, lookF xb tb (offs r.val (Scf.iv 0#32 1#32 t) j) (ix3 0 0 q) = tb (ix3 (tidx (xb (ix2 r ⟨16 * t + j.val, by omega⟩))) 0 q) := fun j => by
      rw [offs_eq r.val ⟨t, by omega⟩ j]
      exact look_at xb tb r ⟨16 * t + j.val, by omega⟩ q (hx _)
    rw [sum_step, sum_step, ← i1, ← i2]
    constructor
    · show (accF xb tb r.val t).1 (ix2 0 q) + sum16 (fun j => hi (lookF xb tb (offs r.val (Scf.iv 0#32 1#32 t) j))) (ix2 0 q) = _
      rw [sum16_at]
      refine congrArg (_ + ·) (Finset.sum_congr rfl fun j _ => ?_)
      rw [hi_at, hj]; unfold term; rw [dif_pos]
    · show (accF xb tb r.val t).2 (ix2 0 q) + sum16 (fun j => lo (lookF xb tb (offs r.val (Scf.iv 0#32 1#32 t) j))) (ix2 0 q) = _
      rw [sum16_at]
      refine congrArg (_ + ·) (Finset.sum_congr rfl fun j _ => ?_)
      rw [lo_at, hj]; unfold term; rw [dif_pos]

omit hx in
/-- The words past the last chunk are zero, so what is left of the sum is so many times row 0. -/
theorem tail_sum (d : BitVec 32 → EReal) (r : Fin 8) (q : Fin 128) (n : Nat) (h : Facts.Len (fun l => xb (ix2 r l)) n) (k : Nat) (hk : n ≤ 16 * k) (hk' : k ≤ 32) :
    ∑ l ∈ Finset.range 512, term xb tb d r q l = ∑ l ∈ Finset.range (16 * k), term xb tb d r q l + d (tb (ix3 0 0 q)) * ((512 - 16 * (k : ℤ) : ℤ) : ℝ) := by
  obtain ⟨m, hm⟩ : ∃ m, 512 = 16 * k + m := ⟨512 - 16 * k, by omega⟩
  rw [hm, Finset.sum_range_add]
  refine congrArg (_ + ·) ?_
  have e : ∀ l ∈ Finset.range m, term xb tb d r q (16 * k + l) = d (tb (ix3 0 0 q)) := fun l hl => by
    have hl := Finset.mem_range.1 hl
    unfold term
    rw [dif_pos (by omega), (h.zero ⟨16 * k + l, by omega⟩).2 (by show n ≤ 16 * k + l; omega)]
    rfl
  rw [Finset.sum_congr rfl e, Finset.sum_const, Finset.card_range, EReal.nsmul_eq_mul, mul_comm]
  refine congrArg (_ * ·) ?_
  rw [show (512 - 16 * (k : ℤ) : ℤ) = (m : ℤ) by omega]
  norm_cast

omit hx in
/-- A length in its block. -/
theorem first_at (r : Fin 8) : lenF lb r = lb (ix3 0 0 r) := by
  unfold lenF
  refine congrArg lb ?_
  funext a; fin_cases a
  · exact Fin.ext (show 0 + 1 * 0 = 0 by omega)
  · exact Fin.ext (show 0 + 1 * 0 = 0 by omega)
  · exact Fin.ext (show r.val + 1 * 0 = r.val by omega)

omit hx in
/-- Row 0 of the plane. -/
theorem row0_at (q : Fin 128) : row0F tb (ix3 0 0 q) = tb (ix3 0 0 q) := by
  unfold row0F
  refine congrArg tb ?_
  funext a; fin_cases a
  · exact Fin.ext (show 0 + 1 * 0 = 0 by omega)
  · exact Fin.ext (show 0 + 1 * 0 = 0 by omega)
  · exact Fin.ext (show 0 + 1 * q.val = q.val by omega)

/-- A row's sum in both halves of its lanes. -/
theorem pool_at (r : Fin 8) (q : Fin 128) (n : Nat) (h : Facts.Len (fun l => xb (ix2 r l)) n) (hl : lb (ix3 0 0 r) = BitVec.ofNat 32 n) :
    poolF xb lb tb r (ix2 0 ⟨q.val, by omega⟩) = ∑ l : Fin 512, hiE (tb (ix3 (tidx (xb (ix2 r l))) 0 q))
      ∧ poolF xb lb tb r (ix2 0 ⟨128 + q.val, by omega⟩) = ∑ l : Fin 512, loE (tb (ix3 (tidx (xb (ix2 r l))) 0 q)) := by
  have hle := h.le
  have hk : (n + 15) / 16 ≤ 32 := by omega
  unfold poolF
  rw [first_at, hl, nch_le ⟨n, by omega⟩, tripsA_le ⟨n, by omega⟩, rowOf_left, rowOf_right, rem_le ⟨(n + 15) / 16, by omega⟩, hi_at, lo_at, row0_at]
  obtain ⟨a1, a2⟩ := acc_at xb tb hx r q ((n + 15) / 16) hk
  rw [a1, a2, ← sum_range_term, ← sum_range_term]
  rw [tail_sum xb tb hiE r q n h ((n + 15) / 16) (by omega) hk, tail_sum xb tb loE r q n h ((n + 15) / 16) (by omega) hk]
  exact ⟨rfl, rfl⟩

/-- Lane `Q` of a table row: the upper halves, then the lower ones. -/
def lane (f : Fin 128 → BitVec 32) (Q : Fin 256) : EReal :=
  if h : Q.val < 128 then hiE (f ⟨Q.val, h⟩) else loE (f ⟨Q.val - 128, by omega⟩)

/-- The block at an index. -/
theorem blockF_at (r : Fin 8) (Q : Fin 256) (n : Nat) (h : Facts.Len (fun l => xb (ix2 r l)) n) (hl : lb (ix3 0 0 r) = BitVec.ofNat 32 n) :
    blockF xb lb tb (ix4 r 0 0 Q) = (∑ l : Fin 512, lane (fun q => tb (ix3 (tidx (xb (ix2 r l))) 0 q)) Q) * Ideal.div 1 ((n : ℝ) : EReal) := by
  unfold blockF sumsF
  have hw : (fun y => xb ((Rect.unit (s := S8x512) ![0, 0] S8x512.size inb_S8x512_S8x512_0_0).emb y)) = xb := by
    funext y
    refine congrArg xb ?_
    funext a; fin_cases a <;> exact Fin.ext (by simp)
  rw [block_at, stack_at (fun r => poolF xb lb tb r)]
  refine congrArg₂ (· * ·) ?_ ((congrFun (congrArg (recip (F := Ideal) _) hw) _).trans (recip_at xb r n h))
  unfold lane
  by_cases hQ : Q.val < 128
  · simp only [dif_pos hQ]
    exact (pool_at xb lb tb hx r ⟨Q.val, hQ⟩ n h hl).1
  · simp only [dif_neg hQ]
    have e := (pool_at xb lb tb hx r ⟨Q.val - 128, by omega⟩ n h hl).2
    rw [← e]
    refine congrArg (poolF xb lb tb r) (congrArg (ix2 0) (Fin.ext ?_))
    show Q.val = 128 + (Q.val - 128); omega

end Sums

end Cert.Proof.Pool
-- ==== Proof.PoolFinal.lean ====
/-
  The pooling call's final array as a function of the buffers it is entered with.
-/
module

public import proofs.«01_k».proof.Proof.PoolVal
public import proofs.«01_k».proof.Proof.PoolDat
public import Idealize.ShloMosaic.Lib.Pipeline.ValueKit

@[expose] public section

noncomputable section

namespace Cert.Proof.Pool

open Cert.KernelIdeal Cert.KernelIdeal.Gen
open Idealize.ShloMosaic Idealize.ShloMosaic.TcCoe Idealize.SL.Sem

/-- The pooled array: at row `b`, plane `e`, lane `Q`, the sum of lane `Q` of plane `e` over the row's 512 words, times
    one over the row's length. -/
def poolG (T : Vec Ideal S2x100000x128 .i32) (X : Vec Ideal S1024x512 .i32) (n : Fin 1024 → Nat) : FVec Ideal S1024x2x1x256 .f32 := fun i =>
  (∑ l : Fin 512, lane (fun q => T (ix3 (i 1) (tidx (X (ix2 (i 0) l))) q)) (i 3)) * Ideal.div 1 ((n (i 0) : ℝ) : EReal)

/-- The block of indices at a point is the second coordinate. -/
theorem idx0 : ∀ t : Fin cfg0.N, win0_0.index t = ![(grid0.coords t 1).val, 0] := (by decide +kernel : ∀ t : Fin grid0.N, _)
/-- The block of lengths at a point is the second coordinate. -/
theorem idx1 : ∀ t : Fin cfg0.N, win0_1.index t = ![(grid0.coords t 1).val, 0, 0] := (by decide +kernel : ∀ t : Fin grid0.N, _)
/-- The block written at a point: the second coordinate's rows, in the first coordinate's half. -/
theorem idx3 : ∀ t : Fin cfg0.N, win0_3.index t = ![(grid0.coords t 1).val, (grid0.coords t 0).val, 0, 0] := (by decide +kernel : ∀ t : Fin grid0.N, _)

/-- What the pooling call leaves. -/
theorem pool_final (V : (c : Dev nD) → (b : Ref sig .tc) → Buf (Elt Ideal) ((c : Thread nD τ).loc b)) (c : Dev nD)
    (T : Vec Ideal S2x100000x128 .i32) (X : Vec Ideal S1024x512 .i32) (L : Vec Ideal S128x1x8 .i32) (n : Fin 1024 → Nat)
    (hT : V c main_arg0 = T) (hX : V c main_arg1 = X) (hL : V c main_v6 = L)
    (hx : ∀ i, (X i).toNat < 100000) (hn : ∀ b : Fin 1024, Facts.Len (fun l => X (ix2 b l)) (n b))
    (hl : ∀ (k : Fin 128) (r : Fin 8), L (ix3 k 0 r) = BitVec.ofNat 32 (n ⟨8 * k.val + r.val, by omega⟩)) :
    (dat0 V c).arrAt 3 cfg0.N = poolG T X n := by
  refine (dat0 V c).arrAt_eq_of_covers 3 _ (by decide +kernel) fun t hf y => ?_
  blk_simp
  show blockF (xblk V c t) (lblk V c t) (plane V c t) y = _
  obtain ⟨r, a, b, Q, rfl⟩ : ∃ (r : Fin 8) (a b : Fin 1) (Q : Fin 256), y = ix4 r a b Q := ⟨_, _, _, _, eq_ix4 y⟩
  obtain rfl : a = 0 := Subsingleton.elim _ _
  obtain rfl : b = 0 := Subsingleton.elim _ _
  have hk : (grid0.coords t 1).val < 128 := (grid0.coords t 1).isLt
  have he : (grid0.coords t 0).val < 2 := (grid0.coords t 0).isLt
  generalize hkk : (grid0.coords t 1).val = k at hk
  have e0 : ∀ (r : Fin 8) (l : Fin 512), xblk V c t (ix2 r l) = X (ix2 ⟨8 * k + r.val, by omega⟩ l) := fun r l => by
    subst hX
    refine congrArg (V c main_arg1) ?_
    blk_ext [idx0, hkk]
  have e1 : ∀ r : Fin 8, lblk V c t (ix3 0 0 r) = L (ix3 ⟨k, hk⟩ 0 r) := fun r => by
    subst hL
    refine congrArg (V c main_v6) ?_
    blk_ext [idx1, hkk]
  have e3 : (win0_3.blk t).view.emb (ix4 r 0 0 Q) = ix4 (⟨8 * k + r.val, by omega⟩ : Fin 1024) (⟨(grid0.coords t 0).val, he⟩ : Fin 2) (0 : Fin 1) Q := by
    blk_ext [idx3, hkk]
  rw [e3]
  have ex : ∀ i, (xblk V c t i).toNat < 100000 := fun i => by
    obtain ⟨r, l, rfl⟩ : ∃ (r : Fin 8) (l : Fin 512), i = ix2 r l := ⟨_, _, eq_ix2 i⟩
    rw [e0]; exact hx _
  have en : Facts.Len (fun l => xblk V c t (ix2 r l)) (n ⟨8 * k + r.val, by omega⟩) := by
    simp only [e0]; exact hn _
  rw [blockF_at _ _ _ ex r Q _ en ((e1 r).trans (hl ⟨k, hk⟩ r))]
  simp only [e0]
  subst hT
  rfl

end Cert.Proof.Pool

end
-- ==== Proof.ValAt.lean ====
/-
  The host operations of both programs, the perceptron block and the packed table, each read at an index.
-/
module

public import proofs.«01_k».proof.Proof.PoolVal
public import proofs.«01_k».proof.Proof.KHost
public import proofs.«01_k».proof.Proof.MlpDat
public import proofs.«01_k».proof.Proof.RefRun
public import Idealize.ShloMosaic.Lib.Pointwise
public import Idealize.ShloMosaic.Lib.Pointwise.Contract
public import Idealize.ShloMosaic.Lib.Routing.OpsSet
public import Idealize.ShloMosaic.Lib.Routing.OpsPair

@[expose] public section
noncomputable section
namespace Cert.Proof.Val
open Cert.KernelIdeal Cert.KernelIdeal.Gen
open Idealize.ShloMosaic Idealize.SL.Sem

/-- An element of the second call's block: the two layers of its row. -/
theorem mlpF_at (y : FVec Ideal S256x512 .f32) (w1 : FVec Ideal S512x512 .f32) (b1 : FVec Ideal S1x512 .f32) (w2 : FVec Ideal S512x128 .f32) (b2 : FVec Ideal S1x128 .f32) (r : Fin 256) (o : Fin 128) :
    Mlp.mlpF y w1 b1 w2 b2 (ix2 r o) = (∑ h : Fin 512, max ((∑ k : Fin 512, y (ix2 r k) * w1 (ix2 k h)) + b1 (ix2 0 h)) 0 * w2 (ix2 h o)) + b2 (ix2 0 o) := by
  unfold Mlp.mlpF
  pointwise

/-- An element of the reference's two layers. -/
theorem mlpR_at (y : FVec Ideal Cert.ReferenceIdeal.S1024x300 .f32) (w1 : FVec Ideal S512x300 .f32) (b1 : FVec Ideal Cert.ReferenceIdeal.S512 .f32) (w2 : FVec Ideal S5x512 .f32) (b2 : FVec Ideal S5 .f32) (r : Fin 1024) (o : Fin 5) :
    Ref.mlpR y w1 b1 w2 b2 (ix2 r o) = (∑ h : Fin 512, max ((∑ k : Fin 300, y (ix2 r k) * w1 (ix2 h k)) + b1 (ix1 h)) 0 * w2 (ix2 o h)) + b2 (ix1 o) := by
  unfold Ref.mlpR
  pointwise
/-- An element of the reference's table: the half of the packed word that its column names. -/
theorem tabR_at (pk : Vec Ideal S2x100000x128 .i32) (v : Fin 100000) (e : Fin 300) : Ref.tabR pk (ix2 v e) =
   if h : e.val < 128 then Pool.hiE (pk (ix3 0 v ⟨e.val, h⟩)) else if h' : e.val < 256 then Pool.loE (pk (ix3 0 v ⟨e.val - 128, by omega⟩)) else Pool.hiE (pk (ix3 1 v ⟨e.val - 172, by omega⟩)) := by
  unfold Ref.tabR Ref.hiT Ref.loT
  pointwise
  by_cases h1 : e.val < 128
  · simp only [dif_pos h1]; rfl
  · by_cases h2 : e.val < 256
    · have h3 : e.val - 128 < 128 := by omega
      simp only [dif_neg h1, dif_pos h2, dif_pos h3]; rfl
    · have h3 : ¬ e.val - 128 < 128 := by omega
      simp only [dif_neg h1, dif_neg h2, dif_neg h3]
      refine congrArg (fun q : Fin 128 => Pool.hiE (pk (ix3 1 v q))) (Fin.ext ?_)
      show 84 + (e.val - 128 - 128) = e.val - 172
      omega

/-- The padded second weights at a column that is kept. -/
theorem w2K_at (w2 : FVec Ideal S5x512 .f32) (h : Fin 512) (o : Fin 5) : KHost.w2K w2 (ix2 h ⟨o.val, by omega⟩) = w2 (ix2 o h) := by
  unfold KHost.w2K
  pointwise
/-- The padded second bias at a column that is kept. -/
theorem b2K_at (b2 : FVec Ideal S5 .f32) (o : Fin 5) : KHost.b2K b2 (ix2 0 ⟨o.val, by omega⟩) = b2 (ix1 o) := by
  unfold KHost.b2K
  pointwise
/-- The first bias as a row. -/
theorem b1K_at (b1 : FVec Ideal S512 .f32) (h : Fin 512) : KHost.b1K b1 (ix2 0 h) = b1 (ix1 h) := by
  unfold KHost.b1K
  pointwise
/-- The columns that are kept. -/
theorem slice_at (y : FVec Ideal S1024x128 .f32) (r : Fin 1024) (o : Fin 5) : extractStridedSlice S1024x5 ![0,0] y slices_S1024x128_S1024x5_0_0 (ix2 r o) = y (ix2 r ⟨o.val, by omega⟩) := by
  pointwise
/-- The pooled array flattened: lane `256 e + Q` of a row is lane `Q` of plane `e`. -/
theorem flat_at (y : FVec Ideal S1024x2x1x256 .f32) (r : Fin 1024) (e : Fin 2) (Q : Fin 256) :
    shapeCast S1024x512 y shapeCasts_S1024x2x1x256_S1024x512 (ix2 r ⟨256 * e.val + Q.val, by omega⟩) = y (ix4 r e 0 Q) := by
  pointwise
/-- The lengths in blocks of 8. -/
theorem lens_at (y : IVec S1024 32) (k : Fin 128) (r : Fin 8) :
    shapeCast S128x1x8 y shapeCasts_S1024_S128x1x8 (ix3 k 0 r) = y (ix1 ⟨8 * k.val + r.val, by omega⟩) := by
  pointwise
  exact congrArg y (congrArg ix1 (Fin.ext (show k.val * 8 + r.val = 8 * k.val + r.val by omega)))

/-- The first scatter writes its element to the same row and column. -/
theorem scA_iff (k : S256x512.Idx) (ι : S512x512.Idx) : scatter_S512x512_S1_S256x512_01_n_0_0.resultIdx? k (broadcastInDim S1 ![] bcast_S_S1 (constantI S_ 32 0#32)) = some ι ↔ (k 0).val = (ι 0).val ∧ (k 1).val = (ι 1).val := by
  rw [Routing.resultIdx?_eq_some, Fin.forall_fin_two]
  have s0 : scatter_S512x512_S1_S256x512_01_n_0_0.start k (broadcastInDim S1 ![] bcast_S_S1 (constantI S_ 32 0#32)) 0 = 0 := rfl
  have s1 : scatter_S512x512_S1_S256x512_01_n_0_0.start k (broadcastInDim S1 ![] bcast_S_S1 (constantI S_ 32 0#32)) 1 = 0 := rfl
  have w0 : scatter_S512x512_S1_S256x512_01_n_0_0.window k 0 = (k 0).val := rfl
  have w1 : scatter_S512x512_S1_S256x512_01_n_0_0.window k 1 = (k 1).val := rfl
  rw [s0, s1, w0, w1]; omega
/-- The second scatter writes its element 340 rows further down. -/
theorem scB_iff (k : S44x512.Idx) (ι : S512x512.Idx) : scatter_S512x512_S1_S44x512_01_n_0_0.resultIdx? k (broadcastInDim S1 ![] bcast_S_S1 (constantI S_ 32 340#32)) = some ι ↔ 340 + (k 0).val = (ι 0).val ∧ (k 1).val = (ι 1).val := by
  rw [Routing.resultIdx?_eq_some, Fin.forall_fin_two]
  have s0 : scatter_S512x512_S1_S44x512_01_n_0_0.start k (broadcastInDim S1 ![] bcast_S_S1 (constantI S_ 32 340#32)) 0 = 340 := rfl
  have s1 : scatter_S512x512_S1_S44x512_01_n_0_0.start k (broadcastInDim S1 ![] bcast_S_S1 (constantI S_ 32 340#32)) 1 = 0 := rfl
  have w0 : scatter_S512x512_S1_S44x512_01_n_0_0.window k 0 = (k 0).val := rfl
  have w1 : scatter_S512x512_S1_S44x512_01_n_0_0.window k 1 = (k 1).val := rfl
  rw [s0, s1, w0, w1]; omega

/-- The first 256 columns of the first weights, transposed. -/
theorem trA (w1 : FVec Ideal S512x300 .f32) (k : Fin 256) (h : Fin 512) :
    transpose S256x512 [1, 0] (extractStridedSlice S512x256 ![0, 0] w1 slices_S512x300_S512x256_0_0) transposes_S512x256_S256x512_1_0 (ix2 k h) = w1 (ix2 h ⟨k.val, by omega⟩) := by
  pointwise
/-- The last 44 columns of the first weights, transposed. -/
theorem trB (w1 : FVec Ideal S512x300 .f32) (k : Fin 44) (h : Fin 512) :
    transpose S44x512 [1, 0] (extractStridedSlice S512x44 ![0, 256] w1 slices_S512x300_S512x44_0_256) transposes_S512x44_S44x512_1_0 (ix2 k h) = w1 (ix2 h ⟨256 + k.val, by omega⟩) := by
  pointwise

/-- The first weights laid out: columns 0 to 255 in rows 0 to 255, columns 256 to 299 in rows 340 to 383, zeros elsewhere. -/
theorem w1K_at (w1 : FVec Ideal S512x300 .f32) (k h : Fin 512) :
    KHost.w1K w1 (ix2 k h) = if h1 : k.val < 256 then w1 (ix2 h ⟨k.val, by omega⟩) else if h2 : 340 ≤ k.val ∧ k.val < 384 then w1 (ix2 h ⟨k.val - 84, by omega⟩) else 0 := by
  unfold KHost.w1K
  by_cases h2 : 340 ≤ k.val ∧ k.val < 384
  · rw [dif_neg (by omega), dif_pos h2]
    refine Routing.scatter_set_hit _ _ _ _ _ _ (fun j hj => ?_) (ix2 ⟨k.val - 340, by omega⟩ h) ((scB_iff _ _).2 ⟨show 340 + (k.val - 340) = k.val by omega, rfl⟩)
    obtain ⟨a, b, rfl⟩ : ∃ (a : Fin 44) (b : Fin 512), j = ix2 a b := ⟨_, _, eq_ix2 j⟩
    obtain ⟨e0, e1⟩ := (scB_iff _ _).1 hj
    change 340 + a.val = k.val at e0
    obtain rfl : b = h := Fin.ext e1
    rw [trB]
    exact congrArg w1 (congrArg (ix2 b) (Fin.ext (show 256 + a.val = k.val - 84 by omega)))
  · rw [Routing.scatter_set_miss _ _ _ _ _ fun j hj => ?_]
    · by_cases h1 : k.val < 256
      · rw [dif_pos h1]
        refine Routing.scatter_set_hit _ _ _ _ _ _ (fun j hj => ?_) (ix2 ⟨k.val, h1⟩ h) ((scA_iff _ _).2 ⟨rfl, rfl⟩)
        obtain ⟨a, b, rfl⟩ : ∃ (a : Fin 256) (b : Fin 512), j = ix2 a b := ⟨_, _, eq_ix2 j⟩
        obtain ⟨e0, e1⟩ := (scA_iff _ _).1 hj
        change a.val = k.val at e0
        obtain rfl : b = h := Fin.ext e1
        rw [trA]
        exact congrArg w1 (congrArg (ix2 b) (Fin.ext e0))
      · rw [dif_neg h1, dif_neg h2, Routing.scatter_set_miss _ _ _ _ _ fun j hj => ?_]
        · exact Ideal.ofBits_zero_f32
        · obtain ⟨a, b, rfl⟩ : ∃ (a : Fin 256) (b : Fin 512), j = ix2 a b := ⟨_, _, eq_ix2 j⟩
          obtain ⟨e0, -⟩ := (scA_iff _ _).1 hj
          change a.val = k.val at e0
          omega
    · obtain ⟨a, b, rfl⟩ : ∃ (a : Fin 44) (b : Fin 512), j = ix2 a b := ⟨_, _, eq_ix2 j⟩
      obtain ⟨e0, -⟩ := (scB_iff _ _).1 hj
      change 340 + a.val = k.val at e0
      omega

end Cert.Proof.Val
end
-- ==== Proof.MlpFinal.lean ====
/-
  The perceptron call's final array as a function of the buffers it is entered with.
-/
module

public import proofs.«01_k».proof.Proof.ValAt
public import Idealize.ShloMosaic.Lib.Pipeline.ValueKit

@[expose] public section

noncomputable section

namespace Cert.Proof.Mlp

open Cert.KernelIdeal Cert.KernelIdeal.Gen
open Idealize.ShloMosaic Idealize.ShloMosaic.TcCoe Idealize.SL.Sem

/-- The two layers over the lanes of the pooled rows. -/
def mlpG (y : FVec Ideal S1024x512 .f32) (w1 : FVec Ideal S512x512 .f32) (b1 : FVec Ideal S1x512 .f32) (w2 : FVec Ideal S512x128 .f32) (b2 : FVec Ideal S1x128 .f32) : FVec Ideal S1024x128 .f32 := fun i =>
  (∑ h : Fin 512, max ((∑ k : Fin 512, y (ix2 (i 0) k) * w1 (ix2 k h)) + b1 (ix2 0 h)) 0 * w2 (ix2 h (i 1))) + b2 (ix2 0 (i 1))

/-- The rows' block at a point is the point's number. -/
theorem idx0 : ∀ t : Fin cfg1.N, win1_0.index t = ![(grid1.coords t 0).val, 0] := (by decide +kernel : ∀ t : Fin grid1.N, _)
/-- The first weights are one block. -/
theorem idx1 : ∀ t : Fin cfg1.N, win1_1.index t = ![0, 0] := (by decide +kernel : ∀ t : Fin grid1.N, _)
/-- The first bias is one block. -/
theorem idx2 : ∀ t : Fin cfg1.N, win1_2.index t = ![0, 0] := (by decide +kernel : ∀ t : Fin grid1.N, _)
/-- The second weights are one block. -/
theorem idx3 : ∀ t : Fin cfg1.N, win1_3.index t = ![0, 0] := (by decide +kernel : ∀ t : Fin grid1.N, _)
/-- The second bias is one block. -/
theorem idx4 : ∀ t : Fin cfg1.N, win1_4.index t = ![0, 0] := (by decide +kernel : ∀ t : Fin grid1.N, _)
/-- The block written at a point is the point's number. -/
theorem idx5 : ∀ t : Fin cfg1.N, win1_5.index t = ![(grid1.coords t 0).val, 0] := (by decide +kernel : ∀ t : Fin grid1.N, _)

/-- What the perceptron call leaves. -/
theorem mlp_final (V : (c : Dev nD) → (b : Ref sig .tc) → Buf (Elt Ideal) ((c : Thread nD τ).loc b)) (c : Dev nD)
    (y : FVec Ideal S1024x512 .f32) (w1 : FVec Ideal S512x512 .f32) (b1 : FVec Ideal S1x512 .f32) (w2 : FVec Ideal S512x128 .f32) (b2 : FVec Ideal S1x128 .f32)
    (hy : V c main_v8 = y) (hw1 : V c main_v17 = w1) (hb1 : V c main_v20 = b1) (hw2 : V c main_v19 = w2) (hb2 : V c main_v22 = b2) :
    (dat1 V c).arrAt 5 cfg1.N = mlpG y w1 b1 w2 b2 := by
  refine (dat1 V c).arrAt_eq_of_covers 5 _ (by decide +kernel) fun t hf z => ?_
  blk_simp
  show mlpF (yblk V c t) (w1blk V c t) (b1blk V c t) (w2blk V c t) (b2blk V c t) z = _
  obtain ⟨r, o, rfl⟩ : ∃ (r : Fin 256) (o : Fin 128), z = ix2 r o := ⟨_, _, eq_ix2 z⟩
  have hk : (grid1.coords t 0).val < 4 := (grid1.coords t 0).isLt
  generalize hkk : (grid1.coords t 0).val = k at hk
  have e0 : ∀ (l : Fin 512), yblk V c t (ix2 r l) = y (ix2 ⟨256 * k + r.val, by omega⟩ l) := fun l => by
    subst hy
    refine congrArg (V c main_v8) ?_
    blk_ext [idx0, hkk]
  have e1 : ∀ i, w1blk V c t i = w1 i := fun i => by
    subst hw1
    refine congrArg (V c main_v17) ?_
    obtain ⟨p, q, rfl⟩ : ∃ (p : Fin 512) (q : Fin 512), i = ix2 p q := ⟨_, _, eq_ix2 i⟩
    blk_ext [idx1]
  have e2 : ∀ i, b1blk V c t i = b1 i := fun i => by
    subst hb1
    refine congrArg (V c main_v20) ?_
    obtain ⟨p, q, rfl⟩ : ∃ (p : Fin 1) (q : Fin 512), i = ix2 p q := ⟨_, _, eq_ix2 i⟩
    blk_ext [idx2]
  have e3 : ∀ i, w2blk V c t i = w2 i := fun i => by
    subst hw2
    refine congrArg (V c main_v19) ?_
    obtain ⟨p, q, rfl⟩ : ∃ (p : Fin 512) (q : Fin 128), i = ix2 p q := ⟨_, _, eq_ix2 i⟩
    blk_ext [idx3]
  have e4 : ∀ i, b2blk V c t i = b2 i := fun i => by
    subst hb2
    refine congrArg (V c main_v22) ?_
    obtain ⟨p, q, rfl⟩ : ∃ (p : Fin 1) (q : Fin 128), i = ix2 p q := ⟨_, _, eq_ix2 i⟩
    blk_ext [idx4]
  have e5 : (win1_5.blk t).view.emb (ix2 r o) = ix2 (⟨256 * k + r.val, by omega⟩ : Fin 1024) o := by
    blk_ext [idx5, hkk]
  rw [e5, Val.mlpF_at]
  simp only [e0, e1, e2, e3, e4]
  rfl

end Cert.Proof.Mlp

end
-- ==== Proof.RefVal.lean ====
/-
  The reference's gather, and its pooled rows, read at an index.
-/
module

public import proofs.«01_k».proof.Proof.ValAt

@[expose] public section
noncomputable section
namespace Cert.Proof.Val
open Cert.KernelIdeal Cert.KernelIdeal.Gen
open Idealize.ShloMosaic Idealize.SL.Sem
/-- A word below 100000 reads the same signed. -/
theorem toInt_nat (v : BitVec 32) (h : v.toNat < 100000) : v.toInt = v.toNat := by
  rw [BitVec.toInt_eq_toNat_cond, if_pos (by omega)]
/-- An index that is not negative is looked up as it is. -/
theorem idxR_at (x : IVec S1024x512 32) (b : Fin 1024) (l : Fin 512) (h : (x (ix2 b l)).toNat < 100000) : Ref.idxR x (ix3 b l 0) = x (ix2 b l) := by
  unfold Ref.idxR
  pointwise
  have h' : (x (ix2 b l)).toInt = (x (ix2 b l)).toNat := toInt_nat _ h
  have hs : BitVec.slt (x (ix2 b l)) 0#32 = false := by rw [BitVec.slt_eq_decide, decide_eq_false_iff_not, h']; simp
  have hc : IntOp.cmpi .slt (x (ix2 b l)) 0#32 = 0#1 := congrArg BitVec.ofBool hs
  rw [hc]; rfl
/-- The lookup reads the row its index word names. -/
theorem gather_at (T : FVec Ideal Cert.ReferenceIdeal.S100000x300 .f32) (I : IVec Cert.ReferenceIdeal.S1024x512x1 32) (b : Fin 1024) (l : Fin 512) (e : Fin 300) (v : BitVec 32) (hv : I (ix3 b l 0) = v) (h : v.toNat < 100000) :
    Host.gather ReferenceIdeal.gather_S100000x300_S1024x512x1_S1024x512x300_2_0_n_n_0_2_1300 T I (ix3 b l e) = T (ix2 (Pool.tidx v) e) := by
  unfold Host.gather
  refine congrArg T ?_
  have b0 : ∀ a, (Cert.ReferenceIdeal.gather_S100000x300_S1024x512x1_S1024x512x300_2_0_n_n_0_2_1300).batchCoord (ix3 b l e) a = 0 := fun a => GatherDims.batchCoord_eq_zero _ _ _ (by exact List.not_mem_nil)
  have o0 : (Cert.ReferenceIdeal.gather_S100000x300_S1024x512x1_S1024x512x300_2_0_n_n_0_2_1300).offCoord (ix3 b l e) 0 = 0 := rfl
  have o1 : (Cert.ReferenceIdeal.gather_S100000x300_S1024x512x1_S1024x512x300_2_0_n_n_0_2_1300).offCoord (ix3 b l e) 1 = e.val := rfl
  have s1 : (Cert.ReferenceIdeal.gather_S100000x300_S1024x512x1_S1024x512x300_2_0_n_n_0_2_1300).start (ix3 b l e) I 1 = 0 := rfl
  have i0 : ∀ k, (Cert.ReferenceIdeal.gather_S100000x300_S1024x512x1_S1024x512x300_2_0_n_n_0_2_1300).siIdx (ix3 b l e) k = ix3 b l 0 := fun k => by
    funext a; fin_cases a
    · exact Fin.ext rfl
    · exact Fin.ext rfl
    · exact Subsingleton.elim (α := Fin 1) _ _
  have s0 : (Cert.ReferenceIdeal.gather_S100000x300_S1024x512x1_S1024x512x300_2_0_n_n_0_2_1300).start (ix3 b l e) I 0 = min (I (ix3 b l 0)).toInt.toNat (100000 - 1) := by
    unfold GatherDims.start
    rw [dif_pos (by exact List.mem_singleton.2 rfl), i0]; rfl
  funext a; fin_cases a
  · refine Fin.ext ?_
    refine (congrArg₂ (· + ·) (congrArg₂ (· + ·) s0 (b0 0)) o0).trans ?_
    rw [hv, toInt_nat v h]
    show min (Int.toNat (v.toNat : Int)) 99999 + 0 + 0 = v.toNat % 100000
    rw [Int.toNat_natCast, Nat.mod_eq_of_lt h]; omega
  · refine Fin.ext ?_
    refine (congrArg₂ (· + ·) (congrArg₂ (· + ·) s1 (b0 1)) o1).trans ?_
    exact Nat.zero_add _

/-- A pooled row of the reference: the sum of the rows looked up over the length. -/
theorem poolR_at (pk : Vec Ideal S2x100000x128 .i32) (x : IVec S1024x512 32) (hx : ∀ i, (x i).toNat < 100000) (b : Fin 1024) (e : Fin 300) :
    Ref.poolR pk x (ix2 b e) = Ideal.div (∑ l : Fin 512, Ref.tabR pk (ix2 (Pool.tidx (x (ix2 b l))) e)) ((Ref.lenR x : FVec Ideal S1024 .f32) (ix1 b)) := by
  unfold Ref.poolR
  pointwise
  refine congrArg (Ideal.div · _) (Finset.sum_congr rfl fun l _ => ?_)
  exact gather_at _ _ b l e _ (idxR_at x b l (hx _)) (hx _)

end Cert.Proof.Val
end
-- ==== Proof.Value.lean ====
/-
  The two programs' results are equal: the kernel's pooled lanes are the reference's pooled columns, the weights of the
  other lanes are zero, and the two layers are the same sums.
-/
module

public import proofs.«01_k».proof.Proof.PoolFinal
public import proofs.«01_k».proof.Proof.MlpFinal
public import proofs.«01_k».proof.Proof.RefVal
public import proofs.«01_k».proof.Proof.Seg1

@[expose] public section

noncomputable section

namespace Cert.Proof.Val

open Cert.KernelIdeal Cert.KernelIdeal.Gen
open Idealize.ShloMosaic Idealize.ShloMosaic.TcCoe Idealize.SL.Sem

/-- The lane a column of the reference's pooled row has among the kernel's lanes. -/
def laneOf (e : Fin 300) : Fin 512 := if h : e.val < 256 then ⟨e.val, by omega⟩ else ⟨e.val + 84, by omega⟩

/-- A sum over the lanes with the weights laid out as the kernel lays them out is the sum over the columns. -/
theorem sum_lanes (y : Fin 512 → EReal) (w : Fin 300 → EReal) :
    ∑ k : Fin 512, y k * (if h1 : k.val < 256 then w ⟨k.val, by omega⟩ else if h2 : 340 ≤ k.val ∧ k.val < 384 then w ⟨k.val - 84, by omega⟩ else 0)
      = ∑ e : Fin 300, y (laneOf e) * w e := by
  let g : Nat → EReal := fun k => if h : k < 512 then y ⟨k, h⟩ * (if h1 : k < 256 then w ⟨k, by omega⟩ else if h2 : 340 ≤ k ∧ k < 384 then w ⟨k - 84, by omega⟩ else 0) else 0
  let f : Nat → EReal := fun e => if h : e < 300 then y (laneOf ⟨e, h⟩) * w ⟨e, h⟩ else 0
  have hg : ∑ k : Fin 512, y k * (if h1 : k.val < 256 then w ⟨k.val, by omega⟩ else if h2 : 340 ≤ k.val ∧ k.val < 384 then w ⟨k.val - 84, by omega⟩ else 0) = ∑ k ∈ Finset.range 512, g k := by
    rw [Finset.sum_range]
    exact Finset.sum_congr rfl fun k _ => by simp only [g]; rw [dif_pos k.isLt]
  have hf : ∑ e : Fin 300, y (laneOf e) * w e = ∑ e ∈ Finset.range 300, f e := by
    rw [Finset.sum_range]
    exact Finset.sum_congr rfl fun k _ => by simp only [f]; rw [dif_pos k.isLt]
  have z1 : ∑ j ∈ Finset.range 84, g (256 + j) = 0 := Finset.sum_eq_zero fun j hj => by
    have := Finset.mem_range.1 hj
    simp only [g]; rw [dif_pos (by omega), dif_neg (by omega), dif_neg (by omega), mul_zero]
  have z2 : ∑ j ∈ Finset.range 128, g (384 + j) = 0 := Finset.sum_eq_zero fun j hj => by
    have := Finset.mem_range.1 hj
    simp only [g]; rw [dif_pos (by omega), dif_neg (by omega), dif_neg (by omega), mul_zero]
  rw [hg, hf, show (512 : Nat) = 384 + 128 from rfl, Finset.sum_range_add, z2, show (384 : Nat) = 340 + 44 from rfl, Finset.sum_range_add,
    show (340 : Nat) = 256 + 84 from rfl, Finset.sum_range_add, z1, add_zero, add_zero, show (300 : Nat) = 256 + 44 from rfl, Finset.sum_range_add]
  refine congrArg₂ (· + ·) (Finset.sum_congr rfl fun e he => ?_) (Finset.sum_congr rfl fun e he => ?_)
  · have := Finset.mem_range.1 he
    simp only [g, f, laneOf]; rw [dif_pos (by omega), dif_pos (by omega), dif_pos (by omega), dif_pos (by omega)]
  · have := Finset.mem_range.1 he
    simp only [g, f, laneOf]
    rw [dif_pos (by omega), dif_neg (by omega), dif_pos (by omega), dif_pos (by omega), dif_neg (by omega)]
    refine congrArg₂ (· * ·) (congrArg y (Fin.ext ?_)) (congrArg w (Fin.ext ?_))
    · show 256 + 84 + e = 256 + e + 84; omega
    · show 256 + 84 + e - 84 = 256 + e; omega

/-- The first layer's sum over the lanes is its sum over the columns. -/
theorem contract_eq (y : Fin 512 → EReal) (w1 : FVec Ideal S512x300 .f32) (h : Fin 512) :
    ∑ k : Fin 512, y k * KHost.w1K w1 (ix2 k h) = ∑ e : Fin 300, y (laneOf e) * w1 (ix2 h e) := by
  rw [← sum_lanes y fun e => w1 (ix2 h e)]
  refine Finset.sum_congr rfl fun k _ => ?_
  rw [w1K_at]

/-- The kernel's pooled lane of a column is the reference's pooled column. -/
theorem pooled_at (T : Vec Ideal S2x100000x128 .i32) (X : IVec S1024x512 32) (n : Fin 1024 → Nat) (hx : ∀ i, (X i).toNat < 100000)
    (hn : ∀ b : Fin 1024, Facts.Len (fun l => X (ix2 b l)) (n b)) (b : Fin 1024) (e : Fin 300) :
    shapeCast S1024x512 (Pool.poolG T X n) shapeCasts_S1024x2x1x256_S1024x512 (ix2 b (laneOf e)) = Ref.poolR T X (ix2 b e) := by
  have hd : ∀ s : EReal, s * Ideal.div 1 ((n b : ℝ) : EReal) = Ideal.div s ((n b : ℝ) : EReal) := fun s => by
    have h0 : (n b : ℝ) ≠ 0 := by have := (hn b).pos; positivity
    rw [Ideal.div_coe h0, Ideal.div_coe h0, one_mul]
  have key : ∀ (p : Fin 2) (Q : Fin 256), laneOf e = ⟨256 * p.val + Q.val, by omega⟩ →
      (∀ v : Fin 100000, Pool.lane (fun q => T (ix3 p v q)) Q = Ref.tabR T (ix2 v e)) →
      shapeCast S1024x512 (Pool.poolG T X n) shapeCasts_S1024x2x1x256_S1024x512 (ix2 b (laneOf e)) = Ref.poolR T X (ix2 b e) := fun p Q hl hv => by
    rw [hl, flat_at, poolR_at T X hx, Facts.lenR_eq X b (n b) (hn b), ← hd]
    unfold Pool.poolG
    refine congrArg (· * _) (Finset.sum_congr rfl fun l _ => ?_)
    exact hv _
  by_cases h1 : e.val < 256
  · refine key 0 ⟨e.val, h1⟩ (by unfold laneOf; rw [dif_pos h1]; exact Fin.ext (show e.val = 256 * 0 + e.val by omega)) fun v => ?_
    rw [tabR_at]
    unfold Pool.lane
    by_cases h2 : e.val < 128
    · simp only [dif_pos h2]
    · simp only [dif_neg h2, dif_pos h1]
  · refine key 1 ⟨e.val - 172, by omega⟩ (by unfold laneOf; rw [dif_neg h1]; exact Fin.ext (show e.val + 84 = 256 * 1 + (e.val - 172) by omega)) fun v => ?_
    have h2 : ¬ e.val < 128 := by omega
    have h3 : e.val - 172 < 128 := by omega
    rw [tabR_at]
    unfold Pool.lane
    simp only [dif_neg h1, dif_neg h2, dif_pos h3]

/-- The kernel's two layers over its lanes are the reference's over its columns. -/
theorem layers_eq (T : Vec Ideal S2x100000x128 .i32) (X : IVec S1024x512 32) (n : Fin 1024 → Nat) (hx : ∀ i, (X i).toNat < 100000)
    (hn : ∀ b : Fin 1024, Facts.Len (fun l => X (ix2 b l)) (n b))
    (w1 : FVec Ideal S512x300 .f32) (b1 : FVec Ideal S512 .f32) (w2 : FVec Ideal S5x512 .f32) (b2 : FVec Ideal S5 .f32) :
    extractStridedSlice S1024x5 ![0, 0] (Mlp.mlpG (shapeCast S1024x512 (Pool.poolG T X n) shapeCasts_S1024x2x1x256_S1024x512) (KHost.w1K w1) (KHost.b1K b1) (KHost.w2K w2) (KHost.b2K b2)) slices_S1024x128_S1024x5_0_0
      = Ref.mlpR (Ref.poolR T X) w1 b1 w2 b2 := by
  funext i
  obtain ⟨b, o, rfl⟩ : ∃ (b : Fin 1024) (o : Fin 5), i = ix2 b o := ⟨_, _, eq_ix2 i⟩
  rw [slice_at, mlpR_at]
  unfold Mlp.mlpG
  refine congrArg₂ (· + ·) (Finset.sum_congr rfl fun h _ => ?_) (b2K_at b2 o)
  refine congrArg₂ (· * ·) (congrArg (max · 0) (congrArg₂ (· + ·) ?_ (b1K_at b1 h))) (w2K_at w2 h o)
  refine (contract_eq (fun k => shapeCast S1024x512 (Pool.poolG T X n) shapeCasts_S1024x2x1x256_S1024x512 (ix2 b k)) w1 h).trans ?_
  exact Finset.sum_congr rfl fun e _ => congrArg (· * _) (pooled_at T X n hx hn b e)

/-- The kernel's result is the reference's function of the arguments. -/
theorem result_eq (m : (ℓ : Loc nD τ sig) → Buf (Elt Ideal) ℓ) (c : Dev nD) (hg : Facts.Good (m ((c.tc : Thread nD τ).loc main_arg1))) :
    V11 m (Segs.outs m) c main_v24 = Ref.mlpR (Ref.poolR (m ((c.tc : Thread nD τ).loc main_arg0)) (m ((c.tc : Thread nD τ).loc main_arg1)))
      (m ((c.tc : Thread nD τ).loc main_arg2)) (m ((c.tc : Thread nD τ).loc main_arg3)) (m ((c.tc : Thread nD τ).loc main_arg4)) (m ((c.tc : Thread nD τ).loc main_arg5)) := by
  choose n hn using hg.len
  have hx := hg.lt
  have hp : (Pool.dat0 (Segs.VA m) c).arrAt 3 cfg0.N = Pool.poolG (m ((c.tc : Thread nD τ).loc main_arg0)) (m ((c.tc : Thread nD τ).loc main_arg1)) n :=
    Pool.pool_final (Segs.VA m) c _ _ _ n (KHost.V3_arg0 m c) (KHost.V3_arg1 m c) (KHost.V3_v6 m c) hx hn fun k r => by
      rw [lens_at, Facts.minK_eq _ _ _ (hn _)]
  have h8 : Segs.VC m c main_v8 = shapeCast S1024x512 (Pool.poolG (m ((c.tc : Thread nD τ).loc main_arg0)) (m ((c.tc : Thread nD τ).loc main_arg1)) n) shapeCasts_S1024x2x1x256_S1024x512 := by
    unfold Segs.VC; rw [KHost.V9_v8, Segs.o4_v7, hp]
  have hm := Mlp.mlp_final (Segs.VC m) c _ _ _ _ _ h8 (KHost.V9_v17 m _ c) (KHost.V9_v20 m _ c) (KHost.V9_v19 m _ c) (KHost.V9_v22 m _ c)
  rw [KHost.V11_v24, Segs.outs_v23, hm]
  exact layers_eq _ _ n hx hn _ _ _ _

end Cert.Proof.Val

end
-- ==== Proof.Algebraic.lean ====
/-
  The value claim: from memories agreeing on the arguments, the kernel and the reference end with equal results.
-/
module

public import proofs.«01_k».proof.Defs
public import proofs.«01_k».proof.Proof.Frames
public import proofs.«01_k».proof.Proof.Value

@[expose] public section

noncomputable section

namespace Cert.Proof.Algebraic

open Idealize.ShloMosaic Idealize.SL.Sem

attribute [local instance] Cert.Kernel.Gen.facts Cert.KernelIdeal.Gen.facts Cert.ReferenceIdeal.Gen.facts Cert.Pre_padded.Gen.facts

/-- The kernel's result is the reference's, whatever the arguments under the precondition. -/
theorem value : Cert.algebraic_KernelIdeal_ReferenceIdeal := fun m g m' g' hpre hargs => by
  have hg : ∀ c : Dev Cert.KernelIdeal.nD, Facts.Good (m ((c.tc : Thread Cert.KernelIdeal.nD Cert.KernelIdeal.τ).loc Cert.KernelIdeal.main_arg1)) :=
    fun c => Facts.good_of_pre _ _ _ _ _ _ (hpre c)
  refine ⟨fun c => Cert.KernelIdeal.Gen.V11 m (Segs.outs m) c (Proc.devRef .tc Cert.KernelIdeal.main_v24), ?_, ?_⟩
  · exact (θ_run _ _ _).mono (fun _ h => h.1) (Segs.run m (Facts.hx_of m hg) (Facts.hl_of m hg) g)
  · refine (θ_run _ _ _).mono (fun r h c => ⟨?_, (h.1 c _).trans (Ref.readArg0 _), (h.1 c _).trans (Ref.readArg1 _), (h.1 c _).trans (Ref.readArg2 _),
      (h.1 c _).trans (Ref.readArg3 _), (h.1 c _).trans (Ref.readArg4 _), (h.1 c _).trans (Ref.readArg5 _)⟩) (Ref.run m' g')
    obtain ⟨a0, a1, a2, a3, a4, a5⟩ := hargs c
    refine (h.1 c _).trans ((Ref.read43 _).trans ?_)
    refine Eq.trans ?_ (Val.result_eq m c (hg c)).symm
    rw [← a0, ← a1, ← a2, ← a3, ← a4, ← a5]

end Cert.Proof.Algebraic

end
-- ==== Proof.Pack.lean ====
/-
  The packing call: the words it leaves are those of the plain reference, bit for bit. A float's word is rounded to its
  upper half by adding 0x8000; a word of the first plane pairs two such halves, a word of the second holds one.
-/
module

public import proofs.«01_k».proof.Defs
public import proofs.«01_k».proof.Proof.Gen.Pack.Value
public import proofs.«01_k».proof.Proof.Gen.PackReference.Run
public import Idealize.ShloMosaic.Lib.Pipeline.ValueKit
public import Idealize.ShloMosaic.Lib.Pointwise
public import Idealize.ShloMosaic.Lib.Quiescent

@[expose] public section

noncomputable section

namespace Cert.Proof.Pack

open Idealize.ShloMosaic Idealize.ShloMosaic.TcCoe Idealize.SL.Sem

/-- The upper half of a word, rounded, halves away from zero. -/
def half (v : BitVec 32) : BitVec 32 := (v + 32768#32) >>> 16

/-- The upper half kept in place by a mask is the half shifted up. -/
theorem mask_eq (v : BitVec 32) : (v + 32768#32) &&& 4294901760#32 = half v <<< 16 := by
  unfold half
  generalize v + 32768#32 = u
  have hm : ∀ i : Fin 32, (4294901760#32).getLsbD i.val = decide (16 ≤ i.val) := by decide
  refine BitVec.eq_of_getLsbD_eq fun i hi => ?_
  rw [BitVec.getLsbD_and, hm ⟨i, hi⟩, BitVec.getLsbD_shiftLeft, BitVec.getLsbD_ushiftRight]
  by_cases h : 16 ≤ i
  · simp [h, hi, show ¬ i < 16 by omega]
  · simp [h, show i < 16 by omega]

/-- The upper half shifted down with its sign and masked is the half. -/
theorem shift_eq (v : BitVec 32) : (v + 32768#32).sshiftRight 16 &&& 65535#32 = half v := by
  unfold half
  generalize v + 32768#32 = u
  have hm : ∀ i : Fin 32, (65535#32).getLsbD i.val = decide (i.val < 16) := by decide
  refine BitVec.eq_of_getLsbD_eq fun i hi => ?_
  rw [BitVec.getLsbD_and, hm ⟨i, hi⟩, BitVec.getLsbD_sshiftRight, BitVec.getLsbD_ushiftRight]
  by_cases h : i < 16
  · simp [h, show 16 + i < 32 by omega, show ¬ 32 ≤ i by omega]
  · simp [h, BitVec.getLsbD_of_ge u (16 + i) (by omega)]

/-- The packed words of a table given by its words. -/
def packG (w : IVec Cert.Pack.S100000x300 32) : IVec Cert.Pack.S2x100000x128 32 := fun i =>
  if (i 0).val = 0 then half (w (ix2 (i 1) ⟨(i 2).val, by have := (i 2).isLt; change _ < 128 at this; omega⟩)) <<< 16 ||| half (w (ix2 (i 1) ⟨128 + (i 2).val, by have := (i 2).isLt; change _ < 128 at this; omega⟩))
  else if (i 2).val < 84 then 0#32
  else half (w (ix2 (i 1) ⟨172 + (i 2).val, by have := (i 2).isLt; change _ < 128 at this; omega⟩)) <<< 16

section
open Cert.Pack Cert.Pack.Gen

variable {F : FTy → Type} [BitOps F]

/-- A word of the first plane's block. -/
theorem pay1_at (a b : Vec F S4000x128 .f32) (r : Fin 4000) (q : Fin 128) :
    k0_pay1 a b (ix3 0 r q) = half (bitcastToInt a (ix2 r q)) <<< 16 ||| half (bitcastToInt b (ix2 r q)) := by
  unfold k0_pay1
  pointwise
  rw [← mask_eq, ← shift_eq]
  rfl

/-- A word of the second plane's block. -/
theorem pay2_at (a : Vec F S4000x128 .f32) (r : Fin 4000) (q : Fin 128) :
    k0_pay2 a (ix3 0 r q) = if q.val < 84 then 0#32 else half (bitcastToInt a (ix2 r q)) <<< 16 := by
  unfold k0_pay2
  pointwise
  rw [← mask_eq]
  have h : ∀ q : Fin 128, IntOp.cmpi .slt (BitVec.ofNat 32 q.val) 84#32 = if q.val < 84 then 1#1 else 0#1 := by decide +kernel
  rw [h q]
  by_cases h84 : q.val < 84
  · rw [if_pos h84, if_pos h84]; rfl
  · rw [if_neg h84, if_neg h84]; rfl

variable (m : (ℓ : Loc nD τ sig) → Buf (Elt F) ℓ)

/-- The block that a point of the first plane writes. -/
theorem outA (c : Dev nD) (t : Fin cfg0.N) (h0 : t.val < 25) (h1 : ¬25 ≤ t.val) (r : Fin 4000) (q : Fin 128) :
    outsAt0 m c t.val t.isLt (ix3 0 r q)
      = half (bitcastToInt (φ := .f32) (iblk m c 0 t) (ix2 r ⟨q.val, by omega⟩)) <<< 16 ||| half (bitcastToInt (φ := .f32) (iblk m c 0 t) (ix2 r ⟨128 + q.val, by omega⟩)) := by
  rw [outsAt0_A m c t h0 h1]
  unfold out0_A_1
  rw [View.read_writes_eq_canon _ _ _ (cover0_A_1 c _ _ _ _ _ _ _ _)]
  unfold kernelRun0_A
  dsimp only
  sl_unfold_words
  simp only [View.readAt_eq_ld, (hs0_0 t).read_unread]
  refine (congrFun (View.canon_cons_unit_lit _ _ _ (by decide)) _).trans ?_
  rw [pay1_at]
  have e0 : View.ld (iblk m c 0 t) (Rect.unit ![0, 0] ![4000, 128] inb_S4000x300_S4000x128_0_0) (ix2 r q) = iblk m c 0 t (ix2 r ⟨q.val, by omega⟩) :=
    View.ld_unit_apply_of _ _ _ _ _ _ (fun a => by fin_cases a <;> simp)
  have e1 : View.ld (iblk m c 0 t) (Rect.unit ![0, 128] ![4000, 128] inb_S4000x300_S4000x128_0_128) (ix2 r q) = iblk m c 0 t (ix2 r ⟨128 + q.val, by omega⟩) :=
    View.ld_unit_apply_of _ _ _ _ _ _ (fun a => by fin_cases a <;> simp)
  unfold bitcastToInt
  rw [e0, e1]

/-- The block that a point of the second plane writes. -/
theorem outB (c : Dev nD) (t : Fin cfg0.N) (h0 : ¬t.val < 25) (h1 : 25 ≤ t.val) (r : Fin 4000) (q : Fin 128) :
    outsAt0 m c t.val t.isLt (ix3 0 r q)
      = if q.val < 84 then 0#32 else half (bitcastToInt (φ := .f32) (iblk m c 0 t) (ix2 r ⟨172 + q.val, by omega⟩)) <<< 16 := by
  rw [outsAt0_B m c t h0 h1]
  unfold out0_B_1
  rw [View.read_writes_eq_canon _ _ _ (cover0_B_1 c _ _ _ _ _ _ _ _)]
  unfold kernelRun0_B
  dsimp only
  sl_unfold_words
  simp only [View.readAt_eq_ld, (hs0_0 t).read_unread]
  refine (congrFun (View.canon_cons_unit_lit _ _ _ (by decide)) _).trans ?_
  rw [pay2_at]
  have e0 : View.ld (iblk m c 0 t) (Rect.unit ![0, 172] ![4000, 128] inb_S4000x300_S4000x128_0_172) (ix2 r q) = iblk m c 0 t (ix2 r ⟨172 + q.val, by omega⟩) :=
    View.ld_unit_apply_of _ _ _ _ _ _ (fun a => by fin_cases a <;> simp)
  unfold bitcastToInt
  rw [e0]

/-- The table's block at a point is the second coordinate. -/
theorem idx0 : ∀ t : Fin cfg0.N, win0_0.index t = ![(grid0.coords t 1).val, 0] := (by decide +kernel : ∀ t : Fin grid0.N, _)
/-- The block written at a point: the second coordinate's rows of the first coordinate's plane. -/
theorem idx1 : ∀ t : Fin cfg0.N, win0_1.index t = ![(grid0.coords t 0).val, (grid0.coords t 1).val, 0] := (by decide +kernel : ∀ t : Fin grid0.N, _)
/-- The first half of the points have plane 0 and the others plane 1. -/
theorem plane : ∀ t : Fin cfg0.N, (grid0.coords t 0).val = if t.val < 25 then 0 else 1 := (by decide +kernel : ∀ t : Fin grid0.N, (grid0.coords t 0).val = if t.val < 25 then 0 else 1)

/-- What the packing call leaves. -/
theorem pack_final (c : Dev nD) : (dats m 0 c).arrAt 1 cfg0.N = packG (bitcastToInt (φ := .f32) (m ((c.tc : Thread nD τ).loc main_arg0))) := by
  refine (dats m 0 c).arrAt_eq_of_covers 1 _ (by decide +kernel) fun t hf z => ?_
  rw [after0_1]
  blk_simp
  obtain ⟨o, r, q, rfl⟩ : ∃ (o : Fin 1) (r : Fin 4000) (q : Fin 128), z = ix3 o r q := ⟨_, _, _, eq_ix3 z⟩
  obtain rfl : o = 0 := Subsingleton.elim _ _
  have hp := plane t
  have hk : (grid0.coords t 1).val < 25 := (grid0.coords t 1).isLt
  have hp' : (grid0.coords t 0).val < 2 := (grid0.coords t 0).isLt
  generalize hkk : (grid0.coords t 1).val = k at hk
  generalize hpp : (grid0.coords t 0).val = p at hp hp'
  have e0 : ∀ (q : Fin 300), iblk m c 0 t (ix2 r q) = m ((c.tc : Thread nD τ).loc main_arg0) (ix2 ⟨4000 * k + r.val, by omega⟩ q) := fun q => by
    refine congrArg (m ((c.tc : Thread nD τ).loc main_arg0)) ?_
    blk_ext [idx0, hkk]
  have e1 : (win0_1.blk t).view.emb (ix3 0 r q) = ix3 (⟨p, by omega⟩ : Fin 2) (⟨4000 * k + r.val, by omega⟩ : Fin 100000) q := by
    blk_ext [idx1, hkk, hpp]
  rw [e1]
  have hg : ∀ (e : Fin 2) (v : Fin 100000), packG (bitcastToInt (φ := .f32) (m ((c.tc : Thread nD τ).loc main_arg0))) (ix3 e v q)
      = if e.val = 0 then half (bitcastToInt (φ := .f32) (m ((c.tc : Thread nD τ).loc main_arg0)) (ix2 v ⟨q.val, by omega⟩)) <<< 16 ||| half (bitcastToInt (φ := .f32) (m ((c.tc : Thread nD τ).loc main_arg0)) (ix2 v ⟨128 + q.val, by omega⟩))
        else if q.val < 84 then 0#32 else half (bitcastToInt (φ := .f32) (m ((c.tc : Thread nD τ).loc main_arg0)) (ix2 v ⟨172 + q.val, by omega⟩)) <<< 16 := fun _ _ => rfl
  by_cases h0 : t.val < 25
  · rw [if_pos h0] at hp
    subst hp
    refine (outA m c t h0 (by omega) r q).trans (Eq.trans ?_ (hg _ _).symm)
    rw [if_pos rfl]
    unfold bitcastToInt
    rw [e0, e0]
  · rw [if_neg h0] at hp
    subst hp
    refine (outB m c t h0 (by omega) r q).trans (Eq.trans ?_ (hg _ _).symm)
    rw [if_neg (show ¬ (⟨1, hp'⟩ : Fin 2).val = 0 from Nat.one_ne_zero)]
    unfold bitcastToInt
    rw [e0]

end

section
open Cert.PackReference Cert.PackReference.Gen

variable {F : FTy → Type} [BitOps F]

/-- What the plain reference computes. -/
theorem ref_run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v16) = packG (bitcastToInt (φ := .f32) (m ((c.tc : Thread nD τ).loc main_arg0)))
      ∧ r.2.mem ((c.tc : Thread nD τ).loc main_arg0) = m ((c.tc : Thread nD τ).loc main_arg0) := by
  refine (θ_run defs _ _).mono (fun _ h c => ⟨(h c).1.trans ?_, (h c).2⟩) (Cert.PackReference.Value.run m ρ)
  generalize m ((c.tc : Thread nD τ).loc main_arg0) = w
  funext i
  obtain ⟨e, v, q, rfl⟩ : ∃ (e : Fin 2) (v : Fin 100000) (q : Fin 128), i = ix3 e v q := ⟨_, _, _, eq_ix3 i⟩
  pointwise
  have hs : ∀ u x : BitVec 32, x.toNat < 32 → IntOp.shli .host u x = u <<< x := fun u x hx => if_pos hx
  have hr : ∀ u x : BitVec 32, x.toNat < 32 → IntOp.shrui .host u x = u >>> x := fun u x hx => if_pos hx
  have hg : packG (bitcastToInt (φ := .f32) w) (ix3 e v q) = if e.val = 0 then half (bitcastToInt (φ := .f32) w (ix2 v ⟨q.val, by omega⟩)) <<< 16 ||| half (bitcastToInt (φ := .f32) w (ix2 v ⟨128 + q.val, by omega⟩))
      else if q.val < 84 then 0#32 else half (bitcastToInt (φ := .f32) w (ix2 v ⟨172 + q.val, by omega⟩)) <<< 16 := rfl
  refine Eq.trans ?_ hg.symm
  by_cases he : e.val < 1
  · refine (dif_pos he).trans ?_
    rw [if_pos (show e.val = 0 by omega)]
    refine (congrArg₂ IntOp.ori ((hs _ _ (by decide)).trans (congrArg (· <<< (16#32 : BitVec 32)) (hr _ _ (by decide)))) (hr _ _ (by decide))).trans ?_
    rfl
  · refine (dif_neg he).trans ?_
    rw [if_neg (show ¬ e.val = 0 by omega)]
    by_cases h84 : q.val < 84
    · refine (dif_neg (by omega)).trans ?_
      rw [if_pos h84]
      rfl
    · refine (dif_pos ⟨by omega, by omega⟩).trans ?_
      rw [if_neg h84]
      refine ((hs _ _ (by decide)).trans (congrArg (· <<< (16#32 : BitVec 32)) (hr _ _ (by decide)))).trans ?_
      have e : (⟨256 + (q.val - 84), by omega⟩ : Fin 300) = ⟨172 + q.val, by omega⟩ := Fin.ext (by simp only; omega)
      rw [← e]
      rfl

end

/-- The frame of the packing call. -/
theorem frame : @Cert.quiescent_Pack Cert.Pack.Gen.facts := fun m ρ _ => Cert.Pack.Gen.frame m ρ

/-- The frame of its reference. -/
theorem frame_ref : @Cert.quiescent_PackReference Cert.PackReference.Gen.facts := fun m ρ _ =>
  (θ_run Cert.PackReference.defs _ _).mono (fun r h => ⟨fun c => (h c).2, sem_eq_zero_of_no_sems (by decide) r.2⟩) (ref_run (F := Bits) m ρ)

/-- The packing call and its reference leave the same words. -/
theorem bitexact : @Cert.bitexact_Pack_PackReference Cert.Pack.Gen.facts Cert.PackReference.Gen.facts := fun m ρ m' ρ' _ hagree => by
  refine ⟨fun c => packG (bitcastToInt (F := Bits) (φ := .f32) (m ((c.tc : Thread Cert.Pack.nD Cert.Pack.τ).loc Cert.Pack.main_arg0))), ?_, ?_⟩
  · exact (θ_run Cert.Pack.defs _ _).mono (fun _ h c => ⟨(h c).1.trans (pack_final m c), (h c).2⟩) (Cert.Pack.Value.run_blocks (F := Bits) m ρ)
  · exact (θ_run Cert.PackReference.defs _ _).mono
      (fun _ h c => ⟨(h c).1.trans (congrArg (fun w => packG (bitcastToInt (F := Bits) (φ := .f32) w)) (hagree c)), (h c).2⟩) (ref_run (F := Bits) m' ρ')

end Cert.Proof.Pack

end
-- ==== Proof.lean ====
/-
  The certificate: the frames, the idealization and the value of the pooling classifier, and the frames and the words of
  the packing call.
-/
module

public import proofs.«01_k».proof.Defs
public import proofs.«01_k».proof.Proof.Frames
public import proofs.«01_k».proof.Proof.Algebraic
public import proofs.«01_k».proof.Proof.Pack

@[expose] public section

namespace Cert.Proof

/-- All eight claims. -/
theorem claim : Cert.Claim := ⟨Cert.Kernel.Gen.facts, Cert.KernelIdeal.Gen.facts, Cert.ReferenceIdeal.Gen.facts,
  Cert.Pack.Gen.facts, Cert.PackReference.Gen.facts, Cert.Pre_padded.Gen.facts,
  Frames.frame_p, Frames.frame_pi, Frames.frame_ri, Pack.frame, Pack.frame_ref, trivial, Algebraic.value, Pack.bitexact⟩

end Cert.Proof
